-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x100x100 : Shape := ⟨4, ![2, 128, 100, 100]⟩
abbrev S100 : Shape := ⟨1, ![100]⟩
abbrev S_ : Shape := ⟨0, ![]⟩
abbrev S1x1x100 : Shape := ⟨3, ![1, 1, 100]⟩
abbrev S100x1x1 : Shape := ⟨3, ![100, 1, 1]⟩
abbrev S100x1x100 : Shape := ⟨3, ![100, 1, 100]⟩
abbrev S1x100x1 : Shape := ⟨3, ![1, 100, 1]⟩
abbrev S100x100x1 : Shape := ⟨3, ![100, 100, 1]⟩
abbrev S100x100x100 : Shape := ⟨3, ![100, 100, 100]⟩
abbrev S100x10000 : Shape := ⟨2, ![100, 10000]⟩
abbrev S256x10000 : Shape := ⟨2, ![256, 10000]⟩
abbrev S2x10000 : Shape := ⟨2, ![2, 10000]⟩
abbrev S4x10000 : Shape := ⟨2, ![4, 10000]⟩
abbrev S4x10240 : Shape := ⟨2, ![4, 10240]⟩
abbrev S40960 : Shape := ⟨1, ![40960]⟩
abbrev S256x10240 : Shape := ⟨2, ![256, 10240]⟩
abbrev S4x8x4096 : Shape := ⟨3, ![4, 8, 4096]⟩
abbrev S2x32x512 : Shape := ⟨3, ![2, 32, 512]⟩
abbrev S10240 : Shape := ⟨1, ![10240]⟩
abbrev S4096 : Shape := ⟨1, ![4096]⟩
abbrev S2 : Shape := ⟨1, ![2]⟩
abbrev S16 : Shape := ⟨1, ![16]⟩
abbrev S1x32x512 : Shape := ⟨3, ![1, 32, 512]⟩
abbrev S32x512 : Shape := ⟨2, ![32, 512]⟩
abbrev S1 : Shape := ⟨1, ![1]⟩
abbrev S1x1x16 : Shape := ⟨3, ![1, 1, 16]⟩
abbrev S1x1x4096 : Shape := ⟨3, ![1, 1, 4096]⟩
abbrev S4x256x128 : Shape := ⟨3, ![4, 256, 128]⟩
abbrev S4x256x100 : Shape := ⟨3, ![4, 256, 100]⟩
abbrev S96x10000 : Shape := ⟨2, ![96, 10000]⟩
abbrev S96x1x10000 : Shape := ⟨3, ![96, 1, 10000]⟩
abbrev S10000x256 : Shape := ⟨2, ![10000, 256]⟩
abbrev S96x100x256 : Shape := ⟨3, ![96, 100, 256]⟩
abbrev S1x1x10000 : Shape := ⟨3, ![1, 1, 10000]⟩
abbrev S1x100x256 : Shape := ⟨3, ![1, 100, 256]⟩
abbrev S1x10000 : Shape := ⟨2, ![1, 10000]⟩
abbrev S100x256 : Shape := ⟨2, ![100, 256]⟩
abbrev S256x4x100 : Shape := ⟨3, ![256, 4, 100]⟩
abbrev S256x96x100 : Shape := ⟨3, ![256, 96, 100]⟩
abbrev S256x2x100 : Shape := ⟨3, ![256, 2, 100]⟩
abbrev S256x100x100 : Shape := ⟨3, ![256, 100, 100]⟩

abbrev nBuf : Table → Nat
  | .hbm => 73
  | .local .tc .vmem => 5
  | .local .scVector .vmem => 3
  | _ => 0

abbrev bufTy : (tb : Table) → Fin (nBuf tb) → BufTy
  | .hbm, ⟨0, _⟩ => ⟨S2x128x100x100, .f32⟩
  | .hbm, ⟨1, _⟩ => ⟨S100, .f32⟩
  | .hbm, ⟨2, _⟩ => ⟨S_, .f32⟩
  | .hbm, ⟨3, _⟩ => ⟨S100, .f32⟩
  | .hbm, ⟨4, _⟩ => ⟨S100, .f32⟩
  | .hbm, ⟨5, _⟩ => ⟨S100, .f32⟩
  | .hbm, ⟨6, _⟩ => ⟨S_, .f32⟩
  | .hbm, ⟨7, _⟩ => ⟨S100, .f32⟩
  | .hbm, ⟨8, _⟩ => ⟨S100, .f32⟩
  | .hbm, ⟨9, _⟩ => ⟨S100, .f32⟩
  | .hbm, ⟨10, _⟩ => ⟨S_, .f32⟩
  | .hbm, ⟨11, _⟩ => ⟨S100, .f32⟩
  | .hbm, ⟨12, _⟩ => ⟨S100, .f32⟩
  | .hbm, ⟨13, _⟩ => ⟨S100, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S100, .f32⟩
  | .hbm, ⟨18, _⟩ => ⟨S_, .f32⟩
  | .hbm, ⟨19, _⟩ => ⟨S100, .f32⟩
  | .hbm, ⟨20, _⟩ => ⟨S100, .f32⟩
  | .hbm, ⟨21, _⟩ => ⟨S1x1x100, .f32⟩
  | .hbm, ⟨22, _⟩ => ⟨S100x1x1, .f32⟩
  | .hbm, ⟨23, _⟩ => ⟨S100x1x100, .f32⟩
  | .hbm, ⟨24, _⟩ => ⟨S100x1x100, .f32⟩
  | .hbm, ⟨25, _⟩ => ⟨S100x1x100, .f32⟩
  | .hbm, ⟨26, _⟩ => ⟨S1x100x1, .f32⟩
  | .hbm, ⟨27, _⟩ => ⟨S100x1x1, .f32⟩
  | .hbm, ⟨28, _⟩ => ⟨S100x100x1, .f32⟩
  | .hbm, ⟨29, _⟩ => ⟨S100x100x1, .f32⟩
  | .hbm, ⟨30, _⟩ => ⟨S100x100x1, .f32⟩
  | .hbm, ⟨31, _⟩ => ⟨S100x100x100, .f32⟩
  | .hbm, ⟨32, _⟩ => ⟨S100x100x100, .f32⟩
  | .hbm, ⟨33, _⟩ => ⟨S100x100x100, .f32⟩
  | .hbm, ⟨34, _⟩ => ⟨S100x100x100, .f32⟩
  | .hbm, ⟨35, _⟩ => ⟨S100x100x100, .i32⟩
  | .hbm, ⟨36, _⟩ => ⟨S_, .i32⟩
  | .hbm, ⟨37, _⟩ => ⟨S100x100x100, .i32⟩
  | .hbm, ⟨38, _⟩ => ⟨S100x100x100, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S100x100x100, .i32⟩
  | .hbm, ⟨43, _⟩ => ⟨S100x100x100, .i32⟩
  | .hbm, ⟨44, _⟩ => ⟨S_, .i32⟩
  | .hbm, ⟨45, _⟩ => ⟨S100x100x100, .i32⟩
  | .hbm, ⟨46, _⟩ => ⟨S100x100x100, .i32⟩
  | .hbm, ⟨47, _⟩ => ⟨S100x10000, .i32⟩
  | .hbm, ⟨48, _⟩ => ⟨S256x10000, .f32⟩
  | .hbm, ⟨49, _⟩ => ⟨S2x10000, .i32⟩
  | .hbm, ⟨50, _⟩ => ⟨S2x10000, .i32⟩
  | .hbm, ⟨51, _⟩ => ⟨S4x10000, .i32⟩
  | .hbm, ⟨52, _⟩ => ⟨S_, .i32⟩
  | .hbm, ⟨53, _⟩ => ⟨S_, .i32⟩
  | .hbm, ⟨54, _⟩ => ⟨S4x10240, .i32⟩
  | .hbm, ⟨55, _⟩ => ⟨S40960, .i32⟩
  | .hbm, ⟨56, _⟩ => ⟨S_, .i32⟩
  | .hbm, ⟨57, _⟩ => ⟨S_, .f32⟩
  | .hbm, ⟨58, _⟩ => ⟨S256x10240, .f32⟩
  | .hbm, ⟨59, _⟩ => ⟨S4x8x4096, .f32⟩
  | .hbm, ⟨60, _⟩ => ⟨S4x256x128, .f32⟩
  | .hbm, ⟨61, _⟩ => ⟨S4x256x100, .f32⟩
  | .hbm, ⟨62, _⟩ => ⟨S96x10000, .i32⟩
  | .hbm, ⟨63, _⟩ => ⟨S96x1x10000, .i32⟩
  | .hbm, ⟨64, _⟩ => ⟨S10000x256, .f32⟩
  | .hbm, ⟨65, _⟩ => ⟨S10000x256, .bf16⟩
  | .hbm, ⟨66, _⟩ => ⟨S96x100x256, .f32⟩
  | .hbm, ⟨67, _⟩ => ⟨S256x4x100, .f32⟩
  | .hbm, ⟨68, _⟩ => ⟨S256x96x100, .f32⟩
  | .hbm, ⟨69, _⟩ => ⟨S256x2x100, .f32⟩
  | .hbm, ⟨70, _⟩ => ⟨S256x2x100, .f32⟩
  | .hbm, ⟨71, _⟩ => ⟨S256x100x100, .f32⟩
  | .hbm, ⟨72, _⟩ => ⟨S2x128x100x100, .f32⟩
  | .local .tc .vmem, ⟨0, _⟩ => ⟨S1x1x10000, .i32⟩
  | .local .tc .vmem, ⟨1, _⟩ => ⟨S1x1x10000, .i32⟩
  | .local .tc .vmem, ⟨2, _⟩ => ⟨S10000x256, .bf16⟩
  | .local .tc .vmem, ⟨3, _⟩ => ⟨S1x100x256, .f32⟩
  | .local .tc .vmem, ⟨4, _⟩ => ⟨S1x100x256, .f32⟩
  | .local .scVector .vmem, ⟨0, _⟩ => ⟨S2x32x512, .f32⟩
  | .local .scVector .vmem, ⟨1, _⟩ => ⟨S10240, .i32⟩
  | .local .scVector .vmem, ⟨2, _⟩ => ⟨S4096, .f32⟩
  | _, _ => ⟨S2x128x100x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_call2_v0 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_call3_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v40_scv : Ref sig .scVector := ⟨.hbm, 58, rfl⟩
abbrev main_v39_scv : Ref sig .scVector := ⟨.hbm, 55, rfl⟩
abbrev main_v41_scv : Ref sig .scVector := ⟨.hbm, 59, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.muli v1 c1_i32
  let c0_i32_0 : BitVec 32 := 0#32
  let v3 : BitVec 32 := Scalar.addi v2 c0_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c8_i32 : BitVec 32 := 8#32
  let c0_i32_3 : BitVec 32 := 0#32
  let v10 : BitVec 1 := Scalar.cmpi .sgt c8_i32 c0_i32_3
  let v11 : BitVec 32 := Scalar.extui v10
  let c0_i32_4 : BitVec 32 := 0#32
  let v12 : BitVec 1 := Scalar.cmpi .slt c8_i32 c0_i32_4
  let v13 : BitVec 32 := Scalar.extui v12
  let v14 : BitVec 32 := Scalar.subi v11 v13
  let v15 : BitVec 1 := Scalar.cmpi .ne v9 v14
  let v16 : BitVec 32 := Scalar.remsi v3 c8_i32
  let c0_i32_5 : BitVec 32 := 0#32
  let v17 : BitVec 1 := Scalar.cmpi .ne v16 c0_i32_5
  let v18 : BitVec 1 := Scalar.andi v15 v17
  let v4 : BitVec 32 := Scalar.divsi v3 c8_i32
  let c1_i32_6 : BitVec 32 := 1#32
  let v19 : BitVec 32 := Scalar.subi v4 c1_i32_6
  let v20 : BitVec 32 := Scalar.select v18 v19 v4
  let c10240_i32 : BitVec 32 := 10240#32
  let v278 : BitVec 32 := Scalar.muli v20 c10240_i32
  ![v278.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_7 : BitVec 32 := 1#32
  let v281 : BitVec 32 := Scalar.muli v1 c1_i32_7
  let c0_i32_0 : BitVec 32 := 0#32
  let v282 : BitVec 32 := Scalar.addi v281 c0_i32_0
  let c8_i32_8 : BitVec 32 := 8#32
  let c0_i32_9 : BitVec 32 := 0#32
  let v283 : BitVec 1 := Scalar.cmpi .eq c8_i32_8 c0_i32_9
  let c1_i32_10 : BitVec 32 := 1#32
  let v284 : BitVec 32 := Scalar.select v283 c1_i32_10 c8_i32_8
  let v285 : BitVec 32 := Scalar.remsi v282 v284
  let c0_i32_12 : BitVec 32 := 0#32
  let v287 : BitVec 1 := Scalar.cmpi .slt v285 c0_i32_12
  let c0_i32_13 : BitVec 32 := 0#32
  let v288 : BitVec 1 := Scalar.cmpi .slt v284 c0_i32_13
  let v289 : BitVec 1 := Scalar.xori v287 v288
  let c0_i32_11 : BitVec 32 := 0#32
  let v286 : BitVec 1 := Scalar.cmpi .ne v285 c0_i32_11
  let v290 : BitVec 1 := Scalar.andi v289 v286
  let v291 : BitVec 32 := Scalar.addi v285 v284
  let v292 : BitVec 32 := Scalar.select v290 v291 v285
  let c32_i32 : BitVec 32 := 32#32
  let v293 : BitVec 32 := Scalar.muli v292 c32_i32
  let c0_i32_18 : BitVec 32 := 0#32
  ![v293.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_22 : BitVec 32 := 1#32
  let v302 : BitVec 32 := Scalar.muli v1 c1_i32_22
  let c0_i32_0 : BitVec 32 := 0#32
  let v303 : BitVec 32 := Scalar.addi v302 c0_i32_0
  let c8_i32_23 : BitVec 32 := 8#32
  let c0_i32_24 : BitVec 32 := 0#32
  let v304 : BitVec 1 := Scalar.cmpi .eq c8_i32_23 c0_i32_24
  let c1_i32_25 : BitVec 32 := 1#32
  let v305 : BitVec 32 := Scalar.select v304 c1_i32_25 c8_i32_23
  let v306 : BitVec 32 := Scalar.remsi v303 v305
  let c0_i32_27 : BitVec 32 := 0#32
  let v308 : BitVec 1 := Scalar.cmpi .slt v306 c0_i32_27
  let c0_i32_28 : BitVec 32 := 0#32
  let v309 : BitVec 1 := Scalar.cmpi .slt v305 c0_i32_28
  let v310 : BitVec 1 := Scalar.xori v308 v309
  let c0_i32_26 : BitVec 32 := 0#32
  let v307 : BitVec 1 := Scalar.cmpi .ne v306 c0_i32_26
  let v311 : BitVec 1 := Scalar.andi v310 v307
  let v312 : BitVec 32 := Scalar.addi v306 v305
  let v313 : BitVec 32 := Scalar.select v311 v312 v306
  let c32_i32_29 : BitVec 32 := 32#32
  let v314 : BitVec 32 := Scalar.muli v313 c32_i32_29
  let c512_i32 : BitVec 32 := 512#32
  ![v314.toNat, 512]
@[reducible] def k0_t1_loop : Scf.Loop 32 :=
  let c0_i32_39 : BitVec 32 := 0#32
  let c10_i32 : BitVec 32 := 10#32
  let v326 : BitVec 32 := Scalar.addi c0_i32_39 c10_i32
  let c1_i32_40 : BitVec 32 := 1#32
  ⟨c0_i32_39, v326, c1_i32_40⟩
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_51 : BitVec 32 := 1#32
  let v339 : BitVec 32 := Scalar.muli v1 c1_i32_51
  let c0_i32_0 : BitVec 32 := 0#32
  let v340 : BitVec 32 := Scalar.addi v339 c0_i32_0
  let c8_i32_52 : BitVec 32 := 8#32
  let c0_i32_53 : BitVec 32 := 0#32
  let v341 : BitVec 1 := Scalar.cmpi .eq c8_i32_52 c0_i32_53
  let c1_i32_54 : BitVec 32 := 1#32
  let v342 : BitVec 32 := Scalar.select v341 c1_i32_54 c8_i32_52
  let v343 : BitVec 32 := Scalar.remsi v340 v342
  let c0_i32_56 : BitVec 32 := 0#32
  let v345 : BitVec 1 := Scalar.cmpi .slt v343 c0_i32_56
  let c0_i32_57 : BitVec 32 := 0#32
  let v346 : BitVec 1 := Scalar.cmpi .slt v342 c0_i32_57
  let v347 : BitVec 1 := Scalar.xori v345 v346
  let c0_i32_55 : BitVec 32 := 0#32
  let v344 : BitVec 1 := Scalar.cmpi .ne v343 c0_i32_55
  let v348 : BitVec 1 := Scalar.andi v347 v344
  let v349 : BitVec 32 := Scalar.addi v343 v342
  let v350 : BitVec 32 := Scalar.select v348 v349 v343
  let c32_i32_58 : BitVec 32 := 32#32
  let v351 : BitVec 32 := Scalar.muli v350 c32_i32_58
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_50 : BitVec 32 := 0#32
  let v338 : BitVec 32 := Scalar.addi v337 c0_i32_50
  let c512_i32_59 : BitVec 32 := 512#32
  let v352 : BitVec 32 := Scalar.muli v338 c512_i32_59
  ![v351.toNat, v352.toNat]
def k0_off5 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_67 : BitVec 32 := 512#32
  let v362 : BitVec 32 := Scalar.muli v361 c512_i32_67
  let c0_i32_68 : BitVec 32 := 0#32
  let v363 : BitVec 32 := Scalar.addi v362 c0_i32_68
  let v364 : Index := Scalar.indexCast v363
  ![v364.toNat]

def k0_chk1 (v365 : IVec S16 32) : Prop :=
  (∀ a x, ((![v365] : Fin 1 → IVec S16 32) a x).toNat < S4096.size a)
theorem k0_idx1_inb : ∀ (v365 : IVec S16 32) (k0_hw1 : k0_chk1 v365), ∀ a x, ((![v365] : Fin 1 → IVec S16 32) a x).toNat < S4096.size a := fun v365 k0_hw1 => k0_hw1

def k0_chk2 (v382 : IVec S16 32) : Prop :=
  (∀ a x, ((![v382] : Fin 1 → IVec S16 32) a x).toNat < S4096.size a)
theorem k0_idx2_inb : ∀ (v382 : IVec S16 32) (k0_hw2 : k0_chk2 v382), ∀ a x, ((![v382] : Fin 1 → IVec S16 32) a x).toNat < S4096.size a := fun v382 k0_hw2 => k0_hw2

def k0_chk3 (v387 : IVec S16 32) : Prop :=
  (∀ a x, ((![v387] : Fin 1 → IVec S16 32) a x).toNat < S4096.size a)
theorem k0_idx3_inb : ∀ (v387 : IVec S16 32) (k0_hw3 : k0_chk3 v387), ∀ a x, ((![v387] : Fin 1 → IVec S16 32) a x).toNat < S4096.size a := fun v387 k0_hw3 => k0_hw3

def k0_chk4 (v392 : IVec S16 32) : Prop :=
  (∀ a x, ((![v392] : Fin 1 → IVec S16 32) a x).toNat < S4096.size a)
theorem k0_idx4_inb : ∀ (v392 : IVec S16 32) (k0_hw4 : k0_chk4 v392), ∀ a x, ((![v392] : Fin 1 → IVec S16 32) a x).toNat < S4096.size a := fun v392 k0_hw4 => k0_hw4

def k0_chk5 (v397 : IVec S16 32) : Prop :=
  (∀ a x, ((![v397] : Fin 1 → IVec S16 32) a x).toNat < S4096.size a)
theorem k0_idx5_inb : ∀ (v397 : IVec S16 32) (k0_hw5 : k0_chk5 v397), ∀ a x, ((![v397] : Fin 1 → IVec S16 32) a x).toNat < S4096.size a := fun v397 k0_hw5 => k0_hw5

def k0_chk6 (v402 : IVec S16 32) : Prop :=
  (∀ a x, ((![v402] : Fin 1 → IVec S16 32) a x).toNat < S4096.size a)
theorem k0_idx6_inb : ∀ (v402 : IVec S16 32) (k0_hw6 : k0_chk6 v402), ∀ a x, ((![v402] : Fin 1 → IVec S16 32) a x).toNat < S4096.size a := fun v402 k0_hw6 => k0_hw6

def k0_chk7 (v407 : IVec S16 32) : Prop :=
  (∀ a x, ((![v407] : Fin 1 → IVec S16 32) a x).toNat < S4096.size a)
theorem k0_idx7_inb : ∀ (v407 : IVec S16 32) (k0_hw7 : k0_chk7 v407), ∀ a x, ((![v407] : Fin 1 → IVec S16 32) a x).toNat < S4096.size a := fun v407 k0_hw7 => k0_hw7

def k0_chk8 (v412 : IVec S16 32) : Prop :=
  (∀ a x, ((![v412] : Fin 1 → IVec S16 32) a x).toNat < S4096.size a)
theorem k0_idx8_inb : ∀ (v412 : IVec S16 32) (k0_hw8 : k0_chk8 v412), ∀ a x, ((![v412] : Fin 1 → IVec S16 32) a x).toNat < S4096.size a := fun v412 k0_hw8 => k0_hw8

def k0_chk9 (v417 : IVec S16 32) : Prop :=
  (∀ a x, ((![v417] : Fin 1 → IVec S16 32) a x).toNat < S4096.size a)
theorem k0_idx9_inb : ∀ (v417 : IVec S16 32) (k0_hw9 : k0_chk9 v417), ∀ a x, ((![v417] : Fin 1 → IVec S16 32) a x).toNat < S4096.size a := fun v417 k0_hw9 => k0_hw9

def k0_chk10 (v422 : IVec S16 32) : Prop :=
  (∀ a x, ((![v422] : Fin 1 → IVec S16 32) a x).toNat < S4096.size a)
theorem k0_idx10_inb : ∀ (v422 : IVec S16 32) (k0_hw10 : k0_chk10 v422), ∀ a x, ((![v422] : Fin 1 → IVec S16 32) a x).toNat < S4096.size a := fun v422 k0_hw10 => k0_hw10

def k0_chk11 (v427 : IVec S16 32) : Prop :=
  (∀ a x, ((![v427] : Fin 1 → IVec S16 32) a x).toNat < S4096.size a)
theorem k0_idx11_inb : ∀ (v427 : IVec S16 32) (k0_hw11 : k0_chk11 v427), ∀ a x, ((![v427] : Fin 1 → IVec S16 32) a x).toNat < S4096.size a := fun v427 k0_hw11 => k0_hw11

def k0_chk12 (v432 : IVec S16 32) : Prop :=
  (∀ a x, ((![v432] : Fin 1 → IVec S16 32) a x).toNat < S4096.size a)
theorem k0_idx12_inb : ∀ (v432 : IVec S16 32) (k0_hw12 : k0_chk12 v432), ∀ a x, ((![v432] : Fin 1 → IVec S16 32) a x).toNat < S4096.size a := fun v432 k0_hw12 => k0_hw12

def k0_chk13 (v437 : IVec S16 32) : Prop :=
  (∀ a x, ((![v437] : Fin 1 → IVec S16 32) a x).toNat < S4096.size a)
theorem k0_idx13_inb : ∀ (v437 : IVec S16 32) (k0_hw13 : k0_chk13 v437), ∀ a x, ((![v437] : Fin 1 → IVec S16 32) a x).toNat < S4096.size a := fun v437 k0_hw13 => k0_hw13

def k0_chk14 (v442 : IVec S16 32) : Prop :=
  (∀ a x, ((![v442] : Fin 1 → IVec S16 32) a x).toNat < S4096.size a)
theorem k0_idx14_inb : ∀ (v442 : IVec S16 32) (k0_hw14 : k0_chk14 v442), ∀ a x, ((![v442] : Fin 1 → IVec S16 32) a x).toNat < S4096.size a := fun v442 k0_hw14 => k0_hw14

def k0_chk15 (v447 : IVec S16 32) : Prop :=
  (∀ a x, ((![v447] : Fin 1 → IVec S16 32) a x).toNat < S4096.size a)
theorem k0_idx15_inb : ∀ (v447 : IVec S16 32) (k0_hw15 : k0_chk15 v447), ∀ a x, ((![v447] : Fin 1 → IVec S16 32) a x).toNat < S4096.size a := fun v447 k0_hw15 => k0_hw15

def k0_chk16 (v452 : IVec S16 32) : Prop :=
  (∀ a x, ((![v452] : Fin 1 → IVec S16 32) a x).toNat < S4096.size a)
theorem k0_idx16_inb : ∀ (v452 : IVec S16 32) (k0_hw16 : k0_chk16 v452), ∀ a x, ((![v452] : Fin 1 → IVec S16 32) a x).toNat < S4096.size a := fun v452 k0_hw16 => k0_hw16

def k0_chk17 (v457 : IVec S16 32) : Prop :=
  (∀ a x, ((![v457] : Fin 1 → IVec S16 32) a x).toNat < S4096.size a)
theorem k0_idx17_inb : ∀ (v457 : IVec S16 32) (k0_hw17 : k0_chk17 v457), ∀ a x, ((![v457] : Fin 1 → IVec S16 32) a x).toNat < S4096.size a := fun v457 k0_hw17 => k0_hw17

def k0_chk18 (v462 : IVec S16 32) : Prop :=
  (∀ a x, ((![v462] : Fin 1 → IVec S16 32) a x).toNat < S4096.size a)
theorem k0_idx18_inb : ∀ (v462 : IVec S16 32) (k0_hw18 : k0_chk18 v462), ∀ a x, ((![v462] : Fin 1 → IVec S16 32) a x).toNat < S4096.size a := fun v462 k0_hw18 => k0_hw18

def k0_chk19 (v467 : IVec S16 32) : Prop :=
  (∀ a x, ((![v467] : Fin 1 → IVec S16 32) a x).toNat < S4096.size a)
theorem k0_idx19_inb : ∀ (v467 : IVec S16 32) (k0_hw19 : k0_chk19 v467), ∀ a x, ((![v467] : Fin 1 → IVec S16 32) a x).toNat < S4096.size a := fun v467 k0_hw19 => k0_hw19

def k0_chk20 (v472 : IVec S16 32) : Prop :=
  (∀ a x, ((![v472] : Fin 1 → IVec S16 32) a x).toNat < S4096.size a)
theorem k0_idx20_inb : ∀ (v472 : IVec S16 32) (k0_hw20 : k0_chk20 v472), ∀ a x, ((![v472] : Fin 1 → IVec S16 32) a x).toNat < S4096.size a := fun v472 k0_hw20 => k0_hw20

def k0_chk21 (v477 : IVec S16 32) : Prop :=
  (∀ a x, ((![v477] : Fin 1 → IVec S16 32) a x).toNat < S4096.size a)
theorem k0_idx21_inb : ∀ (v477 : IVec S16 32) (k0_hw21 : k0_chk21 v477), ∀ a x, ((![v477] : Fin 1 → IVec S16 32) a x).toNat < S4096.size a := fun v477 k0_hw21 => k0_hw21

def k0_chk22 (v482 : IVec S16 32) : Prop :=
  (∀ a x, ((![v482] : Fin 1 → IVec S16 32) a x).toNat < S4096.size a)
theorem k0_idx22_inb : ∀ (v482 : IVec S16 32) (k0_hw22 : k0_chk22 v482), ∀ a x, ((![v482] : Fin 1 → IVec S16 32) a x).toNat < S4096.size a := fun v482 k0_hw22 => k0_hw22

def k0_chk23 (v487 : IVec S16 32) : Prop :=
  (∀ a x, ((![v487] : Fin 1 → IVec S16 32) a x).toNat < S4096.size a)
theorem k0_idx23_inb : ∀ (v487 : IVec S16 32) (k0_hw23 : k0_chk23 v487), ∀ a x, ((![v487] : Fin 1 → IVec S16 32) a x).toNat < S4096.size a := fun v487 k0_hw23 => k0_hw23

def k0_chk24 (v492 : IVec S16 32) : Prop :=
  (∀ a x, ((![v492] : Fin 1 → IVec S16 32) a x).toNat < S4096.size a)
theorem k0_idx24_inb : ∀ (v492 : IVec S16 32) (k0_hw24 : k0_chk24 v492), ∀ a x, ((![v492] : Fin 1 → IVec S16 32) a x).toNat < S4096.size a := fun v492 k0_hw24 => k0_hw24

def k0_chk25 (v497 : IVec S16 32) : Prop :=
  (∀ a x, ((![v497] : Fin 1 → IVec S16 32) a x).toNat < S4096.size a)
theorem k0_idx25_inb : ∀ (v497 : IVec S16 32) (k0_hw25 : k0_chk25 v497), ∀ a x, ((![v497] : Fin 1 → IVec S16 32) a x).toNat < S4096.size a := fun v497 k0_hw25 => k0_hw25

def k0_chk26 (v502 : IVec S16 32) : Prop :=
  (∀ a x, ((![v502] : Fin 1 → IVec S16 32) a x).toNat < S4096.size a)
theorem k0_idx26_inb : ∀ (v502 : IVec S16 32) (k0_hw26 : k0_chk26 v502), ∀ a x, ((![v502] : Fin 1 → IVec S16 32) a x).toNat < S4096.size a := fun v502 k0_hw26 => k0_hw26

def k0_chk27 (v507 : IVec S16 32) : Prop :=
  (∀ a x, ((![v507] : Fin 1 → IVec S16 32) a x).toNat < S4096.size a)
theorem k0_idx27_inb : ∀ (v507 : IVec S16 32) (k0_hw27 : k0_chk27 v507), ∀ a x, ((![v507] : Fin 1 → IVec S16 32) a x).toNat < S4096.size a := fun v507 k0_hw27 => k0_hw27

def k0_chk28 (v512 : IVec S16 32) : Prop :=
  (∀ a x, ((![v512] : Fin 1 → IVec S16 32) a x).toNat < S4096.size a)
theorem k0_idx28_inb : ∀ (v512 : IVec S16 32) (k0_hw28 : k0_chk28 v512), ∀ a x, ((![v512] : Fin 1 → IVec S16 32) a x).toNat < S4096.size a := fun v512 k0_hw28 => k0_hw28

def k0_chk29 (v517 : IVec S16 32) : Prop :=
  (∀ a x, ((![v517] : Fin 1 → IVec S16 32) a x).toNat < S4096.size a)
theorem k0_idx29_inb : ∀ (v517 : IVec S16 32) (k0_hw29 : k0_chk29 v517), ∀ a x, ((![v517] : Fin 1 → IVec S16 32) a x).toNat < S4096.size a := fun v517 k0_hw29 => k0_hw29

def k0_chk30 (v519 : IVec S16 32) : Prop :=
  (∀ a x, ((![v519] : Fin 1 → IVec S16 32) a x).toNat < S4096.size a)
theorem k0_idx30_inb : ∀ (v519 : IVec S16 32) (k0_hw30 : k0_chk30 v519), ∀ a x, ((![v519] : Fin 1 → IVec S16 32) a x).toNat < S4096.size a := fun v519 k0_hw30 => k0_hw30

def k0_chk31 (v521 : IVec S16 32) : Prop :=
  (∀ a x, ((![v521] : Fin 1 → IVec S16 32) a x).toNat < S4096.size a)
theorem k0_idx31_inb : ∀ (v521 : IVec S16 32) (k0_hw31 : k0_chk31 v521), ∀ a x, ((![v521] : Fin 1 → IVec S16 32) a x).toNat < S4096.size a := fun v521 k0_hw31 => k0_hw31

def k0_chk32 (v523 : IVec S16 32) : Prop :=
  (∀ a x, ((![v523] : Fin 1 → IVec S16 32) a x).toNat < S4096.size a)
theorem k0_idx32_inb : ∀ (v523 : IVec S16 32) (k0_hw32 : k0_chk32 v523), ∀ a x, ((![v523] : Fin 1 → IVec S16 32) a x).toNat < S4096.size a := fun v523 k0_hw32 => k0_hw32
def k0_off6 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_139 : BitVec 32 := 512#32
  let v524 : BitVec 32 := Scalar.muli v361 c512_i32_139
  let c16_i32_140 : BitVec 32 := 16#32
  let v525 : BitVec 32 := Scalar.addi v524 c16_i32_140
  let v526 : Index := Scalar.indexCast v525
  ![v526.toNat]

def k0_chk33 (v527 : IVec S16 32) : Prop :=
  (∀ a x, ((![v527] : Fin 1 → IVec S16 32) a x).toNat < S4096.size a)
theorem k0_idx33_inb : ∀ (v527 : IVec S16 32) (k0_hw33 : k0_chk33 v527), ∀ a x, ((![v527] : Fin 1 → IVec S16 32) a x).toNat < S4096.size a := fun v527 k0_hw33 => k0_hw33

def k0_chk34 (v544 : IVec S16 32) : Prop :=
  (∀ a x, ((![v544] : Fin 1 → IVec S16 32) a x).toNat < S4096.size a)
theorem k0_idx34_inb : ∀ (v544 : IVec S16 32) (k0_hw34 : k0_chk34 v544), ∀ a x, ((![v544] : Fin 1 → IVec S16 32) a x).toNat < S4096.size a := fun v544 k0_hw34 => k0_hw34

def k0_chk35 (v549 : IVec S16 32) : Prop :=
  (∀ a x, ((![v549] : Fin 1 → IVec S16 32) a x).toNat < S4096.size a)
theorem k0_idx35_inb : ∀ (v549 : IVec S16 32) (k0_hw35 : k0_chk35 v549), ∀ a x, ((![v549] : Fin 1 → IVec S16 32) a x).toNat < S4096.size a := fun v549 k0_hw35 => k0_hw35

def k0_chk36 (v554 : IVec S16 32) : Prop :=
  (∀ a x, ((![v554] : Fin 1 → IVec S16 32) a x).toNat < S4096.size a)
theorem k0_idx36_inb : ∀ (v554 : IVec S16 32) (k0_hw36 : k0_chk36 v554), ∀ a x, ((![v554] : Fin 1 → IVec S16 32) a x).toNat < S4096.size a := fun v554 k0_hw36 => k0_hw36

def k0_chk37 (v559 : IVec S16 32) : Prop :=
  (∀ a x, ((![v559] : Fin 1 → IVec S16 32) a x).toNat < S4096.size a)
theorem k0_idx37_inb : ∀ (v559 : IVec S16 32) (k0_hw37 : k0_chk37 v559), ∀ a x, ((![v559] : Fin 1 → IVec S16 32) a x).toNat < S4096.size a := fun v559 k0_hw37 => k0_hw37

def k0_chk38 (v564 : IVec S16 32) : Prop :=
  (∀ a x, ((![v564] : Fin 1 → IVec S16 32) a x).toNat < S4096.size a)
theorem k0_idx38_inb : ∀ (v564 : IVec S16 32) (k0_hw38 : k0_chk38 v564), ∀ a x, ((![v564] : Fin 1 → IVec S16 32) a x).toNat < S4096.size a := fun v564 k0_hw38 => k0_hw38

def k0_chk39 (v569 : IVec S16 32) : Prop :=
  (∀ a x, ((![v569] : Fin 1 → IVec S16 32) a x).toNat < S4096.size a)
theorem k0_idx39_inb : ∀ (v569 : IVec S16 32) (k0_hw39 : k0_chk39 v569), ∀ a x, ((![v569] : Fin 1 → IVec S16 32) a x).toNat < S4096.size a := fun v569 k0_hw39 => k0_hw39

def k0_chk40 (v574 : IVec S16 32) : Prop :=
  (∀ a x, ((![v574] : Fin 1 → IVec S16 32) a x).toNat < S4096.size a)
theorem k0_idx40_inb : ∀ (v574 : IVec S16 32) (k0_hw40 : k0_chk40 v574), ∀ a x, ((![v574] : Fin 1 → IVec S16 32) a x).toNat < S4096.size a := fun v574 k0_hw40 => k0_hw40

def k0_chk41 (v579 : IVec S16 32) : Prop :=
  (∀ a x, ((![v579] : Fin 1 → IVec S16 32) a x).toNat < S4096.size a)
theorem k0_idx41_inb : ∀ (v579 : IVec S16 32) (k0_hw41 : k0_chk41 v579), ∀ a x, ((![v579] : Fin 1 → IVec S16 32) a x).toNat < S4096.size a := fun v579 k0_hw41 => k0_hw41

def k0_chk42 (v584 : IVec S16 32) : Prop :=
  (∀ a x, ((![v584] : Fin 1 → IVec S16 32) a x).toNat < S4096.size a)
theorem k0_idx42_inb : ∀ (v584 : IVec S16 32) (k0_hw42 : k0_chk42 v584), ∀ a x, ((![v584] : Fin 1 → IVec S16 32) a x).toNat < S4096.size a := fun v584 k0_hw42 => k0_hw42

def k0_chk43 (v589 : IVec S16 32) : Prop :=
  (∀ a x, ((![v589] : Fin 1 → IVec S16 32) a x).toNat < S4096.size a)
theorem k0_idx43_inb : ∀ (v589 : IVec S16 32) (k0_hw43 : k0_chk43 v589), ∀ a x, ((![v589] : Fin 1 → IVec S16 32) a x).toNat < S4096.size a := fun v589 k0_hw43 => k0_hw43

def k0_chk44 (v594 : IVec S16 32) : Prop :=
  (∀ a x, ((![v594] : Fin 1 → IVec S16 32) a x).toNat < S4096.size a)
theorem k0_idx44_inb : ∀ (v594 : IVec S16 32) (k0_hw44 : k0_chk44 v594), ∀ a x, ((![v594] : Fin 1 → IVec S16 32) a x).toNat < S4096.size a := fun v594 k0_hw44 => k0_hw44

def k0_chk45 (v599 : IVec S16 32) : Prop :=
  (∀ a x, ((![v599] : Fin 1 → IVec S16 32) a x).toNat < S4096.size a)
theorem k0_idx45_inb : ∀ (v599 : IVec S16 32) (k0_hw45 : k0_chk45 v599), ∀ a x, ((![v599] : Fin 1 → IVec S16 32) a x).toNat < S4096.size a := fun v599 k0_hw45 => k0_hw45

def k0_chk46 (v604 : IVec S16 32) : Prop :=
  (∀ a x, ((![v604] : Fin 1 → IVec S16 32) a x).toNat < S4096.size a)
theorem k0_idx46_inb : ∀ (v604 : IVec S16 32) (k0_hw46 : k0_chk46 v604), ∀ a x, ((![v604] : Fin 1 → IVec S16 32) a x).toNat < S4096.size a := fun v604 k0_hw46 => k0_hw46

def k0_chk47 (v609 : IVec S16 32) : Prop :=
  (∀ a x, ((![v609] : Fin 1 → IVec S16 32) a x).toNat < S4096.size a)
theorem k0_idx47_inb : ∀ (v609 : IVec S16 32) (k0_hw47 : k0_chk47 v609), ∀ a x, ((![v609] : Fin 1 → IVec S16 32) a x).toNat < S4096.size a := fun v609 k0_hw47 => k0_hw47

def k0_chk48 (v614 : IVec S16 32) : Prop :=
  (∀ a x, ((![v614] : Fin 1 → IVec S16 32) a x).toNat < S4096.size a)
theorem k0_idx48_inb : ∀ (v614 : IVec S16 32) (k0_hw48 : k0_chk48 v614), ∀ a x, ((![v614] : Fin 1 → IVec S16 32) a x).toNat < S4096.size a := fun v614 k0_hw48 => k0_hw48

def k0_chk49 (v619 : IVec S16 32) : Prop :=
  (∀ a x, ((![v619] : Fin 1 → IVec S16 32) a x).toNat < S4096.size a)
theorem k0_idx49_inb : ∀ (v619 : IVec S16 32) (k0_hw49 : k0_chk49 v619), ∀ a x, ((![v619] : Fin 1 → IVec S16 32) a x).toNat < S4096.size a := fun v619 k0_hw49 => k0_hw49

def k0_chk50 (v624 : IVec S16 32) : Prop :=
  (∀ a x, ((![v624] : Fin 1 → IVec S16 32) a x).toNat < S4096.size a)
theorem k0_idx50_inb : ∀ (v624 : IVec S16 32) (k0_hw50 : k0_chk50 v624), ∀ a x, ((![v624] : Fin 1 → IVec S16 32) a x).toNat < S4096.size a := fun v624 k0_hw50 => k0_hw50

def k0_chk51 (v629 : IVec S16 32) : Prop :=
  (∀ a x, ((![v629] : Fin 1 → IVec S16 32) a x).toNat < S4096.size a)
theorem k0_idx51_inb : ∀ (v629 : IVec S16 32) (k0_hw51 : k0_chk51 v629), ∀ a x, ((![v629] : Fin 1 → IVec S16 32) a x).toNat < S4096.size a := fun v629 k0_hw51 => k0_hw51

def k0_chk52 (v634 : IVec S16 32) : Prop :=
  (∀ a x, ((![v634] : Fin 1 → IVec S16 32) a x).toNat < S4096.size a)
theorem k0_idx52_inb : ∀ (v634 : IVec S16 32) (k0_hw52 : k0_chk52 v634), ∀ a x, ((![v634] : Fin 1 → IVec S16 32) a x).toNat < S4096.size a := fun v634 k0_hw52 => k0_hw52

def k0_chk53 (v639 : IVec S16 32) : Prop :=
  (∀ a x, ((![v639] : Fin 1 → IVec S16 32) a x).toNat < S4096.size a)
theorem k0_idx53_inb : ∀ (v639 : IVec S16 32) (k0_hw53 : k0_chk53 v639), ∀ a x, ((![v639] : Fin 1 → IVec S16 32) a x).toNat < S4096.size a := fun v639 k0_hw53 => k0_hw53

def k0_chk54 (v644 : IVec S16 32) : Prop :=
  (∀ a x, ((![v644] : Fin 1 → IVec S16 32) a x).toNat < S4096.size a)
theorem k0_idx54_inb : ∀ (v644 : IVec S16 32) (k0_hw54 : k0_chk54 v644), ∀ a x, ((![v644] : Fin 1 → IVec S16 32) a x).toNat < S4096.size a := fun v644 k0_hw54 => k0_hw54

def k0_chk55 (v649 : IVec S16 32) : Prop :=
  (∀ a x, ((![v649] : Fin 1 → IVec S16 32) a x).toNat < S4096.size a)
theorem k0_idx55_inb : ∀ (v649 : IVec S16 32) (k0_hw55 : k0_chk55 v649), ∀ a x, ((![v649] : Fin 1 → IVec S16 32) a x).toNat < S4096.size a := fun v649 k0_hw55 => k0_hw55

def k0_chk56 (v654 : IVec S16 32) : Prop :=
  (∀ a x, ((![v654] : Fin 1 → IVec S16 32) a x).toNat < S4096.size a)
theorem k0_idx56_inb : ∀ (v654 : IVec S16 32) (k0_hw56 : k0_chk56 v654), ∀ a x, ((![v654] : Fin 1 → IVec S16 32) a x).toNat < S4096.size a := fun v654 k0_hw56 => k0_hw56

def k0_chk57 (v659 : IVec S16 32) : Prop :=
  (∀ a x, ((![v659] : Fin 1 → IVec S16 32) a x).toNat < S4096.size a)
theorem k0_idx57_inb : ∀ (v659 : IVec S16 32) (k0_hw57 : k0_chk57 v659), ∀ a x, ((![v659] : Fin 1 → IVec S16 32) a x).toNat < S4096.size a := fun v659 k0_hw57 => k0_hw57

def k0_chk58 (v664 : IVec S16 32) : Prop :=
  (∀ a x, ((![v664] : Fin 1 → IVec S16 32) a x).toNat < S4096.size a)
theorem k0_idx58_inb : ∀ (v664 : IVec S16 32) (k0_hw58 : k0_chk58 v664), ∀ a x, ((![v664] : Fin 1 → IVec S16 32) a x).toNat < S4096.size a := fun v664 k0_hw58 => k0_hw58

def k0_chk59 (v669 : IVec S16 32) : Prop :=
  (∀ a x, ((![v669] : Fin 1 → IVec S16 32) a x).toNat < S4096.size a)
theorem k0_idx59_inb : ∀ (v669 : IVec S16 32) (k0_hw59 : k0_chk59 v669), ∀ a x, ((![v669] : Fin 1 → IVec S16 32) a x).toNat < S4096.size a := fun v669 k0_hw59 => k0_hw59

def k0_chk60 (v674 : IVec S16 32) : Prop :=
  (∀ a x, ((![v674] : Fin 1 → IVec S16 32) a x).toNat < S4096.size a)
theorem k0_idx60_inb : ∀ (v674 : IVec S16 32) (k0_hw60 : k0_chk60 v674), ∀ a x, ((![v674] : Fin 1 → IVec S16 32) a x).toNat < S4096.size a := fun v674 k0_hw60 => k0_hw60

def k0_chk61 (v679 : IVec S16 32) : Prop :=
  (∀ a x, ((![v679] : Fin 1 → IVec S16 32) a x).toNat < S4096.size a)
theorem k0_idx61_inb : ∀ (v679 : IVec S16 32) (k0_hw61 : k0_chk61 v679), ∀ a x, ((![v679] : Fin 1 → IVec S16 32) a x).toNat < S4096.size a := fun v679 k0_hw61 => k0_hw61

def k0_chk62 (v681 : IVec S16 32) : Prop :=
  (∀ a x, ((![v681] : Fin 1 → IVec S16 32) a x).toNat < S4096.size a)
theorem k0_idx62_inb : ∀ (v681 : IVec S16 32) (k0_hw62 : k0_chk62 v681), ∀ a x, ((![v681] : Fin 1 → IVec S16 32) a x).toNat < S4096.size a := fun v681 k0_hw62 => k0_hw62

def k0_chk63 (v683 : IVec S16 32) : Prop :=
  (∀ a x, ((![v683] : Fin 1 → IVec S16 32) a x).toNat < S4096.size a)
theorem k0_idx63_inb : ∀ (v683 : IVec S16 32) (k0_hw63 : k0_chk63 v683), ∀ a x, ((![v683] : Fin 1 → IVec S16 32) a x).toNat < S4096.size a := fun v683 k0_hw63 => k0_hw63

def k0_chk64 (v685 : IVec S16 32) : Prop :=
  (∀ a x, ((![v685] : Fin 1 → IVec S16 32) a x).toNat < S4096.size a)
theorem k0_idx64_inb : ∀ (v685 : IVec S16 32) (k0_hw64 : k0_chk64 v685), ∀ a x, ((![v685] : Fin 1 → IVec S16 32) a x).toNat < S4096.size a := fun v685 k0_hw64 => k0_hw64
def k0_off7 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_268 : BitVec 32 := 512#32
  let v686 : BitVec 32 := Scalar.muli v361 c512_i32_268
  let c32_i32_269 : BitVec 32 := 32#32
  let v687 : BitVec 32 := Scalar.addi v686 c32_i32_269
  let v688 : Index := Scalar.indexCast v687
  ![v688.toNat]

def k0_chk65 (v689 : IVec S16 32) : Prop :=
  (∀ a x, ((![v689] : Fin 1 → IVec S16 32) a x).toNat < S4096.size a)
theorem k0_idx65_inb : ∀ (v689 : IVec S16 32) (k0_hw65 : k0_chk65 v689), ∀ a x, ((![v689] : Fin 1 → IVec S16 32) a x).toNat < S4096.size a := fun v689 k0_hw65 => k0_hw65

def k0_chk66 (v706 : IVec S16 32) : Prop :=
  (∀ a x, ((![v706] : Fin 1 → IVec S16 32) a x).toNat < S4096.size a)
theorem k0_idx66_inb : ∀ (v706 : IVec S16 32) (k0_hw66 : k0_chk66 v706), ∀ a x, ((![v706] : Fin 1 → IVec S16 32) a x).toNat < S4096.size a := fun v706 k0_hw66 => k0_hw66

def k0_chk67 (v711 : IVec S16 32) : Prop :=
  (∀ a x, ((![v711] : Fin 1 → IVec S16 32) a x).toNat < S4096.size a)
theorem k0_idx67_inb : ∀ (v711 : IVec S16 32) (k0_hw67 : k0_chk67 v711), ∀ a x, ((![v711] : Fin 1 → IVec S16 32) a x).toNat < S4096.size a := fun v711 k0_hw67 => k0_hw67

def k0_chk68 (v716 : IVec S16 32) : Prop :=
  (∀ a x, ((![v716] : Fin 1 → IVec S16 32) a x).toNat < S4096.size a)
theorem k0_idx68_inb : ∀ (v716 : IVec S16 32) (k0_hw68 : k0_chk68 v716), ∀ a x, ((![v716] : Fin 1 → IVec S16 32) a x).toNat < S4096.size a := fun v716 k0_hw68 => k0_hw68

def k0_chk69 (v721 : IVec S16 32) : Prop :=
  (∀ a x, ((![v721] : Fin 1 → IVec S16 32) a x).toNat < S4096.size a)
theorem k0_idx69_inb : ∀ (v721 : IVec S16 32) (k0_hw69 : k0_chk69 v721), ∀ a x, ((![v721] : Fin 1 → IVec S16 32) a x).toNat < S4096.size a := fun v721 k0_hw69 => k0_hw69

def k0_chk70 (v726 : IVec S16 32) : Prop :=
  (∀ a x, ((![v726] : Fin 1 → IVec S16 32) a x).toNat < S4096.size a)
theorem k0_idx70_inb : ∀ (v726 : IVec S16 32) (k0_hw70 : k0_chk70 v726), ∀ a x, ((![v726] : Fin 1 → IVec S16 32) a x).toNat < S4096.size a := fun v726 k0_hw70 => k0_hw70

def k0_chk71 (v731 : IVec S16 32) : Prop :=
  (∀ a x, ((![v731] : Fin 1 → IVec S16 32) a x).toNat < S4096.size a)
theorem k0_idx71_inb : ∀ (v731 : IVec S16 32) (k0_hw71 : k0_chk71 v731), ∀ a x, ((![v731] : Fin 1 → IVec S16 32) a x).toNat < S4096.size a := fun v731 k0_hw71 => k0_hw71

def k0_chk72 (v736 : IVec S16 32) : Prop :=
  (∀ a x, ((![v736] : Fin 1 → IVec S16 32) a x).toNat < S4096.size a)
theorem k0_idx72_inb : ∀ (v736 : IVec S16 32) (k0_hw72 : k0_chk72 v736), ∀ a x, ((![v736] : Fin 1 → IVec S16 32) a x).toNat < S4096.size a := fun v736 k0_hw72 => k0_hw72

def k0_chk73 (v741 : IVec S16 32) : Prop :=
  (∀ a x, ((![v741] : Fin 1 → IVec S16 32) a x).toNat < S4096.size a)
theorem k0_idx73_inb : ∀ (v741 : IVec S16 32) (k0_hw73 : k0_chk73 v741), ∀ a x, ((![v741] : Fin 1 → IVec S16 32) a x).toNat < S4096.size a := fun v741 k0_hw73 => k0_hw73

def k0_chk74 (v746 : IVec S16 32) : Prop :=
  (∀ a x, ((![v746] : Fin 1 → IVec S16 32) a x).toNat < S4096.size a)
theorem k0_idx74_inb : ∀ (v746 : IVec S16 32) (k0_hw74 : k0_chk74 v746), ∀ a x, ((![v746] : Fin 1 → IVec S16 32) a x).toNat < S4096.size a := fun v746 k0_hw74 => k0_hw74

def k0_chk75 (v751 : IVec S16 32) : Prop :=
  (∀ a x, ((![v751] : Fin 1 → IVec S16 32) a x).toNat < S4096.size a)
theorem k0_idx75_inb : ∀ (v751 : IVec S16 32) (k0_hw75 : k0_chk75 v751), ∀ a x, ((![v751] : Fin 1 → IVec S16 32) a x).toNat < S4096.size a := fun v751 k0_hw75 => k0_hw75

def k0_chk76 (v756 : IVec S16 32) : Prop :=
  (∀ a x, ((![v756] : Fin 1 → IVec S16 32) a x).toNat < S4096.size a)
theorem k0_idx76_inb : ∀ (v756 : IVec S16 32) (k0_hw76 : k0_chk76 v756), ∀ a x, ((![v756] : Fin 1 → IVec S16 32) a x).toNat < S4096.size a := fun v756 k0_hw76 => k0_hw76

def k0_chk77 (v761 : IVec S16 32) : Prop :=
  (∀ a x, ((![v761] : Fin 1 → IVec S16 32) a x).toNat < S4096.size a)
theorem k0_idx77_inb : ∀ (v761 : IVec S16 32) (k0_hw77 : k0_chk77 v761), ∀ a x, ((![v761] : Fin 1 → IVec S16 32) a x).toNat < S4096.size a := fun v761 k0_hw77 => k0_hw77

def k0_chk78 (v766 : IVec S16 32) : Prop :=
  (∀ a x, ((![v766] : Fin 1 → IVec S16 32) a x).toNat < S4096.size a)
theorem k0_idx78_inb : ∀ (v766 : IVec S16 32) (k0_hw78 : k0_chk78 v766), ∀ a x, ((![v766] : Fin 1 → IVec S16 32) a x).toNat < S4096.size a := fun v766 k0_hw78 => k0_hw78

def k0_chk79 (v771 : IVec S16 32) : Prop :=
  (∀ a x, ((![v771] : Fin 1 → IVec S16 32) a x).toNat < S4096.size a)
theorem k0_idx79_inb : ∀ (v771 : IVec S16 32) (k0_hw79 : k0_chk79 v771), ∀ a x, ((![v771] : Fin 1 → IVec S16 32) a x).toNat < S4096.size a := fun v771 k0_hw79 => k0_hw79

def k0_chk80 (v776 : IVec S16 32) : Prop :=
  (∀ a x, ((![v776] : Fin 1 → IVec S16 32) a x).toNat < S4096.size a)
theorem k0_idx80_inb : ∀ (v776 : IVec S16 32) (k0_hw80 : k0_chk80 v776), ∀ a x, ((![v776] : Fin 1 → IVec S16 32) a x).toNat < S4096.size a := fun v776 k0_hw80 => k0_hw80

def k0_chk81 (v781 : IVec S16 32) : Prop :=
  (∀ a x, ((![v781] : Fin 1 → IVec S16 32) a x).toNat < S4096.size a)
theorem k0_idx81_inb : ∀ (v781 : IVec S16 32) (k0_hw81 : k0_chk81 v781), ∀ a x, ((![v781] : Fin 1 → IVec S16 32) a x).toNat < S4096.size a := fun v781 k0_hw81 => k0_hw81

def k0_chk82 (v786 : IVec S16 32) : Prop :=
  (∀ a x, ((![v786] : Fin 1 → IVec S16 32) a x).toNat < S4096.size a)
theorem k0_idx82_inb : ∀ (v786 : IVec S16 32) (k0_hw82 : k0_chk82 v786), ∀ a x, ((![v786] : Fin 1 → IVec S16 32) a x).toNat < S4096.size a := fun v786 k0_hw82 => k0_hw82

def k0_chk83 (v791 : IVec S16 32) : Prop :=
  (∀ a x, ((![v791] : Fin 1 → IVec S16 32) a x).toNat < S4096.size a)
theorem k0_idx83_inb : ∀ (v791 : IVec S16 32) (k0_hw83 : k0_chk83 v791), ∀ a x, ((![v791] : Fin 1 → IVec S16 32) a x).toNat < S4096.size a := fun v791 k0_hw83 => k0_hw83

def k0_chk84 (v796 : IVec S16 32) : Prop :=
  (∀ a x, ((![v796] : Fin 1 → IVec S16 32) a x).toNat < S4096.size a)
theorem k0_idx84_inb : ∀ (v796 : IVec S16 32) (k0_hw84 : k0_chk84 v796), ∀ a x, ((![v796] : Fin 1 → IVec S16 32) a x).toNat < S4096.size a := fun v796 k0_hw84 => k0_hw84

def k0_chk85 (v801 : IVec S16 32) : Prop :=
  (∀ a x, ((![v801] : Fin 1 → IVec S16 32) a x).toNat < S4096.size a)
theorem k0_idx85_inb : ∀ (v801 : IVec S16 32) (k0_hw85 : k0_chk85 v801), ∀ a x, ((![v801] : Fin 1 → IVec S16 32) a x).toNat < S4096.size a := fun v801 k0_hw85 => k0_hw85

def k0_chk86 (v806 : IVec S16 32) : Prop :=
  (∀ a x, ((![v806] : Fin 1 → IVec S16 32) a x).toNat < S4096.size a)
theorem k0_idx86_inb : ∀ (v806 : IVec S16 32) (k0_hw86 : k0_chk86 v806), ∀ a x, ((![v806] : Fin 1 → IVec S16 32) a x).toNat < S4096.size a := fun v806 k0_hw86 => k0_hw86

def k0_chk87 (v811 : IVec S16 32) : Prop :=
  (∀ a x, ((![v811] : Fin 1 → IVec S16 32) a x).toNat < S4096.size a)
theorem k0_idx87_inb : ∀ (v811 : IVec S16 32) (k0_hw87 : k0_chk87 v811), ∀ a x, ((![v811] : Fin 1 → IVec S16 32) a x).toNat < S4096.size a := fun v811 k0_hw87 => k0_hw87

def k0_chk88 (v816 : IVec S16 32) : Prop :=
  (∀ a x, ((![v816] : Fin 1 → IVec S16 32) a x).toNat < S4096.size a)
theorem k0_idx88_inb : ∀ (v816 : IVec S16 32) (k0_hw88 : k0_chk88 v816), ∀ a x, ((![v816] : Fin 1 → IVec S16 32) a x).toNat < S4096.size a := fun v816 k0_hw88 => k0_hw88

def k0_chk89 (v821 : IVec S16 32) : Prop :=
  (∀ a x, ((![v821] : Fin 1 → IVec S16 32) a x).toNat < S4096.size a)
theorem k0_idx89_inb : ∀ (v821 : IVec S16 32) (k0_hw89 : k0_chk89 v821), ∀ a x, ((![v821] : Fin 1 → IVec S16 32) a x).toNat < S4096.size a := fun v821 k0_hw89 => k0_hw89

def k0_chk90 (v826 : IVec S16 32) : Prop :=
  (∀ a x, ((![v826] : Fin 1 → IVec S16 32) a x).toNat < S4096.size a)
theorem k0_idx90_inb : ∀ (v826 : IVec S16 32) (k0_hw90 : k0_chk90 v826), ∀ a x, ((![v826] : Fin 1 → IVec S16 32) a x).toNat < S4096.size a := fun v826 k0_hw90 => k0_hw90

def k0_chk91 (v831 : IVec S16 32) : Prop :=
  (∀ a x, ((![v831] : Fin 1 → IVec S16 32) a x).toNat < S4096.size a)
theorem k0_idx91_inb : ∀ (v831 : IVec S16 32) (k0_hw91 : k0_chk91 v831), ∀ a x, ((![v831] : Fin 1 → IVec S16 32) a x).toNat < S4096.size a := fun v831 k0_hw91 => k0_hw91

def k0_chk92 (v836 : IVec S16 32) : Prop :=
  (∀ a x, ((![v836] : Fin 1 → IVec S16 32) a x).toNat < S4096.size a)
theorem k0_idx92_inb : ∀ (v836 : IVec S16 32) (k0_hw92 : k0_chk92 v836), ∀ a x, ((![v836] : Fin 1 → IVec S16 32) a x).toNat < S4096.size a := fun v836 k0_hw92 => k0_hw92

def k0_chk93 (v841 : IVec S16 32) : Prop :=
  (∀ a x, ((![v841] : Fin 1 → IVec S16 32) a x).toNat < S4096.size a)
theorem k0_idx93_inb : ∀ (v841 : IVec S16 32) (k0_hw93 : k0_chk93 v841), ∀ a x, ((![v841] : Fin 1 → IVec S16 32) a x).toNat < S4096.size a := fun v841 k0_hw93 => k0_hw93

def k0_chk94 (v843 : IVec S16 32) : Prop :=
  (∀ a x, ((![v843] : Fin 1 → IVec S16 32) a x).toNat < S4096.size a)
theorem k0_idx94_inb : ∀ (v843 : IVec S16 32) (k0_hw94 : k0_chk94 v843), ∀ a x, ((![v843] : Fin 1 → IVec S16 32) a x).toNat < S4096.size a := fun v843 k0_hw94 => k0_hw94

def k0_chk95 (v845 : IVec S16 32) : Prop :=
  (∀ a x, ((![v845] : Fin 1 → IVec S16 32) a x).toNat < S4096.size a)
theorem k0_idx95_inb : ∀ (v845 : IVec S16 32) (k0_hw95 : k0_chk95 v845), ∀ a x, ((![v845] : Fin 1 → IVec S16 32) a x).toNat < S4096.size a := fun v845 k0_hw95 => k0_hw95

def k0_chk96 (v847 : IVec S16 32) : Prop :=
  (∀ a x, ((![v847] : Fin 1 → IVec S16 32) a x).toNat < S4096.size a)
theorem k0_idx96_inb : ∀ (v847 : IVec S16 32) (k0_hw96 : k0_chk96 v847), ∀ a x, ((![v847] : Fin 1 → IVec S16 32) a x).toNat < S4096.size a := fun v847 k0_hw96 => k0_hw96
def k0_off8 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_397 : BitVec 32 := 512#32
  let v848 : BitVec 32 := Scalar.muli v361 c512_i32_397
  let c48_i32 : BitVec 32 := 48#32
  let v849 : BitVec 32 := Scalar.addi v848 c48_i32
  let v850 : Index := Scalar.indexCast v849
  ![v850.toNat]

def k0_chk97 (v851 : IVec S16 32) : Prop :=
  (∀ a x, ((![v851] : Fin 1 → IVec S16 32) a x).toNat < S4096.size a)
theorem k0_idx97_inb : ∀ (v851 : IVec S16 32) (k0_hw97 : k0_chk97 v851), ∀ a x, ((![v851] : Fin 1 → IVec S16 32) a x).toNat < S4096.size a := fun v851 k0_hw97 => k0_hw97

def k0_chk98 (v868 : IVec S16 32) : Prop :=
  (∀ a x, ((![v868] : Fin 1 → IVec S16 32) a x).toNat < S4096.size a)
theorem k0_idx98_inb : ∀ (v868 : IVec S16 32) (k0_hw98 : k0_chk98 v868), ∀ a x, ((![v868] : Fin 1 → IVec S16 32) a x).toNat < S4096.size a := fun v868 k0_hw98 => k0_hw98

def k0_chk99 (v873 : IVec S16 32) : Prop :=
  (∀ a x, ((![v873] : Fin 1 → IVec S16 32) a x).toNat < S4096.size a)
theorem k0_idx99_inb : ∀ (v873 : IVec S16 32) (k0_hw99 : k0_chk99 v873), ∀ a x, ((![v873] : Fin 1 → IVec S16 32) a x).toNat < S4096.size a := fun v873 k0_hw99 => k0_hw99

def k0_chk100 (v878 : IVec S16 32) : Prop :=
  (∀ a x, ((![v878] : Fin 1 → IVec S16 32) a x).toNat < S4096.size a)
theorem k0_idx100_inb : ∀ (v878 : IVec S16 32) (k0_hw100 : k0_chk100 v878), ∀ a x, ((![v878] : Fin 1 → IVec S16 32) a x).toNat < S4096.size a := fun v878 k0_hw100 => k0_hw100

def k0_chk101 (v883 : IVec S16 32) : Prop :=
  (∀ a x, ((![v883] : Fin 1 → IVec S16 32) a x).toNat < S4096.size a)
theorem k0_idx101_inb : ∀ (v883 : IVec S16 32) (k0_hw101 : k0_chk101 v883), ∀ a x, ((![v883] : Fin 1 → IVec S16 32) a x).toNat < S4096.size a := fun v883 k0_hw101 => k0_hw101

def k0_chk102 (v888 : IVec S16 32) : Prop :=
  (∀ a x, ((![v888] : Fin 1 → IVec S16 32) a x).toNat < S4096.size a)
theorem k0_idx102_inb : ∀ (v888 : IVec S16 32) (k0_hw102 : k0_chk102 v888), ∀ a x, ((![v888] : Fin 1 → IVec S16 32) a x).toNat < S4096.size a := fun v888 k0_hw102 => k0_hw102

def k0_chk103 (v893 : IVec S16 32) : Prop :=
  (∀ a x, ((![v893] : Fin 1 → IVec S16 32) a x).toNat < S4096.size a)
theorem k0_idx103_inb : ∀ (v893 : IVec S16 32) (k0_hw103 : k0_chk103 v893), ∀ a x, ((![v893] : Fin 1 → IVec S16 32) a x).toNat < S4096.size a := fun v893 k0_hw103 => k0_hw103

def k0_chk104 (v898 : IVec S16 32) : Prop :=
  (∀ a x, ((![v898] : Fin 1 → IVec S16 32) a x).toNat < S4096.size a)
theorem k0_idx104_inb : ∀ (v898 : IVec S16 32) (k0_hw104 : k0_chk104 v898), ∀ a x, ((![v898] : Fin 1 → IVec S16 32) a x).toNat < S4096.size a := fun v898 k0_hw104 => k0_hw104

def k0_chk105 (v903 : IVec S16 32) : Prop :=
  (∀ a x, ((![v903] : Fin 1 → IVec S16 32) a x).toNat < S4096.size a)
theorem k0_idx105_inb : ∀ (v903 : IVec S16 32) (k0_hw105 : k0_chk105 v903), ∀ a x, ((![v903] : Fin 1 → IVec S16 32) a x).toNat < S4096.size a := fun v903 k0_hw105 => k0_hw105

def k0_chk106 (v908 : IVec S16 32) : Prop :=
  (∀ a x, ((![v908] : Fin 1 → IVec S16 32) a x).toNat < S4096.size a)
theorem k0_idx106_inb : ∀ (v908 : IVec S16 32) (k0_hw106 : k0_chk106 v908), ∀ a x, ((![v908] : Fin 1 → IVec S16 32) a x).toNat < S4096.size a := fun v908 k0_hw106 => k0_hw106

def k0_chk107 (v913 : IVec S16 32) : Prop :=
  (∀ a x, ((![v913] : Fin 1 → IVec S16 32) a x).toNat < S4096.size a)
theorem k0_idx107_inb : ∀ (v913 : IVec S16 32) (k0_hw107 : k0_chk107 v913), ∀ a x, ((![v913] : Fin 1 → IVec S16 32) a x).toNat < S4096.size a := fun v913 k0_hw107 => k0_hw107

def k0_chk108 (v918 : IVec S16 32) : Prop :=
  (∀ a x, ((![v918] : Fin 1 → IVec S16 32) a x).toNat < S4096.size a)
theorem k0_idx108_inb : ∀ (v918 : IVec S16 32) (k0_hw108 : k0_chk108 v918), ∀ a x, ((![v918] : Fin 1 → IVec S16 32) a x).toNat < S4096.size a := fun v918 k0_hw108 => k0_hw108

def k0_chk109 (v923 : IVec S16 32) : Prop :=
  (∀ a x, ((![v923] : Fin 1 → IVec S16 32) a x).toNat < S4096.size a)
theorem k0_idx109_inb : ∀ (v923 : IVec S16 32) (k0_hw109 : k0_chk109 v923), ∀ a x, ((![v923] : Fin 1 → IVec S16 32) a x).toNat < S4096.size a := fun v923 k0_hw109 => k0_hw109

def k0_chk110 (v928 : IVec S16 32) : Prop :=
  (∀ a x, ((![v928] : Fin 1 → IVec S16 32) a x).toNat < S4096.size a)
theorem k0_idx110_inb : ∀ (v928 : IVec S16 32) (k0_hw110 : k0_chk110 v928), ∀ a x, ((![v928] : Fin 1 → IVec S16 32) a x).toNat < S4096.size a := fun v928 k0_hw110 => k0_hw110

def k0_chk111 (v933 : IVec S16 32) : Prop :=
  (∀ a x, ((![v933] : Fin 1 → IVec S16 32) a x).toNat < S4096.size a)
theorem k0_idx111_inb : ∀ (v933 : IVec S16 32) (k0_hw111 : k0_chk111 v933), ∀ a x, ((![v933] : Fin 1 → IVec S16 32) a x).toNat < S4096.size a := fun v933 k0_hw111 => k0_hw111

def k0_chk112 (v938 : IVec S16 32) : Prop :=
  (∀ a x, ((![v938] : Fin 1 → IVec S16 32) a x).toNat < S4096.size a)
theorem k0_idx112_inb : ∀ (v938 : IVec S16 32) (k0_hw112 : k0_chk112 v938), ∀ a x, ((![v938] : Fin 1 → IVec S16 32) a x).toNat < S4096.size a := fun v938 k0_hw112 => k0_hw112

def k0_chk113 (v943 : IVec S16 32) : Prop :=
  (∀ a x, ((![v943] : Fin 1 → IVec S16 32) a x).toNat < S4096.size a)
theorem k0_idx113_inb : ∀ (v943 : IVec S16 32) (k0_hw113 : k0_chk113 v943), ∀ a x, ((![v943] : Fin 1 → IVec S16 32) a x).toNat < S4096.size a := fun v943 k0_hw113 => k0_hw113

def k0_chk114 (v948 : IVec S16 32) : Prop :=
  (∀ a x, ((![v948] : Fin 1 → IVec S16 32) a x).toNat < S4096.size a)
theorem k0_idx114_inb : ∀ (v948 : IVec S16 32) (k0_hw114 : k0_chk114 v948), ∀ a x, ((![v948] : Fin 1 → IVec S16 32) a x).toNat < S4096.size a := fun v948 k0_hw114 => k0_hw114

def k0_chk115 (v953 : IVec S16 32) : Prop :=
  (∀ a x, ((![v953] : Fin 1 → IVec S16 32) a x).toNat < S4096.size a)
theorem k0_idx115_inb : ∀ (v953 : IVec S16 32) (k0_hw115 : k0_chk115 v953), ∀ a x, ((![v953] : Fin 1 → IVec S16 32) a x).toNat < S4096.size a := fun v953 k0_hw115 => k0_hw115

def k0_chk116 (v958 : IVec S16 32) : Prop :=
  (∀ a x, ((![v958] : Fin 1 → IVec S16 32) a x).toNat < S4096.size a)
theorem k0_idx116_inb : ∀ (v958 : IVec S16 32) (k0_hw116 : k0_chk116 v958), ∀ a x, ((![v958] : Fin 1 → IVec S16 32) a x).toNat < S4096.size a := fun v958 k0_hw116 => k0_hw116

def k0_chk117 (v963 : IVec S16 32) : Prop :=
  (∀ a x, ((![v963] : Fin 1 → IVec S16 32) a x).toNat < S4096.size a)
theorem k0_idx117_inb : ∀ (v963 : IVec S16 32) (k0_hw117 : k0_chk117 v963), ∀ a x, ((![v963] : Fin 1 → IVec S16 32) a x).toNat < S4096.size a := fun v963 k0_hw117 => k0_hw117

def k0_chk118 (v968 : IVec S16 32) : Prop :=
  (∀ a x, ((![v968] : Fin 1 → IVec S16 32) a x).toNat < S4096.size a)
theorem k0_idx118_inb : ∀ (v968 : IVec S16 32) (k0_hw118 : k0_chk118 v968), ∀ a x, ((![v968] : Fin 1 → IVec S16 32) a x).toNat < S4096.size a := fun v968 k0_hw118 => k0_hw118

def k0_chk119 (v973 : IVec S16 32) : Prop :=
  (∀ a x, ((![v973] : Fin 1 → IVec S16 32) a x).toNat < S4096.size a)
theorem k0_idx119_inb : ∀ (v973 : IVec S16 32) (k0_hw119 : k0_chk119 v973), ∀ a x, ((![v973] : Fin 1 → IVec S16 32) a x).toNat < S4096.size a := fun v973 k0_hw119 => k0_hw119

def k0_chk120 (v978 : IVec S16 32) : Prop :=
  (∀ a x, ((![v978] : Fin 1 → IVec S16 32) a x).toNat < S4096.size a)
theorem k0_idx120_inb : ∀ (v978 : IVec S16 32) (k0_hw120 : k0_chk120 v978), ∀ a x, ((![v978] : Fin 1 → IVec S16 32) a x).toNat < S4096.size a := fun v978 k0_hw120 => k0_hw120

def k0_chk121 (v983 : IVec S16 32) : Prop :=
  (∀ a x, ((![v983] : Fin 1 → IVec S16 32) a x).toNat < S4096.size a)
theorem k0_idx121_inb : ∀ (v983 : IVec S16 32) (k0_hw121 : k0_chk121 v983), ∀ a x, ((![v983] : Fin 1 → IVec S16 32) a x).toNat < S4096.size a := fun v983 k0_hw121 => k0_hw121

def k0_chk122 (v988 : IVec S16 32) : Prop :=
  (∀ a x, ((![v988] : Fin 1 → IVec S16 32) a x).toNat < S4096.size a)
theorem k0_idx122_inb : ∀ (v988 : IVec S16 32) (k0_hw122 : k0_chk122 v988), ∀ a x, ((![v988] : Fin 1 → IVec S16 32) a x).toNat < S4096.size a := fun v988 k0_hw122 => k0_hw122

def k0_chk123 (v993 : IVec S16 32) : Prop :=
  (∀ a x, ((![v993] : Fin 1 → IVec S16 32) a x).toNat < S4096.size a)
theorem k0_idx123_inb : ∀ (v993 : IVec S16 32) (k0_hw123 : k0_chk123 v993), ∀ a x, ((![v993] : Fin 1 → IVec S16 32) a x).toNat < S4096.size a := fun v993 k0_hw123 => k0_hw123

def k0_chk124 (v998 : IVec S16 32) : Prop :=
  (∀ a x, ((![v998] : Fin 1 → IVec S16 32) a x).toNat < S4096.size a)
theorem k0_idx124_inb : ∀ (v998 : IVec S16 32) (k0_hw124 : k0_chk124 v998), ∀ a x, ((![v998] : Fin 1 → IVec S16 32) a x).toNat < S4096.size a := fun v998 k0_hw124 => k0_hw124

def k0_chk125 (v1003 : IVec S16 32) : Prop :=
  (∀ a x, ((![v1003] : Fin 1 → IVec S16 32) a x).toNat < S4096.size a)
theorem k0_idx125_inb : ∀ (v1003 : IVec S16 32) (k0_hw125 : k0_chk125 v1003), ∀ a x, ((![v1003] : Fin 1 → IVec S16 32) a x).toNat < S4096.size a := fun v1003 k0_hw125 => k0_hw125

def k0_chk126 (v1005 : IVec S16 32) : Prop :=
  (∀ a x, ((![v1005] : Fin 1 → IVec S16 32) a x).toNat < S4096.size a)
theorem k0_idx126_inb : ∀ (v1005 : IVec S16 32) (k0_hw126 : k0_chk126 v1005), ∀ a x, ((![v1005] : Fin 1 → IVec S16 32) a x).toNat < S4096.size a := fun v1005 k0_hw126 => k0_hw126

def k0_chk127 (v1007 : IVec S16 32) : Prop :=
  (∀ a x, ((![v1007] : Fin 1 → IVec S16 32) a x).toNat < S4096.size a)
theorem k0_idx127_inb : ∀ (v1007 : IVec S16 32) (k0_hw127 : k0_chk127 v1007), ∀ a x, ((![v1007] : Fin 1 → IVec S16 32) a x).toNat < S4096.size a := fun v1007 k0_hw127 => k0_hw127

def k0_chk128 (v1009 : IVec S16 32) : Prop :=
  (∀ a x, ((![v1009] : Fin 1 → IVec S16 32) a x).toNat < S4096.size a)
theorem k0_idx128_inb : ∀ (v1009 : IVec S16 32) (k0_hw128 : k0_chk128 v1009), ∀ a x, ((![v1009] : Fin 1 → IVec S16 32) a x).toNat < S4096.size a := fun v1009 k0_hw128 => k0_hw128
def k0_off9 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_525 : BitVec 32 := 512#32
  let v1010 : BitVec 32 := Scalar.muli v361 c512_i32_525
  let c64_i32 : BitVec 32 := 64#32
  let v1011 : BitVec 32 := Scalar.addi v1010 c64_i32
  let v1012 : Index := Scalar.indexCast v1011
  ![v1012.toNat]

def k0_chk129 (v1013 : IVec S16 32) : Prop :=
  (∀ a x, ((![v1013] : Fin 1 → IVec S16 32) a x).toNat < S4096.size a)
theorem k0_idx129_inb : ∀ (v1013 : IVec S16 32) (k0_hw129 : k0_chk129 v1013), ∀ a x, ((![v1013] : Fin 1 → IVec S16 32) a x).toNat < S4096.size a := fun v1013 k0_hw129 => k0_hw129

def k0_chk130 (v1030 : IVec S16 32) : Prop :=
  (∀ a x, ((![v1030] : Fin 1 → IVec S16 32) a x).toNat < S4096.size a)
theorem k0_idx130_inb : ∀ (v1030 : IVec S16 32) (k0_hw130 : k0_chk130 v1030), ∀ a x, ((![v1030] : Fin 1 → IVec S16 32) a x).toNat < S4096.size a := fun v1030 k0_hw130 => k0_hw130

def k0_chk131 (v1035 : IVec S16 32) : Prop :=
  (∀ a x, ((![v1035] : Fin 1 → IVec S16 32) a x).toNat < S4096.size a)
theorem k0_idx131_inb : ∀ (v1035 : IVec S16 32) (k0_hw131 : k0_chk131 v1035), ∀ a x, ((![v1035] : Fin 1 → IVec S16 32) a x).toNat < S4096.size a := fun v1035 k0_hw131 => k0_hw131

def k0_chk132 (v1040 : IVec S16 32) : Prop :=
  (∀ a x, ((![v1040] : Fin 1 → IVec S16 32) a x).toNat < S4096.size a)
theorem k0_idx132_inb : ∀ (v1040 : IVec S16 32) (k0_hw132 : k0_chk132 v1040), ∀ a x, ((![v1040] : Fin 1 → IVec S16 32) a x).toNat < S4096.size a := fun v1040 k0_hw132 => k0_hw132

def k0_chk133 (v1045 : IVec S16 32) : Prop :=
  (∀ a x, ((![v1045] : Fin 1 → IVec S16 32) a x).toNat < S4096.size a)
theorem k0_idx133_inb : ∀ (v1045 : IVec S16 32) (k0_hw133 : k0_chk133 v1045), ∀ a x, ((![v1045] : Fin 1 → IVec S16 32) a x).toNat < S4096.size a := fun v1045 k0_hw133 => k0_hw133

def k0_chk134 (v1050 : IVec S16 32) : Prop :=
  (∀ a x, ((![v1050] : Fin 1 → IVec S16 32) a x).toNat < S4096.size a)
theorem k0_idx134_inb : ∀ (v1050 : IVec S16 32) (k0_hw134 : k0_chk134 v1050), ∀ a x, ((![v1050] : Fin 1 → IVec S16 32) a x).toNat < S4096.size a := fun v1050 k0_hw134 => k0_hw134

def k0_chk135 (v1055 : IVec S16 32) : Prop :=
  (∀ a x, ((![v1055] : Fin 1 → IVec S16 32) a x).toNat < S4096.size a)
theorem k0_idx135_inb : ∀ (v1055 : IVec S16 32) (k0_hw135 : k0_chk135 v1055), ∀ a x, ((![v1055] : Fin 1 → IVec S16 32) a x).toNat < S4096.size a := fun v1055 k0_hw135 => k0_hw135

def k0_chk136 (v1060 : IVec S16 32) : Prop :=
  (∀ a x, ((![v1060] : Fin 1 → IVec S16 32) a x).toNat < S4096.size a)
theorem k0_idx136_inb : ∀ (v1060 : IVec S16 32) (k0_hw136 : k0_chk136 v1060), ∀ a x, ((![v1060] : Fin 1 → IVec S16 32) a x).toNat < S4096.size a := fun v1060 k0_hw136 => k0_hw136

def k0_chk137 (v1065 : IVec S16 32) : Prop :=
  (∀ a x, ((![v1065] : Fin 1 → IVec S16 32) a x).toNat < S4096.size a)
theorem k0_idx137_inb : ∀ (v1065 : IVec S16 32) (k0_hw137 : k0_chk137 v1065), ∀ a x, ((![v1065] : Fin 1 → IVec S16 32) a x).toNat < S4096.size a := fun v1065 k0_hw137 => k0_hw137

def k0_chk138 (v1070 : IVec S16 32) : Prop :=
  (∀ a x, ((![v1070] : Fin 1 → IVec S16 32) a x).toNat < S4096.size a)
theorem k0_idx138_inb : ∀ (v1070 : IVec S16 32) (k0_hw138 : k0_chk138 v1070), ∀ a x, ((![v1070] : Fin 1 → IVec S16 32) a x).toNat < S4096.size a := fun v1070 k0_hw138 => k0_hw138

def k0_chk139 (v1075 : IVec S16 32) : Prop :=
  (∀ a x, ((![v1075] : Fin 1 → IVec S16 32) a x).toNat < S4096.size a)
theorem k0_idx139_inb : ∀ (v1075 : IVec S16 32) (k0_hw139 : k0_chk139 v1075), ∀ a x, ((![v1075] : Fin 1 → IVec S16 32) a x).toNat < S4096.size a := fun v1075 k0_hw139 => k0_hw139

def k0_chk140 (v1080 : IVec S16 32) : Prop :=
  (∀ a x, ((![v1080] : Fin 1 → IVec S16 32) a x).toNat < S4096.size a)
theorem k0_idx140_inb : ∀ (v1080 : IVec S16 32) (k0_hw140 : k0_chk140 v1080), ∀ a x, ((![v1080] : Fin 1 → IVec S16 32) a x).toNat < S4096.size a := fun v1080 k0_hw140 => k0_hw140

def k0_chk141 (v1085 : IVec S16 32) : Prop :=
  (∀ a x, ((![v1085] : Fin 1 → IVec S16 32) a x).toNat < S4096.size a)
theorem k0_idx141_inb : ∀ (v1085 : IVec S16 32) (k0_hw141 : k0_chk141 v1085), ∀ a x, ((![v1085] : Fin 1 → IVec S16 32) a x).toNat < S4096.size a := fun v1085 k0_hw141 => k0_hw141

def k0_chk142 (v1090 : IVec S16 32) : Prop :=
  (∀ a x, ((![v1090] : Fin 1 → IVec S16 32) a x).toNat < S4096.size a)
theorem k0_idx142_inb : ∀ (v1090 : IVec S16 32) (k0_hw142 : k0_chk142 v1090), ∀ a x, ((![v1090] : Fin 1 → IVec S16 32) a x).toNat < S4096.size a := fun v1090 k0_hw142 => k0_hw142

def k0_chk143 (v1095 : IVec S16 32) : Prop :=
  (∀ a x, ((![v1095] : Fin 1 → IVec S16 32) a x).toNat < S4096.size a)
theorem k0_idx143_inb : ∀ (v1095 : IVec S16 32) (k0_hw143 : k0_chk143 v1095), ∀ a x, ((![v1095] : Fin 1 → IVec S16 32) a x).toNat < S4096.size a := fun v1095 k0_hw143 => k0_hw143

def k0_chk144 (v1100 : IVec S16 32) : Prop :=
  (∀ a x, ((![v1100] : Fin 1 → IVec S16 32) a x).toNat < S4096.size a)
theorem k0_idx144_inb : ∀ (v1100 : IVec S16 32) (k0_hw144 : k0_chk144 v1100), ∀ a x, ((![v1100] : Fin 1 → IVec S16 32) a x).toNat < S4096.size a := fun v1100 k0_hw144 => k0_hw144

def k0_chk145 (v1105 : IVec S16 32) : Prop :=
  (∀ a x, ((![v1105] : Fin 1 → IVec S16 32) a x).toNat < S4096.size a)
theorem k0_idx145_inb : ∀ (v1105 : IVec S16 32) (k0_hw145 : k0_chk145 v1105), ∀ a x, ((![v1105] : Fin 1 → IVec S16 32) a x).toNat < S4096.size a := fun v1105 k0_hw145 => k0_hw145

def k0_chk146 (v1110 : IVec S16 32) : Prop :=
  (∀ a x, ((![v1110] : Fin 1 → IVec S16 32) a x).toNat < S4096.size a)
theorem k0_idx146_inb : ∀ (v1110 : IVec S16 32) (k0_hw146 : k0_chk146 v1110), ∀ a x, ((![v1110] : Fin 1 → IVec S16 32) a x).toNat < S4096.size a := fun v1110 k0_hw146 => k0_hw146

def k0_chk147 (v1115 : IVec S16 32) : Prop :=
  (∀ a x, ((![v1115] : Fin 1 → IVec S16 32) a x).toNat < S4096.size a)
theorem k0_idx147_inb : ∀ (v1115 : IVec S16 32) (k0_hw147 : k0_chk147 v1115), ∀ a x, ((![v1115] : Fin 1 → IVec S16 32) a x).toNat < S4096.size a := fun v1115 k0_hw147 => k0_hw147

def k0_chk148 (v1120 : IVec S16 32) : Prop :=
  (∀ a x, ((![v1120] : Fin 1 → IVec S16 32) a x).toNat < S4096.size a)
theorem k0_idx148_inb : ∀ (v1120 : IVec S16 32) (k0_hw148 : k0_chk148 v1120), ∀ a x, ((![v1120] : Fin 1 → IVec S16 32) a x).toNat < S4096.size a := fun v1120 k0_hw148 => k0_hw148

def k0_chk149 (v1125 : IVec S16 32) : Prop :=
  (∀ a x, ((![v1125] : Fin 1 → IVec S16 32) a x).toNat < S4096.size a)
theorem k0_idx149_inb : ∀ (v1125 : IVec S16 32) (k0_hw149 : k0_chk149 v1125), ∀ a x, ((![v1125] : Fin 1 → IVec S16 32) a x).toNat < S4096.size a := fun v1125 k0_hw149 => k0_hw149

def k0_chk150 (v1130 : IVec S16 32) : Prop :=
  (∀ a x, ((![v1130] : Fin 1 → IVec S16 32) a x).toNat < S4096.size a)
theorem k0_idx150_inb : ∀ (v1130 : IVec S16 32) (k0_hw150 : k0_chk150 v1130), ∀ a x, ((![v1130] : Fin 1 → IVec S16 32) a x).toNat < S4096.size a := fun v1130 k0_hw150 => k0_hw150

def k0_chk151 (v1135 : IVec S16 32) : Prop :=
  (∀ a x, ((![v1135] : Fin 1 → IVec S16 32) a x).toNat < S4096.size a)
theorem k0_idx151_inb : ∀ (v1135 : IVec S16 32) (k0_hw151 : k0_chk151 v1135), ∀ a x, ((![v1135] : Fin 1 → IVec S16 32) a x).toNat < S4096.size a := fun v1135 k0_hw151 => k0_hw151

def k0_chk152 (v1140 : IVec S16 32) : Prop :=
  (∀ a x, ((![v1140] : Fin 1 → IVec S16 32) a x).toNat < S4096.size a)
theorem k0_idx152_inb : ∀ (v1140 : IVec S16 32) (k0_hw152 : k0_chk152 v1140), ∀ a x, ((![v1140] : Fin 1 → IVec S16 32) a x).toNat < S4096.size a := fun v1140 k0_hw152 => k0_hw152

def k0_chk153 (v1145 : IVec S16 32) : Prop :=
  (∀ a x, ((![v1145] : Fin 1 → IVec S16 32) a x).toNat < S4096.size a)
theorem k0_idx153_inb : ∀ (v1145 : IVec S16 32) (k0_hw153 : k0_chk153 v1145), ∀ a x, ((![v1145] : Fin 1 → IVec S16 32) a x).toNat < S4096.size a := fun v1145 k0_hw153 => k0_hw153

def k0_chk154 (v1150 : IVec S16 32) : Prop :=
  (∀ a x, ((![v1150] : Fin 1 → IVec S16 32) a x).toNat < S4096.size a)
theorem k0_idx154_inb : ∀ (v1150 : IVec S16 32) (k0_hw154 : k0_chk154 v1150), ∀ a x, ((![v1150] : Fin 1 → IVec S16 32) a x).toNat < S4096.size a := fun v1150 k0_hw154 => k0_hw154

def k0_chk155 (v1155 : IVec S16 32) : Prop :=
  (∀ a x, ((![v1155] : Fin 1 → IVec S16 32) a x).toNat < S4096.size a)
theorem k0_idx155_inb : ∀ (v1155 : IVec S16 32) (k0_hw155 : k0_chk155 v1155), ∀ a x, ((![v1155] : Fin 1 → IVec S16 32) a x).toNat < S4096.size a := fun v1155 k0_hw155 => k0_hw155

def k0_chk156 (v1160 : IVec S16 32) : Prop :=
  (∀ a x, ((![v1160] : Fin 1 → IVec S16 32) a x).toNat < S4096.size a)
theorem k0_idx156_inb : ∀ (v1160 : IVec S16 32) (k0_hw156 : k0_chk156 v1160), ∀ a x, ((![v1160] : Fin 1 → IVec S16 32) a x).toNat < S4096.size a := fun v1160 k0_hw156 => k0_hw156

def k0_chk157 (v1165 : IVec S16 32) : Prop :=
  (∀ a x, ((![v1165] : Fin 1 → IVec S16 32) a x).toNat < S4096.size a)
theorem k0_idx157_inb : ∀ (v1165 : IVec S16 32) (k0_hw157 : k0_chk157 v1165), ∀ a x, ((![v1165] : Fin 1 → IVec S16 32) a x).toNat < S4096.size a := fun v1165 k0_hw157 => k0_hw157

def k0_chk158 (v1167 : IVec S16 32) : Prop :=
  (∀ a x, ((![v1167] : Fin 1 → IVec S16 32) a x).toNat < S4096.size a)
theorem k0_idx158_inb : ∀ (v1167 : IVec S16 32) (k0_hw158 : k0_chk158 v1167), ∀ a x, ((![v1167] : Fin 1 → IVec S16 32) a x).toNat < S4096.size a := fun v1167 k0_hw158 => k0_hw158

def k0_chk159 (v1169 : IVec S16 32) : Prop :=
  (∀ a x, ((![v1169] : Fin 1 → IVec S16 32) a x).toNat < S4096.size a)
theorem k0_idx159_inb : ∀ (v1169 : IVec S16 32) (k0_hw159 : k0_chk159 v1169), ∀ a x, ((![v1169] : Fin 1 → IVec S16 32) a x).toNat < S4096.size a := fun v1169 k0_hw159 => k0_hw159

def k0_chk160 (v1171 : IVec S16 32) : Prop :=
  (∀ a x, ((![v1171] : Fin 1 → IVec S16 32) a x).toNat < S4096.size a)
theorem k0_idx160_inb : ∀ (v1171 : IVec S16 32) (k0_hw160 : k0_chk160 v1171), ∀ a x, ((![v1171] : Fin 1 → IVec S16 32) a x).toNat < S4096.size a := fun v1171 k0_hw160 => k0_hw160
def k0_off10 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_653 : BitVec 32 := 512#32
  let v1172 : BitVec 32 := Scalar.muli v361 c512_i32_653
  let c80_i32 : BitVec 32 := 80#32
  let v1173 : BitVec 32 := Scalar.addi v1172 c80_i32
  let v1174 : Index := Scalar.indexCast v1173
  ![v1174.toNat]

def k0_chk161 (v1175 : IVec S16 32) : Prop :=
  (∀ a x, ((![v1175] : Fin 1 → IVec S16 32) a x).toNat < S4096.size a)
theorem k0_idx161_inb : ∀ (v1175 : IVec S16 32) (k0_hw161 : k0_chk161 v1175), ∀ a x, ((![v1175] : Fin 1 → IVec S16 32) a x).toNat < S4096.size a := fun v1175 k0_hw161 => k0_hw161

def k0_chk162 (v1192 : IVec S16 32) : Prop :=
  (∀ a x, ((![v1192] : Fin 1 → IVec S16 32) a x).toNat < S4096.size a)
theorem k0_idx162_inb : ∀ (v1192 : IVec S16 32) (k0_hw162 : k0_chk162 v1192), ∀ a x, ((![v1192] : Fin 1 → IVec S16 32) a x).toNat < S4096.size a := fun v1192 k0_hw162 => k0_hw162

def k0_chk163 (v1197 : IVec S16 32) : Prop :=
  (∀ a x, ((![v1197] : Fin 1 → IVec S16 32) a x).toNat < S4096.size a)
theorem k0_idx163_inb : ∀ (v1197 : IVec S16 32) (k0_hw163 : k0_chk163 v1197), ∀ a x, ((![v1197] : Fin 1 → IVec S16 32) a x).toNat < S4096.size a := fun v1197 k0_hw163 => k0_hw163

def k0_chk164 (v1202 : IVec S16 32) : Prop :=
  (∀ a x, ((![v1202] : Fin 1 → IVec S16 32) a x).toNat < S4096.size a)
theorem k0_idx164_inb : ∀ (v1202 : IVec S16 32) (k0_hw164 : k0_chk164 v1202), ∀ a x, ((![v1202] : Fin 1 → IVec S16 32) a x).toNat < S4096.size a := fun v1202 k0_hw164 => k0_hw164

def k0_chk165 (v1207 : IVec S16 32) : Prop :=
  (∀ a x, ((![v1207] : Fin 1 → IVec S16 32) a x).toNat < S4096.size a)
theorem k0_idx165_inb : ∀ (v1207 : IVec S16 32) (k0_hw165 : k0_chk165 v1207), ∀ a x, ((![v1207] : Fin 1 → IVec S16 32) a x).toNat < S4096.size a := fun v1207 k0_hw165 => k0_hw165

def k0_chk166 (v1212 : IVec S16 32) : Prop :=
  (∀ a x, ((![v1212] : Fin 1 → IVec S16 32) a x).toNat < S4096.size a)
theorem k0_idx166_inb : ∀ (v1212 : IVec S16 32) (k0_hw166 : k0_chk166 v1212), ∀ a x, ((![v1212] : Fin 1 → IVec S16 32) a x).toNat < S4096.size a := fun v1212 k0_hw166 => k0_hw166

def k0_chk167 (v1217 : IVec S16 32) : Prop :=
  (∀ a x, ((![v1217] : Fin 1 → IVec S16 32) a x).toNat < S4096.size a)
theorem k0_idx167_inb : ∀ (v1217 : IVec S16 32) (k0_hw167 : k0_chk167 v1217), ∀ a x, ((![v1217] : Fin 1 → IVec S16 32) a x).toNat < S4096.size a := fun v1217 k0_hw167 => k0_hw167

def k0_chk168 (v1222 : IVec S16 32) : Prop :=
  (∀ a x, ((![v1222] : Fin 1 → IVec S16 32) a x).toNat < S4096.size a)
theorem k0_idx168_inb : ∀ (v1222 : IVec S16 32) (k0_hw168 : k0_chk168 v1222), ∀ a x, ((![v1222] : Fin 1 → IVec S16 32) a x).toNat < S4096.size a := fun v1222 k0_hw168 => k0_hw168

def k0_chk169 (v1227 : IVec S16 32) : Prop :=
  (∀ a x, ((![v1227] : Fin 1 → IVec S16 32) a x).toNat < S4096.size a)
theorem k0_idx169_inb : ∀ (v1227 : IVec S16 32) (k0_hw169 : k0_chk169 v1227), ∀ a x, ((![v1227] : Fin 1 → IVec S16 32) a x).toNat < S4096.size a := fun v1227 k0_hw169 => k0_hw169

def k0_chk170 (v1232 : IVec S16 32) : Prop :=
  (∀ a x, ((![v1232] : Fin 1 → IVec S16 32) a x).toNat < S4096.size a)
theorem k0_idx170_inb : ∀ (v1232 : IVec S16 32) (k0_hw170 : k0_chk170 v1232), ∀ a x, ((![v1232] : Fin 1 → IVec S16 32) a x).toNat < S4096.size a := fun v1232 k0_hw170 => k0_hw170

def k0_chk171 (v1237 : IVec S16 32) : Prop :=
  (∀ a x, ((![v1237] : Fin 1 → IVec S16 32) a x).toNat < S4096.size a)
theorem k0_idx171_inb : ∀ (v1237 : IVec S16 32) (k0_hw171 : k0_chk171 v1237), ∀ a x, ((![v1237] : Fin 1 → IVec S16 32) a x).toNat < S4096.size a := fun v1237 k0_hw171 => k0_hw171

def k0_chk172 (v1242 : IVec S16 32) : Prop :=
  (∀ a x, ((![v1242] : Fin 1 → IVec S16 32) a x).toNat < S4096.size a)
theorem k0_idx172_inb : ∀ (v1242 : IVec S16 32) (k0_hw172 : k0_chk172 v1242), ∀ a x, ((![v1242] : Fin 1 → IVec S16 32) a x).toNat < S4096.size a := fun v1242 k0_hw172 => k0_hw172

def k0_chk173 (v1247 : IVec S16 32) : Prop :=
  (∀ a x, ((![v1247] : Fin 1 → IVec S16 32) a x).toNat < S4096.size a)
theorem k0_idx173_inb : ∀ (v1247 : IVec S16 32) (k0_hw173 : k0_chk173 v1247), ∀ a x, ((![v1247] : Fin 1 → IVec S16 32) a x).toNat < S4096.size a := fun v1247 k0_hw173 => k0_hw173

def k0_chk174 (v1252 : IVec S16 32) : Prop :=
  (∀ a x, ((![v1252] : Fin 1 → IVec S16 32) a x).toNat < S4096.size a)
theorem k0_idx174_inb : ∀ (v1252 : IVec S16 32) (k0_hw174 : k0_chk174 v1252), ∀ a x, ((![v1252] : Fin 1 → IVec S16 32) a x).toNat < S4096.size a := fun v1252 k0_hw174 => k0_hw174

def k0_chk175 (v1257 : IVec S16 32) : Prop :=
  (∀ a x, ((![v1257] : Fin 1 → IVec S16 32) a x).toNat < S4096.size a)
theorem k0_idx175_inb : ∀ (v1257 : IVec S16 32) (k0_hw175 : k0_chk175 v1257), ∀ a x, ((![v1257] : Fin 1 → IVec S16 32) a x).toNat < S4096.size a := fun v1257 k0_hw175 => k0_hw175

def k0_chk176 (v1262 : IVec S16 32) : Prop :=
  (∀ a x, ((![v1262] : Fin 1 → IVec S16 32) a x).toNat < S4096.size a)
theorem k0_idx176_inb : ∀ (v1262 : IVec S16 32) (k0_hw176 : k0_chk176 v1262), ∀ a x, ((![v1262] : Fin 1 → IVec S16 32) a x).toNat < S4096.size a := fun v1262 k0_hw176 => k0_hw176

def k0_chk177 (v1267 : IVec S16 32) : Prop :=
  (∀ a x, ((![v1267] : Fin 1 → IVec S16 32) a x).toNat < S4096.size a)
theorem k0_idx177_inb : ∀ (v1267 : IVec S16 32) (k0_hw177 : k0_chk177 v1267), ∀ a x, ((![v1267] : Fin 1 → IVec S16 32) a x).toNat < S4096.size a := fun v1267 k0_hw177 => k0_hw177

def k0_chk178 (v1272 : IVec S16 32) : Prop :=
  (∀ a x, ((![v1272] : Fin 1 → IVec S16 32) a x).toNat < S4096.size a)
theorem k0_idx178_inb : ∀ (v1272 : IVec S16 32) (k0_hw178 : k0_chk178 v1272), ∀ a x, ((![v1272] : Fin 1 → IVec S16 32) a x).toNat < S4096.size a := fun v1272 k0_hw178 => k0_hw178

def k0_chk179 (v1277 : IVec S16 32) : Prop :=
  (∀ a x, ((![v1277] : Fin 1 → IVec S16 32) a x).toNat < S4096.size a)
theorem k0_idx179_inb : ∀ (v1277 : IVec S16 32) (k0_hw179 : k0_chk179 v1277), ∀ a x, ((![v1277] : Fin 1 → IVec S16 32) a x).toNat < S4096.size a := fun v1277 k0_hw179 => k0_hw179

def k0_chk180 (v1282 : IVec S16 32) : Prop :=
  (∀ a x, ((![v1282] : Fin 1 → IVec S16 32) a x).toNat < S4096.size a)
theorem k0_idx180_inb : ∀ (v1282 : IVec S16 32) (k0_hw180 : k0_chk180 v1282), ∀ a x, ((![v1282] : Fin 1 → IVec S16 32) a x).toNat < S4096.size a := fun v1282 k0_hw180 => k0_hw180

def k0_chk181 (v1287 : IVec S16 32) : Prop :=
  (∀ a x, ((![v1287] : Fin 1 → IVec S16 32) a x).toNat < S4096.size a)
theorem k0_idx181_inb : ∀ (v1287 : IVec S16 32) (k0_hw181 : k0_chk181 v1287), ∀ a x, ((![v1287] : Fin 1 → IVec S16 32) a x).toNat < S4096.size a := fun v1287 k0_hw181 => k0_hw181

def k0_chk182 (v1292 : IVec S16 32) : Prop :=
  (∀ a x, ((![v1292] : Fin 1 → IVec S16 32) a x).toNat < S4096.size a)
theorem k0_idx182_inb : ∀ (v1292 : IVec S16 32) (k0_hw182 : k0_chk182 v1292), ∀ a x, ((![v1292] : Fin 1 → IVec S16 32) a x).toNat < S4096.size a := fun v1292 k0_hw182 => k0_hw182

def k0_chk183 (v1297 : IVec S16 32) : Prop :=
  (∀ a x, ((![v1297] : Fin 1 → IVec S16 32) a x).toNat < S4096.size a)
theorem k0_idx183_inb : ∀ (v1297 : IVec S16 32) (k0_hw183 : k0_chk183 v1297), ∀ a x, ((![v1297] : Fin 1 → IVec S16 32) a x).toNat < S4096.size a := fun v1297 k0_hw183 => k0_hw183

def k0_chk184 (v1302 : IVec S16 32) : Prop :=
  (∀ a x, ((![v1302] : Fin 1 → IVec S16 32) a x).toNat < S4096.size a)
theorem k0_idx184_inb : ∀ (v1302 : IVec S16 32) (k0_hw184 : k0_chk184 v1302), ∀ a x, ((![v1302] : Fin 1 → IVec S16 32) a x).toNat < S4096.size a := fun v1302 k0_hw184 => k0_hw184

def k0_chk185 (v1307 : IVec S16 32) : Prop :=
  (∀ a x, ((![v1307] : Fin 1 → IVec S16 32) a x).toNat < S4096.size a)
theorem k0_idx185_inb : ∀ (v1307 : IVec S16 32) (k0_hw185 : k0_chk185 v1307), ∀ a x, ((![v1307] : Fin 1 → IVec S16 32) a x).toNat < S4096.size a := fun v1307 k0_hw185 => k0_hw185

def k0_chk186 (v1312 : IVec S16 32) : Prop :=
  (∀ a x, ((![v1312] : Fin 1 → IVec S16 32) a x).toNat < S4096.size a)
theorem k0_idx186_inb : ∀ (v1312 : IVec S16 32) (k0_hw186 : k0_chk186 v1312), ∀ a x, ((![v1312] : Fin 1 → IVec S16 32) a x).toNat < S4096.size a := fun v1312 k0_hw186 => k0_hw186

def k0_chk187 (v1317 : IVec S16 32) : Prop :=
  (∀ a x, ((![v1317] : Fin 1 → IVec S16 32) a x).toNat < S4096.size a)
theorem k0_idx187_inb : ∀ (v1317 : IVec S16 32) (k0_hw187 : k0_chk187 v1317), ∀ a x, ((![v1317] : Fin 1 → IVec S16 32) a x).toNat < S4096.size a := fun v1317 k0_hw187 => k0_hw187

def k0_chk188 (v1322 : IVec S16 32) : Prop :=
  (∀ a x, ((![v1322] : Fin 1 → IVec S16 32) a x).toNat < S4096.size a)
theorem k0_idx188_inb : ∀ (v1322 : IVec S16 32) (k0_hw188 : k0_chk188 v1322), ∀ a x, ((![v1322] : Fin 1 → IVec S16 32) a x).toNat < S4096.size a := fun v1322 k0_hw188 => k0_hw188

def k0_chk189 (v1327 : IVec S16 32) : Prop :=
  (∀ a x, ((![v1327] : Fin 1 → IVec S16 32) a x).toNat < S4096.size a)
theorem k0_idx189_inb : ∀ (v1327 : IVec S16 32) (k0_hw189 : k0_chk189 v1327), ∀ a x, ((![v1327] : Fin 1 → IVec S16 32) a x).toNat < S4096.size a := fun v1327 k0_hw189 => k0_hw189

def k0_chk190 (v1329 : IVec S16 32) : Prop :=
  (∀ a x, ((![v1329] : Fin 1 → IVec S16 32) a x).toNat < S4096.size a)
theorem k0_idx190_inb : ∀ (v1329 : IVec S16 32) (k0_hw190 : k0_chk190 v1329), ∀ a x, ((![v1329] : Fin 1 → IVec S16 32) a x).toNat < S4096.size a := fun v1329 k0_hw190 => k0_hw190

def k0_chk191 (v1331 : IVec S16 32) : Prop :=
  (∀ a x, ((![v1331] : Fin 1 → IVec S16 32) a x).toNat < S4096.size a)
theorem k0_idx191_inb : ∀ (v1331 : IVec S16 32) (k0_hw191 : k0_chk191 v1331), ∀ a x, ((![v1331] : Fin 1 → IVec S16 32) a x).toNat < S4096.size a := fun v1331 k0_hw191 => k0_hw191

def k0_chk192 (v1333 : IVec S16 32) : Prop :=
  (∀ a x, ((![v1333] : Fin 1 → IVec S16 32) a x).toNat < S4096.size a)
theorem k0_idx192_inb : ∀ (v1333 : IVec S16 32) (k0_hw192 : k0_chk192 v1333), ∀ a x, ((![v1333] : Fin 1 → IVec S16 32) a x).toNat < S4096.size a := fun v1333 k0_hw192 => k0_hw192
def k0_off11 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_781 : BitVec 32 := 512#32
  let v1334 : BitVec 32 := Scalar.muli v361 c512_i32_781
  let c96_i32 : BitVec 32 := 96#32
  let v1335 : BitVec 32 := Scalar.addi v1334 c96_i32
  let v1336 : Index := Scalar.indexCast v1335
  ![v1336.toNat]

def k0_chk193 (v1337 : IVec S16 32) : Prop :=
  (∀ a x, ((![v1337] : Fin 1 → IVec S16 32) a x).toNat < S4096.size a)
theorem k0_idx193_inb : ∀ (v1337 : IVec S16 32) (k0_hw193 : k0_chk193 v1337), ∀ a x, ((![v1337] : Fin 1 → IVec S16 32) a x).toNat < S4096.size a := fun v1337 k0_hw193 => k0_hw193

def k0_chk194 (v1354 : IVec S16 32) : Prop :=
  (∀ a x, ((![v1354] : Fin 1 → IVec S16 32) a x).toNat < S4096.size a)
theorem k0_idx194_inb : ∀ (v1354 : IVec S16 32) (k0_hw194 : k0_chk194 v1354), ∀ a x, ((![v1354] : Fin 1 → IVec S16 32) a x).toNat < S4096.size a := fun v1354 k0_hw194 => k0_hw194

def k0_chk195 (v1359 : IVec S16 32) : Prop :=
  (∀ a x, ((![v1359] : Fin 1 → IVec S16 32) a x).toNat < S4096.size a)
theorem k0_idx195_inb : ∀ (v1359 : IVec S16 32) (k0_hw195 : k0_chk195 v1359), ∀ a x, ((![v1359] : Fin 1 → IVec S16 32) a x).toNat < S4096.size a := fun v1359 k0_hw195 => k0_hw195

def k0_chk196 (v1364 : IVec S16 32) : Prop :=
  (∀ a x, ((![v1364] : Fin 1 → IVec S16 32) a x).toNat < S4096.size a)
theorem k0_idx196_inb : ∀ (v1364 : IVec S16 32) (k0_hw196 : k0_chk196 v1364), ∀ a x, ((![v1364] : Fin 1 → IVec S16 32) a x).toNat < S4096.size a := fun v1364 k0_hw196 => k0_hw196

def k0_chk197 (v1369 : IVec S16 32) : Prop :=
  (∀ a x, ((![v1369] : Fin 1 → IVec S16 32) a x).toNat < S4096.size a)
theorem k0_idx197_inb : ∀ (v1369 : IVec S16 32) (k0_hw197 : k0_chk197 v1369), ∀ a x, ((![v1369] : Fin 1 → IVec S16 32) a x).toNat < S4096.size a := fun v1369 k0_hw197 => k0_hw197

def k0_chk198 (v1374 : IVec S16 32) : Prop :=
  (∀ a x, ((![v1374] : Fin 1 → IVec S16 32) a x).toNat < S4096.size a)
theorem k0_idx198_inb : ∀ (v1374 : IVec S16 32) (k0_hw198 : k0_chk198 v1374), ∀ a x, ((![v1374] : Fin 1 → IVec S16 32) a x).toNat < S4096.size a := fun v1374 k0_hw198 => k0_hw198

def k0_chk199 (v1379 : IVec S16 32) : Prop :=
  (∀ a x, ((![v1379] : Fin 1 → IVec S16 32) a x).toNat < S4096.size a)
theorem k0_idx199_inb : ∀ (v1379 : IVec S16 32) (k0_hw199 : k0_chk199 v1379), ∀ a x, ((![v1379] : Fin 1 → IVec S16 32) a x).toNat < S4096.size a := fun v1379 k0_hw199 => k0_hw199

def k0_chk200 (v1384 : IVec S16 32) : Prop :=
  (∀ a x, ((![v1384] : Fin 1 → IVec S16 32) a x).toNat < S4096.size a)
theorem k0_idx200_inb : ∀ (v1384 : IVec S16 32) (k0_hw200 : k0_chk200 v1384), ∀ a x, ((![v1384] : Fin 1 → IVec S16 32) a x).toNat < S4096.size a := fun v1384 k0_hw200 => k0_hw200

def k0_chk201 (v1389 : IVec S16 32) : Prop :=
  (∀ a x, ((![v1389] : Fin 1 → IVec S16 32) a x).toNat < S4096.size a)
theorem k0_idx201_inb : ∀ (v1389 : IVec S16 32) (k0_hw201 : k0_chk201 v1389), ∀ a x, ((![v1389] : Fin 1 → IVec S16 32) a x).toNat < S4096.size a := fun v1389 k0_hw201 => k0_hw201

def k0_chk202 (v1394 : IVec S16 32) : Prop :=
  (∀ a x, ((![v1394] : Fin 1 → IVec S16 32) a x).toNat < S4096.size a)
theorem k0_idx202_inb : ∀ (v1394 : IVec S16 32) (k0_hw202 : k0_chk202 v1394), ∀ a x, ((![v1394] : Fin 1 → IVec S16 32) a x).toNat < S4096.size a := fun v1394 k0_hw202 => k0_hw202

def k0_chk203 (v1399 : IVec S16 32) : Prop :=
  (∀ a x, ((![v1399] : Fin 1 → IVec S16 32) a x).toNat < S4096.size a)
theorem k0_idx203_inb : ∀ (v1399 : IVec S16 32) (k0_hw203 : k0_chk203 v1399), ∀ a x, ((![v1399] : Fin 1 → IVec S16 32) a x).toNat < S4096.size a := fun v1399 k0_hw203 => k0_hw203

def k0_chk204 (v1404 : IVec S16 32) : Prop :=
  (∀ a x, ((![v1404] : Fin 1 → IVec S16 32) a x).toNat < S4096.size a)
theorem k0_idx204_inb : ∀ (v1404 : IVec S16 32) (k0_hw204 : k0_chk204 v1404), ∀ a x, ((![v1404] : Fin 1 → IVec S16 32) a x).toNat < S4096.size a := fun v1404 k0_hw204 => k0_hw204

def k0_chk205 (v1409 : IVec S16 32) : Prop :=
  (∀ a x, ((![v1409] : Fin 1 → IVec S16 32) a x).toNat < S4096.size a)
theorem k0_idx205_inb : ∀ (v1409 : IVec S16 32) (k0_hw205 : k0_chk205 v1409), ∀ a x, ((![v1409] : Fin 1 → IVec S16 32) a x).toNat < S4096.size a := fun v1409 k0_hw205 => k0_hw205

def k0_chk206 (v1414 : IVec S16 32) : Prop :=
  (∀ a x, ((![v1414] : Fin 1 → IVec S16 32) a x).toNat < S4096.size a)
theorem k0_idx206_inb : ∀ (v1414 : IVec S16 32) (k0_hw206 : k0_chk206 v1414), ∀ a x, ((![v1414] : Fin 1 → IVec S16 32) a x).toNat < S4096.size a := fun v1414 k0_hw206 => k0_hw206

def k0_chk207 (v1419 : IVec S16 32) : Prop :=
  (∀ a x, ((![v1419] : Fin 1 → IVec S16 32) a x).toNat < S4096.size a)
theorem k0_idx207_inb : ∀ (v1419 : IVec S16 32) (k0_hw207 : k0_chk207 v1419), ∀ a x, ((![v1419] : Fin 1 → IVec S16 32) a x).toNat < S4096.size a := fun v1419 k0_hw207 => k0_hw207

def k0_chk208 (v1424 : IVec S16 32) : Prop :=
  (∀ a x, ((![v1424] : Fin 1 → IVec S16 32) a x).toNat < S4096.size a)
theorem k0_idx208_inb : ∀ (v1424 : IVec S16 32) (k0_hw208 : k0_chk208 v1424), ∀ a x, ((![v1424] : Fin 1 → IVec S16 32) a x).toNat < S4096.size a := fun v1424 k0_hw208 => k0_hw208

def k0_chk209 (v1429 : IVec S16 32) : Prop :=
  (∀ a x, ((![v1429] : Fin 1 → IVec S16 32) a x).toNat < S4096.size a)
theorem k0_idx209_inb : ∀ (v1429 : IVec S16 32) (k0_hw209 : k0_chk209 v1429), ∀ a x, ((![v1429] : Fin 1 → IVec S16 32) a x).toNat < S4096.size a := fun v1429 k0_hw209 => k0_hw209

def k0_chk210 (v1434 : IVec S16 32) : Prop :=
  (∀ a x, ((![v1434] : Fin 1 → IVec S16 32) a x).toNat < S4096.size a)
theorem k0_idx210_inb : ∀ (v1434 : IVec S16 32) (k0_hw210 : k0_chk210 v1434), ∀ a x, ((![v1434] : Fin 1 → IVec S16 32) a x).toNat < S4096.size a := fun v1434 k0_hw210 => k0_hw210

def k0_chk211 (v1439 : IVec S16 32) : Prop :=
  (∀ a x, ((![v1439] : Fin 1 → IVec S16 32) a x).toNat < S4096.size a)
theorem k0_idx211_inb : ∀ (v1439 : IVec S16 32) (k0_hw211 : k0_chk211 v1439), ∀ a x, ((![v1439] : Fin 1 → IVec S16 32) a x).toNat < S4096.size a := fun v1439 k0_hw211 => k0_hw211

def k0_chk212 (v1444 : IVec S16 32) : Prop :=
  (∀ a x, ((![v1444] : Fin 1 → IVec S16 32) a x).toNat < S4096.size a)
theorem k0_idx212_inb : ∀ (v1444 : IVec S16 32) (k0_hw212 : k0_chk212 v1444), ∀ a x, ((![v1444] : Fin 1 → IVec S16 32) a x).toNat < S4096.size a := fun v1444 k0_hw212 => k0_hw212

def k0_chk213 (v1449 : IVec S16 32) : Prop :=
  (∀ a x, ((![v1449] : Fin 1 → IVec S16 32) a x).toNat < S4096.size a)
theorem k0_idx213_inb : ∀ (v1449 : IVec S16 32) (k0_hw213 : k0_chk213 v1449), ∀ a x, ((![v1449] : Fin 1 → IVec S16 32) a x).toNat < S4096.size a := fun v1449 k0_hw213 => k0_hw213

def k0_chk214 (v1454 : IVec S16 32) : Prop :=
  (∀ a x, ((![v1454] : Fin 1 → IVec S16 32) a x).toNat < S4096.size a)
theorem k0_idx214_inb : ∀ (v1454 : IVec S16 32) (k0_hw214 : k0_chk214 v1454), ∀ a x, ((![v1454] : Fin 1 → IVec S16 32) a x).toNat < S4096.size a := fun v1454 k0_hw214 => k0_hw214

def k0_chk215 (v1459 : IVec S16 32) : Prop :=
  (∀ a x, ((![v1459] : Fin 1 → IVec S16 32) a x).toNat < S4096.size a)
theorem k0_idx215_inb : ∀ (v1459 : IVec S16 32) (k0_hw215 : k0_chk215 v1459), ∀ a x, ((![v1459] : Fin 1 → IVec S16 32) a x).toNat < S4096.size a := fun v1459 k0_hw215 => k0_hw215

def k0_chk216 (v1464 : IVec S16 32) : Prop :=
  (∀ a x, ((![v1464] : Fin 1 → IVec S16 32) a x).toNat < S4096.size a)
theorem k0_idx216_inb : ∀ (v1464 : IVec S16 32) (k0_hw216 : k0_chk216 v1464), ∀ a x, ((![v1464] : Fin 1 → IVec S16 32) a x).toNat < S4096.size a := fun v1464 k0_hw216 => k0_hw216

def k0_chk217 (v1469 : IVec S16 32) : Prop :=
  (∀ a x, ((![v1469] : Fin 1 → IVec S16 32) a x).toNat < S4096.size a)
theorem k0_idx217_inb : ∀ (v1469 : IVec S16 32) (k0_hw217 : k0_chk217 v1469), ∀ a x, ((![v1469] : Fin 1 → IVec S16 32) a x).toNat < S4096.size a := fun v1469 k0_hw217 => k0_hw217

def k0_chk218 (v1474 : IVec S16 32) : Prop :=
  (∀ a x, ((![v1474] : Fin 1 → IVec S16 32) a x).toNat < S4096.size a)
theorem k0_idx218_inb : ∀ (v1474 : IVec S16 32) (k0_hw218 : k0_chk218 v1474), ∀ a x, ((![v1474] : Fin 1 → IVec S16 32) a x).toNat < S4096.size a := fun v1474 k0_hw218 => k0_hw218

def k0_chk219 (v1479 : IVec S16 32) : Prop :=
  (∀ a x, ((![v1479] : Fin 1 → IVec S16 32) a x).toNat < S4096.size a)
theorem k0_idx219_inb : ∀ (v1479 : IVec S16 32) (k0_hw219 : k0_chk219 v1479), ∀ a x, ((![v1479] : Fin 1 → IVec S16 32) a x).toNat < S4096.size a := fun v1479 k0_hw219 => k0_hw219

def k0_chk220 (v1484 : IVec S16 32) : Prop :=
  (∀ a x, ((![v1484] : Fin 1 → IVec S16 32) a x).toNat < S4096.size a)
theorem k0_idx220_inb : ∀ (v1484 : IVec S16 32) (k0_hw220 : k0_chk220 v1484), ∀ a x, ((![v1484] : Fin 1 → IVec S16 32) a x).toNat < S4096.size a := fun v1484 k0_hw220 => k0_hw220

def k0_chk221 (v1489 : IVec S16 32) : Prop :=
  (∀ a x, ((![v1489] : Fin 1 → IVec S16 32) a x).toNat < S4096.size a)
theorem k0_idx221_inb : ∀ (v1489 : IVec S16 32) (k0_hw221 : k0_chk221 v1489), ∀ a x, ((![v1489] : Fin 1 → IVec S16 32) a x).toNat < S4096.size a := fun v1489 k0_hw221 => k0_hw221

def k0_chk222 (v1491 : IVec S16 32) : Prop :=
  (∀ a x, ((![v1491] : Fin 1 → IVec S16 32) a x).toNat < S4096.size a)
theorem k0_idx222_inb : ∀ (v1491 : IVec S16 32) (k0_hw222 : k0_chk222 v1491), ∀ a x, ((![v1491] : Fin 1 → IVec S16 32) a x).toNat < S4096.size a := fun v1491 k0_hw222 => k0_hw222

def k0_chk223 (v1493 : IVec S16 32) : Prop :=
  (∀ a x, ((![v1493] : Fin 1 → IVec S16 32) a x).toNat < S4096.size a)
theorem k0_idx223_inb : ∀ (v1493 : IVec S16 32) (k0_hw223 : k0_chk223 v1493), ∀ a x, ((![v1493] : Fin 1 → IVec S16 32) a x).toNat < S4096.size a := fun v1493 k0_hw223 => k0_hw223

def k0_chk224 (v1495 : IVec S16 32) : Prop :=
  (∀ a x, ((![v1495] : Fin 1 → IVec S16 32) a x).toNat < S4096.size a)
theorem k0_idx224_inb : ∀ (v1495 : IVec S16 32) (k0_hw224 : k0_chk224 v1495), ∀ a x, ((![v1495] : Fin 1 → IVec S16 32) a x).toNat < S4096.size a := fun v1495 k0_hw224 => k0_hw224
def k0_off12 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_909 : BitVec 32 := 512#32
  let v1496 : BitVec 32 := Scalar.muli v361 c512_i32_909
  let c112_i32 : BitVec 32 := 112#32
  let v1497 : BitVec 32 := Scalar.addi v1496 c112_i32
  let v1498 : Index := Scalar.indexCast v1497
  ![v1498.toNat]

def k0_chk225 (v1499 : IVec S16 32) : Prop :=
  (∀ a x, ((![v1499] : Fin 1 → IVec S16 32) a x).toNat < S4096.size a)
theorem k0_idx225_inb : ∀ (v1499 : IVec S16 32) (k0_hw225 : k0_chk225 v1499), ∀ a x, ((![v1499] : Fin 1 → IVec S16 32) a x).toNat < S4096.size a := fun v1499 k0_hw225 => k0_hw225

def k0_chk226 (v1516 : IVec S16 32) : Prop :=
  (∀ a x, ((![v1516] : Fin 1 → IVec S16 32) a x).toNat < S4096.size a)
theorem k0_idx226_inb : ∀ (v1516 : IVec S16 32) (k0_hw226 : k0_chk226 v1516), ∀ a x, ((![v1516] : Fin 1 → IVec S16 32) a x).toNat < S4096.size a := fun v1516 k0_hw226 => k0_hw226

def k0_chk227 (v1521 : IVec S16 32) : Prop :=
  (∀ a x, ((![v1521] : Fin 1 → IVec S16 32) a x).toNat < S4096.size a)
theorem k0_idx227_inb : ∀ (v1521 : IVec S16 32) (k0_hw227 : k0_chk227 v1521), ∀ a x, ((![v1521] : Fin 1 → IVec S16 32) a x).toNat < S4096.size a := fun v1521 k0_hw227 => k0_hw227

def k0_chk228 (v1526 : IVec S16 32) : Prop :=
  (∀ a x, ((![v1526] : Fin 1 → IVec S16 32) a x).toNat < S4096.size a)
theorem k0_idx228_inb : ∀ (v1526 : IVec S16 32) (k0_hw228 : k0_chk228 v1526), ∀ a x, ((![v1526] : Fin 1 → IVec S16 32) a x).toNat < S4096.size a := fun v1526 k0_hw228 => k0_hw228

def k0_chk229 (v1531 : IVec S16 32) : Prop :=
  (∀ a x, ((![v1531] : Fin 1 → IVec S16 32) a x).toNat < S4096.size a)
theorem k0_idx229_inb : ∀ (v1531 : IVec S16 32) (k0_hw229 : k0_chk229 v1531), ∀ a x, ((![v1531] : Fin 1 → IVec S16 32) a x).toNat < S4096.size a := fun v1531 k0_hw229 => k0_hw229

def k0_chk230 (v1536 : IVec S16 32) : Prop :=
  (∀ a x, ((![v1536] : Fin 1 → IVec S16 32) a x).toNat < S4096.size a)
theorem k0_idx230_inb : ∀ (v1536 : IVec S16 32) (k0_hw230 : k0_chk230 v1536), ∀ a x, ((![v1536] : Fin 1 → IVec S16 32) a x).toNat < S4096.size a := fun v1536 k0_hw230 => k0_hw230

def k0_chk231 (v1541 : IVec S16 32) : Prop :=
  (∀ a x, ((![v1541] : Fin 1 → IVec S16 32) a x).toNat < S4096.size a)
theorem k0_idx231_inb : ∀ (v1541 : IVec S16 32) (k0_hw231 : k0_chk231 v1541), ∀ a x, ((![v1541] : Fin 1 → IVec S16 32) a x).toNat < S4096.size a := fun v1541 k0_hw231 => k0_hw231

def k0_chk232 (v1546 : IVec S16 32) : Prop :=
  (∀ a x, ((![v1546] : Fin 1 → IVec S16 32) a x).toNat < S4096.size a)
theorem k0_idx232_inb : ∀ (v1546 : IVec S16 32) (k0_hw232 : k0_chk232 v1546), ∀ a x, ((![v1546] : Fin 1 → IVec S16 32) a x).toNat < S4096.size a := fun v1546 k0_hw232 => k0_hw232

def k0_chk233 (v1551 : IVec S16 32) : Prop :=
  (∀ a x, ((![v1551] : Fin 1 → IVec S16 32) a x).toNat < S4096.size a)
theorem k0_idx233_inb : ∀ (v1551 : IVec S16 32) (k0_hw233 : k0_chk233 v1551), ∀ a x, ((![v1551] : Fin 1 → IVec S16 32) a x).toNat < S4096.size a := fun v1551 k0_hw233 => k0_hw233

def k0_chk234 (v1556 : IVec S16 32) : Prop :=
  (∀ a x, ((![v1556] : Fin 1 → IVec S16 32) a x).toNat < S4096.size a)
theorem k0_idx234_inb : ∀ (v1556 : IVec S16 32) (k0_hw234 : k0_chk234 v1556), ∀ a x, ((![v1556] : Fin 1 → IVec S16 32) a x).toNat < S4096.size a := fun v1556 k0_hw234 => k0_hw234

def k0_chk235 (v1561 : IVec S16 32) : Prop :=
  (∀ a x, ((![v1561] : Fin 1 → IVec S16 32) a x).toNat < S4096.size a)
theorem k0_idx235_inb : ∀ (v1561 : IVec S16 32) (k0_hw235 : k0_chk235 v1561), ∀ a x, ((![v1561] : Fin 1 → IVec S16 32) a x).toNat < S4096.size a := fun v1561 k0_hw235 => k0_hw235

def k0_chk236 (v1566 : IVec S16 32) : Prop :=
  (∀ a x, ((![v1566] : Fin 1 → IVec S16 32) a x).toNat < S4096.size a)
theorem k0_idx236_inb : ∀ (v1566 : IVec S16 32) (k0_hw236 : k0_chk236 v1566), ∀ a x, ((![v1566] : Fin 1 → IVec S16 32) a x).toNat < S4096.size a := fun v1566 k0_hw236 => k0_hw236

def k0_chk237 (v1571 : IVec S16 32) : Prop :=
  (∀ a x, ((![v1571] : Fin 1 → IVec S16 32) a x).toNat < S4096.size a)
theorem k0_idx237_inb : ∀ (v1571 : IVec S16 32) (k0_hw237 : k0_chk237 v1571), ∀ a x, ((![v1571] : Fin 1 → IVec S16 32) a x).toNat < S4096.size a := fun v1571 k0_hw237 => k0_hw237

def k0_chk238 (v1576 : IVec S16 32) : Prop :=
  (∀ a x, ((![v1576] : Fin 1 → IVec S16 32) a x).toNat < S4096.size a)
theorem k0_idx238_inb : ∀ (v1576 : IVec S16 32) (k0_hw238 : k0_chk238 v1576), ∀ a x, ((![v1576] : Fin 1 → IVec S16 32) a x).toNat < S4096.size a := fun v1576 k0_hw238 => k0_hw238

def k0_chk239 (v1581 : IVec S16 32) : Prop :=
  (∀ a x, ((![v1581] : Fin 1 → IVec S16 32) a x).toNat < S4096.size a)
theorem k0_idx239_inb : ∀ (v1581 : IVec S16 32) (k0_hw239 : k0_chk239 v1581), ∀ a x, ((![v1581] : Fin 1 → IVec S16 32) a x).toNat < S4096.size a := fun v1581 k0_hw239 => k0_hw239

def k0_chk240 (v1586 : IVec S16 32) : Prop :=
  (∀ a x, ((![v1586] : Fin 1 → IVec S16 32) a x).toNat < S4096.size a)
theorem k0_idx240_inb : ∀ (v1586 : IVec S16 32) (k0_hw240 : k0_chk240 v1586), ∀ a x, ((![v1586] : Fin 1 → IVec S16 32) a x).toNat < S4096.size a := fun v1586 k0_hw240 => k0_hw240

def k0_chk241 (v1591 : IVec S16 32) : Prop :=
  (∀ a x, ((![v1591] : Fin 1 → IVec S16 32) a x).toNat < S4096.size a)
theorem k0_idx241_inb : ∀ (v1591 : IVec S16 32) (k0_hw241 : k0_chk241 v1591), ∀ a x, ((![v1591] : Fin 1 → IVec S16 32) a x).toNat < S4096.size a := fun v1591 k0_hw241 => k0_hw241

def k0_chk242 (v1596 : IVec S16 32) : Prop :=
  (∀ a x, ((![v1596] : Fin 1 → IVec S16 32) a x).toNat < S4096.size a)
theorem k0_idx242_inb : ∀ (v1596 : IVec S16 32) (k0_hw242 : k0_chk242 v1596), ∀ a x, ((![v1596] : Fin 1 → IVec S16 32) a x).toNat < S4096.size a := fun v1596 k0_hw242 => k0_hw242

def k0_chk243 (v1601 : IVec S16 32) : Prop :=
  (∀ a x, ((![v1601] : Fin 1 → IVec S16 32) a x).toNat < S4096.size a)
theorem k0_idx243_inb : ∀ (v1601 : IVec S16 32) (k0_hw243 : k0_chk243 v1601), ∀ a x, ((![v1601] : Fin 1 → IVec S16 32) a x).toNat < S4096.size a := fun v1601 k0_hw243 => k0_hw243

def k0_chk244 (v1606 : IVec S16 32) : Prop :=
  (∀ a x, ((![v1606] : Fin 1 → IVec S16 32) a x).toNat < S4096.size a)
theorem k0_idx244_inb : ∀ (v1606 : IVec S16 32) (k0_hw244 : k0_chk244 v1606), ∀ a x, ((![v1606] : Fin 1 → IVec S16 32) a x).toNat < S4096.size a := fun v1606 k0_hw244 => k0_hw244

def k0_chk245 (v1611 : IVec S16 32) : Prop :=
  (∀ a x, ((![v1611] : Fin 1 → IVec S16 32) a x).toNat < S4096.size a)
theorem k0_idx245_inb : ∀ (v1611 : IVec S16 32) (k0_hw245 : k0_chk245 v1611), ∀ a x, ((![v1611] : Fin 1 → IVec S16 32) a x).toNat < S4096.size a := fun v1611 k0_hw245 => k0_hw245

def k0_chk246 (v1616 : IVec S16 32) : Prop :=
  (∀ a x, ((![v1616] : Fin 1 → IVec S16 32) a x).toNat < S4096.size a)
theorem k0_idx246_inb : ∀ (v1616 : IVec S16 32) (k0_hw246 : k0_chk246 v1616), ∀ a x, ((![v1616] : Fin 1 → IVec S16 32) a x).toNat < S4096.size a := fun v1616 k0_hw246 => k0_hw246

def k0_chk247 (v1621 : IVec S16 32) : Prop :=
  (∀ a x, ((![v1621] : Fin 1 → IVec S16 32) a x).toNat < S4096.size a)
theorem k0_idx247_inb : ∀ (v1621 : IVec S16 32) (k0_hw247 : k0_chk247 v1621), ∀ a x, ((![v1621] : Fin 1 → IVec S16 32) a x).toNat < S4096.size a := fun v1621 k0_hw247 => k0_hw247

def k0_chk248 (v1626 : IVec S16 32) : Prop :=
  (∀ a x, ((![v1626] : Fin 1 → IVec S16 32) a x).toNat < S4096.size a)
theorem k0_idx248_inb : ∀ (v1626 : IVec S16 32) (k0_hw248 : k0_chk248 v1626), ∀ a x, ((![v1626] : Fin 1 → IVec S16 32) a x).toNat < S4096.size a := fun v1626 k0_hw248 => k0_hw248

def k0_chk249 (v1631 : IVec S16 32) : Prop :=
  (∀ a x, ((![v1631] : Fin 1 → IVec S16 32) a x).toNat < S4096.size a)
theorem k0_idx249_inb : ∀ (v1631 : IVec S16 32) (k0_hw249 : k0_chk249 v1631), ∀ a x, ((![v1631] : Fin 1 → IVec S16 32) a x).toNat < S4096.size a := fun v1631 k0_hw249 => k0_hw249

def k0_chk250 (v1636 : IVec S16 32) : Prop :=
  (∀ a x, ((![v1636] : Fin 1 → IVec S16 32) a x).toNat < S4096.size a)
theorem k0_idx250_inb : ∀ (v1636 : IVec S16 32) (k0_hw250 : k0_chk250 v1636), ∀ a x, ((![v1636] : Fin 1 → IVec S16 32) a x).toNat < S4096.size a := fun v1636 k0_hw250 => k0_hw250

def k0_chk251 (v1641 : IVec S16 32) : Prop :=
  (∀ a x, ((![v1641] : Fin 1 → IVec S16 32) a x).toNat < S4096.size a)
theorem k0_idx251_inb : ∀ (v1641 : IVec S16 32) (k0_hw251 : k0_chk251 v1641), ∀ a x, ((![v1641] : Fin 1 → IVec S16 32) a x).toNat < S4096.size a := fun v1641 k0_hw251 => k0_hw251

def k0_chk252 (v1646 : IVec S16 32) : Prop :=
  (∀ a x, ((![v1646] : Fin 1 → IVec S16 32) a x).toNat < S4096.size a)
theorem k0_idx252_inb : ∀ (v1646 : IVec S16 32) (k0_hw252 : k0_chk252 v1646), ∀ a x, ((![v1646] : Fin 1 → IVec S16 32) a x).toNat < S4096.size a := fun v1646 k0_hw252 => k0_hw252

def k0_chk253 (v1651 : IVec S16 32) : Prop :=
  (∀ a x, ((![v1651] : Fin 1 → IVec S16 32) a x).toNat < S4096.size a)
theorem k0_idx253_inb : ∀ (v1651 : IVec S16 32) (k0_hw253 : k0_chk253 v1651), ∀ a x, ((![v1651] : Fin 1 → IVec S16 32) a x).toNat < S4096.size a := fun v1651 k0_hw253 => k0_hw253

def k0_chk254 (v1653 : IVec S16 32) : Prop :=
  (∀ a x, ((![v1653] : Fin 1 → IVec S16 32) a x).toNat < S4096.size a)
theorem k0_idx254_inb : ∀ (v1653 : IVec S16 32) (k0_hw254 : k0_chk254 v1653), ∀ a x, ((![v1653] : Fin 1 → IVec S16 32) a x).toNat < S4096.size a := fun v1653 k0_hw254 => k0_hw254

def k0_chk255 (v1655 : IVec S16 32) : Prop :=
  (∀ a x, ((![v1655] : Fin 1 → IVec S16 32) a x).toNat < S4096.size a)
theorem k0_idx255_inb : ∀ (v1655 : IVec S16 32) (k0_hw255 : k0_chk255 v1655), ∀ a x, ((![v1655] : Fin 1 → IVec S16 32) a x).toNat < S4096.size a := fun v1655 k0_hw255 => k0_hw255

def k0_chk256 (v1657 : IVec S16 32) : Prop :=
  (∀ a x, ((![v1657] : Fin 1 → IVec S16 32) a x).toNat < S4096.size a)
theorem k0_idx256_inb : ∀ (v1657 : IVec S16 32) (k0_hw256 : k0_chk256 v1657), ∀ a x, ((![v1657] : Fin 1 → IVec S16 32) a x).toNat < S4096.size a := fun v1657 k0_hw256 => k0_hw256
def k0_off13 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1037 : BitVec 32 := 512#32
  let v1658 : BitVec 32 := Scalar.muli v361 c512_i32_1037
  let c128_i32_1038 : BitVec 32 := 128#32
  let v1659 : BitVec 32 := Scalar.addi v1658 c128_i32_1038
  let v1660 : Index := Scalar.indexCast v1659
  ![v1660.toNat]

def k0_chk257 (v1661 : IVec S16 32) : Prop :=
  (∀ a x, ((![v1661] : Fin 1 → IVec S16 32) a x).toNat < S4096.size a)
theorem k0_idx257_inb : ∀ (v1661 : IVec S16 32) (k0_hw257 : k0_chk257 v1661), ∀ a x, ((![v1661] : Fin 1 → IVec S16 32) a x).toNat < S4096.size a := fun v1661 k0_hw257 => k0_hw257

def k0_chk258 (v1678 : IVec S16 32) : Prop :=
  (∀ a x, ((![v1678] : Fin 1 → IVec S16 32) a x).toNat < S4096.size a)
theorem k0_idx258_inb : ∀ (v1678 : IVec S16 32) (k0_hw258 : k0_chk258 v1678), ∀ a x, ((![v1678] : Fin 1 → IVec S16 32) a x).toNat < S4096.size a := fun v1678 k0_hw258 => k0_hw258

def k0_chk259 (v1683 : IVec S16 32) : Prop :=
  (∀ a x, ((![v1683] : Fin 1 → IVec S16 32) a x).toNat < S4096.size a)
theorem k0_idx259_inb : ∀ (v1683 : IVec S16 32) (k0_hw259 : k0_chk259 v1683), ∀ a x, ((![v1683] : Fin 1 → IVec S16 32) a x).toNat < S4096.size a := fun v1683 k0_hw259 => k0_hw259

def k0_chk260 (v1688 : IVec S16 32) : Prop :=
  (∀ a x, ((![v1688] : Fin 1 → IVec S16 32) a x).toNat < S4096.size a)
theorem k0_idx260_inb : ∀ (v1688 : IVec S16 32) (k0_hw260 : k0_chk260 v1688), ∀ a x, ((![v1688] : Fin 1 → IVec S16 32) a x).toNat < S4096.size a := fun v1688 k0_hw260 => k0_hw260

def k0_chk261 (v1693 : IVec S16 32) : Prop :=
  (∀ a x, ((![v1693] : Fin 1 → IVec S16 32) a x).toNat < S4096.size a)
theorem k0_idx261_inb : ∀ (v1693 : IVec S16 32) (k0_hw261 : k0_chk261 v1693), ∀ a x, ((![v1693] : Fin 1 → IVec S16 32) a x).toNat < S4096.size a := fun v1693 k0_hw261 => k0_hw261

def k0_chk262 (v1698 : IVec S16 32) : Prop :=
  (∀ a x, ((![v1698] : Fin 1 → IVec S16 32) a x).toNat < S4096.size a)
theorem k0_idx262_inb : ∀ (v1698 : IVec S16 32) (k0_hw262 : k0_chk262 v1698), ∀ a x, ((![v1698] : Fin 1 → IVec S16 32) a x).toNat < S4096.size a := fun v1698 k0_hw262 => k0_hw262

def k0_chk263 (v1703 : IVec S16 32) : Prop :=
  (∀ a x, ((![v1703] : Fin 1 → IVec S16 32) a x).toNat < S4096.size a)
theorem k0_idx263_inb : ∀ (v1703 : IVec S16 32) (k0_hw263 : k0_chk263 v1703), ∀ a x, ((![v1703] : Fin 1 → IVec S16 32) a x).toNat < S4096.size a := fun v1703 k0_hw263 => k0_hw263

def k0_chk264 (v1708 : IVec S16 32) : Prop :=
  (∀ a x, ((![v1708] : Fin 1 → IVec S16 32) a x).toNat < S4096.size a)
theorem k0_idx264_inb : ∀ (v1708 : IVec S16 32) (k0_hw264 : k0_chk264 v1708), ∀ a x, ((![v1708] : Fin 1 → IVec S16 32) a x).toNat < S4096.size a := fun v1708 k0_hw264 => k0_hw264

def k0_chk265 (v1713 : IVec S16 32) : Prop :=
  (∀ a x, ((![v1713] : Fin 1 → IVec S16 32) a x).toNat < S4096.size a)
theorem k0_idx265_inb : ∀ (v1713 : IVec S16 32) (k0_hw265 : k0_chk265 v1713), ∀ a x, ((![v1713] : Fin 1 → IVec S16 32) a x).toNat < S4096.size a := fun v1713 k0_hw265 => k0_hw265

def k0_chk266 (v1718 : IVec S16 32) : Prop :=
  (∀ a x, ((![v1718] : Fin 1 → IVec S16 32) a x).toNat < S4096.size a)
theorem k0_idx266_inb : ∀ (v1718 : IVec S16 32) (k0_hw266 : k0_chk266 v1718), ∀ a x, ((![v1718] : Fin 1 → IVec S16 32) a x).toNat < S4096.size a := fun v1718 k0_hw266 => k0_hw266

def k0_chk267 (v1723 : IVec S16 32) : Prop :=
  (∀ a x, ((![v1723] : Fin 1 → IVec S16 32) a x).toNat < S4096.size a)
theorem k0_idx267_inb : ∀ (v1723 : IVec S16 32) (k0_hw267 : k0_chk267 v1723), ∀ a x, ((![v1723] : Fin 1 → IVec S16 32) a x).toNat < S4096.size a := fun v1723 k0_hw267 => k0_hw267

def k0_chk268 (v1728 : IVec S16 32) : Prop :=
  (∀ a x, ((![v1728] : Fin 1 → IVec S16 32) a x).toNat < S4096.size a)
theorem k0_idx268_inb : ∀ (v1728 : IVec S16 32) (k0_hw268 : k0_chk268 v1728), ∀ a x, ((![v1728] : Fin 1 → IVec S16 32) a x).toNat < S4096.size a := fun v1728 k0_hw268 => k0_hw268

def k0_chk269 (v1733 : IVec S16 32) : Prop :=
  (∀ a x, ((![v1733] : Fin 1 → IVec S16 32) a x).toNat < S4096.size a)
theorem k0_idx269_inb : ∀ (v1733 : IVec S16 32) (k0_hw269 : k0_chk269 v1733), ∀ a x, ((![v1733] : Fin 1 → IVec S16 32) a x).toNat < S4096.size a := fun v1733 k0_hw269 => k0_hw269

def k0_chk270 (v1738 : IVec S16 32) : Prop :=
  (∀ a x, ((![v1738] : Fin 1 → IVec S16 32) a x).toNat < S4096.size a)
theorem k0_idx270_inb : ∀ (v1738 : IVec S16 32) (k0_hw270 : k0_chk270 v1738), ∀ a x, ((![v1738] : Fin 1 → IVec S16 32) a x).toNat < S4096.size a := fun v1738 k0_hw270 => k0_hw270

def k0_chk271 (v1743 : IVec S16 32) : Prop :=
  (∀ a x, ((![v1743] : Fin 1 → IVec S16 32) a x).toNat < S4096.size a)
theorem k0_idx271_inb : ∀ (v1743 : IVec S16 32) (k0_hw271 : k0_chk271 v1743), ∀ a x, ((![v1743] : Fin 1 → IVec S16 32) a x).toNat < S4096.size a := fun v1743 k0_hw271 => k0_hw271

def k0_chk272 (v1748 : IVec S16 32) : Prop :=
  (∀ a x, ((![v1748] : Fin 1 → IVec S16 32) a x).toNat < S4096.size a)
theorem k0_idx272_inb : ∀ (v1748 : IVec S16 32) (k0_hw272 : k0_chk272 v1748), ∀ a x, ((![v1748] : Fin 1 → IVec S16 32) a x).toNat < S4096.size a := fun v1748 k0_hw272 => k0_hw272

def k0_chk273 (v1753 : IVec S16 32) : Prop :=
  (∀ a x, ((![v1753] : Fin 1 → IVec S16 32) a x).toNat < S4096.size a)
theorem k0_idx273_inb : ∀ (v1753 : IVec S16 32) (k0_hw273 : k0_chk273 v1753), ∀ a x, ((![v1753] : Fin 1 → IVec S16 32) a x).toNat < S4096.size a := fun v1753 k0_hw273 => k0_hw273

def k0_chk274 (v1758 : IVec S16 32) : Prop :=
  (∀ a x, ((![v1758] : Fin 1 → IVec S16 32) a x).toNat < S4096.size a)
theorem k0_idx274_inb : ∀ (v1758 : IVec S16 32) (k0_hw274 : k0_chk274 v1758), ∀ a x, ((![v1758] : Fin 1 → IVec S16 32) a x).toNat < S4096.size a := fun v1758 k0_hw274 => k0_hw274

def k0_chk275 (v1763 : IVec S16 32) : Prop :=
  (∀ a x, ((![v1763] : Fin 1 → IVec S16 32) a x).toNat < S4096.size a)
theorem k0_idx275_inb : ∀ (v1763 : IVec S16 32) (k0_hw275 : k0_chk275 v1763), ∀ a x, ((![v1763] : Fin 1 → IVec S16 32) a x).toNat < S4096.size a := fun v1763 k0_hw275 => k0_hw275

def k0_chk276 (v1768 : IVec S16 32) : Prop :=
  (∀ a x, ((![v1768] : Fin 1 → IVec S16 32) a x).toNat < S4096.size a)
theorem k0_idx276_inb : ∀ (v1768 : IVec S16 32) (k0_hw276 : k0_chk276 v1768), ∀ a x, ((![v1768] : Fin 1 → IVec S16 32) a x).toNat < S4096.size a := fun v1768 k0_hw276 => k0_hw276

def k0_chk277 (v1773 : IVec S16 32) : Prop :=
  (∀ a x, ((![v1773] : Fin 1 → IVec S16 32) a x).toNat < S4096.size a)
theorem k0_idx277_inb : ∀ (v1773 : IVec S16 32) (k0_hw277 : k0_chk277 v1773), ∀ a x, ((![v1773] : Fin 1 → IVec S16 32) a x).toNat < S4096.size a := fun v1773 k0_hw277 => k0_hw277

def k0_chk278 (v1778 : IVec S16 32) : Prop :=
  (∀ a x, ((![v1778] : Fin 1 → IVec S16 32) a x).toNat < S4096.size a)
theorem k0_idx278_inb : ∀ (v1778 : IVec S16 32) (k0_hw278 : k0_chk278 v1778), ∀ a x, ((![v1778] : Fin 1 → IVec S16 32) a x).toNat < S4096.size a := fun v1778 k0_hw278 => k0_hw278

def k0_chk279 (v1783 : IVec S16 32) : Prop :=
  (∀ a x, ((![v1783] : Fin 1 → IVec S16 32) a x).toNat < S4096.size a)
theorem k0_idx279_inb : ∀ (v1783 : IVec S16 32) (k0_hw279 : k0_chk279 v1783), ∀ a x, ((![v1783] : Fin 1 → IVec S16 32) a x).toNat < S4096.size a := fun v1783 k0_hw279 => k0_hw279

def k0_chk280 (v1788 : IVec S16 32) : Prop :=
  (∀ a x, ((![v1788] : Fin 1 → IVec S16 32) a x).toNat < S4096.size a)
theorem k0_idx280_inb : ∀ (v1788 : IVec S16 32) (k0_hw280 : k0_chk280 v1788), ∀ a x, ((![v1788] : Fin 1 → IVec S16 32) a x).toNat < S4096.size a := fun v1788 k0_hw280 => k0_hw280

def k0_chk281 (v1793 : IVec S16 32) : Prop :=
  (∀ a x, ((![v1793] : Fin 1 → IVec S16 32) a x).toNat < S4096.size a)
theorem k0_idx281_inb : ∀ (v1793 : IVec S16 32) (k0_hw281 : k0_chk281 v1793), ∀ a x, ((![v1793] : Fin 1 → IVec S16 32) a x).toNat < S4096.size a := fun v1793 k0_hw281 => k0_hw281

def k0_chk282 (v1798 : IVec S16 32) : Prop :=
  (∀ a x, ((![v1798] : Fin 1 → IVec S16 32) a x).toNat < S4096.size a)
theorem k0_idx282_inb : ∀ (v1798 : IVec S16 32) (k0_hw282 : k0_chk282 v1798), ∀ a x, ((![v1798] : Fin 1 → IVec S16 32) a x).toNat < S4096.size a := fun v1798 k0_hw282 => k0_hw282

def k0_chk283 (v1803 : IVec S16 32) : Prop :=
  (∀ a x, ((![v1803] : Fin 1 → IVec S16 32) a x).toNat < S4096.size a)
theorem k0_idx283_inb : ∀ (v1803 : IVec S16 32) (k0_hw283 : k0_chk283 v1803), ∀ a x, ((![v1803] : Fin 1 → IVec S16 32) a x).toNat < S4096.size a := fun v1803 k0_hw283 => k0_hw283

def k0_chk284 (v1808 : IVec S16 32) : Prop :=
  (∀ a x, ((![v1808] : Fin 1 → IVec S16 32) a x).toNat < S4096.size a)
theorem k0_idx284_inb : ∀ (v1808 : IVec S16 32) (k0_hw284 : k0_chk284 v1808), ∀ a x, ((![v1808] : Fin 1 → IVec S16 32) a x).toNat < S4096.size a := fun v1808 k0_hw284 => k0_hw284

def k0_chk285 (v1813 : IVec S16 32) : Prop :=
  (∀ a x, ((![v1813] : Fin 1 → IVec S16 32) a x).toNat < S4096.size a)
theorem k0_idx285_inb : ∀ (v1813 : IVec S16 32) (k0_hw285 : k0_chk285 v1813), ∀ a x, ((![v1813] : Fin 1 → IVec S16 32) a x).toNat < S4096.size a := fun v1813 k0_hw285 => k0_hw285

def k0_chk286 (v1815 : IVec S16 32) : Prop :=
  (∀ a x, ((![v1815] : Fin 1 → IVec S16 32) a x).toNat < S4096.size a)
theorem k0_idx286_inb : ∀ (v1815 : IVec S16 32) (k0_hw286 : k0_chk286 v1815), ∀ a x, ((![v1815] : Fin 1 → IVec S16 32) a x).toNat < S4096.size a := fun v1815 k0_hw286 => k0_hw286

def k0_chk287 (v1817 : IVec S16 32) : Prop :=
  (∀ a x, ((![v1817] : Fin 1 → IVec S16 32) a x).toNat < S4096.size a)
theorem k0_idx287_inb : ∀ (v1817 : IVec S16 32) (k0_hw287 : k0_chk287 v1817), ∀ a x, ((![v1817] : Fin 1 → IVec S16 32) a x).toNat < S4096.size a := fun v1817 k0_hw287 => k0_hw287

def k0_chk288 (v1819 : IVec S16 32) : Prop :=
  (∀ a x, ((![v1819] : Fin 1 → IVec S16 32) a x).toNat < S4096.size a)
theorem k0_idx288_inb : ∀ (v1819 : IVec S16 32) (k0_hw288 : k0_chk288 v1819), ∀ a x, ((![v1819] : Fin 1 → IVec S16 32) a x).toNat < S4096.size a := fun v1819 k0_hw288 => k0_hw288
def k0_off14 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1166 : BitVec 32 := 512#32
  let v1820 : BitVec 32 := Scalar.muli v361 c512_i32_1166
  let c144_i32 : BitVec 32 := 144#32
  let v1821 : BitVec 32 := Scalar.addi v1820 c144_i32
  let v1822 : Index := Scalar.indexCast v1821
  ![v1822.toNat]

def k0_chk289 (v1823 : IVec S16 32) : Prop :=
  (∀ a x, ((![v1823] : Fin 1 → IVec S16 32) a x).toNat < S4096.size a)
theorem k0_idx289_inb : ∀ (v1823 : IVec S16 32) (k0_hw289 : k0_chk289 v1823), ∀ a x, ((![v1823] : Fin 1 → IVec S16 32) a x).toNat < S4096.size a := fun v1823 k0_hw289 => k0_hw289

def k0_chk290 (v1840 : IVec S16 32) : Prop :=
  (∀ a x, ((![v1840] : Fin 1 → IVec S16 32) a x).toNat < S4096.size a)
theorem k0_idx290_inb : ∀ (v1840 : IVec S16 32) (k0_hw290 : k0_chk290 v1840), ∀ a x, ((![v1840] : Fin 1 → IVec S16 32) a x).toNat < S4096.size a := fun v1840 k0_hw290 => k0_hw290

def k0_chk291 (v1845 : IVec S16 32) : Prop :=
  (∀ a x, ((![v1845] : Fin 1 → IVec S16 32) a x).toNat < S4096.size a)
theorem k0_idx291_inb : ∀ (v1845 : IVec S16 32) (k0_hw291 : k0_chk291 v1845), ∀ a x, ((![v1845] : Fin 1 → IVec S16 32) a x).toNat < S4096.size a := fun v1845 k0_hw291 => k0_hw291

def k0_chk292 (v1850 : IVec S16 32) : Prop :=
  (∀ a x, ((![v1850] : Fin 1 → IVec S16 32) a x).toNat < S4096.size a)
theorem k0_idx292_inb : ∀ (v1850 : IVec S16 32) (k0_hw292 : k0_chk292 v1850), ∀ a x, ((![v1850] : Fin 1 → IVec S16 32) a x).toNat < S4096.size a := fun v1850 k0_hw292 => k0_hw292

def k0_chk293 (v1855 : IVec S16 32) : Prop :=
  (∀ a x, ((![v1855] : Fin 1 → IVec S16 32) a x).toNat < S4096.size a)
theorem k0_idx293_inb : ∀ (v1855 : IVec S16 32) (k0_hw293 : k0_chk293 v1855), ∀ a x, ((![v1855] : Fin 1 → IVec S16 32) a x).toNat < S4096.size a := fun v1855 k0_hw293 => k0_hw293

def k0_chk294 (v1860 : IVec S16 32) : Prop :=
  (∀ a x, ((![v1860] : Fin 1 → IVec S16 32) a x).toNat < S4096.size a)
theorem k0_idx294_inb : ∀ (v1860 : IVec S16 32) (k0_hw294 : k0_chk294 v1860), ∀ a x, ((![v1860] : Fin 1 → IVec S16 32) a x).toNat < S4096.size a := fun v1860 k0_hw294 => k0_hw294

def k0_chk295 (v1865 : IVec S16 32) : Prop :=
  (∀ a x, ((![v1865] : Fin 1 → IVec S16 32) a x).toNat < S4096.size a)
theorem k0_idx295_inb : ∀ (v1865 : IVec S16 32) (k0_hw295 : k0_chk295 v1865), ∀ a x, ((![v1865] : Fin 1 → IVec S16 32) a x).toNat < S4096.size a := fun v1865 k0_hw295 => k0_hw295

def k0_chk296 (v1870 : IVec S16 32) : Prop :=
  (∀ a x, ((![v1870] : Fin 1 → IVec S16 32) a x).toNat < S4096.size a)
theorem k0_idx296_inb : ∀ (v1870 : IVec S16 32) (k0_hw296 : k0_chk296 v1870), ∀ a x, ((![v1870] : Fin 1 → IVec S16 32) a x).toNat < S4096.size a := fun v1870 k0_hw296 => k0_hw296

def k0_chk297 (v1875 : IVec S16 32) : Prop :=
  (∀ a x, ((![v1875] : Fin 1 → IVec S16 32) a x).toNat < S4096.size a)
theorem k0_idx297_inb : ∀ (v1875 : IVec S16 32) (k0_hw297 : k0_chk297 v1875), ∀ a x, ((![v1875] : Fin 1 → IVec S16 32) a x).toNat < S4096.size a := fun v1875 k0_hw297 => k0_hw297

def k0_chk298 (v1880 : IVec S16 32) : Prop :=
  (∀ a x, ((![v1880] : Fin 1 → IVec S16 32) a x).toNat < S4096.size a)
theorem k0_idx298_inb : ∀ (v1880 : IVec S16 32) (k0_hw298 : k0_chk298 v1880), ∀ a x, ((![v1880] : Fin 1 → IVec S16 32) a x).toNat < S4096.size a := fun v1880 k0_hw298 => k0_hw298

def k0_chk299 (v1885 : IVec S16 32) : Prop :=
  (∀ a x, ((![v1885] : Fin 1 → IVec S16 32) a x).toNat < S4096.size a)
theorem k0_idx299_inb : ∀ (v1885 : IVec S16 32) (k0_hw299 : k0_chk299 v1885), ∀ a x, ((![v1885] : Fin 1 → IVec S16 32) a x).toNat < S4096.size a := fun v1885 k0_hw299 => k0_hw299

def k0_chk300 (v1890 : IVec S16 32) : Prop :=
  (∀ a x, ((![v1890] : Fin 1 → IVec S16 32) a x).toNat < S4096.size a)
theorem k0_idx300_inb : ∀ (v1890 : IVec S16 32) (k0_hw300 : k0_chk300 v1890), ∀ a x, ((![v1890] : Fin 1 → IVec S16 32) a x).toNat < S4096.size a := fun v1890 k0_hw300 => k0_hw300

def k0_chk301 (v1895 : IVec S16 32) : Prop :=
  (∀ a x, ((![v1895] : Fin 1 → IVec S16 32) a x).toNat < S4096.size a)
theorem k0_idx301_inb : ∀ (v1895 : IVec S16 32) (k0_hw301 : k0_chk301 v1895), ∀ a x, ((![v1895] : Fin 1 → IVec S16 32) a x).toNat < S4096.size a := fun v1895 k0_hw301 => k0_hw301

def k0_chk302 (v1900 : IVec S16 32) : Prop :=
  (∀ a x, ((![v1900] : Fin 1 → IVec S16 32) a x).toNat < S4096.size a)
theorem k0_idx302_inb : ∀ (v1900 : IVec S16 32) (k0_hw302 : k0_chk302 v1900), ∀ a x, ((![v1900] : Fin 1 → IVec S16 32) a x).toNat < S4096.size a := fun v1900 k0_hw302 => k0_hw302

def k0_chk303 (v1905 : IVec S16 32) : Prop :=
  (∀ a x, ((![v1905] : Fin 1 → IVec S16 32) a x).toNat < S4096.size a)
theorem k0_idx303_inb : ∀ (v1905 : IVec S16 32) (k0_hw303 : k0_chk303 v1905), ∀ a x, ((![v1905] : Fin 1 → IVec S16 32) a x).toNat < S4096.size a := fun v1905 k0_hw303 => k0_hw303

def k0_chk304 (v1910 : IVec S16 32) : Prop :=
  (∀ a x, ((![v1910] : Fin 1 → IVec S16 32) a x).toNat < S4096.size a)
theorem k0_idx304_inb : ∀ (v1910 : IVec S16 32) (k0_hw304 : k0_chk304 v1910), ∀ a x, ((![v1910] : Fin 1 → IVec S16 32) a x).toNat < S4096.size a := fun v1910 k0_hw304 => k0_hw304

def k0_chk305 (v1915 : IVec S16 32) : Prop :=
  (∀ a x, ((![v1915] : Fin 1 → IVec S16 32) a x).toNat < S4096.size a)
theorem k0_idx305_inb : ∀ (v1915 : IVec S16 32) (k0_hw305 : k0_chk305 v1915), ∀ a x, ((![v1915] : Fin 1 → IVec S16 32) a x).toNat < S4096.size a := fun v1915 k0_hw305 => k0_hw305

def k0_chk306 (v1920 : IVec S16 32) : Prop :=
  (∀ a x, ((![v1920] : Fin 1 → IVec S16 32) a x).toNat < S4096.size a)
theorem k0_idx306_inb : ∀ (v1920 : IVec S16 32) (k0_hw306 : k0_chk306 v1920), ∀ a x, ((![v1920] : Fin 1 → IVec S16 32) a x).toNat < S4096.size a := fun v1920 k0_hw306 => k0_hw306

def k0_chk307 (v1925 : IVec S16 32) : Prop :=
  (∀ a x, ((![v1925] : Fin 1 → IVec S16 32) a x).toNat < S4096.size a)
theorem k0_idx307_inb : ∀ (v1925 : IVec S16 32) (k0_hw307 : k0_chk307 v1925), ∀ a x, ((![v1925] : Fin 1 → IVec S16 32) a x).toNat < S4096.size a := fun v1925 k0_hw307 => k0_hw307

def k0_chk308 (v1930 : IVec S16 32) : Prop :=
  (∀ a x, ((![v1930] : Fin 1 → IVec S16 32) a x).toNat < S4096.size a)
theorem k0_idx308_inb : ∀ (v1930 : IVec S16 32) (k0_hw308 : k0_chk308 v1930), ∀ a x, ((![v1930] : Fin 1 → IVec S16 32) a x).toNat < S4096.size a := fun v1930 k0_hw308 => k0_hw308

def k0_chk309 (v1935 : IVec S16 32) : Prop :=
  (∀ a x, ((![v1935] : Fin 1 → IVec S16 32) a x).toNat < S4096.size a)
theorem k0_idx309_inb : ∀ (v1935 : IVec S16 32) (k0_hw309 : k0_chk309 v1935), ∀ a x, ((![v1935] : Fin 1 → IVec S16 32) a x).toNat < S4096.size a := fun v1935 k0_hw309 => k0_hw309

def k0_chk310 (v1940 : IVec S16 32) : Prop :=
  (∀ a x, ((![v1940] : Fin 1 → IVec S16 32) a x).toNat < S4096.size a)
theorem k0_idx310_inb : ∀ (v1940 : IVec S16 32) (k0_hw310 : k0_chk310 v1940), ∀ a x, ((![v1940] : Fin 1 → IVec S16 32) a x).toNat < S4096.size a := fun v1940 k0_hw310 => k0_hw310

def k0_chk311 (v1945 : IVec S16 32) : Prop :=
  (∀ a x, ((![v1945] : Fin 1 → IVec S16 32) a x).toNat < S4096.size a)
theorem k0_idx311_inb : ∀ (v1945 : IVec S16 32) (k0_hw311 : k0_chk311 v1945), ∀ a x, ((![v1945] : Fin 1 → IVec S16 32) a x).toNat < S4096.size a := fun v1945 k0_hw311 => k0_hw311

def k0_chk312 (v1950 : IVec S16 32) : Prop :=
  (∀ a x, ((![v1950] : Fin 1 → IVec S16 32) a x).toNat < S4096.size a)
theorem k0_idx312_inb : ∀ (v1950 : IVec S16 32) (k0_hw312 : k0_chk312 v1950), ∀ a x, ((![v1950] : Fin 1 → IVec S16 32) a x).toNat < S4096.size a := fun v1950 k0_hw312 => k0_hw312

def k0_chk313 (v1955 : IVec S16 32) : Prop :=
  (∀ a x, ((![v1955] : Fin 1 → IVec S16 32) a x).toNat < S4096.size a)
theorem k0_idx313_inb : ∀ (v1955 : IVec S16 32) (k0_hw313 : k0_chk313 v1955), ∀ a x, ((![v1955] : Fin 1 → IVec S16 32) a x).toNat < S4096.size a := fun v1955 k0_hw313 => k0_hw313

def k0_chk314 (v1960 : IVec S16 32) : Prop :=
  (∀ a x, ((![v1960] : Fin 1 → IVec S16 32) a x).toNat < S4096.size a)
theorem k0_idx314_inb : ∀ (v1960 : IVec S16 32) (k0_hw314 : k0_chk314 v1960), ∀ a x, ((![v1960] : Fin 1 → IVec S16 32) a x).toNat < S4096.size a := fun v1960 k0_hw314 => k0_hw314

def k0_chk315 (v1965 : IVec S16 32) : Prop :=
  (∀ a x, ((![v1965] : Fin 1 → IVec S16 32) a x).toNat < S4096.size a)
theorem k0_idx315_inb : ∀ (v1965 : IVec S16 32) (k0_hw315 : k0_chk315 v1965), ∀ a x, ((![v1965] : Fin 1 → IVec S16 32) a x).toNat < S4096.size a := fun v1965 k0_hw315 => k0_hw315

def k0_chk316 (v1970 : IVec S16 32) : Prop :=
  (∀ a x, ((![v1970] : Fin 1 → IVec S16 32) a x).toNat < S4096.size a)
theorem k0_idx316_inb : ∀ (v1970 : IVec S16 32) (k0_hw316 : k0_chk316 v1970), ∀ a x, ((![v1970] : Fin 1 → IVec S16 32) a x).toNat < S4096.size a := fun v1970 k0_hw316 => k0_hw316

def k0_chk317 (v1975 : IVec S16 32) : Prop :=
  (∀ a x, ((![v1975] : Fin 1 → IVec S16 32) a x).toNat < S4096.size a)
theorem k0_idx317_inb : ∀ (v1975 : IVec S16 32) (k0_hw317 : k0_chk317 v1975), ∀ a x, ((![v1975] : Fin 1 → IVec S16 32) a x).toNat < S4096.size a := fun v1975 k0_hw317 => k0_hw317

def k0_chk318 (v1977 : IVec S16 32) : Prop :=
  (∀ a x, ((![v1977] : Fin 1 → IVec S16 32) a x).toNat < S4096.size a)
theorem k0_idx318_inb : ∀ (v1977 : IVec S16 32) (k0_hw318 : k0_chk318 v1977), ∀ a x, ((![v1977] : Fin 1 → IVec S16 32) a x).toNat < S4096.size a := fun v1977 k0_hw318 => k0_hw318

def k0_chk319 (v1979 : IVec S16 32) : Prop :=
  (∀ a x, ((![v1979] : Fin 1 → IVec S16 32) a x).toNat < S4096.size a)
theorem k0_idx319_inb : ∀ (v1979 : IVec S16 32) (k0_hw319 : k0_chk319 v1979), ∀ a x, ((![v1979] : Fin 1 → IVec S16 32) a x).toNat < S4096.size a := fun v1979 k0_hw319 => k0_hw319

def k0_chk320 (v1981 : IVec S16 32) : Prop :=
  (∀ a x, ((![v1981] : Fin 1 → IVec S16 32) a x).toNat < S4096.size a)
theorem k0_idx320_inb : ∀ (v1981 : IVec S16 32) (k0_hw320 : k0_chk320 v1981), ∀ a x, ((![v1981] : Fin 1 → IVec S16 32) a x).toNat < S4096.size a := fun v1981 k0_hw320 => k0_hw320
def k0_off15 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1294 : BitVec 32 := 512#32
  let v1982 : BitVec 32 := Scalar.muli v361 c512_i32_1294
  let c160_i32 : BitVec 32 := 160#32
  let v1983 : BitVec 32 := Scalar.addi v1982 c160_i32
  let v1984 : Index := Scalar.indexCast v1983
  ![v1984.toNat]

def k0_chk321 (v1985 : IVec S16 32) : Prop :=
  (∀ a x, ((![v1985] : Fin 1 → IVec S16 32) a x).toNat < S4096.size a)
theorem k0_idx321_inb : ∀ (v1985 : IVec S16 32) (k0_hw321 : k0_chk321 v1985), ∀ a x, ((![v1985] : Fin 1 → IVec S16 32) a x).toNat < S4096.size a := fun v1985 k0_hw321 => k0_hw321

def k0_chk322 (v2002 : IVec S16 32) : Prop :=
  (∀ a x, ((![v2002] : Fin 1 → IVec S16 32) a x).toNat < S4096.size a)
theorem k0_idx322_inb : ∀ (v2002 : IVec S16 32) (k0_hw322 : k0_chk322 v2002), ∀ a x, ((![v2002] : Fin 1 → IVec S16 32) a x).toNat < S4096.size a := fun v2002 k0_hw322 => k0_hw322

def k0_chk323 (v2007 : IVec S16 32) : Prop :=
  (∀ a x, ((![v2007] : Fin 1 → IVec S16 32) a x).toNat < S4096.size a)
theorem k0_idx323_inb : ∀ (v2007 : IVec S16 32) (k0_hw323 : k0_chk323 v2007), ∀ a x, ((![v2007] : Fin 1 → IVec S16 32) a x).toNat < S4096.size a := fun v2007 k0_hw323 => k0_hw323

def k0_chk324 (v2012 : IVec S16 32) : Prop :=
  (∀ a x, ((![v2012] : Fin 1 → IVec S16 32) a x).toNat < S4096.size a)
theorem k0_idx324_inb : ∀ (v2012 : IVec S16 32) (k0_hw324 : k0_chk324 v2012), ∀ a x, ((![v2012] : Fin 1 → IVec S16 32) a x).toNat < S4096.size a := fun v2012 k0_hw324 => k0_hw324

def k0_chk325 (v2017 : IVec S16 32) : Prop :=
  (∀ a x, ((![v2017] : Fin 1 → IVec S16 32) a x).toNat < S4096.size a)
theorem k0_idx325_inb : ∀ (v2017 : IVec S16 32) (k0_hw325 : k0_chk325 v2017), ∀ a x, ((![v2017] : Fin 1 → IVec S16 32) a x).toNat < S4096.size a := fun v2017 k0_hw325 => k0_hw325

def k0_chk326 (v2022 : IVec S16 32) : Prop :=
  (∀ a x, ((![v2022] : Fin 1 → IVec S16 32) a x).toNat < S4096.size a)
theorem k0_idx326_inb : ∀ (v2022 : IVec S16 32) (k0_hw326 : k0_chk326 v2022), ∀ a x, ((![v2022] : Fin 1 → IVec S16 32) a x).toNat < S4096.size a := fun v2022 k0_hw326 => k0_hw326

def k0_chk327 (v2027 : IVec S16 32) : Prop :=
  (∀ a x, ((![v2027] : Fin 1 → IVec S16 32) a x).toNat < S4096.size a)
theorem k0_idx327_inb : ∀ (v2027 : IVec S16 32) (k0_hw327 : k0_chk327 v2027), ∀ a x, ((![v2027] : Fin 1 → IVec S16 32) a x).toNat < S4096.size a := fun v2027 k0_hw327 => k0_hw327

def k0_chk328 (v2032 : IVec S16 32) : Prop :=
  (∀ a x, ((![v2032] : Fin 1 → IVec S16 32) a x).toNat < S4096.size a)
theorem k0_idx328_inb : ∀ (v2032 : IVec S16 32) (k0_hw328 : k0_chk328 v2032), ∀ a x, ((![v2032] : Fin 1 → IVec S16 32) a x).toNat < S4096.size a := fun v2032 k0_hw328 => k0_hw328

def k0_chk329 (v2037 : IVec S16 32) : Prop :=
  (∀ a x, ((![v2037] : Fin 1 → IVec S16 32) a x).toNat < S4096.size a)
theorem k0_idx329_inb : ∀ (v2037 : IVec S16 32) (k0_hw329 : k0_chk329 v2037), ∀ a x, ((![v2037] : Fin 1 → IVec S16 32) a x).toNat < S4096.size a := fun v2037 k0_hw329 => k0_hw329

def k0_chk330 (v2042 : IVec S16 32) : Prop :=
  (∀ a x, ((![v2042] : Fin 1 → IVec S16 32) a x).toNat < S4096.size a)
theorem k0_idx330_inb : ∀ (v2042 : IVec S16 32) (k0_hw330 : k0_chk330 v2042), ∀ a x, ((![v2042] : Fin 1 → IVec S16 32) a x).toNat < S4096.size a := fun v2042 k0_hw330 => k0_hw330

def k0_chk331 (v2047 : IVec S16 32) : Prop :=
  (∀ a x, ((![v2047] : Fin 1 → IVec S16 32) a x).toNat < S4096.size a)
theorem k0_idx331_inb : ∀ (v2047 : IVec S16 32) (k0_hw331 : k0_chk331 v2047), ∀ a x, ((![v2047] : Fin 1 → IVec S16 32) a x).toNat < S4096.size a := fun v2047 k0_hw331 => k0_hw331

def k0_chk332 (v2052 : IVec S16 32) : Prop :=
  (∀ a x, ((![v2052] : Fin 1 → IVec S16 32) a x).toNat < S4096.size a)
theorem k0_idx332_inb : ∀ (v2052 : IVec S16 32) (k0_hw332 : k0_chk332 v2052), ∀ a x, ((![v2052] : Fin 1 → IVec S16 32) a x).toNat < S4096.size a := fun v2052 k0_hw332 => k0_hw332

def k0_chk333 (v2057 : IVec S16 32) : Prop :=
  (∀ a x, ((![v2057] : Fin 1 → IVec S16 32) a x).toNat < S4096.size a)
theorem k0_idx333_inb : ∀ (v2057 : IVec S16 32) (k0_hw333 : k0_chk333 v2057), ∀ a x, ((![v2057] : Fin 1 → IVec S16 32) a x).toNat < S4096.size a := fun v2057 k0_hw333 => k0_hw333

def k0_chk334 (v2062 : IVec S16 32) : Prop :=
  (∀ a x, ((![v2062] : Fin 1 → IVec S16 32) a x).toNat < S4096.size a)
theorem k0_idx334_inb : ∀ (v2062 : IVec S16 32) (k0_hw334 : k0_chk334 v2062), ∀ a x, ((![v2062] : Fin 1 → IVec S16 32) a x).toNat < S4096.size a := fun v2062 k0_hw334 => k0_hw334

def k0_chk335 (v2067 : IVec S16 32) : Prop :=
  (∀ a x, ((![v2067] : Fin 1 → IVec S16 32) a x).toNat < S4096.size a)
theorem k0_idx335_inb : ∀ (v2067 : IVec S16 32) (k0_hw335 : k0_chk335 v2067), ∀ a x, ((![v2067] : Fin 1 → IVec S16 32) a x).toNat < S4096.size a := fun v2067 k0_hw335 => k0_hw335

def k0_chk336 (v2072 : IVec S16 32) : Prop :=
  (∀ a x, ((![v2072] : Fin 1 → IVec S16 32) a x).toNat < S4096.size a)
theorem k0_idx336_inb : ∀ (v2072 : IVec S16 32) (k0_hw336 : k0_chk336 v2072), ∀ a x, ((![v2072] : Fin 1 → IVec S16 32) a x).toNat < S4096.size a := fun v2072 k0_hw336 => k0_hw336

def k0_chk337 (v2077 : IVec S16 32) : Prop :=
  (∀ a x, ((![v2077] : Fin 1 → IVec S16 32) a x).toNat < S4096.size a)
theorem k0_idx337_inb : ∀ (v2077 : IVec S16 32) (k0_hw337 : k0_chk337 v2077), ∀ a x, ((![v2077] : Fin 1 → IVec S16 32) a x).toNat < S4096.size a := fun v2077 k0_hw337 => k0_hw337

def k0_chk338 (v2082 : IVec S16 32) : Prop :=
  (∀ a x, ((![v2082] : Fin 1 → IVec S16 32) a x).toNat < S4096.size a)
theorem k0_idx338_inb : ∀ (v2082 : IVec S16 32) (k0_hw338 : k0_chk338 v2082), ∀ a x, ((![v2082] : Fin 1 → IVec S16 32) a x).toNat < S4096.size a := fun v2082 k0_hw338 => k0_hw338

def k0_chk339 (v2087 : IVec S16 32) : Prop :=
  (∀ a x, ((![v2087] : Fin 1 → IVec S16 32) a x).toNat < S4096.size a)
theorem k0_idx339_inb : ∀ (v2087 : IVec S16 32) (k0_hw339 : k0_chk339 v2087), ∀ a x, ((![v2087] : Fin 1 → IVec S16 32) a x).toNat < S4096.size a := fun v2087 k0_hw339 => k0_hw339

def k0_chk340 (v2092 : IVec S16 32) : Prop :=
  (∀ a x, ((![v2092] : Fin 1 → IVec S16 32) a x).toNat < S4096.size a)
theorem k0_idx340_inb : ∀ (v2092 : IVec S16 32) (k0_hw340 : k0_chk340 v2092), ∀ a x, ((![v2092] : Fin 1 → IVec S16 32) a x).toNat < S4096.size a := fun v2092 k0_hw340 => k0_hw340

def k0_chk341 (v2097 : IVec S16 32) : Prop :=
  (∀ a x, ((![v2097] : Fin 1 → IVec S16 32) a x).toNat < S4096.size a)
theorem k0_idx341_inb : ∀ (v2097 : IVec S16 32) (k0_hw341 : k0_chk341 v2097), ∀ a x, ((![v2097] : Fin 1 → IVec S16 32) a x).toNat < S4096.size a := fun v2097 k0_hw341 => k0_hw341

def k0_chk342 (v2102 : IVec S16 32) : Prop :=
  (∀ a x, ((![v2102] : Fin 1 → IVec S16 32) a x).toNat < S4096.size a)
theorem k0_idx342_inb : ∀ (v2102 : IVec S16 32) (k0_hw342 : k0_chk342 v2102), ∀ a x, ((![v2102] : Fin 1 → IVec S16 32) a x).toNat < S4096.size a := fun v2102 k0_hw342 => k0_hw342

def k0_chk343 (v2107 : IVec S16 32) : Prop :=
  (∀ a x, ((![v2107] : Fin 1 → IVec S16 32) a x).toNat < S4096.size a)
theorem k0_idx343_inb : ∀ (v2107 : IVec S16 32) (k0_hw343 : k0_chk343 v2107), ∀ a x, ((![v2107] : Fin 1 → IVec S16 32) a x).toNat < S4096.size a := fun v2107 k0_hw343 => k0_hw343

def k0_chk344 (v2112 : IVec S16 32) : Prop :=
  (∀ a x, ((![v2112] : Fin 1 → IVec S16 32) a x).toNat < S4096.size a)
theorem k0_idx344_inb : ∀ (v2112 : IVec S16 32) (k0_hw344 : k0_chk344 v2112), ∀ a x, ((![v2112] : Fin 1 → IVec S16 32) a x).toNat < S4096.size a := fun v2112 k0_hw344 => k0_hw344

def k0_chk345 (v2117 : IVec S16 32) : Prop :=
  (∀ a x, ((![v2117] : Fin 1 → IVec S16 32) a x).toNat < S4096.size a)
theorem k0_idx345_inb : ∀ (v2117 : IVec S16 32) (k0_hw345 : k0_chk345 v2117), ∀ a x, ((![v2117] : Fin 1 → IVec S16 32) a x).toNat < S4096.size a := fun v2117 k0_hw345 => k0_hw345

def k0_chk346 (v2122 : IVec S16 32) : Prop :=
  (∀ a x, ((![v2122] : Fin 1 → IVec S16 32) a x).toNat < S4096.size a)
theorem k0_idx346_inb : ∀ (v2122 : IVec S16 32) (k0_hw346 : k0_chk346 v2122), ∀ a x, ((![v2122] : Fin 1 → IVec S16 32) a x).toNat < S4096.size a := fun v2122 k0_hw346 => k0_hw346

def k0_chk347 (v2127 : IVec S16 32) : Prop :=
  (∀ a x, ((![v2127] : Fin 1 → IVec S16 32) a x).toNat < S4096.size a)
theorem k0_idx347_inb : ∀ (v2127 : IVec S16 32) (k0_hw347 : k0_chk347 v2127), ∀ a x, ((![v2127] : Fin 1 → IVec S16 32) a x).toNat < S4096.size a := fun v2127 k0_hw347 => k0_hw347

def k0_chk348 (v2132 : IVec S16 32) : Prop :=
  (∀ a x, ((![v2132] : Fin 1 → IVec S16 32) a x).toNat < S4096.size a)
theorem k0_idx348_inb : ∀ (v2132 : IVec S16 32) (k0_hw348 : k0_chk348 v2132), ∀ a x, ((![v2132] : Fin 1 → IVec S16 32) a x).toNat < S4096.size a := fun v2132 k0_hw348 => k0_hw348

def k0_chk349 (v2137 : IVec S16 32) : Prop :=
  (∀ a x, ((![v2137] : Fin 1 → IVec S16 32) a x).toNat < S4096.size a)
theorem k0_idx349_inb : ∀ (v2137 : IVec S16 32) (k0_hw349 : k0_chk349 v2137), ∀ a x, ((![v2137] : Fin 1 → IVec S16 32) a x).toNat < S4096.size a := fun v2137 k0_hw349 => k0_hw349

def k0_chk350 (v2139 : IVec S16 32) : Prop :=
  (∀ a x, ((![v2139] : Fin 1 → IVec S16 32) a x).toNat < S4096.size a)
theorem k0_idx350_inb : ∀ (v2139 : IVec S16 32) (k0_hw350 : k0_chk350 v2139), ∀ a x, ((![v2139] : Fin 1 → IVec S16 32) a x).toNat < S4096.size a := fun v2139 k0_hw350 => k0_hw350

def k0_chk351 (v2141 : IVec S16 32) : Prop :=
  (∀ a x, ((![v2141] : Fin 1 → IVec S16 32) a x).toNat < S4096.size a)
theorem k0_idx351_inb : ∀ (v2141 : IVec S16 32) (k0_hw351 : k0_chk351 v2141), ∀ a x, ((![v2141] : Fin 1 → IVec S16 32) a x).toNat < S4096.size a := fun v2141 k0_hw351 => k0_hw351

def k0_chk352 (v2143 : IVec S16 32) : Prop :=
  (∀ a x, ((![v2143] : Fin 1 → IVec S16 32) a x).toNat < S4096.size a)
theorem k0_idx352_inb : ∀ (v2143 : IVec S16 32) (k0_hw352 : k0_chk352 v2143), ∀ a x, ((![v2143] : Fin 1 → IVec S16 32) a x).toNat < S4096.size a := fun v2143 k0_hw352 => k0_hw352
def k0_off16 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1422 : BitVec 32 := 512#32
  let v2144 : BitVec 32 := Scalar.muli v361 c512_i32_1422
  let c176_i32 : BitVec 32 := 176#32
  let v2145 : BitVec 32 := Scalar.addi v2144 c176_i32
  let v2146 : Index := Scalar.indexCast v2145
  ![v2146.toNat]

def k0_chk353 (v2147 : IVec S16 32) : Prop :=
  (∀ a x, ((![v2147] : Fin 1 → IVec S16 32) a x).toNat < S4096.size a)
theorem k0_idx353_inb : ∀ (v2147 : IVec S16 32) (k0_hw353 : k0_chk353 v2147), ∀ a x, ((![v2147] : Fin 1 → IVec S16 32) a x).toNat < S4096.size a := fun v2147 k0_hw353 => k0_hw353

def k0_chk354 (v2164 : IVec S16 32) : Prop :=
  (∀ a x, ((![v2164] : Fin 1 → IVec S16 32) a x).toNat < S4096.size a)
theorem k0_idx354_inb : ∀ (v2164 : IVec S16 32) (k0_hw354 : k0_chk354 v2164), ∀ a x, ((![v2164] : Fin 1 → IVec S16 32) a x).toNat < S4096.size a := fun v2164 k0_hw354 => k0_hw354

def k0_chk355 (v2169 : IVec S16 32) : Prop :=
  (∀ a x, ((![v2169] : Fin 1 → IVec S16 32) a x).toNat < S4096.size a)
theorem k0_idx355_inb : ∀ (v2169 : IVec S16 32) (k0_hw355 : k0_chk355 v2169), ∀ a x, ((![v2169] : Fin 1 → IVec S16 32) a x).toNat < S4096.size a := fun v2169 k0_hw355 => k0_hw355

def k0_chk356 (v2174 : IVec S16 32) : Prop :=
  (∀ a x, ((![v2174] : Fin 1 → IVec S16 32) a x).toNat < S4096.size a)
theorem k0_idx356_inb : ∀ (v2174 : IVec S16 32) (k0_hw356 : k0_chk356 v2174), ∀ a x, ((![v2174] : Fin 1 → IVec S16 32) a x).toNat < S4096.size a := fun v2174 k0_hw356 => k0_hw356

def k0_chk357 (v2179 : IVec S16 32) : Prop :=
  (∀ a x, ((![v2179] : Fin 1 → IVec S16 32) a x).toNat < S4096.size a)
theorem k0_idx357_inb : ∀ (v2179 : IVec S16 32) (k0_hw357 : k0_chk357 v2179), ∀ a x, ((![v2179] : Fin 1 → IVec S16 32) a x).toNat < S4096.size a := fun v2179 k0_hw357 => k0_hw357

def k0_chk358 (v2184 : IVec S16 32) : Prop :=
  (∀ a x, ((![v2184] : Fin 1 → IVec S16 32) a x).toNat < S4096.size a)
theorem k0_idx358_inb : ∀ (v2184 : IVec S16 32) (k0_hw358 : k0_chk358 v2184), ∀ a x, ((![v2184] : Fin 1 → IVec S16 32) a x).toNat < S4096.size a := fun v2184 k0_hw358 => k0_hw358

def k0_chk359 (v2189 : IVec S16 32) : Prop :=
  (∀ a x, ((![v2189] : Fin 1 → IVec S16 32) a x).toNat < S4096.size a)
theorem k0_idx359_inb : ∀ (v2189 : IVec S16 32) (k0_hw359 : k0_chk359 v2189), ∀ a x, ((![v2189] : Fin 1 → IVec S16 32) a x).toNat < S4096.size a := fun v2189 k0_hw359 => k0_hw359

def k0_chk360 (v2194 : IVec S16 32) : Prop :=
  (∀ a x, ((![v2194] : Fin 1 → IVec S16 32) a x).toNat < S4096.size a)
theorem k0_idx360_inb : ∀ (v2194 : IVec S16 32) (k0_hw360 : k0_chk360 v2194), ∀ a x, ((![v2194] : Fin 1 → IVec S16 32) a x).toNat < S4096.size a := fun v2194 k0_hw360 => k0_hw360

def k0_chk361 (v2199 : IVec S16 32) : Prop :=
  (∀ a x, ((![v2199] : Fin 1 → IVec S16 32) a x).toNat < S4096.size a)
theorem k0_idx361_inb : ∀ (v2199 : IVec S16 32) (k0_hw361 : k0_chk361 v2199), ∀ a x, ((![v2199] : Fin 1 → IVec S16 32) a x).toNat < S4096.size a := fun v2199 k0_hw361 => k0_hw361

def k0_chk362 (v2204 : IVec S16 32) : Prop :=
  (∀ a x, ((![v2204] : Fin 1 → IVec S16 32) a x).toNat < S4096.size a)
theorem k0_idx362_inb : ∀ (v2204 : IVec S16 32) (k0_hw362 : k0_chk362 v2204), ∀ a x, ((![v2204] : Fin 1 → IVec S16 32) a x).toNat < S4096.size a := fun v2204 k0_hw362 => k0_hw362

def k0_chk363 (v2209 : IVec S16 32) : Prop :=
  (∀ a x, ((![v2209] : Fin 1 → IVec S16 32) a x).toNat < S4096.size a)
theorem k0_idx363_inb : ∀ (v2209 : IVec S16 32) (k0_hw363 : k0_chk363 v2209), ∀ a x, ((![v2209] : Fin 1 → IVec S16 32) a x).toNat < S4096.size a := fun v2209 k0_hw363 => k0_hw363

def k0_chk364 (v2214 : IVec S16 32) : Prop :=
  (∀ a x, ((![v2214] : Fin 1 → IVec S16 32) a x).toNat < S4096.size a)
theorem k0_idx364_inb : ∀ (v2214 : IVec S16 32) (k0_hw364 : k0_chk364 v2214), ∀ a x, ((![v2214] : Fin 1 → IVec S16 32) a x).toNat < S4096.size a := fun v2214 k0_hw364 => k0_hw364

def k0_chk365 (v2219 : IVec S16 32) : Prop :=
  (∀ a x, ((![v2219] : Fin 1 → IVec S16 32) a x).toNat < S4096.size a)
theorem k0_idx365_inb : ∀ (v2219 : IVec S16 32) (k0_hw365 : k0_chk365 v2219), ∀ a x, ((![v2219] : Fin 1 → IVec S16 32) a x).toNat < S4096.size a := fun v2219 k0_hw365 => k0_hw365

def k0_chk366 (v2224 : IVec S16 32) : Prop :=
  (∀ a x, ((![v2224] : Fin 1 → IVec S16 32) a x).toNat < S4096.size a)
theorem k0_idx366_inb : ∀ (v2224 : IVec S16 32) (k0_hw366 : k0_chk366 v2224), ∀ a x, ((![v2224] : Fin 1 → IVec S16 32) a x).toNat < S4096.size a := fun v2224 k0_hw366 => k0_hw366

def k0_chk367 (v2229 : IVec S16 32) : Prop :=
  (∀ a x, ((![v2229] : Fin 1 → IVec S16 32) a x).toNat < S4096.size a)
theorem k0_idx367_inb : ∀ (v2229 : IVec S16 32) (k0_hw367 : k0_chk367 v2229), ∀ a x, ((![v2229] : Fin 1 → IVec S16 32) a x).toNat < S4096.size a := fun v2229 k0_hw367 => k0_hw367

def k0_chk368 (v2234 : IVec S16 32) : Prop :=
  (∀ a x, ((![v2234] : Fin 1 → IVec S16 32) a x).toNat < S4096.size a)
theorem k0_idx368_inb : ∀ (v2234 : IVec S16 32) (k0_hw368 : k0_chk368 v2234), ∀ a x, ((![v2234] : Fin 1 → IVec S16 32) a x).toNat < S4096.size a := fun v2234 k0_hw368 => k0_hw368

def k0_chk369 (v2239 : IVec S16 32) : Prop :=
  (∀ a x, ((![v2239] : Fin 1 → IVec S16 32) a x).toNat < S4096.size a)
theorem k0_idx369_inb : ∀ (v2239 : IVec S16 32) (k0_hw369 : k0_chk369 v2239), ∀ a x, ((![v2239] : Fin 1 → IVec S16 32) a x).toNat < S4096.size a := fun v2239 k0_hw369 => k0_hw369

def k0_chk370 (v2244 : IVec S16 32) : Prop :=
  (∀ a x, ((![v2244] : Fin 1 → IVec S16 32) a x).toNat < S4096.size a)
theorem k0_idx370_inb : ∀ (v2244 : IVec S16 32) (k0_hw370 : k0_chk370 v2244), ∀ a x, ((![v2244] : Fin 1 → IVec S16 32) a x).toNat < S4096.size a := fun v2244 k0_hw370 => k0_hw370

def k0_chk371 (v2249 : IVec S16 32) : Prop :=
  (∀ a x, ((![v2249] : Fin 1 → IVec S16 32) a x).toNat < S4096.size a)
theorem k0_idx371_inb : ∀ (v2249 : IVec S16 32) (k0_hw371 : k0_chk371 v2249), ∀ a x, ((![v2249] : Fin 1 → IVec S16 32) a x).toNat < S4096.size a := fun v2249 k0_hw371 => k0_hw371

def k0_chk372 (v2254 : IVec S16 32) : Prop :=
  (∀ a x, ((![v2254] : Fin 1 → IVec S16 32) a x).toNat < S4096.size a)
theorem k0_idx372_inb : ∀ (v2254 : IVec S16 32) (k0_hw372 : k0_chk372 v2254), ∀ a x, ((![v2254] : Fin 1 → IVec S16 32) a x).toNat < S4096.size a := fun v2254 k0_hw372 => k0_hw372

def k0_chk373 (v2259 : IVec S16 32) : Prop :=
  (∀ a x, ((![v2259] : Fin 1 → IVec S16 32) a x).toNat < S4096.size a)
theorem k0_idx373_inb : ∀ (v2259 : IVec S16 32) (k0_hw373 : k0_chk373 v2259), ∀ a x, ((![v2259] : Fin 1 → IVec S16 32) a x).toNat < S4096.size a := fun v2259 k0_hw373 => k0_hw373

def k0_chk374 (v2264 : IVec S16 32) : Prop :=
  (∀ a x, ((![v2264] : Fin 1 → IVec S16 32) a x).toNat < S4096.size a)
theorem k0_idx374_inb : ∀ (v2264 : IVec S16 32) (k0_hw374 : k0_chk374 v2264), ∀ a x, ((![v2264] : Fin 1 → IVec S16 32) a x).toNat < S4096.size a := fun v2264 k0_hw374 => k0_hw374

def k0_chk375 (v2269 : IVec S16 32) : Prop :=
  (∀ a x, ((![v2269] : Fin 1 → IVec S16 32) a x).toNat < S4096.size a)
theorem k0_idx375_inb : ∀ (v2269 : IVec S16 32) (k0_hw375 : k0_chk375 v2269), ∀ a x, ((![v2269] : Fin 1 → IVec S16 32) a x).toNat < S4096.size a := fun v2269 k0_hw375 => k0_hw375

def k0_chk376 (v2274 : IVec S16 32) : Prop :=
  (∀ a x, ((![v2274] : Fin 1 → IVec S16 32) a x).toNat < S4096.size a)
theorem k0_idx376_inb : ∀ (v2274 : IVec S16 32) (k0_hw376 : k0_chk376 v2274), ∀ a x, ((![v2274] : Fin 1 → IVec S16 32) a x).toNat < S4096.size a := fun v2274 k0_hw376 => k0_hw376

def k0_chk377 (v2279 : IVec S16 32) : Prop :=
  (∀ a x, ((![v2279] : Fin 1 → IVec S16 32) a x).toNat < S4096.size a)
theorem k0_idx377_inb : ∀ (v2279 : IVec S16 32) (k0_hw377 : k0_chk377 v2279), ∀ a x, ((![v2279] : Fin 1 → IVec S16 32) a x).toNat < S4096.size a := fun v2279 k0_hw377 => k0_hw377

def k0_chk378 (v2284 : IVec S16 32) : Prop :=
  (∀ a x, ((![v2284] : Fin 1 → IVec S16 32) a x).toNat < S4096.size a)
theorem k0_idx378_inb : ∀ (v2284 : IVec S16 32) (k0_hw378 : k0_chk378 v2284), ∀ a x, ((![v2284] : Fin 1 → IVec S16 32) a x).toNat < S4096.size a := fun v2284 k0_hw378 => k0_hw378

def k0_chk379 (v2289 : IVec S16 32) : Prop :=
  (∀ a x, ((![v2289] : Fin 1 → IVec S16 32) a x).toNat < S4096.size a)
theorem k0_idx379_inb : ∀ (v2289 : IVec S16 32) (k0_hw379 : k0_chk379 v2289), ∀ a x, ((![v2289] : Fin 1 → IVec S16 32) a x).toNat < S4096.size a := fun v2289 k0_hw379 => k0_hw379

def k0_chk380 (v2294 : IVec S16 32) : Prop :=
  (∀ a x, ((![v2294] : Fin 1 → IVec S16 32) a x).toNat < S4096.size a)
theorem k0_idx380_inb : ∀ (v2294 : IVec S16 32) (k0_hw380 : k0_chk380 v2294), ∀ a x, ((![v2294] : Fin 1 → IVec S16 32) a x).toNat < S4096.size a := fun v2294 k0_hw380 => k0_hw380

def k0_chk381 (v2299 : IVec S16 32) : Prop :=
  (∀ a x, ((![v2299] : Fin 1 → IVec S16 32) a x).toNat < S4096.size a)
theorem k0_idx381_inb : ∀ (v2299 : IVec S16 32) (k0_hw381 : k0_chk381 v2299), ∀ a x, ((![v2299] : Fin 1 → IVec S16 32) a x).toNat < S4096.size a := fun v2299 k0_hw381 => k0_hw381

def k0_chk382 (v2301 : IVec S16 32) : Prop :=
  (∀ a x, ((![v2301] : Fin 1 → IVec S16 32) a x).toNat < S4096.size a)
theorem k0_idx382_inb : ∀ (v2301 : IVec S16 32) (k0_hw382 : k0_chk382 v2301), ∀ a x, ((![v2301] : Fin 1 → IVec S16 32) a x).toNat < S4096.size a := fun v2301 k0_hw382 => k0_hw382

def k0_chk383 (v2303 : IVec S16 32) : Prop :=
  (∀ a x, ((![v2303] : Fin 1 → IVec S16 32) a x).toNat < S4096.size a)
theorem k0_idx383_inb : ∀ (v2303 : IVec S16 32) (k0_hw383 : k0_chk383 v2303), ∀ a x, ((![v2303] : Fin 1 → IVec S16 32) a x).toNat < S4096.size a := fun v2303 k0_hw383 => k0_hw383

def k0_chk384 (v2305 : IVec S16 32) : Prop :=
  (∀ a x, ((![v2305] : Fin 1 → IVec S16 32) a x).toNat < S4096.size a)
theorem k0_idx384_inb : ∀ (v2305 : IVec S16 32) (k0_hw384 : k0_chk384 v2305), ∀ a x, ((![v2305] : Fin 1 → IVec S16 32) a x).toNat < S4096.size a := fun v2305 k0_hw384 => k0_hw384
def k0_off17 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1550 : BitVec 32 := 512#32
  let v2306 : BitVec 32 := Scalar.muli v361 c512_i32_1550
  let c192_i32 : BitVec 32 := 192#32
  let v2307 : BitVec 32 := Scalar.addi v2306 c192_i32
  let v2308 : Index := Scalar.indexCast v2307
  ![v2308.toNat]

def k0_chk385 (v2309 : IVec S16 32) : Prop :=
  (∀ a x, ((![v2309] : Fin 1 → IVec S16 32) a x).toNat < S4096.size a)
theorem k0_idx385_inb : ∀ (v2309 : IVec S16 32) (k0_hw385 : k0_chk385 v2309), ∀ a x, ((![v2309] : Fin 1 → IVec S16 32) a x).toNat < S4096.size a := fun v2309 k0_hw385 => k0_hw385

def k0_chk386 (v2326 : IVec S16 32) : Prop :=
  (∀ a x, ((![v2326] : Fin 1 → IVec S16 32) a x).toNat < S4096.size a)
theorem k0_idx386_inb : ∀ (v2326 : IVec S16 32) (k0_hw386 : k0_chk386 v2326), ∀ a x, ((![v2326] : Fin 1 → IVec S16 32) a x).toNat < S4096.size a := fun v2326 k0_hw386 => k0_hw386

def k0_chk387 (v2331 : IVec S16 32) : Prop :=
  (∀ a x, ((![v2331] : Fin 1 → IVec S16 32) a x).toNat < S4096.size a)
theorem k0_idx387_inb : ∀ (v2331 : IVec S16 32) (k0_hw387 : k0_chk387 v2331), ∀ a x, ((![v2331] : Fin 1 → IVec S16 32) a x).toNat < S4096.size a := fun v2331 k0_hw387 => k0_hw387

def k0_chk388 (v2336 : IVec S16 32) : Prop :=
  (∀ a x, ((![v2336] : Fin 1 → IVec S16 32) a x).toNat < S4096.size a)
theorem k0_idx388_inb : ∀ (v2336 : IVec S16 32) (k0_hw388 : k0_chk388 v2336), ∀ a x, ((![v2336] : Fin 1 → IVec S16 32) a x).toNat < S4096.size a := fun v2336 k0_hw388 => k0_hw388

def k0_chk389 (v2341 : IVec S16 32) : Prop :=
  (∀ a x, ((![v2341] : Fin 1 → IVec S16 32) a x).toNat < S4096.size a)
theorem k0_idx389_inb : ∀ (v2341 : IVec S16 32) (k0_hw389 : k0_chk389 v2341), ∀ a x, ((![v2341] : Fin 1 → IVec S16 32) a x).toNat < S4096.size a := fun v2341 k0_hw389 => k0_hw389

def k0_chk390 (v2346 : IVec S16 32) : Prop :=
  (∀ a x, ((![v2346] : Fin 1 → IVec S16 32) a x).toNat < S4096.size a)
theorem k0_idx390_inb : ∀ (v2346 : IVec S16 32) (k0_hw390 : k0_chk390 v2346), ∀ a x, ((![v2346] : Fin 1 → IVec S16 32) a x).toNat < S4096.size a := fun v2346 k0_hw390 => k0_hw390

def k0_chk391 (v2351 : IVec S16 32) : Prop :=
  (∀ a x, ((![v2351] : Fin 1 → IVec S16 32) a x).toNat < S4096.size a)
theorem k0_idx391_inb : ∀ (v2351 : IVec S16 32) (k0_hw391 : k0_chk391 v2351), ∀ a x, ((![v2351] : Fin 1 → IVec S16 32) a x).toNat < S4096.size a := fun v2351 k0_hw391 => k0_hw391

def k0_chk392 (v2356 : IVec S16 32) : Prop :=
  (∀ a x, ((![v2356] : Fin 1 → IVec S16 32) a x).toNat < S4096.size a)
theorem k0_idx392_inb : ∀ (v2356 : IVec S16 32) (k0_hw392 : k0_chk392 v2356), ∀ a x, ((![v2356] : Fin 1 → IVec S16 32) a x).toNat < S4096.size a := fun v2356 k0_hw392 => k0_hw392

def k0_chk393 (v2361 : IVec S16 32) : Prop :=
  (∀ a x, ((![v2361] : Fin 1 → IVec S16 32) a x).toNat < S4096.size a)
theorem k0_idx393_inb : ∀ (v2361 : IVec S16 32) (k0_hw393 : k0_chk393 v2361), ∀ a x, ((![v2361] : Fin 1 → IVec S16 32) a x).toNat < S4096.size a := fun v2361 k0_hw393 => k0_hw393

def k0_chk394 (v2366 : IVec S16 32) : Prop :=
  (∀ a x, ((![v2366] : Fin 1 → IVec S16 32) a x).toNat < S4096.size a)
theorem k0_idx394_inb : ∀ (v2366 : IVec S16 32) (k0_hw394 : k0_chk394 v2366), ∀ a x, ((![v2366] : Fin 1 → IVec S16 32) a x).toNat < S4096.size a := fun v2366 k0_hw394 => k0_hw394

def k0_chk395 (v2371 : IVec S16 32) : Prop :=
  (∀ a x, ((![v2371] : Fin 1 → IVec S16 32) a x).toNat < S4096.size a)
theorem k0_idx395_inb : ∀ (v2371 : IVec S16 32) (k0_hw395 : k0_chk395 v2371), ∀ a x, ((![v2371] : Fin 1 → IVec S16 32) a x).toNat < S4096.size a := fun v2371 k0_hw395 => k0_hw395

def k0_chk396 (v2376 : IVec S16 32) : Prop :=
  (∀ a x, ((![v2376] : Fin 1 → IVec S16 32) a x).toNat < S4096.size a)
theorem k0_idx396_inb : ∀ (v2376 : IVec S16 32) (k0_hw396 : k0_chk396 v2376), ∀ a x, ((![v2376] : Fin 1 → IVec S16 32) a x).toNat < S4096.size a := fun v2376 k0_hw396 => k0_hw396

def k0_chk397 (v2381 : IVec S16 32) : Prop :=
  (∀ a x, ((![v2381] : Fin 1 → IVec S16 32) a x).toNat < S4096.size a)
theorem k0_idx397_inb : ∀ (v2381 : IVec S16 32) (k0_hw397 : k0_chk397 v2381), ∀ a x, ((![v2381] : Fin 1 → IVec S16 32) a x).toNat < S4096.size a := fun v2381 k0_hw397 => k0_hw397

def k0_chk398 (v2386 : IVec S16 32) : Prop :=
  (∀ a x, ((![v2386] : Fin 1 → IVec S16 32) a x).toNat < S4096.size a)
theorem k0_idx398_inb : ∀ (v2386 : IVec S16 32) (k0_hw398 : k0_chk398 v2386), ∀ a x, ((![v2386] : Fin 1 → IVec S16 32) a x).toNat < S4096.size a := fun v2386 k0_hw398 => k0_hw398

def k0_chk399 (v2391 : IVec S16 32) : Prop :=
  (∀ a x, ((![v2391] : Fin 1 → IVec S16 32) a x).toNat < S4096.size a)
theorem k0_idx399_inb : ∀ (v2391 : IVec S16 32) (k0_hw399 : k0_chk399 v2391), ∀ a x, ((![v2391] : Fin 1 → IVec S16 32) a x).toNat < S4096.size a := fun v2391 k0_hw399 => k0_hw399

def k0_chk400 (v2396 : IVec S16 32) : Prop :=
  (∀ a x, ((![v2396] : Fin 1 → IVec S16 32) a x).toNat < S4096.size a)
theorem k0_idx400_inb : ∀ (v2396 : IVec S16 32) (k0_hw400 : k0_chk400 v2396), ∀ a x, ((![v2396] : Fin 1 → IVec S16 32) a x).toNat < S4096.size a := fun v2396 k0_hw400 => k0_hw400

def k0_chk401 (v2401 : IVec S16 32) : Prop :=
  (∀ a x, ((![v2401] : Fin 1 → IVec S16 32) a x).toNat < S4096.size a)
theorem k0_idx401_inb : ∀ (v2401 : IVec S16 32) (k0_hw401 : k0_chk401 v2401), ∀ a x, ((![v2401] : Fin 1 → IVec S16 32) a x).toNat < S4096.size a := fun v2401 k0_hw401 => k0_hw401

def k0_chk402 (v2406 : IVec S16 32) : Prop :=
  (∀ a x, ((![v2406] : Fin 1 → IVec S16 32) a x).toNat < S4096.size a)
theorem k0_idx402_inb : ∀ (v2406 : IVec S16 32) (k0_hw402 : k0_chk402 v2406), ∀ a x, ((![v2406] : Fin 1 → IVec S16 32) a x).toNat < S4096.size a := fun v2406 k0_hw402 => k0_hw402

def k0_chk403 (v2411 : IVec S16 32) : Prop :=
  (∀ a x, ((![v2411] : Fin 1 → IVec S16 32) a x).toNat < S4096.size a)
theorem k0_idx403_inb : ∀ (v2411 : IVec S16 32) (k0_hw403 : k0_chk403 v2411), ∀ a x, ((![v2411] : Fin 1 → IVec S16 32) a x).toNat < S4096.size a := fun v2411 k0_hw403 => k0_hw403

def k0_chk404 (v2416 : IVec S16 32) : Prop :=
  (∀ a x, ((![v2416] : Fin 1 → IVec S16 32) a x).toNat < S4096.size a)
theorem k0_idx404_inb : ∀ (v2416 : IVec S16 32) (k0_hw404 : k0_chk404 v2416), ∀ a x, ((![v2416] : Fin 1 → IVec S16 32) a x).toNat < S4096.size a := fun v2416 k0_hw404 => k0_hw404

def k0_chk405 (v2421 : IVec S16 32) : Prop :=
  (∀ a x, ((![v2421] : Fin 1 → IVec S16 32) a x).toNat < S4096.size a)
theorem k0_idx405_inb : ∀ (v2421 : IVec S16 32) (k0_hw405 : k0_chk405 v2421), ∀ a x, ((![v2421] : Fin 1 → IVec S16 32) a x).toNat < S4096.size a := fun v2421 k0_hw405 => k0_hw405

def k0_chk406 (v2426 : IVec S16 32) : Prop :=
  (∀ a x, ((![v2426] : Fin 1 → IVec S16 32) a x).toNat < S4096.size a)
theorem k0_idx406_inb : ∀ (v2426 : IVec S16 32) (k0_hw406 : k0_chk406 v2426), ∀ a x, ((![v2426] : Fin 1 → IVec S16 32) a x).toNat < S4096.size a := fun v2426 k0_hw406 => k0_hw406

def k0_chk407 (v2431 : IVec S16 32) : Prop :=
  (∀ a x, ((![v2431] : Fin 1 → IVec S16 32) a x).toNat < S4096.size a)
theorem k0_idx407_inb : ∀ (v2431 : IVec S16 32) (k0_hw407 : k0_chk407 v2431), ∀ a x, ((![v2431] : Fin 1 → IVec S16 32) a x).toNat < S4096.size a := fun v2431 k0_hw407 => k0_hw407

def k0_chk408 (v2436 : IVec S16 32) : Prop :=
  (∀ a x, ((![v2436] : Fin 1 → IVec S16 32) a x).toNat < S4096.size a)
theorem k0_idx408_inb : ∀ (v2436 : IVec S16 32) (k0_hw408 : k0_chk408 v2436), ∀ a x, ((![v2436] : Fin 1 → IVec S16 32) a x).toNat < S4096.size a := fun v2436 k0_hw408 => k0_hw408

def k0_chk409 (v2441 : IVec S16 32) : Prop :=
  (∀ a x, ((![v2441] : Fin 1 → IVec S16 32) a x).toNat < S4096.size a)
theorem k0_idx409_inb : ∀ (v2441 : IVec S16 32) (k0_hw409 : k0_chk409 v2441), ∀ a x, ((![v2441] : Fin 1 → IVec S16 32) a x).toNat < S4096.size a := fun v2441 k0_hw409 => k0_hw409

def k0_chk410 (v2446 : IVec S16 32) : Prop :=
  (∀ a x, ((![v2446] : Fin 1 → IVec S16 32) a x).toNat < S4096.size a)
theorem k0_idx410_inb : ∀ (v2446 : IVec S16 32) (k0_hw410 : k0_chk410 v2446), ∀ a x, ((![v2446] : Fin 1 → IVec S16 32) a x).toNat < S4096.size a := fun v2446 k0_hw410 => k0_hw410

def k0_chk411 (v2451 : IVec S16 32) : Prop :=
  (∀ a x, ((![v2451] : Fin 1 → IVec S16 32) a x).toNat < S4096.size a)
theorem k0_idx411_inb : ∀ (v2451 : IVec S16 32) (k0_hw411 : k0_chk411 v2451), ∀ a x, ((![v2451] : Fin 1 → IVec S16 32) a x).toNat < S4096.size a := fun v2451 k0_hw411 => k0_hw411

def k0_chk412 (v2456 : IVec S16 32) : Prop :=
  (∀ a x, ((![v2456] : Fin 1 → IVec S16 32) a x).toNat < S4096.size a)
theorem k0_idx412_inb : ∀ (v2456 : IVec S16 32) (k0_hw412 : k0_chk412 v2456), ∀ a x, ((![v2456] : Fin 1 → IVec S16 32) a x).toNat < S4096.size a := fun v2456 k0_hw412 => k0_hw412

def k0_chk413 (v2461 : IVec S16 32) : Prop :=
  (∀ a x, ((![v2461] : Fin 1 → IVec S16 32) a x).toNat < S4096.size a)
theorem k0_idx413_inb : ∀ (v2461 : IVec S16 32) (k0_hw413 : k0_chk413 v2461), ∀ a x, ((![v2461] : Fin 1 → IVec S16 32) a x).toNat < S4096.size a := fun v2461 k0_hw413 => k0_hw413

def k0_chk414 (v2463 : IVec S16 32) : Prop :=
  (∀ a x, ((![v2463] : Fin 1 → IVec S16 32) a x).toNat < S4096.size a)
theorem k0_idx414_inb : ∀ (v2463 : IVec S16 32) (k0_hw414 : k0_chk414 v2463), ∀ a x, ((![v2463] : Fin 1 → IVec S16 32) a x).toNat < S4096.size a := fun v2463 k0_hw414 => k0_hw414

def k0_chk415 (v2465 : IVec S16 32) : Prop :=
  (∀ a x, ((![v2465] : Fin 1 → IVec S16 32) a x).toNat < S4096.size a)
theorem k0_idx415_inb : ∀ (v2465 : IVec S16 32) (k0_hw415 : k0_chk415 v2465), ∀ a x, ((![v2465] : Fin 1 → IVec S16 32) a x).toNat < S4096.size a := fun v2465 k0_hw415 => k0_hw415

def k0_chk416 (v2467 : IVec S16 32) : Prop :=
  (∀ a x, ((![v2467] : Fin 1 → IVec S16 32) a x).toNat < S4096.size a)
theorem k0_idx416_inb : ∀ (v2467 : IVec S16 32) (k0_hw416 : k0_chk416 v2467), ∀ a x, ((![v2467] : Fin 1 → IVec S16 32) a x).toNat < S4096.size a := fun v2467 k0_hw416 => k0_hw416
def k0_off18 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1678 : BitVec 32 := 512#32
  let v2468 : BitVec 32 := Scalar.muli v361 c512_i32_1678
  let c208_i32 : BitVec 32 := 208#32
  let v2469 : BitVec 32 := Scalar.addi v2468 c208_i32
  let v2470 : Index := Scalar.indexCast v2469
  ![v2470.toNat]

def k0_chk417 (v2471 : IVec S16 32) : Prop :=
  (∀ a x, ((![v2471] : Fin 1 → IVec S16 32) a x).toNat < S4096.size a)
theorem k0_idx417_inb : ∀ (v2471 : IVec S16 32) (k0_hw417 : k0_chk417 v2471), ∀ a x, ((![v2471] : Fin 1 → IVec S16 32) a x).toNat < S4096.size a := fun v2471 k0_hw417 => k0_hw417

def k0_chk418 (v2488 : IVec S16 32) : Prop :=
  (∀ a x, ((![v2488] : Fin 1 → IVec S16 32) a x).toNat < S4096.size a)
theorem k0_idx418_inb : ∀ (v2488 : IVec S16 32) (k0_hw418 : k0_chk418 v2488), ∀ a x, ((![v2488] : Fin 1 → IVec S16 32) a x).toNat < S4096.size a := fun v2488 k0_hw418 => k0_hw418

def k0_chk419 (v2493 : IVec S16 32) : Prop :=
  (∀ a x, ((![v2493] : Fin 1 → IVec S16 32) a x).toNat < S4096.size a)
theorem k0_idx419_inb : ∀ (v2493 : IVec S16 32) (k0_hw419 : k0_chk419 v2493), ∀ a x, ((![v2493] : Fin 1 → IVec S16 32) a x).toNat < S4096.size a := fun v2493 k0_hw419 => k0_hw419

def k0_chk420 (v2498 : IVec S16 32) : Prop :=
  (∀ a x, ((![v2498] : Fin 1 → IVec S16 32) a x).toNat < S4096.size a)
theorem k0_idx420_inb : ∀ (v2498 : IVec S16 32) (k0_hw420 : k0_chk420 v2498), ∀ a x, ((![v2498] : Fin 1 → IVec S16 32) a x).toNat < S4096.size a := fun v2498 k0_hw420 => k0_hw420

def k0_chk421 (v2503 : IVec S16 32) : Prop :=
  (∀ a x, ((![v2503] : Fin 1 → IVec S16 32) a x).toNat < S4096.size a)
theorem k0_idx421_inb : ∀ (v2503 : IVec S16 32) (k0_hw421 : k0_chk421 v2503), ∀ a x, ((![v2503] : Fin 1 → IVec S16 32) a x).toNat < S4096.size a := fun v2503 k0_hw421 => k0_hw421

def k0_chk422 (v2508 : IVec S16 32) : Prop :=
  (∀ a x, ((![v2508] : Fin 1 → IVec S16 32) a x).toNat < S4096.size a)
theorem k0_idx422_inb : ∀ (v2508 : IVec S16 32) (k0_hw422 : k0_chk422 v2508), ∀ a x, ((![v2508] : Fin 1 → IVec S16 32) a x).toNat < S4096.size a := fun v2508 k0_hw422 => k0_hw422

def k0_chk423 (v2513 : IVec S16 32) : Prop :=
  (∀ a x, ((![v2513] : Fin 1 → IVec S16 32) a x).toNat < S4096.size a)
theorem k0_idx423_inb : ∀ (v2513 : IVec S16 32) (k0_hw423 : k0_chk423 v2513), ∀ a x, ((![v2513] : Fin 1 → IVec S16 32) a x).toNat < S4096.size a := fun v2513 k0_hw423 => k0_hw423

def k0_chk424 (v2518 : IVec S16 32) : Prop :=
  (∀ a x, ((![v2518] : Fin 1 → IVec S16 32) a x).toNat < S4096.size a)
theorem k0_idx424_inb : ∀ (v2518 : IVec S16 32) (k0_hw424 : k0_chk424 v2518), ∀ a x, ((![v2518] : Fin 1 → IVec S16 32) a x).toNat < S4096.size a := fun v2518 k0_hw424 => k0_hw424

def k0_chk425 (v2523 : IVec S16 32) : Prop :=
  (∀ a x, ((![v2523] : Fin 1 → IVec S16 32) a x).toNat < S4096.size a)
theorem k0_idx425_inb : ∀ (v2523 : IVec S16 32) (k0_hw425 : k0_chk425 v2523), ∀ a x, ((![v2523] : Fin 1 → IVec S16 32) a x).toNat < S4096.size a := fun v2523 k0_hw425 => k0_hw425

def k0_chk426 (v2528 : IVec S16 32) : Prop :=
  (∀ a x, ((![v2528] : Fin 1 → IVec S16 32) a x).toNat < S4096.size a)
theorem k0_idx426_inb : ∀ (v2528 : IVec S16 32) (k0_hw426 : k0_chk426 v2528), ∀ a x, ((![v2528] : Fin 1 → IVec S16 32) a x).toNat < S4096.size a := fun v2528 k0_hw426 => k0_hw426

def k0_chk427 (v2533 : IVec S16 32) : Prop :=
  (∀ a x, ((![v2533] : Fin 1 → IVec S16 32) a x).toNat < S4096.size a)
theorem k0_idx427_inb : ∀ (v2533 : IVec S16 32) (k0_hw427 : k0_chk427 v2533), ∀ a x, ((![v2533] : Fin 1 → IVec S16 32) a x).toNat < S4096.size a := fun v2533 k0_hw427 => k0_hw427

def k0_chk428 (v2538 : IVec S16 32) : Prop :=
  (∀ a x, ((![v2538] : Fin 1 → IVec S16 32) a x).toNat < S4096.size a)
theorem k0_idx428_inb : ∀ (v2538 : IVec S16 32) (k0_hw428 : k0_chk428 v2538), ∀ a x, ((![v2538] : Fin 1 → IVec S16 32) a x).toNat < S4096.size a := fun v2538 k0_hw428 => k0_hw428

def k0_chk429 (v2543 : IVec S16 32) : Prop :=
  (∀ a x, ((![v2543] : Fin 1 → IVec S16 32) a x).toNat < S4096.size a)
theorem k0_idx429_inb : ∀ (v2543 : IVec S16 32) (k0_hw429 : k0_chk429 v2543), ∀ a x, ((![v2543] : Fin 1 → IVec S16 32) a x).toNat < S4096.size a := fun v2543 k0_hw429 => k0_hw429

def k0_chk430 (v2548 : IVec S16 32) : Prop :=
  (∀ a x, ((![v2548] : Fin 1 → IVec S16 32) a x).toNat < S4096.size a)
theorem k0_idx430_inb : ∀ (v2548 : IVec S16 32) (k0_hw430 : k0_chk430 v2548), ∀ a x, ((![v2548] : Fin 1 → IVec S16 32) a x).toNat < S4096.size a := fun v2548 k0_hw430 => k0_hw430

def k0_chk431 (v2553 : IVec S16 32) : Prop :=
  (∀ a x, ((![v2553] : Fin 1 → IVec S16 32) a x).toNat < S4096.size a)
theorem k0_idx431_inb : ∀ (v2553 : IVec S16 32) (k0_hw431 : k0_chk431 v2553), ∀ a x, ((![v2553] : Fin 1 → IVec S16 32) a x).toNat < S4096.size a := fun v2553 k0_hw431 => k0_hw431

def k0_chk432 (v2558 : IVec S16 32) : Prop :=
  (∀ a x, ((![v2558] : Fin 1 → IVec S16 32) a x).toNat < S4096.size a)
theorem k0_idx432_inb : ∀ (v2558 : IVec S16 32) (k0_hw432 : k0_chk432 v2558), ∀ a x, ((![v2558] : Fin 1 → IVec S16 32) a x).toNat < S4096.size a := fun v2558 k0_hw432 => k0_hw432

def k0_chk433 (v2563 : IVec S16 32) : Prop :=
  (∀ a x, ((![v2563] : Fin 1 → IVec S16 32) a x).toNat < S4096.size a)
theorem k0_idx433_inb : ∀ (v2563 : IVec S16 32) (k0_hw433 : k0_chk433 v2563), ∀ a x, ((![v2563] : Fin 1 → IVec S16 32) a x).toNat < S4096.size a := fun v2563 k0_hw433 => k0_hw433

def k0_chk434 (v2568 : IVec S16 32) : Prop :=
  (∀ a x, ((![v2568] : Fin 1 → IVec S16 32) a x).toNat < S4096.size a)
theorem k0_idx434_inb : ∀ (v2568 : IVec S16 32) (k0_hw434 : k0_chk434 v2568), ∀ a x, ((![v2568] : Fin 1 → IVec S16 32) a x).toNat < S4096.size a := fun v2568 k0_hw434 => k0_hw434

def k0_chk435 (v2573 : IVec S16 32) : Prop :=
  (∀ a x, ((![v2573] : Fin 1 → IVec S16 32) a x).toNat < S4096.size a)
theorem k0_idx435_inb : ∀ (v2573 : IVec S16 32) (k0_hw435 : k0_chk435 v2573), ∀ a x, ((![v2573] : Fin 1 → IVec S16 32) a x).toNat < S4096.size a := fun v2573 k0_hw435 => k0_hw435

def k0_chk436 (v2578 : IVec S16 32) : Prop :=
  (∀ a x, ((![v2578] : Fin 1 → IVec S16 32) a x).toNat < S4096.size a)
theorem k0_idx436_inb : ∀ (v2578 : IVec S16 32) (k0_hw436 : k0_chk436 v2578), ∀ a x, ((![v2578] : Fin 1 → IVec S16 32) a x).toNat < S4096.size a := fun v2578 k0_hw436 => k0_hw436

def k0_chk437 (v2583 : IVec S16 32) : Prop :=
  (∀ a x, ((![v2583] : Fin 1 → IVec S16 32) a x).toNat < S4096.size a)
theorem k0_idx437_inb : ∀ (v2583 : IVec S16 32) (k0_hw437 : k0_chk437 v2583), ∀ a x, ((![v2583] : Fin 1 → IVec S16 32) a x).toNat < S4096.size a := fun v2583 k0_hw437 => k0_hw437

def k0_chk438 (v2588 : IVec S16 32) : Prop :=
  (∀ a x, ((![v2588] : Fin 1 → IVec S16 32) a x).toNat < S4096.size a)
theorem k0_idx438_inb : ∀ (v2588 : IVec S16 32) (k0_hw438 : k0_chk438 v2588), ∀ a x, ((![v2588] : Fin 1 → IVec S16 32) a x).toNat < S4096.size a := fun v2588 k0_hw438 => k0_hw438

def k0_chk439 (v2593 : IVec S16 32) : Prop :=
  (∀ a x, ((![v2593] : Fin 1 → IVec S16 32) a x).toNat < S4096.size a)
theorem k0_idx439_inb : ∀ (v2593 : IVec S16 32) (k0_hw439 : k0_chk439 v2593), ∀ a x, ((![v2593] : Fin 1 → IVec S16 32) a x).toNat < S4096.size a := fun v2593 k0_hw439 => k0_hw439

def k0_chk440 (v2598 : IVec S16 32) : Prop :=
  (∀ a x, ((![v2598] : Fin 1 → IVec S16 32) a x).toNat < S4096.size a)
theorem k0_idx440_inb : ∀ (v2598 : IVec S16 32) (k0_hw440 : k0_chk440 v2598), ∀ a x, ((![v2598] : Fin 1 → IVec S16 32) a x).toNat < S4096.size a := fun v2598 k0_hw440 => k0_hw440

def k0_chk441 (v2603 : IVec S16 32) : Prop :=
  (∀ a x, ((![v2603] : Fin 1 → IVec S16 32) a x).toNat < S4096.size a)
theorem k0_idx441_inb : ∀ (v2603 : IVec S16 32) (k0_hw441 : k0_chk441 v2603), ∀ a x, ((![v2603] : Fin 1 → IVec S16 32) a x).toNat < S4096.size a := fun v2603 k0_hw441 => k0_hw441

def k0_chk442 (v2608 : IVec S16 32) : Prop :=
  (∀ a x, ((![v2608] : Fin 1 → IVec S16 32) a x).toNat < S4096.size a)
theorem k0_idx442_inb : ∀ (v2608 : IVec S16 32) (k0_hw442 : k0_chk442 v2608), ∀ a x, ((![v2608] : Fin 1 → IVec S16 32) a x).toNat < S4096.size a := fun v2608 k0_hw442 => k0_hw442

def k0_chk443 (v2613 : IVec S16 32) : Prop :=
  (∀ a x, ((![v2613] : Fin 1 → IVec S16 32) a x).toNat < S4096.size a)
theorem k0_idx443_inb : ∀ (v2613 : IVec S16 32) (k0_hw443 : k0_chk443 v2613), ∀ a x, ((![v2613] : Fin 1 → IVec S16 32) a x).toNat < S4096.size a := fun v2613 k0_hw443 => k0_hw443

def k0_chk444 (v2618 : IVec S16 32) : Prop :=
  (∀ a x, ((![v2618] : Fin 1 → IVec S16 32) a x).toNat < S4096.size a)
theorem k0_idx444_inb : ∀ (v2618 : IVec S16 32) (k0_hw444 : k0_chk444 v2618), ∀ a x, ((![v2618] : Fin 1 → IVec S16 32) a x).toNat < S4096.size a := fun v2618 k0_hw444 => k0_hw444

def k0_chk445 (v2623 : IVec S16 32) : Prop :=
  (∀ a x, ((![v2623] : Fin 1 → IVec S16 32) a x).toNat < S4096.size a)
theorem k0_idx445_inb : ∀ (v2623 : IVec S16 32) (k0_hw445 : k0_chk445 v2623), ∀ a x, ((![v2623] : Fin 1 → IVec S16 32) a x).toNat < S4096.size a := fun v2623 k0_hw445 => k0_hw445

def k0_chk446 (v2625 : IVec S16 32) : Prop :=
  (∀ a x, ((![v2625] : Fin 1 → IVec S16 32) a x).toNat < S4096.size a)
theorem k0_idx446_inb : ∀ (v2625 : IVec S16 32) (k0_hw446 : k0_chk446 v2625), ∀ a x, ((![v2625] : Fin 1 → IVec S16 32) a x).toNat < S4096.size a := fun v2625 k0_hw446 => k0_hw446

def k0_chk447 (v2627 : IVec S16 32) : Prop :=
  (∀ a x, ((![v2627] : Fin 1 → IVec S16 32) a x).toNat < S4096.size a)
theorem k0_idx447_inb : ∀ (v2627 : IVec S16 32) (k0_hw447 : k0_chk447 v2627), ∀ a x, ((![v2627] : Fin 1 → IVec S16 32) a x).toNat < S4096.size a := fun v2627 k0_hw447 => k0_hw447

def k0_chk448 (v2629 : IVec S16 32) : Prop :=
  (∀ a x, ((![v2629] : Fin 1 → IVec S16 32) a x).toNat < S4096.size a)
theorem k0_idx448_inb : ∀ (v2629 : IVec S16 32) (k0_hw448 : k0_chk448 v2629), ∀ a x, ((![v2629] : Fin 1 → IVec S16 32) a x).toNat < S4096.size a := fun v2629 k0_hw448 => k0_hw448
def k0_off19 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1806 : BitVec 32 := 512#32
  let v2630 : BitVec 32 := Scalar.muli v361 c512_i32_1806
  let c224_i32 : BitVec 32 := 224#32
  let v2631 : BitVec 32 := Scalar.addi v2630 c224_i32
  let v2632 : Index := Scalar.indexCast v2631
  ![v2632.toNat]

def k0_chk449 (v2633 : IVec S16 32) : Prop :=
  (∀ a x, ((![v2633] : Fin 1 → IVec S16 32) a x).toNat < S4096.size a)
theorem k0_idx449_inb : ∀ (v2633 : IVec S16 32) (k0_hw449 : k0_chk449 v2633), ∀ a x, ((![v2633] : Fin 1 → IVec S16 32) a x).toNat < S4096.size a := fun v2633 k0_hw449 => k0_hw449

def k0_chk450 (v2650 : IVec S16 32) : Prop :=
  (∀ a x, ((![v2650] : Fin 1 → IVec S16 32) a x).toNat < S4096.size a)
theorem k0_idx450_inb : ∀ (v2650 : IVec S16 32) (k0_hw450 : k0_chk450 v2650), ∀ a x, ((![v2650] : Fin 1 → IVec S16 32) a x).toNat < S4096.size a := fun v2650 k0_hw450 => k0_hw450

def k0_chk451 (v2655 : IVec S16 32) : Prop :=
  (∀ a x, ((![v2655] : Fin 1 → IVec S16 32) a x).toNat < S4096.size a)
theorem k0_idx451_inb : ∀ (v2655 : IVec S16 32) (k0_hw451 : k0_chk451 v2655), ∀ a x, ((![v2655] : Fin 1 → IVec S16 32) a x).toNat < S4096.size a := fun v2655 k0_hw451 => k0_hw451

def k0_chk452 (v2660 : IVec S16 32) : Prop :=
  (∀ a x, ((![v2660] : Fin 1 → IVec S16 32) a x).toNat < S4096.size a)
theorem k0_idx452_inb : ∀ (v2660 : IVec S16 32) (k0_hw452 : k0_chk452 v2660), ∀ a x, ((![v2660] : Fin 1 → IVec S16 32) a x).toNat < S4096.size a := fun v2660 k0_hw452 => k0_hw452

def k0_chk453 (v2665 : IVec S16 32) : Prop :=
  (∀ a x, ((![v2665] : Fin 1 → IVec S16 32) a x).toNat < S4096.size a)
theorem k0_idx453_inb : ∀ (v2665 : IVec S16 32) (k0_hw453 : k0_chk453 v2665), ∀ a x, ((![v2665] : Fin 1 → IVec S16 32) a x).toNat < S4096.size a := fun v2665 k0_hw453 => k0_hw453

def k0_chk454 (v2670 : IVec S16 32) : Prop :=
  (∀ a x, ((![v2670] : Fin 1 → IVec S16 32) a x).toNat < S4096.size a)
theorem k0_idx454_inb : ∀ (v2670 : IVec S16 32) (k0_hw454 : k0_chk454 v2670), ∀ a x, ((![v2670] : Fin 1 → IVec S16 32) a x).toNat < S4096.size a := fun v2670 k0_hw454 => k0_hw454

def k0_chk455 (v2675 : IVec S16 32) : Prop :=
  (∀ a x, ((![v2675] : Fin 1 → IVec S16 32) a x).toNat < S4096.size a)
theorem k0_idx455_inb : ∀ (v2675 : IVec S16 32) (k0_hw455 : k0_chk455 v2675), ∀ a x, ((![v2675] : Fin 1 → IVec S16 32) a x).toNat < S4096.size a := fun v2675 k0_hw455 => k0_hw455

def k0_chk456 (v2680 : IVec S16 32) : Prop :=
  (∀ a x, ((![v2680] : Fin 1 → IVec S16 32) a x).toNat < S4096.size a)
theorem k0_idx456_inb : ∀ (v2680 : IVec S16 32) (k0_hw456 : k0_chk456 v2680), ∀ a x, ((![v2680] : Fin 1 → IVec S16 32) a x).toNat < S4096.size a := fun v2680 k0_hw456 => k0_hw456

def k0_chk457 (v2685 : IVec S16 32) : Prop :=
  (∀ a x, ((![v2685] : Fin 1 → IVec S16 32) a x).toNat < S4096.size a)
theorem k0_idx457_inb : ∀ (v2685 : IVec S16 32) (k0_hw457 : k0_chk457 v2685), ∀ a x, ((![v2685] : Fin 1 → IVec S16 32) a x).toNat < S4096.size a := fun v2685 k0_hw457 => k0_hw457

def k0_chk458 (v2690 : IVec S16 32) : Prop :=
  (∀ a x, ((![v2690] : Fin 1 → IVec S16 32) a x).toNat < S4096.size a)
theorem k0_idx458_inb : ∀ (v2690 : IVec S16 32) (k0_hw458 : k0_chk458 v2690), ∀ a x, ((![v2690] : Fin 1 → IVec S16 32) a x).toNat < S4096.size a := fun v2690 k0_hw458 => k0_hw458

def k0_chk459 (v2695 : IVec S16 32) : Prop :=
  (∀ a x, ((![v2695] : Fin 1 → IVec S16 32) a x).toNat < S4096.size a)
theorem k0_idx459_inb : ∀ (v2695 : IVec S16 32) (k0_hw459 : k0_chk459 v2695), ∀ a x, ((![v2695] : Fin 1 → IVec S16 32) a x).toNat < S4096.size a := fun v2695 k0_hw459 => k0_hw459

def k0_chk460 (v2700 : IVec S16 32) : Prop :=
  (∀ a x, ((![v2700] : Fin 1 → IVec S16 32) a x).toNat < S4096.size a)
theorem k0_idx460_inb : ∀ (v2700 : IVec S16 32) (k0_hw460 : k0_chk460 v2700), ∀ a x, ((![v2700] : Fin 1 → IVec S16 32) a x).toNat < S4096.size a := fun v2700 k0_hw460 => k0_hw460

def k0_chk461 (v2705 : IVec S16 32) : Prop :=
  (∀ a x, ((![v2705] : Fin 1 → IVec S16 32) a x).toNat < S4096.size a)
theorem k0_idx461_inb : ∀ (v2705 : IVec S16 32) (k0_hw461 : k0_chk461 v2705), ∀ a x, ((![v2705] : Fin 1 → IVec S16 32) a x).toNat < S4096.size a := fun v2705 k0_hw461 => k0_hw461

def k0_chk462 (v2710 : IVec S16 32) : Prop :=
  (∀ a x, ((![v2710] : Fin 1 → IVec S16 32) a x).toNat < S4096.size a)
theorem k0_idx462_inb : ∀ (v2710 : IVec S16 32) (k0_hw462 : k0_chk462 v2710), ∀ a x, ((![v2710] : Fin 1 → IVec S16 32) a x).toNat < S4096.size a := fun v2710 k0_hw462 => k0_hw462

def k0_chk463 (v2715 : IVec S16 32) : Prop :=
  (∀ a x, ((![v2715] : Fin 1 → IVec S16 32) a x).toNat < S4096.size a)
theorem k0_idx463_inb : ∀ (v2715 : IVec S16 32) (k0_hw463 : k0_chk463 v2715), ∀ a x, ((![v2715] : Fin 1 → IVec S16 32) a x).toNat < S4096.size a := fun v2715 k0_hw463 => k0_hw463

def k0_chk464 (v2720 : IVec S16 32) : Prop :=
  (∀ a x, ((![v2720] : Fin 1 → IVec S16 32) a x).toNat < S4096.size a)
theorem k0_idx464_inb : ∀ (v2720 : IVec S16 32) (k0_hw464 : k0_chk464 v2720), ∀ a x, ((![v2720] : Fin 1 → IVec S16 32) a x).toNat < S4096.size a := fun v2720 k0_hw464 => k0_hw464

def k0_chk465 (v2725 : IVec S16 32) : Prop :=
  (∀ a x, ((![v2725] : Fin 1 → IVec S16 32) a x).toNat < S4096.size a)
theorem k0_idx465_inb : ∀ (v2725 : IVec S16 32) (k0_hw465 : k0_chk465 v2725), ∀ a x, ((![v2725] : Fin 1 → IVec S16 32) a x).toNat < S4096.size a := fun v2725 k0_hw465 => k0_hw465

def k0_chk466 (v2730 : IVec S16 32) : Prop :=
  (∀ a x, ((![v2730] : Fin 1 → IVec S16 32) a x).toNat < S4096.size a)
theorem k0_idx466_inb : ∀ (v2730 : IVec S16 32) (k0_hw466 : k0_chk466 v2730), ∀ a x, ((![v2730] : Fin 1 → IVec S16 32) a x).toNat < S4096.size a := fun v2730 k0_hw466 => k0_hw466

def k0_chk467 (v2735 : IVec S16 32) : Prop :=
  (∀ a x, ((![v2735] : Fin 1 → IVec S16 32) a x).toNat < S4096.size a)
theorem k0_idx467_inb : ∀ (v2735 : IVec S16 32) (k0_hw467 : k0_chk467 v2735), ∀ a x, ((![v2735] : Fin 1 → IVec S16 32) a x).toNat < S4096.size a := fun v2735 k0_hw467 => k0_hw467

def k0_chk468 (v2740 : IVec S16 32) : Prop :=
  (∀ a x, ((![v2740] : Fin 1 → IVec S16 32) a x).toNat < S4096.size a)
theorem k0_idx468_inb : ∀ (v2740 : IVec S16 32) (k0_hw468 : k0_chk468 v2740), ∀ a x, ((![v2740] : Fin 1 → IVec S16 32) a x).toNat < S4096.size a := fun v2740 k0_hw468 => k0_hw468

def k0_chk469 (v2745 : IVec S16 32) : Prop :=
  (∀ a x, ((![v2745] : Fin 1 → IVec S16 32) a x).toNat < S4096.size a)
theorem k0_idx469_inb : ∀ (v2745 : IVec S16 32) (k0_hw469 : k0_chk469 v2745), ∀ a x, ((![v2745] : Fin 1 → IVec S16 32) a x).toNat < S4096.size a := fun v2745 k0_hw469 => k0_hw469

def k0_chk470 (v2750 : IVec S16 32) : Prop :=
  (∀ a x, ((![v2750] : Fin 1 → IVec S16 32) a x).toNat < S4096.size a)
theorem k0_idx470_inb : ∀ (v2750 : IVec S16 32) (k0_hw470 : k0_chk470 v2750), ∀ a x, ((![v2750] : Fin 1 → IVec S16 32) a x).toNat < S4096.size a := fun v2750 k0_hw470 => k0_hw470

def k0_chk471 (v2755 : IVec S16 32) : Prop :=
  (∀ a x, ((![v2755] : Fin 1 → IVec S16 32) a x).toNat < S4096.size a)
theorem k0_idx471_inb : ∀ (v2755 : IVec S16 32) (k0_hw471 : k0_chk471 v2755), ∀ a x, ((![v2755] : Fin 1 → IVec S16 32) a x).toNat < S4096.size a := fun v2755 k0_hw471 => k0_hw471

def k0_chk472 (v2760 : IVec S16 32) : Prop :=
  (∀ a x, ((![v2760] : Fin 1 → IVec S16 32) a x).toNat < S4096.size a)
theorem k0_idx472_inb : ∀ (v2760 : IVec S16 32) (k0_hw472 : k0_chk472 v2760), ∀ a x, ((![v2760] : Fin 1 → IVec S16 32) a x).toNat < S4096.size a := fun v2760 k0_hw472 => k0_hw472

def k0_chk473 (v2765 : IVec S16 32) : Prop :=
  (∀ a x, ((![v2765] : Fin 1 → IVec S16 32) a x).toNat < S4096.size a)
theorem k0_idx473_inb : ∀ (v2765 : IVec S16 32) (k0_hw473 : k0_chk473 v2765), ∀ a x, ((![v2765] : Fin 1 → IVec S16 32) a x).toNat < S4096.size a := fun v2765 k0_hw473 => k0_hw473

def k0_chk474 (v2770 : IVec S16 32) : Prop :=
  (∀ a x, ((![v2770] : Fin 1 → IVec S16 32) a x).toNat < S4096.size a)
theorem k0_idx474_inb : ∀ (v2770 : IVec S16 32) (k0_hw474 : k0_chk474 v2770), ∀ a x, ((![v2770] : Fin 1 → IVec S16 32) a x).toNat < S4096.size a := fun v2770 k0_hw474 => k0_hw474

def k0_chk475 (v2775 : IVec S16 32) : Prop :=
  (∀ a x, ((![v2775] : Fin 1 → IVec S16 32) a x).toNat < S4096.size a)
theorem k0_idx475_inb : ∀ (v2775 : IVec S16 32) (k0_hw475 : k0_chk475 v2775), ∀ a x, ((![v2775] : Fin 1 → IVec S16 32) a x).toNat < S4096.size a := fun v2775 k0_hw475 => k0_hw475

def k0_chk476 (v2780 : IVec S16 32) : Prop :=
  (∀ a x, ((![v2780] : Fin 1 → IVec S16 32) a x).toNat < S4096.size a)
theorem k0_idx476_inb : ∀ (v2780 : IVec S16 32) (k0_hw476 : k0_chk476 v2780), ∀ a x, ((![v2780] : Fin 1 → IVec S16 32) a x).toNat < S4096.size a := fun v2780 k0_hw476 => k0_hw476

def k0_chk477 (v2785 : IVec S16 32) : Prop :=
  (∀ a x, ((![v2785] : Fin 1 → IVec S16 32) a x).toNat < S4096.size a)
theorem k0_idx477_inb : ∀ (v2785 : IVec S16 32) (k0_hw477 : k0_chk477 v2785), ∀ a x, ((![v2785] : Fin 1 → IVec S16 32) a x).toNat < S4096.size a := fun v2785 k0_hw477 => k0_hw477

def k0_chk478 (v2787 : IVec S16 32) : Prop :=
  (∀ a x, ((![v2787] : Fin 1 → IVec S16 32) a x).toNat < S4096.size a)
theorem k0_idx478_inb : ∀ (v2787 : IVec S16 32) (k0_hw478 : k0_chk478 v2787), ∀ a x, ((![v2787] : Fin 1 → IVec S16 32) a x).toNat < S4096.size a := fun v2787 k0_hw478 => k0_hw478

def k0_chk479 (v2789 : IVec S16 32) : Prop :=
  (∀ a x, ((![v2789] : Fin 1 → IVec S16 32) a x).toNat < S4096.size a)
theorem k0_idx479_inb : ∀ (v2789 : IVec S16 32) (k0_hw479 : k0_chk479 v2789), ∀ a x, ((![v2789] : Fin 1 → IVec S16 32) a x).toNat < S4096.size a := fun v2789 k0_hw479 => k0_hw479

def k0_chk480 (v2791 : IVec S16 32) : Prop :=
  (∀ a x, ((![v2791] : Fin 1 → IVec S16 32) a x).toNat < S4096.size a)
theorem k0_idx480_inb : ∀ (v2791 : IVec S16 32) (k0_hw480 : k0_chk480 v2791), ∀ a x, ((![v2791] : Fin 1 → IVec S16 32) a x).toNat < S4096.size a := fun v2791 k0_hw480 => k0_hw480
def k0_off20 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_1934 : BitVec 32 := 512#32
  let v2792 : BitVec 32 := Scalar.muli v361 c512_i32_1934
  let c240_i32 : BitVec 32 := 240#32
  let v2793 : BitVec 32 := Scalar.addi v2792 c240_i32
  let v2794 : Index := Scalar.indexCast v2793
  ![v2794.toNat]

def k0_chk481 (v2795 : IVec S16 32) : Prop :=
  (∀ a x, ((![v2795] : Fin 1 → IVec S16 32) a x).toNat < S4096.size a)
theorem k0_idx481_inb : ∀ (v2795 : IVec S16 32) (k0_hw481 : k0_chk481 v2795), ∀ a x, ((![v2795] : Fin 1 → IVec S16 32) a x).toNat < S4096.size a := fun v2795 k0_hw481 => k0_hw481

def k0_chk482 (v2812 : IVec S16 32) : Prop :=
  (∀ a x, ((![v2812] : Fin 1 → IVec S16 32) a x).toNat < S4096.size a)
theorem k0_idx482_inb : ∀ (v2812 : IVec S16 32) (k0_hw482 : k0_chk482 v2812), ∀ a x, ((![v2812] : Fin 1 → IVec S16 32) a x).toNat < S4096.size a := fun v2812 k0_hw482 => k0_hw482

def k0_chk483 (v2817 : IVec S16 32) : Prop :=
  (∀ a x, ((![v2817] : Fin 1 → IVec S16 32) a x).toNat < S4096.size a)
theorem k0_idx483_inb : ∀ (v2817 : IVec S16 32) (k0_hw483 : k0_chk483 v2817), ∀ a x, ((![v2817] : Fin 1 → IVec S16 32) a x).toNat < S4096.size a := fun v2817 k0_hw483 => k0_hw483

def k0_chk484 (v2822 : IVec S16 32) : Prop :=
  (∀ a x, ((![v2822] : Fin 1 → IVec S16 32) a x).toNat < S4096.size a)
theorem k0_idx484_inb : ∀ (v2822 : IVec S16 32) (k0_hw484 : k0_chk484 v2822), ∀ a x, ((![v2822] : Fin 1 → IVec S16 32) a x).toNat < S4096.size a := fun v2822 k0_hw484 => k0_hw484

def k0_chk485 (v2827 : IVec S16 32) : Prop :=
  (∀ a x, ((![v2827] : Fin 1 → IVec S16 32) a x).toNat < S4096.size a)
theorem k0_idx485_inb : ∀ (v2827 : IVec S16 32) (k0_hw485 : k0_chk485 v2827), ∀ a x, ((![v2827] : Fin 1 → IVec S16 32) a x).toNat < S4096.size a := fun v2827 k0_hw485 => k0_hw485

def k0_chk486 (v2832 : IVec S16 32) : Prop :=
  (∀ a x, ((![v2832] : Fin 1 → IVec S16 32) a x).toNat < S4096.size a)
theorem k0_idx486_inb : ∀ (v2832 : IVec S16 32) (k0_hw486 : k0_chk486 v2832), ∀ a x, ((![v2832] : Fin 1 → IVec S16 32) a x).toNat < S4096.size a := fun v2832 k0_hw486 => k0_hw486

def k0_chk487 (v2837 : IVec S16 32) : Prop :=
  (∀ a x, ((![v2837] : Fin 1 → IVec S16 32) a x).toNat < S4096.size a)
theorem k0_idx487_inb : ∀ (v2837 : IVec S16 32) (k0_hw487 : k0_chk487 v2837), ∀ a x, ((![v2837] : Fin 1 → IVec S16 32) a x).toNat < S4096.size a := fun v2837 k0_hw487 => k0_hw487

def k0_chk488 (v2842 : IVec S16 32) : Prop :=
  (∀ a x, ((![v2842] : Fin 1 → IVec S16 32) a x).toNat < S4096.size a)
theorem k0_idx488_inb : ∀ (v2842 : IVec S16 32) (k0_hw488 : k0_chk488 v2842), ∀ a x, ((![v2842] : Fin 1 → IVec S16 32) a x).toNat < S4096.size a := fun v2842 k0_hw488 => k0_hw488

def k0_chk489 (v2847 : IVec S16 32) : Prop :=
  (∀ a x, ((![v2847] : Fin 1 → IVec S16 32) a x).toNat < S4096.size a)
theorem k0_idx489_inb : ∀ (v2847 : IVec S16 32) (k0_hw489 : k0_chk489 v2847), ∀ a x, ((![v2847] : Fin 1 → IVec S16 32) a x).toNat < S4096.size a := fun v2847 k0_hw489 => k0_hw489

def k0_chk490 (v2852 : IVec S16 32) : Prop :=
  (∀ a x, ((![v2852] : Fin 1 → IVec S16 32) a x).toNat < S4096.size a)
theorem k0_idx490_inb : ∀ (v2852 : IVec S16 32) (k0_hw490 : k0_chk490 v2852), ∀ a x, ((![v2852] : Fin 1 → IVec S16 32) a x).toNat < S4096.size a := fun v2852 k0_hw490 => k0_hw490

def k0_chk491 (v2857 : IVec S16 32) : Prop :=
  (∀ a x, ((![v2857] : Fin 1 → IVec S16 32) a x).toNat < S4096.size a)
theorem k0_idx491_inb : ∀ (v2857 : IVec S16 32) (k0_hw491 : k0_chk491 v2857), ∀ a x, ((![v2857] : Fin 1 → IVec S16 32) a x).toNat < S4096.size a := fun v2857 k0_hw491 => k0_hw491

def k0_chk492 (v2862 : IVec S16 32) : Prop :=
  (∀ a x, ((![v2862] : Fin 1 → IVec S16 32) a x).toNat < S4096.size a)
theorem k0_idx492_inb : ∀ (v2862 : IVec S16 32) (k0_hw492 : k0_chk492 v2862), ∀ a x, ((![v2862] : Fin 1 → IVec S16 32) a x).toNat < S4096.size a := fun v2862 k0_hw492 => k0_hw492

def k0_chk493 (v2867 : IVec S16 32) : Prop :=
  (∀ a x, ((![v2867] : Fin 1 → IVec S16 32) a x).toNat < S4096.size a)
theorem k0_idx493_inb : ∀ (v2867 : IVec S16 32) (k0_hw493 : k0_chk493 v2867), ∀ a x, ((![v2867] : Fin 1 → IVec S16 32) a x).toNat < S4096.size a := fun v2867 k0_hw493 => k0_hw493

def k0_chk494 (v2872 : IVec S16 32) : Prop :=
  (∀ a x, ((![v2872] : Fin 1 → IVec S16 32) a x).toNat < S4096.size a)
theorem k0_idx494_inb : ∀ (v2872 : IVec S16 32) (k0_hw494 : k0_chk494 v2872), ∀ a x, ((![v2872] : Fin 1 → IVec S16 32) a x).toNat < S4096.size a := fun v2872 k0_hw494 => k0_hw494

def k0_chk495 (v2877 : IVec S16 32) : Prop :=
  (∀ a x, ((![v2877] : Fin 1 → IVec S16 32) a x).toNat < S4096.size a)
theorem k0_idx495_inb : ∀ (v2877 : IVec S16 32) (k0_hw495 : k0_chk495 v2877), ∀ a x, ((![v2877] : Fin 1 → IVec S16 32) a x).toNat < S4096.size a := fun v2877 k0_hw495 => k0_hw495

def k0_chk496 (v2882 : IVec S16 32) : Prop :=
  (∀ a x, ((![v2882] : Fin 1 → IVec S16 32) a x).toNat < S4096.size a)
theorem k0_idx496_inb : ∀ (v2882 : IVec S16 32) (k0_hw496 : k0_chk496 v2882), ∀ a x, ((![v2882] : Fin 1 → IVec S16 32) a x).toNat < S4096.size a := fun v2882 k0_hw496 => k0_hw496

def k0_chk497 (v2887 : IVec S16 32) : Prop :=
  (∀ a x, ((![v2887] : Fin 1 → IVec S16 32) a x).toNat < S4096.size a)
theorem k0_idx497_inb : ∀ (v2887 : IVec S16 32) (k0_hw497 : k0_chk497 v2887), ∀ a x, ((![v2887] : Fin 1 → IVec S16 32) a x).toNat < S4096.size a := fun v2887 k0_hw497 => k0_hw497

def k0_chk498 (v2892 : IVec S16 32) : Prop :=
  (∀ a x, ((![v2892] : Fin 1 → IVec S16 32) a x).toNat < S4096.size a)
theorem k0_idx498_inb : ∀ (v2892 : IVec S16 32) (k0_hw498 : k0_chk498 v2892), ∀ a x, ((![v2892] : Fin 1 → IVec S16 32) a x).toNat < S4096.size a := fun v2892 k0_hw498 => k0_hw498

def k0_chk499 (v2897 : IVec S16 32) : Prop :=
  (∀ a x, ((![v2897] : Fin 1 → IVec S16 32) a x).toNat < S4096.size a)
theorem k0_idx499_inb : ∀ (v2897 : IVec S16 32) (k0_hw499 : k0_chk499 v2897), ∀ a x, ((![v2897] : Fin 1 → IVec S16 32) a x).toNat < S4096.size a := fun v2897 k0_hw499 => k0_hw499

def k0_chk500 (v2902 : IVec S16 32) : Prop :=
  (∀ a x, ((![v2902] : Fin 1 → IVec S16 32) a x).toNat < S4096.size a)
theorem k0_idx500_inb : ∀ (v2902 : IVec S16 32) (k0_hw500 : k0_chk500 v2902), ∀ a x, ((![v2902] : Fin 1 → IVec S16 32) a x).toNat < S4096.size a := fun v2902 k0_hw500 => k0_hw500

def k0_chk501 (v2907 : IVec S16 32) : Prop :=
  (∀ a x, ((![v2907] : Fin 1 → IVec S16 32) a x).toNat < S4096.size a)
theorem k0_idx501_inb : ∀ (v2907 : IVec S16 32) (k0_hw501 : k0_chk501 v2907), ∀ a x, ((![v2907] : Fin 1 → IVec S16 32) a x).toNat < S4096.size a := fun v2907 k0_hw501 => k0_hw501

def k0_chk502 (v2912 : IVec S16 32) : Prop :=
  (∀ a x, ((![v2912] : Fin 1 → IVec S16 32) a x).toNat < S4096.size a)
theorem k0_idx502_inb : ∀ (v2912 : IVec S16 32) (k0_hw502 : k0_chk502 v2912), ∀ a x, ((![v2912] : Fin 1 → IVec S16 32) a x).toNat < S4096.size a := fun v2912 k0_hw502 => k0_hw502

def k0_chk503 (v2917 : IVec S16 32) : Prop :=
  (∀ a x, ((![v2917] : Fin 1 → IVec S16 32) a x).toNat < S4096.size a)
theorem k0_idx503_inb : ∀ (v2917 : IVec S16 32) (k0_hw503 : k0_chk503 v2917), ∀ a x, ((![v2917] : Fin 1 → IVec S16 32) a x).toNat < S4096.size a := fun v2917 k0_hw503 => k0_hw503

def k0_chk504 (v2922 : IVec S16 32) : Prop :=
  (∀ a x, ((![v2922] : Fin 1 → IVec S16 32) a x).toNat < S4096.size a)
theorem k0_idx504_inb : ∀ (v2922 : IVec S16 32) (k0_hw504 : k0_chk504 v2922), ∀ a x, ((![v2922] : Fin 1 → IVec S16 32) a x).toNat < S4096.size a := fun v2922 k0_hw504 => k0_hw504

def k0_chk505 (v2927 : IVec S16 32) : Prop :=
  (∀ a x, ((![v2927] : Fin 1 → IVec S16 32) a x).toNat < S4096.size a)
theorem k0_idx505_inb : ∀ (v2927 : IVec S16 32) (k0_hw505 : k0_chk505 v2927), ∀ a x, ((![v2927] : Fin 1 → IVec S16 32) a x).toNat < S4096.size a := fun v2927 k0_hw505 => k0_hw505

def k0_chk506 (v2932 : IVec S16 32) : Prop :=
  (∀ a x, ((![v2932] : Fin 1 → IVec S16 32) a x).toNat < S4096.size a)
theorem k0_idx506_inb : ∀ (v2932 : IVec S16 32) (k0_hw506 : k0_chk506 v2932), ∀ a x, ((![v2932] : Fin 1 → IVec S16 32) a x).toNat < S4096.size a := fun v2932 k0_hw506 => k0_hw506

def k0_chk507 (v2937 : IVec S16 32) : Prop :=
  (∀ a x, ((![v2937] : Fin 1 → IVec S16 32) a x).toNat < S4096.size a)
theorem k0_idx507_inb : ∀ (v2937 : IVec S16 32) (k0_hw507 : k0_chk507 v2937), ∀ a x, ((![v2937] : Fin 1 → IVec S16 32) a x).toNat < S4096.size a := fun v2937 k0_hw507 => k0_hw507

def k0_chk508 (v2942 : IVec S16 32) : Prop :=
  (∀ a x, ((![v2942] : Fin 1 → IVec S16 32) a x).toNat < S4096.size a)
theorem k0_idx508_inb : ∀ (v2942 : IVec S16 32) (k0_hw508 : k0_chk508 v2942), ∀ a x, ((![v2942] : Fin 1 → IVec S16 32) a x).toNat < S4096.size a := fun v2942 k0_hw508 => k0_hw508

def k0_chk509 (v2947 : IVec S16 32) : Prop :=
  (∀ a x, ((![v2947] : Fin 1 → IVec S16 32) a x).toNat < S4096.size a)
theorem k0_idx509_inb : ∀ (v2947 : IVec S16 32) (k0_hw509 : k0_chk509 v2947), ∀ a x, ((![v2947] : Fin 1 → IVec S16 32) a x).toNat < S4096.size a := fun v2947 k0_hw509 => k0_hw509

def k0_chk510 (v2949 : IVec S16 32) : Prop :=
  (∀ a x, ((![v2949] : Fin 1 → IVec S16 32) a x).toNat < S4096.size a)
theorem k0_idx510_inb : ∀ (v2949 : IVec S16 32) (k0_hw510 : k0_chk510 v2949), ∀ a x, ((![v2949] : Fin 1 → IVec S16 32) a x).toNat < S4096.size a := fun v2949 k0_hw510 => k0_hw510

def k0_chk511 (v2951 : IVec S16 32) : Prop :=
  (∀ a x, ((![v2951] : Fin 1 → IVec S16 32) a x).toNat < S4096.size a)
theorem k0_idx511_inb : ∀ (v2951 : IVec S16 32) (k0_hw511 : k0_chk511 v2951), ∀ a x, ((![v2951] : Fin 1 → IVec S16 32) a x).toNat < S4096.size a := fun v2951 k0_hw511 => k0_hw511

def k0_chk512 (v2953 : IVec S16 32) : Prop :=
  (∀ a x, ((![v2953] : Fin 1 → IVec S16 32) a x).toNat < S4096.size a)
theorem k0_idx512_inb : ∀ (v2953 : IVec S16 32) (k0_hw512 : k0_chk512 v2953), ∀ a x, ((![v2953] : Fin 1 → IVec S16 32) a x).toNat < S4096.size a := fun v2953 k0_hw512 => k0_hw512
def k0_off21 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2062 : BitVec 32 := 512#32
  let v2954 : BitVec 32 := Scalar.muli v361 c512_i32_2062
  let c256_i32_2063 : BitVec 32 := 256#32
  let v2955 : BitVec 32 := Scalar.addi v2954 c256_i32_2063
  let v2956 : Index := Scalar.indexCast v2955
  ![v2956.toNat]

def k0_chk513 (v2957 : IVec S16 32) : Prop :=
  (∀ a x, ((![v2957] : Fin 1 → IVec S16 32) a x).toNat < S4096.size a)
theorem k0_idx513_inb : ∀ (v2957 : IVec S16 32) (k0_hw513 : k0_chk513 v2957), ∀ a x, ((![v2957] : Fin 1 → IVec S16 32) a x).toNat < S4096.size a := fun v2957 k0_hw513 => k0_hw513

def k0_chk514 (v2974 : IVec S16 32) : Prop :=
  (∀ a x, ((![v2974] : Fin 1 → IVec S16 32) a x).toNat < S4096.size a)
theorem k0_idx514_inb : ∀ (v2974 : IVec S16 32) (k0_hw514 : k0_chk514 v2974), ∀ a x, ((![v2974] : Fin 1 → IVec S16 32) a x).toNat < S4096.size a := fun v2974 k0_hw514 => k0_hw514

def k0_chk515 (v2979 : IVec S16 32) : Prop :=
  (∀ a x, ((![v2979] : Fin 1 → IVec S16 32) a x).toNat < S4096.size a)
theorem k0_idx515_inb : ∀ (v2979 : IVec S16 32) (k0_hw515 : k0_chk515 v2979), ∀ a x, ((![v2979] : Fin 1 → IVec S16 32) a x).toNat < S4096.size a := fun v2979 k0_hw515 => k0_hw515

def k0_chk516 (v2984 : IVec S16 32) : Prop :=
  (∀ a x, ((![v2984] : Fin 1 → IVec S16 32) a x).toNat < S4096.size a)
theorem k0_idx516_inb : ∀ (v2984 : IVec S16 32) (k0_hw516 : k0_chk516 v2984), ∀ a x, ((![v2984] : Fin 1 → IVec S16 32) a x).toNat < S4096.size a := fun v2984 k0_hw516 => k0_hw516

def k0_chk517 (v2989 : IVec S16 32) : Prop :=
  (∀ a x, ((![v2989] : Fin 1 → IVec S16 32) a x).toNat < S4096.size a)
theorem k0_idx517_inb : ∀ (v2989 : IVec S16 32) (k0_hw517 : k0_chk517 v2989), ∀ a x, ((![v2989] : Fin 1 → IVec S16 32) a x).toNat < S4096.size a := fun v2989 k0_hw517 => k0_hw517

def k0_chk518 (v2994 : IVec S16 32) : Prop :=
  (∀ a x, ((![v2994] : Fin 1 → IVec S16 32) a x).toNat < S4096.size a)
theorem k0_idx518_inb : ∀ (v2994 : IVec S16 32) (k0_hw518 : k0_chk518 v2994), ∀ a x, ((![v2994] : Fin 1 → IVec S16 32) a x).toNat < S4096.size a := fun v2994 k0_hw518 => k0_hw518

def k0_chk519 (v2999 : IVec S16 32) : Prop :=
  (∀ a x, ((![v2999] : Fin 1 → IVec S16 32) a x).toNat < S4096.size a)
theorem k0_idx519_inb : ∀ (v2999 : IVec S16 32) (k0_hw519 : k0_chk519 v2999), ∀ a x, ((![v2999] : Fin 1 → IVec S16 32) a x).toNat < S4096.size a := fun v2999 k0_hw519 => k0_hw519

def k0_chk520 (v3004 : IVec S16 32) : Prop :=
  (∀ a x, ((![v3004] : Fin 1 → IVec S16 32) a x).toNat < S4096.size a)
theorem k0_idx520_inb : ∀ (v3004 : IVec S16 32) (k0_hw520 : k0_chk520 v3004), ∀ a x, ((![v3004] : Fin 1 → IVec S16 32) a x).toNat < S4096.size a := fun v3004 k0_hw520 => k0_hw520

def k0_chk521 (v3009 : IVec S16 32) : Prop :=
  (∀ a x, ((![v3009] : Fin 1 → IVec S16 32) a x).toNat < S4096.size a)
theorem k0_idx521_inb : ∀ (v3009 : IVec S16 32) (k0_hw521 : k0_chk521 v3009), ∀ a x, ((![v3009] : Fin 1 → IVec S16 32) a x).toNat < S4096.size a := fun v3009 k0_hw521 => k0_hw521

def k0_chk522 (v3014 : IVec S16 32) : Prop :=
  (∀ a x, ((![v3014] : Fin 1 → IVec S16 32) a x).toNat < S4096.size a)
theorem k0_idx522_inb : ∀ (v3014 : IVec S16 32) (k0_hw522 : k0_chk522 v3014), ∀ a x, ((![v3014] : Fin 1 → IVec S16 32) a x).toNat < S4096.size a := fun v3014 k0_hw522 => k0_hw522

def k0_chk523 (v3019 : IVec S16 32) : Prop :=
  (∀ a x, ((![v3019] : Fin 1 → IVec S16 32) a x).toNat < S4096.size a)
theorem k0_idx523_inb : ∀ (v3019 : IVec S16 32) (k0_hw523 : k0_chk523 v3019), ∀ a x, ((![v3019] : Fin 1 → IVec S16 32) a x).toNat < S4096.size a := fun v3019 k0_hw523 => k0_hw523

def k0_chk524 (v3024 : IVec S16 32) : Prop :=
  (∀ a x, ((![v3024] : Fin 1 → IVec S16 32) a x).toNat < S4096.size a)
theorem k0_idx524_inb : ∀ (v3024 : IVec S16 32) (k0_hw524 : k0_chk524 v3024), ∀ a x, ((![v3024] : Fin 1 → IVec S16 32) a x).toNat < S4096.size a := fun v3024 k0_hw524 => k0_hw524

def k0_chk525 (v3029 : IVec S16 32) : Prop :=
  (∀ a x, ((![v3029] : Fin 1 → IVec S16 32) a x).toNat < S4096.size a)
theorem k0_idx525_inb : ∀ (v3029 : IVec S16 32) (k0_hw525 : k0_chk525 v3029), ∀ a x, ((![v3029] : Fin 1 → IVec S16 32) a x).toNat < S4096.size a := fun v3029 k0_hw525 => k0_hw525

def k0_chk526 (v3034 : IVec S16 32) : Prop :=
  (∀ a x, ((![v3034] : Fin 1 → IVec S16 32) a x).toNat < S4096.size a)
theorem k0_idx526_inb : ∀ (v3034 : IVec S16 32) (k0_hw526 : k0_chk526 v3034), ∀ a x, ((![v3034] : Fin 1 → IVec S16 32) a x).toNat < S4096.size a := fun v3034 k0_hw526 => k0_hw526

def k0_chk527 (v3039 : IVec S16 32) : Prop :=
  (∀ a x, ((![v3039] : Fin 1 → IVec S16 32) a x).toNat < S4096.size a)
theorem k0_idx527_inb : ∀ (v3039 : IVec S16 32) (k0_hw527 : k0_chk527 v3039), ∀ a x, ((![v3039] : Fin 1 → IVec S16 32) a x).toNat < S4096.size a := fun v3039 k0_hw527 => k0_hw527

def k0_chk528 (v3044 : IVec S16 32) : Prop :=
  (∀ a x, ((![v3044] : Fin 1 → IVec S16 32) a x).toNat < S4096.size a)
theorem k0_idx528_inb : ∀ (v3044 : IVec S16 32) (k0_hw528 : k0_chk528 v3044), ∀ a x, ((![v3044] : Fin 1 → IVec S16 32) a x).toNat < S4096.size a := fun v3044 k0_hw528 => k0_hw528

def k0_chk529 (v3049 : IVec S16 32) : Prop :=
  (∀ a x, ((![v3049] : Fin 1 → IVec S16 32) a x).toNat < S4096.size a)
theorem k0_idx529_inb : ∀ (v3049 : IVec S16 32) (k0_hw529 : k0_chk529 v3049), ∀ a x, ((![v3049] : Fin 1 → IVec S16 32) a x).toNat < S4096.size a := fun v3049 k0_hw529 => k0_hw529

def k0_chk530 (v3054 : IVec S16 32) : Prop :=
  (∀ a x, ((![v3054] : Fin 1 → IVec S16 32) a x).toNat < S4096.size a)
theorem k0_idx530_inb : ∀ (v3054 : IVec S16 32) (k0_hw530 : k0_chk530 v3054), ∀ a x, ((![v3054] : Fin 1 → IVec S16 32) a x).toNat < S4096.size a := fun v3054 k0_hw530 => k0_hw530

def k0_chk531 (v3059 : IVec S16 32) : Prop :=
  (∀ a x, ((![v3059] : Fin 1 → IVec S16 32) a x).toNat < S4096.size a)
theorem k0_idx531_inb : ∀ (v3059 : IVec S16 32) (k0_hw531 : k0_chk531 v3059), ∀ a x, ((![v3059] : Fin 1 → IVec S16 32) a x).toNat < S4096.size a := fun v3059 k0_hw531 => k0_hw531

def k0_chk532 (v3064 : IVec S16 32) : Prop :=
  (∀ a x, ((![v3064] : Fin 1 → IVec S16 32) a x).toNat < S4096.size a)
theorem k0_idx532_inb : ∀ (v3064 : IVec S16 32) (k0_hw532 : k0_chk532 v3064), ∀ a x, ((![v3064] : Fin 1 → IVec S16 32) a x).toNat < S4096.size a := fun v3064 k0_hw532 => k0_hw532

def k0_chk533 (v3069 : IVec S16 32) : Prop :=
  (∀ a x, ((![v3069] : Fin 1 → IVec S16 32) a x).toNat < S4096.size a)
theorem k0_idx533_inb : ∀ (v3069 : IVec S16 32) (k0_hw533 : k0_chk533 v3069), ∀ a x, ((![v3069] : Fin 1 → IVec S16 32) a x).toNat < S4096.size a := fun v3069 k0_hw533 => k0_hw533

def k0_chk534 (v3074 : IVec S16 32) : Prop :=
  (∀ a x, ((![v3074] : Fin 1 → IVec S16 32) a x).toNat < S4096.size a)
theorem k0_idx534_inb : ∀ (v3074 : IVec S16 32) (k0_hw534 : k0_chk534 v3074), ∀ a x, ((![v3074] : Fin 1 → IVec S16 32) a x).toNat < S4096.size a := fun v3074 k0_hw534 => k0_hw534

def k0_chk535 (v3079 : IVec S16 32) : Prop :=
  (∀ a x, ((![v3079] : Fin 1 → IVec S16 32) a x).toNat < S4096.size a)
theorem k0_idx535_inb : ∀ (v3079 : IVec S16 32) (k0_hw535 : k0_chk535 v3079), ∀ a x, ((![v3079] : Fin 1 → IVec S16 32) a x).toNat < S4096.size a := fun v3079 k0_hw535 => k0_hw535

def k0_chk536 (v3084 : IVec S16 32) : Prop :=
  (∀ a x, ((![v3084] : Fin 1 → IVec S16 32) a x).toNat < S4096.size a)
theorem k0_idx536_inb : ∀ (v3084 : IVec S16 32) (k0_hw536 : k0_chk536 v3084), ∀ a x, ((![v3084] : Fin 1 → IVec S16 32) a x).toNat < S4096.size a := fun v3084 k0_hw536 => k0_hw536

def k0_chk537 (v3089 : IVec S16 32) : Prop :=
  (∀ a x, ((![v3089] : Fin 1 → IVec S16 32) a x).toNat < S4096.size a)
theorem k0_idx537_inb : ∀ (v3089 : IVec S16 32) (k0_hw537 : k0_chk537 v3089), ∀ a x, ((![v3089] : Fin 1 → IVec S16 32) a x).toNat < S4096.size a := fun v3089 k0_hw537 => k0_hw537

def k0_chk538 (v3094 : IVec S16 32) : Prop :=
  (∀ a x, ((![v3094] : Fin 1 → IVec S16 32) a x).toNat < S4096.size a)
theorem k0_idx538_inb : ∀ (v3094 : IVec S16 32) (k0_hw538 : k0_chk538 v3094), ∀ a x, ((![v3094] : Fin 1 → IVec S16 32) a x).toNat < S4096.size a := fun v3094 k0_hw538 => k0_hw538

def k0_chk539 (v3099 : IVec S16 32) : Prop :=
  (∀ a x, ((![v3099] : Fin 1 → IVec S16 32) a x).toNat < S4096.size a)
theorem k0_idx539_inb : ∀ (v3099 : IVec S16 32) (k0_hw539 : k0_chk539 v3099), ∀ a x, ((![v3099] : Fin 1 → IVec S16 32) a x).toNat < S4096.size a := fun v3099 k0_hw539 => k0_hw539

def k0_chk540 (v3104 : IVec S16 32) : Prop :=
  (∀ a x, ((![v3104] : Fin 1 → IVec S16 32) a x).toNat < S4096.size a)
theorem k0_idx540_inb : ∀ (v3104 : IVec S16 32) (k0_hw540 : k0_chk540 v3104), ∀ a x, ((![v3104] : Fin 1 → IVec S16 32) a x).toNat < S4096.size a := fun v3104 k0_hw540 => k0_hw540

def k0_chk541 (v3109 : IVec S16 32) : Prop :=
  (∀ a x, ((![v3109] : Fin 1 → IVec S16 32) a x).toNat < S4096.size a)
theorem k0_idx541_inb : ∀ (v3109 : IVec S16 32) (k0_hw541 : k0_chk541 v3109), ∀ a x, ((![v3109] : Fin 1 → IVec S16 32) a x).toNat < S4096.size a := fun v3109 k0_hw541 => k0_hw541

def k0_chk542 (v3111 : IVec S16 32) : Prop :=
  (∀ a x, ((![v3111] : Fin 1 → IVec S16 32) a x).toNat < S4096.size a)
theorem k0_idx542_inb : ∀ (v3111 : IVec S16 32) (k0_hw542 : k0_chk542 v3111), ∀ a x, ((![v3111] : Fin 1 → IVec S16 32) a x).toNat < S4096.size a := fun v3111 k0_hw542 => k0_hw542

def k0_chk543 (v3113 : IVec S16 32) : Prop :=
  (∀ a x, ((![v3113] : Fin 1 → IVec S16 32) a x).toNat < S4096.size a)
theorem k0_idx543_inb : ∀ (v3113 : IVec S16 32) (k0_hw543 : k0_chk543 v3113), ∀ a x, ((![v3113] : Fin 1 → IVec S16 32) a x).toNat < S4096.size a := fun v3113 k0_hw543 => k0_hw543

def k0_chk544 (v3115 : IVec S16 32) : Prop :=
  (∀ a x, ((![v3115] : Fin 1 → IVec S16 32) a x).toNat < S4096.size a)
theorem k0_idx544_inb : ∀ (v3115 : IVec S16 32) (k0_hw544 : k0_chk544 v3115), ∀ a x, ((![v3115] : Fin 1 → IVec S16 32) a x).toNat < S4096.size a := fun v3115 k0_hw544 => k0_hw544
def k0_off22 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2191 : BitVec 32 := 512#32
  let v3116 : BitVec 32 := Scalar.muli v361 c512_i32_2191
  let c272_i32 : BitVec 32 := 272#32
  let v3117 : BitVec 32 := Scalar.addi v3116 c272_i32
  let v3118 : Index := Scalar.indexCast v3117
  ![v3118.toNat]

def k0_chk545 (v3119 : IVec S16 32) : Prop :=
  (∀ a x, ((![v3119] : Fin 1 → IVec S16 32) a x).toNat < S4096.size a)
theorem k0_idx545_inb : ∀ (v3119 : IVec S16 32) (k0_hw545 : k0_chk545 v3119), ∀ a x, ((![v3119] : Fin 1 → IVec S16 32) a x).toNat < S4096.size a := fun v3119 k0_hw545 => k0_hw545

def k0_chk546 (v3136 : IVec S16 32) : Prop :=
  (∀ a x, ((![v3136] : Fin 1 → IVec S16 32) a x).toNat < S4096.size a)
theorem k0_idx546_inb : ∀ (v3136 : IVec S16 32) (k0_hw546 : k0_chk546 v3136), ∀ a x, ((![v3136] : Fin 1 → IVec S16 32) a x).toNat < S4096.size a := fun v3136 k0_hw546 => k0_hw546

def k0_chk547 (v3141 : IVec S16 32) : Prop :=
  (∀ a x, ((![v3141] : Fin 1 → IVec S16 32) a x).toNat < S4096.size a)
theorem k0_idx547_inb : ∀ (v3141 : IVec S16 32) (k0_hw547 : k0_chk547 v3141), ∀ a x, ((![v3141] : Fin 1 → IVec S16 32) a x).toNat < S4096.size a := fun v3141 k0_hw547 => k0_hw547

def k0_chk548 (v3146 : IVec S16 32) : Prop :=
  (∀ a x, ((![v3146] : Fin 1 → IVec S16 32) a x).toNat < S4096.size a)
theorem k0_idx548_inb : ∀ (v3146 : IVec S16 32) (k0_hw548 : k0_chk548 v3146), ∀ a x, ((![v3146] : Fin 1 → IVec S16 32) a x).toNat < S4096.size a := fun v3146 k0_hw548 => k0_hw548

def k0_chk549 (v3151 : IVec S16 32) : Prop :=
  (∀ a x, ((![v3151] : Fin 1 → IVec S16 32) a x).toNat < S4096.size a)
theorem k0_idx549_inb : ∀ (v3151 : IVec S16 32) (k0_hw549 : k0_chk549 v3151), ∀ a x, ((![v3151] : Fin 1 → IVec S16 32) a x).toNat < S4096.size a := fun v3151 k0_hw549 => k0_hw549

def k0_chk550 (v3156 : IVec S16 32) : Prop :=
  (∀ a x, ((![v3156] : Fin 1 → IVec S16 32) a x).toNat < S4096.size a)
theorem k0_idx550_inb : ∀ (v3156 : IVec S16 32) (k0_hw550 : k0_chk550 v3156), ∀ a x, ((![v3156] : Fin 1 → IVec S16 32) a x).toNat < S4096.size a := fun v3156 k0_hw550 => k0_hw550

def k0_chk551 (v3161 : IVec S16 32) : Prop :=
  (∀ a x, ((![v3161] : Fin 1 → IVec S16 32) a x).toNat < S4096.size a)
theorem k0_idx551_inb : ∀ (v3161 : IVec S16 32) (k0_hw551 : k0_chk551 v3161), ∀ a x, ((![v3161] : Fin 1 → IVec S16 32) a x).toNat < S4096.size a := fun v3161 k0_hw551 => k0_hw551

def k0_chk552 (v3166 : IVec S16 32) : Prop :=
  (∀ a x, ((![v3166] : Fin 1 → IVec S16 32) a x).toNat < S4096.size a)
theorem k0_idx552_inb : ∀ (v3166 : IVec S16 32) (k0_hw552 : k0_chk552 v3166), ∀ a x, ((![v3166] : Fin 1 → IVec S16 32) a x).toNat < S4096.size a := fun v3166 k0_hw552 => k0_hw552

def k0_chk553 (v3171 : IVec S16 32) : Prop :=
  (∀ a x, ((![v3171] : Fin 1 → IVec S16 32) a x).toNat < S4096.size a)
theorem k0_idx553_inb : ∀ (v3171 : IVec S16 32) (k0_hw553 : k0_chk553 v3171), ∀ a x, ((![v3171] : Fin 1 → IVec S16 32) a x).toNat < S4096.size a := fun v3171 k0_hw553 => k0_hw553

def k0_chk554 (v3176 : IVec S16 32) : Prop :=
  (∀ a x, ((![v3176] : Fin 1 → IVec S16 32) a x).toNat < S4096.size a)
theorem k0_idx554_inb : ∀ (v3176 : IVec S16 32) (k0_hw554 : k0_chk554 v3176), ∀ a x, ((![v3176] : Fin 1 → IVec S16 32) a x).toNat < S4096.size a := fun v3176 k0_hw554 => k0_hw554

def k0_chk555 (v3181 : IVec S16 32) : Prop :=
  (∀ a x, ((![v3181] : Fin 1 → IVec S16 32) a x).toNat < S4096.size a)
theorem k0_idx555_inb : ∀ (v3181 : IVec S16 32) (k0_hw555 : k0_chk555 v3181), ∀ a x, ((![v3181] : Fin 1 → IVec S16 32) a x).toNat < S4096.size a := fun v3181 k0_hw555 => k0_hw555

def k0_chk556 (v3186 : IVec S16 32) : Prop :=
  (∀ a x, ((![v3186] : Fin 1 → IVec S16 32) a x).toNat < S4096.size a)
theorem k0_idx556_inb : ∀ (v3186 : IVec S16 32) (k0_hw556 : k0_chk556 v3186), ∀ a x, ((![v3186] : Fin 1 → IVec S16 32) a x).toNat < S4096.size a := fun v3186 k0_hw556 => k0_hw556

def k0_chk557 (v3191 : IVec S16 32) : Prop :=
  (∀ a x, ((![v3191] : Fin 1 → IVec S16 32) a x).toNat < S4096.size a)
theorem k0_idx557_inb : ∀ (v3191 : IVec S16 32) (k0_hw557 : k0_chk557 v3191), ∀ a x, ((![v3191] : Fin 1 → IVec S16 32) a x).toNat < S4096.size a := fun v3191 k0_hw557 => k0_hw557

def k0_chk558 (v3196 : IVec S16 32) : Prop :=
  (∀ a x, ((![v3196] : Fin 1 → IVec S16 32) a x).toNat < S4096.size a)
theorem k0_idx558_inb : ∀ (v3196 : IVec S16 32) (k0_hw558 : k0_chk558 v3196), ∀ a x, ((![v3196] : Fin 1 → IVec S16 32) a x).toNat < S4096.size a := fun v3196 k0_hw558 => k0_hw558

def k0_chk559 (v3201 : IVec S16 32) : Prop :=
  (∀ a x, ((![v3201] : Fin 1 → IVec S16 32) a x).toNat < S4096.size a)
theorem k0_idx559_inb : ∀ (v3201 : IVec S16 32) (k0_hw559 : k0_chk559 v3201), ∀ a x, ((![v3201] : Fin 1 → IVec S16 32) a x).toNat < S4096.size a := fun v3201 k0_hw559 => k0_hw559

def k0_chk560 (v3206 : IVec S16 32) : Prop :=
  (∀ a x, ((![v3206] : Fin 1 → IVec S16 32) a x).toNat < S4096.size a)
theorem k0_idx560_inb : ∀ (v3206 : IVec S16 32) (k0_hw560 : k0_chk560 v3206), ∀ a x, ((![v3206] : Fin 1 → IVec S16 32) a x).toNat < S4096.size a := fun v3206 k0_hw560 => k0_hw560

def k0_chk561 (v3211 : IVec S16 32) : Prop :=
  (∀ a x, ((![v3211] : Fin 1 → IVec S16 32) a x).toNat < S4096.size a)
theorem k0_idx561_inb : ∀ (v3211 : IVec S16 32) (k0_hw561 : k0_chk561 v3211), ∀ a x, ((![v3211] : Fin 1 → IVec S16 32) a x).toNat < S4096.size a := fun v3211 k0_hw561 => k0_hw561

def k0_chk562 (v3216 : IVec S16 32) : Prop :=
  (∀ a x, ((![v3216] : Fin 1 → IVec S16 32) a x).toNat < S4096.size a)
theorem k0_idx562_inb : ∀ (v3216 : IVec S16 32) (k0_hw562 : k0_chk562 v3216), ∀ a x, ((![v3216] : Fin 1 → IVec S16 32) a x).toNat < S4096.size a := fun v3216 k0_hw562 => k0_hw562

def k0_chk563 (v3221 : IVec S16 32) : Prop :=
  (∀ a x, ((![v3221] : Fin 1 → IVec S16 32) a x).toNat < S4096.size a)
theorem k0_idx563_inb : ∀ (v3221 : IVec S16 32) (k0_hw563 : k0_chk563 v3221), ∀ a x, ((![v3221] : Fin 1 → IVec S16 32) a x).toNat < S4096.size a := fun v3221 k0_hw563 => k0_hw563

def k0_chk564 (v3226 : IVec S16 32) : Prop :=
  (∀ a x, ((![v3226] : Fin 1 → IVec S16 32) a x).toNat < S4096.size a)
theorem k0_idx564_inb : ∀ (v3226 : IVec S16 32) (k0_hw564 : k0_chk564 v3226), ∀ a x, ((![v3226] : Fin 1 → IVec S16 32) a x).toNat < S4096.size a := fun v3226 k0_hw564 => k0_hw564

def k0_chk565 (v3231 : IVec S16 32) : Prop :=
  (∀ a x, ((![v3231] : Fin 1 → IVec S16 32) a x).toNat < S4096.size a)
theorem k0_idx565_inb : ∀ (v3231 : IVec S16 32) (k0_hw565 : k0_chk565 v3231), ∀ a x, ((![v3231] : Fin 1 → IVec S16 32) a x).toNat < S4096.size a := fun v3231 k0_hw565 => k0_hw565

def k0_chk566 (v3236 : IVec S16 32) : Prop :=
  (∀ a x, ((![v3236] : Fin 1 → IVec S16 32) a x).toNat < S4096.size a)
theorem k0_idx566_inb : ∀ (v3236 : IVec S16 32) (k0_hw566 : k0_chk566 v3236), ∀ a x, ((![v3236] : Fin 1 → IVec S16 32) a x).toNat < S4096.size a := fun v3236 k0_hw566 => k0_hw566

def k0_chk567 (v3241 : IVec S16 32) : Prop :=
  (∀ a x, ((![v3241] : Fin 1 → IVec S16 32) a x).toNat < S4096.size a)
theorem k0_idx567_inb : ∀ (v3241 : IVec S16 32) (k0_hw567 : k0_chk567 v3241), ∀ a x, ((![v3241] : Fin 1 → IVec S16 32) a x).toNat < S4096.size a := fun v3241 k0_hw567 => k0_hw567

def k0_chk568 (v3246 : IVec S16 32) : Prop :=
  (∀ a x, ((![v3246] : Fin 1 → IVec S16 32) a x).toNat < S4096.size a)
theorem k0_idx568_inb : ∀ (v3246 : IVec S16 32) (k0_hw568 : k0_chk568 v3246), ∀ a x, ((![v3246] : Fin 1 → IVec S16 32) a x).toNat < S4096.size a := fun v3246 k0_hw568 => k0_hw568

def k0_chk569 (v3251 : IVec S16 32) : Prop :=
  (∀ a x, ((![v3251] : Fin 1 → IVec S16 32) a x).toNat < S4096.size a)
theorem k0_idx569_inb : ∀ (v3251 : IVec S16 32) (k0_hw569 : k0_chk569 v3251), ∀ a x, ((![v3251] : Fin 1 → IVec S16 32) a x).toNat < S4096.size a := fun v3251 k0_hw569 => k0_hw569

def k0_chk570 (v3256 : IVec S16 32) : Prop :=
  (∀ a x, ((![v3256] : Fin 1 → IVec S16 32) a x).toNat < S4096.size a)
theorem k0_idx570_inb : ∀ (v3256 : IVec S16 32) (k0_hw570 : k0_chk570 v3256), ∀ a x, ((![v3256] : Fin 1 → IVec S16 32) a x).toNat < S4096.size a := fun v3256 k0_hw570 => k0_hw570

def k0_chk571 (v3261 : IVec S16 32) : Prop :=
  (∀ a x, ((![v3261] : Fin 1 → IVec S16 32) a x).toNat < S4096.size a)
theorem k0_idx571_inb : ∀ (v3261 : IVec S16 32) (k0_hw571 : k0_chk571 v3261), ∀ a x, ((![v3261] : Fin 1 → IVec S16 32) a x).toNat < S4096.size a := fun v3261 k0_hw571 => k0_hw571

def k0_chk572 (v3266 : IVec S16 32) : Prop :=
  (∀ a x, ((![v3266] : Fin 1 → IVec S16 32) a x).toNat < S4096.size a)
theorem k0_idx572_inb : ∀ (v3266 : IVec S16 32) (k0_hw572 : k0_chk572 v3266), ∀ a x, ((![v3266] : Fin 1 → IVec S16 32) a x).toNat < S4096.size a := fun v3266 k0_hw572 => k0_hw572

def k0_chk573 (v3271 : IVec S16 32) : Prop :=
  (∀ a x, ((![v3271] : Fin 1 → IVec S16 32) a x).toNat < S4096.size a)
theorem k0_idx573_inb : ∀ (v3271 : IVec S16 32) (k0_hw573 : k0_chk573 v3271), ∀ a x, ((![v3271] : Fin 1 → IVec S16 32) a x).toNat < S4096.size a := fun v3271 k0_hw573 => k0_hw573

def k0_chk574 (v3273 : IVec S16 32) : Prop :=
  (∀ a x, ((![v3273] : Fin 1 → IVec S16 32) a x).toNat < S4096.size a)
theorem k0_idx574_inb : ∀ (v3273 : IVec S16 32) (k0_hw574 : k0_chk574 v3273), ∀ a x, ((![v3273] : Fin 1 → IVec S16 32) a x).toNat < S4096.size a := fun v3273 k0_hw574 => k0_hw574

def k0_chk575 (v3275 : IVec S16 32) : Prop :=
  (∀ a x, ((![v3275] : Fin 1 → IVec S16 32) a x).toNat < S4096.size a)
theorem k0_idx575_inb : ∀ (v3275 : IVec S16 32) (k0_hw575 : k0_chk575 v3275), ∀ a x, ((![v3275] : Fin 1 → IVec S16 32) a x).toNat < S4096.size a := fun v3275 k0_hw575 => k0_hw575

def k0_chk576 (v3277 : IVec S16 32) : Prop :=
  (∀ a x, ((![v3277] : Fin 1 → IVec S16 32) a x).toNat < S4096.size a)
theorem k0_idx576_inb : ∀ (v3277 : IVec S16 32) (k0_hw576 : k0_chk576 v3277), ∀ a x, ((![v3277] : Fin 1 → IVec S16 32) a x).toNat < S4096.size a := fun v3277 k0_hw576 => k0_hw576
def k0_off23 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2319 : BitVec 32 := 512#32
  let v3278 : BitVec 32 := Scalar.muli v361 c512_i32_2319
  let c288_i32 : BitVec 32 := 288#32
  let v3279 : BitVec 32 := Scalar.addi v3278 c288_i32
  let v3280 : Index := Scalar.indexCast v3279
  ![v3280.toNat]

def k0_chk577 (v3281 : IVec S16 32) : Prop :=
  (∀ a x, ((![v3281] : Fin 1 → IVec S16 32) a x).toNat < S4096.size a)
theorem k0_idx577_inb : ∀ (v3281 : IVec S16 32) (k0_hw577 : k0_chk577 v3281), ∀ a x, ((![v3281] : Fin 1 → IVec S16 32) a x).toNat < S4096.size a := fun v3281 k0_hw577 => k0_hw577

def k0_chk578 (v3298 : IVec S16 32) : Prop :=
  (∀ a x, ((![v3298] : Fin 1 → IVec S16 32) a x).toNat < S4096.size a)
theorem k0_idx578_inb : ∀ (v3298 : IVec S16 32) (k0_hw578 : k0_chk578 v3298), ∀ a x, ((![v3298] : Fin 1 → IVec S16 32) a x).toNat < S4096.size a := fun v3298 k0_hw578 => k0_hw578

def k0_chk579 (v3303 : IVec S16 32) : Prop :=
  (∀ a x, ((![v3303] : Fin 1 → IVec S16 32) a x).toNat < S4096.size a)
theorem k0_idx579_inb : ∀ (v3303 : IVec S16 32) (k0_hw579 : k0_chk579 v3303), ∀ a x, ((![v3303] : Fin 1 → IVec S16 32) a x).toNat < S4096.size a := fun v3303 k0_hw579 => k0_hw579

def k0_chk580 (v3308 : IVec S16 32) : Prop :=
  (∀ a x, ((![v3308] : Fin 1 → IVec S16 32) a x).toNat < S4096.size a)
theorem k0_idx580_inb : ∀ (v3308 : IVec S16 32) (k0_hw580 : k0_chk580 v3308), ∀ a x, ((![v3308] : Fin 1 → IVec S16 32) a x).toNat < S4096.size a := fun v3308 k0_hw580 => k0_hw580

def k0_chk581 (v3313 : IVec S16 32) : Prop :=
  (∀ a x, ((![v3313] : Fin 1 → IVec S16 32) a x).toNat < S4096.size a)
theorem k0_idx581_inb : ∀ (v3313 : IVec S16 32) (k0_hw581 : k0_chk581 v3313), ∀ a x, ((![v3313] : Fin 1 → IVec S16 32) a x).toNat < S4096.size a := fun v3313 k0_hw581 => k0_hw581

def k0_chk582 (v3318 : IVec S16 32) : Prop :=
  (∀ a x, ((![v3318] : Fin 1 → IVec S16 32) a x).toNat < S4096.size a)
theorem k0_idx582_inb : ∀ (v3318 : IVec S16 32) (k0_hw582 : k0_chk582 v3318), ∀ a x, ((![v3318] : Fin 1 → IVec S16 32) a x).toNat < S4096.size a := fun v3318 k0_hw582 => k0_hw582

def k0_chk583 (v3323 : IVec S16 32) : Prop :=
  (∀ a x, ((![v3323] : Fin 1 → IVec S16 32) a x).toNat < S4096.size a)
theorem k0_idx583_inb : ∀ (v3323 : IVec S16 32) (k0_hw583 : k0_chk583 v3323), ∀ a x, ((![v3323] : Fin 1 → IVec S16 32) a x).toNat < S4096.size a := fun v3323 k0_hw583 => k0_hw583

def k0_chk584 (v3328 : IVec S16 32) : Prop :=
  (∀ a x, ((![v3328] : Fin 1 → IVec S16 32) a x).toNat < S4096.size a)
theorem k0_idx584_inb : ∀ (v3328 : IVec S16 32) (k0_hw584 : k0_chk584 v3328), ∀ a x, ((![v3328] : Fin 1 → IVec S16 32) a x).toNat < S4096.size a := fun v3328 k0_hw584 => k0_hw584

def k0_chk585 (v3333 : IVec S16 32) : Prop :=
  (∀ a x, ((![v3333] : Fin 1 → IVec S16 32) a x).toNat < S4096.size a)
theorem k0_idx585_inb : ∀ (v3333 : IVec S16 32) (k0_hw585 : k0_chk585 v3333), ∀ a x, ((![v3333] : Fin 1 → IVec S16 32) a x).toNat < S4096.size a := fun v3333 k0_hw585 => k0_hw585

def k0_chk586 (v3338 : IVec S16 32) : Prop :=
  (∀ a x, ((![v3338] : Fin 1 → IVec S16 32) a x).toNat < S4096.size a)
theorem k0_idx586_inb : ∀ (v3338 : IVec S16 32) (k0_hw586 : k0_chk586 v3338), ∀ a x, ((![v3338] : Fin 1 → IVec S16 32) a x).toNat < S4096.size a := fun v3338 k0_hw586 => k0_hw586

def k0_chk587 (v3343 : IVec S16 32) : Prop :=
  (∀ a x, ((![v3343] : Fin 1 → IVec S16 32) a x).toNat < S4096.size a)
theorem k0_idx587_inb : ∀ (v3343 : IVec S16 32) (k0_hw587 : k0_chk587 v3343), ∀ a x, ((![v3343] : Fin 1 → IVec S16 32) a x).toNat < S4096.size a := fun v3343 k0_hw587 => k0_hw587

def k0_chk588 (v3348 : IVec S16 32) : Prop :=
  (∀ a x, ((![v3348] : Fin 1 → IVec S16 32) a x).toNat < S4096.size a)
theorem k0_idx588_inb : ∀ (v3348 : IVec S16 32) (k0_hw588 : k0_chk588 v3348), ∀ a x, ((![v3348] : Fin 1 → IVec S16 32) a x).toNat < S4096.size a := fun v3348 k0_hw588 => k0_hw588

def k0_chk589 (v3353 : IVec S16 32) : Prop :=
  (∀ a x, ((![v3353] : Fin 1 → IVec S16 32) a x).toNat < S4096.size a)
theorem k0_idx589_inb : ∀ (v3353 : IVec S16 32) (k0_hw589 : k0_chk589 v3353), ∀ a x, ((![v3353] : Fin 1 → IVec S16 32) a x).toNat < S4096.size a := fun v3353 k0_hw589 => k0_hw589

def k0_chk590 (v3358 : IVec S16 32) : Prop :=
  (∀ a x, ((![v3358] : Fin 1 → IVec S16 32) a x).toNat < S4096.size a)
theorem k0_idx590_inb : ∀ (v3358 : IVec S16 32) (k0_hw590 : k0_chk590 v3358), ∀ a x, ((![v3358] : Fin 1 → IVec S16 32) a x).toNat < S4096.size a := fun v3358 k0_hw590 => k0_hw590

def k0_chk591 (v3363 : IVec S16 32) : Prop :=
  (∀ a x, ((![v3363] : Fin 1 → IVec S16 32) a x).toNat < S4096.size a)
theorem k0_idx591_inb : ∀ (v3363 : IVec S16 32) (k0_hw591 : k0_chk591 v3363), ∀ a x, ((![v3363] : Fin 1 → IVec S16 32) a x).toNat < S4096.size a := fun v3363 k0_hw591 => k0_hw591

def k0_chk592 (v3368 : IVec S16 32) : Prop :=
  (∀ a x, ((![v3368] : Fin 1 → IVec S16 32) a x).toNat < S4096.size a)
theorem k0_idx592_inb : ∀ (v3368 : IVec S16 32) (k0_hw592 : k0_chk592 v3368), ∀ a x, ((![v3368] : Fin 1 → IVec S16 32) a x).toNat < S4096.size a := fun v3368 k0_hw592 => k0_hw592

def k0_chk593 (v3373 : IVec S16 32) : Prop :=
  (∀ a x, ((![v3373] : Fin 1 → IVec S16 32) a x).toNat < S4096.size a)
theorem k0_idx593_inb : ∀ (v3373 : IVec S16 32) (k0_hw593 : k0_chk593 v3373), ∀ a x, ((![v3373] : Fin 1 → IVec S16 32) a x).toNat < S4096.size a := fun v3373 k0_hw593 => k0_hw593

def k0_chk594 (v3378 : IVec S16 32) : Prop :=
  (∀ a x, ((![v3378] : Fin 1 → IVec S16 32) a x).toNat < S4096.size a)
theorem k0_idx594_inb : ∀ (v3378 : IVec S16 32) (k0_hw594 : k0_chk594 v3378), ∀ a x, ((![v3378] : Fin 1 → IVec S16 32) a x).toNat < S4096.size a := fun v3378 k0_hw594 => k0_hw594

def k0_chk595 (v3383 : IVec S16 32) : Prop :=
  (∀ a x, ((![v3383] : Fin 1 → IVec S16 32) a x).toNat < S4096.size a)
theorem k0_idx595_inb : ∀ (v3383 : IVec S16 32) (k0_hw595 : k0_chk595 v3383), ∀ a x, ((![v3383] : Fin 1 → IVec S16 32) a x).toNat < S4096.size a := fun v3383 k0_hw595 => k0_hw595

def k0_chk596 (v3388 : IVec S16 32) : Prop :=
  (∀ a x, ((![v3388] : Fin 1 → IVec S16 32) a x).toNat < S4096.size a)
theorem k0_idx596_inb : ∀ (v3388 : IVec S16 32) (k0_hw596 : k0_chk596 v3388), ∀ a x, ((![v3388] : Fin 1 → IVec S16 32) a x).toNat < S4096.size a := fun v3388 k0_hw596 => k0_hw596

def k0_chk597 (v3393 : IVec S16 32) : Prop :=
  (∀ a x, ((![v3393] : Fin 1 → IVec S16 32) a x).toNat < S4096.size a)
theorem k0_idx597_inb : ∀ (v3393 : IVec S16 32) (k0_hw597 : k0_chk597 v3393), ∀ a x, ((![v3393] : Fin 1 → IVec S16 32) a x).toNat < S4096.size a := fun v3393 k0_hw597 => k0_hw597

def k0_chk598 (v3398 : IVec S16 32) : Prop :=
  (∀ a x, ((![v3398] : Fin 1 → IVec S16 32) a x).toNat < S4096.size a)
theorem k0_idx598_inb : ∀ (v3398 : IVec S16 32) (k0_hw598 : k0_chk598 v3398), ∀ a x, ((![v3398] : Fin 1 → IVec S16 32) a x).toNat < S4096.size a := fun v3398 k0_hw598 => k0_hw598

def k0_chk599 (v3403 : IVec S16 32) : Prop :=
  (∀ a x, ((![v3403] : Fin 1 → IVec S16 32) a x).toNat < S4096.size a)
theorem k0_idx599_inb : ∀ (v3403 : IVec S16 32) (k0_hw599 : k0_chk599 v3403), ∀ a x, ((![v3403] : Fin 1 → IVec S16 32) a x).toNat < S4096.size a := fun v3403 k0_hw599 => k0_hw599

def k0_chk600 (v3408 : IVec S16 32) : Prop :=
  (∀ a x, ((![v3408] : Fin 1 → IVec S16 32) a x).toNat < S4096.size a)
theorem k0_idx600_inb : ∀ (v3408 : IVec S16 32) (k0_hw600 : k0_chk600 v3408), ∀ a x, ((![v3408] : Fin 1 → IVec S16 32) a x).toNat < S4096.size a := fun v3408 k0_hw600 => k0_hw600

def k0_chk601 (v3413 : IVec S16 32) : Prop :=
  (∀ a x, ((![v3413] : Fin 1 → IVec S16 32) a x).toNat < S4096.size a)
theorem k0_idx601_inb : ∀ (v3413 : IVec S16 32) (k0_hw601 : k0_chk601 v3413), ∀ a x, ((![v3413] : Fin 1 → IVec S16 32) a x).toNat < S4096.size a := fun v3413 k0_hw601 => k0_hw601

def k0_chk602 (v3418 : IVec S16 32) : Prop :=
  (∀ a x, ((![v3418] : Fin 1 → IVec S16 32) a x).toNat < S4096.size a)
theorem k0_idx602_inb : ∀ (v3418 : IVec S16 32) (k0_hw602 : k0_chk602 v3418), ∀ a x, ((![v3418] : Fin 1 → IVec S16 32) a x).toNat < S4096.size a := fun v3418 k0_hw602 => k0_hw602

def k0_chk603 (v3423 : IVec S16 32) : Prop :=
  (∀ a x, ((![v3423] : Fin 1 → IVec S16 32) a x).toNat < S4096.size a)
theorem k0_idx603_inb : ∀ (v3423 : IVec S16 32) (k0_hw603 : k0_chk603 v3423), ∀ a x, ((![v3423] : Fin 1 → IVec S16 32) a x).toNat < S4096.size a := fun v3423 k0_hw603 => k0_hw603

def k0_chk604 (v3428 : IVec S16 32) : Prop :=
  (∀ a x, ((![v3428] : Fin 1 → IVec S16 32) a x).toNat < S4096.size a)
theorem k0_idx604_inb : ∀ (v3428 : IVec S16 32) (k0_hw604 : k0_chk604 v3428), ∀ a x, ((![v3428] : Fin 1 → IVec S16 32) a x).toNat < S4096.size a := fun v3428 k0_hw604 => k0_hw604

def k0_chk605 (v3433 : IVec S16 32) : Prop :=
  (∀ a x, ((![v3433] : Fin 1 → IVec S16 32) a x).toNat < S4096.size a)
theorem k0_idx605_inb : ∀ (v3433 : IVec S16 32) (k0_hw605 : k0_chk605 v3433), ∀ a x, ((![v3433] : Fin 1 → IVec S16 32) a x).toNat < S4096.size a := fun v3433 k0_hw605 => k0_hw605

def k0_chk606 (v3435 : IVec S16 32) : Prop :=
  (∀ a x, ((![v3435] : Fin 1 → IVec S16 32) a x).toNat < S4096.size a)
theorem k0_idx606_inb : ∀ (v3435 : IVec S16 32) (k0_hw606 : k0_chk606 v3435), ∀ a x, ((![v3435] : Fin 1 → IVec S16 32) a x).toNat < S4096.size a := fun v3435 k0_hw606 => k0_hw606

def k0_chk607 (v3437 : IVec S16 32) : Prop :=
  (∀ a x, ((![v3437] : Fin 1 → IVec S16 32) a x).toNat < S4096.size a)
theorem k0_idx607_inb : ∀ (v3437 : IVec S16 32) (k0_hw607 : k0_chk607 v3437), ∀ a x, ((![v3437] : Fin 1 → IVec S16 32) a x).toNat < S4096.size a := fun v3437 k0_hw607 => k0_hw607

def k0_chk608 (v3439 : IVec S16 32) : Prop :=
  (∀ a x, ((![v3439] : Fin 1 → IVec S16 32) a x).toNat < S4096.size a)
theorem k0_idx608_inb : ∀ (v3439 : IVec S16 32) (k0_hw608 : k0_chk608 v3439), ∀ a x, ((![v3439] : Fin 1 → IVec S16 32) a x).toNat < S4096.size a := fun v3439 k0_hw608 => k0_hw608
def k0_off24 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2447 : BitVec 32 := 512#32
  let v3440 : BitVec 32 := Scalar.muli v361 c512_i32_2447
  let c304_i32 : BitVec 32 := 304#32
  let v3441 : BitVec 32 := Scalar.addi v3440 c304_i32
  let v3442 : Index := Scalar.indexCast v3441
  ![v3442.toNat]

def k0_chk609 (v3443 : IVec S16 32) : Prop :=
  (∀ a x, ((![v3443] : Fin 1 → IVec S16 32) a x).toNat < S4096.size a)
theorem k0_idx609_inb : ∀ (v3443 : IVec S16 32) (k0_hw609 : k0_chk609 v3443), ∀ a x, ((![v3443] : Fin 1 → IVec S16 32) a x).toNat < S4096.size a := fun v3443 k0_hw609 => k0_hw609

def k0_chk610 (v3460 : IVec S16 32) : Prop :=
  (∀ a x, ((![v3460] : Fin 1 → IVec S16 32) a x).toNat < S4096.size a)
theorem k0_idx610_inb : ∀ (v3460 : IVec S16 32) (k0_hw610 : k0_chk610 v3460), ∀ a x, ((![v3460] : Fin 1 → IVec S16 32) a x).toNat < S4096.size a := fun v3460 k0_hw610 => k0_hw610

def k0_chk611 (v3465 : IVec S16 32) : Prop :=
  (∀ a x, ((![v3465] : Fin 1 → IVec S16 32) a x).toNat < S4096.size a)
theorem k0_idx611_inb : ∀ (v3465 : IVec S16 32) (k0_hw611 : k0_chk611 v3465), ∀ a x, ((![v3465] : Fin 1 → IVec S16 32) a x).toNat < S4096.size a := fun v3465 k0_hw611 => k0_hw611

def k0_chk612 (v3470 : IVec S16 32) : Prop :=
  (∀ a x, ((![v3470] : Fin 1 → IVec S16 32) a x).toNat < S4096.size a)
theorem k0_idx612_inb : ∀ (v3470 : IVec S16 32) (k0_hw612 : k0_chk612 v3470), ∀ a x, ((![v3470] : Fin 1 → IVec S16 32) a x).toNat < S4096.size a := fun v3470 k0_hw612 => k0_hw612

def k0_chk613 (v3475 : IVec S16 32) : Prop :=
  (∀ a x, ((![v3475] : Fin 1 → IVec S16 32) a x).toNat < S4096.size a)
theorem k0_idx613_inb : ∀ (v3475 : IVec S16 32) (k0_hw613 : k0_chk613 v3475), ∀ a x, ((![v3475] : Fin 1 → IVec S16 32) a x).toNat < S4096.size a := fun v3475 k0_hw613 => k0_hw613

def k0_chk614 (v3480 : IVec S16 32) : Prop :=
  (∀ a x, ((![v3480] : Fin 1 → IVec S16 32) a x).toNat < S4096.size a)
theorem k0_idx614_inb : ∀ (v3480 : IVec S16 32) (k0_hw614 : k0_chk614 v3480), ∀ a x, ((![v3480] : Fin 1 → IVec S16 32) a x).toNat < S4096.size a := fun v3480 k0_hw614 => k0_hw614

def k0_chk615 (v3485 : IVec S16 32) : Prop :=
  (∀ a x, ((![v3485] : Fin 1 → IVec S16 32) a x).toNat < S4096.size a)
theorem k0_idx615_inb : ∀ (v3485 : IVec S16 32) (k0_hw615 : k0_chk615 v3485), ∀ a x, ((![v3485] : Fin 1 → IVec S16 32) a x).toNat < S4096.size a := fun v3485 k0_hw615 => k0_hw615

def k0_chk616 (v3490 : IVec S16 32) : Prop :=
  (∀ a x, ((![v3490] : Fin 1 → IVec S16 32) a x).toNat < S4096.size a)
theorem k0_idx616_inb : ∀ (v3490 : IVec S16 32) (k0_hw616 : k0_chk616 v3490), ∀ a x, ((![v3490] : Fin 1 → IVec S16 32) a x).toNat < S4096.size a := fun v3490 k0_hw616 => k0_hw616

def k0_chk617 (v3495 : IVec S16 32) : Prop :=
  (∀ a x, ((![v3495] : Fin 1 → IVec S16 32) a x).toNat < S4096.size a)
theorem k0_idx617_inb : ∀ (v3495 : IVec S16 32) (k0_hw617 : k0_chk617 v3495), ∀ a x, ((![v3495] : Fin 1 → IVec S16 32) a x).toNat < S4096.size a := fun v3495 k0_hw617 => k0_hw617

def k0_chk618 (v3500 : IVec S16 32) : Prop :=
  (∀ a x, ((![v3500] : Fin 1 → IVec S16 32) a x).toNat < S4096.size a)
theorem k0_idx618_inb : ∀ (v3500 : IVec S16 32) (k0_hw618 : k0_chk618 v3500), ∀ a x, ((![v3500] : Fin 1 → IVec S16 32) a x).toNat < S4096.size a := fun v3500 k0_hw618 => k0_hw618

def k0_chk619 (v3505 : IVec S16 32) : Prop :=
  (∀ a x, ((![v3505] : Fin 1 → IVec S16 32) a x).toNat < S4096.size a)
theorem k0_idx619_inb : ∀ (v3505 : IVec S16 32) (k0_hw619 : k0_chk619 v3505), ∀ a x, ((![v3505] : Fin 1 → IVec S16 32) a x).toNat < S4096.size a := fun v3505 k0_hw619 => k0_hw619

def k0_chk620 (v3510 : IVec S16 32) : Prop :=
  (∀ a x, ((![v3510] : Fin 1 → IVec S16 32) a x).toNat < S4096.size a)
theorem k0_idx620_inb : ∀ (v3510 : IVec S16 32) (k0_hw620 : k0_chk620 v3510), ∀ a x, ((![v3510] : Fin 1 → IVec S16 32) a x).toNat < S4096.size a := fun v3510 k0_hw620 => k0_hw620

def k0_chk621 (v3515 : IVec S16 32) : Prop :=
  (∀ a x, ((![v3515] : Fin 1 → IVec S16 32) a x).toNat < S4096.size a)
theorem k0_idx621_inb : ∀ (v3515 : IVec S16 32) (k0_hw621 : k0_chk621 v3515), ∀ a x, ((![v3515] : Fin 1 → IVec S16 32) a x).toNat < S4096.size a := fun v3515 k0_hw621 => k0_hw621

def k0_chk622 (v3520 : IVec S16 32) : Prop :=
  (∀ a x, ((![v3520] : Fin 1 → IVec S16 32) a x).toNat < S4096.size a)
theorem k0_idx622_inb : ∀ (v3520 : IVec S16 32) (k0_hw622 : k0_chk622 v3520), ∀ a x, ((![v3520] : Fin 1 → IVec S16 32) a x).toNat < S4096.size a := fun v3520 k0_hw622 => k0_hw622

def k0_chk623 (v3525 : IVec S16 32) : Prop :=
  (∀ a x, ((![v3525] : Fin 1 → IVec S16 32) a x).toNat < S4096.size a)
theorem k0_idx623_inb : ∀ (v3525 : IVec S16 32) (k0_hw623 : k0_chk623 v3525), ∀ a x, ((![v3525] : Fin 1 → IVec S16 32) a x).toNat < S4096.size a := fun v3525 k0_hw623 => k0_hw623

def k0_chk624 (v3530 : IVec S16 32) : Prop :=
  (∀ a x, ((![v3530] : Fin 1 → IVec S16 32) a x).toNat < S4096.size a)
theorem k0_idx624_inb : ∀ (v3530 : IVec S16 32) (k0_hw624 : k0_chk624 v3530), ∀ a x, ((![v3530] : Fin 1 → IVec S16 32) a x).toNat < S4096.size a := fun v3530 k0_hw624 => k0_hw624

def k0_chk625 (v3535 : IVec S16 32) : Prop :=
  (∀ a x, ((![v3535] : Fin 1 → IVec S16 32) a x).toNat < S4096.size a)
theorem k0_idx625_inb : ∀ (v3535 : IVec S16 32) (k0_hw625 : k0_chk625 v3535), ∀ a x, ((![v3535] : Fin 1 → IVec S16 32) a x).toNat < S4096.size a := fun v3535 k0_hw625 => k0_hw625

def k0_chk626 (v3540 : IVec S16 32) : Prop :=
  (∀ a x, ((![v3540] : Fin 1 → IVec S16 32) a x).toNat < S4096.size a)
theorem k0_idx626_inb : ∀ (v3540 : IVec S16 32) (k0_hw626 : k0_chk626 v3540), ∀ a x, ((![v3540] : Fin 1 → IVec S16 32) a x).toNat < S4096.size a := fun v3540 k0_hw626 => k0_hw626

def k0_chk627 (v3545 : IVec S16 32) : Prop :=
  (∀ a x, ((![v3545] : Fin 1 → IVec S16 32) a x).toNat < S4096.size a)
theorem k0_idx627_inb : ∀ (v3545 : IVec S16 32) (k0_hw627 : k0_chk627 v3545), ∀ a x, ((![v3545] : Fin 1 → IVec S16 32) a x).toNat < S4096.size a := fun v3545 k0_hw627 => k0_hw627

def k0_chk628 (v3550 : IVec S16 32) : Prop :=
  (∀ a x, ((![v3550] : Fin 1 → IVec S16 32) a x).toNat < S4096.size a)
theorem k0_idx628_inb : ∀ (v3550 : IVec S16 32) (k0_hw628 : k0_chk628 v3550), ∀ a x, ((![v3550] : Fin 1 → IVec S16 32) a x).toNat < S4096.size a := fun v3550 k0_hw628 => k0_hw628

def k0_chk629 (v3555 : IVec S16 32) : Prop :=
  (∀ a x, ((![v3555] : Fin 1 → IVec S16 32) a x).toNat < S4096.size a)
theorem k0_idx629_inb : ∀ (v3555 : IVec S16 32) (k0_hw629 : k0_chk629 v3555), ∀ a x, ((![v3555] : Fin 1 → IVec S16 32) a x).toNat < S4096.size a := fun v3555 k0_hw629 => k0_hw629

def k0_chk630 (v3560 : IVec S16 32) : Prop :=
  (∀ a x, ((![v3560] : Fin 1 → IVec S16 32) a x).toNat < S4096.size a)
theorem k0_idx630_inb : ∀ (v3560 : IVec S16 32) (k0_hw630 : k0_chk630 v3560), ∀ a x, ((![v3560] : Fin 1 → IVec S16 32) a x).toNat < S4096.size a := fun v3560 k0_hw630 => k0_hw630

def k0_chk631 (v3565 : IVec S16 32) : Prop :=
  (∀ a x, ((![v3565] : Fin 1 → IVec S16 32) a x).toNat < S4096.size a)
theorem k0_idx631_inb : ∀ (v3565 : IVec S16 32) (k0_hw631 : k0_chk631 v3565), ∀ a x, ((![v3565] : Fin 1 → IVec S16 32) a x).toNat < S4096.size a := fun v3565 k0_hw631 => k0_hw631

def k0_chk632 (v3570 : IVec S16 32) : Prop :=
  (∀ a x, ((![v3570] : Fin 1 → IVec S16 32) a x).toNat < S4096.size a)
theorem k0_idx632_inb : ∀ (v3570 : IVec S16 32) (k0_hw632 : k0_chk632 v3570), ∀ a x, ((![v3570] : Fin 1 → IVec S16 32) a x).toNat < S4096.size a := fun v3570 k0_hw632 => k0_hw632

def k0_chk633 (v3575 : IVec S16 32) : Prop :=
  (∀ a x, ((![v3575] : Fin 1 → IVec S16 32) a x).toNat < S4096.size a)
theorem k0_idx633_inb : ∀ (v3575 : IVec S16 32) (k0_hw633 : k0_chk633 v3575), ∀ a x, ((![v3575] : Fin 1 → IVec S16 32) a x).toNat < S4096.size a := fun v3575 k0_hw633 => k0_hw633

def k0_chk634 (v3580 : IVec S16 32) : Prop :=
  (∀ a x, ((![v3580] : Fin 1 → IVec S16 32) a x).toNat < S4096.size a)
theorem k0_idx634_inb : ∀ (v3580 : IVec S16 32) (k0_hw634 : k0_chk634 v3580), ∀ a x, ((![v3580] : Fin 1 → IVec S16 32) a x).toNat < S4096.size a := fun v3580 k0_hw634 => k0_hw634

def k0_chk635 (v3585 : IVec S16 32) : Prop :=
  (∀ a x, ((![v3585] : Fin 1 → IVec S16 32) a x).toNat < S4096.size a)
theorem k0_idx635_inb : ∀ (v3585 : IVec S16 32) (k0_hw635 : k0_chk635 v3585), ∀ a x, ((![v3585] : Fin 1 → IVec S16 32) a x).toNat < S4096.size a := fun v3585 k0_hw635 => k0_hw635

def k0_chk636 (v3590 : IVec S16 32) : Prop :=
  (∀ a x, ((![v3590] : Fin 1 → IVec S16 32) a x).toNat < S4096.size a)
theorem k0_idx636_inb : ∀ (v3590 : IVec S16 32) (k0_hw636 : k0_chk636 v3590), ∀ a x, ((![v3590] : Fin 1 → IVec S16 32) a x).toNat < S4096.size a := fun v3590 k0_hw636 => k0_hw636

def k0_chk637 (v3595 : IVec S16 32) : Prop :=
  (∀ a x, ((![v3595] : Fin 1 → IVec S16 32) a x).toNat < S4096.size a)
theorem k0_idx637_inb : ∀ (v3595 : IVec S16 32) (k0_hw637 : k0_chk637 v3595), ∀ a x, ((![v3595] : Fin 1 → IVec S16 32) a x).toNat < S4096.size a := fun v3595 k0_hw637 => k0_hw637

def k0_chk638 (v3597 : IVec S16 32) : Prop :=
  (∀ a x, ((![v3597] : Fin 1 → IVec S16 32) a x).toNat < S4096.size a)
theorem k0_idx638_inb : ∀ (v3597 : IVec S16 32) (k0_hw638 : k0_chk638 v3597), ∀ a x, ((![v3597] : Fin 1 → IVec S16 32) a x).toNat < S4096.size a := fun v3597 k0_hw638 => k0_hw638

def k0_chk639 (v3599 : IVec S16 32) : Prop :=
  (∀ a x, ((![v3599] : Fin 1 → IVec S16 32) a x).toNat < S4096.size a)
theorem k0_idx639_inb : ∀ (v3599 : IVec S16 32) (k0_hw639 : k0_chk639 v3599), ∀ a x, ((![v3599] : Fin 1 → IVec S16 32) a x).toNat < S4096.size a := fun v3599 k0_hw639 => k0_hw639

def k0_chk640 (v3601 : IVec S16 32) : Prop :=
  (∀ a x, ((![v3601] : Fin 1 → IVec S16 32) a x).toNat < S4096.size a)
theorem k0_idx640_inb : ∀ (v3601 : IVec S16 32) (k0_hw640 : k0_chk640 v3601), ∀ a x, ((![v3601] : Fin 1 → IVec S16 32) a x).toNat < S4096.size a := fun v3601 k0_hw640 => k0_hw640
def k0_off25 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2575 : BitVec 32 := 512#32
  let v3602 : BitVec 32 := Scalar.muli v361 c512_i32_2575
  let c320_i32 : BitVec 32 := 320#32
  let v3603 : BitVec 32 := Scalar.addi v3602 c320_i32
  let v3604 : Index := Scalar.indexCast v3603
  ![v3604.toNat]

def k0_chk641 (v3605 : IVec S16 32) : Prop :=
  (∀ a x, ((![v3605] : Fin 1 → IVec S16 32) a x).toNat < S4096.size a)
theorem k0_idx641_inb : ∀ (v3605 : IVec S16 32) (k0_hw641 : k0_chk641 v3605), ∀ a x, ((![v3605] : Fin 1 → IVec S16 32) a x).toNat < S4096.size a := fun v3605 k0_hw641 => k0_hw641

def k0_chk642 (v3622 : IVec S16 32) : Prop :=
  (∀ a x, ((![v3622] : Fin 1 → IVec S16 32) a x).toNat < S4096.size a)
theorem k0_idx642_inb : ∀ (v3622 : IVec S16 32) (k0_hw642 : k0_chk642 v3622), ∀ a x, ((![v3622] : Fin 1 → IVec S16 32) a x).toNat < S4096.size a := fun v3622 k0_hw642 => k0_hw642

def k0_chk643 (v3627 : IVec S16 32) : Prop :=
  (∀ a x, ((![v3627] : Fin 1 → IVec S16 32) a x).toNat < S4096.size a)
theorem k0_idx643_inb : ∀ (v3627 : IVec S16 32) (k0_hw643 : k0_chk643 v3627), ∀ a x, ((![v3627] : Fin 1 → IVec S16 32) a x).toNat < S4096.size a := fun v3627 k0_hw643 => k0_hw643

def k0_chk644 (v3632 : IVec S16 32) : Prop :=
  (∀ a x, ((![v3632] : Fin 1 → IVec S16 32) a x).toNat < S4096.size a)
theorem k0_idx644_inb : ∀ (v3632 : IVec S16 32) (k0_hw644 : k0_chk644 v3632), ∀ a x, ((![v3632] : Fin 1 → IVec S16 32) a x).toNat < S4096.size a := fun v3632 k0_hw644 => k0_hw644

def k0_chk645 (v3637 : IVec S16 32) : Prop :=
  (∀ a x, ((![v3637] : Fin 1 → IVec S16 32) a x).toNat < S4096.size a)
theorem k0_idx645_inb : ∀ (v3637 : IVec S16 32) (k0_hw645 : k0_chk645 v3637), ∀ a x, ((![v3637] : Fin 1 → IVec S16 32) a x).toNat < S4096.size a := fun v3637 k0_hw645 => k0_hw645

def k0_chk646 (v3642 : IVec S16 32) : Prop :=
  (∀ a x, ((![v3642] : Fin 1 → IVec S16 32) a x).toNat < S4096.size a)
theorem k0_idx646_inb : ∀ (v3642 : IVec S16 32) (k0_hw646 : k0_chk646 v3642), ∀ a x, ((![v3642] : Fin 1 → IVec S16 32) a x).toNat < S4096.size a := fun v3642 k0_hw646 => k0_hw646

def k0_chk647 (v3647 : IVec S16 32) : Prop :=
  (∀ a x, ((![v3647] : Fin 1 → IVec S16 32) a x).toNat < S4096.size a)
theorem k0_idx647_inb : ∀ (v3647 : IVec S16 32) (k0_hw647 : k0_chk647 v3647), ∀ a x, ((![v3647] : Fin 1 → IVec S16 32) a x).toNat < S4096.size a := fun v3647 k0_hw647 => k0_hw647

def k0_chk648 (v3652 : IVec S16 32) : Prop :=
  (∀ a x, ((![v3652] : Fin 1 → IVec S16 32) a x).toNat < S4096.size a)
theorem k0_idx648_inb : ∀ (v3652 : IVec S16 32) (k0_hw648 : k0_chk648 v3652), ∀ a x, ((![v3652] : Fin 1 → IVec S16 32) a x).toNat < S4096.size a := fun v3652 k0_hw648 => k0_hw648

def k0_chk649 (v3657 : IVec S16 32) : Prop :=
  (∀ a x, ((![v3657] : Fin 1 → IVec S16 32) a x).toNat < S4096.size a)
theorem k0_idx649_inb : ∀ (v3657 : IVec S16 32) (k0_hw649 : k0_chk649 v3657), ∀ a x, ((![v3657] : Fin 1 → IVec S16 32) a x).toNat < S4096.size a := fun v3657 k0_hw649 => k0_hw649

def k0_chk650 (v3662 : IVec S16 32) : Prop :=
  (∀ a x, ((![v3662] : Fin 1 → IVec S16 32) a x).toNat < S4096.size a)
theorem k0_idx650_inb : ∀ (v3662 : IVec S16 32) (k0_hw650 : k0_chk650 v3662), ∀ a x, ((![v3662] : Fin 1 → IVec S16 32) a x).toNat < S4096.size a := fun v3662 k0_hw650 => k0_hw650

def k0_chk651 (v3667 : IVec S16 32) : Prop :=
  (∀ a x, ((![v3667] : Fin 1 → IVec S16 32) a x).toNat < S4096.size a)
theorem k0_idx651_inb : ∀ (v3667 : IVec S16 32) (k0_hw651 : k0_chk651 v3667), ∀ a x, ((![v3667] : Fin 1 → IVec S16 32) a x).toNat < S4096.size a := fun v3667 k0_hw651 => k0_hw651

def k0_chk652 (v3672 : IVec S16 32) : Prop :=
  (∀ a x, ((![v3672] : Fin 1 → IVec S16 32) a x).toNat < S4096.size a)
theorem k0_idx652_inb : ∀ (v3672 : IVec S16 32) (k0_hw652 : k0_chk652 v3672), ∀ a x, ((![v3672] : Fin 1 → IVec S16 32) a x).toNat < S4096.size a := fun v3672 k0_hw652 => k0_hw652

def k0_chk653 (v3677 : IVec S16 32) : Prop :=
  (∀ a x, ((![v3677] : Fin 1 → IVec S16 32) a x).toNat < S4096.size a)
theorem k0_idx653_inb : ∀ (v3677 : IVec S16 32) (k0_hw653 : k0_chk653 v3677), ∀ a x, ((![v3677] : Fin 1 → IVec S16 32) a x).toNat < S4096.size a := fun v3677 k0_hw653 => k0_hw653

def k0_chk654 (v3682 : IVec S16 32) : Prop :=
  (∀ a x, ((![v3682] : Fin 1 → IVec S16 32) a x).toNat < S4096.size a)
theorem k0_idx654_inb : ∀ (v3682 : IVec S16 32) (k0_hw654 : k0_chk654 v3682), ∀ a x, ((![v3682] : Fin 1 → IVec S16 32) a x).toNat < S4096.size a := fun v3682 k0_hw654 => k0_hw654

def k0_chk655 (v3687 : IVec S16 32) : Prop :=
  (∀ a x, ((![v3687] : Fin 1 → IVec S16 32) a x).toNat < S4096.size a)
theorem k0_idx655_inb : ∀ (v3687 : IVec S16 32) (k0_hw655 : k0_chk655 v3687), ∀ a x, ((![v3687] : Fin 1 → IVec S16 32) a x).toNat < S4096.size a := fun v3687 k0_hw655 => k0_hw655

def k0_chk656 (v3692 : IVec S16 32) : Prop :=
  (∀ a x, ((![v3692] : Fin 1 → IVec S16 32) a x).toNat < S4096.size a)
theorem k0_idx656_inb : ∀ (v3692 : IVec S16 32) (k0_hw656 : k0_chk656 v3692), ∀ a x, ((![v3692] : Fin 1 → IVec S16 32) a x).toNat < S4096.size a := fun v3692 k0_hw656 => k0_hw656

def k0_chk657 (v3697 : IVec S16 32) : Prop :=
  (∀ a x, ((![v3697] : Fin 1 → IVec S16 32) a x).toNat < S4096.size a)
theorem k0_idx657_inb : ∀ (v3697 : IVec S16 32) (k0_hw657 : k0_chk657 v3697), ∀ a x, ((![v3697] : Fin 1 → IVec S16 32) a x).toNat < S4096.size a := fun v3697 k0_hw657 => k0_hw657

def k0_chk658 (v3702 : IVec S16 32) : Prop :=
  (∀ a x, ((![v3702] : Fin 1 → IVec S16 32) a x).toNat < S4096.size a)
theorem k0_idx658_inb : ∀ (v3702 : IVec S16 32) (k0_hw658 : k0_chk658 v3702), ∀ a x, ((![v3702] : Fin 1 → IVec S16 32) a x).toNat < S4096.size a := fun v3702 k0_hw658 => k0_hw658

def k0_chk659 (v3707 : IVec S16 32) : Prop :=
  (∀ a x, ((![v3707] : Fin 1 → IVec S16 32) a x).toNat < S4096.size a)
theorem k0_idx659_inb : ∀ (v3707 : IVec S16 32) (k0_hw659 : k0_chk659 v3707), ∀ a x, ((![v3707] : Fin 1 → IVec S16 32) a x).toNat < S4096.size a := fun v3707 k0_hw659 => k0_hw659

def k0_chk660 (v3712 : IVec S16 32) : Prop :=
  (∀ a x, ((![v3712] : Fin 1 → IVec S16 32) a x).toNat < S4096.size a)
theorem k0_idx660_inb : ∀ (v3712 : IVec S16 32) (k0_hw660 : k0_chk660 v3712), ∀ a x, ((![v3712] : Fin 1 → IVec S16 32) a x).toNat < S4096.size a := fun v3712 k0_hw660 => k0_hw660

def k0_chk661 (v3717 : IVec S16 32) : Prop :=
  (∀ a x, ((![v3717] : Fin 1 → IVec S16 32) a x).toNat < S4096.size a)
theorem k0_idx661_inb : ∀ (v3717 : IVec S16 32) (k0_hw661 : k0_chk661 v3717), ∀ a x, ((![v3717] : Fin 1 → IVec S16 32) a x).toNat < S4096.size a := fun v3717 k0_hw661 => k0_hw661

def k0_chk662 (v3722 : IVec S16 32) : Prop :=
  (∀ a x, ((![v3722] : Fin 1 → IVec S16 32) a x).toNat < S4096.size a)
theorem k0_idx662_inb : ∀ (v3722 : IVec S16 32) (k0_hw662 : k0_chk662 v3722), ∀ a x, ((![v3722] : Fin 1 → IVec S16 32) a x).toNat < S4096.size a := fun v3722 k0_hw662 => k0_hw662

def k0_chk663 (v3727 : IVec S16 32) : Prop :=
  (∀ a x, ((![v3727] : Fin 1 → IVec S16 32) a x).toNat < S4096.size a)
theorem k0_idx663_inb : ∀ (v3727 : IVec S16 32) (k0_hw663 : k0_chk663 v3727), ∀ a x, ((![v3727] : Fin 1 → IVec S16 32) a x).toNat < S4096.size a := fun v3727 k0_hw663 => k0_hw663

def k0_chk664 (v3732 : IVec S16 32) : Prop :=
  (∀ a x, ((![v3732] : Fin 1 → IVec S16 32) a x).toNat < S4096.size a)
theorem k0_idx664_inb : ∀ (v3732 : IVec S16 32) (k0_hw664 : k0_chk664 v3732), ∀ a x, ((![v3732] : Fin 1 → IVec S16 32) a x).toNat < S4096.size a := fun v3732 k0_hw664 => k0_hw664

def k0_chk665 (v3737 : IVec S16 32) : Prop :=
  (∀ a x, ((![v3737] : Fin 1 → IVec S16 32) a x).toNat < S4096.size a)
theorem k0_idx665_inb : ∀ (v3737 : IVec S16 32) (k0_hw665 : k0_chk665 v3737), ∀ a x, ((![v3737] : Fin 1 → IVec S16 32) a x).toNat < S4096.size a := fun v3737 k0_hw665 => k0_hw665

def k0_chk666 (v3742 : IVec S16 32) : Prop :=
  (∀ a x, ((![v3742] : Fin 1 → IVec S16 32) a x).toNat < S4096.size a)
theorem k0_idx666_inb : ∀ (v3742 : IVec S16 32) (k0_hw666 : k0_chk666 v3742), ∀ a x, ((![v3742] : Fin 1 → IVec S16 32) a x).toNat < S4096.size a := fun v3742 k0_hw666 => k0_hw666

def k0_chk667 (v3747 : IVec S16 32) : Prop :=
  (∀ a x, ((![v3747] : Fin 1 → IVec S16 32) a x).toNat < S4096.size a)
theorem k0_idx667_inb : ∀ (v3747 : IVec S16 32) (k0_hw667 : k0_chk667 v3747), ∀ a x, ((![v3747] : Fin 1 → IVec S16 32) a x).toNat < S4096.size a := fun v3747 k0_hw667 => k0_hw667

def k0_chk668 (v3752 : IVec S16 32) : Prop :=
  (∀ a x, ((![v3752] : Fin 1 → IVec S16 32) a x).toNat < S4096.size a)
theorem k0_idx668_inb : ∀ (v3752 : IVec S16 32) (k0_hw668 : k0_chk668 v3752), ∀ a x, ((![v3752] : Fin 1 → IVec S16 32) a x).toNat < S4096.size a := fun v3752 k0_hw668 => k0_hw668

def k0_chk669 (v3757 : IVec S16 32) : Prop :=
  (∀ a x, ((![v3757] : Fin 1 → IVec S16 32) a x).toNat < S4096.size a)
theorem k0_idx669_inb : ∀ (v3757 : IVec S16 32) (k0_hw669 : k0_chk669 v3757), ∀ a x, ((![v3757] : Fin 1 → IVec S16 32) a x).toNat < S4096.size a := fun v3757 k0_hw669 => k0_hw669

def k0_chk670 (v3759 : IVec S16 32) : Prop :=
  (∀ a x, ((![v3759] : Fin 1 → IVec S16 32) a x).toNat < S4096.size a)
theorem k0_idx670_inb : ∀ (v3759 : IVec S16 32) (k0_hw670 : k0_chk670 v3759), ∀ a x, ((![v3759] : Fin 1 → IVec S16 32) a x).toNat < S4096.size a := fun v3759 k0_hw670 => k0_hw670

def k0_chk671 (v3761 : IVec S16 32) : Prop :=
  (∀ a x, ((![v3761] : Fin 1 → IVec S16 32) a x).toNat < S4096.size a)
theorem k0_idx671_inb : ∀ (v3761 : IVec S16 32) (k0_hw671 : k0_chk671 v3761), ∀ a x, ((![v3761] : Fin 1 → IVec S16 32) a x).toNat < S4096.size a := fun v3761 k0_hw671 => k0_hw671

def k0_chk672 (v3763 : IVec S16 32) : Prop :=
  (∀ a x, ((![v3763] : Fin 1 → IVec S16 32) a x).toNat < S4096.size a)
theorem k0_idx672_inb : ∀ (v3763 : IVec S16 32) (k0_hw672 : k0_chk672 v3763), ∀ a x, ((![v3763] : Fin 1 → IVec S16 32) a x).toNat < S4096.size a := fun v3763 k0_hw672 => k0_hw672
def k0_off26 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2703 : BitVec 32 := 512#32
  let v3764 : BitVec 32 := Scalar.muli v361 c512_i32_2703
  let c336_i32 : BitVec 32 := 336#32
  let v3765 : BitVec 32 := Scalar.addi v3764 c336_i32
  let v3766 : Index := Scalar.indexCast v3765
  ![v3766.toNat]

def k0_chk673 (v3767 : IVec S16 32) : Prop :=
  (∀ a x, ((![v3767] : Fin 1 → IVec S16 32) a x).toNat < S4096.size a)
theorem k0_idx673_inb : ∀ (v3767 : IVec S16 32) (k0_hw673 : k0_chk673 v3767), ∀ a x, ((![v3767] : Fin 1 → IVec S16 32) a x).toNat < S4096.size a := fun v3767 k0_hw673 => k0_hw673

def k0_chk674 (v3784 : IVec S16 32) : Prop :=
  (∀ a x, ((![v3784] : Fin 1 → IVec S16 32) a x).toNat < S4096.size a)
theorem k0_idx674_inb : ∀ (v3784 : IVec S16 32) (k0_hw674 : k0_chk674 v3784), ∀ a x, ((![v3784] : Fin 1 → IVec S16 32) a x).toNat < S4096.size a := fun v3784 k0_hw674 => k0_hw674

def k0_chk675 (v3789 : IVec S16 32) : Prop :=
  (∀ a x, ((![v3789] : Fin 1 → IVec S16 32) a x).toNat < S4096.size a)
theorem k0_idx675_inb : ∀ (v3789 : IVec S16 32) (k0_hw675 : k0_chk675 v3789), ∀ a x, ((![v3789] : Fin 1 → IVec S16 32) a x).toNat < S4096.size a := fun v3789 k0_hw675 => k0_hw675

def k0_chk676 (v3794 : IVec S16 32) : Prop :=
  (∀ a x, ((![v3794] : Fin 1 → IVec S16 32) a x).toNat < S4096.size a)
theorem k0_idx676_inb : ∀ (v3794 : IVec S16 32) (k0_hw676 : k0_chk676 v3794), ∀ a x, ((![v3794] : Fin 1 → IVec S16 32) a x).toNat < S4096.size a := fun v3794 k0_hw676 => k0_hw676

def k0_chk677 (v3799 : IVec S16 32) : Prop :=
  (∀ a x, ((![v3799] : Fin 1 → IVec S16 32) a x).toNat < S4096.size a)
theorem k0_idx677_inb : ∀ (v3799 : IVec S16 32) (k0_hw677 : k0_chk677 v3799), ∀ a x, ((![v3799] : Fin 1 → IVec S16 32) a x).toNat < S4096.size a := fun v3799 k0_hw677 => k0_hw677

def k0_chk678 (v3804 : IVec S16 32) : Prop :=
  (∀ a x, ((![v3804] : Fin 1 → IVec S16 32) a x).toNat < S4096.size a)
theorem k0_idx678_inb : ∀ (v3804 : IVec S16 32) (k0_hw678 : k0_chk678 v3804), ∀ a x, ((![v3804] : Fin 1 → IVec S16 32) a x).toNat < S4096.size a := fun v3804 k0_hw678 => k0_hw678

def k0_chk679 (v3809 : IVec S16 32) : Prop :=
  (∀ a x, ((![v3809] : Fin 1 → IVec S16 32) a x).toNat < S4096.size a)
theorem k0_idx679_inb : ∀ (v3809 : IVec S16 32) (k0_hw679 : k0_chk679 v3809), ∀ a x, ((![v3809] : Fin 1 → IVec S16 32) a x).toNat < S4096.size a := fun v3809 k0_hw679 => k0_hw679

def k0_chk680 (v3814 : IVec S16 32) : Prop :=
  (∀ a x, ((![v3814] : Fin 1 → IVec S16 32) a x).toNat < S4096.size a)
theorem k0_idx680_inb : ∀ (v3814 : IVec S16 32) (k0_hw680 : k0_chk680 v3814), ∀ a x, ((![v3814] : Fin 1 → IVec S16 32) a x).toNat < S4096.size a := fun v3814 k0_hw680 => k0_hw680

def k0_chk681 (v3819 : IVec S16 32) : Prop :=
  (∀ a x, ((![v3819] : Fin 1 → IVec S16 32) a x).toNat < S4096.size a)
theorem k0_idx681_inb : ∀ (v3819 : IVec S16 32) (k0_hw681 : k0_chk681 v3819), ∀ a x, ((![v3819] : Fin 1 → IVec S16 32) a x).toNat < S4096.size a := fun v3819 k0_hw681 => k0_hw681

def k0_chk682 (v3824 : IVec S16 32) : Prop :=
  (∀ a x, ((![v3824] : Fin 1 → IVec S16 32) a x).toNat < S4096.size a)
theorem k0_idx682_inb : ∀ (v3824 : IVec S16 32) (k0_hw682 : k0_chk682 v3824), ∀ a x, ((![v3824] : Fin 1 → IVec S16 32) a x).toNat < S4096.size a := fun v3824 k0_hw682 => k0_hw682

def k0_chk683 (v3829 : IVec S16 32) : Prop :=
  (∀ a x, ((![v3829] : Fin 1 → IVec S16 32) a x).toNat < S4096.size a)
theorem k0_idx683_inb : ∀ (v3829 : IVec S16 32) (k0_hw683 : k0_chk683 v3829), ∀ a x, ((![v3829] : Fin 1 → IVec S16 32) a x).toNat < S4096.size a := fun v3829 k0_hw683 => k0_hw683

def k0_chk684 (v3834 : IVec S16 32) : Prop :=
  (∀ a x, ((![v3834] : Fin 1 → IVec S16 32) a x).toNat < S4096.size a)
theorem k0_idx684_inb : ∀ (v3834 : IVec S16 32) (k0_hw684 : k0_chk684 v3834), ∀ a x, ((![v3834] : Fin 1 → IVec S16 32) a x).toNat < S4096.size a := fun v3834 k0_hw684 => k0_hw684

def k0_chk685 (v3839 : IVec S16 32) : Prop :=
  (∀ a x, ((![v3839] : Fin 1 → IVec S16 32) a x).toNat < S4096.size a)
theorem k0_idx685_inb : ∀ (v3839 : IVec S16 32) (k0_hw685 : k0_chk685 v3839), ∀ a x, ((![v3839] : Fin 1 → IVec S16 32) a x).toNat < S4096.size a := fun v3839 k0_hw685 => k0_hw685

def k0_chk686 (v3844 : IVec S16 32) : Prop :=
  (∀ a x, ((![v3844] : Fin 1 → IVec S16 32) a x).toNat < S4096.size a)
theorem k0_idx686_inb : ∀ (v3844 : IVec S16 32) (k0_hw686 : k0_chk686 v3844), ∀ a x, ((![v3844] : Fin 1 → IVec S16 32) a x).toNat < S4096.size a := fun v3844 k0_hw686 => k0_hw686

def k0_chk687 (v3849 : IVec S16 32) : Prop :=
  (∀ a x, ((![v3849] : Fin 1 → IVec S16 32) a x).toNat < S4096.size a)
theorem k0_idx687_inb : ∀ (v3849 : IVec S16 32) (k0_hw687 : k0_chk687 v3849), ∀ a x, ((![v3849] : Fin 1 → IVec S16 32) a x).toNat < S4096.size a := fun v3849 k0_hw687 => k0_hw687

def k0_chk688 (v3854 : IVec S16 32) : Prop :=
  (∀ a x, ((![v3854] : Fin 1 → IVec S16 32) a x).toNat < S4096.size a)
theorem k0_idx688_inb : ∀ (v3854 : IVec S16 32) (k0_hw688 : k0_chk688 v3854), ∀ a x, ((![v3854] : Fin 1 → IVec S16 32) a x).toNat < S4096.size a := fun v3854 k0_hw688 => k0_hw688

def k0_chk689 (v3859 : IVec S16 32) : Prop :=
  (∀ a x, ((![v3859] : Fin 1 → IVec S16 32) a x).toNat < S4096.size a)
theorem k0_idx689_inb : ∀ (v3859 : IVec S16 32) (k0_hw689 : k0_chk689 v3859), ∀ a x, ((![v3859] : Fin 1 → IVec S16 32) a x).toNat < S4096.size a := fun v3859 k0_hw689 => k0_hw689

def k0_chk690 (v3864 : IVec S16 32) : Prop :=
  (∀ a x, ((![v3864] : Fin 1 → IVec S16 32) a x).toNat < S4096.size a)
theorem k0_idx690_inb : ∀ (v3864 : IVec S16 32) (k0_hw690 : k0_chk690 v3864), ∀ a x, ((![v3864] : Fin 1 → IVec S16 32) a x).toNat < S4096.size a := fun v3864 k0_hw690 => k0_hw690

def k0_chk691 (v3869 : IVec S16 32) : Prop :=
  (∀ a x, ((![v3869] : Fin 1 → IVec S16 32) a x).toNat < S4096.size a)
theorem k0_idx691_inb : ∀ (v3869 : IVec S16 32) (k0_hw691 : k0_chk691 v3869), ∀ a x, ((![v3869] : Fin 1 → IVec S16 32) a x).toNat < S4096.size a := fun v3869 k0_hw691 => k0_hw691

def k0_chk692 (v3874 : IVec S16 32) : Prop :=
  (∀ a x, ((![v3874] : Fin 1 → IVec S16 32) a x).toNat < S4096.size a)
theorem k0_idx692_inb : ∀ (v3874 : IVec S16 32) (k0_hw692 : k0_chk692 v3874), ∀ a x, ((![v3874] : Fin 1 → IVec S16 32) a x).toNat < S4096.size a := fun v3874 k0_hw692 => k0_hw692

def k0_chk693 (v3879 : IVec S16 32) : Prop :=
  (∀ a x, ((![v3879] : Fin 1 → IVec S16 32) a x).toNat < S4096.size a)
theorem k0_idx693_inb : ∀ (v3879 : IVec S16 32) (k0_hw693 : k0_chk693 v3879), ∀ a x, ((![v3879] : Fin 1 → IVec S16 32) a x).toNat < S4096.size a := fun v3879 k0_hw693 => k0_hw693

def k0_chk694 (v3884 : IVec S16 32) : Prop :=
  (∀ a x, ((![v3884] : Fin 1 → IVec S16 32) a x).toNat < S4096.size a)
theorem k0_idx694_inb : ∀ (v3884 : IVec S16 32) (k0_hw694 : k0_chk694 v3884), ∀ a x, ((![v3884] : Fin 1 → IVec S16 32) a x).toNat < S4096.size a := fun v3884 k0_hw694 => k0_hw694

def k0_chk695 (v3889 : IVec S16 32) : Prop :=
  (∀ a x, ((![v3889] : Fin 1 → IVec S16 32) a x).toNat < S4096.size a)
theorem k0_idx695_inb : ∀ (v3889 : IVec S16 32) (k0_hw695 : k0_chk695 v3889), ∀ a x, ((![v3889] : Fin 1 → IVec S16 32) a x).toNat < S4096.size a := fun v3889 k0_hw695 => k0_hw695

def k0_chk696 (v3894 : IVec S16 32) : Prop :=
  (∀ a x, ((![v3894] : Fin 1 → IVec S16 32) a x).toNat < S4096.size a)
theorem k0_idx696_inb : ∀ (v3894 : IVec S16 32) (k0_hw696 : k0_chk696 v3894), ∀ a x, ((![v3894] : Fin 1 → IVec S16 32) a x).toNat < S4096.size a := fun v3894 k0_hw696 => k0_hw696

def k0_chk697 (v3899 : IVec S16 32) : Prop :=
  (∀ a x, ((![v3899] : Fin 1 → IVec S16 32) a x).toNat < S4096.size a)
theorem k0_idx697_inb : ∀ (v3899 : IVec S16 32) (k0_hw697 : k0_chk697 v3899), ∀ a x, ((![v3899] : Fin 1 → IVec S16 32) a x).toNat < S4096.size a := fun v3899 k0_hw697 => k0_hw697

def k0_chk698 (v3904 : IVec S16 32) : Prop :=
  (∀ a x, ((![v3904] : Fin 1 → IVec S16 32) a x).toNat < S4096.size a)
theorem k0_idx698_inb : ∀ (v3904 : IVec S16 32) (k0_hw698 : k0_chk698 v3904), ∀ a x, ((![v3904] : Fin 1 → IVec S16 32) a x).toNat < S4096.size a := fun v3904 k0_hw698 => k0_hw698

def k0_chk699 (v3909 : IVec S16 32) : Prop :=
  (∀ a x, ((![v3909] : Fin 1 → IVec S16 32) a x).toNat < S4096.size a)
theorem k0_idx699_inb : ∀ (v3909 : IVec S16 32) (k0_hw699 : k0_chk699 v3909), ∀ a x, ((![v3909] : Fin 1 → IVec S16 32) a x).toNat < S4096.size a := fun v3909 k0_hw699 => k0_hw699

def k0_chk700 (v3914 : IVec S16 32) : Prop :=
  (∀ a x, ((![v3914] : Fin 1 → IVec S16 32) a x).toNat < S4096.size a)
theorem k0_idx700_inb : ∀ (v3914 : IVec S16 32) (k0_hw700 : k0_chk700 v3914), ∀ a x, ((![v3914] : Fin 1 → IVec S16 32) a x).toNat < S4096.size a := fun v3914 k0_hw700 => k0_hw700

def k0_chk701 (v3919 : IVec S16 32) : Prop :=
  (∀ a x, ((![v3919] : Fin 1 → IVec S16 32) a x).toNat < S4096.size a)
theorem k0_idx701_inb : ∀ (v3919 : IVec S16 32) (k0_hw701 : k0_chk701 v3919), ∀ a x, ((![v3919] : Fin 1 → IVec S16 32) a x).toNat < S4096.size a := fun v3919 k0_hw701 => k0_hw701

def k0_chk702 (v3921 : IVec S16 32) : Prop :=
  (∀ a x, ((![v3921] : Fin 1 → IVec S16 32) a x).toNat < S4096.size a)
theorem k0_idx702_inb : ∀ (v3921 : IVec S16 32) (k0_hw702 : k0_chk702 v3921), ∀ a x, ((![v3921] : Fin 1 → IVec S16 32) a x).toNat < S4096.size a := fun v3921 k0_hw702 => k0_hw702

def k0_chk703 (v3923 : IVec S16 32) : Prop :=
  (∀ a x, ((![v3923] : Fin 1 → IVec S16 32) a x).toNat < S4096.size a)
theorem k0_idx703_inb : ∀ (v3923 : IVec S16 32) (k0_hw703 : k0_chk703 v3923), ∀ a x, ((![v3923] : Fin 1 → IVec S16 32) a x).toNat < S4096.size a := fun v3923 k0_hw703 => k0_hw703

def k0_chk704 (v3925 : IVec S16 32) : Prop :=
  (∀ a x, ((![v3925] : Fin 1 → IVec S16 32) a x).toNat < S4096.size a)
theorem k0_idx704_inb : ∀ (v3925 : IVec S16 32) (k0_hw704 : k0_chk704 v3925), ∀ a x, ((![v3925] : Fin 1 → IVec S16 32) a x).toNat < S4096.size a := fun v3925 k0_hw704 => k0_hw704
def k0_off27 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2831 : BitVec 32 := 512#32
  let v3926 : BitVec 32 := Scalar.muli v361 c512_i32_2831
  let c352_i32 : BitVec 32 := 352#32
  let v3927 : BitVec 32 := Scalar.addi v3926 c352_i32
  let v3928 : Index := Scalar.indexCast v3927
  ![v3928.toNat]

def k0_chk705 (v3929 : IVec S16 32) : Prop :=
  (∀ a x, ((![v3929] : Fin 1 → IVec S16 32) a x).toNat < S4096.size a)
theorem k0_idx705_inb : ∀ (v3929 : IVec S16 32) (k0_hw705 : k0_chk705 v3929), ∀ a x, ((![v3929] : Fin 1 → IVec S16 32) a x).toNat < S4096.size a := fun v3929 k0_hw705 => k0_hw705

def k0_chk706 (v3946 : IVec S16 32) : Prop :=
  (∀ a x, ((![v3946] : Fin 1 → IVec S16 32) a x).toNat < S4096.size a)
theorem k0_idx706_inb : ∀ (v3946 : IVec S16 32) (k0_hw706 : k0_chk706 v3946), ∀ a x, ((![v3946] : Fin 1 → IVec S16 32) a x).toNat < S4096.size a := fun v3946 k0_hw706 => k0_hw706

def k0_chk707 (v3951 : IVec S16 32) : Prop :=
  (∀ a x, ((![v3951] : Fin 1 → IVec S16 32) a x).toNat < S4096.size a)
theorem k0_idx707_inb : ∀ (v3951 : IVec S16 32) (k0_hw707 : k0_chk707 v3951), ∀ a x, ((![v3951] : Fin 1 → IVec S16 32) a x).toNat < S4096.size a := fun v3951 k0_hw707 => k0_hw707

def k0_chk708 (v3956 : IVec S16 32) : Prop :=
  (∀ a x, ((![v3956] : Fin 1 → IVec S16 32) a x).toNat < S4096.size a)
theorem k0_idx708_inb : ∀ (v3956 : IVec S16 32) (k0_hw708 : k0_chk708 v3956), ∀ a x, ((![v3956] : Fin 1 → IVec S16 32) a x).toNat < S4096.size a := fun v3956 k0_hw708 => k0_hw708

def k0_chk709 (v3961 : IVec S16 32) : Prop :=
  (∀ a x, ((![v3961] : Fin 1 → IVec S16 32) a x).toNat < S4096.size a)
theorem k0_idx709_inb : ∀ (v3961 : IVec S16 32) (k0_hw709 : k0_chk709 v3961), ∀ a x, ((![v3961] : Fin 1 → IVec S16 32) a x).toNat < S4096.size a := fun v3961 k0_hw709 => k0_hw709

def k0_chk710 (v3966 : IVec S16 32) : Prop :=
  (∀ a x, ((![v3966] : Fin 1 → IVec S16 32) a x).toNat < S4096.size a)
theorem k0_idx710_inb : ∀ (v3966 : IVec S16 32) (k0_hw710 : k0_chk710 v3966), ∀ a x, ((![v3966] : Fin 1 → IVec S16 32) a x).toNat < S4096.size a := fun v3966 k0_hw710 => k0_hw710

def k0_chk711 (v3971 : IVec S16 32) : Prop :=
  (∀ a x, ((![v3971] : Fin 1 → IVec S16 32) a x).toNat < S4096.size a)
theorem k0_idx711_inb : ∀ (v3971 : IVec S16 32) (k0_hw711 : k0_chk711 v3971), ∀ a x, ((![v3971] : Fin 1 → IVec S16 32) a x).toNat < S4096.size a := fun v3971 k0_hw711 => k0_hw711

def k0_chk712 (v3976 : IVec S16 32) : Prop :=
  (∀ a x, ((![v3976] : Fin 1 → IVec S16 32) a x).toNat < S4096.size a)
theorem k0_idx712_inb : ∀ (v3976 : IVec S16 32) (k0_hw712 : k0_chk712 v3976), ∀ a x, ((![v3976] : Fin 1 → IVec S16 32) a x).toNat < S4096.size a := fun v3976 k0_hw712 => k0_hw712

def k0_chk713 (v3981 : IVec S16 32) : Prop :=
  (∀ a x, ((![v3981] : Fin 1 → IVec S16 32) a x).toNat < S4096.size a)
theorem k0_idx713_inb : ∀ (v3981 : IVec S16 32) (k0_hw713 : k0_chk713 v3981), ∀ a x, ((![v3981] : Fin 1 → IVec S16 32) a x).toNat < S4096.size a := fun v3981 k0_hw713 => k0_hw713

def k0_chk714 (v3986 : IVec S16 32) : Prop :=
  (∀ a x, ((![v3986] : Fin 1 → IVec S16 32) a x).toNat < S4096.size a)
theorem k0_idx714_inb : ∀ (v3986 : IVec S16 32) (k0_hw714 : k0_chk714 v3986), ∀ a x, ((![v3986] : Fin 1 → IVec S16 32) a x).toNat < S4096.size a := fun v3986 k0_hw714 => k0_hw714

def k0_chk715 (v3991 : IVec S16 32) : Prop :=
  (∀ a x, ((![v3991] : Fin 1 → IVec S16 32) a x).toNat < S4096.size a)
theorem k0_idx715_inb : ∀ (v3991 : IVec S16 32) (k0_hw715 : k0_chk715 v3991), ∀ a x, ((![v3991] : Fin 1 → IVec S16 32) a x).toNat < S4096.size a := fun v3991 k0_hw715 => k0_hw715

def k0_chk716 (v3996 : IVec S16 32) : Prop :=
  (∀ a x, ((![v3996] : Fin 1 → IVec S16 32) a x).toNat < S4096.size a)
theorem k0_idx716_inb : ∀ (v3996 : IVec S16 32) (k0_hw716 : k0_chk716 v3996), ∀ a x, ((![v3996] : Fin 1 → IVec S16 32) a x).toNat < S4096.size a := fun v3996 k0_hw716 => k0_hw716

def k0_chk717 (v4001 : IVec S16 32) : Prop :=
  (∀ a x, ((![v4001] : Fin 1 → IVec S16 32) a x).toNat < S4096.size a)
theorem k0_idx717_inb : ∀ (v4001 : IVec S16 32) (k0_hw717 : k0_chk717 v4001), ∀ a x, ((![v4001] : Fin 1 → IVec S16 32) a x).toNat < S4096.size a := fun v4001 k0_hw717 => k0_hw717

def k0_chk718 (v4006 : IVec S16 32) : Prop :=
  (∀ a x, ((![v4006] : Fin 1 → IVec S16 32) a x).toNat < S4096.size a)
theorem k0_idx718_inb : ∀ (v4006 : IVec S16 32) (k0_hw718 : k0_chk718 v4006), ∀ a x, ((![v4006] : Fin 1 → IVec S16 32) a x).toNat < S4096.size a := fun v4006 k0_hw718 => k0_hw718

def k0_chk719 (v4011 : IVec S16 32) : Prop :=
  (∀ a x, ((![v4011] : Fin 1 → IVec S16 32) a x).toNat < S4096.size a)
theorem k0_idx719_inb : ∀ (v4011 : IVec S16 32) (k0_hw719 : k0_chk719 v4011), ∀ a x, ((![v4011] : Fin 1 → IVec S16 32) a x).toNat < S4096.size a := fun v4011 k0_hw719 => k0_hw719

def k0_chk720 (v4016 : IVec S16 32) : Prop :=
  (∀ a x, ((![v4016] : Fin 1 → IVec S16 32) a x).toNat < S4096.size a)
theorem k0_idx720_inb : ∀ (v4016 : IVec S16 32) (k0_hw720 : k0_chk720 v4016), ∀ a x, ((![v4016] : Fin 1 → IVec S16 32) a x).toNat < S4096.size a := fun v4016 k0_hw720 => k0_hw720

def k0_chk721 (v4021 : IVec S16 32) : Prop :=
  (∀ a x, ((![v4021] : Fin 1 → IVec S16 32) a x).toNat < S4096.size a)
theorem k0_idx721_inb : ∀ (v4021 : IVec S16 32) (k0_hw721 : k0_chk721 v4021), ∀ a x, ((![v4021] : Fin 1 → IVec S16 32) a x).toNat < S4096.size a := fun v4021 k0_hw721 => k0_hw721

def k0_chk722 (v4026 : IVec S16 32) : Prop :=
  (∀ a x, ((![v4026] : Fin 1 → IVec S16 32) a x).toNat < S4096.size a)
theorem k0_idx722_inb : ∀ (v4026 : IVec S16 32) (k0_hw722 : k0_chk722 v4026), ∀ a x, ((![v4026] : Fin 1 → IVec S16 32) a x).toNat < S4096.size a := fun v4026 k0_hw722 => k0_hw722

def k0_chk723 (v4031 : IVec S16 32) : Prop :=
  (∀ a x, ((![v4031] : Fin 1 → IVec S16 32) a x).toNat < S4096.size a)
theorem k0_idx723_inb : ∀ (v4031 : IVec S16 32) (k0_hw723 : k0_chk723 v4031), ∀ a x, ((![v4031] : Fin 1 → IVec S16 32) a x).toNat < S4096.size a := fun v4031 k0_hw723 => k0_hw723

def k0_chk724 (v4036 : IVec S16 32) : Prop :=
  (∀ a x, ((![v4036] : Fin 1 → IVec S16 32) a x).toNat < S4096.size a)
theorem k0_idx724_inb : ∀ (v4036 : IVec S16 32) (k0_hw724 : k0_chk724 v4036), ∀ a x, ((![v4036] : Fin 1 → IVec S16 32) a x).toNat < S4096.size a := fun v4036 k0_hw724 => k0_hw724

def k0_chk725 (v4041 : IVec S16 32) : Prop :=
  (∀ a x, ((![v4041] : Fin 1 → IVec S16 32) a x).toNat < S4096.size a)
theorem k0_idx725_inb : ∀ (v4041 : IVec S16 32) (k0_hw725 : k0_chk725 v4041), ∀ a x, ((![v4041] : Fin 1 → IVec S16 32) a x).toNat < S4096.size a := fun v4041 k0_hw725 => k0_hw725

def k0_chk726 (v4046 : IVec S16 32) : Prop :=
  (∀ a x, ((![v4046] : Fin 1 → IVec S16 32) a x).toNat < S4096.size a)
theorem k0_idx726_inb : ∀ (v4046 : IVec S16 32) (k0_hw726 : k0_chk726 v4046), ∀ a x, ((![v4046] : Fin 1 → IVec S16 32) a x).toNat < S4096.size a := fun v4046 k0_hw726 => k0_hw726

def k0_chk727 (v4051 : IVec S16 32) : Prop :=
  (∀ a x, ((![v4051] : Fin 1 → IVec S16 32) a x).toNat < S4096.size a)
theorem k0_idx727_inb : ∀ (v4051 : IVec S16 32) (k0_hw727 : k0_chk727 v4051), ∀ a x, ((![v4051] : Fin 1 → IVec S16 32) a x).toNat < S4096.size a := fun v4051 k0_hw727 => k0_hw727

def k0_chk728 (v4056 : IVec S16 32) : Prop :=
  (∀ a x, ((![v4056] : Fin 1 → IVec S16 32) a x).toNat < S4096.size a)
theorem k0_idx728_inb : ∀ (v4056 : IVec S16 32) (k0_hw728 : k0_chk728 v4056), ∀ a x, ((![v4056] : Fin 1 → IVec S16 32) a x).toNat < S4096.size a := fun v4056 k0_hw728 => k0_hw728

def k0_chk729 (v4061 : IVec S16 32) : Prop :=
  (∀ a x, ((![v4061] : Fin 1 → IVec S16 32) a x).toNat < S4096.size a)
theorem k0_idx729_inb : ∀ (v4061 : IVec S16 32) (k0_hw729 : k0_chk729 v4061), ∀ a x, ((![v4061] : Fin 1 → IVec S16 32) a x).toNat < S4096.size a := fun v4061 k0_hw729 => k0_hw729

def k0_chk730 (v4066 : IVec S16 32) : Prop :=
  (∀ a x, ((![v4066] : Fin 1 → IVec S16 32) a x).toNat < S4096.size a)
theorem k0_idx730_inb : ∀ (v4066 : IVec S16 32) (k0_hw730 : k0_chk730 v4066), ∀ a x, ((![v4066] : Fin 1 → IVec S16 32) a x).toNat < S4096.size a := fun v4066 k0_hw730 => k0_hw730

def k0_chk731 (v4071 : IVec S16 32) : Prop :=
  (∀ a x, ((![v4071] : Fin 1 → IVec S16 32) a x).toNat < S4096.size a)
theorem k0_idx731_inb : ∀ (v4071 : IVec S16 32) (k0_hw731 : k0_chk731 v4071), ∀ a x, ((![v4071] : Fin 1 → IVec S16 32) a x).toNat < S4096.size a := fun v4071 k0_hw731 => k0_hw731

def k0_chk732 (v4076 : IVec S16 32) : Prop :=
  (∀ a x, ((![v4076] : Fin 1 → IVec S16 32) a x).toNat < S4096.size a)
theorem k0_idx732_inb : ∀ (v4076 : IVec S16 32) (k0_hw732 : k0_chk732 v4076), ∀ a x, ((![v4076] : Fin 1 → IVec S16 32) a x).toNat < S4096.size a := fun v4076 k0_hw732 => k0_hw732

def k0_chk733 (v4081 : IVec S16 32) : Prop :=
  (∀ a x, ((![v4081] : Fin 1 → IVec S16 32) a x).toNat < S4096.size a)
theorem k0_idx733_inb : ∀ (v4081 : IVec S16 32) (k0_hw733 : k0_chk733 v4081), ∀ a x, ((![v4081] : Fin 1 → IVec S16 32) a x).toNat < S4096.size a := fun v4081 k0_hw733 => k0_hw733

def k0_chk734 (v4083 : IVec S16 32) : Prop :=
  (∀ a x, ((![v4083] : Fin 1 → IVec S16 32) a x).toNat < S4096.size a)
theorem k0_idx734_inb : ∀ (v4083 : IVec S16 32) (k0_hw734 : k0_chk734 v4083), ∀ a x, ((![v4083] : Fin 1 → IVec S16 32) a x).toNat < S4096.size a := fun v4083 k0_hw734 => k0_hw734

def k0_chk735 (v4085 : IVec S16 32) : Prop :=
  (∀ a x, ((![v4085] : Fin 1 → IVec S16 32) a x).toNat < S4096.size a)
theorem k0_idx735_inb : ∀ (v4085 : IVec S16 32) (k0_hw735 : k0_chk735 v4085), ∀ a x, ((![v4085] : Fin 1 → IVec S16 32) a x).toNat < S4096.size a := fun v4085 k0_hw735 => k0_hw735

def k0_chk736 (v4087 : IVec S16 32) : Prop :=
  (∀ a x, ((![v4087] : Fin 1 → IVec S16 32) a x).toNat < S4096.size a)
theorem k0_idx736_inb : ∀ (v4087 : IVec S16 32) (k0_hw736 : k0_chk736 v4087), ∀ a x, ((![v4087] : Fin 1 → IVec S16 32) a x).toNat < S4096.size a := fun v4087 k0_hw736 => k0_hw736
def k0_off28 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_2959 : BitVec 32 := 512#32
  let v4088 : BitVec 32 := Scalar.muli v361 c512_i32_2959
  let c368_i32 : BitVec 32 := 368#32
  let v4089 : BitVec 32 := Scalar.addi v4088 c368_i32
  let v4090 : Index := Scalar.indexCast v4089
  ![v4090.toNat]

def k0_chk737 (v4091 : IVec S16 32) : Prop :=
  (∀ a x, ((![v4091] : Fin 1 → IVec S16 32) a x).toNat < S4096.size a)
theorem k0_idx737_inb : ∀ (v4091 : IVec S16 32) (k0_hw737 : k0_chk737 v4091), ∀ a x, ((![v4091] : Fin 1 → IVec S16 32) a x).toNat < S4096.size a := fun v4091 k0_hw737 => k0_hw737

def k0_chk738 (v4108 : IVec S16 32) : Prop :=
  (∀ a x, ((![v4108] : Fin 1 → IVec S16 32) a x).toNat < S4096.size a)
theorem k0_idx738_inb : ∀ (v4108 : IVec S16 32) (k0_hw738 : k0_chk738 v4108), ∀ a x, ((![v4108] : Fin 1 → IVec S16 32) a x).toNat < S4096.size a := fun v4108 k0_hw738 => k0_hw738

def k0_chk739 (v4113 : IVec S16 32) : Prop :=
  (∀ a x, ((![v4113] : Fin 1 → IVec S16 32) a x).toNat < S4096.size a)
theorem k0_idx739_inb : ∀ (v4113 : IVec S16 32) (k0_hw739 : k0_chk739 v4113), ∀ a x, ((![v4113] : Fin 1 → IVec S16 32) a x).toNat < S4096.size a := fun v4113 k0_hw739 => k0_hw739

def k0_chk740 (v4118 : IVec S16 32) : Prop :=
  (∀ a x, ((![v4118] : Fin 1 → IVec S16 32) a x).toNat < S4096.size a)
theorem k0_idx740_inb : ∀ (v4118 : IVec S16 32) (k0_hw740 : k0_chk740 v4118), ∀ a x, ((![v4118] : Fin 1 → IVec S16 32) a x).toNat < S4096.size a := fun v4118 k0_hw740 => k0_hw740

def k0_chk741 (v4123 : IVec S16 32) : Prop :=
  (∀ a x, ((![v4123] : Fin 1 → IVec S16 32) a x).toNat < S4096.size a)
theorem k0_idx741_inb : ∀ (v4123 : IVec S16 32) (k0_hw741 : k0_chk741 v4123), ∀ a x, ((![v4123] : Fin 1 → IVec S16 32) a x).toNat < S4096.size a := fun v4123 k0_hw741 => k0_hw741

def k0_chk742 (v4128 : IVec S16 32) : Prop :=
  (∀ a x, ((![v4128] : Fin 1 → IVec S16 32) a x).toNat < S4096.size a)
theorem k0_idx742_inb : ∀ (v4128 : IVec S16 32) (k0_hw742 : k0_chk742 v4128), ∀ a x, ((![v4128] : Fin 1 → IVec S16 32) a x).toNat < S4096.size a := fun v4128 k0_hw742 => k0_hw742

def k0_chk743 (v4133 : IVec S16 32) : Prop :=
  (∀ a x, ((![v4133] : Fin 1 → IVec S16 32) a x).toNat < S4096.size a)
theorem k0_idx743_inb : ∀ (v4133 : IVec S16 32) (k0_hw743 : k0_chk743 v4133), ∀ a x, ((![v4133] : Fin 1 → IVec S16 32) a x).toNat < S4096.size a := fun v4133 k0_hw743 => k0_hw743

def k0_chk744 (v4138 : IVec S16 32) : Prop :=
  (∀ a x, ((![v4138] : Fin 1 → IVec S16 32) a x).toNat < S4096.size a)
theorem k0_idx744_inb : ∀ (v4138 : IVec S16 32) (k0_hw744 : k0_chk744 v4138), ∀ a x, ((![v4138] : Fin 1 → IVec S16 32) a x).toNat < S4096.size a := fun v4138 k0_hw744 => k0_hw744

def k0_chk745 (v4143 : IVec S16 32) : Prop :=
  (∀ a x, ((![v4143] : Fin 1 → IVec S16 32) a x).toNat < S4096.size a)
theorem k0_idx745_inb : ∀ (v4143 : IVec S16 32) (k0_hw745 : k0_chk745 v4143), ∀ a x, ((![v4143] : Fin 1 → IVec S16 32) a x).toNat < S4096.size a := fun v4143 k0_hw745 => k0_hw745

def k0_chk746 (v4148 : IVec S16 32) : Prop :=
  (∀ a x, ((![v4148] : Fin 1 → IVec S16 32) a x).toNat < S4096.size a)
theorem k0_idx746_inb : ∀ (v4148 : IVec S16 32) (k0_hw746 : k0_chk746 v4148), ∀ a x, ((![v4148] : Fin 1 → IVec S16 32) a x).toNat < S4096.size a := fun v4148 k0_hw746 => k0_hw746

def k0_chk747 (v4153 : IVec S16 32) : Prop :=
  (∀ a x, ((![v4153] : Fin 1 → IVec S16 32) a x).toNat < S4096.size a)
theorem k0_idx747_inb : ∀ (v4153 : IVec S16 32) (k0_hw747 : k0_chk747 v4153), ∀ a x, ((![v4153] : Fin 1 → IVec S16 32) a x).toNat < S4096.size a := fun v4153 k0_hw747 => k0_hw747

def k0_chk748 (v4158 : IVec S16 32) : Prop :=
  (∀ a x, ((![v4158] : Fin 1 → IVec S16 32) a x).toNat < S4096.size a)
theorem k0_idx748_inb : ∀ (v4158 : IVec S16 32) (k0_hw748 : k0_chk748 v4158), ∀ a x, ((![v4158] : Fin 1 → IVec S16 32) a x).toNat < S4096.size a := fun v4158 k0_hw748 => k0_hw748

def k0_chk749 (v4163 : IVec S16 32) : Prop :=
  (∀ a x, ((![v4163] : Fin 1 → IVec S16 32) a x).toNat < S4096.size a)
theorem k0_idx749_inb : ∀ (v4163 : IVec S16 32) (k0_hw749 : k0_chk749 v4163), ∀ a x, ((![v4163] : Fin 1 → IVec S16 32) a x).toNat < S4096.size a := fun v4163 k0_hw749 => k0_hw749

def k0_chk750 (v4168 : IVec S16 32) : Prop :=
  (∀ a x, ((![v4168] : Fin 1 → IVec S16 32) a x).toNat < S4096.size a)
theorem k0_idx750_inb : ∀ (v4168 : IVec S16 32) (k0_hw750 : k0_chk750 v4168), ∀ a x, ((![v4168] : Fin 1 → IVec S16 32) a x).toNat < S4096.size a := fun v4168 k0_hw750 => k0_hw750

def k0_chk751 (v4173 : IVec S16 32) : Prop :=
  (∀ a x, ((![v4173] : Fin 1 → IVec S16 32) a x).toNat < S4096.size a)
theorem k0_idx751_inb : ∀ (v4173 : IVec S16 32) (k0_hw751 : k0_chk751 v4173), ∀ a x, ((![v4173] : Fin 1 → IVec S16 32) a x).toNat < S4096.size a := fun v4173 k0_hw751 => k0_hw751

def k0_chk752 (v4178 : IVec S16 32) : Prop :=
  (∀ a x, ((![v4178] : Fin 1 → IVec S16 32) a x).toNat < S4096.size a)
theorem k0_idx752_inb : ∀ (v4178 : IVec S16 32) (k0_hw752 : k0_chk752 v4178), ∀ a x, ((![v4178] : Fin 1 → IVec S16 32) a x).toNat < S4096.size a := fun v4178 k0_hw752 => k0_hw752

def k0_chk753 (v4183 : IVec S16 32) : Prop :=
  (∀ a x, ((![v4183] : Fin 1 → IVec S16 32) a x).toNat < S4096.size a)
theorem k0_idx753_inb : ∀ (v4183 : IVec S16 32) (k0_hw753 : k0_chk753 v4183), ∀ a x, ((![v4183] : Fin 1 → IVec S16 32) a x).toNat < S4096.size a := fun v4183 k0_hw753 => k0_hw753

def k0_chk754 (v4188 : IVec S16 32) : Prop :=
  (∀ a x, ((![v4188] : Fin 1 → IVec S16 32) a x).toNat < S4096.size a)
theorem k0_idx754_inb : ∀ (v4188 : IVec S16 32) (k0_hw754 : k0_chk754 v4188), ∀ a x, ((![v4188] : Fin 1 → IVec S16 32) a x).toNat < S4096.size a := fun v4188 k0_hw754 => k0_hw754

def k0_chk755 (v4193 : IVec S16 32) : Prop :=
  (∀ a x, ((![v4193] : Fin 1 → IVec S16 32) a x).toNat < S4096.size a)
theorem k0_idx755_inb : ∀ (v4193 : IVec S16 32) (k0_hw755 : k0_chk755 v4193), ∀ a x, ((![v4193] : Fin 1 → IVec S16 32) a x).toNat < S4096.size a := fun v4193 k0_hw755 => k0_hw755

def k0_chk756 (v4198 : IVec S16 32) : Prop :=
  (∀ a x, ((![v4198] : Fin 1 → IVec S16 32) a x).toNat < S4096.size a)
theorem k0_idx756_inb : ∀ (v4198 : IVec S16 32) (k0_hw756 : k0_chk756 v4198), ∀ a x, ((![v4198] : Fin 1 → IVec S16 32) a x).toNat < S4096.size a := fun v4198 k0_hw756 => k0_hw756

def k0_chk757 (v4203 : IVec S16 32) : Prop :=
  (∀ a x, ((![v4203] : Fin 1 → IVec S16 32) a x).toNat < S4096.size a)
theorem k0_idx757_inb : ∀ (v4203 : IVec S16 32) (k0_hw757 : k0_chk757 v4203), ∀ a x, ((![v4203] : Fin 1 → IVec S16 32) a x).toNat < S4096.size a := fun v4203 k0_hw757 => k0_hw757

def k0_chk758 (v4208 : IVec S16 32) : Prop :=
  (∀ a x, ((![v4208] : Fin 1 → IVec S16 32) a x).toNat < S4096.size a)
theorem k0_idx758_inb : ∀ (v4208 : IVec S16 32) (k0_hw758 : k0_chk758 v4208), ∀ a x, ((![v4208] : Fin 1 → IVec S16 32) a x).toNat < S4096.size a := fun v4208 k0_hw758 => k0_hw758

def k0_chk759 (v4213 : IVec S16 32) : Prop :=
  (∀ a x, ((![v4213] : Fin 1 → IVec S16 32) a x).toNat < S4096.size a)
theorem k0_idx759_inb : ∀ (v4213 : IVec S16 32) (k0_hw759 : k0_chk759 v4213), ∀ a x, ((![v4213] : Fin 1 → IVec S16 32) a x).toNat < S4096.size a := fun v4213 k0_hw759 => k0_hw759

def k0_chk760 (v4218 : IVec S16 32) : Prop :=
  (∀ a x, ((![v4218] : Fin 1 → IVec S16 32) a x).toNat < S4096.size a)
theorem k0_idx760_inb : ∀ (v4218 : IVec S16 32) (k0_hw760 : k0_chk760 v4218), ∀ a x, ((![v4218] : Fin 1 → IVec S16 32) a x).toNat < S4096.size a := fun v4218 k0_hw760 => k0_hw760

def k0_chk761 (v4223 : IVec S16 32) : Prop :=
  (∀ a x, ((![v4223] : Fin 1 → IVec S16 32) a x).toNat < S4096.size a)
theorem k0_idx761_inb : ∀ (v4223 : IVec S16 32) (k0_hw761 : k0_chk761 v4223), ∀ a x, ((![v4223] : Fin 1 → IVec S16 32) a x).toNat < S4096.size a := fun v4223 k0_hw761 => k0_hw761

def k0_chk762 (v4228 : IVec S16 32) : Prop :=
  (∀ a x, ((![v4228] : Fin 1 → IVec S16 32) a x).toNat < S4096.size a)
theorem k0_idx762_inb : ∀ (v4228 : IVec S16 32) (k0_hw762 : k0_chk762 v4228), ∀ a x, ((![v4228] : Fin 1 → IVec S16 32) a x).toNat < S4096.size a := fun v4228 k0_hw762 => k0_hw762

def k0_chk763 (v4233 : IVec S16 32) : Prop :=
  (∀ a x, ((![v4233] : Fin 1 → IVec S16 32) a x).toNat < S4096.size a)
theorem k0_idx763_inb : ∀ (v4233 : IVec S16 32) (k0_hw763 : k0_chk763 v4233), ∀ a x, ((![v4233] : Fin 1 → IVec S16 32) a x).toNat < S4096.size a := fun v4233 k0_hw763 => k0_hw763

def k0_chk764 (v4238 : IVec S16 32) : Prop :=
  (∀ a x, ((![v4238] : Fin 1 → IVec S16 32) a x).toNat < S4096.size a)
theorem k0_idx764_inb : ∀ (v4238 : IVec S16 32) (k0_hw764 : k0_chk764 v4238), ∀ a x, ((![v4238] : Fin 1 → IVec S16 32) a x).toNat < S4096.size a := fun v4238 k0_hw764 => k0_hw764

def k0_chk765 (v4243 : IVec S16 32) : Prop :=
  (∀ a x, ((![v4243] : Fin 1 → IVec S16 32) a x).toNat < S4096.size a)
theorem k0_idx765_inb : ∀ (v4243 : IVec S16 32) (k0_hw765 : k0_chk765 v4243), ∀ a x, ((![v4243] : Fin 1 → IVec S16 32) a x).toNat < S4096.size a := fun v4243 k0_hw765 => k0_hw765

def k0_chk766 (v4245 : IVec S16 32) : Prop :=
  (∀ a x, ((![v4245] : Fin 1 → IVec S16 32) a x).toNat < S4096.size a)
theorem k0_idx766_inb : ∀ (v4245 : IVec S16 32) (k0_hw766 : k0_chk766 v4245), ∀ a x, ((![v4245] : Fin 1 → IVec S16 32) a x).toNat < S4096.size a := fun v4245 k0_hw766 => k0_hw766

def k0_chk767 (v4247 : IVec S16 32) : Prop :=
  (∀ a x, ((![v4247] : Fin 1 → IVec S16 32) a x).toNat < S4096.size a)
theorem k0_idx767_inb : ∀ (v4247 : IVec S16 32) (k0_hw767 : k0_chk767 v4247), ∀ a x, ((![v4247] : Fin 1 → IVec S16 32) a x).toNat < S4096.size a := fun v4247 k0_hw767 => k0_hw767

def k0_chk768 (v4249 : IVec S16 32) : Prop :=
  (∀ a x, ((![v4249] : Fin 1 → IVec S16 32) a x).toNat < S4096.size a)
theorem k0_idx768_inb : ∀ (v4249 : IVec S16 32) (k0_hw768 : k0_chk768 v4249), ∀ a x, ((![v4249] : Fin 1 → IVec S16 32) a x).toNat < S4096.size a := fun v4249 k0_hw768 => k0_hw768
def k0_off29 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3087 : BitVec 32 := 512#32
  let v4250 : BitVec 32 := Scalar.muli v361 c512_i32_3087
  let c384_i32_3088 : BitVec 32 := 384#32
  let v4251 : BitVec 32 := Scalar.addi v4250 c384_i32_3088
  let v4252 : Index := Scalar.indexCast v4251
  ![v4252.toNat]

def k0_chk769 (v4253 : IVec S16 32) : Prop :=
  (∀ a x, ((![v4253] : Fin 1 → IVec S16 32) a x).toNat < S4096.size a)
theorem k0_idx769_inb : ∀ (v4253 : IVec S16 32) (k0_hw769 : k0_chk769 v4253), ∀ a x, ((![v4253] : Fin 1 → IVec S16 32) a x).toNat < S4096.size a := fun v4253 k0_hw769 => k0_hw769

def k0_chk770 (v4270 : IVec S16 32) : Prop :=
  (∀ a x, ((![v4270] : Fin 1 → IVec S16 32) a x).toNat < S4096.size a)
theorem k0_idx770_inb : ∀ (v4270 : IVec S16 32) (k0_hw770 : k0_chk770 v4270), ∀ a x, ((![v4270] : Fin 1 → IVec S16 32) a x).toNat < S4096.size a := fun v4270 k0_hw770 => k0_hw770

def k0_chk771 (v4275 : IVec S16 32) : Prop :=
  (∀ a x, ((![v4275] : Fin 1 → IVec S16 32) a x).toNat < S4096.size a)
theorem k0_idx771_inb : ∀ (v4275 : IVec S16 32) (k0_hw771 : k0_chk771 v4275), ∀ a x, ((![v4275] : Fin 1 → IVec S16 32) a x).toNat < S4096.size a := fun v4275 k0_hw771 => k0_hw771

def k0_chk772 (v4280 : IVec S16 32) : Prop :=
  (∀ a x, ((![v4280] : Fin 1 → IVec S16 32) a x).toNat < S4096.size a)
theorem k0_idx772_inb : ∀ (v4280 : IVec S16 32) (k0_hw772 : k0_chk772 v4280), ∀ a x, ((![v4280] : Fin 1 → IVec S16 32) a x).toNat < S4096.size a := fun v4280 k0_hw772 => k0_hw772

def k0_chk773 (v4285 : IVec S16 32) : Prop :=
  (∀ a x, ((![v4285] : Fin 1 → IVec S16 32) a x).toNat < S4096.size a)
theorem k0_idx773_inb : ∀ (v4285 : IVec S16 32) (k0_hw773 : k0_chk773 v4285), ∀ a x, ((![v4285] : Fin 1 → IVec S16 32) a x).toNat < S4096.size a := fun v4285 k0_hw773 => k0_hw773

def k0_chk774 (v4290 : IVec S16 32) : Prop :=
  (∀ a x, ((![v4290] : Fin 1 → IVec S16 32) a x).toNat < S4096.size a)
theorem k0_idx774_inb : ∀ (v4290 : IVec S16 32) (k0_hw774 : k0_chk774 v4290), ∀ a x, ((![v4290] : Fin 1 → IVec S16 32) a x).toNat < S4096.size a := fun v4290 k0_hw774 => k0_hw774

def k0_chk775 (v4295 : IVec S16 32) : Prop :=
  (∀ a x, ((![v4295] : Fin 1 → IVec S16 32) a x).toNat < S4096.size a)
theorem k0_idx775_inb : ∀ (v4295 : IVec S16 32) (k0_hw775 : k0_chk775 v4295), ∀ a x, ((![v4295] : Fin 1 → IVec S16 32) a x).toNat < S4096.size a := fun v4295 k0_hw775 => k0_hw775

def k0_chk776 (v4300 : IVec S16 32) : Prop :=
  (∀ a x, ((![v4300] : Fin 1 → IVec S16 32) a x).toNat < S4096.size a)
theorem k0_idx776_inb : ∀ (v4300 : IVec S16 32) (k0_hw776 : k0_chk776 v4300), ∀ a x, ((![v4300] : Fin 1 → IVec S16 32) a x).toNat < S4096.size a := fun v4300 k0_hw776 => k0_hw776

def k0_chk777 (v4305 : IVec S16 32) : Prop :=
  (∀ a x, ((![v4305] : Fin 1 → IVec S16 32) a x).toNat < S4096.size a)
theorem k0_idx777_inb : ∀ (v4305 : IVec S16 32) (k0_hw777 : k0_chk777 v4305), ∀ a x, ((![v4305] : Fin 1 → IVec S16 32) a x).toNat < S4096.size a := fun v4305 k0_hw777 => k0_hw777

def k0_chk778 (v4310 : IVec S16 32) : Prop :=
  (∀ a x, ((![v4310] : Fin 1 → IVec S16 32) a x).toNat < S4096.size a)
theorem k0_idx778_inb : ∀ (v4310 : IVec S16 32) (k0_hw778 : k0_chk778 v4310), ∀ a x, ((![v4310] : Fin 1 → IVec S16 32) a x).toNat < S4096.size a := fun v4310 k0_hw778 => k0_hw778

def k0_chk779 (v4315 : IVec S16 32) : Prop :=
  (∀ a x, ((![v4315] : Fin 1 → IVec S16 32) a x).toNat < S4096.size a)
theorem k0_idx779_inb : ∀ (v4315 : IVec S16 32) (k0_hw779 : k0_chk779 v4315), ∀ a x, ((![v4315] : Fin 1 → IVec S16 32) a x).toNat < S4096.size a := fun v4315 k0_hw779 => k0_hw779

def k0_chk780 (v4320 : IVec S16 32) : Prop :=
  (∀ a x, ((![v4320] : Fin 1 → IVec S16 32) a x).toNat < S4096.size a)
theorem k0_idx780_inb : ∀ (v4320 : IVec S16 32) (k0_hw780 : k0_chk780 v4320), ∀ a x, ((![v4320] : Fin 1 → IVec S16 32) a x).toNat < S4096.size a := fun v4320 k0_hw780 => k0_hw780

def k0_chk781 (v4325 : IVec S16 32) : Prop :=
  (∀ a x, ((![v4325] : Fin 1 → IVec S16 32) a x).toNat < S4096.size a)
theorem k0_idx781_inb : ∀ (v4325 : IVec S16 32) (k0_hw781 : k0_chk781 v4325), ∀ a x, ((![v4325] : Fin 1 → IVec S16 32) a x).toNat < S4096.size a := fun v4325 k0_hw781 => k0_hw781

def k0_chk782 (v4330 : IVec S16 32) : Prop :=
  (∀ a x, ((![v4330] : Fin 1 → IVec S16 32) a x).toNat < S4096.size a)
theorem k0_idx782_inb : ∀ (v4330 : IVec S16 32) (k0_hw782 : k0_chk782 v4330), ∀ a x, ((![v4330] : Fin 1 → IVec S16 32) a x).toNat < S4096.size a := fun v4330 k0_hw782 => k0_hw782

def k0_chk783 (v4335 : IVec S16 32) : Prop :=
  (∀ a x, ((![v4335] : Fin 1 → IVec S16 32) a x).toNat < S4096.size a)
theorem k0_idx783_inb : ∀ (v4335 : IVec S16 32) (k0_hw783 : k0_chk783 v4335), ∀ a x, ((![v4335] : Fin 1 → IVec S16 32) a x).toNat < S4096.size a := fun v4335 k0_hw783 => k0_hw783

def k0_chk784 (v4340 : IVec S16 32) : Prop :=
  (∀ a x, ((![v4340] : Fin 1 → IVec S16 32) a x).toNat < S4096.size a)
theorem k0_idx784_inb : ∀ (v4340 : IVec S16 32) (k0_hw784 : k0_chk784 v4340), ∀ a x, ((![v4340] : Fin 1 → IVec S16 32) a x).toNat < S4096.size a := fun v4340 k0_hw784 => k0_hw784

def k0_chk785 (v4345 : IVec S16 32) : Prop :=
  (∀ a x, ((![v4345] : Fin 1 → IVec S16 32) a x).toNat < S4096.size a)
theorem k0_idx785_inb : ∀ (v4345 : IVec S16 32) (k0_hw785 : k0_chk785 v4345), ∀ a x, ((![v4345] : Fin 1 → IVec S16 32) a x).toNat < S4096.size a := fun v4345 k0_hw785 => k0_hw785

def k0_chk786 (v4350 : IVec S16 32) : Prop :=
  (∀ a x, ((![v4350] : Fin 1 → IVec S16 32) a x).toNat < S4096.size a)
theorem k0_idx786_inb : ∀ (v4350 : IVec S16 32) (k0_hw786 : k0_chk786 v4350), ∀ a x, ((![v4350] : Fin 1 → IVec S16 32) a x).toNat < S4096.size a := fun v4350 k0_hw786 => k0_hw786

def k0_chk787 (v4355 : IVec S16 32) : Prop :=
  (∀ a x, ((![v4355] : Fin 1 → IVec S16 32) a x).toNat < S4096.size a)
theorem k0_idx787_inb : ∀ (v4355 : IVec S16 32) (k0_hw787 : k0_chk787 v4355), ∀ a x, ((![v4355] : Fin 1 → IVec S16 32) a x).toNat < S4096.size a := fun v4355 k0_hw787 => k0_hw787

def k0_chk788 (v4360 : IVec S16 32) : Prop :=
  (∀ a x, ((![v4360] : Fin 1 → IVec S16 32) a x).toNat < S4096.size a)
theorem k0_idx788_inb : ∀ (v4360 : IVec S16 32) (k0_hw788 : k0_chk788 v4360), ∀ a x, ((![v4360] : Fin 1 → IVec S16 32) a x).toNat < S4096.size a := fun v4360 k0_hw788 => k0_hw788

def k0_chk789 (v4365 : IVec S16 32) : Prop :=
  (∀ a x, ((![v4365] : Fin 1 → IVec S16 32) a x).toNat < S4096.size a)
theorem k0_idx789_inb : ∀ (v4365 : IVec S16 32) (k0_hw789 : k0_chk789 v4365), ∀ a x, ((![v4365] : Fin 1 → IVec S16 32) a x).toNat < S4096.size a := fun v4365 k0_hw789 => k0_hw789

def k0_chk790 (v4370 : IVec S16 32) : Prop :=
  (∀ a x, ((![v4370] : Fin 1 → IVec S16 32) a x).toNat < S4096.size a)
theorem k0_idx790_inb : ∀ (v4370 : IVec S16 32) (k0_hw790 : k0_chk790 v4370), ∀ a x, ((![v4370] : Fin 1 → IVec S16 32) a x).toNat < S4096.size a := fun v4370 k0_hw790 => k0_hw790

def k0_chk791 (v4375 : IVec S16 32) : Prop :=
  (∀ a x, ((![v4375] : Fin 1 → IVec S16 32) a x).toNat < S4096.size a)
theorem k0_idx791_inb : ∀ (v4375 : IVec S16 32) (k0_hw791 : k0_chk791 v4375), ∀ a x, ((![v4375] : Fin 1 → IVec S16 32) a x).toNat < S4096.size a := fun v4375 k0_hw791 => k0_hw791

def k0_chk792 (v4380 : IVec S16 32) : Prop :=
  (∀ a x, ((![v4380] : Fin 1 → IVec S16 32) a x).toNat < S4096.size a)
theorem k0_idx792_inb : ∀ (v4380 : IVec S16 32) (k0_hw792 : k0_chk792 v4380), ∀ a x, ((![v4380] : Fin 1 → IVec S16 32) a x).toNat < S4096.size a := fun v4380 k0_hw792 => k0_hw792

def k0_chk793 (v4385 : IVec S16 32) : Prop :=
  (∀ a x, ((![v4385] : Fin 1 → IVec S16 32) a x).toNat < S4096.size a)
theorem k0_idx793_inb : ∀ (v4385 : IVec S16 32) (k0_hw793 : k0_chk793 v4385), ∀ a x, ((![v4385] : Fin 1 → IVec S16 32) a x).toNat < S4096.size a := fun v4385 k0_hw793 => k0_hw793

def k0_chk794 (v4390 : IVec S16 32) : Prop :=
  (∀ a x, ((![v4390] : Fin 1 → IVec S16 32) a x).toNat < S4096.size a)
theorem k0_idx794_inb : ∀ (v4390 : IVec S16 32) (k0_hw794 : k0_chk794 v4390), ∀ a x, ((![v4390] : Fin 1 → IVec S16 32) a x).toNat < S4096.size a := fun v4390 k0_hw794 => k0_hw794

def k0_chk795 (v4395 : IVec S16 32) : Prop :=
  (∀ a x, ((![v4395] : Fin 1 → IVec S16 32) a x).toNat < S4096.size a)
theorem k0_idx795_inb : ∀ (v4395 : IVec S16 32) (k0_hw795 : k0_chk795 v4395), ∀ a x, ((![v4395] : Fin 1 → IVec S16 32) a x).toNat < S4096.size a := fun v4395 k0_hw795 => k0_hw795

def k0_chk796 (v4400 : IVec S16 32) : Prop :=
  (∀ a x, ((![v4400] : Fin 1 → IVec S16 32) a x).toNat < S4096.size a)
theorem k0_idx796_inb : ∀ (v4400 : IVec S16 32) (k0_hw796 : k0_chk796 v4400), ∀ a x, ((![v4400] : Fin 1 → IVec S16 32) a x).toNat < S4096.size a := fun v4400 k0_hw796 => k0_hw796

def k0_chk797 (v4405 : IVec S16 32) : Prop :=
  (∀ a x, ((![v4405] : Fin 1 → IVec S16 32) a x).toNat < S4096.size a)
theorem k0_idx797_inb : ∀ (v4405 : IVec S16 32) (k0_hw797 : k0_chk797 v4405), ∀ a x, ((![v4405] : Fin 1 → IVec S16 32) a x).toNat < S4096.size a := fun v4405 k0_hw797 => k0_hw797

def k0_chk798 (v4407 : IVec S16 32) : Prop :=
  (∀ a x, ((![v4407] : Fin 1 → IVec S16 32) a x).toNat < S4096.size a)
theorem k0_idx798_inb : ∀ (v4407 : IVec S16 32) (k0_hw798 : k0_chk798 v4407), ∀ a x, ((![v4407] : Fin 1 → IVec S16 32) a x).toNat < S4096.size a := fun v4407 k0_hw798 => k0_hw798

def k0_chk799 (v4409 : IVec S16 32) : Prop :=
  (∀ a x, ((![v4409] : Fin 1 → IVec S16 32) a x).toNat < S4096.size a)
theorem k0_idx799_inb : ∀ (v4409 : IVec S16 32) (k0_hw799 : k0_chk799 v4409), ∀ a x, ((![v4409] : Fin 1 → IVec S16 32) a x).toNat < S4096.size a := fun v4409 k0_hw799 => k0_hw799

def k0_chk800 (v4411 : IVec S16 32) : Prop :=
  (∀ a x, ((![v4411] : Fin 1 → IVec S16 32) a x).toNat < S4096.size a)
theorem k0_idx800_inb : ∀ (v4411 : IVec S16 32) (k0_hw800 : k0_chk800 v4411), ∀ a x, ((![v4411] : Fin 1 → IVec S16 32) a x).toNat < S4096.size a := fun v4411 k0_hw800 => k0_hw800
def k0_off30 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3216 : BitVec 32 := 512#32
  let v4412 : BitVec 32 := Scalar.muli v361 c512_i32_3216
  let c400_i32 : BitVec 32 := 400#32
  let v4413 : BitVec 32 := Scalar.addi v4412 c400_i32
  let v4414 : Index := Scalar.indexCast v4413
  ![v4414.toNat]

def k0_chk801 (v4415 : IVec S16 32) : Prop :=
  (∀ a x, ((![v4415] : Fin 1 → IVec S16 32) a x).toNat < S4096.size a)
theorem k0_idx801_inb : ∀ (v4415 : IVec S16 32) (k0_hw801 : k0_chk801 v4415), ∀ a x, ((![v4415] : Fin 1 → IVec S16 32) a x).toNat < S4096.size a := fun v4415 k0_hw801 => k0_hw801

def k0_chk802 (v4432 : IVec S16 32) : Prop :=
  (∀ a x, ((![v4432] : Fin 1 → IVec S16 32) a x).toNat < S4096.size a)
theorem k0_idx802_inb : ∀ (v4432 : IVec S16 32) (k0_hw802 : k0_chk802 v4432), ∀ a x, ((![v4432] : Fin 1 → IVec S16 32) a x).toNat < S4096.size a := fun v4432 k0_hw802 => k0_hw802

def k0_chk803 (v4437 : IVec S16 32) : Prop :=
  (∀ a x, ((![v4437] : Fin 1 → IVec S16 32) a x).toNat < S4096.size a)
theorem k0_idx803_inb : ∀ (v4437 : IVec S16 32) (k0_hw803 : k0_chk803 v4437), ∀ a x, ((![v4437] : Fin 1 → IVec S16 32) a x).toNat < S4096.size a := fun v4437 k0_hw803 => k0_hw803

def k0_chk804 (v4442 : IVec S16 32) : Prop :=
  (∀ a x, ((![v4442] : Fin 1 → IVec S16 32) a x).toNat < S4096.size a)
theorem k0_idx804_inb : ∀ (v4442 : IVec S16 32) (k0_hw804 : k0_chk804 v4442), ∀ a x, ((![v4442] : Fin 1 → IVec S16 32) a x).toNat < S4096.size a := fun v4442 k0_hw804 => k0_hw804

def k0_chk805 (v4447 : IVec S16 32) : Prop :=
  (∀ a x, ((![v4447] : Fin 1 → IVec S16 32) a x).toNat < S4096.size a)
theorem k0_idx805_inb : ∀ (v4447 : IVec S16 32) (k0_hw805 : k0_chk805 v4447), ∀ a x, ((![v4447] : Fin 1 → IVec S16 32) a x).toNat < S4096.size a := fun v4447 k0_hw805 => k0_hw805

def k0_chk806 (v4452 : IVec S16 32) : Prop :=
  (∀ a x, ((![v4452] : Fin 1 → IVec S16 32) a x).toNat < S4096.size a)
theorem k0_idx806_inb : ∀ (v4452 : IVec S16 32) (k0_hw806 : k0_chk806 v4452), ∀ a x, ((![v4452] : Fin 1 → IVec S16 32) a x).toNat < S4096.size a := fun v4452 k0_hw806 => k0_hw806

def k0_chk807 (v4457 : IVec S16 32) : Prop :=
  (∀ a x, ((![v4457] : Fin 1 → IVec S16 32) a x).toNat < S4096.size a)
theorem k0_idx807_inb : ∀ (v4457 : IVec S16 32) (k0_hw807 : k0_chk807 v4457), ∀ a x, ((![v4457] : Fin 1 → IVec S16 32) a x).toNat < S4096.size a := fun v4457 k0_hw807 => k0_hw807

def k0_chk808 (v4462 : IVec S16 32) : Prop :=
  (∀ a x, ((![v4462] : Fin 1 → IVec S16 32) a x).toNat < S4096.size a)
theorem k0_idx808_inb : ∀ (v4462 : IVec S16 32) (k0_hw808 : k0_chk808 v4462), ∀ a x, ((![v4462] : Fin 1 → IVec S16 32) a x).toNat < S4096.size a := fun v4462 k0_hw808 => k0_hw808

def k0_chk809 (v4467 : IVec S16 32) : Prop :=
  (∀ a x, ((![v4467] : Fin 1 → IVec S16 32) a x).toNat < S4096.size a)
theorem k0_idx809_inb : ∀ (v4467 : IVec S16 32) (k0_hw809 : k0_chk809 v4467), ∀ a x, ((![v4467] : Fin 1 → IVec S16 32) a x).toNat < S4096.size a := fun v4467 k0_hw809 => k0_hw809

def k0_chk810 (v4472 : IVec S16 32) : Prop :=
  (∀ a x, ((![v4472] : Fin 1 → IVec S16 32) a x).toNat < S4096.size a)
theorem k0_idx810_inb : ∀ (v4472 : IVec S16 32) (k0_hw810 : k0_chk810 v4472), ∀ a x, ((![v4472] : Fin 1 → IVec S16 32) a x).toNat < S4096.size a := fun v4472 k0_hw810 => k0_hw810

def k0_chk811 (v4477 : IVec S16 32) : Prop :=
  (∀ a x, ((![v4477] : Fin 1 → IVec S16 32) a x).toNat < S4096.size a)
theorem k0_idx811_inb : ∀ (v4477 : IVec S16 32) (k0_hw811 : k0_chk811 v4477), ∀ a x, ((![v4477] : Fin 1 → IVec S16 32) a x).toNat < S4096.size a := fun v4477 k0_hw811 => k0_hw811

def k0_chk812 (v4482 : IVec S16 32) : Prop :=
  (∀ a x, ((![v4482] : Fin 1 → IVec S16 32) a x).toNat < S4096.size a)
theorem k0_idx812_inb : ∀ (v4482 : IVec S16 32) (k0_hw812 : k0_chk812 v4482), ∀ a x, ((![v4482] : Fin 1 → IVec S16 32) a x).toNat < S4096.size a := fun v4482 k0_hw812 => k0_hw812

def k0_chk813 (v4487 : IVec S16 32) : Prop :=
  (∀ a x, ((![v4487] : Fin 1 → IVec S16 32) a x).toNat < S4096.size a)
theorem k0_idx813_inb : ∀ (v4487 : IVec S16 32) (k0_hw813 : k0_chk813 v4487), ∀ a x, ((![v4487] : Fin 1 → IVec S16 32) a x).toNat < S4096.size a := fun v4487 k0_hw813 => k0_hw813

def k0_chk814 (v4492 : IVec S16 32) : Prop :=
  (∀ a x, ((![v4492] : Fin 1 → IVec S16 32) a x).toNat < S4096.size a)
theorem k0_idx814_inb : ∀ (v4492 : IVec S16 32) (k0_hw814 : k0_chk814 v4492), ∀ a x, ((![v4492] : Fin 1 → IVec S16 32) a x).toNat < S4096.size a := fun v4492 k0_hw814 => k0_hw814

def k0_chk815 (v4497 : IVec S16 32) : Prop :=
  (∀ a x, ((![v4497] : Fin 1 → IVec S16 32) a x).toNat < S4096.size a)
theorem k0_idx815_inb : ∀ (v4497 : IVec S16 32) (k0_hw815 : k0_chk815 v4497), ∀ a x, ((![v4497] : Fin 1 → IVec S16 32) a x).toNat < S4096.size a := fun v4497 k0_hw815 => k0_hw815

def k0_chk816 (v4502 : IVec S16 32) : Prop :=
  (∀ a x, ((![v4502] : Fin 1 → IVec S16 32) a x).toNat < S4096.size a)
theorem k0_idx816_inb : ∀ (v4502 : IVec S16 32) (k0_hw816 : k0_chk816 v4502), ∀ a x, ((![v4502] : Fin 1 → IVec S16 32) a x).toNat < S4096.size a := fun v4502 k0_hw816 => k0_hw816

def k0_chk817 (v4507 : IVec S16 32) : Prop :=
  (∀ a x, ((![v4507] : Fin 1 → IVec S16 32) a x).toNat < S4096.size a)
theorem k0_idx817_inb : ∀ (v4507 : IVec S16 32) (k0_hw817 : k0_chk817 v4507), ∀ a x, ((![v4507] : Fin 1 → IVec S16 32) a x).toNat < S4096.size a := fun v4507 k0_hw817 => k0_hw817

def k0_chk818 (v4512 : IVec S16 32) : Prop :=
  (∀ a x, ((![v4512] : Fin 1 → IVec S16 32) a x).toNat < S4096.size a)
theorem k0_idx818_inb : ∀ (v4512 : IVec S16 32) (k0_hw818 : k0_chk818 v4512), ∀ a x, ((![v4512] : Fin 1 → IVec S16 32) a x).toNat < S4096.size a := fun v4512 k0_hw818 => k0_hw818

def k0_chk819 (v4517 : IVec S16 32) : Prop :=
  (∀ a x, ((![v4517] : Fin 1 → IVec S16 32) a x).toNat < S4096.size a)
theorem k0_idx819_inb : ∀ (v4517 : IVec S16 32) (k0_hw819 : k0_chk819 v4517), ∀ a x, ((![v4517] : Fin 1 → IVec S16 32) a x).toNat < S4096.size a := fun v4517 k0_hw819 => k0_hw819

def k0_chk820 (v4522 : IVec S16 32) : Prop :=
  (∀ a x, ((![v4522] : Fin 1 → IVec S16 32) a x).toNat < S4096.size a)
theorem k0_idx820_inb : ∀ (v4522 : IVec S16 32) (k0_hw820 : k0_chk820 v4522), ∀ a x, ((![v4522] : Fin 1 → IVec S16 32) a x).toNat < S4096.size a := fun v4522 k0_hw820 => k0_hw820

def k0_chk821 (v4527 : IVec S16 32) : Prop :=
  (∀ a x, ((![v4527] : Fin 1 → IVec S16 32) a x).toNat < S4096.size a)
theorem k0_idx821_inb : ∀ (v4527 : IVec S16 32) (k0_hw821 : k0_chk821 v4527), ∀ a x, ((![v4527] : Fin 1 → IVec S16 32) a x).toNat < S4096.size a := fun v4527 k0_hw821 => k0_hw821

def k0_chk822 (v4532 : IVec S16 32) : Prop :=
  (∀ a x, ((![v4532] : Fin 1 → IVec S16 32) a x).toNat < S4096.size a)
theorem k0_idx822_inb : ∀ (v4532 : IVec S16 32) (k0_hw822 : k0_chk822 v4532), ∀ a x, ((![v4532] : Fin 1 → IVec S16 32) a x).toNat < S4096.size a := fun v4532 k0_hw822 => k0_hw822

def k0_chk823 (v4537 : IVec S16 32) : Prop :=
  (∀ a x, ((![v4537] : Fin 1 → IVec S16 32) a x).toNat < S4096.size a)
theorem k0_idx823_inb : ∀ (v4537 : IVec S16 32) (k0_hw823 : k0_chk823 v4537), ∀ a x, ((![v4537] : Fin 1 → IVec S16 32) a x).toNat < S4096.size a := fun v4537 k0_hw823 => k0_hw823

def k0_chk824 (v4542 : IVec S16 32) : Prop :=
  (∀ a x, ((![v4542] : Fin 1 → IVec S16 32) a x).toNat < S4096.size a)
theorem k0_idx824_inb : ∀ (v4542 : IVec S16 32) (k0_hw824 : k0_chk824 v4542), ∀ a x, ((![v4542] : Fin 1 → IVec S16 32) a x).toNat < S4096.size a := fun v4542 k0_hw824 => k0_hw824

def k0_chk825 (v4547 : IVec S16 32) : Prop :=
  (∀ a x, ((![v4547] : Fin 1 → IVec S16 32) a x).toNat < S4096.size a)
theorem k0_idx825_inb : ∀ (v4547 : IVec S16 32) (k0_hw825 : k0_chk825 v4547), ∀ a x, ((![v4547] : Fin 1 → IVec S16 32) a x).toNat < S4096.size a := fun v4547 k0_hw825 => k0_hw825

def k0_chk826 (v4552 : IVec S16 32) : Prop :=
  (∀ a x, ((![v4552] : Fin 1 → IVec S16 32) a x).toNat < S4096.size a)
theorem k0_idx826_inb : ∀ (v4552 : IVec S16 32) (k0_hw826 : k0_chk826 v4552), ∀ a x, ((![v4552] : Fin 1 → IVec S16 32) a x).toNat < S4096.size a := fun v4552 k0_hw826 => k0_hw826

def k0_chk827 (v4557 : IVec S16 32) : Prop :=
  (∀ a x, ((![v4557] : Fin 1 → IVec S16 32) a x).toNat < S4096.size a)
theorem k0_idx827_inb : ∀ (v4557 : IVec S16 32) (k0_hw827 : k0_chk827 v4557), ∀ a x, ((![v4557] : Fin 1 → IVec S16 32) a x).toNat < S4096.size a := fun v4557 k0_hw827 => k0_hw827

def k0_chk828 (v4562 : IVec S16 32) : Prop :=
  (∀ a x, ((![v4562] : Fin 1 → IVec S16 32) a x).toNat < S4096.size a)
theorem k0_idx828_inb : ∀ (v4562 : IVec S16 32) (k0_hw828 : k0_chk828 v4562), ∀ a x, ((![v4562] : Fin 1 → IVec S16 32) a x).toNat < S4096.size a := fun v4562 k0_hw828 => k0_hw828

def k0_chk829 (v4567 : IVec S16 32) : Prop :=
  (∀ a x, ((![v4567] : Fin 1 → IVec S16 32) a x).toNat < S4096.size a)
theorem k0_idx829_inb : ∀ (v4567 : IVec S16 32) (k0_hw829 : k0_chk829 v4567), ∀ a x, ((![v4567] : Fin 1 → IVec S16 32) a x).toNat < S4096.size a := fun v4567 k0_hw829 => k0_hw829

def k0_chk830 (v4569 : IVec S16 32) : Prop :=
  (∀ a x, ((![v4569] : Fin 1 → IVec S16 32) a x).toNat < S4096.size a)
theorem k0_idx830_inb : ∀ (v4569 : IVec S16 32) (k0_hw830 : k0_chk830 v4569), ∀ a x, ((![v4569] : Fin 1 → IVec S16 32) a x).toNat < S4096.size a := fun v4569 k0_hw830 => k0_hw830

def k0_chk831 (v4571 : IVec S16 32) : Prop :=
  (∀ a x, ((![v4571] : Fin 1 → IVec S16 32) a x).toNat < S4096.size a)
theorem k0_idx831_inb : ∀ (v4571 : IVec S16 32) (k0_hw831 : k0_chk831 v4571), ∀ a x, ((![v4571] : Fin 1 → IVec S16 32) a x).toNat < S4096.size a := fun v4571 k0_hw831 => k0_hw831

def k0_chk832 (v4573 : IVec S16 32) : Prop :=
  (∀ a x, ((![v4573] : Fin 1 → IVec S16 32) a x).toNat < S4096.size a)
theorem k0_idx832_inb : ∀ (v4573 : IVec S16 32) (k0_hw832 : k0_chk832 v4573), ∀ a x, ((![v4573] : Fin 1 → IVec S16 32) a x).toNat < S4096.size a := fun v4573 k0_hw832 => k0_hw832
def k0_off31 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3344 : BitVec 32 := 512#32
  let v4574 : BitVec 32 := Scalar.muli v361 c512_i32_3344
  let c416_i32 : BitVec 32 := 416#32
  let v4575 : BitVec 32 := Scalar.addi v4574 c416_i32
  let v4576 : Index := Scalar.indexCast v4575
  ![v4576.toNat]

def k0_chk833 (v4577 : IVec S16 32) : Prop :=
  (∀ a x, ((![v4577] : Fin 1 → IVec S16 32) a x).toNat < S4096.size a)
theorem k0_idx833_inb : ∀ (v4577 : IVec S16 32) (k0_hw833 : k0_chk833 v4577), ∀ a x, ((![v4577] : Fin 1 → IVec S16 32) a x).toNat < S4096.size a := fun v4577 k0_hw833 => k0_hw833

def k0_chk834 (v4594 : IVec S16 32) : Prop :=
  (∀ a x, ((![v4594] : Fin 1 → IVec S16 32) a x).toNat < S4096.size a)
theorem k0_idx834_inb : ∀ (v4594 : IVec S16 32) (k0_hw834 : k0_chk834 v4594), ∀ a x, ((![v4594] : Fin 1 → IVec S16 32) a x).toNat < S4096.size a := fun v4594 k0_hw834 => k0_hw834

def k0_chk835 (v4599 : IVec S16 32) : Prop :=
  (∀ a x, ((![v4599] : Fin 1 → IVec S16 32) a x).toNat < S4096.size a)
theorem k0_idx835_inb : ∀ (v4599 : IVec S16 32) (k0_hw835 : k0_chk835 v4599), ∀ a x, ((![v4599] : Fin 1 → IVec S16 32) a x).toNat < S4096.size a := fun v4599 k0_hw835 => k0_hw835

def k0_chk836 (v4604 : IVec S16 32) : Prop :=
  (∀ a x, ((![v4604] : Fin 1 → IVec S16 32) a x).toNat < S4096.size a)
theorem k0_idx836_inb : ∀ (v4604 : IVec S16 32) (k0_hw836 : k0_chk836 v4604), ∀ a x, ((![v4604] : Fin 1 → IVec S16 32) a x).toNat < S4096.size a := fun v4604 k0_hw836 => k0_hw836

def k0_chk837 (v4609 : IVec S16 32) : Prop :=
  (∀ a x, ((![v4609] : Fin 1 → IVec S16 32) a x).toNat < S4096.size a)
theorem k0_idx837_inb : ∀ (v4609 : IVec S16 32) (k0_hw837 : k0_chk837 v4609), ∀ a x, ((![v4609] : Fin 1 → IVec S16 32) a x).toNat < S4096.size a := fun v4609 k0_hw837 => k0_hw837

def k0_chk838 (v4614 : IVec S16 32) : Prop :=
  (∀ a x, ((![v4614] : Fin 1 → IVec S16 32) a x).toNat < S4096.size a)
theorem k0_idx838_inb : ∀ (v4614 : IVec S16 32) (k0_hw838 : k0_chk838 v4614), ∀ a x, ((![v4614] : Fin 1 → IVec S16 32) a x).toNat < S4096.size a := fun v4614 k0_hw838 => k0_hw838

def k0_chk839 (v4619 : IVec S16 32) : Prop :=
  (∀ a x, ((![v4619] : Fin 1 → IVec S16 32) a x).toNat < S4096.size a)
theorem k0_idx839_inb : ∀ (v4619 : IVec S16 32) (k0_hw839 : k0_chk839 v4619), ∀ a x, ((![v4619] : Fin 1 → IVec S16 32) a x).toNat < S4096.size a := fun v4619 k0_hw839 => k0_hw839

def k0_chk840 (v4624 : IVec S16 32) : Prop :=
  (∀ a x, ((![v4624] : Fin 1 → IVec S16 32) a x).toNat < S4096.size a)
theorem k0_idx840_inb : ∀ (v4624 : IVec S16 32) (k0_hw840 : k0_chk840 v4624), ∀ a x, ((![v4624] : Fin 1 → IVec S16 32) a x).toNat < S4096.size a := fun v4624 k0_hw840 => k0_hw840

def k0_chk841 (v4629 : IVec S16 32) : Prop :=
  (∀ a x, ((![v4629] : Fin 1 → IVec S16 32) a x).toNat < S4096.size a)
theorem k0_idx841_inb : ∀ (v4629 : IVec S16 32) (k0_hw841 : k0_chk841 v4629), ∀ a x, ((![v4629] : Fin 1 → IVec S16 32) a x).toNat < S4096.size a := fun v4629 k0_hw841 => k0_hw841

def k0_chk842 (v4634 : IVec S16 32) : Prop :=
  (∀ a x, ((![v4634] : Fin 1 → IVec S16 32) a x).toNat < S4096.size a)
theorem k0_idx842_inb : ∀ (v4634 : IVec S16 32) (k0_hw842 : k0_chk842 v4634), ∀ a x, ((![v4634] : Fin 1 → IVec S16 32) a x).toNat < S4096.size a := fun v4634 k0_hw842 => k0_hw842

def k0_chk843 (v4639 : IVec S16 32) : Prop :=
  (∀ a x, ((![v4639] : Fin 1 → IVec S16 32) a x).toNat < S4096.size a)
theorem k0_idx843_inb : ∀ (v4639 : IVec S16 32) (k0_hw843 : k0_chk843 v4639), ∀ a x, ((![v4639] : Fin 1 → IVec S16 32) a x).toNat < S4096.size a := fun v4639 k0_hw843 => k0_hw843

def k0_chk844 (v4644 : IVec S16 32) : Prop :=
  (∀ a x, ((![v4644] : Fin 1 → IVec S16 32) a x).toNat < S4096.size a)
theorem k0_idx844_inb : ∀ (v4644 : IVec S16 32) (k0_hw844 : k0_chk844 v4644), ∀ a x, ((![v4644] : Fin 1 → IVec S16 32) a x).toNat < S4096.size a := fun v4644 k0_hw844 => k0_hw844

def k0_chk845 (v4649 : IVec S16 32) : Prop :=
  (∀ a x, ((![v4649] : Fin 1 → IVec S16 32) a x).toNat < S4096.size a)
theorem k0_idx845_inb : ∀ (v4649 : IVec S16 32) (k0_hw845 : k0_chk845 v4649), ∀ a x, ((![v4649] : Fin 1 → IVec S16 32) a x).toNat < S4096.size a := fun v4649 k0_hw845 => k0_hw845

def k0_chk846 (v4654 : IVec S16 32) : Prop :=
  (∀ a x, ((![v4654] : Fin 1 → IVec S16 32) a x).toNat < S4096.size a)
theorem k0_idx846_inb : ∀ (v4654 : IVec S16 32) (k0_hw846 : k0_chk846 v4654), ∀ a x, ((![v4654] : Fin 1 → IVec S16 32) a x).toNat < S4096.size a := fun v4654 k0_hw846 => k0_hw846

def k0_chk847 (v4659 : IVec S16 32) : Prop :=
  (∀ a x, ((![v4659] : Fin 1 → IVec S16 32) a x).toNat < S4096.size a)
theorem k0_idx847_inb : ∀ (v4659 : IVec S16 32) (k0_hw847 : k0_chk847 v4659), ∀ a x, ((![v4659] : Fin 1 → IVec S16 32) a x).toNat < S4096.size a := fun v4659 k0_hw847 => k0_hw847

def k0_chk848 (v4664 : IVec S16 32) : Prop :=
  (∀ a x, ((![v4664] : Fin 1 → IVec S16 32) a x).toNat < S4096.size a)
theorem k0_idx848_inb : ∀ (v4664 : IVec S16 32) (k0_hw848 : k0_chk848 v4664), ∀ a x, ((![v4664] : Fin 1 → IVec S16 32) a x).toNat < S4096.size a := fun v4664 k0_hw848 => k0_hw848

def k0_chk849 (v4669 : IVec S16 32) : Prop :=
  (∀ a x, ((![v4669] : Fin 1 → IVec S16 32) a x).toNat < S4096.size a)
theorem k0_idx849_inb : ∀ (v4669 : IVec S16 32) (k0_hw849 : k0_chk849 v4669), ∀ a x, ((![v4669] : Fin 1 → IVec S16 32) a x).toNat < S4096.size a := fun v4669 k0_hw849 => k0_hw849

def k0_chk850 (v4674 : IVec S16 32) : Prop :=
  (∀ a x, ((![v4674] : Fin 1 → IVec S16 32) a x).toNat < S4096.size a)
theorem k0_idx850_inb : ∀ (v4674 : IVec S16 32) (k0_hw850 : k0_chk850 v4674), ∀ a x, ((![v4674] : Fin 1 → IVec S16 32) a x).toNat < S4096.size a := fun v4674 k0_hw850 => k0_hw850

def k0_chk851 (v4679 : IVec S16 32) : Prop :=
  (∀ a x, ((![v4679] : Fin 1 → IVec S16 32) a x).toNat < S4096.size a)
theorem k0_idx851_inb : ∀ (v4679 : IVec S16 32) (k0_hw851 : k0_chk851 v4679), ∀ a x, ((![v4679] : Fin 1 → IVec S16 32) a x).toNat < S4096.size a := fun v4679 k0_hw851 => k0_hw851

def k0_chk852 (v4684 : IVec S16 32) : Prop :=
  (∀ a x, ((![v4684] : Fin 1 → IVec S16 32) a x).toNat < S4096.size a)
theorem k0_idx852_inb : ∀ (v4684 : IVec S16 32) (k0_hw852 : k0_chk852 v4684), ∀ a x, ((![v4684] : Fin 1 → IVec S16 32) a x).toNat < S4096.size a := fun v4684 k0_hw852 => k0_hw852

def k0_chk853 (v4689 : IVec S16 32) : Prop :=
  (∀ a x, ((![v4689] : Fin 1 → IVec S16 32) a x).toNat < S4096.size a)
theorem k0_idx853_inb : ∀ (v4689 : IVec S16 32) (k0_hw853 : k0_chk853 v4689), ∀ a x, ((![v4689] : Fin 1 → IVec S16 32) a x).toNat < S4096.size a := fun v4689 k0_hw853 => k0_hw853

def k0_chk854 (v4694 : IVec S16 32) : Prop :=
  (∀ a x, ((![v4694] : Fin 1 → IVec S16 32) a x).toNat < S4096.size a)
theorem k0_idx854_inb : ∀ (v4694 : IVec S16 32) (k0_hw854 : k0_chk854 v4694), ∀ a x, ((![v4694] : Fin 1 → IVec S16 32) a x).toNat < S4096.size a := fun v4694 k0_hw854 => k0_hw854

def k0_chk855 (v4699 : IVec S16 32) : Prop :=
  (∀ a x, ((![v4699] : Fin 1 → IVec S16 32) a x).toNat < S4096.size a)
theorem k0_idx855_inb : ∀ (v4699 : IVec S16 32) (k0_hw855 : k0_chk855 v4699), ∀ a x, ((![v4699] : Fin 1 → IVec S16 32) a x).toNat < S4096.size a := fun v4699 k0_hw855 => k0_hw855

def k0_chk856 (v4704 : IVec S16 32) : Prop :=
  (∀ a x, ((![v4704] : Fin 1 → IVec S16 32) a x).toNat < S4096.size a)
theorem k0_idx856_inb : ∀ (v4704 : IVec S16 32) (k0_hw856 : k0_chk856 v4704), ∀ a x, ((![v4704] : Fin 1 → IVec S16 32) a x).toNat < S4096.size a := fun v4704 k0_hw856 => k0_hw856

def k0_chk857 (v4709 : IVec S16 32) : Prop :=
  (∀ a x, ((![v4709] : Fin 1 → IVec S16 32) a x).toNat < S4096.size a)
theorem k0_idx857_inb : ∀ (v4709 : IVec S16 32) (k0_hw857 : k0_chk857 v4709), ∀ a x, ((![v4709] : Fin 1 → IVec S16 32) a x).toNat < S4096.size a := fun v4709 k0_hw857 => k0_hw857

def k0_chk858 (v4714 : IVec S16 32) : Prop :=
  (∀ a x, ((![v4714] : Fin 1 → IVec S16 32) a x).toNat < S4096.size a)
theorem k0_idx858_inb : ∀ (v4714 : IVec S16 32) (k0_hw858 : k0_chk858 v4714), ∀ a x, ((![v4714] : Fin 1 → IVec S16 32) a x).toNat < S4096.size a := fun v4714 k0_hw858 => k0_hw858

def k0_chk859 (v4719 : IVec S16 32) : Prop :=
  (∀ a x, ((![v4719] : Fin 1 → IVec S16 32) a x).toNat < S4096.size a)
theorem k0_idx859_inb : ∀ (v4719 : IVec S16 32) (k0_hw859 : k0_chk859 v4719), ∀ a x, ((![v4719] : Fin 1 → IVec S16 32) a x).toNat < S4096.size a := fun v4719 k0_hw859 => k0_hw859

def k0_chk860 (v4724 : IVec S16 32) : Prop :=
  (∀ a x, ((![v4724] : Fin 1 → IVec S16 32) a x).toNat < S4096.size a)
theorem k0_idx860_inb : ∀ (v4724 : IVec S16 32) (k0_hw860 : k0_chk860 v4724), ∀ a x, ((![v4724] : Fin 1 → IVec S16 32) a x).toNat < S4096.size a := fun v4724 k0_hw860 => k0_hw860

def k0_chk861 (v4729 : IVec S16 32) : Prop :=
  (∀ a x, ((![v4729] : Fin 1 → IVec S16 32) a x).toNat < S4096.size a)
theorem k0_idx861_inb : ∀ (v4729 : IVec S16 32) (k0_hw861 : k0_chk861 v4729), ∀ a x, ((![v4729] : Fin 1 → IVec S16 32) a x).toNat < S4096.size a := fun v4729 k0_hw861 => k0_hw861

def k0_chk862 (v4731 : IVec S16 32) : Prop :=
  (∀ a x, ((![v4731] : Fin 1 → IVec S16 32) a x).toNat < S4096.size a)
theorem k0_idx862_inb : ∀ (v4731 : IVec S16 32) (k0_hw862 : k0_chk862 v4731), ∀ a x, ((![v4731] : Fin 1 → IVec S16 32) a x).toNat < S4096.size a := fun v4731 k0_hw862 => k0_hw862

def k0_chk863 (v4733 : IVec S16 32) : Prop :=
  (∀ a x, ((![v4733] : Fin 1 → IVec S16 32) a x).toNat < S4096.size a)
theorem k0_idx863_inb : ∀ (v4733 : IVec S16 32) (k0_hw863 : k0_chk863 v4733), ∀ a x, ((![v4733] : Fin 1 → IVec S16 32) a x).toNat < S4096.size a := fun v4733 k0_hw863 => k0_hw863

def k0_chk864 (v4735 : IVec S16 32) : Prop :=
  (∀ a x, ((![v4735] : Fin 1 → IVec S16 32) a x).toNat < S4096.size a)
theorem k0_idx864_inb : ∀ (v4735 : IVec S16 32) (k0_hw864 : k0_chk864 v4735), ∀ a x, ((![v4735] : Fin 1 → IVec S16 32) a x).toNat < S4096.size a := fun v4735 k0_hw864 => k0_hw864
def k0_off32 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3472 : BitVec 32 := 512#32
  let v4736 : BitVec 32 := Scalar.muli v361 c512_i32_3472
  let c432_i32 : BitVec 32 := 432#32
  let v4737 : BitVec 32 := Scalar.addi v4736 c432_i32
  let v4738 : Index := Scalar.indexCast v4737
  ![v4738.toNat]

def k0_chk865 (v4739 : IVec S16 32) : Prop :=
  (∀ a x, ((![v4739] : Fin 1 → IVec S16 32) a x).toNat < S4096.size a)
theorem k0_idx865_inb : ∀ (v4739 : IVec S16 32) (k0_hw865 : k0_chk865 v4739), ∀ a x, ((![v4739] : Fin 1 → IVec S16 32) a x).toNat < S4096.size a := fun v4739 k0_hw865 => k0_hw865

def k0_chk866 (v4756 : IVec S16 32) : Prop :=
  (∀ a x, ((![v4756] : Fin 1 → IVec S16 32) a x).toNat < S4096.size a)
theorem k0_idx866_inb : ∀ (v4756 : IVec S16 32) (k0_hw866 : k0_chk866 v4756), ∀ a x, ((![v4756] : Fin 1 → IVec S16 32) a x).toNat < S4096.size a := fun v4756 k0_hw866 => k0_hw866

def k0_chk867 (v4761 : IVec S16 32) : Prop :=
  (∀ a x, ((![v4761] : Fin 1 → IVec S16 32) a x).toNat < S4096.size a)
theorem k0_idx867_inb : ∀ (v4761 : IVec S16 32) (k0_hw867 : k0_chk867 v4761), ∀ a x, ((![v4761] : Fin 1 → IVec S16 32) a x).toNat < S4096.size a := fun v4761 k0_hw867 => k0_hw867

def k0_chk868 (v4766 : IVec S16 32) : Prop :=
  (∀ a x, ((![v4766] : Fin 1 → IVec S16 32) a x).toNat < S4096.size a)
theorem k0_idx868_inb : ∀ (v4766 : IVec S16 32) (k0_hw868 : k0_chk868 v4766), ∀ a x, ((![v4766] : Fin 1 → IVec S16 32) a x).toNat < S4096.size a := fun v4766 k0_hw868 => k0_hw868

def k0_chk869 (v4771 : IVec S16 32) : Prop :=
  (∀ a x, ((![v4771] : Fin 1 → IVec S16 32) a x).toNat < S4096.size a)
theorem k0_idx869_inb : ∀ (v4771 : IVec S16 32) (k0_hw869 : k0_chk869 v4771), ∀ a x, ((![v4771] : Fin 1 → IVec S16 32) a x).toNat < S4096.size a := fun v4771 k0_hw869 => k0_hw869

def k0_chk870 (v4776 : IVec S16 32) : Prop :=
  (∀ a x, ((![v4776] : Fin 1 → IVec S16 32) a x).toNat < S4096.size a)
theorem k0_idx870_inb : ∀ (v4776 : IVec S16 32) (k0_hw870 : k0_chk870 v4776), ∀ a x, ((![v4776] : Fin 1 → IVec S16 32) a x).toNat < S4096.size a := fun v4776 k0_hw870 => k0_hw870

def k0_chk871 (v4781 : IVec S16 32) : Prop :=
  (∀ a x, ((![v4781] : Fin 1 → IVec S16 32) a x).toNat < S4096.size a)
theorem k0_idx871_inb : ∀ (v4781 : IVec S16 32) (k0_hw871 : k0_chk871 v4781), ∀ a x, ((![v4781] : Fin 1 → IVec S16 32) a x).toNat < S4096.size a := fun v4781 k0_hw871 => k0_hw871

def k0_chk872 (v4786 : IVec S16 32) : Prop :=
  (∀ a x, ((![v4786] : Fin 1 → IVec S16 32) a x).toNat < S4096.size a)
theorem k0_idx872_inb : ∀ (v4786 : IVec S16 32) (k0_hw872 : k0_chk872 v4786), ∀ a x, ((![v4786] : Fin 1 → IVec S16 32) a x).toNat < S4096.size a := fun v4786 k0_hw872 => k0_hw872

def k0_chk873 (v4791 : IVec S16 32) : Prop :=
  (∀ a x, ((![v4791] : Fin 1 → IVec S16 32) a x).toNat < S4096.size a)
theorem k0_idx873_inb : ∀ (v4791 : IVec S16 32) (k0_hw873 : k0_chk873 v4791), ∀ a x, ((![v4791] : Fin 1 → IVec S16 32) a x).toNat < S4096.size a := fun v4791 k0_hw873 => k0_hw873

def k0_chk874 (v4796 : IVec S16 32) : Prop :=
  (∀ a x, ((![v4796] : Fin 1 → IVec S16 32) a x).toNat < S4096.size a)
theorem k0_idx874_inb : ∀ (v4796 : IVec S16 32) (k0_hw874 : k0_chk874 v4796), ∀ a x, ((![v4796] : Fin 1 → IVec S16 32) a x).toNat < S4096.size a := fun v4796 k0_hw874 => k0_hw874

def k0_chk875 (v4801 : IVec S16 32) : Prop :=
  (∀ a x, ((![v4801] : Fin 1 → IVec S16 32) a x).toNat < S4096.size a)
theorem k0_idx875_inb : ∀ (v4801 : IVec S16 32) (k0_hw875 : k0_chk875 v4801), ∀ a x, ((![v4801] : Fin 1 → IVec S16 32) a x).toNat < S4096.size a := fun v4801 k0_hw875 => k0_hw875

def k0_chk876 (v4806 : IVec S16 32) : Prop :=
  (∀ a x, ((![v4806] : Fin 1 → IVec S16 32) a x).toNat < S4096.size a)
theorem k0_idx876_inb : ∀ (v4806 : IVec S16 32) (k0_hw876 : k0_chk876 v4806), ∀ a x, ((![v4806] : Fin 1 → IVec S16 32) a x).toNat < S4096.size a := fun v4806 k0_hw876 => k0_hw876

def k0_chk877 (v4811 : IVec S16 32) : Prop :=
  (∀ a x, ((![v4811] : Fin 1 → IVec S16 32) a x).toNat < S4096.size a)
theorem k0_idx877_inb : ∀ (v4811 : IVec S16 32) (k0_hw877 : k0_chk877 v4811), ∀ a x, ((![v4811] : Fin 1 → IVec S16 32) a x).toNat < S4096.size a := fun v4811 k0_hw877 => k0_hw877

def k0_chk878 (v4816 : IVec S16 32) : Prop :=
  (∀ a x, ((![v4816] : Fin 1 → IVec S16 32) a x).toNat < S4096.size a)
theorem k0_idx878_inb : ∀ (v4816 : IVec S16 32) (k0_hw878 : k0_chk878 v4816), ∀ a x, ((![v4816] : Fin 1 → IVec S16 32) a x).toNat < S4096.size a := fun v4816 k0_hw878 => k0_hw878

def k0_chk879 (v4821 : IVec S16 32) : Prop :=
  (∀ a x, ((![v4821] : Fin 1 → IVec S16 32) a x).toNat < S4096.size a)
theorem k0_idx879_inb : ∀ (v4821 : IVec S16 32) (k0_hw879 : k0_chk879 v4821), ∀ a x, ((![v4821] : Fin 1 → IVec S16 32) a x).toNat < S4096.size a := fun v4821 k0_hw879 => k0_hw879

def k0_chk880 (v4826 : IVec S16 32) : Prop :=
  (∀ a x, ((![v4826] : Fin 1 → IVec S16 32) a x).toNat < S4096.size a)
theorem k0_idx880_inb : ∀ (v4826 : IVec S16 32) (k0_hw880 : k0_chk880 v4826), ∀ a x, ((![v4826] : Fin 1 → IVec S16 32) a x).toNat < S4096.size a := fun v4826 k0_hw880 => k0_hw880

def k0_chk881 (v4831 : IVec S16 32) : Prop :=
  (∀ a x, ((![v4831] : Fin 1 → IVec S16 32) a x).toNat < S4096.size a)
theorem k0_idx881_inb : ∀ (v4831 : IVec S16 32) (k0_hw881 : k0_chk881 v4831), ∀ a x, ((![v4831] : Fin 1 → IVec S16 32) a x).toNat < S4096.size a := fun v4831 k0_hw881 => k0_hw881

def k0_chk882 (v4836 : IVec S16 32) : Prop :=
  (∀ a x, ((![v4836] : Fin 1 → IVec S16 32) a x).toNat < S4096.size a)
theorem k0_idx882_inb : ∀ (v4836 : IVec S16 32) (k0_hw882 : k0_chk882 v4836), ∀ a x, ((![v4836] : Fin 1 → IVec S16 32) a x).toNat < S4096.size a := fun v4836 k0_hw882 => k0_hw882

def k0_chk883 (v4841 : IVec S16 32) : Prop :=
  (∀ a x, ((![v4841] : Fin 1 → IVec S16 32) a x).toNat < S4096.size a)
theorem k0_idx883_inb : ∀ (v4841 : IVec S16 32) (k0_hw883 : k0_chk883 v4841), ∀ a x, ((![v4841] : Fin 1 → IVec S16 32) a x).toNat < S4096.size a := fun v4841 k0_hw883 => k0_hw883

def k0_chk884 (v4846 : IVec S16 32) : Prop :=
  (∀ a x, ((![v4846] : Fin 1 → IVec S16 32) a x).toNat < S4096.size a)
theorem k0_idx884_inb : ∀ (v4846 : IVec S16 32) (k0_hw884 : k0_chk884 v4846), ∀ a x, ((![v4846] : Fin 1 → IVec S16 32) a x).toNat < S4096.size a := fun v4846 k0_hw884 => k0_hw884

def k0_chk885 (v4851 : IVec S16 32) : Prop :=
  (∀ a x, ((![v4851] : Fin 1 → IVec S16 32) a x).toNat < S4096.size a)
theorem k0_idx885_inb : ∀ (v4851 : IVec S16 32) (k0_hw885 : k0_chk885 v4851), ∀ a x, ((![v4851] : Fin 1 → IVec S16 32) a x).toNat < S4096.size a := fun v4851 k0_hw885 => k0_hw885

def k0_chk886 (v4856 : IVec S16 32) : Prop :=
  (∀ a x, ((![v4856] : Fin 1 → IVec S16 32) a x).toNat < S4096.size a)
theorem k0_idx886_inb : ∀ (v4856 : IVec S16 32) (k0_hw886 : k0_chk886 v4856), ∀ a x, ((![v4856] : Fin 1 → IVec S16 32) a x).toNat < S4096.size a := fun v4856 k0_hw886 => k0_hw886

def k0_chk887 (v4861 : IVec S16 32) : Prop :=
  (∀ a x, ((![v4861] : Fin 1 → IVec S16 32) a x).toNat < S4096.size a)
theorem k0_idx887_inb : ∀ (v4861 : IVec S16 32) (k0_hw887 : k0_chk887 v4861), ∀ a x, ((![v4861] : Fin 1 → IVec S16 32) a x).toNat < S4096.size a := fun v4861 k0_hw887 => k0_hw887

def k0_chk888 (v4866 : IVec S16 32) : Prop :=
  (∀ a x, ((![v4866] : Fin 1 → IVec S16 32) a x).toNat < S4096.size a)
theorem k0_idx888_inb : ∀ (v4866 : IVec S16 32) (k0_hw888 : k0_chk888 v4866), ∀ a x, ((![v4866] : Fin 1 → IVec S16 32) a x).toNat < S4096.size a := fun v4866 k0_hw888 => k0_hw888

def k0_chk889 (v4871 : IVec S16 32) : Prop :=
  (∀ a x, ((![v4871] : Fin 1 → IVec S16 32) a x).toNat < S4096.size a)
theorem k0_idx889_inb : ∀ (v4871 : IVec S16 32) (k0_hw889 : k0_chk889 v4871), ∀ a x, ((![v4871] : Fin 1 → IVec S16 32) a x).toNat < S4096.size a := fun v4871 k0_hw889 => k0_hw889

def k0_chk890 (v4876 : IVec S16 32) : Prop :=
  (∀ a x, ((![v4876] : Fin 1 → IVec S16 32) a x).toNat < S4096.size a)
theorem k0_idx890_inb : ∀ (v4876 : IVec S16 32) (k0_hw890 : k0_chk890 v4876), ∀ a x, ((![v4876] : Fin 1 → IVec S16 32) a x).toNat < S4096.size a := fun v4876 k0_hw890 => k0_hw890

def k0_chk891 (v4881 : IVec S16 32) : Prop :=
  (∀ a x, ((![v4881] : Fin 1 → IVec S16 32) a x).toNat < S4096.size a)
theorem k0_idx891_inb : ∀ (v4881 : IVec S16 32) (k0_hw891 : k0_chk891 v4881), ∀ a x, ((![v4881] : Fin 1 → IVec S16 32) a x).toNat < S4096.size a := fun v4881 k0_hw891 => k0_hw891

def k0_chk892 (v4886 : IVec S16 32) : Prop :=
  (∀ a x, ((![v4886] : Fin 1 → IVec S16 32) a x).toNat < S4096.size a)
theorem k0_idx892_inb : ∀ (v4886 : IVec S16 32) (k0_hw892 : k0_chk892 v4886), ∀ a x, ((![v4886] : Fin 1 → IVec S16 32) a x).toNat < S4096.size a := fun v4886 k0_hw892 => k0_hw892

def k0_chk893 (v4891 : IVec S16 32) : Prop :=
  (∀ a x, ((![v4891] : Fin 1 → IVec S16 32) a x).toNat < S4096.size a)
theorem k0_idx893_inb : ∀ (v4891 : IVec S16 32) (k0_hw893 : k0_chk893 v4891), ∀ a x, ((![v4891] : Fin 1 → IVec S16 32) a x).toNat < S4096.size a := fun v4891 k0_hw893 => k0_hw893

def k0_chk894 (v4893 : IVec S16 32) : Prop :=
  (∀ a x, ((![v4893] : Fin 1 → IVec S16 32) a x).toNat < S4096.size a)
theorem k0_idx894_inb : ∀ (v4893 : IVec S16 32) (k0_hw894 : k0_chk894 v4893), ∀ a x, ((![v4893] : Fin 1 → IVec S16 32) a x).toNat < S4096.size a := fun v4893 k0_hw894 => k0_hw894

def k0_chk895 (v4895 : IVec S16 32) : Prop :=
  (∀ a x, ((![v4895] : Fin 1 → IVec S16 32) a x).toNat < S4096.size a)
theorem k0_idx895_inb : ∀ (v4895 : IVec S16 32) (k0_hw895 : k0_chk895 v4895), ∀ a x, ((![v4895] : Fin 1 → IVec S16 32) a x).toNat < S4096.size a := fun v4895 k0_hw895 => k0_hw895

def k0_chk896 (v4897 : IVec S16 32) : Prop :=
  (∀ a x, ((![v4897] : Fin 1 → IVec S16 32) a x).toNat < S4096.size a)
theorem k0_idx896_inb : ∀ (v4897 : IVec S16 32) (k0_hw896 : k0_chk896 v4897), ∀ a x, ((![v4897] : Fin 1 → IVec S16 32) a x).toNat < S4096.size a := fun v4897 k0_hw896 => k0_hw896
def k0_off33 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3600 : BitVec 32 := 512#32
  let v4898 : BitVec 32 := Scalar.muli v361 c512_i32_3600
  let c448_i32 : BitVec 32 := 448#32
  let v4899 : BitVec 32 := Scalar.addi v4898 c448_i32
  let v4900 : Index := Scalar.indexCast v4899
  ![v4900.toNat]

def k0_chk897 (v4901 : IVec S16 32) : Prop :=
  (∀ a x, ((![v4901] : Fin 1 → IVec S16 32) a x).toNat < S4096.size a)
theorem k0_idx897_inb : ∀ (v4901 : IVec S16 32) (k0_hw897 : k0_chk897 v4901), ∀ a x, ((![v4901] : Fin 1 → IVec S16 32) a x).toNat < S4096.size a := fun v4901 k0_hw897 => k0_hw897

def k0_chk898 (v4918 : IVec S16 32) : Prop :=
  (∀ a x, ((![v4918] : Fin 1 → IVec S16 32) a x).toNat < S4096.size a)
theorem k0_idx898_inb : ∀ (v4918 : IVec S16 32) (k0_hw898 : k0_chk898 v4918), ∀ a x, ((![v4918] : Fin 1 → IVec S16 32) a x).toNat < S4096.size a := fun v4918 k0_hw898 => k0_hw898

def k0_chk899 (v4923 : IVec S16 32) : Prop :=
  (∀ a x, ((![v4923] : Fin 1 → IVec S16 32) a x).toNat < S4096.size a)
theorem k0_idx899_inb : ∀ (v4923 : IVec S16 32) (k0_hw899 : k0_chk899 v4923), ∀ a x, ((![v4923] : Fin 1 → IVec S16 32) a x).toNat < S4096.size a := fun v4923 k0_hw899 => k0_hw899

def k0_chk900 (v4928 : IVec S16 32) : Prop :=
  (∀ a x, ((![v4928] : Fin 1 → IVec S16 32) a x).toNat < S4096.size a)
theorem k0_idx900_inb : ∀ (v4928 : IVec S16 32) (k0_hw900 : k0_chk900 v4928), ∀ a x, ((![v4928] : Fin 1 → IVec S16 32) a x).toNat < S4096.size a := fun v4928 k0_hw900 => k0_hw900

def k0_chk901 (v4933 : IVec S16 32) : Prop :=
  (∀ a x, ((![v4933] : Fin 1 → IVec S16 32) a x).toNat < S4096.size a)
theorem k0_idx901_inb : ∀ (v4933 : IVec S16 32) (k0_hw901 : k0_chk901 v4933), ∀ a x, ((![v4933] : Fin 1 → IVec S16 32) a x).toNat < S4096.size a := fun v4933 k0_hw901 => k0_hw901

def k0_chk902 (v4938 : IVec S16 32) : Prop :=
  (∀ a x, ((![v4938] : Fin 1 → IVec S16 32) a x).toNat < S4096.size a)
theorem k0_idx902_inb : ∀ (v4938 : IVec S16 32) (k0_hw902 : k0_chk902 v4938), ∀ a x, ((![v4938] : Fin 1 → IVec S16 32) a x).toNat < S4096.size a := fun v4938 k0_hw902 => k0_hw902

def k0_chk903 (v4943 : IVec S16 32) : Prop :=
  (∀ a x, ((![v4943] : Fin 1 → IVec S16 32) a x).toNat < S4096.size a)
theorem k0_idx903_inb : ∀ (v4943 : IVec S16 32) (k0_hw903 : k0_chk903 v4943), ∀ a x, ((![v4943] : Fin 1 → IVec S16 32) a x).toNat < S4096.size a := fun v4943 k0_hw903 => k0_hw903

def k0_chk904 (v4948 : IVec S16 32) : Prop :=
  (∀ a x, ((![v4948] : Fin 1 → IVec S16 32) a x).toNat < S4096.size a)
theorem k0_idx904_inb : ∀ (v4948 : IVec S16 32) (k0_hw904 : k0_chk904 v4948), ∀ a x, ((![v4948] : Fin 1 → IVec S16 32) a x).toNat < S4096.size a := fun v4948 k0_hw904 => k0_hw904

def k0_chk905 (v4953 : IVec S16 32) : Prop :=
  (∀ a x, ((![v4953] : Fin 1 → IVec S16 32) a x).toNat < S4096.size a)
theorem k0_idx905_inb : ∀ (v4953 : IVec S16 32) (k0_hw905 : k0_chk905 v4953), ∀ a x, ((![v4953] : Fin 1 → IVec S16 32) a x).toNat < S4096.size a := fun v4953 k0_hw905 => k0_hw905

def k0_chk906 (v4958 : IVec S16 32) : Prop :=
  (∀ a x, ((![v4958] : Fin 1 → IVec S16 32) a x).toNat < S4096.size a)
theorem k0_idx906_inb : ∀ (v4958 : IVec S16 32) (k0_hw906 : k0_chk906 v4958), ∀ a x, ((![v4958] : Fin 1 → IVec S16 32) a x).toNat < S4096.size a := fun v4958 k0_hw906 => k0_hw906

def k0_chk907 (v4963 : IVec S16 32) : Prop :=
  (∀ a x, ((![v4963] : Fin 1 → IVec S16 32) a x).toNat < S4096.size a)
theorem k0_idx907_inb : ∀ (v4963 : IVec S16 32) (k0_hw907 : k0_chk907 v4963), ∀ a x, ((![v4963] : Fin 1 → IVec S16 32) a x).toNat < S4096.size a := fun v4963 k0_hw907 => k0_hw907

def k0_chk908 (v4968 : IVec S16 32) : Prop :=
  (∀ a x, ((![v4968] : Fin 1 → IVec S16 32) a x).toNat < S4096.size a)
theorem k0_idx908_inb : ∀ (v4968 : IVec S16 32) (k0_hw908 : k0_chk908 v4968), ∀ a x, ((![v4968] : Fin 1 → IVec S16 32) a x).toNat < S4096.size a := fun v4968 k0_hw908 => k0_hw908

def k0_chk909 (v4973 : IVec S16 32) : Prop :=
  (∀ a x, ((![v4973] : Fin 1 → IVec S16 32) a x).toNat < S4096.size a)
theorem k0_idx909_inb : ∀ (v4973 : IVec S16 32) (k0_hw909 : k0_chk909 v4973), ∀ a x, ((![v4973] : Fin 1 → IVec S16 32) a x).toNat < S4096.size a := fun v4973 k0_hw909 => k0_hw909

def k0_chk910 (v4978 : IVec S16 32) : Prop :=
  (∀ a x, ((![v4978] : Fin 1 → IVec S16 32) a x).toNat < S4096.size a)
theorem k0_idx910_inb : ∀ (v4978 : IVec S16 32) (k0_hw910 : k0_chk910 v4978), ∀ a x, ((![v4978] : Fin 1 → IVec S16 32) a x).toNat < S4096.size a := fun v4978 k0_hw910 => k0_hw910

def k0_chk911 (v4983 : IVec S16 32) : Prop :=
  (∀ a x, ((![v4983] : Fin 1 → IVec S16 32) a x).toNat < S4096.size a)
theorem k0_idx911_inb : ∀ (v4983 : IVec S16 32) (k0_hw911 : k0_chk911 v4983), ∀ a x, ((![v4983] : Fin 1 → IVec S16 32) a x).toNat < S4096.size a := fun v4983 k0_hw911 => k0_hw911

def k0_chk912 (v4988 : IVec S16 32) : Prop :=
  (∀ a x, ((![v4988] : Fin 1 → IVec S16 32) a x).toNat < S4096.size a)
theorem k0_idx912_inb : ∀ (v4988 : IVec S16 32) (k0_hw912 : k0_chk912 v4988), ∀ a x, ((![v4988] : Fin 1 → IVec S16 32) a x).toNat < S4096.size a := fun v4988 k0_hw912 => k0_hw912

def k0_chk913 (v4993 : IVec S16 32) : Prop :=
  (∀ a x, ((![v4993] : Fin 1 → IVec S16 32) a x).toNat < S4096.size a)
theorem k0_idx913_inb : ∀ (v4993 : IVec S16 32) (k0_hw913 : k0_chk913 v4993), ∀ a x, ((![v4993] : Fin 1 → IVec S16 32) a x).toNat < S4096.size a := fun v4993 k0_hw913 => k0_hw913

def k0_chk914 (v4998 : IVec S16 32) : Prop :=
  (∀ a x, ((![v4998] : Fin 1 → IVec S16 32) a x).toNat < S4096.size a)
theorem k0_idx914_inb : ∀ (v4998 : IVec S16 32) (k0_hw914 : k0_chk914 v4998), ∀ a x, ((![v4998] : Fin 1 → IVec S16 32) a x).toNat < S4096.size a := fun v4998 k0_hw914 => k0_hw914

def k0_chk915 (v5003 : IVec S16 32) : Prop :=
  (∀ a x, ((![v5003] : Fin 1 → IVec S16 32) a x).toNat < S4096.size a)
theorem k0_idx915_inb : ∀ (v5003 : IVec S16 32) (k0_hw915 : k0_chk915 v5003), ∀ a x, ((![v5003] : Fin 1 → IVec S16 32) a x).toNat < S4096.size a := fun v5003 k0_hw915 => k0_hw915

def k0_chk916 (v5008 : IVec S16 32) : Prop :=
  (∀ a x, ((![v5008] : Fin 1 → IVec S16 32) a x).toNat < S4096.size a)
theorem k0_idx916_inb : ∀ (v5008 : IVec S16 32) (k0_hw916 : k0_chk916 v5008), ∀ a x, ((![v5008] : Fin 1 → IVec S16 32) a x).toNat < S4096.size a := fun v5008 k0_hw916 => k0_hw916

def k0_chk917 (v5013 : IVec S16 32) : Prop :=
  (∀ a x, ((![v5013] : Fin 1 → IVec S16 32) a x).toNat < S4096.size a)
theorem k0_idx917_inb : ∀ (v5013 : IVec S16 32) (k0_hw917 : k0_chk917 v5013), ∀ a x, ((![v5013] : Fin 1 → IVec S16 32) a x).toNat < S4096.size a := fun v5013 k0_hw917 => k0_hw917

def k0_chk918 (v5018 : IVec S16 32) : Prop :=
  (∀ a x, ((![v5018] : Fin 1 → IVec S16 32) a x).toNat < S4096.size a)
theorem k0_idx918_inb : ∀ (v5018 : IVec S16 32) (k0_hw918 : k0_chk918 v5018), ∀ a x, ((![v5018] : Fin 1 → IVec S16 32) a x).toNat < S4096.size a := fun v5018 k0_hw918 => k0_hw918

def k0_chk919 (v5023 : IVec S16 32) : Prop :=
  (∀ a x, ((![v5023] : Fin 1 → IVec S16 32) a x).toNat < S4096.size a)
theorem k0_idx919_inb : ∀ (v5023 : IVec S16 32) (k0_hw919 : k0_chk919 v5023), ∀ a x, ((![v5023] : Fin 1 → IVec S16 32) a x).toNat < S4096.size a := fun v5023 k0_hw919 => k0_hw919

def k0_chk920 (v5028 : IVec S16 32) : Prop :=
  (∀ a x, ((![v5028] : Fin 1 → IVec S16 32) a x).toNat < S4096.size a)
theorem k0_idx920_inb : ∀ (v5028 : IVec S16 32) (k0_hw920 : k0_chk920 v5028), ∀ a x, ((![v5028] : Fin 1 → IVec S16 32) a x).toNat < S4096.size a := fun v5028 k0_hw920 => k0_hw920

def k0_chk921 (v5033 : IVec S16 32) : Prop :=
  (∀ a x, ((![v5033] : Fin 1 → IVec S16 32) a x).toNat < S4096.size a)
theorem k0_idx921_inb : ∀ (v5033 : IVec S16 32) (k0_hw921 : k0_chk921 v5033), ∀ a x, ((![v5033] : Fin 1 → IVec S16 32) a x).toNat < S4096.size a := fun v5033 k0_hw921 => k0_hw921

def k0_chk922 (v5038 : IVec S16 32) : Prop :=
  (∀ a x, ((![v5038] : Fin 1 → IVec S16 32) a x).toNat < S4096.size a)
theorem k0_idx922_inb : ∀ (v5038 : IVec S16 32) (k0_hw922 : k0_chk922 v5038), ∀ a x, ((![v5038] : Fin 1 → IVec S16 32) a x).toNat < S4096.size a := fun v5038 k0_hw922 => k0_hw922

def k0_chk923 (v5043 : IVec S16 32) : Prop :=
  (∀ a x, ((![v5043] : Fin 1 → IVec S16 32) a x).toNat < S4096.size a)
theorem k0_idx923_inb : ∀ (v5043 : IVec S16 32) (k0_hw923 : k0_chk923 v5043), ∀ a x, ((![v5043] : Fin 1 → IVec S16 32) a x).toNat < S4096.size a := fun v5043 k0_hw923 => k0_hw923

def k0_chk924 (v5048 : IVec S16 32) : Prop :=
  (∀ a x, ((![v5048] : Fin 1 → IVec S16 32) a x).toNat < S4096.size a)
theorem k0_idx924_inb : ∀ (v5048 : IVec S16 32) (k0_hw924 : k0_chk924 v5048), ∀ a x, ((![v5048] : Fin 1 → IVec S16 32) a x).toNat < S4096.size a := fun v5048 k0_hw924 => k0_hw924

def k0_chk925 (v5053 : IVec S16 32) : Prop :=
  (∀ a x, ((![v5053] : Fin 1 → IVec S16 32) a x).toNat < S4096.size a)
theorem k0_idx925_inb : ∀ (v5053 : IVec S16 32) (k0_hw925 : k0_chk925 v5053), ∀ a x, ((![v5053] : Fin 1 → IVec S16 32) a x).toNat < S4096.size a := fun v5053 k0_hw925 => k0_hw925

def k0_chk926 (v5055 : IVec S16 32) : Prop :=
  (∀ a x, ((![v5055] : Fin 1 → IVec S16 32) a x).toNat < S4096.size a)
theorem k0_idx926_inb : ∀ (v5055 : IVec S16 32) (k0_hw926 : k0_chk926 v5055), ∀ a x, ((![v5055] : Fin 1 → IVec S16 32) a x).toNat < S4096.size a := fun v5055 k0_hw926 => k0_hw926

def k0_chk927 (v5057 : IVec S16 32) : Prop :=
  (∀ a x, ((![v5057] : Fin 1 → IVec S16 32) a x).toNat < S4096.size a)
theorem k0_idx927_inb : ∀ (v5057 : IVec S16 32) (k0_hw927 : k0_chk927 v5057), ∀ a x, ((![v5057] : Fin 1 → IVec S16 32) a x).toNat < S4096.size a := fun v5057 k0_hw927 => k0_hw927

def k0_chk928 (v5059 : IVec S16 32) : Prop :=
  (∀ a x, ((![v5059] : Fin 1 → IVec S16 32) a x).toNat < S4096.size a)
theorem k0_idx928_inb : ∀ (v5059 : IVec S16 32) (k0_hw928 : k0_chk928 v5059), ∀ a x, ((![v5059] : Fin 1 → IVec S16 32) a x).toNat < S4096.size a := fun v5059 k0_hw928 => k0_hw928
def k0_off34 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3728 : BitVec 32 := 512#32
  let v5060 : BitVec 32 := Scalar.muli v361 c512_i32_3728
  let c464_i32 : BitVec 32 := 464#32
  let v5061 : BitVec 32 := Scalar.addi v5060 c464_i32
  let v5062 : Index := Scalar.indexCast v5061
  ![v5062.toNat]

def k0_chk929 (v5063 : IVec S16 32) : Prop :=
  (∀ a x, ((![v5063] : Fin 1 → IVec S16 32) a x).toNat < S4096.size a)
theorem k0_idx929_inb : ∀ (v5063 : IVec S16 32) (k0_hw929 : k0_chk929 v5063), ∀ a x, ((![v5063] : Fin 1 → IVec S16 32) a x).toNat < S4096.size a := fun v5063 k0_hw929 => k0_hw929

def k0_chk930 (v5080 : IVec S16 32) : Prop :=
  (∀ a x, ((![v5080] : Fin 1 → IVec S16 32) a x).toNat < S4096.size a)
theorem k0_idx930_inb : ∀ (v5080 : IVec S16 32) (k0_hw930 : k0_chk930 v5080), ∀ a x, ((![v5080] : Fin 1 → IVec S16 32) a x).toNat < S4096.size a := fun v5080 k0_hw930 => k0_hw930

def k0_chk931 (v5085 : IVec S16 32) : Prop :=
  (∀ a x, ((![v5085] : Fin 1 → IVec S16 32) a x).toNat < S4096.size a)
theorem k0_idx931_inb : ∀ (v5085 : IVec S16 32) (k0_hw931 : k0_chk931 v5085), ∀ a x, ((![v5085] : Fin 1 → IVec S16 32) a x).toNat < S4096.size a := fun v5085 k0_hw931 => k0_hw931

def k0_chk932 (v5090 : IVec S16 32) : Prop :=
  (∀ a x, ((![v5090] : Fin 1 → IVec S16 32) a x).toNat < S4096.size a)
theorem k0_idx932_inb : ∀ (v5090 : IVec S16 32) (k0_hw932 : k0_chk932 v5090), ∀ a x, ((![v5090] : Fin 1 → IVec S16 32) a x).toNat < S4096.size a := fun v5090 k0_hw932 => k0_hw932

def k0_chk933 (v5095 : IVec S16 32) : Prop :=
  (∀ a x, ((![v5095] : Fin 1 → IVec S16 32) a x).toNat < S4096.size a)
theorem k0_idx933_inb : ∀ (v5095 : IVec S16 32) (k0_hw933 : k0_chk933 v5095), ∀ a x, ((![v5095] : Fin 1 → IVec S16 32) a x).toNat < S4096.size a := fun v5095 k0_hw933 => k0_hw933

def k0_chk934 (v5100 : IVec S16 32) : Prop :=
  (∀ a x, ((![v5100] : Fin 1 → IVec S16 32) a x).toNat < S4096.size a)
theorem k0_idx934_inb : ∀ (v5100 : IVec S16 32) (k0_hw934 : k0_chk934 v5100), ∀ a x, ((![v5100] : Fin 1 → IVec S16 32) a x).toNat < S4096.size a := fun v5100 k0_hw934 => k0_hw934

def k0_chk935 (v5105 : IVec S16 32) : Prop :=
  (∀ a x, ((![v5105] : Fin 1 → IVec S16 32) a x).toNat < S4096.size a)
theorem k0_idx935_inb : ∀ (v5105 : IVec S16 32) (k0_hw935 : k0_chk935 v5105), ∀ a x, ((![v5105] : Fin 1 → IVec S16 32) a x).toNat < S4096.size a := fun v5105 k0_hw935 => k0_hw935

def k0_chk936 (v5110 : IVec S16 32) : Prop :=
  (∀ a x, ((![v5110] : Fin 1 → IVec S16 32) a x).toNat < S4096.size a)
theorem k0_idx936_inb : ∀ (v5110 : IVec S16 32) (k0_hw936 : k0_chk936 v5110), ∀ a x, ((![v5110] : Fin 1 → IVec S16 32) a x).toNat < S4096.size a := fun v5110 k0_hw936 => k0_hw936

def k0_chk937 (v5115 : IVec S16 32) : Prop :=
  (∀ a x, ((![v5115] : Fin 1 → IVec S16 32) a x).toNat < S4096.size a)
theorem k0_idx937_inb : ∀ (v5115 : IVec S16 32) (k0_hw937 : k0_chk937 v5115), ∀ a x, ((![v5115] : Fin 1 → IVec S16 32) a x).toNat < S4096.size a := fun v5115 k0_hw937 => k0_hw937

def k0_chk938 (v5120 : IVec S16 32) : Prop :=
  (∀ a x, ((![v5120] : Fin 1 → IVec S16 32) a x).toNat < S4096.size a)
theorem k0_idx938_inb : ∀ (v5120 : IVec S16 32) (k0_hw938 : k0_chk938 v5120), ∀ a x, ((![v5120] : Fin 1 → IVec S16 32) a x).toNat < S4096.size a := fun v5120 k0_hw938 => k0_hw938

def k0_chk939 (v5125 : IVec S16 32) : Prop :=
  (∀ a x, ((![v5125] : Fin 1 → IVec S16 32) a x).toNat < S4096.size a)
theorem k0_idx939_inb : ∀ (v5125 : IVec S16 32) (k0_hw939 : k0_chk939 v5125), ∀ a x, ((![v5125] : Fin 1 → IVec S16 32) a x).toNat < S4096.size a := fun v5125 k0_hw939 => k0_hw939

def k0_chk940 (v5130 : IVec S16 32) : Prop :=
  (∀ a x, ((![v5130] : Fin 1 → IVec S16 32) a x).toNat < S4096.size a)
theorem k0_idx940_inb : ∀ (v5130 : IVec S16 32) (k0_hw940 : k0_chk940 v5130), ∀ a x, ((![v5130] : Fin 1 → IVec S16 32) a x).toNat < S4096.size a := fun v5130 k0_hw940 => k0_hw940

def k0_chk941 (v5135 : IVec S16 32) : Prop :=
  (∀ a x, ((![v5135] : Fin 1 → IVec S16 32) a x).toNat < S4096.size a)
theorem k0_idx941_inb : ∀ (v5135 : IVec S16 32) (k0_hw941 : k0_chk941 v5135), ∀ a x, ((![v5135] : Fin 1 → IVec S16 32) a x).toNat < S4096.size a := fun v5135 k0_hw941 => k0_hw941

def k0_chk942 (v5140 : IVec S16 32) : Prop :=
  (∀ a x, ((![v5140] : Fin 1 → IVec S16 32) a x).toNat < S4096.size a)
theorem k0_idx942_inb : ∀ (v5140 : IVec S16 32) (k0_hw942 : k0_chk942 v5140), ∀ a x, ((![v5140] : Fin 1 → IVec S16 32) a x).toNat < S4096.size a := fun v5140 k0_hw942 => k0_hw942

def k0_chk943 (v5145 : IVec S16 32) : Prop :=
  (∀ a x, ((![v5145] : Fin 1 → IVec S16 32) a x).toNat < S4096.size a)
theorem k0_idx943_inb : ∀ (v5145 : IVec S16 32) (k0_hw943 : k0_chk943 v5145), ∀ a x, ((![v5145] : Fin 1 → IVec S16 32) a x).toNat < S4096.size a := fun v5145 k0_hw943 => k0_hw943

def k0_chk944 (v5150 : IVec S16 32) : Prop :=
  (∀ a x, ((![v5150] : Fin 1 → IVec S16 32) a x).toNat < S4096.size a)
theorem k0_idx944_inb : ∀ (v5150 : IVec S16 32) (k0_hw944 : k0_chk944 v5150), ∀ a x, ((![v5150] : Fin 1 → IVec S16 32) a x).toNat < S4096.size a := fun v5150 k0_hw944 => k0_hw944

def k0_chk945 (v5155 : IVec S16 32) : Prop :=
  (∀ a x, ((![v5155] : Fin 1 → IVec S16 32) a x).toNat < S4096.size a)
theorem k0_idx945_inb : ∀ (v5155 : IVec S16 32) (k0_hw945 : k0_chk945 v5155), ∀ a x, ((![v5155] : Fin 1 → IVec S16 32) a x).toNat < S4096.size a := fun v5155 k0_hw945 => k0_hw945

def k0_chk946 (v5160 : IVec S16 32) : Prop :=
  (∀ a x, ((![v5160] : Fin 1 → IVec S16 32) a x).toNat < S4096.size a)
theorem k0_idx946_inb : ∀ (v5160 : IVec S16 32) (k0_hw946 : k0_chk946 v5160), ∀ a x, ((![v5160] : Fin 1 → IVec S16 32) a x).toNat < S4096.size a := fun v5160 k0_hw946 => k0_hw946

def k0_chk947 (v5165 : IVec S16 32) : Prop :=
  (∀ a x, ((![v5165] : Fin 1 → IVec S16 32) a x).toNat < S4096.size a)
theorem k0_idx947_inb : ∀ (v5165 : IVec S16 32) (k0_hw947 : k0_chk947 v5165), ∀ a x, ((![v5165] : Fin 1 → IVec S16 32) a x).toNat < S4096.size a := fun v5165 k0_hw947 => k0_hw947

def k0_chk948 (v5170 : IVec S16 32) : Prop :=
  (∀ a x, ((![v5170] : Fin 1 → IVec S16 32) a x).toNat < S4096.size a)
theorem k0_idx948_inb : ∀ (v5170 : IVec S16 32) (k0_hw948 : k0_chk948 v5170), ∀ a x, ((![v5170] : Fin 1 → IVec S16 32) a x).toNat < S4096.size a := fun v5170 k0_hw948 => k0_hw948

def k0_chk949 (v5175 : IVec S16 32) : Prop :=
  (∀ a x, ((![v5175] : Fin 1 → IVec S16 32) a x).toNat < S4096.size a)
theorem k0_idx949_inb : ∀ (v5175 : IVec S16 32) (k0_hw949 : k0_chk949 v5175), ∀ a x, ((![v5175] : Fin 1 → IVec S16 32) a x).toNat < S4096.size a := fun v5175 k0_hw949 => k0_hw949

def k0_chk950 (v5180 : IVec S16 32) : Prop :=
  (∀ a x, ((![v5180] : Fin 1 → IVec S16 32) a x).toNat < S4096.size a)
theorem k0_idx950_inb : ∀ (v5180 : IVec S16 32) (k0_hw950 : k0_chk950 v5180), ∀ a x, ((![v5180] : Fin 1 → IVec S16 32) a x).toNat < S4096.size a := fun v5180 k0_hw950 => k0_hw950

def k0_chk951 (v5185 : IVec S16 32) : Prop :=
  (∀ a x, ((![v5185] : Fin 1 → IVec S16 32) a x).toNat < S4096.size a)
theorem k0_idx951_inb : ∀ (v5185 : IVec S16 32) (k0_hw951 : k0_chk951 v5185), ∀ a x, ((![v5185] : Fin 1 → IVec S16 32) a x).toNat < S4096.size a := fun v5185 k0_hw951 => k0_hw951

def k0_chk952 (v5190 : IVec S16 32) : Prop :=
  (∀ a x, ((![v5190] : Fin 1 → IVec S16 32) a x).toNat < S4096.size a)
theorem k0_idx952_inb : ∀ (v5190 : IVec S16 32) (k0_hw952 : k0_chk952 v5190), ∀ a x, ((![v5190] : Fin 1 → IVec S16 32) a x).toNat < S4096.size a := fun v5190 k0_hw952 => k0_hw952

def k0_chk953 (v5195 : IVec S16 32) : Prop :=
  (∀ a x, ((![v5195] : Fin 1 → IVec S16 32) a x).toNat < S4096.size a)
theorem k0_idx953_inb : ∀ (v5195 : IVec S16 32) (k0_hw953 : k0_chk953 v5195), ∀ a x, ((![v5195] : Fin 1 → IVec S16 32) a x).toNat < S4096.size a := fun v5195 k0_hw953 => k0_hw953

def k0_chk954 (v5200 : IVec S16 32) : Prop :=
  (∀ a x, ((![v5200] : Fin 1 → IVec S16 32) a x).toNat < S4096.size a)
theorem k0_idx954_inb : ∀ (v5200 : IVec S16 32) (k0_hw954 : k0_chk954 v5200), ∀ a x, ((![v5200] : Fin 1 → IVec S16 32) a x).toNat < S4096.size a := fun v5200 k0_hw954 => k0_hw954

def k0_chk955 (v5205 : IVec S16 32) : Prop :=
  (∀ a x, ((![v5205] : Fin 1 → IVec S16 32) a x).toNat < S4096.size a)
theorem k0_idx955_inb : ∀ (v5205 : IVec S16 32) (k0_hw955 : k0_chk955 v5205), ∀ a x, ((![v5205] : Fin 1 → IVec S16 32) a x).toNat < S4096.size a := fun v5205 k0_hw955 => k0_hw955

def k0_chk956 (v5210 : IVec S16 32) : Prop :=
  (∀ a x, ((![v5210] : Fin 1 → IVec S16 32) a x).toNat < S4096.size a)
theorem k0_idx956_inb : ∀ (v5210 : IVec S16 32) (k0_hw956 : k0_chk956 v5210), ∀ a x, ((![v5210] : Fin 1 → IVec S16 32) a x).toNat < S4096.size a := fun v5210 k0_hw956 => k0_hw956

def k0_chk957 (v5215 : IVec S16 32) : Prop :=
  (∀ a x, ((![v5215] : Fin 1 → IVec S16 32) a x).toNat < S4096.size a)
theorem k0_idx957_inb : ∀ (v5215 : IVec S16 32) (k0_hw957 : k0_chk957 v5215), ∀ a x, ((![v5215] : Fin 1 → IVec S16 32) a x).toNat < S4096.size a := fun v5215 k0_hw957 => k0_hw957

def k0_chk958 (v5217 : IVec S16 32) : Prop :=
  (∀ a x, ((![v5217] : Fin 1 → IVec S16 32) a x).toNat < S4096.size a)
theorem k0_idx958_inb : ∀ (v5217 : IVec S16 32) (k0_hw958 : k0_chk958 v5217), ∀ a x, ((![v5217] : Fin 1 → IVec S16 32) a x).toNat < S4096.size a := fun v5217 k0_hw958 => k0_hw958

def k0_chk959 (v5219 : IVec S16 32) : Prop :=
  (∀ a x, ((![v5219] : Fin 1 → IVec S16 32) a x).toNat < S4096.size a)
theorem k0_idx959_inb : ∀ (v5219 : IVec S16 32) (k0_hw959 : k0_chk959 v5219), ∀ a x, ((![v5219] : Fin 1 → IVec S16 32) a x).toNat < S4096.size a := fun v5219 k0_hw959 => k0_hw959

def k0_chk960 (v5221 : IVec S16 32) : Prop :=
  (∀ a x, ((![v5221] : Fin 1 → IVec S16 32) a x).toNat < S4096.size a)
theorem k0_idx960_inb : ∀ (v5221 : IVec S16 32) (k0_hw960 : k0_chk960 v5221), ∀ a x, ((![v5221] : Fin 1 → IVec S16 32) a x).toNat < S4096.size a := fun v5221 k0_hw960 => k0_hw960
def k0_off35 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3856 : BitVec 32 := 512#32
  let v5222 : BitVec 32 := Scalar.muli v361 c512_i32_3856
  let c480_i32 : BitVec 32 := 480#32
  let v5223 : BitVec 32 := Scalar.addi v5222 c480_i32
  let v5224 : Index := Scalar.indexCast v5223
  ![v5224.toNat]

def k0_chk961 (v5225 : IVec S16 32) : Prop :=
  (∀ a x, ((![v5225] : Fin 1 → IVec S16 32) a x).toNat < S4096.size a)
theorem k0_idx961_inb : ∀ (v5225 : IVec S16 32) (k0_hw961 : k0_chk961 v5225), ∀ a x, ((![v5225] : Fin 1 → IVec S16 32) a x).toNat < S4096.size a := fun v5225 k0_hw961 => k0_hw961

def k0_chk962 (v5242 : IVec S16 32) : Prop :=
  (∀ a x, ((![v5242] : Fin 1 → IVec S16 32) a x).toNat < S4096.size a)
theorem k0_idx962_inb : ∀ (v5242 : IVec S16 32) (k0_hw962 : k0_chk962 v5242), ∀ a x, ((![v5242] : Fin 1 → IVec S16 32) a x).toNat < S4096.size a := fun v5242 k0_hw962 => k0_hw962

def k0_chk963 (v5247 : IVec S16 32) : Prop :=
  (∀ a x, ((![v5247] : Fin 1 → IVec S16 32) a x).toNat < S4096.size a)
theorem k0_idx963_inb : ∀ (v5247 : IVec S16 32) (k0_hw963 : k0_chk963 v5247), ∀ a x, ((![v5247] : Fin 1 → IVec S16 32) a x).toNat < S4096.size a := fun v5247 k0_hw963 => k0_hw963

def k0_chk964 (v5252 : IVec S16 32) : Prop :=
  (∀ a x, ((![v5252] : Fin 1 → IVec S16 32) a x).toNat < S4096.size a)
theorem k0_idx964_inb : ∀ (v5252 : IVec S16 32) (k0_hw964 : k0_chk964 v5252), ∀ a x, ((![v5252] : Fin 1 → IVec S16 32) a x).toNat < S4096.size a := fun v5252 k0_hw964 => k0_hw964

def k0_chk965 (v5257 : IVec S16 32) : Prop :=
  (∀ a x, ((![v5257] : Fin 1 → IVec S16 32) a x).toNat < S4096.size a)
theorem k0_idx965_inb : ∀ (v5257 : IVec S16 32) (k0_hw965 : k0_chk965 v5257), ∀ a x, ((![v5257] : Fin 1 → IVec S16 32) a x).toNat < S4096.size a := fun v5257 k0_hw965 => k0_hw965

def k0_chk966 (v5262 : IVec S16 32) : Prop :=
  (∀ a x, ((![v5262] : Fin 1 → IVec S16 32) a x).toNat < S4096.size a)
theorem k0_idx966_inb : ∀ (v5262 : IVec S16 32) (k0_hw966 : k0_chk966 v5262), ∀ a x, ((![v5262] : Fin 1 → IVec S16 32) a x).toNat < S4096.size a := fun v5262 k0_hw966 => k0_hw966

def k0_chk967 (v5267 : IVec S16 32) : Prop :=
  (∀ a x, ((![v5267] : Fin 1 → IVec S16 32) a x).toNat < S4096.size a)
theorem k0_idx967_inb : ∀ (v5267 : IVec S16 32) (k0_hw967 : k0_chk967 v5267), ∀ a x, ((![v5267] : Fin 1 → IVec S16 32) a x).toNat < S4096.size a := fun v5267 k0_hw967 => k0_hw967

def k0_chk968 (v5272 : IVec S16 32) : Prop :=
  (∀ a x, ((![v5272] : Fin 1 → IVec S16 32) a x).toNat < S4096.size a)
theorem k0_idx968_inb : ∀ (v5272 : IVec S16 32) (k0_hw968 : k0_chk968 v5272), ∀ a x, ((![v5272] : Fin 1 → IVec S16 32) a x).toNat < S4096.size a := fun v5272 k0_hw968 => k0_hw968

def k0_chk969 (v5277 : IVec S16 32) : Prop :=
  (∀ a x, ((![v5277] : Fin 1 → IVec S16 32) a x).toNat < S4096.size a)
theorem k0_idx969_inb : ∀ (v5277 : IVec S16 32) (k0_hw969 : k0_chk969 v5277), ∀ a x, ((![v5277] : Fin 1 → IVec S16 32) a x).toNat < S4096.size a := fun v5277 k0_hw969 => k0_hw969

def k0_chk970 (v5282 : IVec S16 32) : Prop :=
  (∀ a x, ((![v5282] : Fin 1 → IVec S16 32) a x).toNat < S4096.size a)
theorem k0_idx970_inb : ∀ (v5282 : IVec S16 32) (k0_hw970 : k0_chk970 v5282), ∀ a x, ((![v5282] : Fin 1 → IVec S16 32) a x).toNat < S4096.size a := fun v5282 k0_hw970 => k0_hw970

def k0_chk971 (v5287 : IVec S16 32) : Prop :=
  (∀ a x, ((![v5287] : Fin 1 → IVec S16 32) a x).toNat < S4096.size a)
theorem k0_idx971_inb : ∀ (v5287 : IVec S16 32) (k0_hw971 : k0_chk971 v5287), ∀ a x, ((![v5287] : Fin 1 → IVec S16 32) a x).toNat < S4096.size a := fun v5287 k0_hw971 => k0_hw971

def k0_chk972 (v5292 : IVec S16 32) : Prop :=
  (∀ a x, ((![v5292] : Fin 1 → IVec S16 32) a x).toNat < S4096.size a)
theorem k0_idx972_inb : ∀ (v5292 : IVec S16 32) (k0_hw972 : k0_chk972 v5292), ∀ a x, ((![v5292] : Fin 1 → IVec S16 32) a x).toNat < S4096.size a := fun v5292 k0_hw972 => k0_hw972

def k0_chk973 (v5297 : IVec S16 32) : Prop :=
  (∀ a x, ((![v5297] : Fin 1 → IVec S16 32) a x).toNat < S4096.size a)
theorem k0_idx973_inb : ∀ (v5297 : IVec S16 32) (k0_hw973 : k0_chk973 v5297), ∀ a x, ((![v5297] : Fin 1 → IVec S16 32) a x).toNat < S4096.size a := fun v5297 k0_hw973 => k0_hw973

def k0_chk974 (v5302 : IVec S16 32) : Prop :=
  (∀ a x, ((![v5302] : Fin 1 → IVec S16 32) a x).toNat < S4096.size a)
theorem k0_idx974_inb : ∀ (v5302 : IVec S16 32) (k0_hw974 : k0_chk974 v5302), ∀ a x, ((![v5302] : Fin 1 → IVec S16 32) a x).toNat < S4096.size a := fun v5302 k0_hw974 => k0_hw974

def k0_chk975 (v5307 : IVec S16 32) : Prop :=
  (∀ a x, ((![v5307] : Fin 1 → IVec S16 32) a x).toNat < S4096.size a)
theorem k0_idx975_inb : ∀ (v5307 : IVec S16 32) (k0_hw975 : k0_chk975 v5307), ∀ a x, ((![v5307] : Fin 1 → IVec S16 32) a x).toNat < S4096.size a := fun v5307 k0_hw975 => k0_hw975

def k0_chk976 (v5312 : IVec S16 32) : Prop :=
  (∀ a x, ((![v5312] : Fin 1 → IVec S16 32) a x).toNat < S4096.size a)
theorem k0_idx976_inb : ∀ (v5312 : IVec S16 32) (k0_hw976 : k0_chk976 v5312), ∀ a x, ((![v5312] : Fin 1 → IVec S16 32) a x).toNat < S4096.size a := fun v5312 k0_hw976 => k0_hw976

def k0_chk977 (v5317 : IVec S16 32) : Prop :=
  (∀ a x, ((![v5317] : Fin 1 → IVec S16 32) a x).toNat < S4096.size a)
theorem k0_idx977_inb : ∀ (v5317 : IVec S16 32) (k0_hw977 : k0_chk977 v5317), ∀ a x, ((![v5317] : Fin 1 → IVec S16 32) a x).toNat < S4096.size a := fun v5317 k0_hw977 => k0_hw977

def k0_chk978 (v5322 : IVec S16 32) : Prop :=
  (∀ a x, ((![v5322] : Fin 1 → IVec S16 32) a x).toNat < S4096.size a)
theorem k0_idx978_inb : ∀ (v5322 : IVec S16 32) (k0_hw978 : k0_chk978 v5322), ∀ a x, ((![v5322] : Fin 1 → IVec S16 32) a x).toNat < S4096.size a := fun v5322 k0_hw978 => k0_hw978

def k0_chk979 (v5327 : IVec S16 32) : Prop :=
  (∀ a x, ((![v5327] : Fin 1 → IVec S16 32) a x).toNat < S4096.size a)
theorem k0_idx979_inb : ∀ (v5327 : IVec S16 32) (k0_hw979 : k0_chk979 v5327), ∀ a x, ((![v5327] : Fin 1 → IVec S16 32) a x).toNat < S4096.size a := fun v5327 k0_hw979 => k0_hw979

def k0_chk980 (v5332 : IVec S16 32) : Prop :=
  (∀ a x, ((![v5332] : Fin 1 → IVec S16 32) a x).toNat < S4096.size a)
theorem k0_idx980_inb : ∀ (v5332 : IVec S16 32) (k0_hw980 : k0_chk980 v5332), ∀ a x, ((![v5332] : Fin 1 → IVec S16 32) a x).toNat < S4096.size a := fun v5332 k0_hw980 => k0_hw980

def k0_chk981 (v5337 : IVec S16 32) : Prop :=
  (∀ a x, ((![v5337] : Fin 1 → IVec S16 32) a x).toNat < S4096.size a)
theorem k0_idx981_inb : ∀ (v5337 : IVec S16 32) (k0_hw981 : k0_chk981 v5337), ∀ a x, ((![v5337] : Fin 1 → IVec S16 32) a x).toNat < S4096.size a := fun v5337 k0_hw981 => k0_hw981

def k0_chk982 (v5342 : IVec S16 32) : Prop :=
  (∀ a x, ((![v5342] : Fin 1 → IVec S16 32) a x).toNat < S4096.size a)
theorem k0_idx982_inb : ∀ (v5342 : IVec S16 32) (k0_hw982 : k0_chk982 v5342), ∀ a x, ((![v5342] : Fin 1 → IVec S16 32) a x).toNat < S4096.size a := fun v5342 k0_hw982 => k0_hw982

def k0_chk983 (v5347 : IVec S16 32) : Prop :=
  (∀ a x, ((![v5347] : Fin 1 → IVec S16 32) a x).toNat < S4096.size a)
theorem k0_idx983_inb : ∀ (v5347 : IVec S16 32) (k0_hw983 : k0_chk983 v5347), ∀ a x, ((![v5347] : Fin 1 → IVec S16 32) a x).toNat < S4096.size a := fun v5347 k0_hw983 => k0_hw983

def k0_chk984 (v5352 : IVec S16 32) : Prop :=
  (∀ a x, ((![v5352] : Fin 1 → IVec S16 32) a x).toNat < S4096.size a)
theorem k0_idx984_inb : ∀ (v5352 : IVec S16 32) (k0_hw984 : k0_chk984 v5352), ∀ a x, ((![v5352] : Fin 1 → IVec S16 32) a x).toNat < S4096.size a := fun v5352 k0_hw984 => k0_hw984

def k0_chk985 (v5357 : IVec S16 32) : Prop :=
  (∀ a x, ((![v5357] : Fin 1 → IVec S16 32) a x).toNat < S4096.size a)
theorem k0_idx985_inb : ∀ (v5357 : IVec S16 32) (k0_hw985 : k0_chk985 v5357), ∀ a x, ((![v5357] : Fin 1 → IVec S16 32) a x).toNat < S4096.size a := fun v5357 k0_hw985 => k0_hw985

def k0_chk986 (v5362 : IVec S16 32) : Prop :=
  (∀ a x, ((![v5362] : Fin 1 → IVec S16 32) a x).toNat < S4096.size a)
theorem k0_idx986_inb : ∀ (v5362 : IVec S16 32) (k0_hw986 : k0_chk986 v5362), ∀ a x, ((![v5362] : Fin 1 → IVec S16 32) a x).toNat < S4096.size a := fun v5362 k0_hw986 => k0_hw986

def k0_chk987 (v5367 : IVec S16 32) : Prop :=
  (∀ a x, ((![v5367] : Fin 1 → IVec S16 32) a x).toNat < S4096.size a)
theorem k0_idx987_inb : ∀ (v5367 : IVec S16 32) (k0_hw987 : k0_chk987 v5367), ∀ a x, ((![v5367] : Fin 1 → IVec S16 32) a x).toNat < S4096.size a := fun v5367 k0_hw987 => k0_hw987

def k0_chk988 (v5372 : IVec S16 32) : Prop :=
  (∀ a x, ((![v5372] : Fin 1 → IVec S16 32) a x).toNat < S4096.size a)
theorem k0_idx988_inb : ∀ (v5372 : IVec S16 32) (k0_hw988 : k0_chk988 v5372), ∀ a x, ((![v5372] : Fin 1 → IVec S16 32) a x).toNat < S4096.size a := fun v5372 k0_hw988 => k0_hw988

def k0_chk989 (v5377 : IVec S16 32) : Prop :=
  (∀ a x, ((![v5377] : Fin 1 → IVec S16 32) a x).toNat < S4096.size a)
theorem k0_idx989_inb : ∀ (v5377 : IVec S16 32) (k0_hw989 : k0_chk989 v5377), ∀ a x, ((![v5377] : Fin 1 → IVec S16 32) a x).toNat < S4096.size a := fun v5377 k0_hw989 => k0_hw989

def k0_chk990 (v5379 : IVec S16 32) : Prop :=
  (∀ a x, ((![v5379] : Fin 1 → IVec S16 32) a x).toNat < S4096.size a)
theorem k0_idx990_inb : ∀ (v5379 : IVec S16 32) (k0_hw990 : k0_chk990 v5379), ∀ a x, ((![v5379] : Fin 1 → IVec S16 32) a x).toNat < S4096.size a := fun v5379 k0_hw990 => k0_hw990

def k0_chk991 (v5381 : IVec S16 32) : Prop :=
  (∀ a x, ((![v5381] : Fin 1 → IVec S16 32) a x).toNat < S4096.size a)
theorem k0_idx991_inb : ∀ (v5381 : IVec S16 32) (k0_hw991 : k0_chk991 v5381), ∀ a x, ((![v5381] : Fin 1 → IVec S16 32) a x).toNat < S4096.size a := fun v5381 k0_hw991 => k0_hw991

def k0_chk992 (v5383 : IVec S16 32) : Prop :=
  (∀ a x, ((![v5383] : Fin 1 → IVec S16 32) a x).toNat < S4096.size a)
theorem k0_idx992_inb : ∀ (v5383 : IVec S16 32) (k0_hw992 : k0_chk992 v5383), ∀ a x, ((![v5383] : Fin 1 → IVec S16 32) a x).toNat < S4096.size a := fun v5383 k0_hw992 => k0_hw992
def k0_off36 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_66 : BitVec 32 := 0#32
  let v361 : BitVec 32 := Scalar.addi v337 c0_i32_66
  let c512_i32_3984 : BitVec 32 := 512#32
  let v5384 : BitVec 32 := Scalar.muli v361 c512_i32_3984
  let c496_i32 : BitVec 32 := 496#32
  let v5385 : BitVec 32 := Scalar.addi v5384 c496_i32
  let v5386 : Index := Scalar.indexCast v5385
  ![v5386.toNat]

def k0_chk993 (v5387 : IVec S16 32) : Prop :=
  (∀ a x, ((![v5387] : Fin 1 → IVec S16 32) a x).toNat < S4096.size a)
theorem k0_idx993_inb : ∀ (v5387 : IVec S16 32) (k0_hw993 : k0_chk993 v5387), ∀ a x, ((![v5387] : Fin 1 → IVec S16 32) a x).toNat < S4096.size a := fun v5387 k0_hw993 => k0_hw993

def k0_chk994 (v5404 : IVec S16 32) : Prop :=
  (∀ a x, ((![v5404] : Fin 1 → IVec S16 32) a x).toNat < S4096.size a)
theorem k0_idx994_inb : ∀ (v5404 : IVec S16 32) (k0_hw994 : k0_chk994 v5404), ∀ a x, ((![v5404] : Fin 1 → IVec S16 32) a x).toNat < S4096.size a := fun v5404 k0_hw994 => k0_hw994

def k0_chk995 (v5409 : IVec S16 32) : Prop :=
  (∀ a x, ((![v5409] : Fin 1 → IVec S16 32) a x).toNat < S4096.size a)
theorem k0_idx995_inb : ∀ (v5409 : IVec S16 32) (k0_hw995 : k0_chk995 v5409), ∀ a x, ((![v5409] : Fin 1 → IVec S16 32) a x).toNat < S4096.size a := fun v5409 k0_hw995 => k0_hw995

def k0_chk996 (v5414 : IVec S16 32) : Prop :=
  (∀ a x, ((![v5414] : Fin 1 → IVec S16 32) a x).toNat < S4096.size a)
theorem k0_idx996_inb : ∀ (v5414 : IVec S16 32) (k0_hw996 : k0_chk996 v5414), ∀ a x, ((![v5414] : Fin 1 → IVec S16 32) a x).toNat < S4096.size a := fun v5414 k0_hw996 => k0_hw996

def k0_chk997 (v5419 : IVec S16 32) : Prop :=
  (∀ a x, ((![v5419] : Fin 1 → IVec S16 32) a x).toNat < S4096.size a)
theorem k0_idx997_inb : ∀ (v5419 : IVec S16 32) (k0_hw997 : k0_chk997 v5419), ∀ a x, ((![v5419] : Fin 1 → IVec S16 32) a x).toNat < S4096.size a := fun v5419 k0_hw997 => k0_hw997

def k0_chk998 (v5424 : IVec S16 32) : Prop :=
  (∀ a x, ((![v5424] : Fin 1 → IVec S16 32) a x).toNat < S4096.size a)
theorem k0_idx998_inb : ∀ (v5424 : IVec S16 32) (k0_hw998 : k0_chk998 v5424), ∀ a x, ((![v5424] : Fin 1 → IVec S16 32) a x).toNat < S4096.size a := fun v5424 k0_hw998 => k0_hw998

def k0_chk999 (v5429 : IVec S16 32) : Prop :=
  (∀ a x, ((![v5429] : Fin 1 → IVec S16 32) a x).toNat < S4096.size a)
theorem k0_idx999_inb : ∀ (v5429 : IVec S16 32) (k0_hw999 : k0_chk999 v5429), ∀ a x, ((![v5429] : Fin 1 → IVec S16 32) a x).toNat < S4096.size a := fun v5429 k0_hw999 => k0_hw999

def k0_chk1000 (v5434 : IVec S16 32) : Prop :=
  (∀ a x, ((![v5434] : Fin 1 → IVec S16 32) a x).toNat < S4096.size a)
theorem k0_idx1000_inb : ∀ (v5434 : IVec S16 32) (k0_hw1000 : k0_chk1000 v5434), ∀ a x, ((![v5434] : Fin 1 → IVec S16 32) a x).toNat < S4096.size a := fun v5434 k0_hw1000 => k0_hw1000

def k0_chk1001 (v5439 : IVec S16 32) : Prop :=
  (∀ a x, ((![v5439] : Fin 1 → IVec S16 32) a x).toNat < S4096.size a)
theorem k0_idx1001_inb : ∀ (v5439 : IVec S16 32) (k0_hw1001 : k0_chk1001 v5439), ∀ a x, ((![v5439] : Fin 1 → IVec S16 32) a x).toNat < S4096.size a := fun v5439 k0_hw1001 => k0_hw1001

def k0_chk1002 (v5444 : IVec S16 32) : Prop :=
  (∀ a x, ((![v5444] : Fin 1 → IVec S16 32) a x).toNat < S4096.size a)
theorem k0_idx1002_inb : ∀ (v5444 : IVec S16 32) (k0_hw1002 : k0_chk1002 v5444), ∀ a x, ((![v5444] : Fin 1 → IVec S16 32) a x).toNat < S4096.size a := fun v5444 k0_hw1002 => k0_hw1002

def k0_chk1003 (v5449 : IVec S16 32) : Prop :=
  (∀ a x, ((![v5449] : Fin 1 → IVec S16 32) a x).toNat < S4096.size a)
theorem k0_idx1003_inb : ∀ (v5449 : IVec S16 32) (k0_hw1003 : k0_chk1003 v5449), ∀ a x, ((![v5449] : Fin 1 → IVec S16 32) a x).toNat < S4096.size a := fun v5449 k0_hw1003 => k0_hw1003

def k0_chk1004 (v5454 : IVec S16 32) : Prop :=
  (∀ a x, ((![v5454] : Fin 1 → IVec S16 32) a x).toNat < S4096.size a)
theorem k0_idx1004_inb : ∀ (v5454 : IVec S16 32) (k0_hw1004 : k0_chk1004 v5454), ∀ a x, ((![v5454] : Fin 1 → IVec S16 32) a x).toNat < S4096.size a := fun v5454 k0_hw1004 => k0_hw1004

def k0_chk1005 (v5459 : IVec S16 32) : Prop :=
  (∀ a x, ((![v5459] : Fin 1 → IVec S16 32) a x).toNat < S4096.size a)
theorem k0_idx1005_inb : ∀ (v5459 : IVec S16 32) (k0_hw1005 : k0_chk1005 v5459), ∀ a x, ((![v5459] : Fin 1 → IVec S16 32) a x).toNat < S4096.size a := fun v5459 k0_hw1005 => k0_hw1005

def k0_chk1006 (v5464 : IVec S16 32) : Prop :=
  (∀ a x, ((![v5464] : Fin 1 → IVec S16 32) a x).toNat < S4096.size a)
theorem k0_idx1006_inb : ∀ (v5464 : IVec S16 32) (k0_hw1006 : k0_chk1006 v5464), ∀ a x, ((![v5464] : Fin 1 → IVec S16 32) a x).toNat < S4096.size a := fun v5464 k0_hw1006 => k0_hw1006

def k0_chk1007 (v5469 : IVec S16 32) : Prop :=
  (∀ a x, ((![v5469] : Fin 1 → IVec S16 32) a x).toNat < S4096.size a)
theorem k0_idx1007_inb : ∀ (v5469 : IVec S16 32) (k0_hw1007 : k0_chk1007 v5469), ∀ a x, ((![v5469] : Fin 1 → IVec S16 32) a x).toNat < S4096.size a := fun v5469 k0_hw1007 => k0_hw1007

def k0_chk1008 (v5474 : IVec S16 32) : Prop :=
  (∀ a x, ((![v5474] : Fin 1 → IVec S16 32) a x).toNat < S4096.size a)
theorem k0_idx1008_inb : ∀ (v5474 : IVec S16 32) (k0_hw1008 : k0_chk1008 v5474), ∀ a x, ((![v5474] : Fin 1 → IVec S16 32) a x).toNat < S4096.size a := fun v5474 k0_hw1008 => k0_hw1008

def k0_chk1009 (v5479 : IVec S16 32) : Prop :=
  (∀ a x, ((![v5479] : Fin 1 → IVec S16 32) a x).toNat < S4096.size a)
theorem k0_idx1009_inb : ∀ (v5479 : IVec S16 32) (k0_hw1009 : k0_chk1009 v5479), ∀ a x, ((![v5479] : Fin 1 → IVec S16 32) a x).toNat < S4096.size a := fun v5479 k0_hw1009 => k0_hw1009

def k0_chk1010 (v5484 : IVec S16 32) : Prop :=
  (∀ a x, ((![v5484] : Fin 1 → IVec S16 32) a x).toNat < S4096.size a)
theorem k0_idx1010_inb : ∀ (v5484 : IVec S16 32) (k0_hw1010 : k0_chk1010 v5484), ∀ a x, ((![v5484] : Fin 1 → IVec S16 32) a x).toNat < S4096.size a := fun v5484 k0_hw1010 => k0_hw1010

def k0_chk1011 (v5489 : IVec S16 32) : Prop :=
  (∀ a x, ((![v5489] : Fin 1 → IVec S16 32) a x).toNat < S4096.size a)
theorem k0_idx1011_inb : ∀ (v5489 : IVec S16 32) (k0_hw1011 : k0_chk1011 v5489), ∀ a x, ((![v5489] : Fin 1 → IVec S16 32) a x).toNat < S4096.size a := fun v5489 k0_hw1011 => k0_hw1011

def k0_chk1012 (v5494 : IVec S16 32) : Prop :=
  (∀ a x, ((![v5494] : Fin 1 → IVec S16 32) a x).toNat < S4096.size a)
theorem k0_idx1012_inb : ∀ (v5494 : IVec S16 32) (k0_hw1012 : k0_chk1012 v5494), ∀ a x, ((![v5494] : Fin 1 → IVec S16 32) a x).toNat < S4096.size a := fun v5494 k0_hw1012 => k0_hw1012

def k0_chk1013 (v5499 : IVec S16 32) : Prop :=
  (∀ a x, ((![v5499] : Fin 1 → IVec S16 32) a x).toNat < S4096.size a)
theorem k0_idx1013_inb : ∀ (v5499 : IVec S16 32) (k0_hw1013 : k0_chk1013 v5499), ∀ a x, ((![v5499] : Fin 1 → IVec S16 32) a x).toNat < S4096.size a := fun v5499 k0_hw1013 => k0_hw1013

def k0_chk1014 (v5504 : IVec S16 32) : Prop :=
  (∀ a x, ((![v5504] : Fin 1 → IVec S16 32) a x).toNat < S4096.size a)
theorem k0_idx1014_inb : ∀ (v5504 : IVec S16 32) (k0_hw1014 : k0_chk1014 v5504), ∀ a x, ((![v5504] : Fin 1 → IVec S16 32) a x).toNat < S4096.size a := fun v5504 k0_hw1014 => k0_hw1014

def k0_chk1015 (v5509 : IVec S16 32) : Prop :=
  (∀ a x, ((![v5509] : Fin 1 → IVec S16 32) a x).toNat < S4096.size a)
theorem k0_idx1015_inb : ∀ (v5509 : IVec S16 32) (k0_hw1015 : k0_chk1015 v5509), ∀ a x, ((![v5509] : Fin 1 → IVec S16 32) a x).toNat < S4096.size a := fun v5509 k0_hw1015 => k0_hw1015

def k0_chk1016 (v5514 : IVec S16 32) : Prop :=
  (∀ a x, ((![v5514] : Fin 1 → IVec S16 32) a x).toNat < S4096.size a)
theorem k0_idx1016_inb : ∀ (v5514 : IVec S16 32) (k0_hw1016 : k0_chk1016 v5514), ∀ a x, ((![v5514] : Fin 1 → IVec S16 32) a x).toNat < S4096.size a := fun v5514 k0_hw1016 => k0_hw1016

def k0_chk1017 (v5519 : IVec S16 32) : Prop :=
  (∀ a x, ((![v5519] : Fin 1 → IVec S16 32) a x).toNat < S4096.size a)
theorem k0_idx1017_inb : ∀ (v5519 : IVec S16 32) (k0_hw1017 : k0_chk1017 v5519), ∀ a x, ((![v5519] : Fin 1 → IVec S16 32) a x).toNat < S4096.size a := fun v5519 k0_hw1017 => k0_hw1017

def k0_chk1018 (v5524 : IVec S16 32) : Prop :=
  (∀ a x, ((![v5524] : Fin 1 → IVec S16 32) a x).toNat < S4096.size a)
theorem k0_idx1018_inb : ∀ (v5524 : IVec S16 32) (k0_hw1018 : k0_chk1018 v5524), ∀ a x, ((![v5524] : Fin 1 → IVec S16 32) a x).toNat < S4096.size a := fun v5524 k0_hw1018 => k0_hw1018

def k0_chk1019 (v5529 : IVec S16 32) : Prop :=
  (∀ a x, ((![v5529] : Fin 1 → IVec S16 32) a x).toNat < S4096.size a)
theorem k0_idx1019_inb : ∀ (v5529 : IVec S16 32) (k0_hw1019 : k0_chk1019 v5529), ∀ a x, ((![v5529] : Fin 1 → IVec S16 32) a x).toNat < S4096.size a := fun v5529 k0_hw1019 => k0_hw1019

def k0_chk1020 (v5534 : IVec S16 32) : Prop :=
  (∀ a x, ((![v5534] : Fin 1 → IVec S16 32) a x).toNat < S4096.size a)
theorem k0_idx1020_inb : ∀ (v5534 : IVec S16 32) (k0_hw1020 : k0_chk1020 v5534), ∀ a x, ((![v5534] : Fin 1 → IVec S16 32) a x).toNat < S4096.size a := fun v5534 k0_hw1020 => k0_hw1020

def k0_chk1021 (v5539 : IVec S16 32) : Prop :=
  (∀ a x, ((![v5539] : Fin 1 → IVec S16 32) a x).toNat < S4096.size a)
theorem k0_idx1021_inb : ∀ (v5539 : IVec S16 32) (k0_hw1021 : k0_chk1021 v5539), ∀ a x, ((![v5539] : Fin 1 → IVec S16 32) a x).toNat < S4096.size a := fun v5539 k0_hw1021 => k0_hw1021

def k0_chk1022 (v5541 : IVec S16 32) : Prop :=
  (∀ a x, ((![v5541] : Fin 1 → IVec S16 32) a x).toNat < S4096.size a)
theorem k0_idx1022_inb : ∀ (v5541 : IVec S16 32) (k0_hw1022 : k0_chk1022 v5541), ∀ a x, ((![v5541] : Fin 1 → IVec S16 32) a x).toNat < S4096.size a := fun v5541 k0_hw1022 => k0_hw1022

def k0_chk1023 (v5543 : IVec S16 32) : Prop :=
  (∀ a x, ((![v5543] : Fin 1 → IVec S16 32) a x).toNat < S4096.size a)
theorem k0_idx1023_inb : ∀ (v5543 : IVec S16 32) (k0_hw1023 : k0_chk1023 v5543), ∀ a x, ((![v5543] : Fin 1 → IVec S16 32) a x).toNat < S4096.size a := fun v5543 k0_hw1023 => k0_hw1023

def k0_chk1024 (v5545 : IVec S16 32) : Prop :=
  (∀ a x, ((![v5545] : Fin 1 → IVec S16 32) a x).toNat < S4096.size a)
theorem k0_idx1024_inb : ∀ (v5545 : IVec S16 32) (k0_hw1024 : k0_chk1024 v5545), ∀ a x, ((![v5545] : Fin 1 → IVec S16 32) a x).toNat < S4096.size a := fun v5545 k0_hw1024 => k0_hw1024
def k0_cond1 (k0_t1 : Fin k0_t1_loop.trips) : BitVec 1 :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_4112 : BitVec 32 := 0#32
  let v5546 : BitVec 32 := Scalar.addi v337 c0_i32_4112
  let c2_i32_4113 : BitVec 32 := 2#32
  let v5547 : BitVec 32 := Scalar.addi v5546 c2_i32_4113
  let c20_i32_4114 : BitVec 32 := 20#32
  let v5548 : BitVec 1 := Scalar.cmpi .slt v5547 c20_i32_4114
  let v5549 : BitVec 32 := Scalar.extui v5548
  let c0_i32_4115 : BitVec 32 := 0#32
  let v5550 : BitVec 1 := Scalar.cmpi .ne v5549 c0_i32_4115
  v5550

def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_8267 : BitVec 32 := 1#32
  let v10766 : BitVec 32 := Scalar.muli v1 c1_i32_8267
  let c0_i32_0 : BitVec 32 := 0#32
  let v10767 : BitVec 32 := Scalar.addi v10766 c0_i32_0
  let c8_i32_8268 : BitVec 32 := 8#32
  let c0_i32_8269 : BitVec 32 := 0#32
  let v10768 : BitVec 1 := Scalar.cmpi .eq c8_i32_8268 c0_i32_8269
  let c1_i32_8270 : BitVec 32 := 1#32
  let v10769 : BitVec 32 := Scalar.select v10768 c1_i32_8270 c8_i32_8268
  let v10770 : BitVec 32 := Scalar.remsi v10767 v10769
  let c0_i32_8272 : BitVec 32 := 0#32
  let v10772 : BitVec 1 := Scalar.cmpi .slt v10770 c0_i32_8272
  let c0_i32_8273 : BitVec 32 := 0#32
  let v10773 : BitVec 1 := Scalar.cmpi .slt v10769 c0_i32_8273
  let v10774 : BitVec 1 := Scalar.xori v10772 v10773
  let c0_i32_8271 : BitVec 32 := 0#32
  let v10771 : BitVec 1 := Scalar.cmpi .ne v10770 c0_i32_8271
  let v10775 : BitVec 1 := Scalar.andi v10774 v10771
  let v10776 : BitVec 32 := Scalar.addi v10770 v10769
  let v10777 : BitVec 32 := Scalar.select v10775 v10776 v10770
  let c32_i32_8274 : BitVec 32 := 32#32
  let v10778 : BitVec 32 := Scalar.muli v10777 c32_i32_8274
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c0_i32_8265 : BitVec 32 := 0#32
  let v10764 : BitVec 32 := Scalar.addi v337 c0_i32_8265
  let c2_i32_8266 : BitVec 32 := 2#32
  let v10765 : BitVec 32 := Scalar.addi v10764 c2_i32_8266
  let c512_i32_8275 : BitVec 32 := 512#32
  let v10779 : BitVec 32 := Scalar.muli v10765 c512_i32_8275
  ![v10778.toNat, v10779.toNat]
def k0_off38 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4117 : BitVec 32 := 1#32
  let v5552 : BitVec 32 := Scalar.muli v1 c1_i32_4117
  let c0_i32_0 : BitVec 32 := 0#32
  let v5553 : BitVec 32 := Scalar.addi v5552 c0_i32_0
  let c8_i32_4118 : BitVec 32 := 8#32
  let c0_i32_4119 : BitVec 32 := 0#32
  let v5554 : BitVec 1 := Scalar.cmpi .eq c8_i32_4118 c0_i32_4119
  let c1_i32_4120 : BitVec 32 := 1#32
  let v5555 : BitVec 32 := Scalar.select v5554 c1_i32_4120 c8_i32_4118
  let v5556 : BitVec 32 := Scalar.remsi v5553 v5555
  let c0_i32_4122 : BitVec 32 := 0#32
  let v5558 : BitVec 1 := Scalar.cmpi .slt v5556 c0_i32_4122
  let c0_i32_4123 : BitVec 32 := 0#32
  let v5559 : BitVec 1 := Scalar.cmpi .slt v5555 c0_i32_4123
  let v5560 : BitVec 1 := Scalar.xori v5558 v5559
  let c0_i32_4121 : BitVec 32 := 0#32
  let v5557 : BitVec 1 := Scalar.cmpi .ne v5556 c0_i32_4121
  let v5561 : BitVec 1 := Scalar.andi v5560 v5557
  let v5562 : BitVec 32 := Scalar.addi v5556 v5555
  let v5563 : BitVec 32 := Scalar.select v5561 v5562 v5556
  let c32_i32_4124 : BitVec 32 := 32#32
  let v5564 : BitVec 32 := Scalar.muli v5563 c32_i32_4124
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4116 : BitVec 32 := 1#32
  let v5551 : BitVec 32 := Scalar.addi v337 c1_i32_4116
  let c512_i32_4125 : BitVec 32 := 512#32
  let v5565 : BitVec 32 := Scalar.muli v5551 c512_i32_4125
  ![v5564.toNat, v5565.toNat]
def k0_off39 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4133 : BitVec 32 := 512#32
  let v5575 : BitVec 32 := Scalar.muli v5574 c512_i32_4133
  let c0_i32_4134 : BitVec 32 := 0#32
  let v5576 : BitVec 32 := Scalar.addi v5575 c0_i32_4134
  let v5577 : Index := Scalar.indexCast v5576
  ![v5577.toNat]

def k0_chk1025 (v5578 : IVec S16 32) : Prop :=
  (∀ a x, ((![v5578] : Fin 1 → IVec S16 32) a x).toNat < S4096.size a)
theorem k0_idx1025_inb : ∀ (v5578 : IVec S16 32) (k0_hw1025 : k0_chk1025 v5578), ∀ a x, ((![v5578] : Fin 1 → IVec S16 32) a x).toNat < S4096.size a := fun v5578 k0_hw1025 => k0_hw1025

def k0_chk1026 (v5595 : IVec S16 32) : Prop :=
  (∀ a x, ((![v5595] : Fin 1 → IVec S16 32) a x).toNat < S4096.size a)
theorem k0_idx1026_inb : ∀ (v5595 : IVec S16 32) (k0_hw1026 : k0_chk1026 v5595), ∀ a x, ((![v5595] : Fin 1 → IVec S16 32) a x).toNat < S4096.size a := fun v5595 k0_hw1026 => k0_hw1026

def k0_chk1027 (v5600 : IVec S16 32) : Prop :=
  (∀ a x, ((![v5600] : Fin 1 → IVec S16 32) a x).toNat < S4096.size a)
theorem k0_idx1027_inb : ∀ (v5600 : IVec S16 32) (k0_hw1027 : k0_chk1027 v5600), ∀ a x, ((![v5600] : Fin 1 → IVec S16 32) a x).toNat < S4096.size a := fun v5600 k0_hw1027 => k0_hw1027

def k0_chk1028 (v5605 : IVec S16 32) : Prop :=
  (∀ a x, ((![v5605] : Fin 1 → IVec S16 32) a x).toNat < S4096.size a)
theorem k0_idx1028_inb : ∀ (v5605 : IVec S16 32) (k0_hw1028 : k0_chk1028 v5605), ∀ a x, ((![v5605] : Fin 1 → IVec S16 32) a x).toNat < S4096.size a := fun v5605 k0_hw1028 => k0_hw1028

def k0_chk1029 (v5610 : IVec S16 32) : Prop :=
  (∀ a x, ((![v5610] : Fin 1 → IVec S16 32) a x).toNat < S4096.size a)
theorem k0_idx1029_inb : ∀ (v5610 : IVec S16 32) (k0_hw1029 : k0_chk1029 v5610), ∀ a x, ((![v5610] : Fin 1 → IVec S16 32) a x).toNat < S4096.size a := fun v5610 k0_hw1029 => k0_hw1029

def k0_chk1030 (v5615 : IVec S16 32) : Prop :=
  (∀ a x, ((![v5615] : Fin 1 → IVec S16 32) a x).toNat < S4096.size a)
theorem k0_idx1030_inb : ∀ (v5615 : IVec S16 32) (k0_hw1030 : k0_chk1030 v5615), ∀ a x, ((![v5615] : Fin 1 → IVec S16 32) a x).toNat < S4096.size a := fun v5615 k0_hw1030 => k0_hw1030

def k0_chk1031 (v5620 : IVec S16 32) : Prop :=
  (∀ a x, ((![v5620] : Fin 1 → IVec S16 32) a x).toNat < S4096.size a)
theorem k0_idx1031_inb : ∀ (v5620 : IVec S16 32) (k0_hw1031 : k0_chk1031 v5620), ∀ a x, ((![v5620] : Fin 1 → IVec S16 32) a x).toNat < S4096.size a := fun v5620 k0_hw1031 => k0_hw1031

def k0_chk1032 (v5625 : IVec S16 32) : Prop :=
  (∀ a x, ((![v5625] : Fin 1 → IVec S16 32) a x).toNat < S4096.size a)
theorem k0_idx1032_inb : ∀ (v5625 : IVec S16 32) (k0_hw1032 : k0_chk1032 v5625), ∀ a x, ((![v5625] : Fin 1 → IVec S16 32) a x).toNat < S4096.size a := fun v5625 k0_hw1032 => k0_hw1032

def k0_chk1033 (v5630 : IVec S16 32) : Prop :=
  (∀ a x, ((![v5630] : Fin 1 → IVec S16 32) a x).toNat < S4096.size a)
theorem k0_idx1033_inb : ∀ (v5630 : IVec S16 32) (k0_hw1033 : k0_chk1033 v5630), ∀ a x, ((![v5630] : Fin 1 → IVec S16 32) a x).toNat < S4096.size a := fun v5630 k0_hw1033 => k0_hw1033

def k0_chk1034 (v5635 : IVec S16 32) : Prop :=
  (∀ a x, ((![v5635] : Fin 1 → IVec S16 32) a x).toNat < S4096.size a)
theorem k0_idx1034_inb : ∀ (v5635 : IVec S16 32) (k0_hw1034 : k0_chk1034 v5635), ∀ a x, ((![v5635] : Fin 1 → IVec S16 32) a x).toNat < S4096.size a := fun v5635 k0_hw1034 => k0_hw1034

def k0_chk1035 (v5640 : IVec S16 32) : Prop :=
  (∀ a x, ((![v5640] : Fin 1 → IVec S16 32) a x).toNat < S4096.size a)
theorem k0_idx1035_inb : ∀ (v5640 : IVec S16 32) (k0_hw1035 : k0_chk1035 v5640), ∀ a x, ((![v5640] : Fin 1 → IVec S16 32) a x).toNat < S4096.size a := fun v5640 k0_hw1035 => k0_hw1035

def k0_chk1036 (v5645 : IVec S16 32) : Prop :=
  (∀ a x, ((![v5645] : Fin 1 → IVec S16 32) a x).toNat < S4096.size a)
theorem k0_idx1036_inb : ∀ (v5645 : IVec S16 32) (k0_hw1036 : k0_chk1036 v5645), ∀ a x, ((![v5645] : Fin 1 → IVec S16 32) a x).toNat < S4096.size a := fun v5645 k0_hw1036 => k0_hw1036

def k0_chk1037 (v5650 : IVec S16 32) : Prop :=
  (∀ a x, ((![v5650] : Fin 1 → IVec S16 32) a x).toNat < S4096.size a)
theorem k0_idx1037_inb : ∀ (v5650 : IVec S16 32) (k0_hw1037 : k0_chk1037 v5650), ∀ a x, ((![v5650] : Fin 1 → IVec S16 32) a x).toNat < S4096.size a := fun v5650 k0_hw1037 => k0_hw1037

def k0_chk1038 (v5655 : IVec S16 32) : Prop :=
  (∀ a x, ((![v5655] : Fin 1 → IVec S16 32) a x).toNat < S4096.size a)
theorem k0_idx1038_inb : ∀ (v5655 : IVec S16 32) (k0_hw1038 : k0_chk1038 v5655), ∀ a x, ((![v5655] : Fin 1 → IVec S16 32) a x).toNat < S4096.size a := fun v5655 k0_hw1038 => k0_hw1038

def k0_chk1039 (v5660 : IVec S16 32) : Prop :=
  (∀ a x, ((![v5660] : Fin 1 → IVec S16 32) a x).toNat < S4096.size a)
theorem k0_idx1039_inb : ∀ (v5660 : IVec S16 32) (k0_hw1039 : k0_chk1039 v5660), ∀ a x, ((![v5660] : Fin 1 → IVec S16 32) a x).toNat < S4096.size a := fun v5660 k0_hw1039 => k0_hw1039

def k0_chk1040 (v5665 : IVec S16 32) : Prop :=
  (∀ a x, ((![v5665] : Fin 1 → IVec S16 32) a x).toNat < S4096.size a)
theorem k0_idx1040_inb : ∀ (v5665 : IVec S16 32) (k0_hw1040 : k0_chk1040 v5665), ∀ a x, ((![v5665] : Fin 1 → IVec S16 32) a x).toNat < S4096.size a := fun v5665 k0_hw1040 => k0_hw1040

def k0_chk1041 (v5670 : IVec S16 32) : Prop :=
  (∀ a x, ((![v5670] : Fin 1 → IVec S16 32) a x).toNat < S4096.size a)
theorem k0_idx1041_inb : ∀ (v5670 : IVec S16 32) (k0_hw1041 : k0_chk1041 v5670), ∀ a x, ((![v5670] : Fin 1 → IVec S16 32) a x).toNat < S4096.size a := fun v5670 k0_hw1041 => k0_hw1041

def k0_chk1042 (v5675 : IVec S16 32) : Prop :=
  (∀ a x, ((![v5675] : Fin 1 → IVec S16 32) a x).toNat < S4096.size a)
theorem k0_idx1042_inb : ∀ (v5675 : IVec S16 32) (k0_hw1042 : k0_chk1042 v5675), ∀ a x, ((![v5675] : Fin 1 → IVec S16 32) a x).toNat < S4096.size a := fun v5675 k0_hw1042 => k0_hw1042

def k0_chk1043 (v5680 : IVec S16 32) : Prop :=
  (∀ a x, ((![v5680] : Fin 1 → IVec S16 32) a x).toNat < S4096.size a)
theorem k0_idx1043_inb : ∀ (v5680 : IVec S16 32) (k0_hw1043 : k0_chk1043 v5680), ∀ a x, ((![v5680] : Fin 1 → IVec S16 32) a x).toNat < S4096.size a := fun v5680 k0_hw1043 => k0_hw1043

def k0_chk1044 (v5685 : IVec S16 32) : Prop :=
  (∀ a x, ((![v5685] : Fin 1 → IVec S16 32) a x).toNat < S4096.size a)
theorem k0_idx1044_inb : ∀ (v5685 : IVec S16 32) (k0_hw1044 : k0_chk1044 v5685), ∀ a x, ((![v5685] : Fin 1 → IVec S16 32) a x).toNat < S4096.size a := fun v5685 k0_hw1044 => k0_hw1044

def k0_chk1045 (v5690 : IVec S16 32) : Prop :=
  (∀ a x, ((![v5690] : Fin 1 → IVec S16 32) a x).toNat < S4096.size a)
theorem k0_idx1045_inb : ∀ (v5690 : IVec S16 32) (k0_hw1045 : k0_chk1045 v5690), ∀ a x, ((![v5690] : Fin 1 → IVec S16 32) a x).toNat < S4096.size a := fun v5690 k0_hw1045 => k0_hw1045

def k0_chk1046 (v5695 : IVec S16 32) : Prop :=
  (∀ a x, ((![v5695] : Fin 1 → IVec S16 32) a x).toNat < S4096.size a)
theorem k0_idx1046_inb : ∀ (v5695 : IVec S16 32) (k0_hw1046 : k0_chk1046 v5695), ∀ a x, ((![v5695] : Fin 1 → IVec S16 32) a x).toNat < S4096.size a := fun v5695 k0_hw1046 => k0_hw1046

def k0_chk1047 (v5700 : IVec S16 32) : Prop :=
  (∀ a x, ((![v5700] : Fin 1 → IVec S16 32) a x).toNat < S4096.size a)
theorem k0_idx1047_inb : ∀ (v5700 : IVec S16 32) (k0_hw1047 : k0_chk1047 v5700), ∀ a x, ((![v5700] : Fin 1 → IVec S16 32) a x).toNat < S4096.size a := fun v5700 k0_hw1047 => k0_hw1047

def k0_chk1048 (v5705 : IVec S16 32) : Prop :=
  (∀ a x, ((![v5705] : Fin 1 → IVec S16 32) a x).toNat < S4096.size a)
theorem k0_idx1048_inb : ∀ (v5705 : IVec S16 32) (k0_hw1048 : k0_chk1048 v5705), ∀ a x, ((![v5705] : Fin 1 → IVec S16 32) a x).toNat < S4096.size a := fun v5705 k0_hw1048 => k0_hw1048

def k0_chk1049 (v5710 : IVec S16 32) : Prop :=
  (∀ a x, ((![v5710] : Fin 1 → IVec S16 32) a x).toNat < S4096.size a)
theorem k0_idx1049_inb : ∀ (v5710 : IVec S16 32) (k0_hw1049 : k0_chk1049 v5710), ∀ a x, ((![v5710] : Fin 1 → IVec S16 32) a x).toNat < S4096.size a := fun v5710 k0_hw1049 => k0_hw1049

def k0_chk1050 (v5715 : IVec S16 32) : Prop :=
  (∀ a x, ((![v5715] : Fin 1 → IVec S16 32) a x).toNat < S4096.size a)
theorem k0_idx1050_inb : ∀ (v5715 : IVec S16 32) (k0_hw1050 : k0_chk1050 v5715), ∀ a x, ((![v5715] : Fin 1 → IVec S16 32) a x).toNat < S4096.size a := fun v5715 k0_hw1050 => k0_hw1050

def k0_chk1051 (v5720 : IVec S16 32) : Prop :=
  (∀ a x, ((![v5720] : Fin 1 → IVec S16 32) a x).toNat < S4096.size a)
theorem k0_idx1051_inb : ∀ (v5720 : IVec S16 32) (k0_hw1051 : k0_chk1051 v5720), ∀ a x, ((![v5720] : Fin 1 → IVec S16 32) a x).toNat < S4096.size a := fun v5720 k0_hw1051 => k0_hw1051

def k0_chk1052 (v5725 : IVec S16 32) : Prop :=
  (∀ a x, ((![v5725] : Fin 1 → IVec S16 32) a x).toNat < S4096.size a)
theorem k0_idx1052_inb : ∀ (v5725 : IVec S16 32) (k0_hw1052 : k0_chk1052 v5725), ∀ a x, ((![v5725] : Fin 1 → IVec S16 32) a x).toNat < S4096.size a := fun v5725 k0_hw1052 => k0_hw1052

def k0_chk1053 (v5730 : IVec S16 32) : Prop :=
  (∀ a x, ((![v5730] : Fin 1 → IVec S16 32) a x).toNat < S4096.size a)
theorem k0_idx1053_inb : ∀ (v5730 : IVec S16 32) (k0_hw1053 : k0_chk1053 v5730), ∀ a x, ((![v5730] : Fin 1 → IVec S16 32) a x).toNat < S4096.size a := fun v5730 k0_hw1053 => k0_hw1053

def k0_chk1054 (v5732 : IVec S16 32) : Prop :=
  (∀ a x, ((![v5732] : Fin 1 → IVec S16 32) a x).toNat < S4096.size a)
theorem k0_idx1054_inb : ∀ (v5732 : IVec S16 32) (k0_hw1054 : k0_chk1054 v5732), ∀ a x, ((![v5732] : Fin 1 → IVec S16 32) a x).toNat < S4096.size a := fun v5732 k0_hw1054 => k0_hw1054

def k0_chk1055 (v5734 : IVec S16 32) : Prop :=
  (∀ a x, ((![v5734] : Fin 1 → IVec S16 32) a x).toNat < S4096.size a)
theorem k0_idx1055_inb : ∀ (v5734 : IVec S16 32) (k0_hw1055 : k0_chk1055 v5734), ∀ a x, ((![v5734] : Fin 1 → IVec S16 32) a x).toNat < S4096.size a := fun v5734 k0_hw1055 => k0_hw1055

def k0_chk1056 (v5736 : IVec S16 32) : Prop :=
  (∀ a x, ((![v5736] : Fin 1 → IVec S16 32) a x).toNat < S4096.size a)
theorem k0_idx1056_inb : ∀ (v5736 : IVec S16 32) (k0_hw1056 : k0_chk1056 v5736), ∀ a x, ((![v5736] : Fin 1 → IVec S16 32) a x).toNat < S4096.size a := fun v5736 k0_hw1056 => k0_hw1056
def k0_off40 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4262 : BitVec 32 := 512#32
  let v5737 : BitVec 32 := Scalar.muli v5574 c512_i32_4262
  let c16_i32_4263 : BitVec 32 := 16#32
  let v5738 : BitVec 32 := Scalar.addi v5737 c16_i32_4263
  let v5739 : Index := Scalar.indexCast v5738
  ![v5739.toNat]

def k0_chk1057 (v5740 : IVec S16 32) : Prop :=
  (∀ a x, ((![v5740] : Fin 1 → IVec S16 32) a x).toNat < S4096.size a)
theorem k0_idx1057_inb : ∀ (v5740 : IVec S16 32) (k0_hw1057 : k0_chk1057 v5740), ∀ a x, ((![v5740] : Fin 1 → IVec S16 32) a x).toNat < S4096.size a := fun v5740 k0_hw1057 => k0_hw1057

def k0_chk1058 (v5757 : IVec S16 32) : Prop :=
  (∀ a x, ((![v5757] : Fin 1 → IVec S16 32) a x).toNat < S4096.size a)
theorem k0_idx1058_inb : ∀ (v5757 : IVec S16 32) (k0_hw1058 : k0_chk1058 v5757), ∀ a x, ((![v5757] : Fin 1 → IVec S16 32) a x).toNat < S4096.size a := fun v5757 k0_hw1058 => k0_hw1058

def k0_chk1059 (v5762 : IVec S16 32) : Prop :=
  (∀ a x, ((![v5762] : Fin 1 → IVec S16 32) a x).toNat < S4096.size a)
theorem k0_idx1059_inb : ∀ (v5762 : IVec S16 32) (k0_hw1059 : k0_chk1059 v5762), ∀ a x, ((![v5762] : Fin 1 → IVec S16 32) a x).toNat < S4096.size a := fun v5762 k0_hw1059 => k0_hw1059

def k0_chk1060 (v5767 : IVec S16 32) : Prop :=
  (∀ a x, ((![v5767] : Fin 1 → IVec S16 32) a x).toNat < S4096.size a)
theorem k0_idx1060_inb : ∀ (v5767 : IVec S16 32) (k0_hw1060 : k0_chk1060 v5767), ∀ a x, ((![v5767] : Fin 1 → IVec S16 32) a x).toNat < S4096.size a := fun v5767 k0_hw1060 => k0_hw1060

def k0_chk1061 (v5772 : IVec S16 32) : Prop :=
  (∀ a x, ((![v5772] : Fin 1 → IVec S16 32) a x).toNat < S4096.size a)
theorem k0_idx1061_inb : ∀ (v5772 : IVec S16 32) (k0_hw1061 : k0_chk1061 v5772), ∀ a x, ((![v5772] : Fin 1 → IVec S16 32) a x).toNat < S4096.size a := fun v5772 k0_hw1061 => k0_hw1061

def k0_chk1062 (v5777 : IVec S16 32) : Prop :=
  (∀ a x, ((![v5777] : Fin 1 → IVec S16 32) a x).toNat < S4096.size a)
theorem k0_idx1062_inb : ∀ (v5777 : IVec S16 32) (k0_hw1062 : k0_chk1062 v5777), ∀ a x, ((![v5777] : Fin 1 → IVec S16 32) a x).toNat < S4096.size a := fun v5777 k0_hw1062 => k0_hw1062

def k0_chk1063 (v5782 : IVec S16 32) : Prop :=
  (∀ a x, ((![v5782] : Fin 1 → IVec S16 32) a x).toNat < S4096.size a)
theorem k0_idx1063_inb : ∀ (v5782 : IVec S16 32) (k0_hw1063 : k0_chk1063 v5782), ∀ a x, ((![v5782] : Fin 1 → IVec S16 32) a x).toNat < S4096.size a := fun v5782 k0_hw1063 => k0_hw1063

def k0_chk1064 (v5787 : IVec S16 32) : Prop :=
  (∀ a x, ((![v5787] : Fin 1 → IVec S16 32) a x).toNat < S4096.size a)
theorem k0_idx1064_inb : ∀ (v5787 : IVec S16 32) (k0_hw1064 : k0_chk1064 v5787), ∀ a x, ((![v5787] : Fin 1 → IVec S16 32) a x).toNat < S4096.size a := fun v5787 k0_hw1064 => k0_hw1064

def k0_chk1065 (v5792 : IVec S16 32) : Prop :=
  (∀ a x, ((![v5792] : Fin 1 → IVec S16 32) a x).toNat < S4096.size a)
theorem k0_idx1065_inb : ∀ (v5792 : IVec S16 32) (k0_hw1065 : k0_chk1065 v5792), ∀ a x, ((![v5792] : Fin 1 → IVec S16 32) a x).toNat < S4096.size a := fun v5792 k0_hw1065 => k0_hw1065

def k0_chk1066 (v5797 : IVec S16 32) : Prop :=
  (∀ a x, ((![v5797] : Fin 1 → IVec S16 32) a x).toNat < S4096.size a)
theorem k0_idx1066_inb : ∀ (v5797 : IVec S16 32) (k0_hw1066 : k0_chk1066 v5797), ∀ a x, ((![v5797] : Fin 1 → IVec S16 32) a x).toNat < S4096.size a := fun v5797 k0_hw1066 => k0_hw1066

def k0_chk1067 (v5802 : IVec S16 32) : Prop :=
  (∀ a x, ((![v5802] : Fin 1 → IVec S16 32) a x).toNat < S4096.size a)
theorem k0_idx1067_inb : ∀ (v5802 : IVec S16 32) (k0_hw1067 : k0_chk1067 v5802), ∀ a x, ((![v5802] : Fin 1 → IVec S16 32) a x).toNat < S4096.size a := fun v5802 k0_hw1067 => k0_hw1067

def k0_chk1068 (v5807 : IVec S16 32) : Prop :=
  (∀ a x, ((![v5807] : Fin 1 → IVec S16 32) a x).toNat < S4096.size a)
theorem k0_idx1068_inb : ∀ (v5807 : IVec S16 32) (k0_hw1068 : k0_chk1068 v5807), ∀ a x, ((![v5807] : Fin 1 → IVec S16 32) a x).toNat < S4096.size a := fun v5807 k0_hw1068 => k0_hw1068

def k0_chk1069 (v5812 : IVec S16 32) : Prop :=
  (∀ a x, ((![v5812] : Fin 1 → IVec S16 32) a x).toNat < S4096.size a)
theorem k0_idx1069_inb : ∀ (v5812 : IVec S16 32) (k0_hw1069 : k0_chk1069 v5812), ∀ a x, ((![v5812] : Fin 1 → IVec S16 32) a x).toNat < S4096.size a := fun v5812 k0_hw1069 => k0_hw1069

def k0_chk1070 (v5817 : IVec S16 32) : Prop :=
  (∀ a x, ((![v5817] : Fin 1 → IVec S16 32) a x).toNat < S4096.size a)
theorem k0_idx1070_inb : ∀ (v5817 : IVec S16 32) (k0_hw1070 : k0_chk1070 v5817), ∀ a x, ((![v5817] : Fin 1 → IVec S16 32) a x).toNat < S4096.size a := fun v5817 k0_hw1070 => k0_hw1070

def k0_chk1071 (v5822 : IVec S16 32) : Prop :=
  (∀ a x, ((![v5822] : Fin 1 → IVec S16 32) a x).toNat < S4096.size a)
theorem k0_idx1071_inb : ∀ (v5822 : IVec S16 32) (k0_hw1071 : k0_chk1071 v5822), ∀ a x, ((![v5822] : Fin 1 → IVec S16 32) a x).toNat < S4096.size a := fun v5822 k0_hw1071 => k0_hw1071

def k0_chk1072 (v5827 : IVec S16 32) : Prop :=
  (∀ a x, ((![v5827] : Fin 1 → IVec S16 32) a x).toNat < S4096.size a)
theorem k0_idx1072_inb : ∀ (v5827 : IVec S16 32) (k0_hw1072 : k0_chk1072 v5827), ∀ a x, ((![v5827] : Fin 1 → IVec S16 32) a x).toNat < S4096.size a := fun v5827 k0_hw1072 => k0_hw1072

def k0_chk1073 (v5832 : IVec S16 32) : Prop :=
  (∀ a x, ((![v5832] : Fin 1 → IVec S16 32) a x).toNat < S4096.size a)
theorem k0_idx1073_inb : ∀ (v5832 : IVec S16 32) (k0_hw1073 : k0_chk1073 v5832), ∀ a x, ((![v5832] : Fin 1 → IVec S16 32) a x).toNat < S4096.size a := fun v5832 k0_hw1073 => k0_hw1073

def k0_chk1074 (v5837 : IVec S16 32) : Prop :=
  (∀ a x, ((![v5837] : Fin 1 → IVec S16 32) a x).toNat < S4096.size a)
theorem k0_idx1074_inb : ∀ (v5837 : IVec S16 32) (k0_hw1074 : k0_chk1074 v5837), ∀ a x, ((![v5837] : Fin 1 → IVec S16 32) a x).toNat < S4096.size a := fun v5837 k0_hw1074 => k0_hw1074

def k0_chk1075 (v5842 : IVec S16 32) : Prop :=
  (∀ a x, ((![v5842] : Fin 1 → IVec S16 32) a x).toNat < S4096.size a)
theorem k0_idx1075_inb : ∀ (v5842 : IVec S16 32) (k0_hw1075 : k0_chk1075 v5842), ∀ a x, ((![v5842] : Fin 1 → IVec S16 32) a x).toNat < S4096.size a := fun v5842 k0_hw1075 => k0_hw1075

def k0_chk1076 (v5847 : IVec S16 32) : Prop :=
  (∀ a x, ((![v5847] : Fin 1 → IVec S16 32) a x).toNat < S4096.size a)
theorem k0_idx1076_inb : ∀ (v5847 : IVec S16 32) (k0_hw1076 : k0_chk1076 v5847), ∀ a x, ((![v5847] : Fin 1 → IVec S16 32) a x).toNat < S4096.size a := fun v5847 k0_hw1076 => k0_hw1076

def k0_chk1077 (v5852 : IVec S16 32) : Prop :=
  (∀ a x, ((![v5852] : Fin 1 → IVec S16 32) a x).toNat < S4096.size a)
theorem k0_idx1077_inb : ∀ (v5852 : IVec S16 32) (k0_hw1077 : k0_chk1077 v5852), ∀ a x, ((![v5852] : Fin 1 → IVec S16 32) a x).toNat < S4096.size a := fun v5852 k0_hw1077 => k0_hw1077

def k0_chk1078 (v5857 : IVec S16 32) : Prop :=
  (∀ a x, ((![v5857] : Fin 1 → IVec S16 32) a x).toNat < S4096.size a)
theorem k0_idx1078_inb : ∀ (v5857 : IVec S16 32) (k0_hw1078 : k0_chk1078 v5857), ∀ a x, ((![v5857] : Fin 1 → IVec S16 32) a x).toNat < S4096.size a := fun v5857 k0_hw1078 => k0_hw1078

def k0_chk1079 (v5862 : IVec S16 32) : Prop :=
  (∀ a x, ((![v5862] : Fin 1 → IVec S16 32) a x).toNat < S4096.size a)
theorem k0_idx1079_inb : ∀ (v5862 : IVec S16 32) (k0_hw1079 : k0_chk1079 v5862), ∀ a x, ((![v5862] : Fin 1 → IVec S16 32) a x).toNat < S4096.size a := fun v5862 k0_hw1079 => k0_hw1079

def k0_chk1080 (v5867 : IVec S16 32) : Prop :=
  (∀ a x, ((![v5867] : Fin 1 → IVec S16 32) a x).toNat < S4096.size a)
theorem k0_idx1080_inb : ∀ (v5867 : IVec S16 32) (k0_hw1080 : k0_chk1080 v5867), ∀ a x, ((![v5867] : Fin 1 → IVec S16 32) a x).toNat < S4096.size a := fun v5867 k0_hw1080 => k0_hw1080

def k0_chk1081 (v5872 : IVec S16 32) : Prop :=
  (∀ a x, ((![v5872] : Fin 1 → IVec S16 32) a x).toNat < S4096.size a)
theorem k0_idx1081_inb : ∀ (v5872 : IVec S16 32) (k0_hw1081 : k0_chk1081 v5872), ∀ a x, ((![v5872] : Fin 1 → IVec S16 32) a x).toNat < S4096.size a := fun v5872 k0_hw1081 => k0_hw1081

def k0_chk1082 (v5877 : IVec S16 32) : Prop :=
  (∀ a x, ((![v5877] : Fin 1 → IVec S16 32) a x).toNat < S4096.size a)
theorem k0_idx1082_inb : ∀ (v5877 : IVec S16 32) (k0_hw1082 : k0_chk1082 v5877), ∀ a x, ((![v5877] : Fin 1 → IVec S16 32) a x).toNat < S4096.size a := fun v5877 k0_hw1082 => k0_hw1082

def k0_chk1083 (v5882 : IVec S16 32) : Prop :=
  (∀ a x, ((![v5882] : Fin 1 → IVec S16 32) a x).toNat < S4096.size a)
theorem k0_idx1083_inb : ∀ (v5882 : IVec S16 32) (k0_hw1083 : k0_chk1083 v5882), ∀ a x, ((![v5882] : Fin 1 → IVec S16 32) a x).toNat < S4096.size a := fun v5882 k0_hw1083 => k0_hw1083

def k0_chk1084 (v5887 : IVec S16 32) : Prop :=
  (∀ a x, ((![v5887] : Fin 1 → IVec S16 32) a x).toNat < S4096.size a)
theorem k0_idx1084_inb : ∀ (v5887 : IVec S16 32) (k0_hw1084 : k0_chk1084 v5887), ∀ a x, ((![v5887] : Fin 1 → IVec S16 32) a x).toNat < S4096.size a := fun v5887 k0_hw1084 => k0_hw1084

def k0_chk1085 (v5892 : IVec S16 32) : Prop :=
  (∀ a x, ((![v5892] : Fin 1 → IVec S16 32) a x).toNat < S4096.size a)
theorem k0_idx1085_inb : ∀ (v5892 : IVec S16 32) (k0_hw1085 : k0_chk1085 v5892), ∀ a x, ((![v5892] : Fin 1 → IVec S16 32) a x).toNat < S4096.size a := fun v5892 k0_hw1085 => k0_hw1085

def k0_chk1086 (v5894 : IVec S16 32) : Prop :=
  (∀ a x, ((![v5894] : Fin 1 → IVec S16 32) a x).toNat < S4096.size a)
theorem k0_idx1086_inb : ∀ (v5894 : IVec S16 32) (k0_hw1086 : k0_chk1086 v5894), ∀ a x, ((![v5894] : Fin 1 → IVec S16 32) a x).toNat < S4096.size a := fun v5894 k0_hw1086 => k0_hw1086

def k0_chk1087 (v5896 : IVec S16 32) : Prop :=
  (∀ a x, ((![v5896] : Fin 1 → IVec S16 32) a x).toNat < S4096.size a)
theorem k0_idx1087_inb : ∀ (v5896 : IVec S16 32) (k0_hw1087 : k0_chk1087 v5896), ∀ a x, ((![v5896] : Fin 1 → IVec S16 32) a x).toNat < S4096.size a := fun v5896 k0_hw1087 => k0_hw1087

def k0_chk1088 (v5898 : IVec S16 32) : Prop :=
  (∀ a x, ((![v5898] : Fin 1 → IVec S16 32) a x).toNat < S4096.size a)
theorem k0_idx1088_inb : ∀ (v5898 : IVec S16 32) (k0_hw1088 : k0_chk1088 v5898), ∀ a x, ((![v5898] : Fin 1 → IVec S16 32) a x).toNat < S4096.size a := fun v5898 k0_hw1088 => k0_hw1088
def k0_off41 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4391 : BitVec 32 := 512#32
  let v5899 : BitVec 32 := Scalar.muli v5574 c512_i32_4391
  let c32_i32_4392 : BitVec 32 := 32#32
  let v5900 : BitVec 32 := Scalar.addi v5899 c32_i32_4392
  let v5901 : Index := Scalar.indexCast v5900
  ![v5901.toNat]

def k0_chk1089 (v5902 : IVec S16 32) : Prop :=
  (∀ a x, ((![v5902] : Fin 1 → IVec S16 32) a x).toNat < S4096.size a)
theorem k0_idx1089_inb : ∀ (v5902 : IVec S16 32) (k0_hw1089 : k0_chk1089 v5902), ∀ a x, ((![v5902] : Fin 1 → IVec S16 32) a x).toNat < S4096.size a := fun v5902 k0_hw1089 => k0_hw1089

def k0_chk1090 (v5919 : IVec S16 32) : Prop :=
  (∀ a x, ((![v5919] : Fin 1 → IVec S16 32) a x).toNat < S4096.size a)
theorem k0_idx1090_inb : ∀ (v5919 : IVec S16 32) (k0_hw1090 : k0_chk1090 v5919), ∀ a x, ((![v5919] : Fin 1 → IVec S16 32) a x).toNat < S4096.size a := fun v5919 k0_hw1090 => k0_hw1090

def k0_chk1091 (v5924 : IVec S16 32) : Prop :=
  (∀ a x, ((![v5924] : Fin 1 → IVec S16 32) a x).toNat < S4096.size a)
theorem k0_idx1091_inb : ∀ (v5924 : IVec S16 32) (k0_hw1091 : k0_chk1091 v5924), ∀ a x, ((![v5924] : Fin 1 → IVec S16 32) a x).toNat < S4096.size a := fun v5924 k0_hw1091 => k0_hw1091

def k0_chk1092 (v5929 : IVec S16 32) : Prop :=
  (∀ a x, ((![v5929] : Fin 1 → IVec S16 32) a x).toNat < S4096.size a)
theorem k0_idx1092_inb : ∀ (v5929 : IVec S16 32) (k0_hw1092 : k0_chk1092 v5929), ∀ a x, ((![v5929] : Fin 1 → IVec S16 32) a x).toNat < S4096.size a := fun v5929 k0_hw1092 => k0_hw1092

def k0_chk1093 (v5934 : IVec S16 32) : Prop :=
  (∀ a x, ((![v5934] : Fin 1 → IVec S16 32) a x).toNat < S4096.size a)
theorem k0_idx1093_inb : ∀ (v5934 : IVec S16 32) (k0_hw1093 : k0_chk1093 v5934), ∀ a x, ((![v5934] : Fin 1 → IVec S16 32) a x).toNat < S4096.size a := fun v5934 k0_hw1093 => k0_hw1093

def k0_chk1094 (v5939 : IVec S16 32) : Prop :=
  (∀ a x, ((![v5939] : Fin 1 → IVec S16 32) a x).toNat < S4096.size a)
theorem k0_idx1094_inb : ∀ (v5939 : IVec S16 32) (k0_hw1094 : k0_chk1094 v5939), ∀ a x, ((![v5939] : Fin 1 → IVec S16 32) a x).toNat < S4096.size a := fun v5939 k0_hw1094 => k0_hw1094

def k0_chk1095 (v5944 : IVec S16 32) : Prop :=
  (∀ a x, ((![v5944] : Fin 1 → IVec S16 32) a x).toNat < S4096.size a)
theorem k0_idx1095_inb : ∀ (v5944 : IVec S16 32) (k0_hw1095 : k0_chk1095 v5944), ∀ a x, ((![v5944] : Fin 1 → IVec S16 32) a x).toNat < S4096.size a := fun v5944 k0_hw1095 => k0_hw1095

def k0_chk1096 (v5949 : IVec S16 32) : Prop :=
  (∀ a x, ((![v5949] : Fin 1 → IVec S16 32) a x).toNat < S4096.size a)
theorem k0_idx1096_inb : ∀ (v5949 : IVec S16 32) (k0_hw1096 : k0_chk1096 v5949), ∀ a x, ((![v5949] : Fin 1 → IVec S16 32) a x).toNat < S4096.size a := fun v5949 k0_hw1096 => k0_hw1096

def k0_chk1097 (v5954 : IVec S16 32) : Prop :=
  (∀ a x, ((![v5954] : Fin 1 → IVec S16 32) a x).toNat < S4096.size a)
theorem k0_idx1097_inb : ∀ (v5954 : IVec S16 32) (k0_hw1097 : k0_chk1097 v5954), ∀ a x, ((![v5954] : Fin 1 → IVec S16 32) a x).toNat < S4096.size a := fun v5954 k0_hw1097 => k0_hw1097

def k0_chk1098 (v5959 : IVec S16 32) : Prop :=
  (∀ a x, ((![v5959] : Fin 1 → IVec S16 32) a x).toNat < S4096.size a)
theorem k0_idx1098_inb : ∀ (v5959 : IVec S16 32) (k0_hw1098 : k0_chk1098 v5959), ∀ a x, ((![v5959] : Fin 1 → IVec S16 32) a x).toNat < S4096.size a := fun v5959 k0_hw1098 => k0_hw1098

def k0_chk1099 (v5964 : IVec S16 32) : Prop :=
  (∀ a x, ((![v5964] : Fin 1 → IVec S16 32) a x).toNat < S4096.size a)
theorem k0_idx1099_inb : ∀ (v5964 : IVec S16 32) (k0_hw1099 : k0_chk1099 v5964), ∀ a x, ((![v5964] : Fin 1 → IVec S16 32) a x).toNat < S4096.size a := fun v5964 k0_hw1099 => k0_hw1099

def k0_chk1100 (v5969 : IVec S16 32) : Prop :=
  (∀ a x, ((![v5969] : Fin 1 → IVec S16 32) a x).toNat < S4096.size a)
theorem k0_idx1100_inb : ∀ (v5969 : IVec S16 32) (k0_hw1100 : k0_chk1100 v5969), ∀ a x, ((![v5969] : Fin 1 → IVec S16 32) a x).toNat < S4096.size a := fun v5969 k0_hw1100 => k0_hw1100

def k0_chk1101 (v5974 : IVec S16 32) : Prop :=
  (∀ a x, ((![v5974] : Fin 1 → IVec S16 32) a x).toNat < S4096.size a)
theorem k0_idx1101_inb : ∀ (v5974 : IVec S16 32) (k0_hw1101 : k0_chk1101 v5974), ∀ a x, ((![v5974] : Fin 1 → IVec S16 32) a x).toNat < S4096.size a := fun v5974 k0_hw1101 => k0_hw1101

def k0_chk1102 (v5979 : IVec S16 32) : Prop :=
  (∀ a x, ((![v5979] : Fin 1 → IVec S16 32) a x).toNat < S4096.size a)
theorem k0_idx1102_inb : ∀ (v5979 : IVec S16 32) (k0_hw1102 : k0_chk1102 v5979), ∀ a x, ((![v5979] : Fin 1 → IVec S16 32) a x).toNat < S4096.size a := fun v5979 k0_hw1102 => k0_hw1102

def k0_chk1103 (v5984 : IVec S16 32) : Prop :=
  (∀ a x, ((![v5984] : Fin 1 → IVec S16 32) a x).toNat < S4096.size a)
theorem k0_idx1103_inb : ∀ (v5984 : IVec S16 32) (k0_hw1103 : k0_chk1103 v5984), ∀ a x, ((![v5984] : Fin 1 → IVec S16 32) a x).toNat < S4096.size a := fun v5984 k0_hw1103 => k0_hw1103

def k0_chk1104 (v5989 : IVec S16 32) : Prop :=
  (∀ a x, ((![v5989] : Fin 1 → IVec S16 32) a x).toNat < S4096.size a)
theorem k0_idx1104_inb : ∀ (v5989 : IVec S16 32) (k0_hw1104 : k0_chk1104 v5989), ∀ a x, ((![v5989] : Fin 1 → IVec S16 32) a x).toNat < S4096.size a := fun v5989 k0_hw1104 => k0_hw1104

def k0_chk1105 (v5994 : IVec S16 32) : Prop :=
  (∀ a x, ((![v5994] : Fin 1 → IVec S16 32) a x).toNat < S4096.size a)
theorem k0_idx1105_inb : ∀ (v5994 : IVec S16 32) (k0_hw1105 : k0_chk1105 v5994), ∀ a x, ((![v5994] : Fin 1 → IVec S16 32) a x).toNat < S4096.size a := fun v5994 k0_hw1105 => k0_hw1105

def k0_chk1106 (v5999 : IVec S16 32) : Prop :=
  (∀ a x, ((![v5999] : Fin 1 → IVec S16 32) a x).toNat < S4096.size a)
theorem k0_idx1106_inb : ∀ (v5999 : IVec S16 32) (k0_hw1106 : k0_chk1106 v5999), ∀ a x, ((![v5999] : Fin 1 → IVec S16 32) a x).toNat < S4096.size a := fun v5999 k0_hw1106 => k0_hw1106

def k0_chk1107 (v6004 : IVec S16 32) : Prop :=
  (∀ a x, ((![v6004] : Fin 1 → IVec S16 32) a x).toNat < S4096.size a)
theorem k0_idx1107_inb : ∀ (v6004 : IVec S16 32) (k0_hw1107 : k0_chk1107 v6004), ∀ a x, ((![v6004] : Fin 1 → IVec S16 32) a x).toNat < S4096.size a := fun v6004 k0_hw1107 => k0_hw1107

def k0_chk1108 (v6009 : IVec S16 32) : Prop :=
  (∀ a x, ((![v6009] : Fin 1 → IVec S16 32) a x).toNat < S4096.size a)
theorem k0_idx1108_inb : ∀ (v6009 : IVec S16 32) (k0_hw1108 : k0_chk1108 v6009), ∀ a x, ((![v6009] : Fin 1 → IVec S16 32) a x).toNat < S4096.size a := fun v6009 k0_hw1108 => k0_hw1108

def k0_chk1109 (v6014 : IVec S16 32) : Prop :=
  (∀ a x, ((![v6014] : Fin 1 → IVec S16 32) a x).toNat < S4096.size a)
theorem k0_idx1109_inb : ∀ (v6014 : IVec S16 32) (k0_hw1109 : k0_chk1109 v6014), ∀ a x, ((![v6014] : Fin 1 → IVec S16 32) a x).toNat < S4096.size a := fun v6014 k0_hw1109 => k0_hw1109

def k0_chk1110 (v6019 : IVec S16 32) : Prop :=
  (∀ a x, ((![v6019] : Fin 1 → IVec S16 32) a x).toNat < S4096.size a)
theorem k0_idx1110_inb : ∀ (v6019 : IVec S16 32) (k0_hw1110 : k0_chk1110 v6019), ∀ a x, ((![v6019] : Fin 1 → IVec S16 32) a x).toNat < S4096.size a := fun v6019 k0_hw1110 => k0_hw1110

def k0_chk1111 (v6024 : IVec S16 32) : Prop :=
  (∀ a x, ((![v6024] : Fin 1 → IVec S16 32) a x).toNat < S4096.size a)
theorem k0_idx1111_inb : ∀ (v6024 : IVec S16 32) (k0_hw1111 : k0_chk1111 v6024), ∀ a x, ((![v6024] : Fin 1 → IVec S16 32) a x).toNat < S4096.size a := fun v6024 k0_hw1111 => k0_hw1111

def k0_chk1112 (v6029 : IVec S16 32) : Prop :=
  (∀ a x, ((![v6029] : Fin 1 → IVec S16 32) a x).toNat < S4096.size a)
theorem k0_idx1112_inb : ∀ (v6029 : IVec S16 32) (k0_hw1112 : k0_chk1112 v6029), ∀ a x, ((![v6029] : Fin 1 → IVec S16 32) a x).toNat < S4096.size a := fun v6029 k0_hw1112 => k0_hw1112

def k0_chk1113 (v6034 : IVec S16 32) : Prop :=
  (∀ a x, ((![v6034] : Fin 1 → IVec S16 32) a x).toNat < S4096.size a)
theorem k0_idx1113_inb : ∀ (v6034 : IVec S16 32) (k0_hw1113 : k0_chk1113 v6034), ∀ a x, ((![v6034] : Fin 1 → IVec S16 32) a x).toNat < S4096.size a := fun v6034 k0_hw1113 => k0_hw1113

def k0_chk1114 (v6039 : IVec S16 32) : Prop :=
  (∀ a x, ((![v6039] : Fin 1 → IVec S16 32) a x).toNat < S4096.size a)
theorem k0_idx1114_inb : ∀ (v6039 : IVec S16 32) (k0_hw1114 : k0_chk1114 v6039), ∀ a x, ((![v6039] : Fin 1 → IVec S16 32) a x).toNat < S4096.size a := fun v6039 k0_hw1114 => k0_hw1114

def k0_chk1115 (v6044 : IVec S16 32) : Prop :=
  (∀ a x, ((![v6044] : Fin 1 → IVec S16 32) a x).toNat < S4096.size a)
theorem k0_idx1115_inb : ∀ (v6044 : IVec S16 32) (k0_hw1115 : k0_chk1115 v6044), ∀ a x, ((![v6044] : Fin 1 → IVec S16 32) a x).toNat < S4096.size a := fun v6044 k0_hw1115 => k0_hw1115

def k0_chk1116 (v6049 : IVec S16 32) : Prop :=
  (∀ a x, ((![v6049] : Fin 1 → IVec S16 32) a x).toNat < S4096.size a)
theorem k0_idx1116_inb : ∀ (v6049 : IVec S16 32) (k0_hw1116 : k0_chk1116 v6049), ∀ a x, ((![v6049] : Fin 1 → IVec S16 32) a x).toNat < S4096.size a := fun v6049 k0_hw1116 => k0_hw1116

def k0_chk1117 (v6054 : IVec S16 32) : Prop :=
  (∀ a x, ((![v6054] : Fin 1 → IVec S16 32) a x).toNat < S4096.size a)
theorem k0_idx1117_inb : ∀ (v6054 : IVec S16 32) (k0_hw1117 : k0_chk1117 v6054), ∀ a x, ((![v6054] : Fin 1 → IVec S16 32) a x).toNat < S4096.size a := fun v6054 k0_hw1117 => k0_hw1117

def k0_chk1118 (v6056 : IVec S16 32) : Prop :=
  (∀ a x, ((![v6056] : Fin 1 → IVec S16 32) a x).toNat < S4096.size a)
theorem k0_idx1118_inb : ∀ (v6056 : IVec S16 32) (k0_hw1118 : k0_chk1118 v6056), ∀ a x, ((![v6056] : Fin 1 → IVec S16 32) a x).toNat < S4096.size a := fun v6056 k0_hw1118 => k0_hw1118

def k0_chk1119 (v6058 : IVec S16 32) : Prop :=
  (∀ a x, ((![v6058] : Fin 1 → IVec S16 32) a x).toNat < S4096.size a)
theorem k0_idx1119_inb : ∀ (v6058 : IVec S16 32) (k0_hw1119 : k0_chk1119 v6058), ∀ a x, ((![v6058] : Fin 1 → IVec S16 32) a x).toNat < S4096.size a := fun v6058 k0_hw1119 => k0_hw1119

def k0_chk1120 (v6060 : IVec S16 32) : Prop :=
  (∀ a x, ((![v6060] : Fin 1 → IVec S16 32) a x).toNat < S4096.size a)
theorem k0_idx1120_inb : ∀ (v6060 : IVec S16 32) (k0_hw1120 : k0_chk1120 v6060), ∀ a x, ((![v6060] : Fin 1 → IVec S16 32) a x).toNat < S4096.size a := fun v6060 k0_hw1120 => k0_hw1120
def k0_off42 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4520 : BitVec 32 := 512#32
  let v6061 : BitVec 32 := Scalar.muli v5574 c512_i32_4520
  let c48_i32_4521 : BitVec 32 := 48#32
  let v6062 : BitVec 32 := Scalar.addi v6061 c48_i32_4521
  let v6063 : Index := Scalar.indexCast v6062
  ![v6063.toNat]

def k0_chk1121 (v6064 : IVec S16 32) : Prop :=
  (∀ a x, ((![v6064] : Fin 1 → IVec S16 32) a x).toNat < S4096.size a)
theorem k0_idx1121_inb : ∀ (v6064 : IVec S16 32) (k0_hw1121 : k0_chk1121 v6064), ∀ a x, ((![v6064] : Fin 1 → IVec S16 32) a x).toNat < S4096.size a := fun v6064 k0_hw1121 => k0_hw1121

def k0_chk1122 (v6081 : IVec S16 32) : Prop :=
  (∀ a x, ((![v6081] : Fin 1 → IVec S16 32) a x).toNat < S4096.size a)
theorem k0_idx1122_inb : ∀ (v6081 : IVec S16 32) (k0_hw1122 : k0_chk1122 v6081), ∀ a x, ((![v6081] : Fin 1 → IVec S16 32) a x).toNat < S4096.size a := fun v6081 k0_hw1122 => k0_hw1122

def k0_chk1123 (v6086 : IVec S16 32) : Prop :=
  (∀ a x, ((![v6086] : Fin 1 → IVec S16 32) a x).toNat < S4096.size a)
theorem k0_idx1123_inb : ∀ (v6086 : IVec S16 32) (k0_hw1123 : k0_chk1123 v6086), ∀ a x, ((![v6086] : Fin 1 → IVec S16 32) a x).toNat < S4096.size a := fun v6086 k0_hw1123 => k0_hw1123

def k0_chk1124 (v6091 : IVec S16 32) : Prop :=
  (∀ a x, ((![v6091] : Fin 1 → IVec S16 32) a x).toNat < S4096.size a)
theorem k0_idx1124_inb : ∀ (v6091 : IVec S16 32) (k0_hw1124 : k0_chk1124 v6091), ∀ a x, ((![v6091] : Fin 1 → IVec S16 32) a x).toNat < S4096.size a := fun v6091 k0_hw1124 => k0_hw1124

def k0_chk1125 (v6096 : IVec S16 32) : Prop :=
  (∀ a x, ((![v6096] : Fin 1 → IVec S16 32) a x).toNat < S4096.size a)
theorem k0_idx1125_inb : ∀ (v6096 : IVec S16 32) (k0_hw1125 : k0_chk1125 v6096), ∀ a x, ((![v6096] : Fin 1 → IVec S16 32) a x).toNat < S4096.size a := fun v6096 k0_hw1125 => k0_hw1125

def k0_chk1126 (v6101 : IVec S16 32) : Prop :=
  (∀ a x, ((![v6101] : Fin 1 → IVec S16 32) a x).toNat < S4096.size a)
theorem k0_idx1126_inb : ∀ (v6101 : IVec S16 32) (k0_hw1126 : k0_chk1126 v6101), ∀ a x, ((![v6101] : Fin 1 → IVec S16 32) a x).toNat < S4096.size a := fun v6101 k0_hw1126 => k0_hw1126

def k0_chk1127 (v6106 : IVec S16 32) : Prop :=
  (∀ a x, ((![v6106] : Fin 1 → IVec S16 32) a x).toNat < S4096.size a)
theorem k0_idx1127_inb : ∀ (v6106 : IVec S16 32) (k0_hw1127 : k0_chk1127 v6106), ∀ a x, ((![v6106] : Fin 1 → IVec S16 32) a x).toNat < S4096.size a := fun v6106 k0_hw1127 => k0_hw1127

def k0_chk1128 (v6111 : IVec S16 32) : Prop :=
  (∀ a x, ((![v6111] : Fin 1 → IVec S16 32) a x).toNat < S4096.size a)
theorem k0_idx1128_inb : ∀ (v6111 : IVec S16 32) (k0_hw1128 : k0_chk1128 v6111), ∀ a x, ((![v6111] : Fin 1 → IVec S16 32) a x).toNat < S4096.size a := fun v6111 k0_hw1128 => k0_hw1128

def k0_chk1129 (v6116 : IVec S16 32) : Prop :=
  (∀ a x, ((![v6116] : Fin 1 → IVec S16 32) a x).toNat < S4096.size a)
theorem k0_idx1129_inb : ∀ (v6116 : IVec S16 32) (k0_hw1129 : k0_chk1129 v6116), ∀ a x, ((![v6116] : Fin 1 → IVec S16 32) a x).toNat < S4096.size a := fun v6116 k0_hw1129 => k0_hw1129

def k0_chk1130 (v6121 : IVec S16 32) : Prop :=
  (∀ a x, ((![v6121] : Fin 1 → IVec S16 32) a x).toNat < S4096.size a)
theorem k0_idx1130_inb : ∀ (v6121 : IVec S16 32) (k0_hw1130 : k0_chk1130 v6121), ∀ a x, ((![v6121] : Fin 1 → IVec S16 32) a x).toNat < S4096.size a := fun v6121 k0_hw1130 => k0_hw1130

def k0_chk1131 (v6126 : IVec S16 32) : Prop :=
  (∀ a x, ((![v6126] : Fin 1 → IVec S16 32) a x).toNat < S4096.size a)
theorem k0_idx1131_inb : ∀ (v6126 : IVec S16 32) (k0_hw1131 : k0_chk1131 v6126), ∀ a x, ((![v6126] : Fin 1 → IVec S16 32) a x).toNat < S4096.size a := fun v6126 k0_hw1131 => k0_hw1131

def k0_chk1132 (v6131 : IVec S16 32) : Prop :=
  (∀ a x, ((![v6131] : Fin 1 → IVec S16 32) a x).toNat < S4096.size a)
theorem k0_idx1132_inb : ∀ (v6131 : IVec S16 32) (k0_hw1132 : k0_chk1132 v6131), ∀ a x, ((![v6131] : Fin 1 → IVec S16 32) a x).toNat < S4096.size a := fun v6131 k0_hw1132 => k0_hw1132

def k0_chk1133 (v6136 : IVec S16 32) : Prop :=
  (∀ a x, ((![v6136] : Fin 1 → IVec S16 32) a x).toNat < S4096.size a)
theorem k0_idx1133_inb : ∀ (v6136 : IVec S16 32) (k0_hw1133 : k0_chk1133 v6136), ∀ a x, ((![v6136] : Fin 1 → IVec S16 32) a x).toNat < S4096.size a := fun v6136 k0_hw1133 => k0_hw1133

def k0_chk1134 (v6141 : IVec S16 32) : Prop :=
  (∀ a x, ((![v6141] : Fin 1 → IVec S16 32) a x).toNat < S4096.size a)
theorem k0_idx1134_inb : ∀ (v6141 : IVec S16 32) (k0_hw1134 : k0_chk1134 v6141), ∀ a x, ((![v6141] : Fin 1 → IVec S16 32) a x).toNat < S4096.size a := fun v6141 k0_hw1134 => k0_hw1134

def k0_chk1135 (v6146 : IVec S16 32) : Prop :=
  (∀ a x, ((![v6146] : Fin 1 → IVec S16 32) a x).toNat < S4096.size a)
theorem k0_idx1135_inb : ∀ (v6146 : IVec S16 32) (k0_hw1135 : k0_chk1135 v6146), ∀ a x, ((![v6146] : Fin 1 → IVec S16 32) a x).toNat < S4096.size a := fun v6146 k0_hw1135 => k0_hw1135

def k0_chk1136 (v6151 : IVec S16 32) : Prop :=
  (∀ a x, ((![v6151] : Fin 1 → IVec S16 32) a x).toNat < S4096.size a)
theorem k0_idx1136_inb : ∀ (v6151 : IVec S16 32) (k0_hw1136 : k0_chk1136 v6151), ∀ a x, ((![v6151] : Fin 1 → IVec S16 32) a x).toNat < S4096.size a := fun v6151 k0_hw1136 => k0_hw1136

def k0_chk1137 (v6156 : IVec S16 32) : Prop :=
  (∀ a x, ((![v6156] : Fin 1 → IVec S16 32) a x).toNat < S4096.size a)
theorem k0_idx1137_inb : ∀ (v6156 : IVec S16 32) (k0_hw1137 : k0_chk1137 v6156), ∀ a x, ((![v6156] : Fin 1 → IVec S16 32) a x).toNat < S4096.size a := fun v6156 k0_hw1137 => k0_hw1137

def k0_chk1138 (v6161 : IVec S16 32) : Prop :=
  (∀ a x, ((![v6161] : Fin 1 → IVec S16 32) a x).toNat < S4096.size a)
theorem k0_idx1138_inb : ∀ (v6161 : IVec S16 32) (k0_hw1138 : k0_chk1138 v6161), ∀ a x, ((![v6161] : Fin 1 → IVec S16 32) a x).toNat < S4096.size a := fun v6161 k0_hw1138 => k0_hw1138

def k0_chk1139 (v6166 : IVec S16 32) : Prop :=
  (∀ a x, ((![v6166] : Fin 1 → IVec S16 32) a x).toNat < S4096.size a)
theorem k0_idx1139_inb : ∀ (v6166 : IVec S16 32) (k0_hw1139 : k0_chk1139 v6166), ∀ a x, ((![v6166] : Fin 1 → IVec S16 32) a x).toNat < S4096.size a := fun v6166 k0_hw1139 => k0_hw1139

def k0_chk1140 (v6171 : IVec S16 32) : Prop :=
  (∀ a x, ((![v6171] : Fin 1 → IVec S16 32) a x).toNat < S4096.size a)
theorem k0_idx1140_inb : ∀ (v6171 : IVec S16 32) (k0_hw1140 : k0_chk1140 v6171), ∀ a x, ((![v6171] : Fin 1 → IVec S16 32) a x).toNat < S4096.size a := fun v6171 k0_hw1140 => k0_hw1140

def k0_chk1141 (v6176 : IVec S16 32) : Prop :=
  (∀ a x, ((![v6176] : Fin 1 → IVec S16 32) a x).toNat < S4096.size a)
theorem k0_idx1141_inb : ∀ (v6176 : IVec S16 32) (k0_hw1141 : k0_chk1141 v6176), ∀ a x, ((![v6176] : Fin 1 → IVec S16 32) a x).toNat < S4096.size a := fun v6176 k0_hw1141 => k0_hw1141

def k0_chk1142 (v6181 : IVec S16 32) : Prop :=
  (∀ a x, ((![v6181] : Fin 1 → IVec S16 32) a x).toNat < S4096.size a)
theorem k0_idx1142_inb : ∀ (v6181 : IVec S16 32) (k0_hw1142 : k0_chk1142 v6181), ∀ a x, ((![v6181] : Fin 1 → IVec S16 32) a x).toNat < S4096.size a := fun v6181 k0_hw1142 => k0_hw1142

def k0_chk1143 (v6186 : IVec S16 32) : Prop :=
  (∀ a x, ((![v6186] : Fin 1 → IVec S16 32) a x).toNat < S4096.size a)
theorem k0_idx1143_inb : ∀ (v6186 : IVec S16 32) (k0_hw1143 : k0_chk1143 v6186), ∀ a x, ((![v6186] : Fin 1 → IVec S16 32) a x).toNat < S4096.size a := fun v6186 k0_hw1143 => k0_hw1143

def k0_chk1144 (v6191 : IVec S16 32) : Prop :=
  (∀ a x, ((![v6191] : Fin 1 → IVec S16 32) a x).toNat < S4096.size a)
theorem k0_idx1144_inb : ∀ (v6191 : IVec S16 32) (k0_hw1144 : k0_chk1144 v6191), ∀ a x, ((![v6191] : Fin 1 → IVec S16 32) a x).toNat < S4096.size a := fun v6191 k0_hw1144 => k0_hw1144

def k0_chk1145 (v6196 : IVec S16 32) : Prop :=
  (∀ a x, ((![v6196] : Fin 1 → IVec S16 32) a x).toNat < S4096.size a)
theorem k0_idx1145_inb : ∀ (v6196 : IVec S16 32) (k0_hw1145 : k0_chk1145 v6196), ∀ a x, ((![v6196] : Fin 1 → IVec S16 32) a x).toNat < S4096.size a := fun v6196 k0_hw1145 => k0_hw1145

def k0_chk1146 (v6201 : IVec S16 32) : Prop :=
  (∀ a x, ((![v6201] : Fin 1 → IVec S16 32) a x).toNat < S4096.size a)
theorem k0_idx1146_inb : ∀ (v6201 : IVec S16 32) (k0_hw1146 : k0_chk1146 v6201), ∀ a x, ((![v6201] : Fin 1 → IVec S16 32) a x).toNat < S4096.size a := fun v6201 k0_hw1146 => k0_hw1146

def k0_chk1147 (v6206 : IVec S16 32) : Prop :=
  (∀ a x, ((![v6206] : Fin 1 → IVec S16 32) a x).toNat < S4096.size a)
theorem k0_idx1147_inb : ∀ (v6206 : IVec S16 32) (k0_hw1147 : k0_chk1147 v6206), ∀ a x, ((![v6206] : Fin 1 → IVec S16 32) a x).toNat < S4096.size a := fun v6206 k0_hw1147 => k0_hw1147

def k0_chk1148 (v6211 : IVec S16 32) : Prop :=
  (∀ a x, ((![v6211] : Fin 1 → IVec S16 32) a x).toNat < S4096.size a)
theorem k0_idx1148_inb : ∀ (v6211 : IVec S16 32) (k0_hw1148 : k0_chk1148 v6211), ∀ a x, ((![v6211] : Fin 1 → IVec S16 32) a x).toNat < S4096.size a := fun v6211 k0_hw1148 => k0_hw1148

def k0_chk1149 (v6216 : IVec S16 32) : Prop :=
  (∀ a x, ((![v6216] : Fin 1 → IVec S16 32) a x).toNat < S4096.size a)
theorem k0_idx1149_inb : ∀ (v6216 : IVec S16 32) (k0_hw1149 : k0_chk1149 v6216), ∀ a x, ((![v6216] : Fin 1 → IVec S16 32) a x).toNat < S4096.size a := fun v6216 k0_hw1149 => k0_hw1149

def k0_chk1150 (v6218 : IVec S16 32) : Prop :=
  (∀ a x, ((![v6218] : Fin 1 → IVec S16 32) a x).toNat < S4096.size a)
theorem k0_idx1150_inb : ∀ (v6218 : IVec S16 32) (k0_hw1150 : k0_chk1150 v6218), ∀ a x, ((![v6218] : Fin 1 → IVec S16 32) a x).toNat < S4096.size a := fun v6218 k0_hw1150 => k0_hw1150

def k0_chk1151 (v6220 : IVec S16 32) : Prop :=
  (∀ a x, ((![v6220] : Fin 1 → IVec S16 32) a x).toNat < S4096.size a)
theorem k0_idx1151_inb : ∀ (v6220 : IVec S16 32) (k0_hw1151 : k0_chk1151 v6220), ∀ a x, ((![v6220] : Fin 1 → IVec S16 32) a x).toNat < S4096.size a := fun v6220 k0_hw1151 => k0_hw1151

def k0_chk1152 (v6222 : IVec S16 32) : Prop :=
  (∀ a x, ((![v6222] : Fin 1 → IVec S16 32) a x).toNat < S4096.size a)
theorem k0_idx1152_inb : ∀ (v6222 : IVec S16 32) (k0_hw1152 : k0_chk1152 v6222), ∀ a x, ((![v6222] : Fin 1 → IVec S16 32) a x).toNat < S4096.size a := fun v6222 k0_hw1152 => k0_hw1152
def k0_off43 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4649 : BitVec 32 := 512#32
  let v6223 : BitVec 32 := Scalar.muli v5574 c512_i32_4649
  let c64_i32_4650 : BitVec 32 := 64#32
  let v6224 : BitVec 32 := Scalar.addi v6223 c64_i32_4650
  let v6225 : Index := Scalar.indexCast v6224
  ![v6225.toNat]

def k0_chk1153 (v6226 : IVec S16 32) : Prop :=
  (∀ a x, ((![v6226] : Fin 1 → IVec S16 32) a x).toNat < S4096.size a)
theorem k0_idx1153_inb : ∀ (v6226 : IVec S16 32) (k0_hw1153 : k0_chk1153 v6226), ∀ a x, ((![v6226] : Fin 1 → IVec S16 32) a x).toNat < S4096.size a := fun v6226 k0_hw1153 => k0_hw1153

def k0_chk1154 (v6243 : IVec S16 32) : Prop :=
  (∀ a x, ((![v6243] : Fin 1 → IVec S16 32) a x).toNat < S4096.size a)
theorem k0_idx1154_inb : ∀ (v6243 : IVec S16 32) (k0_hw1154 : k0_chk1154 v6243), ∀ a x, ((![v6243] : Fin 1 → IVec S16 32) a x).toNat < S4096.size a := fun v6243 k0_hw1154 => k0_hw1154

def k0_chk1155 (v6248 : IVec S16 32) : Prop :=
  (∀ a x, ((![v6248] : Fin 1 → IVec S16 32) a x).toNat < S4096.size a)
theorem k0_idx1155_inb : ∀ (v6248 : IVec S16 32) (k0_hw1155 : k0_chk1155 v6248), ∀ a x, ((![v6248] : Fin 1 → IVec S16 32) a x).toNat < S4096.size a := fun v6248 k0_hw1155 => k0_hw1155

def k0_chk1156 (v6253 : IVec S16 32) : Prop :=
  (∀ a x, ((![v6253] : Fin 1 → IVec S16 32) a x).toNat < S4096.size a)
theorem k0_idx1156_inb : ∀ (v6253 : IVec S16 32) (k0_hw1156 : k0_chk1156 v6253), ∀ a x, ((![v6253] : Fin 1 → IVec S16 32) a x).toNat < S4096.size a := fun v6253 k0_hw1156 => k0_hw1156

def k0_chk1157 (v6258 : IVec S16 32) : Prop :=
  (∀ a x, ((![v6258] : Fin 1 → IVec S16 32) a x).toNat < S4096.size a)
theorem k0_idx1157_inb : ∀ (v6258 : IVec S16 32) (k0_hw1157 : k0_chk1157 v6258), ∀ a x, ((![v6258] : Fin 1 → IVec S16 32) a x).toNat < S4096.size a := fun v6258 k0_hw1157 => k0_hw1157

def k0_chk1158 (v6263 : IVec S16 32) : Prop :=
  (∀ a x, ((![v6263] : Fin 1 → IVec S16 32) a x).toNat < S4096.size a)
theorem k0_idx1158_inb : ∀ (v6263 : IVec S16 32) (k0_hw1158 : k0_chk1158 v6263), ∀ a x, ((![v6263] : Fin 1 → IVec S16 32) a x).toNat < S4096.size a := fun v6263 k0_hw1158 => k0_hw1158

def k0_chk1159 (v6268 : IVec S16 32) : Prop :=
  (∀ a x, ((![v6268] : Fin 1 → IVec S16 32) a x).toNat < S4096.size a)
theorem k0_idx1159_inb : ∀ (v6268 : IVec S16 32) (k0_hw1159 : k0_chk1159 v6268), ∀ a x, ((![v6268] : Fin 1 → IVec S16 32) a x).toNat < S4096.size a := fun v6268 k0_hw1159 => k0_hw1159

def k0_chk1160 (v6273 : IVec S16 32) : Prop :=
  (∀ a x, ((![v6273] : Fin 1 → IVec S16 32) a x).toNat < S4096.size a)
theorem k0_idx1160_inb : ∀ (v6273 : IVec S16 32) (k0_hw1160 : k0_chk1160 v6273), ∀ a x, ((![v6273] : Fin 1 → IVec S16 32) a x).toNat < S4096.size a := fun v6273 k0_hw1160 => k0_hw1160

def k0_chk1161 (v6278 : IVec S16 32) : Prop :=
  (∀ a x, ((![v6278] : Fin 1 → IVec S16 32) a x).toNat < S4096.size a)
theorem k0_idx1161_inb : ∀ (v6278 : IVec S16 32) (k0_hw1161 : k0_chk1161 v6278), ∀ a x, ((![v6278] : Fin 1 → IVec S16 32) a x).toNat < S4096.size a := fun v6278 k0_hw1161 => k0_hw1161

def k0_chk1162 (v6283 : IVec S16 32) : Prop :=
  (∀ a x, ((![v6283] : Fin 1 → IVec S16 32) a x).toNat < S4096.size a)
theorem k0_idx1162_inb : ∀ (v6283 : IVec S16 32) (k0_hw1162 : k0_chk1162 v6283), ∀ a x, ((![v6283] : Fin 1 → IVec S16 32) a x).toNat < S4096.size a := fun v6283 k0_hw1162 => k0_hw1162

def k0_chk1163 (v6288 : IVec S16 32) : Prop :=
  (∀ a x, ((![v6288] : Fin 1 → IVec S16 32) a x).toNat < S4096.size a)
theorem k0_idx1163_inb : ∀ (v6288 : IVec S16 32) (k0_hw1163 : k0_chk1163 v6288), ∀ a x, ((![v6288] : Fin 1 → IVec S16 32) a x).toNat < S4096.size a := fun v6288 k0_hw1163 => k0_hw1163

def k0_chk1164 (v6293 : IVec S16 32) : Prop :=
  (∀ a x, ((![v6293] : Fin 1 → IVec S16 32) a x).toNat < S4096.size a)
theorem k0_idx1164_inb : ∀ (v6293 : IVec S16 32) (k0_hw1164 : k0_chk1164 v6293), ∀ a x, ((![v6293] : Fin 1 → IVec S16 32) a x).toNat < S4096.size a := fun v6293 k0_hw1164 => k0_hw1164

def k0_chk1165 (v6298 : IVec S16 32) : Prop :=
  (∀ a x, ((![v6298] : Fin 1 → IVec S16 32) a x).toNat < S4096.size a)
theorem k0_idx1165_inb : ∀ (v6298 : IVec S16 32) (k0_hw1165 : k0_chk1165 v6298), ∀ a x, ((![v6298] : Fin 1 → IVec S16 32) a x).toNat < S4096.size a := fun v6298 k0_hw1165 => k0_hw1165

def k0_chk1166 (v6303 : IVec S16 32) : Prop :=
  (∀ a x, ((![v6303] : Fin 1 → IVec S16 32) a x).toNat < S4096.size a)
theorem k0_idx1166_inb : ∀ (v6303 : IVec S16 32) (k0_hw1166 : k0_chk1166 v6303), ∀ a x, ((![v6303] : Fin 1 → IVec S16 32) a x).toNat < S4096.size a := fun v6303 k0_hw1166 => k0_hw1166

def k0_chk1167 (v6308 : IVec S16 32) : Prop :=
  (∀ a x, ((![v6308] : Fin 1 → IVec S16 32) a x).toNat < S4096.size a)
theorem k0_idx1167_inb : ∀ (v6308 : IVec S16 32) (k0_hw1167 : k0_chk1167 v6308), ∀ a x, ((![v6308] : Fin 1 → IVec S16 32) a x).toNat < S4096.size a := fun v6308 k0_hw1167 => k0_hw1167

def k0_chk1168 (v6313 : IVec S16 32) : Prop :=
  (∀ a x, ((![v6313] : Fin 1 → IVec S16 32) a x).toNat < S4096.size a)
theorem k0_idx1168_inb : ∀ (v6313 : IVec S16 32) (k0_hw1168 : k0_chk1168 v6313), ∀ a x, ((![v6313] : Fin 1 → IVec S16 32) a x).toNat < S4096.size a := fun v6313 k0_hw1168 => k0_hw1168

def k0_chk1169 (v6318 : IVec S16 32) : Prop :=
  (∀ a x, ((![v6318] : Fin 1 → IVec S16 32) a x).toNat < S4096.size a)
theorem k0_idx1169_inb : ∀ (v6318 : IVec S16 32) (k0_hw1169 : k0_chk1169 v6318), ∀ a x, ((![v6318] : Fin 1 → IVec S16 32) a x).toNat < S4096.size a := fun v6318 k0_hw1169 => k0_hw1169

def k0_chk1170 (v6323 : IVec S16 32) : Prop :=
  (∀ a x, ((![v6323] : Fin 1 → IVec S16 32) a x).toNat < S4096.size a)
theorem k0_idx1170_inb : ∀ (v6323 : IVec S16 32) (k0_hw1170 : k0_chk1170 v6323), ∀ a x, ((![v6323] : Fin 1 → IVec S16 32) a x).toNat < S4096.size a := fun v6323 k0_hw1170 => k0_hw1170

def k0_chk1171 (v6328 : IVec S16 32) : Prop :=
  (∀ a x, ((![v6328] : Fin 1 → IVec S16 32) a x).toNat < S4096.size a)
theorem k0_idx1171_inb : ∀ (v6328 : IVec S16 32) (k0_hw1171 : k0_chk1171 v6328), ∀ a x, ((![v6328] : Fin 1 → IVec S16 32) a x).toNat < S4096.size a := fun v6328 k0_hw1171 => k0_hw1171

def k0_chk1172 (v6333 : IVec S16 32) : Prop :=
  (∀ a x, ((![v6333] : Fin 1 → IVec S16 32) a x).toNat < S4096.size a)
theorem k0_idx1172_inb : ∀ (v6333 : IVec S16 32) (k0_hw1172 : k0_chk1172 v6333), ∀ a x, ((![v6333] : Fin 1 → IVec S16 32) a x).toNat < S4096.size a := fun v6333 k0_hw1172 => k0_hw1172

def k0_chk1173 (v6338 : IVec S16 32) : Prop :=
  (∀ a x, ((![v6338] : Fin 1 → IVec S16 32) a x).toNat < S4096.size a)
theorem k0_idx1173_inb : ∀ (v6338 : IVec S16 32) (k0_hw1173 : k0_chk1173 v6338), ∀ a x, ((![v6338] : Fin 1 → IVec S16 32) a x).toNat < S4096.size a := fun v6338 k0_hw1173 => k0_hw1173

def k0_chk1174 (v6343 : IVec S16 32) : Prop :=
  (∀ a x, ((![v6343] : Fin 1 → IVec S16 32) a x).toNat < S4096.size a)
theorem k0_idx1174_inb : ∀ (v6343 : IVec S16 32) (k0_hw1174 : k0_chk1174 v6343), ∀ a x, ((![v6343] : Fin 1 → IVec S16 32) a x).toNat < S4096.size a := fun v6343 k0_hw1174 => k0_hw1174

def k0_chk1175 (v6348 : IVec S16 32) : Prop :=
  (∀ a x, ((![v6348] : Fin 1 → IVec S16 32) a x).toNat < S4096.size a)
theorem k0_idx1175_inb : ∀ (v6348 : IVec S16 32) (k0_hw1175 : k0_chk1175 v6348), ∀ a x, ((![v6348] : Fin 1 → IVec S16 32) a x).toNat < S4096.size a := fun v6348 k0_hw1175 => k0_hw1175

def k0_chk1176 (v6353 : IVec S16 32) : Prop :=
  (∀ a x, ((![v6353] : Fin 1 → IVec S16 32) a x).toNat < S4096.size a)
theorem k0_idx1176_inb : ∀ (v6353 : IVec S16 32) (k0_hw1176 : k0_chk1176 v6353), ∀ a x, ((![v6353] : Fin 1 → IVec S16 32) a x).toNat < S4096.size a := fun v6353 k0_hw1176 => k0_hw1176

def k0_chk1177 (v6358 : IVec S16 32) : Prop :=
  (∀ a x, ((![v6358] : Fin 1 → IVec S16 32) a x).toNat < S4096.size a)
theorem k0_idx1177_inb : ∀ (v6358 : IVec S16 32) (k0_hw1177 : k0_chk1177 v6358), ∀ a x, ((![v6358] : Fin 1 → IVec S16 32) a x).toNat < S4096.size a := fun v6358 k0_hw1177 => k0_hw1177

def k0_chk1178 (v6363 : IVec S16 32) : Prop :=
  (∀ a x, ((![v6363] : Fin 1 → IVec S16 32) a x).toNat < S4096.size a)
theorem k0_idx1178_inb : ∀ (v6363 : IVec S16 32) (k0_hw1178 : k0_chk1178 v6363), ∀ a x, ((![v6363] : Fin 1 → IVec S16 32) a x).toNat < S4096.size a := fun v6363 k0_hw1178 => k0_hw1178

def k0_chk1179 (v6368 : IVec S16 32) : Prop :=
  (∀ a x, ((![v6368] : Fin 1 → IVec S16 32) a x).toNat < S4096.size a)
theorem k0_idx1179_inb : ∀ (v6368 : IVec S16 32) (k0_hw1179 : k0_chk1179 v6368), ∀ a x, ((![v6368] : Fin 1 → IVec S16 32) a x).toNat < S4096.size a := fun v6368 k0_hw1179 => k0_hw1179

def k0_chk1180 (v6373 : IVec S16 32) : Prop :=
  (∀ a x, ((![v6373] : Fin 1 → IVec S16 32) a x).toNat < S4096.size a)
theorem k0_idx1180_inb : ∀ (v6373 : IVec S16 32) (k0_hw1180 : k0_chk1180 v6373), ∀ a x, ((![v6373] : Fin 1 → IVec S16 32) a x).toNat < S4096.size a := fun v6373 k0_hw1180 => k0_hw1180

def k0_chk1181 (v6378 : IVec S16 32) : Prop :=
  (∀ a x, ((![v6378] : Fin 1 → IVec S16 32) a x).toNat < S4096.size a)
theorem k0_idx1181_inb : ∀ (v6378 : IVec S16 32) (k0_hw1181 : k0_chk1181 v6378), ∀ a x, ((![v6378] : Fin 1 → IVec S16 32) a x).toNat < S4096.size a := fun v6378 k0_hw1181 => k0_hw1181

def k0_chk1182 (v6380 : IVec S16 32) : Prop :=
  (∀ a x, ((![v6380] : Fin 1 → IVec S16 32) a x).toNat < S4096.size a)
theorem k0_idx1182_inb : ∀ (v6380 : IVec S16 32) (k0_hw1182 : k0_chk1182 v6380), ∀ a x, ((![v6380] : Fin 1 → IVec S16 32) a x).toNat < S4096.size a := fun v6380 k0_hw1182 => k0_hw1182

def k0_chk1183 (v6382 : IVec S16 32) : Prop :=
  (∀ a x, ((![v6382] : Fin 1 → IVec S16 32) a x).toNat < S4096.size a)
theorem k0_idx1183_inb : ∀ (v6382 : IVec S16 32) (k0_hw1183 : k0_chk1183 v6382), ∀ a x, ((![v6382] : Fin 1 → IVec S16 32) a x).toNat < S4096.size a := fun v6382 k0_hw1183 => k0_hw1183

def k0_chk1184 (v6384 : IVec S16 32) : Prop :=
  (∀ a x, ((![v6384] : Fin 1 → IVec S16 32) a x).toNat < S4096.size a)
theorem k0_idx1184_inb : ∀ (v6384 : IVec S16 32) (k0_hw1184 : k0_chk1184 v6384), ∀ a x, ((![v6384] : Fin 1 → IVec S16 32) a x).toNat < S4096.size a := fun v6384 k0_hw1184 => k0_hw1184
def k0_off44 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4778 : BitVec 32 := 512#32
  let v6385 : BitVec 32 := Scalar.muli v5574 c512_i32_4778
  let c80_i32_4779 : BitVec 32 := 80#32
  let v6386 : BitVec 32 := Scalar.addi v6385 c80_i32_4779
  let v6387 : Index := Scalar.indexCast v6386
  ![v6387.toNat]

def k0_chk1185 (v6388 : IVec S16 32) : Prop :=
  (∀ a x, ((![v6388] : Fin 1 → IVec S16 32) a x).toNat < S4096.size a)
theorem k0_idx1185_inb : ∀ (v6388 : IVec S16 32) (k0_hw1185 : k0_chk1185 v6388), ∀ a x, ((![v6388] : Fin 1 → IVec S16 32) a x).toNat < S4096.size a := fun v6388 k0_hw1185 => k0_hw1185

def k0_chk1186 (v6405 : IVec S16 32) : Prop :=
  (∀ a x, ((![v6405] : Fin 1 → IVec S16 32) a x).toNat < S4096.size a)
theorem k0_idx1186_inb : ∀ (v6405 : IVec S16 32) (k0_hw1186 : k0_chk1186 v6405), ∀ a x, ((![v6405] : Fin 1 → IVec S16 32) a x).toNat < S4096.size a := fun v6405 k0_hw1186 => k0_hw1186

def k0_chk1187 (v6410 : IVec S16 32) : Prop :=
  (∀ a x, ((![v6410] : Fin 1 → IVec S16 32) a x).toNat < S4096.size a)
theorem k0_idx1187_inb : ∀ (v6410 : IVec S16 32) (k0_hw1187 : k0_chk1187 v6410), ∀ a x, ((![v6410] : Fin 1 → IVec S16 32) a x).toNat < S4096.size a := fun v6410 k0_hw1187 => k0_hw1187

def k0_chk1188 (v6415 : IVec S16 32) : Prop :=
  (∀ a x, ((![v6415] : Fin 1 → IVec S16 32) a x).toNat < S4096.size a)
theorem k0_idx1188_inb : ∀ (v6415 : IVec S16 32) (k0_hw1188 : k0_chk1188 v6415), ∀ a x, ((![v6415] : Fin 1 → IVec S16 32) a x).toNat < S4096.size a := fun v6415 k0_hw1188 => k0_hw1188

def k0_chk1189 (v6420 : IVec S16 32) : Prop :=
  (∀ a x, ((![v6420] : Fin 1 → IVec S16 32) a x).toNat < S4096.size a)
theorem k0_idx1189_inb : ∀ (v6420 : IVec S16 32) (k0_hw1189 : k0_chk1189 v6420), ∀ a x, ((![v6420] : Fin 1 → IVec S16 32) a x).toNat < S4096.size a := fun v6420 k0_hw1189 => k0_hw1189

def k0_chk1190 (v6425 : IVec S16 32) : Prop :=
  (∀ a x, ((![v6425] : Fin 1 → IVec S16 32) a x).toNat < S4096.size a)
theorem k0_idx1190_inb : ∀ (v6425 : IVec S16 32) (k0_hw1190 : k0_chk1190 v6425), ∀ a x, ((![v6425] : Fin 1 → IVec S16 32) a x).toNat < S4096.size a := fun v6425 k0_hw1190 => k0_hw1190

def k0_chk1191 (v6430 : IVec S16 32) : Prop :=
  (∀ a x, ((![v6430] : Fin 1 → IVec S16 32) a x).toNat < S4096.size a)
theorem k0_idx1191_inb : ∀ (v6430 : IVec S16 32) (k0_hw1191 : k0_chk1191 v6430), ∀ a x, ((![v6430] : Fin 1 → IVec S16 32) a x).toNat < S4096.size a := fun v6430 k0_hw1191 => k0_hw1191

def k0_chk1192 (v6435 : IVec S16 32) : Prop :=
  (∀ a x, ((![v6435] : Fin 1 → IVec S16 32) a x).toNat < S4096.size a)
theorem k0_idx1192_inb : ∀ (v6435 : IVec S16 32) (k0_hw1192 : k0_chk1192 v6435), ∀ a x, ((![v6435] : Fin 1 → IVec S16 32) a x).toNat < S4096.size a := fun v6435 k0_hw1192 => k0_hw1192

def k0_chk1193 (v6440 : IVec S16 32) : Prop :=
  (∀ a x, ((![v6440] : Fin 1 → IVec S16 32) a x).toNat < S4096.size a)
theorem k0_idx1193_inb : ∀ (v6440 : IVec S16 32) (k0_hw1193 : k0_chk1193 v6440), ∀ a x, ((![v6440] : Fin 1 → IVec S16 32) a x).toNat < S4096.size a := fun v6440 k0_hw1193 => k0_hw1193

def k0_chk1194 (v6445 : IVec S16 32) : Prop :=
  (∀ a x, ((![v6445] : Fin 1 → IVec S16 32) a x).toNat < S4096.size a)
theorem k0_idx1194_inb : ∀ (v6445 : IVec S16 32) (k0_hw1194 : k0_chk1194 v6445), ∀ a x, ((![v6445] : Fin 1 → IVec S16 32) a x).toNat < S4096.size a := fun v6445 k0_hw1194 => k0_hw1194

def k0_chk1195 (v6450 : IVec S16 32) : Prop :=
  (∀ a x, ((![v6450] : Fin 1 → IVec S16 32) a x).toNat < S4096.size a)
theorem k0_idx1195_inb : ∀ (v6450 : IVec S16 32) (k0_hw1195 : k0_chk1195 v6450), ∀ a x, ((![v6450] : Fin 1 → IVec S16 32) a x).toNat < S4096.size a := fun v6450 k0_hw1195 => k0_hw1195

def k0_chk1196 (v6455 : IVec S16 32) : Prop :=
  (∀ a x, ((![v6455] : Fin 1 → IVec S16 32) a x).toNat < S4096.size a)
theorem k0_idx1196_inb : ∀ (v6455 : IVec S16 32) (k0_hw1196 : k0_chk1196 v6455), ∀ a x, ((![v6455] : Fin 1 → IVec S16 32) a x).toNat < S4096.size a := fun v6455 k0_hw1196 => k0_hw1196

def k0_chk1197 (v6460 : IVec S16 32) : Prop :=
  (∀ a x, ((![v6460] : Fin 1 → IVec S16 32) a x).toNat < S4096.size a)
theorem k0_idx1197_inb : ∀ (v6460 : IVec S16 32) (k0_hw1197 : k0_chk1197 v6460), ∀ a x, ((![v6460] : Fin 1 → IVec S16 32) a x).toNat < S4096.size a := fun v6460 k0_hw1197 => k0_hw1197

def k0_chk1198 (v6465 : IVec S16 32) : Prop :=
  (∀ a x, ((![v6465] : Fin 1 → IVec S16 32) a x).toNat < S4096.size a)
theorem k0_idx1198_inb : ∀ (v6465 : IVec S16 32) (k0_hw1198 : k0_chk1198 v6465), ∀ a x, ((![v6465] : Fin 1 → IVec S16 32) a x).toNat < S4096.size a := fun v6465 k0_hw1198 => k0_hw1198

def k0_chk1199 (v6470 : IVec S16 32) : Prop :=
  (∀ a x, ((![v6470] : Fin 1 → IVec S16 32) a x).toNat < S4096.size a)
theorem k0_idx1199_inb : ∀ (v6470 : IVec S16 32) (k0_hw1199 : k0_chk1199 v6470), ∀ a x, ((![v6470] : Fin 1 → IVec S16 32) a x).toNat < S4096.size a := fun v6470 k0_hw1199 => k0_hw1199

def k0_chk1200 (v6475 : IVec S16 32) : Prop :=
  (∀ a x, ((![v6475] : Fin 1 → IVec S16 32) a x).toNat < S4096.size a)
theorem k0_idx1200_inb : ∀ (v6475 : IVec S16 32) (k0_hw1200 : k0_chk1200 v6475), ∀ a x, ((![v6475] : Fin 1 → IVec S16 32) a x).toNat < S4096.size a := fun v6475 k0_hw1200 => k0_hw1200

def k0_chk1201 (v6480 : IVec S16 32) : Prop :=
  (∀ a x, ((![v6480] : Fin 1 → IVec S16 32) a x).toNat < S4096.size a)
theorem k0_idx1201_inb : ∀ (v6480 : IVec S16 32) (k0_hw1201 : k0_chk1201 v6480), ∀ a x, ((![v6480] : Fin 1 → IVec S16 32) a x).toNat < S4096.size a := fun v6480 k0_hw1201 => k0_hw1201

def k0_chk1202 (v6485 : IVec S16 32) : Prop :=
  (∀ a x, ((![v6485] : Fin 1 → IVec S16 32) a x).toNat < S4096.size a)
theorem k0_idx1202_inb : ∀ (v6485 : IVec S16 32) (k0_hw1202 : k0_chk1202 v6485), ∀ a x, ((![v6485] : Fin 1 → IVec S16 32) a x).toNat < S4096.size a := fun v6485 k0_hw1202 => k0_hw1202

def k0_chk1203 (v6490 : IVec S16 32) : Prop :=
  (∀ a x, ((![v6490] : Fin 1 → IVec S16 32) a x).toNat < S4096.size a)
theorem k0_idx1203_inb : ∀ (v6490 : IVec S16 32) (k0_hw1203 : k0_chk1203 v6490), ∀ a x, ((![v6490] : Fin 1 → IVec S16 32) a x).toNat < S4096.size a := fun v6490 k0_hw1203 => k0_hw1203

def k0_chk1204 (v6495 : IVec S16 32) : Prop :=
  (∀ a x, ((![v6495] : Fin 1 → IVec S16 32) a x).toNat < S4096.size a)
theorem k0_idx1204_inb : ∀ (v6495 : IVec S16 32) (k0_hw1204 : k0_chk1204 v6495), ∀ a x, ((![v6495] : Fin 1 → IVec S16 32) a x).toNat < S4096.size a := fun v6495 k0_hw1204 => k0_hw1204

def k0_chk1205 (v6500 : IVec S16 32) : Prop :=
  (∀ a x, ((![v6500] : Fin 1 → IVec S16 32) a x).toNat < S4096.size a)
theorem k0_idx1205_inb : ∀ (v6500 : IVec S16 32) (k0_hw1205 : k0_chk1205 v6500), ∀ a x, ((![v6500] : Fin 1 → IVec S16 32) a x).toNat < S4096.size a := fun v6500 k0_hw1205 => k0_hw1205

def k0_chk1206 (v6505 : IVec S16 32) : Prop :=
  (∀ a x, ((![v6505] : Fin 1 → IVec S16 32) a x).toNat < S4096.size a)
theorem k0_idx1206_inb : ∀ (v6505 : IVec S16 32) (k0_hw1206 : k0_chk1206 v6505), ∀ a x, ((![v6505] : Fin 1 → IVec S16 32) a x).toNat < S4096.size a := fun v6505 k0_hw1206 => k0_hw1206

def k0_chk1207 (v6510 : IVec S16 32) : Prop :=
  (∀ a x, ((![v6510] : Fin 1 → IVec S16 32) a x).toNat < S4096.size a)
theorem k0_idx1207_inb : ∀ (v6510 : IVec S16 32) (k0_hw1207 : k0_chk1207 v6510), ∀ a x, ((![v6510] : Fin 1 → IVec S16 32) a x).toNat < S4096.size a := fun v6510 k0_hw1207 => k0_hw1207

def k0_chk1208 (v6515 : IVec S16 32) : Prop :=
  (∀ a x, ((![v6515] : Fin 1 → IVec S16 32) a x).toNat < S4096.size a)
theorem k0_idx1208_inb : ∀ (v6515 : IVec S16 32) (k0_hw1208 : k0_chk1208 v6515), ∀ a x, ((![v6515] : Fin 1 → IVec S16 32) a x).toNat < S4096.size a := fun v6515 k0_hw1208 => k0_hw1208

def k0_chk1209 (v6520 : IVec S16 32) : Prop :=
  (∀ a x, ((![v6520] : Fin 1 → IVec S16 32) a x).toNat < S4096.size a)
theorem k0_idx1209_inb : ∀ (v6520 : IVec S16 32) (k0_hw1209 : k0_chk1209 v6520), ∀ a x, ((![v6520] : Fin 1 → IVec S16 32) a x).toNat < S4096.size a := fun v6520 k0_hw1209 => k0_hw1209

def k0_chk1210 (v6525 : IVec S16 32) : Prop :=
  (∀ a x, ((![v6525] : Fin 1 → IVec S16 32) a x).toNat < S4096.size a)
theorem k0_idx1210_inb : ∀ (v6525 : IVec S16 32) (k0_hw1210 : k0_chk1210 v6525), ∀ a x, ((![v6525] : Fin 1 → IVec S16 32) a x).toNat < S4096.size a := fun v6525 k0_hw1210 => k0_hw1210

def k0_chk1211 (v6530 : IVec S16 32) : Prop :=
  (∀ a x, ((![v6530] : Fin 1 → IVec S16 32) a x).toNat < S4096.size a)
theorem k0_idx1211_inb : ∀ (v6530 : IVec S16 32) (k0_hw1211 : k0_chk1211 v6530), ∀ a x, ((![v6530] : Fin 1 → IVec S16 32) a x).toNat < S4096.size a := fun v6530 k0_hw1211 => k0_hw1211

def k0_chk1212 (v6535 : IVec S16 32) : Prop :=
  (∀ a x, ((![v6535] : Fin 1 → IVec S16 32) a x).toNat < S4096.size a)
theorem k0_idx1212_inb : ∀ (v6535 : IVec S16 32) (k0_hw1212 : k0_chk1212 v6535), ∀ a x, ((![v6535] : Fin 1 → IVec S16 32) a x).toNat < S4096.size a := fun v6535 k0_hw1212 => k0_hw1212

def k0_chk1213 (v6540 : IVec S16 32) : Prop :=
  (∀ a x, ((![v6540] : Fin 1 → IVec S16 32) a x).toNat < S4096.size a)
theorem k0_idx1213_inb : ∀ (v6540 : IVec S16 32) (k0_hw1213 : k0_chk1213 v6540), ∀ a x, ((![v6540] : Fin 1 → IVec S16 32) a x).toNat < S4096.size a := fun v6540 k0_hw1213 => k0_hw1213

def k0_chk1214 (v6542 : IVec S16 32) : Prop :=
  (∀ a x, ((![v6542] : Fin 1 → IVec S16 32) a x).toNat < S4096.size a)
theorem k0_idx1214_inb : ∀ (v6542 : IVec S16 32) (k0_hw1214 : k0_chk1214 v6542), ∀ a x, ((![v6542] : Fin 1 → IVec S16 32) a x).toNat < S4096.size a := fun v6542 k0_hw1214 => k0_hw1214

def k0_chk1215 (v6544 : IVec S16 32) : Prop :=
  (∀ a x, ((![v6544] : Fin 1 → IVec S16 32) a x).toNat < S4096.size a)
theorem k0_idx1215_inb : ∀ (v6544 : IVec S16 32) (k0_hw1215 : k0_chk1215 v6544), ∀ a x, ((![v6544] : Fin 1 → IVec S16 32) a x).toNat < S4096.size a := fun v6544 k0_hw1215 => k0_hw1215

def k0_chk1216 (v6546 : IVec S16 32) : Prop :=
  (∀ a x, ((![v6546] : Fin 1 → IVec S16 32) a x).toNat < S4096.size a)
theorem k0_idx1216_inb : ∀ (v6546 : IVec S16 32) (k0_hw1216 : k0_chk1216 v6546), ∀ a x, ((![v6546] : Fin 1 → IVec S16 32) a x).toNat < S4096.size a := fun v6546 k0_hw1216 => k0_hw1216
def k0_off45 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_4907 : BitVec 32 := 512#32
  let v6547 : BitVec 32 := Scalar.muli v5574 c512_i32_4907
  let c96_i32_4908 : BitVec 32 := 96#32
  let v6548 : BitVec 32 := Scalar.addi v6547 c96_i32_4908
  let v6549 : Index := Scalar.indexCast v6548
  ![v6549.toNat]

def k0_chk1217 (v6550 : IVec S16 32) : Prop :=
  (∀ a x, ((![v6550] : Fin 1 → IVec S16 32) a x).toNat < S4096.size a)
theorem k0_idx1217_inb : ∀ (v6550 : IVec S16 32) (k0_hw1217 : k0_chk1217 v6550), ∀ a x, ((![v6550] : Fin 1 → IVec S16 32) a x).toNat < S4096.size a := fun v6550 k0_hw1217 => k0_hw1217

def k0_chk1218 (v6567 : IVec S16 32) : Prop :=
  (∀ a x, ((![v6567] : Fin 1 → IVec S16 32) a x).toNat < S4096.size a)
theorem k0_idx1218_inb : ∀ (v6567 : IVec S16 32) (k0_hw1218 : k0_chk1218 v6567), ∀ a x, ((![v6567] : Fin 1 → IVec S16 32) a x).toNat < S4096.size a := fun v6567 k0_hw1218 => k0_hw1218

def k0_chk1219 (v6572 : IVec S16 32) : Prop :=
  (∀ a x, ((![v6572] : Fin 1 → IVec S16 32) a x).toNat < S4096.size a)
theorem k0_idx1219_inb : ∀ (v6572 : IVec S16 32) (k0_hw1219 : k0_chk1219 v6572), ∀ a x, ((![v6572] : Fin 1 → IVec S16 32) a x).toNat < S4096.size a := fun v6572 k0_hw1219 => k0_hw1219

def k0_chk1220 (v6577 : IVec S16 32) : Prop :=
  (∀ a x, ((![v6577] : Fin 1 → IVec S16 32) a x).toNat < S4096.size a)
theorem k0_idx1220_inb : ∀ (v6577 : IVec S16 32) (k0_hw1220 : k0_chk1220 v6577), ∀ a x, ((![v6577] : Fin 1 → IVec S16 32) a x).toNat < S4096.size a := fun v6577 k0_hw1220 => k0_hw1220

def k0_chk1221 (v6582 : IVec S16 32) : Prop :=
  (∀ a x, ((![v6582] : Fin 1 → IVec S16 32) a x).toNat < S4096.size a)
theorem k0_idx1221_inb : ∀ (v6582 : IVec S16 32) (k0_hw1221 : k0_chk1221 v6582), ∀ a x, ((![v6582] : Fin 1 → IVec S16 32) a x).toNat < S4096.size a := fun v6582 k0_hw1221 => k0_hw1221

def k0_chk1222 (v6587 : IVec S16 32) : Prop :=
  (∀ a x, ((![v6587] : Fin 1 → IVec S16 32) a x).toNat < S4096.size a)
theorem k0_idx1222_inb : ∀ (v6587 : IVec S16 32) (k0_hw1222 : k0_chk1222 v6587), ∀ a x, ((![v6587] : Fin 1 → IVec S16 32) a x).toNat < S4096.size a := fun v6587 k0_hw1222 => k0_hw1222

def k0_chk1223 (v6592 : IVec S16 32) : Prop :=
  (∀ a x, ((![v6592] : Fin 1 → IVec S16 32) a x).toNat < S4096.size a)
theorem k0_idx1223_inb : ∀ (v6592 : IVec S16 32) (k0_hw1223 : k0_chk1223 v6592), ∀ a x, ((![v6592] : Fin 1 → IVec S16 32) a x).toNat < S4096.size a := fun v6592 k0_hw1223 => k0_hw1223

def k0_chk1224 (v6597 : IVec S16 32) : Prop :=
  (∀ a x, ((![v6597] : Fin 1 → IVec S16 32) a x).toNat < S4096.size a)
theorem k0_idx1224_inb : ∀ (v6597 : IVec S16 32) (k0_hw1224 : k0_chk1224 v6597), ∀ a x, ((![v6597] : Fin 1 → IVec S16 32) a x).toNat < S4096.size a := fun v6597 k0_hw1224 => k0_hw1224

def k0_chk1225 (v6602 : IVec S16 32) : Prop :=
  (∀ a x, ((![v6602] : Fin 1 → IVec S16 32) a x).toNat < S4096.size a)
theorem k0_idx1225_inb : ∀ (v6602 : IVec S16 32) (k0_hw1225 : k0_chk1225 v6602), ∀ a x, ((![v6602] : Fin 1 → IVec S16 32) a x).toNat < S4096.size a := fun v6602 k0_hw1225 => k0_hw1225

def k0_chk1226 (v6607 : IVec S16 32) : Prop :=
  (∀ a x, ((![v6607] : Fin 1 → IVec S16 32) a x).toNat < S4096.size a)
theorem k0_idx1226_inb : ∀ (v6607 : IVec S16 32) (k0_hw1226 : k0_chk1226 v6607), ∀ a x, ((![v6607] : Fin 1 → IVec S16 32) a x).toNat < S4096.size a := fun v6607 k0_hw1226 => k0_hw1226

def k0_chk1227 (v6612 : IVec S16 32) : Prop :=
  (∀ a x, ((![v6612] : Fin 1 → IVec S16 32) a x).toNat < S4096.size a)
theorem k0_idx1227_inb : ∀ (v6612 : IVec S16 32) (k0_hw1227 : k0_chk1227 v6612), ∀ a x, ((![v6612] : Fin 1 → IVec S16 32) a x).toNat < S4096.size a := fun v6612 k0_hw1227 => k0_hw1227

def k0_chk1228 (v6617 : IVec S16 32) : Prop :=
  (∀ a x, ((![v6617] : Fin 1 → IVec S16 32) a x).toNat < S4096.size a)
theorem k0_idx1228_inb : ∀ (v6617 : IVec S16 32) (k0_hw1228 : k0_chk1228 v6617), ∀ a x, ((![v6617] : Fin 1 → IVec S16 32) a x).toNat < S4096.size a := fun v6617 k0_hw1228 => k0_hw1228

def k0_chk1229 (v6622 : IVec S16 32) : Prop :=
  (∀ a x, ((![v6622] : Fin 1 → IVec S16 32) a x).toNat < S4096.size a)
theorem k0_idx1229_inb : ∀ (v6622 : IVec S16 32) (k0_hw1229 : k0_chk1229 v6622), ∀ a x, ((![v6622] : Fin 1 → IVec S16 32) a x).toNat < S4096.size a := fun v6622 k0_hw1229 => k0_hw1229

def k0_chk1230 (v6627 : IVec S16 32) : Prop :=
  (∀ a x, ((![v6627] : Fin 1 → IVec S16 32) a x).toNat < S4096.size a)
theorem k0_idx1230_inb : ∀ (v6627 : IVec S16 32) (k0_hw1230 : k0_chk1230 v6627), ∀ a x, ((![v6627] : Fin 1 → IVec S16 32) a x).toNat < S4096.size a := fun v6627 k0_hw1230 => k0_hw1230

def k0_chk1231 (v6632 : IVec S16 32) : Prop :=
  (∀ a x, ((![v6632] : Fin 1 → IVec S16 32) a x).toNat < S4096.size a)
theorem k0_idx1231_inb : ∀ (v6632 : IVec S16 32) (k0_hw1231 : k0_chk1231 v6632), ∀ a x, ((![v6632] : Fin 1 → IVec S16 32) a x).toNat < S4096.size a := fun v6632 k0_hw1231 => k0_hw1231

def k0_chk1232 (v6637 : IVec S16 32) : Prop :=
  (∀ a x, ((![v6637] : Fin 1 → IVec S16 32) a x).toNat < S4096.size a)
theorem k0_idx1232_inb : ∀ (v6637 : IVec S16 32) (k0_hw1232 : k0_chk1232 v6637), ∀ a x, ((![v6637] : Fin 1 → IVec S16 32) a x).toNat < S4096.size a := fun v6637 k0_hw1232 => k0_hw1232

def k0_chk1233 (v6642 : IVec S16 32) : Prop :=
  (∀ a x, ((![v6642] : Fin 1 → IVec S16 32) a x).toNat < S4096.size a)
theorem k0_idx1233_inb : ∀ (v6642 : IVec S16 32) (k0_hw1233 : k0_chk1233 v6642), ∀ a x, ((![v6642] : Fin 1 → IVec S16 32) a x).toNat < S4096.size a := fun v6642 k0_hw1233 => k0_hw1233

def k0_chk1234 (v6647 : IVec S16 32) : Prop :=
  (∀ a x, ((![v6647] : Fin 1 → IVec S16 32) a x).toNat < S4096.size a)
theorem k0_idx1234_inb : ∀ (v6647 : IVec S16 32) (k0_hw1234 : k0_chk1234 v6647), ∀ a x, ((![v6647] : Fin 1 → IVec S16 32) a x).toNat < S4096.size a := fun v6647 k0_hw1234 => k0_hw1234

def k0_chk1235 (v6652 : IVec S16 32) : Prop :=
  (∀ a x, ((![v6652] : Fin 1 → IVec S16 32) a x).toNat < S4096.size a)
theorem k0_idx1235_inb : ∀ (v6652 : IVec S16 32) (k0_hw1235 : k0_chk1235 v6652), ∀ a x, ((![v6652] : Fin 1 → IVec S16 32) a x).toNat < S4096.size a := fun v6652 k0_hw1235 => k0_hw1235

def k0_chk1236 (v6657 : IVec S16 32) : Prop :=
  (∀ a x, ((![v6657] : Fin 1 → IVec S16 32) a x).toNat < S4096.size a)
theorem k0_idx1236_inb : ∀ (v6657 : IVec S16 32) (k0_hw1236 : k0_chk1236 v6657), ∀ a x, ((![v6657] : Fin 1 → IVec S16 32) a x).toNat < S4096.size a := fun v6657 k0_hw1236 => k0_hw1236

def k0_chk1237 (v6662 : IVec S16 32) : Prop :=
  (∀ a x, ((![v6662] : Fin 1 → IVec S16 32) a x).toNat < S4096.size a)
theorem k0_idx1237_inb : ∀ (v6662 : IVec S16 32) (k0_hw1237 : k0_chk1237 v6662), ∀ a x, ((![v6662] : Fin 1 → IVec S16 32) a x).toNat < S4096.size a := fun v6662 k0_hw1237 => k0_hw1237

def k0_chk1238 (v6667 : IVec S16 32) : Prop :=
  (∀ a x, ((![v6667] : Fin 1 → IVec S16 32) a x).toNat < S4096.size a)
theorem k0_idx1238_inb : ∀ (v6667 : IVec S16 32) (k0_hw1238 : k0_chk1238 v6667), ∀ a x, ((![v6667] : Fin 1 → IVec S16 32) a x).toNat < S4096.size a := fun v6667 k0_hw1238 => k0_hw1238

def k0_chk1239 (v6672 : IVec S16 32) : Prop :=
  (∀ a x, ((![v6672] : Fin 1 → IVec S16 32) a x).toNat < S4096.size a)
theorem k0_idx1239_inb : ∀ (v6672 : IVec S16 32) (k0_hw1239 : k0_chk1239 v6672), ∀ a x, ((![v6672] : Fin 1 → IVec S16 32) a x).toNat < S4096.size a := fun v6672 k0_hw1239 => k0_hw1239

def k0_chk1240 (v6677 : IVec S16 32) : Prop :=
  (∀ a x, ((![v6677] : Fin 1 → IVec S16 32) a x).toNat < S4096.size a)
theorem k0_idx1240_inb : ∀ (v6677 : IVec S16 32) (k0_hw1240 : k0_chk1240 v6677), ∀ a x, ((![v6677] : Fin 1 → IVec S16 32) a x).toNat < S4096.size a := fun v6677 k0_hw1240 => k0_hw1240

def k0_chk1241 (v6682 : IVec S16 32) : Prop :=
  (∀ a x, ((![v6682] : Fin 1 → IVec S16 32) a x).toNat < S4096.size a)
theorem k0_idx1241_inb : ∀ (v6682 : IVec S16 32) (k0_hw1241 : k0_chk1241 v6682), ∀ a x, ((![v6682] : Fin 1 → IVec S16 32) a x).toNat < S4096.size a := fun v6682 k0_hw1241 => k0_hw1241

def k0_chk1242 (v6687 : IVec S16 32) : Prop :=
  (∀ a x, ((![v6687] : Fin 1 → IVec S16 32) a x).toNat < S4096.size a)
theorem k0_idx1242_inb : ∀ (v6687 : IVec S16 32) (k0_hw1242 : k0_chk1242 v6687), ∀ a x, ((![v6687] : Fin 1 → IVec S16 32) a x).toNat < S4096.size a := fun v6687 k0_hw1242 => k0_hw1242

def k0_chk1243 (v6692 : IVec S16 32) : Prop :=
  (∀ a x, ((![v6692] : Fin 1 → IVec S16 32) a x).toNat < S4096.size a)
theorem k0_idx1243_inb : ∀ (v6692 : IVec S16 32) (k0_hw1243 : k0_chk1243 v6692), ∀ a x, ((![v6692] : Fin 1 → IVec S16 32) a x).toNat < S4096.size a := fun v6692 k0_hw1243 => k0_hw1243

def k0_chk1244 (v6697 : IVec S16 32) : Prop :=
  (∀ a x, ((![v6697] : Fin 1 → IVec S16 32) a x).toNat < S4096.size a)
theorem k0_idx1244_inb : ∀ (v6697 : IVec S16 32) (k0_hw1244 : k0_chk1244 v6697), ∀ a x, ((![v6697] : Fin 1 → IVec S16 32) a x).toNat < S4096.size a := fun v6697 k0_hw1244 => k0_hw1244

def k0_chk1245 (v6702 : IVec S16 32) : Prop :=
  (∀ a x, ((![v6702] : Fin 1 → IVec S16 32) a x).toNat < S4096.size a)
theorem k0_idx1245_inb : ∀ (v6702 : IVec S16 32) (k0_hw1245 : k0_chk1245 v6702), ∀ a x, ((![v6702] : Fin 1 → IVec S16 32) a x).toNat < S4096.size a := fun v6702 k0_hw1245 => k0_hw1245

def k0_chk1246 (v6704 : IVec S16 32) : Prop :=
  (∀ a x, ((![v6704] : Fin 1 → IVec S16 32) a x).toNat < S4096.size a)
theorem k0_idx1246_inb : ∀ (v6704 : IVec S16 32) (k0_hw1246 : k0_chk1246 v6704), ∀ a x, ((![v6704] : Fin 1 → IVec S16 32) a x).toNat < S4096.size a := fun v6704 k0_hw1246 => k0_hw1246

def k0_chk1247 (v6706 : IVec S16 32) : Prop :=
  (∀ a x, ((![v6706] : Fin 1 → IVec S16 32) a x).toNat < S4096.size a)
theorem k0_idx1247_inb : ∀ (v6706 : IVec S16 32) (k0_hw1247 : k0_chk1247 v6706), ∀ a x, ((![v6706] : Fin 1 → IVec S16 32) a x).toNat < S4096.size a := fun v6706 k0_hw1247 => k0_hw1247

def k0_chk1248 (v6708 : IVec S16 32) : Prop :=
  (∀ a x, ((![v6708] : Fin 1 → IVec S16 32) a x).toNat < S4096.size a)
theorem k0_idx1248_inb : ∀ (v6708 : IVec S16 32) (k0_hw1248 : k0_chk1248 v6708), ∀ a x, ((![v6708] : Fin 1 → IVec S16 32) a x).toNat < S4096.size a := fun v6708 k0_hw1248 => k0_hw1248
def k0_off46 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5036 : BitVec 32 := 512#32
  let v6709 : BitVec 32 := Scalar.muli v5574 c512_i32_5036
  let c112_i32_5037 : BitVec 32 := 112#32
  let v6710 : BitVec 32 := Scalar.addi v6709 c112_i32_5037
  let v6711 : Index := Scalar.indexCast v6710
  ![v6711.toNat]

def k0_chk1249 (v6712 : IVec S16 32) : Prop :=
  (∀ a x, ((![v6712] : Fin 1 → IVec S16 32) a x).toNat < S4096.size a)
theorem k0_idx1249_inb : ∀ (v6712 : IVec S16 32) (k0_hw1249 : k0_chk1249 v6712), ∀ a x, ((![v6712] : Fin 1 → IVec S16 32) a x).toNat < S4096.size a := fun v6712 k0_hw1249 => k0_hw1249

def k0_chk1250 (v6729 : IVec S16 32) : Prop :=
  (∀ a x, ((![v6729] : Fin 1 → IVec S16 32) a x).toNat < S4096.size a)
theorem k0_idx1250_inb : ∀ (v6729 : IVec S16 32) (k0_hw1250 : k0_chk1250 v6729), ∀ a x, ((![v6729] : Fin 1 → IVec S16 32) a x).toNat < S4096.size a := fun v6729 k0_hw1250 => k0_hw1250

def k0_chk1251 (v6734 : IVec S16 32) : Prop :=
  (∀ a x, ((![v6734] : Fin 1 → IVec S16 32) a x).toNat < S4096.size a)
theorem k0_idx1251_inb : ∀ (v6734 : IVec S16 32) (k0_hw1251 : k0_chk1251 v6734), ∀ a x, ((![v6734] : Fin 1 → IVec S16 32) a x).toNat < S4096.size a := fun v6734 k0_hw1251 => k0_hw1251

def k0_chk1252 (v6739 : IVec S16 32) : Prop :=
  (∀ a x, ((![v6739] : Fin 1 → IVec S16 32) a x).toNat < S4096.size a)
theorem k0_idx1252_inb : ∀ (v6739 : IVec S16 32) (k0_hw1252 : k0_chk1252 v6739), ∀ a x, ((![v6739] : Fin 1 → IVec S16 32) a x).toNat < S4096.size a := fun v6739 k0_hw1252 => k0_hw1252

def k0_chk1253 (v6744 : IVec S16 32) : Prop :=
  (∀ a x, ((![v6744] : Fin 1 → IVec S16 32) a x).toNat < S4096.size a)
theorem k0_idx1253_inb : ∀ (v6744 : IVec S16 32) (k0_hw1253 : k0_chk1253 v6744), ∀ a x, ((![v6744] : Fin 1 → IVec S16 32) a x).toNat < S4096.size a := fun v6744 k0_hw1253 => k0_hw1253

def k0_chk1254 (v6749 : IVec S16 32) : Prop :=
  (∀ a x, ((![v6749] : Fin 1 → IVec S16 32) a x).toNat < S4096.size a)
theorem k0_idx1254_inb : ∀ (v6749 : IVec S16 32) (k0_hw1254 : k0_chk1254 v6749), ∀ a x, ((![v6749] : Fin 1 → IVec S16 32) a x).toNat < S4096.size a := fun v6749 k0_hw1254 => k0_hw1254

def k0_chk1255 (v6754 : IVec S16 32) : Prop :=
  (∀ a x, ((![v6754] : Fin 1 → IVec S16 32) a x).toNat < S4096.size a)
theorem k0_idx1255_inb : ∀ (v6754 : IVec S16 32) (k0_hw1255 : k0_chk1255 v6754), ∀ a x, ((![v6754] : Fin 1 → IVec S16 32) a x).toNat < S4096.size a := fun v6754 k0_hw1255 => k0_hw1255

def k0_chk1256 (v6759 : IVec S16 32) : Prop :=
  (∀ a x, ((![v6759] : Fin 1 → IVec S16 32) a x).toNat < S4096.size a)
theorem k0_idx1256_inb : ∀ (v6759 : IVec S16 32) (k0_hw1256 : k0_chk1256 v6759), ∀ a x, ((![v6759] : Fin 1 → IVec S16 32) a x).toNat < S4096.size a := fun v6759 k0_hw1256 => k0_hw1256

def k0_chk1257 (v6764 : IVec S16 32) : Prop :=
  (∀ a x, ((![v6764] : Fin 1 → IVec S16 32) a x).toNat < S4096.size a)
theorem k0_idx1257_inb : ∀ (v6764 : IVec S16 32) (k0_hw1257 : k0_chk1257 v6764), ∀ a x, ((![v6764] : Fin 1 → IVec S16 32) a x).toNat < S4096.size a := fun v6764 k0_hw1257 => k0_hw1257

def k0_chk1258 (v6769 : IVec S16 32) : Prop :=
  (∀ a x, ((![v6769] : Fin 1 → IVec S16 32) a x).toNat < S4096.size a)
theorem k0_idx1258_inb : ∀ (v6769 : IVec S16 32) (k0_hw1258 : k0_chk1258 v6769), ∀ a x, ((![v6769] : Fin 1 → IVec S16 32) a x).toNat < S4096.size a := fun v6769 k0_hw1258 => k0_hw1258

def k0_chk1259 (v6774 : IVec S16 32) : Prop :=
  (∀ a x, ((![v6774] : Fin 1 → IVec S16 32) a x).toNat < S4096.size a)
theorem k0_idx1259_inb : ∀ (v6774 : IVec S16 32) (k0_hw1259 : k0_chk1259 v6774), ∀ a x, ((![v6774] : Fin 1 → IVec S16 32) a x).toNat < S4096.size a := fun v6774 k0_hw1259 => k0_hw1259

def k0_chk1260 (v6779 : IVec S16 32) : Prop :=
  (∀ a x, ((![v6779] : Fin 1 → IVec S16 32) a x).toNat < S4096.size a)
theorem k0_idx1260_inb : ∀ (v6779 : IVec S16 32) (k0_hw1260 : k0_chk1260 v6779), ∀ a x, ((![v6779] : Fin 1 → IVec S16 32) a x).toNat < S4096.size a := fun v6779 k0_hw1260 => k0_hw1260

def k0_chk1261 (v6784 : IVec S16 32) : Prop :=
  (∀ a x, ((![v6784] : Fin 1 → IVec S16 32) a x).toNat < S4096.size a)
theorem k0_idx1261_inb : ∀ (v6784 : IVec S16 32) (k0_hw1261 : k0_chk1261 v6784), ∀ a x, ((![v6784] : Fin 1 → IVec S16 32) a x).toNat < S4096.size a := fun v6784 k0_hw1261 => k0_hw1261

def k0_chk1262 (v6789 : IVec S16 32) : Prop :=
  (∀ a x, ((![v6789] : Fin 1 → IVec S16 32) a x).toNat < S4096.size a)
theorem k0_idx1262_inb : ∀ (v6789 : IVec S16 32) (k0_hw1262 : k0_chk1262 v6789), ∀ a x, ((![v6789] : Fin 1 → IVec S16 32) a x).toNat < S4096.size a := fun v6789 k0_hw1262 => k0_hw1262

def k0_chk1263 (v6794 : IVec S16 32) : Prop :=
  (∀ a x, ((![v6794] : Fin 1 → IVec S16 32) a x).toNat < S4096.size a)
theorem k0_idx1263_inb : ∀ (v6794 : IVec S16 32) (k0_hw1263 : k0_chk1263 v6794), ∀ a x, ((![v6794] : Fin 1 → IVec S16 32) a x).toNat < S4096.size a := fun v6794 k0_hw1263 => k0_hw1263

def k0_chk1264 (v6799 : IVec S16 32) : Prop :=
  (∀ a x, ((![v6799] : Fin 1 → IVec S16 32) a x).toNat < S4096.size a)
theorem k0_idx1264_inb : ∀ (v6799 : IVec S16 32) (k0_hw1264 : k0_chk1264 v6799), ∀ a x, ((![v6799] : Fin 1 → IVec S16 32) a x).toNat < S4096.size a := fun v6799 k0_hw1264 => k0_hw1264

def k0_chk1265 (v6804 : IVec S16 32) : Prop :=
  (∀ a x, ((![v6804] : Fin 1 → IVec S16 32) a x).toNat < S4096.size a)
theorem k0_idx1265_inb : ∀ (v6804 : IVec S16 32) (k0_hw1265 : k0_chk1265 v6804), ∀ a x, ((![v6804] : Fin 1 → IVec S16 32) a x).toNat < S4096.size a := fun v6804 k0_hw1265 => k0_hw1265

def k0_chk1266 (v6809 : IVec S16 32) : Prop :=
  (∀ a x, ((![v6809] : Fin 1 → IVec S16 32) a x).toNat < S4096.size a)
theorem k0_idx1266_inb : ∀ (v6809 : IVec S16 32) (k0_hw1266 : k0_chk1266 v6809), ∀ a x, ((![v6809] : Fin 1 → IVec S16 32) a x).toNat < S4096.size a := fun v6809 k0_hw1266 => k0_hw1266

def k0_chk1267 (v6814 : IVec S16 32) : Prop :=
  (∀ a x, ((![v6814] : Fin 1 → IVec S16 32) a x).toNat < S4096.size a)
theorem k0_idx1267_inb : ∀ (v6814 : IVec S16 32) (k0_hw1267 : k0_chk1267 v6814), ∀ a x, ((![v6814] : Fin 1 → IVec S16 32) a x).toNat < S4096.size a := fun v6814 k0_hw1267 => k0_hw1267

def k0_chk1268 (v6819 : IVec S16 32) : Prop :=
  (∀ a x, ((![v6819] : Fin 1 → IVec S16 32) a x).toNat < S4096.size a)
theorem k0_idx1268_inb : ∀ (v6819 : IVec S16 32) (k0_hw1268 : k0_chk1268 v6819), ∀ a x, ((![v6819] : Fin 1 → IVec S16 32) a x).toNat < S4096.size a := fun v6819 k0_hw1268 => k0_hw1268

def k0_chk1269 (v6824 : IVec S16 32) : Prop :=
  (∀ a x, ((![v6824] : Fin 1 → IVec S16 32) a x).toNat < S4096.size a)
theorem k0_idx1269_inb : ∀ (v6824 : IVec S16 32) (k0_hw1269 : k0_chk1269 v6824), ∀ a x, ((![v6824] : Fin 1 → IVec S16 32) a x).toNat < S4096.size a := fun v6824 k0_hw1269 => k0_hw1269

def k0_chk1270 (v6829 : IVec S16 32) : Prop :=
  (∀ a x, ((![v6829] : Fin 1 → IVec S16 32) a x).toNat < S4096.size a)
theorem k0_idx1270_inb : ∀ (v6829 : IVec S16 32) (k0_hw1270 : k0_chk1270 v6829), ∀ a x, ((![v6829] : Fin 1 → IVec S16 32) a x).toNat < S4096.size a := fun v6829 k0_hw1270 => k0_hw1270

def k0_chk1271 (v6834 : IVec S16 32) : Prop :=
  (∀ a x, ((![v6834] : Fin 1 → IVec S16 32) a x).toNat < S4096.size a)
theorem k0_idx1271_inb : ∀ (v6834 : IVec S16 32) (k0_hw1271 : k0_chk1271 v6834), ∀ a x, ((![v6834] : Fin 1 → IVec S16 32) a x).toNat < S4096.size a := fun v6834 k0_hw1271 => k0_hw1271

def k0_chk1272 (v6839 : IVec S16 32) : Prop :=
  (∀ a x, ((![v6839] : Fin 1 → IVec S16 32) a x).toNat < S4096.size a)
theorem k0_idx1272_inb : ∀ (v6839 : IVec S16 32) (k0_hw1272 : k0_chk1272 v6839), ∀ a x, ((![v6839] : Fin 1 → IVec S16 32) a x).toNat < S4096.size a := fun v6839 k0_hw1272 => k0_hw1272

def k0_chk1273 (v6844 : IVec S16 32) : Prop :=
  (∀ a x, ((![v6844] : Fin 1 → IVec S16 32) a x).toNat < S4096.size a)
theorem k0_idx1273_inb : ∀ (v6844 : IVec S16 32) (k0_hw1273 : k0_chk1273 v6844), ∀ a x, ((![v6844] : Fin 1 → IVec S16 32) a x).toNat < S4096.size a := fun v6844 k0_hw1273 => k0_hw1273

def k0_chk1274 (v6849 : IVec S16 32) : Prop :=
  (∀ a x, ((![v6849] : Fin 1 → IVec S16 32) a x).toNat < S4096.size a)
theorem k0_idx1274_inb : ∀ (v6849 : IVec S16 32) (k0_hw1274 : k0_chk1274 v6849), ∀ a x, ((![v6849] : Fin 1 → IVec S16 32) a x).toNat < S4096.size a := fun v6849 k0_hw1274 => k0_hw1274

def k0_chk1275 (v6854 : IVec S16 32) : Prop :=
  (∀ a x, ((![v6854] : Fin 1 → IVec S16 32) a x).toNat < S4096.size a)
theorem k0_idx1275_inb : ∀ (v6854 : IVec S16 32) (k0_hw1275 : k0_chk1275 v6854), ∀ a x, ((![v6854] : Fin 1 → IVec S16 32) a x).toNat < S4096.size a := fun v6854 k0_hw1275 => k0_hw1275

def k0_chk1276 (v6859 : IVec S16 32) : Prop :=
  (∀ a x, ((![v6859] : Fin 1 → IVec S16 32) a x).toNat < S4096.size a)
theorem k0_idx1276_inb : ∀ (v6859 : IVec S16 32) (k0_hw1276 : k0_chk1276 v6859), ∀ a x, ((![v6859] : Fin 1 → IVec S16 32) a x).toNat < S4096.size a := fun v6859 k0_hw1276 => k0_hw1276

def k0_chk1277 (v6864 : IVec S16 32) : Prop :=
  (∀ a x, ((![v6864] : Fin 1 → IVec S16 32) a x).toNat < S4096.size a)
theorem k0_idx1277_inb : ∀ (v6864 : IVec S16 32) (k0_hw1277 : k0_chk1277 v6864), ∀ a x, ((![v6864] : Fin 1 → IVec S16 32) a x).toNat < S4096.size a := fun v6864 k0_hw1277 => k0_hw1277

def k0_chk1278 (v6866 : IVec S16 32) : Prop :=
  (∀ a x, ((![v6866] : Fin 1 → IVec S16 32) a x).toNat < S4096.size a)
theorem k0_idx1278_inb : ∀ (v6866 : IVec S16 32) (k0_hw1278 : k0_chk1278 v6866), ∀ a x, ((![v6866] : Fin 1 → IVec S16 32) a x).toNat < S4096.size a := fun v6866 k0_hw1278 => k0_hw1278

def k0_chk1279 (v6868 : IVec S16 32) : Prop :=
  (∀ a x, ((![v6868] : Fin 1 → IVec S16 32) a x).toNat < S4096.size a)
theorem k0_idx1279_inb : ∀ (v6868 : IVec S16 32) (k0_hw1279 : k0_chk1279 v6868), ∀ a x, ((![v6868] : Fin 1 → IVec S16 32) a x).toNat < S4096.size a := fun v6868 k0_hw1279 => k0_hw1279

def k0_chk1280 (v6870 : IVec S16 32) : Prop :=
  (∀ a x, ((![v6870] : Fin 1 → IVec S16 32) a x).toNat < S4096.size a)
theorem k0_idx1280_inb : ∀ (v6870 : IVec S16 32) (k0_hw1280 : k0_chk1280 v6870), ∀ a x, ((![v6870] : Fin 1 → IVec S16 32) a x).toNat < S4096.size a := fun v6870 k0_hw1280 => k0_hw1280
def k0_off47 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5165 : BitVec 32 := 512#32
  let v6871 : BitVec 32 := Scalar.muli v5574 c512_i32_5165
  let c128_i32_5166 : BitVec 32 := 128#32
  let v6872 : BitVec 32 := Scalar.addi v6871 c128_i32_5166
  let v6873 : Index := Scalar.indexCast v6872
  ![v6873.toNat]

def k0_chk1281 (v6874 : IVec S16 32) : Prop :=
  (∀ a x, ((![v6874] : Fin 1 → IVec S16 32) a x).toNat < S4096.size a)
theorem k0_idx1281_inb : ∀ (v6874 : IVec S16 32) (k0_hw1281 : k0_chk1281 v6874), ∀ a x, ((![v6874] : Fin 1 → IVec S16 32) a x).toNat < S4096.size a := fun v6874 k0_hw1281 => k0_hw1281

def k0_chk1282 (v6891 : IVec S16 32) : Prop :=
  (∀ a x, ((![v6891] : Fin 1 → IVec S16 32) a x).toNat < S4096.size a)
theorem k0_idx1282_inb : ∀ (v6891 : IVec S16 32) (k0_hw1282 : k0_chk1282 v6891), ∀ a x, ((![v6891] : Fin 1 → IVec S16 32) a x).toNat < S4096.size a := fun v6891 k0_hw1282 => k0_hw1282

def k0_chk1283 (v6896 : IVec S16 32) : Prop :=
  (∀ a x, ((![v6896] : Fin 1 → IVec S16 32) a x).toNat < S4096.size a)
theorem k0_idx1283_inb : ∀ (v6896 : IVec S16 32) (k0_hw1283 : k0_chk1283 v6896), ∀ a x, ((![v6896] : Fin 1 → IVec S16 32) a x).toNat < S4096.size a := fun v6896 k0_hw1283 => k0_hw1283

def k0_chk1284 (v6901 : IVec S16 32) : Prop :=
  (∀ a x, ((![v6901] : Fin 1 → IVec S16 32) a x).toNat < S4096.size a)
theorem k0_idx1284_inb : ∀ (v6901 : IVec S16 32) (k0_hw1284 : k0_chk1284 v6901), ∀ a x, ((![v6901] : Fin 1 → IVec S16 32) a x).toNat < S4096.size a := fun v6901 k0_hw1284 => k0_hw1284

def k0_chk1285 (v6906 : IVec S16 32) : Prop :=
  (∀ a x, ((![v6906] : Fin 1 → IVec S16 32) a x).toNat < S4096.size a)
theorem k0_idx1285_inb : ∀ (v6906 : IVec S16 32) (k0_hw1285 : k0_chk1285 v6906), ∀ a x, ((![v6906] : Fin 1 → IVec S16 32) a x).toNat < S4096.size a := fun v6906 k0_hw1285 => k0_hw1285

def k0_chk1286 (v6911 : IVec S16 32) : Prop :=
  (∀ a x, ((![v6911] : Fin 1 → IVec S16 32) a x).toNat < S4096.size a)
theorem k0_idx1286_inb : ∀ (v6911 : IVec S16 32) (k0_hw1286 : k0_chk1286 v6911), ∀ a x, ((![v6911] : Fin 1 → IVec S16 32) a x).toNat < S4096.size a := fun v6911 k0_hw1286 => k0_hw1286

def k0_chk1287 (v6916 : IVec S16 32) : Prop :=
  (∀ a x, ((![v6916] : Fin 1 → IVec S16 32) a x).toNat < S4096.size a)
theorem k0_idx1287_inb : ∀ (v6916 : IVec S16 32) (k0_hw1287 : k0_chk1287 v6916), ∀ a x, ((![v6916] : Fin 1 → IVec S16 32) a x).toNat < S4096.size a := fun v6916 k0_hw1287 => k0_hw1287

def k0_chk1288 (v6921 : IVec S16 32) : Prop :=
  (∀ a x, ((![v6921] : Fin 1 → IVec S16 32) a x).toNat < S4096.size a)
theorem k0_idx1288_inb : ∀ (v6921 : IVec S16 32) (k0_hw1288 : k0_chk1288 v6921), ∀ a x, ((![v6921] : Fin 1 → IVec S16 32) a x).toNat < S4096.size a := fun v6921 k0_hw1288 => k0_hw1288

def k0_chk1289 (v6926 : IVec S16 32) : Prop :=
  (∀ a x, ((![v6926] : Fin 1 → IVec S16 32) a x).toNat < S4096.size a)
theorem k0_idx1289_inb : ∀ (v6926 : IVec S16 32) (k0_hw1289 : k0_chk1289 v6926), ∀ a x, ((![v6926] : Fin 1 → IVec S16 32) a x).toNat < S4096.size a := fun v6926 k0_hw1289 => k0_hw1289

def k0_chk1290 (v6931 : IVec S16 32) : Prop :=
  (∀ a x, ((![v6931] : Fin 1 → IVec S16 32) a x).toNat < S4096.size a)
theorem k0_idx1290_inb : ∀ (v6931 : IVec S16 32) (k0_hw1290 : k0_chk1290 v6931), ∀ a x, ((![v6931] : Fin 1 → IVec S16 32) a x).toNat < S4096.size a := fun v6931 k0_hw1290 => k0_hw1290

def k0_chk1291 (v6936 : IVec S16 32) : Prop :=
  (∀ a x, ((![v6936] : Fin 1 → IVec S16 32) a x).toNat < S4096.size a)
theorem k0_idx1291_inb : ∀ (v6936 : IVec S16 32) (k0_hw1291 : k0_chk1291 v6936), ∀ a x, ((![v6936] : Fin 1 → IVec S16 32) a x).toNat < S4096.size a := fun v6936 k0_hw1291 => k0_hw1291

def k0_chk1292 (v6941 : IVec S16 32) : Prop :=
  (∀ a x, ((![v6941] : Fin 1 → IVec S16 32) a x).toNat < S4096.size a)
theorem k0_idx1292_inb : ∀ (v6941 : IVec S16 32) (k0_hw1292 : k0_chk1292 v6941), ∀ a x, ((![v6941] : Fin 1 → IVec S16 32) a x).toNat < S4096.size a := fun v6941 k0_hw1292 => k0_hw1292

def k0_chk1293 (v6946 : IVec S16 32) : Prop :=
  (∀ a x, ((![v6946] : Fin 1 → IVec S16 32) a x).toNat < S4096.size a)
theorem k0_idx1293_inb : ∀ (v6946 : IVec S16 32) (k0_hw1293 : k0_chk1293 v6946), ∀ a x, ((![v6946] : Fin 1 → IVec S16 32) a x).toNat < S4096.size a := fun v6946 k0_hw1293 => k0_hw1293

def k0_chk1294 (v6951 : IVec S16 32) : Prop :=
  (∀ a x, ((![v6951] : Fin 1 → IVec S16 32) a x).toNat < S4096.size a)
theorem k0_idx1294_inb : ∀ (v6951 : IVec S16 32) (k0_hw1294 : k0_chk1294 v6951), ∀ a x, ((![v6951] : Fin 1 → IVec S16 32) a x).toNat < S4096.size a := fun v6951 k0_hw1294 => k0_hw1294

def k0_chk1295 (v6956 : IVec S16 32) : Prop :=
  (∀ a x, ((![v6956] : Fin 1 → IVec S16 32) a x).toNat < S4096.size a)
theorem k0_idx1295_inb : ∀ (v6956 : IVec S16 32) (k0_hw1295 : k0_chk1295 v6956), ∀ a x, ((![v6956] : Fin 1 → IVec S16 32) a x).toNat < S4096.size a := fun v6956 k0_hw1295 => k0_hw1295

def k0_chk1296 (v6961 : IVec S16 32) : Prop :=
  (∀ a x, ((![v6961] : Fin 1 → IVec S16 32) a x).toNat < S4096.size a)
theorem k0_idx1296_inb : ∀ (v6961 : IVec S16 32) (k0_hw1296 : k0_chk1296 v6961), ∀ a x, ((![v6961] : Fin 1 → IVec S16 32) a x).toNat < S4096.size a := fun v6961 k0_hw1296 => k0_hw1296

def k0_chk1297 (v6966 : IVec S16 32) : Prop :=
  (∀ a x, ((![v6966] : Fin 1 → IVec S16 32) a x).toNat < S4096.size a)
theorem k0_idx1297_inb : ∀ (v6966 : IVec S16 32) (k0_hw1297 : k0_chk1297 v6966), ∀ a x, ((![v6966] : Fin 1 → IVec S16 32) a x).toNat < S4096.size a := fun v6966 k0_hw1297 => k0_hw1297

def k0_chk1298 (v6971 : IVec S16 32) : Prop :=
  (∀ a x, ((![v6971] : Fin 1 → IVec S16 32) a x).toNat < S4096.size a)
theorem k0_idx1298_inb : ∀ (v6971 : IVec S16 32) (k0_hw1298 : k0_chk1298 v6971), ∀ a x, ((![v6971] : Fin 1 → IVec S16 32) a x).toNat < S4096.size a := fun v6971 k0_hw1298 => k0_hw1298

def k0_chk1299 (v6976 : IVec S16 32) : Prop :=
  (∀ a x, ((![v6976] : Fin 1 → IVec S16 32) a x).toNat < S4096.size a)
theorem k0_idx1299_inb : ∀ (v6976 : IVec S16 32) (k0_hw1299 : k0_chk1299 v6976), ∀ a x, ((![v6976] : Fin 1 → IVec S16 32) a x).toNat < S4096.size a := fun v6976 k0_hw1299 => k0_hw1299

def k0_chk1300 (v6981 : IVec S16 32) : Prop :=
  (∀ a x, ((![v6981] : Fin 1 → IVec S16 32) a x).toNat < S4096.size a)
theorem k0_idx1300_inb : ∀ (v6981 : IVec S16 32) (k0_hw1300 : k0_chk1300 v6981), ∀ a x, ((![v6981] : Fin 1 → IVec S16 32) a x).toNat < S4096.size a := fun v6981 k0_hw1300 => k0_hw1300

def k0_chk1301 (v6986 : IVec S16 32) : Prop :=
  (∀ a x, ((![v6986] : Fin 1 → IVec S16 32) a x).toNat < S4096.size a)
theorem k0_idx1301_inb : ∀ (v6986 : IVec S16 32) (k0_hw1301 : k0_chk1301 v6986), ∀ a x, ((![v6986] : Fin 1 → IVec S16 32) a x).toNat < S4096.size a := fun v6986 k0_hw1301 => k0_hw1301

def k0_chk1302 (v6991 : IVec S16 32) : Prop :=
  (∀ a x, ((![v6991] : Fin 1 → IVec S16 32) a x).toNat < S4096.size a)
theorem k0_idx1302_inb : ∀ (v6991 : IVec S16 32) (k0_hw1302 : k0_chk1302 v6991), ∀ a x, ((![v6991] : Fin 1 → IVec S16 32) a x).toNat < S4096.size a := fun v6991 k0_hw1302 => k0_hw1302

def k0_chk1303 (v6996 : IVec S16 32) : Prop :=
  (∀ a x, ((![v6996] : Fin 1 → IVec S16 32) a x).toNat < S4096.size a)
theorem k0_idx1303_inb : ∀ (v6996 : IVec S16 32) (k0_hw1303 : k0_chk1303 v6996), ∀ a x, ((![v6996] : Fin 1 → IVec S16 32) a x).toNat < S4096.size a := fun v6996 k0_hw1303 => k0_hw1303

def k0_chk1304 (v7001 : IVec S16 32) : Prop :=
  (∀ a x, ((![v7001] : Fin 1 → IVec S16 32) a x).toNat < S4096.size a)
theorem k0_idx1304_inb : ∀ (v7001 : IVec S16 32) (k0_hw1304 : k0_chk1304 v7001), ∀ a x, ((![v7001] : Fin 1 → IVec S16 32) a x).toNat < S4096.size a := fun v7001 k0_hw1304 => k0_hw1304

def k0_chk1305 (v7006 : IVec S16 32) : Prop :=
  (∀ a x, ((![v7006] : Fin 1 → IVec S16 32) a x).toNat < S4096.size a)
theorem k0_idx1305_inb : ∀ (v7006 : IVec S16 32) (k0_hw1305 : k0_chk1305 v7006), ∀ a x, ((![v7006] : Fin 1 → IVec S16 32) a x).toNat < S4096.size a := fun v7006 k0_hw1305 => k0_hw1305

def k0_chk1306 (v7011 : IVec S16 32) : Prop :=
  (∀ a x, ((![v7011] : Fin 1 → IVec S16 32) a x).toNat < S4096.size a)
theorem k0_idx1306_inb : ∀ (v7011 : IVec S16 32) (k0_hw1306 : k0_chk1306 v7011), ∀ a x, ((![v7011] : Fin 1 → IVec S16 32) a x).toNat < S4096.size a := fun v7011 k0_hw1306 => k0_hw1306

def k0_chk1307 (v7016 : IVec S16 32) : Prop :=
  (∀ a x, ((![v7016] : Fin 1 → IVec S16 32) a x).toNat < S4096.size a)
theorem k0_idx1307_inb : ∀ (v7016 : IVec S16 32) (k0_hw1307 : k0_chk1307 v7016), ∀ a x, ((![v7016] : Fin 1 → IVec S16 32) a x).toNat < S4096.size a := fun v7016 k0_hw1307 => k0_hw1307

def k0_chk1308 (v7021 : IVec S16 32) : Prop :=
  (∀ a x, ((![v7021] : Fin 1 → IVec S16 32) a x).toNat < S4096.size a)
theorem k0_idx1308_inb : ∀ (v7021 : IVec S16 32) (k0_hw1308 : k0_chk1308 v7021), ∀ a x, ((![v7021] : Fin 1 → IVec S16 32) a x).toNat < S4096.size a := fun v7021 k0_hw1308 => k0_hw1308

def k0_chk1309 (v7026 : IVec S16 32) : Prop :=
  (∀ a x, ((![v7026] : Fin 1 → IVec S16 32) a x).toNat < S4096.size a)
theorem k0_idx1309_inb : ∀ (v7026 : IVec S16 32) (k0_hw1309 : k0_chk1309 v7026), ∀ a x, ((![v7026] : Fin 1 → IVec S16 32) a x).toNat < S4096.size a := fun v7026 k0_hw1309 => k0_hw1309

def k0_chk1310 (v7028 : IVec S16 32) : Prop :=
  (∀ a x, ((![v7028] : Fin 1 → IVec S16 32) a x).toNat < S4096.size a)
theorem k0_idx1310_inb : ∀ (v7028 : IVec S16 32) (k0_hw1310 : k0_chk1310 v7028), ∀ a x, ((![v7028] : Fin 1 → IVec S16 32) a x).toNat < S4096.size a := fun v7028 k0_hw1310 => k0_hw1310

def k0_chk1311 (v7030 : IVec S16 32) : Prop :=
  (∀ a x, ((![v7030] : Fin 1 → IVec S16 32) a x).toNat < S4096.size a)
theorem k0_idx1311_inb : ∀ (v7030 : IVec S16 32) (k0_hw1311 : k0_chk1311 v7030), ∀ a x, ((![v7030] : Fin 1 → IVec S16 32) a x).toNat < S4096.size a := fun v7030 k0_hw1311 => k0_hw1311

def k0_chk1312 (v7032 : IVec S16 32) : Prop :=
  (∀ a x, ((![v7032] : Fin 1 → IVec S16 32) a x).toNat < S4096.size a)
theorem k0_idx1312_inb : ∀ (v7032 : IVec S16 32) (k0_hw1312 : k0_chk1312 v7032), ∀ a x, ((![v7032] : Fin 1 → IVec S16 32) a x).toNat < S4096.size a := fun v7032 k0_hw1312 => k0_hw1312
def k0_off48 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5294 : BitVec 32 := 512#32
  let v7033 : BitVec 32 := Scalar.muli v5574 c512_i32_5294
  let c144_i32_5295 : BitVec 32 := 144#32
  let v7034 : BitVec 32 := Scalar.addi v7033 c144_i32_5295
  let v7035 : Index := Scalar.indexCast v7034
  ![v7035.toNat]

def k0_chk1313 (v7036 : IVec S16 32) : Prop :=
  (∀ a x, ((![v7036] : Fin 1 → IVec S16 32) a x).toNat < S4096.size a)
theorem k0_idx1313_inb : ∀ (v7036 : IVec S16 32) (k0_hw1313 : k0_chk1313 v7036), ∀ a x, ((![v7036] : Fin 1 → IVec S16 32) a x).toNat < S4096.size a := fun v7036 k0_hw1313 => k0_hw1313

def k0_chk1314 (v7053 : IVec S16 32) : Prop :=
  (∀ a x, ((![v7053] : Fin 1 → IVec S16 32) a x).toNat < S4096.size a)
theorem k0_idx1314_inb : ∀ (v7053 : IVec S16 32) (k0_hw1314 : k0_chk1314 v7053), ∀ a x, ((![v7053] : Fin 1 → IVec S16 32) a x).toNat < S4096.size a := fun v7053 k0_hw1314 => k0_hw1314

def k0_chk1315 (v7058 : IVec S16 32) : Prop :=
  (∀ a x, ((![v7058] : Fin 1 → IVec S16 32) a x).toNat < S4096.size a)
theorem k0_idx1315_inb : ∀ (v7058 : IVec S16 32) (k0_hw1315 : k0_chk1315 v7058), ∀ a x, ((![v7058] : Fin 1 → IVec S16 32) a x).toNat < S4096.size a := fun v7058 k0_hw1315 => k0_hw1315

def k0_chk1316 (v7063 : IVec S16 32) : Prop :=
  (∀ a x, ((![v7063] : Fin 1 → IVec S16 32) a x).toNat < S4096.size a)
theorem k0_idx1316_inb : ∀ (v7063 : IVec S16 32) (k0_hw1316 : k0_chk1316 v7063), ∀ a x, ((![v7063] : Fin 1 → IVec S16 32) a x).toNat < S4096.size a := fun v7063 k0_hw1316 => k0_hw1316

def k0_chk1317 (v7068 : IVec S16 32) : Prop :=
  (∀ a x, ((![v7068] : Fin 1 → IVec S16 32) a x).toNat < S4096.size a)
theorem k0_idx1317_inb : ∀ (v7068 : IVec S16 32) (k0_hw1317 : k0_chk1317 v7068), ∀ a x, ((![v7068] : Fin 1 → IVec S16 32) a x).toNat < S4096.size a := fun v7068 k0_hw1317 => k0_hw1317

def k0_chk1318 (v7073 : IVec S16 32) : Prop :=
  (∀ a x, ((![v7073] : Fin 1 → IVec S16 32) a x).toNat < S4096.size a)
theorem k0_idx1318_inb : ∀ (v7073 : IVec S16 32) (k0_hw1318 : k0_chk1318 v7073), ∀ a x, ((![v7073] : Fin 1 → IVec S16 32) a x).toNat < S4096.size a := fun v7073 k0_hw1318 => k0_hw1318

def k0_chk1319 (v7078 : IVec S16 32) : Prop :=
  (∀ a x, ((![v7078] : Fin 1 → IVec S16 32) a x).toNat < S4096.size a)
theorem k0_idx1319_inb : ∀ (v7078 : IVec S16 32) (k0_hw1319 : k0_chk1319 v7078), ∀ a x, ((![v7078] : Fin 1 → IVec S16 32) a x).toNat < S4096.size a := fun v7078 k0_hw1319 => k0_hw1319

def k0_chk1320 (v7083 : IVec S16 32) : Prop :=
  (∀ a x, ((![v7083] : Fin 1 → IVec S16 32) a x).toNat < S4096.size a)
theorem k0_idx1320_inb : ∀ (v7083 : IVec S16 32) (k0_hw1320 : k0_chk1320 v7083), ∀ a x, ((![v7083] : Fin 1 → IVec S16 32) a x).toNat < S4096.size a := fun v7083 k0_hw1320 => k0_hw1320

def k0_chk1321 (v7088 : IVec S16 32) : Prop :=
  (∀ a x, ((![v7088] : Fin 1 → IVec S16 32) a x).toNat < S4096.size a)
theorem k0_idx1321_inb : ∀ (v7088 : IVec S16 32) (k0_hw1321 : k0_chk1321 v7088), ∀ a x, ((![v7088] : Fin 1 → IVec S16 32) a x).toNat < S4096.size a := fun v7088 k0_hw1321 => k0_hw1321

def k0_chk1322 (v7093 : IVec S16 32) : Prop :=
  (∀ a x, ((![v7093] : Fin 1 → IVec S16 32) a x).toNat < S4096.size a)
theorem k0_idx1322_inb : ∀ (v7093 : IVec S16 32) (k0_hw1322 : k0_chk1322 v7093), ∀ a x, ((![v7093] : Fin 1 → IVec S16 32) a x).toNat < S4096.size a := fun v7093 k0_hw1322 => k0_hw1322

def k0_chk1323 (v7098 : IVec S16 32) : Prop :=
  (∀ a x, ((![v7098] : Fin 1 → IVec S16 32) a x).toNat < S4096.size a)
theorem k0_idx1323_inb : ∀ (v7098 : IVec S16 32) (k0_hw1323 : k0_chk1323 v7098), ∀ a x, ((![v7098] : Fin 1 → IVec S16 32) a x).toNat < S4096.size a := fun v7098 k0_hw1323 => k0_hw1323

def k0_chk1324 (v7103 : IVec S16 32) : Prop :=
  (∀ a x, ((![v7103] : Fin 1 → IVec S16 32) a x).toNat < S4096.size a)
theorem k0_idx1324_inb : ∀ (v7103 : IVec S16 32) (k0_hw1324 : k0_chk1324 v7103), ∀ a x, ((![v7103] : Fin 1 → IVec S16 32) a x).toNat < S4096.size a := fun v7103 k0_hw1324 => k0_hw1324

def k0_chk1325 (v7108 : IVec S16 32) : Prop :=
  (∀ a x, ((![v7108] : Fin 1 → IVec S16 32) a x).toNat < S4096.size a)
theorem k0_idx1325_inb : ∀ (v7108 : IVec S16 32) (k0_hw1325 : k0_chk1325 v7108), ∀ a x, ((![v7108] : Fin 1 → IVec S16 32) a x).toNat < S4096.size a := fun v7108 k0_hw1325 => k0_hw1325

def k0_chk1326 (v7113 : IVec S16 32) : Prop :=
  (∀ a x, ((![v7113] : Fin 1 → IVec S16 32) a x).toNat < S4096.size a)
theorem k0_idx1326_inb : ∀ (v7113 : IVec S16 32) (k0_hw1326 : k0_chk1326 v7113), ∀ a x, ((![v7113] : Fin 1 → IVec S16 32) a x).toNat < S4096.size a := fun v7113 k0_hw1326 => k0_hw1326

def k0_chk1327 (v7118 : IVec S16 32) : Prop :=
  (∀ a x, ((![v7118] : Fin 1 → IVec S16 32) a x).toNat < S4096.size a)
theorem k0_idx1327_inb : ∀ (v7118 : IVec S16 32) (k0_hw1327 : k0_chk1327 v7118), ∀ a x, ((![v7118] : Fin 1 → IVec S16 32) a x).toNat < S4096.size a := fun v7118 k0_hw1327 => k0_hw1327

def k0_chk1328 (v7123 : IVec S16 32) : Prop :=
  (∀ a x, ((![v7123] : Fin 1 → IVec S16 32) a x).toNat < S4096.size a)
theorem k0_idx1328_inb : ∀ (v7123 : IVec S16 32) (k0_hw1328 : k0_chk1328 v7123), ∀ a x, ((![v7123] : Fin 1 → IVec S16 32) a x).toNat < S4096.size a := fun v7123 k0_hw1328 => k0_hw1328

def k0_chk1329 (v7128 : IVec S16 32) : Prop :=
  (∀ a x, ((![v7128] : Fin 1 → IVec S16 32) a x).toNat < S4096.size a)
theorem k0_idx1329_inb : ∀ (v7128 : IVec S16 32) (k0_hw1329 : k0_chk1329 v7128), ∀ a x, ((![v7128] : Fin 1 → IVec S16 32) a x).toNat < S4096.size a := fun v7128 k0_hw1329 => k0_hw1329

def k0_chk1330 (v7133 : IVec S16 32) : Prop :=
  (∀ a x, ((![v7133] : Fin 1 → IVec S16 32) a x).toNat < S4096.size a)
theorem k0_idx1330_inb : ∀ (v7133 : IVec S16 32) (k0_hw1330 : k0_chk1330 v7133), ∀ a x, ((![v7133] : Fin 1 → IVec S16 32) a x).toNat < S4096.size a := fun v7133 k0_hw1330 => k0_hw1330

def k0_chk1331 (v7138 : IVec S16 32) : Prop :=
  (∀ a x, ((![v7138] : Fin 1 → IVec S16 32) a x).toNat < S4096.size a)
theorem k0_idx1331_inb : ∀ (v7138 : IVec S16 32) (k0_hw1331 : k0_chk1331 v7138), ∀ a x, ((![v7138] : Fin 1 → IVec S16 32) a x).toNat < S4096.size a := fun v7138 k0_hw1331 => k0_hw1331

def k0_chk1332 (v7143 : IVec S16 32) : Prop :=
  (∀ a x, ((![v7143] : Fin 1 → IVec S16 32) a x).toNat < S4096.size a)
theorem k0_idx1332_inb : ∀ (v7143 : IVec S16 32) (k0_hw1332 : k0_chk1332 v7143), ∀ a x, ((![v7143] : Fin 1 → IVec S16 32) a x).toNat < S4096.size a := fun v7143 k0_hw1332 => k0_hw1332

def k0_chk1333 (v7148 : IVec S16 32) : Prop :=
  (∀ a x, ((![v7148] : Fin 1 → IVec S16 32) a x).toNat < S4096.size a)
theorem k0_idx1333_inb : ∀ (v7148 : IVec S16 32) (k0_hw1333 : k0_chk1333 v7148), ∀ a x, ((![v7148] : Fin 1 → IVec S16 32) a x).toNat < S4096.size a := fun v7148 k0_hw1333 => k0_hw1333

def k0_chk1334 (v7153 : IVec S16 32) : Prop :=
  (∀ a x, ((![v7153] : Fin 1 → IVec S16 32) a x).toNat < S4096.size a)
theorem k0_idx1334_inb : ∀ (v7153 : IVec S16 32) (k0_hw1334 : k0_chk1334 v7153), ∀ a x, ((![v7153] : Fin 1 → IVec S16 32) a x).toNat < S4096.size a := fun v7153 k0_hw1334 => k0_hw1334

def k0_chk1335 (v7158 : IVec S16 32) : Prop :=
  (∀ a x, ((![v7158] : Fin 1 → IVec S16 32) a x).toNat < S4096.size a)
theorem k0_idx1335_inb : ∀ (v7158 : IVec S16 32) (k0_hw1335 : k0_chk1335 v7158), ∀ a x, ((![v7158] : Fin 1 → IVec S16 32) a x).toNat < S4096.size a := fun v7158 k0_hw1335 => k0_hw1335

def k0_chk1336 (v7163 : IVec S16 32) : Prop :=
  (∀ a x, ((![v7163] : Fin 1 → IVec S16 32) a x).toNat < S4096.size a)
theorem k0_idx1336_inb : ∀ (v7163 : IVec S16 32) (k0_hw1336 : k0_chk1336 v7163), ∀ a x, ((![v7163] : Fin 1 → IVec S16 32) a x).toNat < S4096.size a := fun v7163 k0_hw1336 => k0_hw1336

def k0_chk1337 (v7168 : IVec S16 32) : Prop :=
  (∀ a x, ((![v7168] : Fin 1 → IVec S16 32) a x).toNat < S4096.size a)
theorem k0_idx1337_inb : ∀ (v7168 : IVec S16 32) (k0_hw1337 : k0_chk1337 v7168), ∀ a x, ((![v7168] : Fin 1 → IVec S16 32) a x).toNat < S4096.size a := fun v7168 k0_hw1337 => k0_hw1337

def k0_chk1338 (v7173 : IVec S16 32) : Prop :=
  (∀ a x, ((![v7173] : Fin 1 → IVec S16 32) a x).toNat < S4096.size a)
theorem k0_idx1338_inb : ∀ (v7173 : IVec S16 32) (k0_hw1338 : k0_chk1338 v7173), ∀ a x, ((![v7173] : Fin 1 → IVec S16 32) a x).toNat < S4096.size a := fun v7173 k0_hw1338 => k0_hw1338

def k0_chk1339 (v7178 : IVec S16 32) : Prop :=
  (∀ a x, ((![v7178] : Fin 1 → IVec S16 32) a x).toNat < S4096.size a)
theorem k0_idx1339_inb : ∀ (v7178 : IVec S16 32) (k0_hw1339 : k0_chk1339 v7178), ∀ a x, ((![v7178] : Fin 1 → IVec S16 32) a x).toNat < S4096.size a := fun v7178 k0_hw1339 => k0_hw1339

def k0_chk1340 (v7183 : IVec S16 32) : Prop :=
  (∀ a x, ((![v7183] : Fin 1 → IVec S16 32) a x).toNat < S4096.size a)
theorem k0_idx1340_inb : ∀ (v7183 : IVec S16 32) (k0_hw1340 : k0_chk1340 v7183), ∀ a x, ((![v7183] : Fin 1 → IVec S16 32) a x).toNat < S4096.size a := fun v7183 k0_hw1340 => k0_hw1340

def k0_chk1341 (v7188 : IVec S16 32) : Prop :=
  (∀ a x, ((![v7188] : Fin 1 → IVec S16 32) a x).toNat < S4096.size a)
theorem k0_idx1341_inb : ∀ (v7188 : IVec S16 32) (k0_hw1341 : k0_chk1341 v7188), ∀ a x, ((![v7188] : Fin 1 → IVec S16 32) a x).toNat < S4096.size a := fun v7188 k0_hw1341 => k0_hw1341

def k0_chk1342 (v7190 : IVec S16 32) : Prop :=
  (∀ a x, ((![v7190] : Fin 1 → IVec S16 32) a x).toNat < S4096.size a)
theorem k0_idx1342_inb : ∀ (v7190 : IVec S16 32) (k0_hw1342 : k0_chk1342 v7190), ∀ a x, ((![v7190] : Fin 1 → IVec S16 32) a x).toNat < S4096.size a := fun v7190 k0_hw1342 => k0_hw1342

def k0_chk1343 (v7192 : IVec S16 32) : Prop :=
  (∀ a x, ((![v7192] : Fin 1 → IVec S16 32) a x).toNat < S4096.size a)
theorem k0_idx1343_inb : ∀ (v7192 : IVec S16 32) (k0_hw1343 : k0_chk1343 v7192), ∀ a x, ((![v7192] : Fin 1 → IVec S16 32) a x).toNat < S4096.size a := fun v7192 k0_hw1343 => k0_hw1343

def k0_chk1344 (v7194 : IVec S16 32) : Prop :=
  (∀ a x, ((![v7194] : Fin 1 → IVec S16 32) a x).toNat < S4096.size a)
theorem k0_idx1344_inb : ∀ (v7194 : IVec S16 32) (k0_hw1344 : k0_chk1344 v7194), ∀ a x, ((![v7194] : Fin 1 → IVec S16 32) a x).toNat < S4096.size a := fun v7194 k0_hw1344 => k0_hw1344
def k0_off49 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5423 : BitVec 32 := 512#32
  let v7195 : BitVec 32 := Scalar.muli v5574 c512_i32_5423
  let c160_i32_5424 : BitVec 32 := 160#32
  let v7196 : BitVec 32 := Scalar.addi v7195 c160_i32_5424
  let v7197 : Index := Scalar.indexCast v7196
  ![v7197.toNat]

def k0_chk1345 (v7198 : IVec S16 32) : Prop :=
  (∀ a x, ((![v7198] : Fin 1 → IVec S16 32) a x).toNat < S4096.size a)
theorem k0_idx1345_inb : ∀ (v7198 : IVec S16 32) (k0_hw1345 : k0_chk1345 v7198), ∀ a x, ((![v7198] : Fin 1 → IVec S16 32) a x).toNat < S4096.size a := fun v7198 k0_hw1345 => k0_hw1345

def k0_chk1346 (v7215 : IVec S16 32) : Prop :=
  (∀ a x, ((![v7215] : Fin 1 → IVec S16 32) a x).toNat < S4096.size a)
theorem k0_idx1346_inb : ∀ (v7215 : IVec S16 32) (k0_hw1346 : k0_chk1346 v7215), ∀ a x, ((![v7215] : Fin 1 → IVec S16 32) a x).toNat < S4096.size a := fun v7215 k0_hw1346 => k0_hw1346

def k0_chk1347 (v7220 : IVec S16 32) : Prop :=
  (∀ a x, ((![v7220] : Fin 1 → IVec S16 32) a x).toNat < S4096.size a)
theorem k0_idx1347_inb : ∀ (v7220 : IVec S16 32) (k0_hw1347 : k0_chk1347 v7220), ∀ a x, ((![v7220] : Fin 1 → IVec S16 32) a x).toNat < S4096.size a := fun v7220 k0_hw1347 => k0_hw1347

def k0_chk1348 (v7225 : IVec S16 32) : Prop :=
  (∀ a x, ((![v7225] : Fin 1 → IVec S16 32) a x).toNat < S4096.size a)
theorem k0_idx1348_inb : ∀ (v7225 : IVec S16 32) (k0_hw1348 : k0_chk1348 v7225), ∀ a x, ((![v7225] : Fin 1 → IVec S16 32) a x).toNat < S4096.size a := fun v7225 k0_hw1348 => k0_hw1348

def k0_chk1349 (v7230 : IVec S16 32) : Prop :=
  (∀ a x, ((![v7230] : Fin 1 → IVec S16 32) a x).toNat < S4096.size a)
theorem k0_idx1349_inb : ∀ (v7230 : IVec S16 32) (k0_hw1349 : k0_chk1349 v7230), ∀ a x, ((![v7230] : Fin 1 → IVec S16 32) a x).toNat < S4096.size a := fun v7230 k0_hw1349 => k0_hw1349

def k0_chk1350 (v7235 : IVec S16 32) : Prop :=
  (∀ a x, ((![v7235] : Fin 1 → IVec S16 32) a x).toNat < S4096.size a)
theorem k0_idx1350_inb : ∀ (v7235 : IVec S16 32) (k0_hw1350 : k0_chk1350 v7235), ∀ a x, ((![v7235] : Fin 1 → IVec S16 32) a x).toNat < S4096.size a := fun v7235 k0_hw1350 => k0_hw1350

def k0_chk1351 (v7240 : IVec S16 32) : Prop :=
  (∀ a x, ((![v7240] : Fin 1 → IVec S16 32) a x).toNat < S4096.size a)
theorem k0_idx1351_inb : ∀ (v7240 : IVec S16 32) (k0_hw1351 : k0_chk1351 v7240), ∀ a x, ((![v7240] : Fin 1 → IVec S16 32) a x).toNat < S4096.size a := fun v7240 k0_hw1351 => k0_hw1351

def k0_chk1352 (v7245 : IVec S16 32) : Prop :=
  (∀ a x, ((![v7245] : Fin 1 → IVec S16 32) a x).toNat < S4096.size a)
theorem k0_idx1352_inb : ∀ (v7245 : IVec S16 32) (k0_hw1352 : k0_chk1352 v7245), ∀ a x, ((![v7245] : Fin 1 → IVec S16 32) a x).toNat < S4096.size a := fun v7245 k0_hw1352 => k0_hw1352

def k0_chk1353 (v7250 : IVec S16 32) : Prop :=
  (∀ a x, ((![v7250] : Fin 1 → IVec S16 32) a x).toNat < S4096.size a)
theorem k0_idx1353_inb : ∀ (v7250 : IVec S16 32) (k0_hw1353 : k0_chk1353 v7250), ∀ a x, ((![v7250] : Fin 1 → IVec S16 32) a x).toNat < S4096.size a := fun v7250 k0_hw1353 => k0_hw1353

def k0_chk1354 (v7255 : IVec S16 32) : Prop :=
  (∀ a x, ((![v7255] : Fin 1 → IVec S16 32) a x).toNat < S4096.size a)
theorem k0_idx1354_inb : ∀ (v7255 : IVec S16 32) (k0_hw1354 : k0_chk1354 v7255), ∀ a x, ((![v7255] : Fin 1 → IVec S16 32) a x).toNat < S4096.size a := fun v7255 k0_hw1354 => k0_hw1354

def k0_chk1355 (v7260 : IVec S16 32) : Prop :=
  (∀ a x, ((![v7260] : Fin 1 → IVec S16 32) a x).toNat < S4096.size a)
theorem k0_idx1355_inb : ∀ (v7260 : IVec S16 32) (k0_hw1355 : k0_chk1355 v7260), ∀ a x, ((![v7260] : Fin 1 → IVec S16 32) a x).toNat < S4096.size a := fun v7260 k0_hw1355 => k0_hw1355

def k0_chk1356 (v7265 : IVec S16 32) : Prop :=
  (∀ a x, ((![v7265] : Fin 1 → IVec S16 32) a x).toNat < S4096.size a)
theorem k0_idx1356_inb : ∀ (v7265 : IVec S16 32) (k0_hw1356 : k0_chk1356 v7265), ∀ a x, ((![v7265] : Fin 1 → IVec S16 32) a x).toNat < S4096.size a := fun v7265 k0_hw1356 => k0_hw1356

def k0_chk1357 (v7270 : IVec S16 32) : Prop :=
  (∀ a x, ((![v7270] : Fin 1 → IVec S16 32) a x).toNat < S4096.size a)
theorem k0_idx1357_inb : ∀ (v7270 : IVec S16 32) (k0_hw1357 : k0_chk1357 v7270), ∀ a x, ((![v7270] : Fin 1 → IVec S16 32) a x).toNat < S4096.size a := fun v7270 k0_hw1357 => k0_hw1357

def k0_chk1358 (v7275 : IVec S16 32) : Prop :=
  (∀ a x, ((![v7275] : Fin 1 → IVec S16 32) a x).toNat < S4096.size a)
theorem k0_idx1358_inb : ∀ (v7275 : IVec S16 32) (k0_hw1358 : k0_chk1358 v7275), ∀ a x, ((![v7275] : Fin 1 → IVec S16 32) a x).toNat < S4096.size a := fun v7275 k0_hw1358 => k0_hw1358

def k0_chk1359 (v7280 : IVec S16 32) : Prop :=
  (∀ a x, ((![v7280] : Fin 1 → IVec S16 32) a x).toNat < S4096.size a)
theorem k0_idx1359_inb : ∀ (v7280 : IVec S16 32) (k0_hw1359 : k0_chk1359 v7280), ∀ a x, ((![v7280] : Fin 1 → IVec S16 32) a x).toNat < S4096.size a := fun v7280 k0_hw1359 => k0_hw1359

def k0_chk1360 (v7285 : IVec S16 32) : Prop :=
  (∀ a x, ((![v7285] : Fin 1 → IVec S16 32) a x).toNat < S4096.size a)
theorem k0_idx1360_inb : ∀ (v7285 : IVec S16 32) (k0_hw1360 : k0_chk1360 v7285), ∀ a x, ((![v7285] : Fin 1 → IVec S16 32) a x).toNat < S4096.size a := fun v7285 k0_hw1360 => k0_hw1360

def k0_chk1361 (v7290 : IVec S16 32) : Prop :=
  (∀ a x, ((![v7290] : Fin 1 → IVec S16 32) a x).toNat < S4096.size a)
theorem k0_idx1361_inb : ∀ (v7290 : IVec S16 32) (k0_hw1361 : k0_chk1361 v7290), ∀ a x, ((![v7290] : Fin 1 → IVec S16 32) a x).toNat < S4096.size a := fun v7290 k0_hw1361 => k0_hw1361

def k0_chk1362 (v7295 : IVec S16 32) : Prop :=
  (∀ a x, ((![v7295] : Fin 1 → IVec S16 32) a x).toNat < S4096.size a)
theorem k0_idx1362_inb : ∀ (v7295 : IVec S16 32) (k0_hw1362 : k0_chk1362 v7295), ∀ a x, ((![v7295] : Fin 1 → IVec S16 32) a x).toNat < S4096.size a := fun v7295 k0_hw1362 => k0_hw1362

def k0_chk1363 (v7300 : IVec S16 32) : Prop :=
  (∀ a x, ((![v7300] : Fin 1 → IVec S16 32) a x).toNat < S4096.size a)
theorem k0_idx1363_inb : ∀ (v7300 : IVec S16 32) (k0_hw1363 : k0_chk1363 v7300), ∀ a x, ((![v7300] : Fin 1 → IVec S16 32) a x).toNat < S4096.size a := fun v7300 k0_hw1363 => k0_hw1363

def k0_chk1364 (v7305 : IVec S16 32) : Prop :=
  (∀ a x, ((![v7305] : Fin 1 → IVec S16 32) a x).toNat < S4096.size a)
theorem k0_idx1364_inb : ∀ (v7305 : IVec S16 32) (k0_hw1364 : k0_chk1364 v7305), ∀ a x, ((![v7305] : Fin 1 → IVec S16 32) a x).toNat < S4096.size a := fun v7305 k0_hw1364 => k0_hw1364

def k0_chk1365 (v7310 : IVec S16 32) : Prop :=
  (∀ a x, ((![v7310] : Fin 1 → IVec S16 32) a x).toNat < S4096.size a)
theorem k0_idx1365_inb : ∀ (v7310 : IVec S16 32) (k0_hw1365 : k0_chk1365 v7310), ∀ a x, ((![v7310] : Fin 1 → IVec S16 32) a x).toNat < S4096.size a := fun v7310 k0_hw1365 => k0_hw1365

def k0_chk1366 (v7315 : IVec S16 32) : Prop :=
  (∀ a x, ((![v7315] : Fin 1 → IVec S16 32) a x).toNat < S4096.size a)
theorem k0_idx1366_inb : ∀ (v7315 : IVec S16 32) (k0_hw1366 : k0_chk1366 v7315), ∀ a x, ((![v7315] : Fin 1 → IVec S16 32) a x).toNat < S4096.size a := fun v7315 k0_hw1366 => k0_hw1366

def k0_chk1367 (v7320 : IVec S16 32) : Prop :=
  (∀ a x, ((![v7320] : Fin 1 → IVec S16 32) a x).toNat < S4096.size a)
theorem k0_idx1367_inb : ∀ (v7320 : IVec S16 32) (k0_hw1367 : k0_chk1367 v7320), ∀ a x, ((![v7320] : Fin 1 → IVec S16 32) a x).toNat < S4096.size a := fun v7320 k0_hw1367 => k0_hw1367

def k0_chk1368 (v7325 : IVec S16 32) : Prop :=
  (∀ a x, ((![v7325] : Fin 1 → IVec S16 32) a x).toNat < S4096.size a)
theorem k0_idx1368_inb : ∀ (v7325 : IVec S16 32) (k0_hw1368 : k0_chk1368 v7325), ∀ a x, ((![v7325] : Fin 1 → IVec S16 32) a x).toNat < S4096.size a := fun v7325 k0_hw1368 => k0_hw1368

def k0_chk1369 (v7330 : IVec S16 32) : Prop :=
  (∀ a x, ((![v7330] : Fin 1 → IVec S16 32) a x).toNat < S4096.size a)
theorem k0_idx1369_inb : ∀ (v7330 : IVec S16 32) (k0_hw1369 : k0_chk1369 v7330), ∀ a x, ((![v7330] : Fin 1 → IVec S16 32) a x).toNat < S4096.size a := fun v7330 k0_hw1369 => k0_hw1369

def k0_chk1370 (v7335 : IVec S16 32) : Prop :=
  (∀ a x, ((![v7335] : Fin 1 → IVec S16 32) a x).toNat < S4096.size a)
theorem k0_idx1370_inb : ∀ (v7335 : IVec S16 32) (k0_hw1370 : k0_chk1370 v7335), ∀ a x, ((![v7335] : Fin 1 → IVec S16 32) a x).toNat < S4096.size a := fun v7335 k0_hw1370 => k0_hw1370

def k0_chk1371 (v7340 : IVec S16 32) : Prop :=
  (∀ a x, ((![v7340] : Fin 1 → IVec S16 32) a x).toNat < S4096.size a)
theorem k0_idx1371_inb : ∀ (v7340 : IVec S16 32) (k0_hw1371 : k0_chk1371 v7340), ∀ a x, ((![v7340] : Fin 1 → IVec S16 32) a x).toNat < S4096.size a := fun v7340 k0_hw1371 => k0_hw1371

def k0_chk1372 (v7345 : IVec S16 32) : Prop :=
  (∀ a x, ((![v7345] : Fin 1 → IVec S16 32) a x).toNat < S4096.size a)
theorem k0_idx1372_inb : ∀ (v7345 : IVec S16 32) (k0_hw1372 : k0_chk1372 v7345), ∀ a x, ((![v7345] : Fin 1 → IVec S16 32) a x).toNat < S4096.size a := fun v7345 k0_hw1372 => k0_hw1372

def k0_chk1373 (v7350 : IVec S16 32) : Prop :=
  (∀ a x, ((![v7350] : Fin 1 → IVec S16 32) a x).toNat < S4096.size a)
theorem k0_idx1373_inb : ∀ (v7350 : IVec S16 32) (k0_hw1373 : k0_chk1373 v7350), ∀ a x, ((![v7350] : Fin 1 → IVec S16 32) a x).toNat < S4096.size a := fun v7350 k0_hw1373 => k0_hw1373

def k0_chk1374 (v7352 : IVec S16 32) : Prop :=
  (∀ a x, ((![v7352] : Fin 1 → IVec S16 32) a x).toNat < S4096.size a)
theorem k0_idx1374_inb : ∀ (v7352 : IVec S16 32) (k0_hw1374 : k0_chk1374 v7352), ∀ a x, ((![v7352] : Fin 1 → IVec S16 32) a x).toNat < S4096.size a := fun v7352 k0_hw1374 => k0_hw1374

def k0_chk1375 (v7354 : IVec S16 32) : Prop :=
  (∀ a x, ((![v7354] : Fin 1 → IVec S16 32) a x).toNat < S4096.size a)
theorem k0_idx1375_inb : ∀ (v7354 : IVec S16 32) (k0_hw1375 : k0_chk1375 v7354), ∀ a x, ((![v7354] : Fin 1 → IVec S16 32) a x).toNat < S4096.size a := fun v7354 k0_hw1375 => k0_hw1375

def k0_chk1376 (v7356 : IVec S16 32) : Prop :=
  (∀ a x, ((![v7356] : Fin 1 → IVec S16 32) a x).toNat < S4096.size a)
theorem k0_idx1376_inb : ∀ (v7356 : IVec S16 32) (k0_hw1376 : k0_chk1376 v7356), ∀ a x, ((![v7356] : Fin 1 → IVec S16 32) a x).toNat < S4096.size a := fun v7356 k0_hw1376 => k0_hw1376
def k0_off50 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5552 : BitVec 32 := 512#32
  let v7357 : BitVec 32 := Scalar.muli v5574 c512_i32_5552
  let c176_i32_5553 : BitVec 32 := 176#32
  let v7358 : BitVec 32 := Scalar.addi v7357 c176_i32_5553
  let v7359 : Index := Scalar.indexCast v7358
  ![v7359.toNat]

def k0_chk1377 (v7360 : IVec S16 32) : Prop :=
  (∀ a x, ((![v7360] : Fin 1 → IVec S16 32) a x).toNat < S4096.size a)
theorem k0_idx1377_inb : ∀ (v7360 : IVec S16 32) (k0_hw1377 : k0_chk1377 v7360), ∀ a x, ((![v7360] : Fin 1 → IVec S16 32) a x).toNat < S4096.size a := fun v7360 k0_hw1377 => k0_hw1377

def k0_chk1378 (v7377 : IVec S16 32) : Prop :=
  (∀ a x, ((![v7377] : Fin 1 → IVec S16 32) a x).toNat < S4096.size a)
theorem k0_idx1378_inb : ∀ (v7377 : IVec S16 32) (k0_hw1378 : k0_chk1378 v7377), ∀ a x, ((![v7377] : Fin 1 → IVec S16 32) a x).toNat < S4096.size a := fun v7377 k0_hw1378 => k0_hw1378

def k0_chk1379 (v7382 : IVec S16 32) : Prop :=
  (∀ a x, ((![v7382] : Fin 1 → IVec S16 32) a x).toNat < S4096.size a)
theorem k0_idx1379_inb : ∀ (v7382 : IVec S16 32) (k0_hw1379 : k0_chk1379 v7382), ∀ a x, ((![v7382] : Fin 1 → IVec S16 32) a x).toNat < S4096.size a := fun v7382 k0_hw1379 => k0_hw1379

def k0_chk1380 (v7387 : IVec S16 32) : Prop :=
  (∀ a x, ((![v7387] : Fin 1 → IVec S16 32) a x).toNat < S4096.size a)
theorem k0_idx1380_inb : ∀ (v7387 : IVec S16 32) (k0_hw1380 : k0_chk1380 v7387), ∀ a x, ((![v7387] : Fin 1 → IVec S16 32) a x).toNat < S4096.size a := fun v7387 k0_hw1380 => k0_hw1380

def k0_chk1381 (v7392 : IVec S16 32) : Prop :=
  (∀ a x, ((![v7392] : Fin 1 → IVec S16 32) a x).toNat < S4096.size a)
theorem k0_idx1381_inb : ∀ (v7392 : IVec S16 32) (k0_hw1381 : k0_chk1381 v7392), ∀ a x, ((![v7392] : Fin 1 → IVec S16 32) a x).toNat < S4096.size a := fun v7392 k0_hw1381 => k0_hw1381

def k0_chk1382 (v7397 : IVec S16 32) : Prop :=
  (∀ a x, ((![v7397] : Fin 1 → IVec S16 32) a x).toNat < S4096.size a)
theorem k0_idx1382_inb : ∀ (v7397 : IVec S16 32) (k0_hw1382 : k0_chk1382 v7397), ∀ a x, ((![v7397] : Fin 1 → IVec S16 32) a x).toNat < S4096.size a := fun v7397 k0_hw1382 => k0_hw1382

def k0_chk1383 (v7402 : IVec S16 32) : Prop :=
  (∀ a x, ((![v7402] : Fin 1 → IVec S16 32) a x).toNat < S4096.size a)
theorem k0_idx1383_inb : ∀ (v7402 : IVec S16 32) (k0_hw1383 : k0_chk1383 v7402), ∀ a x, ((![v7402] : Fin 1 → IVec S16 32) a x).toNat < S4096.size a := fun v7402 k0_hw1383 => k0_hw1383

def k0_chk1384 (v7407 : IVec S16 32) : Prop :=
  (∀ a x, ((![v7407] : Fin 1 → IVec S16 32) a x).toNat < S4096.size a)
theorem k0_idx1384_inb : ∀ (v7407 : IVec S16 32) (k0_hw1384 : k0_chk1384 v7407), ∀ a x, ((![v7407] : Fin 1 → IVec S16 32) a x).toNat < S4096.size a := fun v7407 k0_hw1384 => k0_hw1384

def k0_chk1385 (v7412 : IVec S16 32) : Prop :=
  (∀ a x, ((![v7412] : Fin 1 → IVec S16 32) a x).toNat < S4096.size a)
theorem k0_idx1385_inb : ∀ (v7412 : IVec S16 32) (k0_hw1385 : k0_chk1385 v7412), ∀ a x, ((![v7412] : Fin 1 → IVec S16 32) a x).toNat < S4096.size a := fun v7412 k0_hw1385 => k0_hw1385

def k0_chk1386 (v7417 : IVec S16 32) : Prop :=
  (∀ a x, ((![v7417] : Fin 1 → IVec S16 32) a x).toNat < S4096.size a)
theorem k0_idx1386_inb : ∀ (v7417 : IVec S16 32) (k0_hw1386 : k0_chk1386 v7417), ∀ a x, ((![v7417] : Fin 1 → IVec S16 32) a x).toNat < S4096.size a := fun v7417 k0_hw1386 => k0_hw1386

def k0_chk1387 (v7422 : IVec S16 32) : Prop :=
  (∀ a x, ((![v7422] : Fin 1 → IVec S16 32) a x).toNat < S4096.size a)
theorem k0_idx1387_inb : ∀ (v7422 : IVec S16 32) (k0_hw1387 : k0_chk1387 v7422), ∀ a x, ((![v7422] : Fin 1 → IVec S16 32) a x).toNat < S4096.size a := fun v7422 k0_hw1387 => k0_hw1387

def k0_chk1388 (v7427 : IVec S16 32) : Prop :=
  (∀ a x, ((![v7427] : Fin 1 → IVec S16 32) a x).toNat < S4096.size a)
theorem k0_idx1388_inb : ∀ (v7427 : IVec S16 32) (k0_hw1388 : k0_chk1388 v7427), ∀ a x, ((![v7427] : Fin 1 → IVec S16 32) a x).toNat < S4096.size a := fun v7427 k0_hw1388 => k0_hw1388

def k0_chk1389 (v7432 : IVec S16 32) : Prop :=
  (∀ a x, ((![v7432] : Fin 1 → IVec S16 32) a x).toNat < S4096.size a)
theorem k0_idx1389_inb : ∀ (v7432 : IVec S16 32) (k0_hw1389 : k0_chk1389 v7432), ∀ a x, ((![v7432] : Fin 1 → IVec S16 32) a x).toNat < S4096.size a := fun v7432 k0_hw1389 => k0_hw1389

def k0_chk1390 (v7437 : IVec S16 32) : Prop :=
  (∀ a x, ((![v7437] : Fin 1 → IVec S16 32) a x).toNat < S4096.size a)
theorem k0_idx1390_inb : ∀ (v7437 : IVec S16 32) (k0_hw1390 : k0_chk1390 v7437), ∀ a x, ((![v7437] : Fin 1 → IVec S16 32) a x).toNat < S4096.size a := fun v7437 k0_hw1390 => k0_hw1390

def k0_chk1391 (v7442 : IVec S16 32) : Prop :=
  (∀ a x, ((![v7442] : Fin 1 → IVec S16 32) a x).toNat < S4096.size a)
theorem k0_idx1391_inb : ∀ (v7442 : IVec S16 32) (k0_hw1391 : k0_chk1391 v7442), ∀ a x, ((![v7442] : Fin 1 → IVec S16 32) a x).toNat < S4096.size a := fun v7442 k0_hw1391 => k0_hw1391

def k0_chk1392 (v7447 : IVec S16 32) : Prop :=
  (∀ a x, ((![v7447] : Fin 1 → IVec S16 32) a x).toNat < S4096.size a)
theorem k0_idx1392_inb : ∀ (v7447 : IVec S16 32) (k0_hw1392 : k0_chk1392 v7447), ∀ a x, ((![v7447] : Fin 1 → IVec S16 32) a x).toNat < S4096.size a := fun v7447 k0_hw1392 => k0_hw1392

def k0_chk1393 (v7452 : IVec S16 32) : Prop :=
  (∀ a x, ((![v7452] : Fin 1 → IVec S16 32) a x).toNat < S4096.size a)
theorem k0_idx1393_inb : ∀ (v7452 : IVec S16 32) (k0_hw1393 : k0_chk1393 v7452), ∀ a x, ((![v7452] : Fin 1 → IVec S16 32) a x).toNat < S4096.size a := fun v7452 k0_hw1393 => k0_hw1393

def k0_chk1394 (v7457 : IVec S16 32) : Prop :=
  (∀ a x, ((![v7457] : Fin 1 → IVec S16 32) a x).toNat < S4096.size a)
theorem k0_idx1394_inb : ∀ (v7457 : IVec S16 32) (k0_hw1394 : k0_chk1394 v7457), ∀ a x, ((![v7457] : Fin 1 → IVec S16 32) a x).toNat < S4096.size a := fun v7457 k0_hw1394 => k0_hw1394

def k0_chk1395 (v7462 : IVec S16 32) : Prop :=
  (∀ a x, ((![v7462] : Fin 1 → IVec S16 32) a x).toNat < S4096.size a)
theorem k0_idx1395_inb : ∀ (v7462 : IVec S16 32) (k0_hw1395 : k0_chk1395 v7462), ∀ a x, ((![v7462] : Fin 1 → IVec S16 32) a x).toNat < S4096.size a := fun v7462 k0_hw1395 => k0_hw1395

def k0_chk1396 (v7467 : IVec S16 32) : Prop :=
  (∀ a x, ((![v7467] : Fin 1 → IVec S16 32) a x).toNat < S4096.size a)
theorem k0_idx1396_inb : ∀ (v7467 : IVec S16 32) (k0_hw1396 : k0_chk1396 v7467), ∀ a x, ((![v7467] : Fin 1 → IVec S16 32) a x).toNat < S4096.size a := fun v7467 k0_hw1396 => k0_hw1396

def k0_chk1397 (v7472 : IVec S16 32) : Prop :=
  (∀ a x, ((![v7472] : Fin 1 → IVec S16 32) a x).toNat < S4096.size a)
theorem k0_idx1397_inb : ∀ (v7472 : IVec S16 32) (k0_hw1397 : k0_chk1397 v7472), ∀ a x, ((![v7472] : Fin 1 → IVec S16 32) a x).toNat < S4096.size a := fun v7472 k0_hw1397 => k0_hw1397

def k0_chk1398 (v7477 : IVec S16 32) : Prop :=
  (∀ a x, ((![v7477] : Fin 1 → IVec S16 32) a x).toNat < S4096.size a)
theorem k0_idx1398_inb : ∀ (v7477 : IVec S16 32) (k0_hw1398 : k0_chk1398 v7477), ∀ a x, ((![v7477] : Fin 1 → IVec S16 32) a x).toNat < S4096.size a := fun v7477 k0_hw1398 => k0_hw1398

def k0_chk1399 (v7482 : IVec S16 32) : Prop :=
  (∀ a x, ((![v7482] : Fin 1 → IVec S16 32) a x).toNat < S4096.size a)
theorem k0_idx1399_inb : ∀ (v7482 : IVec S16 32) (k0_hw1399 : k0_chk1399 v7482), ∀ a x, ((![v7482] : Fin 1 → IVec S16 32) a x).toNat < S4096.size a := fun v7482 k0_hw1399 => k0_hw1399

def k0_chk1400 (v7487 : IVec S16 32) : Prop :=
  (∀ a x, ((![v7487] : Fin 1 → IVec S16 32) a x).toNat < S4096.size a)
theorem k0_idx1400_inb : ∀ (v7487 : IVec S16 32) (k0_hw1400 : k0_chk1400 v7487), ∀ a x, ((![v7487] : Fin 1 → IVec S16 32) a x).toNat < S4096.size a := fun v7487 k0_hw1400 => k0_hw1400

def k0_chk1401 (v7492 : IVec S16 32) : Prop :=
  (∀ a x, ((![v7492] : Fin 1 → IVec S16 32) a x).toNat < S4096.size a)
theorem k0_idx1401_inb : ∀ (v7492 : IVec S16 32) (k0_hw1401 : k0_chk1401 v7492), ∀ a x, ((![v7492] : Fin 1 → IVec S16 32) a x).toNat < S4096.size a := fun v7492 k0_hw1401 => k0_hw1401

def k0_chk1402 (v7497 : IVec S16 32) : Prop :=
  (∀ a x, ((![v7497] : Fin 1 → IVec S16 32) a x).toNat < S4096.size a)
theorem k0_idx1402_inb : ∀ (v7497 : IVec S16 32) (k0_hw1402 : k0_chk1402 v7497), ∀ a x, ((![v7497] : Fin 1 → IVec S16 32) a x).toNat < S4096.size a := fun v7497 k0_hw1402 => k0_hw1402

def k0_chk1403 (v7502 : IVec S16 32) : Prop :=
  (∀ a x, ((![v7502] : Fin 1 → IVec S16 32) a x).toNat < S4096.size a)
theorem k0_idx1403_inb : ∀ (v7502 : IVec S16 32) (k0_hw1403 : k0_chk1403 v7502), ∀ a x, ((![v7502] : Fin 1 → IVec S16 32) a x).toNat < S4096.size a := fun v7502 k0_hw1403 => k0_hw1403

def k0_chk1404 (v7507 : IVec S16 32) : Prop :=
  (∀ a x, ((![v7507] : Fin 1 → IVec S16 32) a x).toNat < S4096.size a)
theorem k0_idx1404_inb : ∀ (v7507 : IVec S16 32) (k0_hw1404 : k0_chk1404 v7507), ∀ a x, ((![v7507] : Fin 1 → IVec S16 32) a x).toNat < S4096.size a := fun v7507 k0_hw1404 => k0_hw1404

def k0_chk1405 (v7512 : IVec S16 32) : Prop :=
  (∀ a x, ((![v7512] : Fin 1 → IVec S16 32) a x).toNat < S4096.size a)
theorem k0_idx1405_inb : ∀ (v7512 : IVec S16 32) (k0_hw1405 : k0_chk1405 v7512), ∀ a x, ((![v7512] : Fin 1 → IVec S16 32) a x).toNat < S4096.size a := fun v7512 k0_hw1405 => k0_hw1405

def k0_chk1406 (v7514 : IVec S16 32) : Prop :=
  (∀ a x, ((![v7514] : Fin 1 → IVec S16 32) a x).toNat < S4096.size a)
theorem k0_idx1406_inb : ∀ (v7514 : IVec S16 32) (k0_hw1406 : k0_chk1406 v7514), ∀ a x, ((![v7514] : Fin 1 → IVec S16 32) a x).toNat < S4096.size a := fun v7514 k0_hw1406 => k0_hw1406

def k0_chk1407 (v7516 : IVec S16 32) : Prop :=
  (∀ a x, ((![v7516] : Fin 1 → IVec S16 32) a x).toNat < S4096.size a)
theorem k0_idx1407_inb : ∀ (v7516 : IVec S16 32) (k0_hw1407 : k0_chk1407 v7516), ∀ a x, ((![v7516] : Fin 1 → IVec S16 32) a x).toNat < S4096.size a := fun v7516 k0_hw1407 => k0_hw1407

def k0_chk1408 (v7518 : IVec S16 32) : Prop :=
  (∀ a x, ((![v7518] : Fin 1 → IVec S16 32) a x).toNat < S4096.size a)
theorem k0_idx1408_inb : ∀ (v7518 : IVec S16 32) (k0_hw1408 : k0_chk1408 v7518), ∀ a x, ((![v7518] : Fin 1 → IVec S16 32) a x).toNat < S4096.size a := fun v7518 k0_hw1408 => k0_hw1408
def k0_off51 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5681 : BitVec 32 := 512#32
  let v7519 : BitVec 32 := Scalar.muli v5574 c512_i32_5681
  let c192_i32_5682 : BitVec 32 := 192#32
  let v7520 : BitVec 32 := Scalar.addi v7519 c192_i32_5682
  let v7521 : Index := Scalar.indexCast v7520
  ![v7521.toNat]

def k0_chk1409 (v7522 : IVec S16 32) : Prop :=
  (∀ a x, ((![v7522] : Fin 1 → IVec S16 32) a x).toNat < S4096.size a)
theorem k0_idx1409_inb : ∀ (v7522 : IVec S16 32) (k0_hw1409 : k0_chk1409 v7522), ∀ a x, ((![v7522] : Fin 1 → IVec S16 32) a x).toNat < S4096.size a := fun v7522 k0_hw1409 => k0_hw1409

def k0_chk1410 (v7539 : IVec S16 32) : Prop :=
  (∀ a x, ((![v7539] : Fin 1 → IVec S16 32) a x).toNat < S4096.size a)
theorem k0_idx1410_inb : ∀ (v7539 : IVec S16 32) (k0_hw1410 : k0_chk1410 v7539), ∀ a x, ((![v7539] : Fin 1 → IVec S16 32) a x).toNat < S4096.size a := fun v7539 k0_hw1410 => k0_hw1410

def k0_chk1411 (v7544 : IVec S16 32) : Prop :=
  (∀ a x, ((![v7544] : Fin 1 → IVec S16 32) a x).toNat < S4096.size a)
theorem k0_idx1411_inb : ∀ (v7544 : IVec S16 32) (k0_hw1411 : k0_chk1411 v7544), ∀ a x, ((![v7544] : Fin 1 → IVec S16 32) a x).toNat < S4096.size a := fun v7544 k0_hw1411 => k0_hw1411

def k0_chk1412 (v7549 : IVec S16 32) : Prop :=
  (∀ a x, ((![v7549] : Fin 1 → IVec S16 32) a x).toNat < S4096.size a)
theorem k0_idx1412_inb : ∀ (v7549 : IVec S16 32) (k0_hw1412 : k0_chk1412 v7549), ∀ a x, ((![v7549] : Fin 1 → IVec S16 32) a x).toNat < S4096.size a := fun v7549 k0_hw1412 => k0_hw1412

def k0_chk1413 (v7554 : IVec S16 32) : Prop :=
  (∀ a x, ((![v7554] : Fin 1 → IVec S16 32) a x).toNat < S4096.size a)
theorem k0_idx1413_inb : ∀ (v7554 : IVec S16 32) (k0_hw1413 : k0_chk1413 v7554), ∀ a x, ((![v7554] : Fin 1 → IVec S16 32) a x).toNat < S4096.size a := fun v7554 k0_hw1413 => k0_hw1413

def k0_chk1414 (v7559 : IVec S16 32) : Prop :=
  (∀ a x, ((![v7559] : Fin 1 → IVec S16 32) a x).toNat < S4096.size a)
theorem k0_idx1414_inb : ∀ (v7559 : IVec S16 32) (k0_hw1414 : k0_chk1414 v7559), ∀ a x, ((![v7559] : Fin 1 → IVec S16 32) a x).toNat < S4096.size a := fun v7559 k0_hw1414 => k0_hw1414

def k0_chk1415 (v7564 : IVec S16 32) : Prop :=
  (∀ a x, ((![v7564] : Fin 1 → IVec S16 32) a x).toNat < S4096.size a)
theorem k0_idx1415_inb : ∀ (v7564 : IVec S16 32) (k0_hw1415 : k0_chk1415 v7564), ∀ a x, ((![v7564] : Fin 1 → IVec S16 32) a x).toNat < S4096.size a := fun v7564 k0_hw1415 => k0_hw1415

def k0_chk1416 (v7569 : IVec S16 32) : Prop :=
  (∀ a x, ((![v7569] : Fin 1 → IVec S16 32) a x).toNat < S4096.size a)
theorem k0_idx1416_inb : ∀ (v7569 : IVec S16 32) (k0_hw1416 : k0_chk1416 v7569), ∀ a x, ((![v7569] : Fin 1 → IVec S16 32) a x).toNat < S4096.size a := fun v7569 k0_hw1416 => k0_hw1416

def k0_chk1417 (v7574 : IVec S16 32) : Prop :=
  (∀ a x, ((![v7574] : Fin 1 → IVec S16 32) a x).toNat < S4096.size a)
theorem k0_idx1417_inb : ∀ (v7574 : IVec S16 32) (k0_hw1417 : k0_chk1417 v7574), ∀ a x, ((![v7574] : Fin 1 → IVec S16 32) a x).toNat < S4096.size a := fun v7574 k0_hw1417 => k0_hw1417

def k0_chk1418 (v7579 : IVec S16 32) : Prop :=
  (∀ a x, ((![v7579] : Fin 1 → IVec S16 32) a x).toNat < S4096.size a)
theorem k0_idx1418_inb : ∀ (v7579 : IVec S16 32) (k0_hw1418 : k0_chk1418 v7579), ∀ a x, ((![v7579] : Fin 1 → IVec S16 32) a x).toNat < S4096.size a := fun v7579 k0_hw1418 => k0_hw1418

def k0_chk1419 (v7584 : IVec S16 32) : Prop :=
  (∀ a x, ((![v7584] : Fin 1 → IVec S16 32) a x).toNat < S4096.size a)
theorem k0_idx1419_inb : ∀ (v7584 : IVec S16 32) (k0_hw1419 : k0_chk1419 v7584), ∀ a x, ((![v7584] : Fin 1 → IVec S16 32) a x).toNat < S4096.size a := fun v7584 k0_hw1419 => k0_hw1419

def k0_chk1420 (v7589 : IVec S16 32) : Prop :=
  (∀ a x, ((![v7589] : Fin 1 → IVec S16 32) a x).toNat < S4096.size a)
theorem k0_idx1420_inb : ∀ (v7589 : IVec S16 32) (k0_hw1420 : k0_chk1420 v7589), ∀ a x, ((![v7589] : Fin 1 → IVec S16 32) a x).toNat < S4096.size a := fun v7589 k0_hw1420 => k0_hw1420

def k0_chk1421 (v7594 : IVec S16 32) : Prop :=
  (∀ a x, ((![v7594] : Fin 1 → IVec S16 32) a x).toNat < S4096.size a)
theorem k0_idx1421_inb : ∀ (v7594 : IVec S16 32) (k0_hw1421 : k0_chk1421 v7594), ∀ a x, ((![v7594] : Fin 1 → IVec S16 32) a x).toNat < S4096.size a := fun v7594 k0_hw1421 => k0_hw1421

def k0_chk1422 (v7599 : IVec S16 32) : Prop :=
  (∀ a x, ((![v7599] : Fin 1 → IVec S16 32) a x).toNat < S4096.size a)
theorem k0_idx1422_inb : ∀ (v7599 : IVec S16 32) (k0_hw1422 : k0_chk1422 v7599), ∀ a x, ((![v7599] : Fin 1 → IVec S16 32) a x).toNat < S4096.size a := fun v7599 k0_hw1422 => k0_hw1422

def k0_chk1423 (v7604 : IVec S16 32) : Prop :=
  (∀ a x, ((![v7604] : Fin 1 → IVec S16 32) a x).toNat < S4096.size a)
theorem k0_idx1423_inb : ∀ (v7604 : IVec S16 32) (k0_hw1423 : k0_chk1423 v7604), ∀ a x, ((![v7604] : Fin 1 → IVec S16 32) a x).toNat < S4096.size a := fun v7604 k0_hw1423 => k0_hw1423

def k0_chk1424 (v7609 : IVec S16 32) : Prop :=
  (∀ a x, ((![v7609] : Fin 1 → IVec S16 32) a x).toNat < S4096.size a)
theorem k0_idx1424_inb : ∀ (v7609 : IVec S16 32) (k0_hw1424 : k0_chk1424 v7609), ∀ a x, ((![v7609] : Fin 1 → IVec S16 32) a x).toNat < S4096.size a := fun v7609 k0_hw1424 => k0_hw1424

def k0_chk1425 (v7614 : IVec S16 32) : Prop :=
  (∀ a x, ((![v7614] : Fin 1 → IVec S16 32) a x).toNat < S4096.size a)
theorem k0_idx1425_inb : ∀ (v7614 : IVec S16 32) (k0_hw1425 : k0_chk1425 v7614), ∀ a x, ((![v7614] : Fin 1 → IVec S16 32) a x).toNat < S4096.size a := fun v7614 k0_hw1425 => k0_hw1425

def k0_chk1426 (v7619 : IVec S16 32) : Prop :=
  (∀ a x, ((![v7619] : Fin 1 → IVec S16 32) a x).toNat < S4096.size a)
theorem k0_idx1426_inb : ∀ (v7619 : IVec S16 32) (k0_hw1426 : k0_chk1426 v7619), ∀ a x, ((![v7619] : Fin 1 → IVec S16 32) a x).toNat < S4096.size a := fun v7619 k0_hw1426 => k0_hw1426

def k0_chk1427 (v7624 : IVec S16 32) : Prop :=
  (∀ a x, ((![v7624] : Fin 1 → IVec S16 32) a x).toNat < S4096.size a)
theorem k0_idx1427_inb : ∀ (v7624 : IVec S16 32) (k0_hw1427 : k0_chk1427 v7624), ∀ a x, ((![v7624] : Fin 1 → IVec S16 32) a x).toNat < S4096.size a := fun v7624 k0_hw1427 => k0_hw1427

def k0_chk1428 (v7629 : IVec S16 32) : Prop :=
  (∀ a x, ((![v7629] : Fin 1 → IVec S16 32) a x).toNat < S4096.size a)
theorem k0_idx1428_inb : ∀ (v7629 : IVec S16 32) (k0_hw1428 : k0_chk1428 v7629), ∀ a x, ((![v7629] : Fin 1 → IVec S16 32) a x).toNat < S4096.size a := fun v7629 k0_hw1428 => k0_hw1428

def k0_chk1429 (v7634 : IVec S16 32) : Prop :=
  (∀ a x, ((![v7634] : Fin 1 → IVec S16 32) a x).toNat < S4096.size a)
theorem k0_idx1429_inb : ∀ (v7634 : IVec S16 32) (k0_hw1429 : k0_chk1429 v7634), ∀ a x, ((![v7634] : Fin 1 → IVec S16 32) a x).toNat < S4096.size a := fun v7634 k0_hw1429 => k0_hw1429

def k0_chk1430 (v7639 : IVec S16 32) : Prop :=
  (∀ a x, ((![v7639] : Fin 1 → IVec S16 32) a x).toNat < S4096.size a)
theorem k0_idx1430_inb : ∀ (v7639 : IVec S16 32) (k0_hw1430 : k0_chk1430 v7639), ∀ a x, ((![v7639] : Fin 1 → IVec S16 32) a x).toNat < S4096.size a := fun v7639 k0_hw1430 => k0_hw1430

def k0_chk1431 (v7644 : IVec S16 32) : Prop :=
  (∀ a x, ((![v7644] : Fin 1 → IVec S16 32) a x).toNat < S4096.size a)
theorem k0_idx1431_inb : ∀ (v7644 : IVec S16 32) (k0_hw1431 : k0_chk1431 v7644), ∀ a x, ((![v7644] : Fin 1 → IVec S16 32) a x).toNat < S4096.size a := fun v7644 k0_hw1431 => k0_hw1431

def k0_chk1432 (v7649 : IVec S16 32) : Prop :=
  (∀ a x, ((![v7649] : Fin 1 → IVec S16 32) a x).toNat < S4096.size a)
theorem k0_idx1432_inb : ∀ (v7649 : IVec S16 32) (k0_hw1432 : k0_chk1432 v7649), ∀ a x, ((![v7649] : Fin 1 → IVec S16 32) a x).toNat < S4096.size a := fun v7649 k0_hw1432 => k0_hw1432

def k0_chk1433 (v7654 : IVec S16 32) : Prop :=
  (∀ a x, ((![v7654] : Fin 1 → IVec S16 32) a x).toNat < S4096.size a)
theorem k0_idx1433_inb : ∀ (v7654 : IVec S16 32) (k0_hw1433 : k0_chk1433 v7654), ∀ a x, ((![v7654] : Fin 1 → IVec S16 32) a x).toNat < S4096.size a := fun v7654 k0_hw1433 => k0_hw1433

def k0_chk1434 (v7659 : IVec S16 32) : Prop :=
  (∀ a x, ((![v7659] : Fin 1 → IVec S16 32) a x).toNat < S4096.size a)
theorem k0_idx1434_inb : ∀ (v7659 : IVec S16 32) (k0_hw1434 : k0_chk1434 v7659), ∀ a x, ((![v7659] : Fin 1 → IVec S16 32) a x).toNat < S4096.size a := fun v7659 k0_hw1434 => k0_hw1434

def k0_chk1435 (v7664 : IVec S16 32) : Prop :=
  (∀ a x, ((![v7664] : Fin 1 → IVec S16 32) a x).toNat < S4096.size a)
theorem k0_idx1435_inb : ∀ (v7664 : IVec S16 32) (k0_hw1435 : k0_chk1435 v7664), ∀ a x, ((![v7664] : Fin 1 → IVec S16 32) a x).toNat < S4096.size a := fun v7664 k0_hw1435 => k0_hw1435

def k0_chk1436 (v7669 : IVec S16 32) : Prop :=
  (∀ a x, ((![v7669] : Fin 1 → IVec S16 32) a x).toNat < S4096.size a)
theorem k0_idx1436_inb : ∀ (v7669 : IVec S16 32) (k0_hw1436 : k0_chk1436 v7669), ∀ a x, ((![v7669] : Fin 1 → IVec S16 32) a x).toNat < S4096.size a := fun v7669 k0_hw1436 => k0_hw1436

def k0_chk1437 (v7674 : IVec S16 32) : Prop :=
  (∀ a x, ((![v7674] : Fin 1 → IVec S16 32) a x).toNat < S4096.size a)
theorem k0_idx1437_inb : ∀ (v7674 : IVec S16 32) (k0_hw1437 : k0_chk1437 v7674), ∀ a x, ((![v7674] : Fin 1 → IVec S16 32) a x).toNat < S4096.size a := fun v7674 k0_hw1437 => k0_hw1437

def k0_chk1438 (v7676 : IVec S16 32) : Prop :=
  (∀ a x, ((![v7676] : Fin 1 → IVec S16 32) a x).toNat < S4096.size a)
theorem k0_idx1438_inb : ∀ (v7676 : IVec S16 32) (k0_hw1438 : k0_chk1438 v7676), ∀ a x, ((![v7676] : Fin 1 → IVec S16 32) a x).toNat < S4096.size a := fun v7676 k0_hw1438 => k0_hw1438

def k0_chk1439 (v7678 : IVec S16 32) : Prop :=
  (∀ a x, ((![v7678] : Fin 1 → IVec S16 32) a x).toNat < S4096.size a)
theorem k0_idx1439_inb : ∀ (v7678 : IVec S16 32) (k0_hw1439 : k0_chk1439 v7678), ∀ a x, ((![v7678] : Fin 1 → IVec S16 32) a x).toNat < S4096.size a := fun v7678 k0_hw1439 => k0_hw1439

def k0_chk1440 (v7680 : IVec S16 32) : Prop :=
  (∀ a x, ((![v7680] : Fin 1 → IVec S16 32) a x).toNat < S4096.size a)
theorem k0_idx1440_inb : ∀ (v7680 : IVec S16 32) (k0_hw1440 : k0_chk1440 v7680), ∀ a x, ((![v7680] : Fin 1 → IVec S16 32) a x).toNat < S4096.size a := fun v7680 k0_hw1440 => k0_hw1440
def k0_off52 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5810 : BitVec 32 := 512#32
  let v7681 : BitVec 32 := Scalar.muli v5574 c512_i32_5810
  let c208_i32_5811 : BitVec 32 := 208#32
  let v7682 : BitVec 32 := Scalar.addi v7681 c208_i32_5811
  let v7683 : Index := Scalar.indexCast v7682
  ![v7683.toNat]

def k0_chk1441 (v7684 : IVec S16 32) : Prop :=
  (∀ a x, ((![v7684] : Fin 1 → IVec S16 32) a x).toNat < S4096.size a)
theorem k0_idx1441_inb : ∀ (v7684 : IVec S16 32) (k0_hw1441 : k0_chk1441 v7684), ∀ a x, ((![v7684] : Fin 1 → IVec S16 32) a x).toNat < S4096.size a := fun v7684 k0_hw1441 => k0_hw1441

def k0_chk1442 (v7701 : IVec S16 32) : Prop :=
  (∀ a x, ((![v7701] : Fin 1 → IVec S16 32) a x).toNat < S4096.size a)
theorem k0_idx1442_inb : ∀ (v7701 : IVec S16 32) (k0_hw1442 : k0_chk1442 v7701), ∀ a x, ((![v7701] : Fin 1 → IVec S16 32) a x).toNat < S4096.size a := fun v7701 k0_hw1442 => k0_hw1442

def k0_chk1443 (v7706 : IVec S16 32) : Prop :=
  (∀ a x, ((![v7706] : Fin 1 → IVec S16 32) a x).toNat < S4096.size a)
theorem k0_idx1443_inb : ∀ (v7706 : IVec S16 32) (k0_hw1443 : k0_chk1443 v7706), ∀ a x, ((![v7706] : Fin 1 → IVec S16 32) a x).toNat < S4096.size a := fun v7706 k0_hw1443 => k0_hw1443

def k0_chk1444 (v7711 : IVec S16 32) : Prop :=
  (∀ a x, ((![v7711] : Fin 1 → IVec S16 32) a x).toNat < S4096.size a)
theorem k0_idx1444_inb : ∀ (v7711 : IVec S16 32) (k0_hw1444 : k0_chk1444 v7711), ∀ a x, ((![v7711] : Fin 1 → IVec S16 32) a x).toNat < S4096.size a := fun v7711 k0_hw1444 => k0_hw1444

def k0_chk1445 (v7716 : IVec S16 32) : Prop :=
  (∀ a x, ((![v7716] : Fin 1 → IVec S16 32) a x).toNat < S4096.size a)
theorem k0_idx1445_inb : ∀ (v7716 : IVec S16 32) (k0_hw1445 : k0_chk1445 v7716), ∀ a x, ((![v7716] : Fin 1 → IVec S16 32) a x).toNat < S4096.size a := fun v7716 k0_hw1445 => k0_hw1445

def k0_chk1446 (v7721 : IVec S16 32) : Prop :=
  (∀ a x, ((![v7721] : Fin 1 → IVec S16 32) a x).toNat < S4096.size a)
theorem k0_idx1446_inb : ∀ (v7721 : IVec S16 32) (k0_hw1446 : k0_chk1446 v7721), ∀ a x, ((![v7721] : Fin 1 → IVec S16 32) a x).toNat < S4096.size a := fun v7721 k0_hw1446 => k0_hw1446

def k0_chk1447 (v7726 : IVec S16 32) : Prop :=
  (∀ a x, ((![v7726] : Fin 1 → IVec S16 32) a x).toNat < S4096.size a)
theorem k0_idx1447_inb : ∀ (v7726 : IVec S16 32) (k0_hw1447 : k0_chk1447 v7726), ∀ a x, ((![v7726] : Fin 1 → IVec S16 32) a x).toNat < S4096.size a := fun v7726 k0_hw1447 => k0_hw1447

def k0_chk1448 (v7731 : IVec S16 32) : Prop :=
  (∀ a x, ((![v7731] : Fin 1 → IVec S16 32) a x).toNat < S4096.size a)
theorem k0_idx1448_inb : ∀ (v7731 : IVec S16 32) (k0_hw1448 : k0_chk1448 v7731), ∀ a x, ((![v7731] : Fin 1 → IVec S16 32) a x).toNat < S4096.size a := fun v7731 k0_hw1448 => k0_hw1448

def k0_chk1449 (v7736 : IVec S16 32) : Prop :=
  (∀ a x, ((![v7736] : Fin 1 → IVec S16 32) a x).toNat < S4096.size a)
theorem k0_idx1449_inb : ∀ (v7736 : IVec S16 32) (k0_hw1449 : k0_chk1449 v7736), ∀ a x, ((![v7736] : Fin 1 → IVec S16 32) a x).toNat < S4096.size a := fun v7736 k0_hw1449 => k0_hw1449

def k0_chk1450 (v7741 : IVec S16 32) : Prop :=
  (∀ a x, ((![v7741] : Fin 1 → IVec S16 32) a x).toNat < S4096.size a)
theorem k0_idx1450_inb : ∀ (v7741 : IVec S16 32) (k0_hw1450 : k0_chk1450 v7741), ∀ a x, ((![v7741] : Fin 1 → IVec S16 32) a x).toNat < S4096.size a := fun v7741 k0_hw1450 => k0_hw1450

def k0_chk1451 (v7746 : IVec S16 32) : Prop :=
  (∀ a x, ((![v7746] : Fin 1 → IVec S16 32) a x).toNat < S4096.size a)
theorem k0_idx1451_inb : ∀ (v7746 : IVec S16 32) (k0_hw1451 : k0_chk1451 v7746), ∀ a x, ((![v7746] : Fin 1 → IVec S16 32) a x).toNat < S4096.size a := fun v7746 k0_hw1451 => k0_hw1451

def k0_chk1452 (v7751 : IVec S16 32) : Prop :=
  (∀ a x, ((![v7751] : Fin 1 → IVec S16 32) a x).toNat < S4096.size a)
theorem k0_idx1452_inb : ∀ (v7751 : IVec S16 32) (k0_hw1452 : k0_chk1452 v7751), ∀ a x, ((![v7751] : Fin 1 → IVec S16 32) a x).toNat < S4096.size a := fun v7751 k0_hw1452 => k0_hw1452

def k0_chk1453 (v7756 : IVec S16 32) : Prop :=
  (∀ a x, ((![v7756] : Fin 1 → IVec S16 32) a x).toNat < S4096.size a)
theorem k0_idx1453_inb : ∀ (v7756 : IVec S16 32) (k0_hw1453 : k0_chk1453 v7756), ∀ a x, ((![v7756] : Fin 1 → IVec S16 32) a x).toNat < S4096.size a := fun v7756 k0_hw1453 => k0_hw1453

def k0_chk1454 (v7761 : IVec S16 32) : Prop :=
  (∀ a x, ((![v7761] : Fin 1 → IVec S16 32) a x).toNat < S4096.size a)
theorem k0_idx1454_inb : ∀ (v7761 : IVec S16 32) (k0_hw1454 : k0_chk1454 v7761), ∀ a x, ((![v7761] : Fin 1 → IVec S16 32) a x).toNat < S4096.size a := fun v7761 k0_hw1454 => k0_hw1454

def k0_chk1455 (v7766 : IVec S16 32) : Prop :=
  (∀ a x, ((![v7766] : Fin 1 → IVec S16 32) a x).toNat < S4096.size a)
theorem k0_idx1455_inb : ∀ (v7766 : IVec S16 32) (k0_hw1455 : k0_chk1455 v7766), ∀ a x, ((![v7766] : Fin 1 → IVec S16 32) a x).toNat < S4096.size a := fun v7766 k0_hw1455 => k0_hw1455

def k0_chk1456 (v7771 : IVec S16 32) : Prop :=
  (∀ a x, ((![v7771] : Fin 1 → IVec S16 32) a x).toNat < S4096.size a)
theorem k0_idx1456_inb : ∀ (v7771 : IVec S16 32) (k0_hw1456 : k0_chk1456 v7771), ∀ a x, ((![v7771] : Fin 1 → IVec S16 32) a x).toNat < S4096.size a := fun v7771 k0_hw1456 => k0_hw1456

def k0_chk1457 (v7776 : IVec S16 32) : Prop :=
  (∀ a x, ((![v7776] : Fin 1 → IVec S16 32) a x).toNat < S4096.size a)
theorem k0_idx1457_inb : ∀ (v7776 : IVec S16 32) (k0_hw1457 : k0_chk1457 v7776), ∀ a x, ((![v7776] : Fin 1 → IVec S16 32) a x).toNat < S4096.size a := fun v7776 k0_hw1457 => k0_hw1457

def k0_chk1458 (v7781 : IVec S16 32) : Prop :=
  (∀ a x, ((![v7781] : Fin 1 → IVec S16 32) a x).toNat < S4096.size a)
theorem k0_idx1458_inb : ∀ (v7781 : IVec S16 32) (k0_hw1458 : k0_chk1458 v7781), ∀ a x, ((![v7781] : Fin 1 → IVec S16 32) a x).toNat < S4096.size a := fun v7781 k0_hw1458 => k0_hw1458

def k0_chk1459 (v7786 : IVec S16 32) : Prop :=
  (∀ a x, ((![v7786] : Fin 1 → IVec S16 32) a x).toNat < S4096.size a)
theorem k0_idx1459_inb : ∀ (v7786 : IVec S16 32) (k0_hw1459 : k0_chk1459 v7786), ∀ a x, ((![v7786] : Fin 1 → IVec S16 32) a x).toNat < S4096.size a := fun v7786 k0_hw1459 => k0_hw1459

def k0_chk1460 (v7791 : IVec S16 32) : Prop :=
  (∀ a x, ((![v7791] : Fin 1 → IVec S16 32) a x).toNat < S4096.size a)
theorem k0_idx1460_inb : ∀ (v7791 : IVec S16 32) (k0_hw1460 : k0_chk1460 v7791), ∀ a x, ((![v7791] : Fin 1 → IVec S16 32) a x).toNat < S4096.size a := fun v7791 k0_hw1460 => k0_hw1460

def k0_chk1461 (v7796 : IVec S16 32) : Prop :=
  (∀ a x, ((![v7796] : Fin 1 → IVec S16 32) a x).toNat < S4096.size a)
theorem k0_idx1461_inb : ∀ (v7796 : IVec S16 32) (k0_hw1461 : k0_chk1461 v7796), ∀ a x, ((![v7796] : Fin 1 → IVec S16 32) a x).toNat < S4096.size a := fun v7796 k0_hw1461 => k0_hw1461

def k0_chk1462 (v7801 : IVec S16 32) : Prop :=
  (∀ a x, ((![v7801] : Fin 1 → IVec S16 32) a x).toNat < S4096.size a)
theorem k0_idx1462_inb : ∀ (v7801 : IVec S16 32) (k0_hw1462 : k0_chk1462 v7801), ∀ a x, ((![v7801] : Fin 1 → IVec S16 32) a x).toNat < S4096.size a := fun v7801 k0_hw1462 => k0_hw1462

def k0_chk1463 (v7806 : IVec S16 32) : Prop :=
  (∀ a x, ((![v7806] : Fin 1 → IVec S16 32) a x).toNat < S4096.size a)
theorem k0_idx1463_inb : ∀ (v7806 : IVec S16 32) (k0_hw1463 : k0_chk1463 v7806), ∀ a x, ((![v7806] : Fin 1 → IVec S16 32) a x).toNat < S4096.size a := fun v7806 k0_hw1463 => k0_hw1463

def k0_chk1464 (v7811 : IVec S16 32) : Prop :=
  (∀ a x, ((![v7811] : Fin 1 → IVec S16 32) a x).toNat < S4096.size a)
theorem k0_idx1464_inb : ∀ (v7811 : IVec S16 32) (k0_hw1464 : k0_chk1464 v7811), ∀ a x, ((![v7811] : Fin 1 → IVec S16 32) a x).toNat < S4096.size a := fun v7811 k0_hw1464 => k0_hw1464

def k0_chk1465 (v7816 : IVec S16 32) : Prop :=
  (∀ a x, ((![v7816] : Fin 1 → IVec S16 32) a x).toNat < S4096.size a)
theorem k0_idx1465_inb : ∀ (v7816 : IVec S16 32) (k0_hw1465 : k0_chk1465 v7816), ∀ a x, ((![v7816] : Fin 1 → IVec S16 32) a x).toNat < S4096.size a := fun v7816 k0_hw1465 => k0_hw1465

def k0_chk1466 (v7821 : IVec S16 32) : Prop :=
  (∀ a x, ((![v7821] : Fin 1 → IVec S16 32) a x).toNat < S4096.size a)
theorem k0_idx1466_inb : ∀ (v7821 : IVec S16 32) (k0_hw1466 : k0_chk1466 v7821), ∀ a x, ((![v7821] : Fin 1 → IVec S16 32) a x).toNat < S4096.size a := fun v7821 k0_hw1466 => k0_hw1466

def k0_chk1467 (v7826 : IVec S16 32) : Prop :=
  (∀ a x, ((![v7826] : Fin 1 → IVec S16 32) a x).toNat < S4096.size a)
theorem k0_idx1467_inb : ∀ (v7826 : IVec S16 32) (k0_hw1467 : k0_chk1467 v7826), ∀ a x, ((![v7826] : Fin 1 → IVec S16 32) a x).toNat < S4096.size a := fun v7826 k0_hw1467 => k0_hw1467

def k0_chk1468 (v7831 : IVec S16 32) : Prop :=
  (∀ a x, ((![v7831] : Fin 1 → IVec S16 32) a x).toNat < S4096.size a)
theorem k0_idx1468_inb : ∀ (v7831 : IVec S16 32) (k0_hw1468 : k0_chk1468 v7831), ∀ a x, ((![v7831] : Fin 1 → IVec S16 32) a x).toNat < S4096.size a := fun v7831 k0_hw1468 => k0_hw1468

def k0_chk1469 (v7836 : IVec S16 32) : Prop :=
  (∀ a x, ((![v7836] : Fin 1 → IVec S16 32) a x).toNat < S4096.size a)
theorem k0_idx1469_inb : ∀ (v7836 : IVec S16 32) (k0_hw1469 : k0_chk1469 v7836), ∀ a x, ((![v7836] : Fin 1 → IVec S16 32) a x).toNat < S4096.size a := fun v7836 k0_hw1469 => k0_hw1469

def k0_chk1470 (v7838 : IVec S16 32) : Prop :=
  (∀ a x, ((![v7838] : Fin 1 → IVec S16 32) a x).toNat < S4096.size a)
theorem k0_idx1470_inb : ∀ (v7838 : IVec S16 32) (k0_hw1470 : k0_chk1470 v7838), ∀ a x, ((![v7838] : Fin 1 → IVec S16 32) a x).toNat < S4096.size a := fun v7838 k0_hw1470 => k0_hw1470

def k0_chk1471 (v7840 : IVec S16 32) : Prop :=
  (∀ a x, ((![v7840] : Fin 1 → IVec S16 32) a x).toNat < S4096.size a)
theorem k0_idx1471_inb : ∀ (v7840 : IVec S16 32) (k0_hw1471 : k0_chk1471 v7840), ∀ a x, ((![v7840] : Fin 1 → IVec S16 32) a x).toNat < S4096.size a := fun v7840 k0_hw1471 => k0_hw1471

def k0_chk1472 (v7842 : IVec S16 32) : Prop :=
  (∀ a x, ((![v7842] : Fin 1 → IVec S16 32) a x).toNat < S4096.size a)
theorem k0_idx1472_inb : ∀ (v7842 : IVec S16 32) (k0_hw1472 : k0_chk1472 v7842), ∀ a x, ((![v7842] : Fin 1 → IVec S16 32) a x).toNat < S4096.size a := fun v7842 k0_hw1472 => k0_hw1472
def k0_off53 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_5939 : BitVec 32 := 512#32
  let v7843 : BitVec 32 := Scalar.muli v5574 c512_i32_5939
  let c224_i32_5940 : BitVec 32 := 224#32
  let v7844 : BitVec 32 := Scalar.addi v7843 c224_i32_5940
  let v7845 : Index := Scalar.indexCast v7844
  ![v7845.toNat]

def k0_chk1473 (v7846 : IVec S16 32) : Prop :=
  (∀ a x, ((![v7846] : Fin 1 → IVec S16 32) a x).toNat < S4096.size a)
theorem k0_idx1473_inb : ∀ (v7846 : IVec S16 32) (k0_hw1473 : k0_chk1473 v7846), ∀ a x, ((![v7846] : Fin 1 → IVec S16 32) a x).toNat < S4096.size a := fun v7846 k0_hw1473 => k0_hw1473

def k0_chk1474 (v7863 : IVec S16 32) : Prop :=
  (∀ a x, ((![v7863] : Fin 1 → IVec S16 32) a x).toNat < S4096.size a)
theorem k0_idx1474_inb : ∀ (v7863 : IVec S16 32) (k0_hw1474 : k0_chk1474 v7863), ∀ a x, ((![v7863] : Fin 1 → IVec S16 32) a x).toNat < S4096.size a := fun v7863 k0_hw1474 => k0_hw1474

def k0_chk1475 (v7868 : IVec S16 32) : Prop :=
  (∀ a x, ((![v7868] : Fin 1 → IVec S16 32) a x).toNat < S4096.size a)
theorem k0_idx1475_inb : ∀ (v7868 : IVec S16 32) (k0_hw1475 : k0_chk1475 v7868), ∀ a x, ((![v7868] : Fin 1 → IVec S16 32) a x).toNat < S4096.size a := fun v7868 k0_hw1475 => k0_hw1475

def k0_chk1476 (v7873 : IVec S16 32) : Prop :=
  (∀ a x, ((![v7873] : Fin 1 → IVec S16 32) a x).toNat < S4096.size a)
theorem k0_idx1476_inb : ∀ (v7873 : IVec S16 32) (k0_hw1476 : k0_chk1476 v7873), ∀ a x, ((![v7873] : Fin 1 → IVec S16 32) a x).toNat < S4096.size a := fun v7873 k0_hw1476 => k0_hw1476

def k0_chk1477 (v7878 : IVec S16 32) : Prop :=
  (∀ a x, ((![v7878] : Fin 1 → IVec S16 32) a x).toNat < S4096.size a)
theorem k0_idx1477_inb : ∀ (v7878 : IVec S16 32) (k0_hw1477 : k0_chk1477 v7878), ∀ a x, ((![v7878] : Fin 1 → IVec S16 32) a x).toNat < S4096.size a := fun v7878 k0_hw1477 => k0_hw1477

def k0_chk1478 (v7883 : IVec S16 32) : Prop :=
  (∀ a x, ((![v7883] : Fin 1 → IVec S16 32) a x).toNat < S4096.size a)
theorem k0_idx1478_inb : ∀ (v7883 : IVec S16 32) (k0_hw1478 : k0_chk1478 v7883), ∀ a x, ((![v7883] : Fin 1 → IVec S16 32) a x).toNat < S4096.size a := fun v7883 k0_hw1478 => k0_hw1478

def k0_chk1479 (v7888 : IVec S16 32) : Prop :=
  (∀ a x, ((![v7888] : Fin 1 → IVec S16 32) a x).toNat < S4096.size a)
theorem k0_idx1479_inb : ∀ (v7888 : IVec S16 32) (k0_hw1479 : k0_chk1479 v7888), ∀ a x, ((![v7888] : Fin 1 → IVec S16 32) a x).toNat < S4096.size a := fun v7888 k0_hw1479 => k0_hw1479

def k0_chk1480 (v7893 : IVec S16 32) : Prop :=
  (∀ a x, ((![v7893] : Fin 1 → IVec S16 32) a x).toNat < S4096.size a)
theorem k0_idx1480_inb : ∀ (v7893 : IVec S16 32) (k0_hw1480 : k0_chk1480 v7893), ∀ a x, ((![v7893] : Fin 1 → IVec S16 32) a x).toNat < S4096.size a := fun v7893 k0_hw1480 => k0_hw1480

def k0_chk1481 (v7898 : IVec S16 32) : Prop :=
  (∀ a x, ((![v7898] : Fin 1 → IVec S16 32) a x).toNat < S4096.size a)
theorem k0_idx1481_inb : ∀ (v7898 : IVec S16 32) (k0_hw1481 : k0_chk1481 v7898), ∀ a x, ((![v7898] : Fin 1 → IVec S16 32) a x).toNat < S4096.size a := fun v7898 k0_hw1481 => k0_hw1481

def k0_chk1482 (v7903 : IVec S16 32) : Prop :=
  (∀ a x, ((![v7903] : Fin 1 → IVec S16 32) a x).toNat < S4096.size a)
theorem k0_idx1482_inb : ∀ (v7903 : IVec S16 32) (k0_hw1482 : k0_chk1482 v7903), ∀ a x, ((![v7903] : Fin 1 → IVec S16 32) a x).toNat < S4096.size a := fun v7903 k0_hw1482 => k0_hw1482

def k0_chk1483 (v7908 : IVec S16 32) : Prop :=
  (∀ a x, ((![v7908] : Fin 1 → IVec S16 32) a x).toNat < S4096.size a)
theorem k0_idx1483_inb : ∀ (v7908 : IVec S16 32) (k0_hw1483 : k0_chk1483 v7908), ∀ a x, ((![v7908] : Fin 1 → IVec S16 32) a x).toNat < S4096.size a := fun v7908 k0_hw1483 => k0_hw1483

def k0_chk1484 (v7913 : IVec S16 32) : Prop :=
  (∀ a x, ((![v7913] : Fin 1 → IVec S16 32) a x).toNat < S4096.size a)
theorem k0_idx1484_inb : ∀ (v7913 : IVec S16 32) (k0_hw1484 : k0_chk1484 v7913), ∀ a x, ((![v7913] : Fin 1 → IVec S16 32) a x).toNat < S4096.size a := fun v7913 k0_hw1484 => k0_hw1484

def k0_chk1485 (v7918 : IVec S16 32) : Prop :=
  (∀ a x, ((![v7918] : Fin 1 → IVec S16 32) a x).toNat < S4096.size a)
theorem k0_idx1485_inb : ∀ (v7918 : IVec S16 32) (k0_hw1485 : k0_chk1485 v7918), ∀ a x, ((![v7918] : Fin 1 → IVec S16 32) a x).toNat < S4096.size a := fun v7918 k0_hw1485 => k0_hw1485

def k0_chk1486 (v7923 : IVec S16 32) : Prop :=
  (∀ a x, ((![v7923] : Fin 1 → IVec S16 32) a x).toNat < S4096.size a)
theorem k0_idx1486_inb : ∀ (v7923 : IVec S16 32) (k0_hw1486 : k0_chk1486 v7923), ∀ a x, ((![v7923] : Fin 1 → IVec S16 32) a x).toNat < S4096.size a := fun v7923 k0_hw1486 => k0_hw1486

def k0_chk1487 (v7928 : IVec S16 32) : Prop :=
  (∀ a x, ((![v7928] : Fin 1 → IVec S16 32) a x).toNat < S4096.size a)
theorem k0_idx1487_inb : ∀ (v7928 : IVec S16 32) (k0_hw1487 : k0_chk1487 v7928), ∀ a x, ((![v7928] : Fin 1 → IVec S16 32) a x).toNat < S4096.size a := fun v7928 k0_hw1487 => k0_hw1487

def k0_chk1488 (v7933 : IVec S16 32) : Prop :=
  (∀ a x, ((![v7933] : Fin 1 → IVec S16 32) a x).toNat < S4096.size a)
theorem k0_idx1488_inb : ∀ (v7933 : IVec S16 32) (k0_hw1488 : k0_chk1488 v7933), ∀ a x, ((![v7933] : Fin 1 → IVec S16 32) a x).toNat < S4096.size a := fun v7933 k0_hw1488 => k0_hw1488

def k0_chk1489 (v7938 : IVec S16 32) : Prop :=
  (∀ a x, ((![v7938] : Fin 1 → IVec S16 32) a x).toNat < S4096.size a)
theorem k0_idx1489_inb : ∀ (v7938 : IVec S16 32) (k0_hw1489 : k0_chk1489 v7938), ∀ a x, ((![v7938] : Fin 1 → IVec S16 32) a x).toNat < S4096.size a := fun v7938 k0_hw1489 => k0_hw1489

def k0_chk1490 (v7943 : IVec S16 32) : Prop :=
  (∀ a x, ((![v7943] : Fin 1 → IVec S16 32) a x).toNat < S4096.size a)
theorem k0_idx1490_inb : ∀ (v7943 : IVec S16 32) (k0_hw1490 : k0_chk1490 v7943), ∀ a x, ((![v7943] : Fin 1 → IVec S16 32) a x).toNat < S4096.size a := fun v7943 k0_hw1490 => k0_hw1490

def k0_chk1491 (v7948 : IVec S16 32) : Prop :=
  (∀ a x, ((![v7948] : Fin 1 → IVec S16 32) a x).toNat < S4096.size a)
theorem k0_idx1491_inb : ∀ (v7948 : IVec S16 32) (k0_hw1491 : k0_chk1491 v7948), ∀ a x, ((![v7948] : Fin 1 → IVec S16 32) a x).toNat < S4096.size a := fun v7948 k0_hw1491 => k0_hw1491

def k0_chk1492 (v7953 : IVec S16 32) : Prop :=
  (∀ a x, ((![v7953] : Fin 1 → IVec S16 32) a x).toNat < S4096.size a)
theorem k0_idx1492_inb : ∀ (v7953 : IVec S16 32) (k0_hw1492 : k0_chk1492 v7953), ∀ a x, ((![v7953] : Fin 1 → IVec S16 32) a x).toNat < S4096.size a := fun v7953 k0_hw1492 => k0_hw1492

def k0_chk1493 (v7958 : IVec S16 32) : Prop :=
  (∀ a x, ((![v7958] : Fin 1 → IVec S16 32) a x).toNat < S4096.size a)
theorem k0_idx1493_inb : ∀ (v7958 : IVec S16 32) (k0_hw1493 : k0_chk1493 v7958), ∀ a x, ((![v7958] : Fin 1 → IVec S16 32) a x).toNat < S4096.size a := fun v7958 k0_hw1493 => k0_hw1493

def k0_chk1494 (v7963 : IVec S16 32) : Prop :=
  (∀ a x, ((![v7963] : Fin 1 → IVec S16 32) a x).toNat < S4096.size a)
theorem k0_idx1494_inb : ∀ (v7963 : IVec S16 32) (k0_hw1494 : k0_chk1494 v7963), ∀ a x, ((![v7963] : Fin 1 → IVec S16 32) a x).toNat < S4096.size a := fun v7963 k0_hw1494 => k0_hw1494

def k0_chk1495 (v7968 : IVec S16 32) : Prop :=
  (∀ a x, ((![v7968] : Fin 1 → IVec S16 32) a x).toNat < S4096.size a)
theorem k0_idx1495_inb : ∀ (v7968 : IVec S16 32) (k0_hw1495 : k0_chk1495 v7968), ∀ a x, ((![v7968] : Fin 1 → IVec S16 32) a x).toNat < S4096.size a := fun v7968 k0_hw1495 => k0_hw1495

def k0_chk1496 (v7973 : IVec S16 32) : Prop :=
  (∀ a x, ((![v7973] : Fin 1 → IVec S16 32) a x).toNat < S4096.size a)
theorem k0_idx1496_inb : ∀ (v7973 : IVec S16 32) (k0_hw1496 : k0_chk1496 v7973), ∀ a x, ((![v7973] : Fin 1 → IVec S16 32) a x).toNat < S4096.size a := fun v7973 k0_hw1496 => k0_hw1496

def k0_chk1497 (v7978 : IVec S16 32) : Prop :=
  (∀ a x, ((![v7978] : Fin 1 → IVec S16 32) a x).toNat < S4096.size a)
theorem k0_idx1497_inb : ∀ (v7978 : IVec S16 32) (k0_hw1497 : k0_chk1497 v7978), ∀ a x, ((![v7978] : Fin 1 → IVec S16 32) a x).toNat < S4096.size a := fun v7978 k0_hw1497 => k0_hw1497

def k0_chk1498 (v7983 : IVec S16 32) : Prop :=
  (∀ a x, ((![v7983] : Fin 1 → IVec S16 32) a x).toNat < S4096.size a)
theorem k0_idx1498_inb : ∀ (v7983 : IVec S16 32) (k0_hw1498 : k0_chk1498 v7983), ∀ a x, ((![v7983] : Fin 1 → IVec S16 32) a x).toNat < S4096.size a := fun v7983 k0_hw1498 => k0_hw1498

def k0_chk1499 (v7988 : IVec S16 32) : Prop :=
  (∀ a x, ((![v7988] : Fin 1 → IVec S16 32) a x).toNat < S4096.size a)
theorem k0_idx1499_inb : ∀ (v7988 : IVec S16 32) (k0_hw1499 : k0_chk1499 v7988), ∀ a x, ((![v7988] : Fin 1 → IVec S16 32) a x).toNat < S4096.size a := fun v7988 k0_hw1499 => k0_hw1499

def k0_chk1500 (v7993 : IVec S16 32) : Prop :=
  (∀ a x, ((![v7993] : Fin 1 → IVec S16 32) a x).toNat < S4096.size a)
theorem k0_idx1500_inb : ∀ (v7993 : IVec S16 32) (k0_hw1500 : k0_chk1500 v7993), ∀ a x, ((![v7993] : Fin 1 → IVec S16 32) a x).toNat < S4096.size a := fun v7993 k0_hw1500 => k0_hw1500

def k0_chk1501 (v7998 : IVec S16 32) : Prop :=
  (∀ a x, ((![v7998] : Fin 1 → IVec S16 32) a x).toNat < S4096.size a)
theorem k0_idx1501_inb : ∀ (v7998 : IVec S16 32) (k0_hw1501 : k0_chk1501 v7998), ∀ a x, ((![v7998] : Fin 1 → IVec S16 32) a x).toNat < S4096.size a := fun v7998 k0_hw1501 => k0_hw1501

def k0_chk1502 (v8000 : IVec S16 32) : Prop :=
  (∀ a x, ((![v8000] : Fin 1 → IVec S16 32) a x).toNat < S4096.size a)
theorem k0_idx1502_inb : ∀ (v8000 : IVec S16 32) (k0_hw1502 : k0_chk1502 v8000), ∀ a x, ((![v8000] : Fin 1 → IVec S16 32) a x).toNat < S4096.size a := fun v8000 k0_hw1502 => k0_hw1502

def k0_chk1503 (v8002 : IVec S16 32) : Prop :=
  (∀ a x, ((![v8002] : Fin 1 → IVec S16 32) a x).toNat < S4096.size a)
theorem k0_idx1503_inb : ∀ (v8002 : IVec S16 32) (k0_hw1503 : k0_chk1503 v8002), ∀ a x, ((![v8002] : Fin 1 → IVec S16 32) a x).toNat < S4096.size a := fun v8002 k0_hw1503 => k0_hw1503

def k0_chk1504 (v8004 : IVec S16 32) : Prop :=
  (∀ a x, ((![v8004] : Fin 1 → IVec S16 32) a x).toNat < S4096.size a)
theorem k0_idx1504_inb : ∀ (v8004 : IVec S16 32) (k0_hw1504 : k0_chk1504 v8004), ∀ a x, ((![v8004] : Fin 1 → IVec S16 32) a x).toNat < S4096.size a := fun v8004 k0_hw1504 => k0_hw1504
def k0_off54 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6068 : BitVec 32 := 512#32
  let v8005 : BitVec 32 := Scalar.muli v5574 c512_i32_6068
  let c240_i32_6069 : BitVec 32 := 240#32
  let v8006 : BitVec 32 := Scalar.addi v8005 c240_i32_6069
  let v8007 : Index := Scalar.indexCast v8006
  ![v8007.toNat]

def k0_chk1505 (v8008 : IVec S16 32) : Prop :=
  (∀ a x, ((![v8008] : Fin 1 → IVec S16 32) a x).toNat < S4096.size a)
theorem k0_idx1505_inb : ∀ (v8008 : IVec S16 32) (k0_hw1505 : k0_chk1505 v8008), ∀ a x, ((![v8008] : Fin 1 → IVec S16 32) a x).toNat < S4096.size a := fun v8008 k0_hw1505 => k0_hw1505

def k0_chk1506 (v8025 : IVec S16 32) : Prop :=
  (∀ a x, ((![v8025] : Fin 1 → IVec S16 32) a x).toNat < S4096.size a)
theorem k0_idx1506_inb : ∀ (v8025 : IVec S16 32) (k0_hw1506 : k0_chk1506 v8025), ∀ a x, ((![v8025] : Fin 1 → IVec S16 32) a x).toNat < S4096.size a := fun v8025 k0_hw1506 => k0_hw1506

def k0_chk1507 (v8030 : IVec S16 32) : Prop :=
  (∀ a x, ((![v8030] : Fin 1 → IVec S16 32) a x).toNat < S4096.size a)
theorem k0_idx1507_inb : ∀ (v8030 : IVec S16 32) (k0_hw1507 : k0_chk1507 v8030), ∀ a x, ((![v8030] : Fin 1 → IVec S16 32) a x).toNat < S4096.size a := fun v8030 k0_hw1507 => k0_hw1507

def k0_chk1508 (v8035 : IVec S16 32) : Prop :=
  (∀ a x, ((![v8035] : Fin 1 → IVec S16 32) a x).toNat < S4096.size a)
theorem k0_idx1508_inb : ∀ (v8035 : IVec S16 32) (k0_hw1508 : k0_chk1508 v8035), ∀ a x, ((![v8035] : Fin 1 → IVec S16 32) a x).toNat < S4096.size a := fun v8035 k0_hw1508 => k0_hw1508

def k0_chk1509 (v8040 : IVec S16 32) : Prop :=
  (∀ a x, ((![v8040] : Fin 1 → IVec S16 32) a x).toNat < S4096.size a)
theorem k0_idx1509_inb : ∀ (v8040 : IVec S16 32) (k0_hw1509 : k0_chk1509 v8040), ∀ a x, ((![v8040] : Fin 1 → IVec S16 32) a x).toNat < S4096.size a := fun v8040 k0_hw1509 => k0_hw1509

def k0_chk1510 (v8045 : IVec S16 32) : Prop :=
  (∀ a x, ((![v8045] : Fin 1 → IVec S16 32) a x).toNat < S4096.size a)
theorem k0_idx1510_inb : ∀ (v8045 : IVec S16 32) (k0_hw1510 : k0_chk1510 v8045), ∀ a x, ((![v8045] : Fin 1 → IVec S16 32) a x).toNat < S4096.size a := fun v8045 k0_hw1510 => k0_hw1510

def k0_chk1511 (v8050 : IVec S16 32) : Prop :=
  (∀ a x, ((![v8050] : Fin 1 → IVec S16 32) a x).toNat < S4096.size a)
theorem k0_idx1511_inb : ∀ (v8050 : IVec S16 32) (k0_hw1511 : k0_chk1511 v8050), ∀ a x, ((![v8050] : Fin 1 → IVec S16 32) a x).toNat < S4096.size a := fun v8050 k0_hw1511 => k0_hw1511

def k0_chk1512 (v8055 : IVec S16 32) : Prop :=
  (∀ a x, ((![v8055] : Fin 1 → IVec S16 32) a x).toNat < S4096.size a)
theorem k0_idx1512_inb : ∀ (v8055 : IVec S16 32) (k0_hw1512 : k0_chk1512 v8055), ∀ a x, ((![v8055] : Fin 1 → IVec S16 32) a x).toNat < S4096.size a := fun v8055 k0_hw1512 => k0_hw1512

def k0_chk1513 (v8060 : IVec S16 32) : Prop :=
  (∀ a x, ((![v8060] : Fin 1 → IVec S16 32) a x).toNat < S4096.size a)
theorem k0_idx1513_inb : ∀ (v8060 : IVec S16 32) (k0_hw1513 : k0_chk1513 v8060), ∀ a x, ((![v8060] : Fin 1 → IVec S16 32) a x).toNat < S4096.size a := fun v8060 k0_hw1513 => k0_hw1513

def k0_chk1514 (v8065 : IVec S16 32) : Prop :=
  (∀ a x, ((![v8065] : Fin 1 → IVec S16 32) a x).toNat < S4096.size a)
theorem k0_idx1514_inb : ∀ (v8065 : IVec S16 32) (k0_hw1514 : k0_chk1514 v8065), ∀ a x, ((![v8065] : Fin 1 → IVec S16 32) a x).toNat < S4096.size a := fun v8065 k0_hw1514 => k0_hw1514

def k0_chk1515 (v8070 : IVec S16 32) : Prop :=
  (∀ a x, ((![v8070] : Fin 1 → IVec S16 32) a x).toNat < S4096.size a)
theorem k0_idx1515_inb : ∀ (v8070 : IVec S16 32) (k0_hw1515 : k0_chk1515 v8070), ∀ a x, ((![v8070] : Fin 1 → IVec S16 32) a x).toNat < S4096.size a := fun v8070 k0_hw1515 => k0_hw1515

def k0_chk1516 (v8075 : IVec S16 32) : Prop :=
  (∀ a x, ((![v8075] : Fin 1 → IVec S16 32) a x).toNat < S4096.size a)
theorem k0_idx1516_inb : ∀ (v8075 : IVec S16 32) (k0_hw1516 : k0_chk1516 v8075), ∀ a x, ((![v8075] : Fin 1 → IVec S16 32) a x).toNat < S4096.size a := fun v8075 k0_hw1516 => k0_hw1516

def k0_chk1517 (v8080 : IVec S16 32) : Prop :=
  (∀ a x, ((![v8080] : Fin 1 → IVec S16 32) a x).toNat < S4096.size a)
theorem k0_idx1517_inb : ∀ (v8080 : IVec S16 32) (k0_hw1517 : k0_chk1517 v8080), ∀ a x, ((![v8080] : Fin 1 → IVec S16 32) a x).toNat < S4096.size a := fun v8080 k0_hw1517 => k0_hw1517

def k0_chk1518 (v8085 : IVec S16 32) : Prop :=
  (∀ a x, ((![v8085] : Fin 1 → IVec S16 32) a x).toNat < S4096.size a)
theorem k0_idx1518_inb : ∀ (v8085 : IVec S16 32) (k0_hw1518 : k0_chk1518 v8085), ∀ a x, ((![v8085] : Fin 1 → IVec S16 32) a x).toNat < S4096.size a := fun v8085 k0_hw1518 => k0_hw1518

def k0_chk1519 (v8090 : IVec S16 32) : Prop :=
  (∀ a x, ((![v8090] : Fin 1 → IVec S16 32) a x).toNat < S4096.size a)
theorem k0_idx1519_inb : ∀ (v8090 : IVec S16 32) (k0_hw1519 : k0_chk1519 v8090), ∀ a x, ((![v8090] : Fin 1 → IVec S16 32) a x).toNat < S4096.size a := fun v8090 k0_hw1519 => k0_hw1519

def k0_chk1520 (v8095 : IVec S16 32) : Prop :=
  (∀ a x, ((![v8095] : Fin 1 → IVec S16 32) a x).toNat < S4096.size a)
theorem k0_idx1520_inb : ∀ (v8095 : IVec S16 32) (k0_hw1520 : k0_chk1520 v8095), ∀ a x, ((![v8095] : Fin 1 → IVec S16 32) a x).toNat < S4096.size a := fun v8095 k0_hw1520 => k0_hw1520

def k0_chk1521 (v8100 : IVec S16 32) : Prop :=
  (∀ a x, ((![v8100] : Fin 1 → IVec S16 32) a x).toNat < S4096.size a)
theorem k0_idx1521_inb : ∀ (v8100 : IVec S16 32) (k0_hw1521 : k0_chk1521 v8100), ∀ a x, ((![v8100] : Fin 1 → IVec S16 32) a x).toNat < S4096.size a := fun v8100 k0_hw1521 => k0_hw1521

def k0_chk1522 (v8105 : IVec S16 32) : Prop :=
  (∀ a x, ((![v8105] : Fin 1 → IVec S16 32) a x).toNat < S4096.size a)
theorem k0_idx1522_inb : ∀ (v8105 : IVec S16 32) (k0_hw1522 : k0_chk1522 v8105), ∀ a x, ((![v8105] : Fin 1 → IVec S16 32) a x).toNat < S4096.size a := fun v8105 k0_hw1522 => k0_hw1522

def k0_chk1523 (v8110 : IVec S16 32) : Prop :=
  (∀ a x, ((![v8110] : Fin 1 → IVec S16 32) a x).toNat < S4096.size a)
theorem k0_idx1523_inb : ∀ (v8110 : IVec S16 32) (k0_hw1523 : k0_chk1523 v8110), ∀ a x, ((![v8110] : Fin 1 → IVec S16 32) a x).toNat < S4096.size a := fun v8110 k0_hw1523 => k0_hw1523

def k0_chk1524 (v8115 : IVec S16 32) : Prop :=
  (∀ a x, ((![v8115] : Fin 1 → IVec S16 32) a x).toNat < S4096.size a)
theorem k0_idx1524_inb : ∀ (v8115 : IVec S16 32) (k0_hw1524 : k0_chk1524 v8115), ∀ a x, ((![v8115] : Fin 1 → IVec S16 32) a x).toNat < S4096.size a := fun v8115 k0_hw1524 => k0_hw1524

def k0_chk1525 (v8120 : IVec S16 32) : Prop :=
  (∀ a x, ((![v8120] : Fin 1 → IVec S16 32) a x).toNat < S4096.size a)
theorem k0_idx1525_inb : ∀ (v8120 : IVec S16 32) (k0_hw1525 : k0_chk1525 v8120), ∀ a x, ((![v8120] : Fin 1 → IVec S16 32) a x).toNat < S4096.size a := fun v8120 k0_hw1525 => k0_hw1525

def k0_chk1526 (v8125 : IVec S16 32) : Prop :=
  (∀ a x, ((![v8125] : Fin 1 → IVec S16 32) a x).toNat < S4096.size a)
theorem k0_idx1526_inb : ∀ (v8125 : IVec S16 32) (k0_hw1526 : k0_chk1526 v8125), ∀ a x, ((![v8125] : Fin 1 → IVec S16 32) a x).toNat < S4096.size a := fun v8125 k0_hw1526 => k0_hw1526

def k0_chk1527 (v8130 : IVec S16 32) : Prop :=
  (∀ a x, ((![v8130] : Fin 1 → IVec S16 32) a x).toNat < S4096.size a)
theorem k0_idx1527_inb : ∀ (v8130 : IVec S16 32) (k0_hw1527 : k0_chk1527 v8130), ∀ a x, ((![v8130] : Fin 1 → IVec S16 32) a x).toNat < S4096.size a := fun v8130 k0_hw1527 => k0_hw1527

def k0_chk1528 (v8135 : IVec S16 32) : Prop :=
  (∀ a x, ((![v8135] : Fin 1 → IVec S16 32) a x).toNat < S4096.size a)
theorem k0_idx1528_inb : ∀ (v8135 : IVec S16 32) (k0_hw1528 : k0_chk1528 v8135), ∀ a x, ((![v8135] : Fin 1 → IVec S16 32) a x).toNat < S4096.size a := fun v8135 k0_hw1528 => k0_hw1528

def k0_chk1529 (v8140 : IVec S16 32) : Prop :=
  (∀ a x, ((![v8140] : Fin 1 → IVec S16 32) a x).toNat < S4096.size a)
theorem k0_idx1529_inb : ∀ (v8140 : IVec S16 32) (k0_hw1529 : k0_chk1529 v8140), ∀ a x, ((![v8140] : Fin 1 → IVec S16 32) a x).toNat < S4096.size a := fun v8140 k0_hw1529 => k0_hw1529

def k0_chk1530 (v8145 : IVec S16 32) : Prop :=
  (∀ a x, ((![v8145] : Fin 1 → IVec S16 32) a x).toNat < S4096.size a)
theorem k0_idx1530_inb : ∀ (v8145 : IVec S16 32) (k0_hw1530 : k0_chk1530 v8145), ∀ a x, ((![v8145] : Fin 1 → IVec S16 32) a x).toNat < S4096.size a := fun v8145 k0_hw1530 => k0_hw1530

def k0_chk1531 (v8150 : IVec S16 32) : Prop :=
  (∀ a x, ((![v8150] : Fin 1 → IVec S16 32) a x).toNat < S4096.size a)
theorem k0_idx1531_inb : ∀ (v8150 : IVec S16 32) (k0_hw1531 : k0_chk1531 v8150), ∀ a x, ((![v8150] : Fin 1 → IVec S16 32) a x).toNat < S4096.size a := fun v8150 k0_hw1531 => k0_hw1531

def k0_chk1532 (v8155 : IVec S16 32) : Prop :=
  (∀ a x, ((![v8155] : Fin 1 → IVec S16 32) a x).toNat < S4096.size a)
theorem k0_idx1532_inb : ∀ (v8155 : IVec S16 32) (k0_hw1532 : k0_chk1532 v8155), ∀ a x, ((![v8155] : Fin 1 → IVec S16 32) a x).toNat < S4096.size a := fun v8155 k0_hw1532 => k0_hw1532

def k0_chk1533 (v8160 : IVec S16 32) : Prop :=
  (∀ a x, ((![v8160] : Fin 1 → IVec S16 32) a x).toNat < S4096.size a)
theorem k0_idx1533_inb : ∀ (v8160 : IVec S16 32) (k0_hw1533 : k0_chk1533 v8160), ∀ a x, ((![v8160] : Fin 1 → IVec S16 32) a x).toNat < S4096.size a := fun v8160 k0_hw1533 => k0_hw1533

def k0_chk1534 (v8162 : IVec S16 32) : Prop :=
  (∀ a x, ((![v8162] : Fin 1 → IVec S16 32) a x).toNat < S4096.size a)
theorem k0_idx1534_inb : ∀ (v8162 : IVec S16 32) (k0_hw1534 : k0_chk1534 v8162), ∀ a x, ((![v8162] : Fin 1 → IVec S16 32) a x).toNat < S4096.size a := fun v8162 k0_hw1534 => k0_hw1534

def k0_chk1535 (v8164 : IVec S16 32) : Prop :=
  (∀ a x, ((![v8164] : Fin 1 → IVec S16 32) a x).toNat < S4096.size a)
theorem k0_idx1535_inb : ∀ (v8164 : IVec S16 32) (k0_hw1535 : k0_chk1535 v8164), ∀ a x, ((![v8164] : Fin 1 → IVec S16 32) a x).toNat < S4096.size a := fun v8164 k0_hw1535 => k0_hw1535

def k0_chk1536 (v8166 : IVec S16 32) : Prop :=
  (∀ a x, ((![v8166] : Fin 1 → IVec S16 32) a x).toNat < S4096.size a)
theorem k0_idx1536_inb : ∀ (v8166 : IVec S16 32) (k0_hw1536 : k0_chk1536 v8166), ∀ a x, ((![v8166] : Fin 1 → IVec S16 32) a x).toNat < S4096.size a := fun v8166 k0_hw1536 => k0_hw1536
def k0_off55 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6197 : BitVec 32 := 512#32
  let v8167 : BitVec 32 := Scalar.muli v5574 c512_i32_6197
  let c256_i32_6198 : BitVec 32 := 256#32
  let v8168 : BitVec 32 := Scalar.addi v8167 c256_i32_6198
  let v8169 : Index := Scalar.indexCast v8168
  ![v8169.toNat]

def k0_chk1537 (v8170 : IVec S16 32) : Prop :=
  (∀ a x, ((![v8170] : Fin 1 → IVec S16 32) a x).toNat < S4096.size a)
theorem k0_idx1537_inb : ∀ (v8170 : IVec S16 32) (k0_hw1537 : k0_chk1537 v8170), ∀ a x, ((![v8170] : Fin 1 → IVec S16 32) a x).toNat < S4096.size a := fun v8170 k0_hw1537 => k0_hw1537

def k0_chk1538 (v8187 : IVec S16 32) : Prop :=
  (∀ a x, ((![v8187] : Fin 1 → IVec S16 32) a x).toNat < S4096.size a)
theorem k0_idx1538_inb : ∀ (v8187 : IVec S16 32) (k0_hw1538 : k0_chk1538 v8187), ∀ a x, ((![v8187] : Fin 1 → IVec S16 32) a x).toNat < S4096.size a := fun v8187 k0_hw1538 => k0_hw1538

def k0_chk1539 (v8192 : IVec S16 32) : Prop :=
  (∀ a x, ((![v8192] : Fin 1 → IVec S16 32) a x).toNat < S4096.size a)
theorem k0_idx1539_inb : ∀ (v8192 : IVec S16 32) (k0_hw1539 : k0_chk1539 v8192), ∀ a x, ((![v8192] : Fin 1 → IVec S16 32) a x).toNat < S4096.size a := fun v8192 k0_hw1539 => k0_hw1539

def k0_chk1540 (v8197 : IVec S16 32) : Prop :=
  (∀ a x, ((![v8197] : Fin 1 → IVec S16 32) a x).toNat < S4096.size a)
theorem k0_idx1540_inb : ∀ (v8197 : IVec S16 32) (k0_hw1540 : k0_chk1540 v8197), ∀ a x, ((![v8197] : Fin 1 → IVec S16 32) a x).toNat < S4096.size a := fun v8197 k0_hw1540 => k0_hw1540

def k0_chk1541 (v8202 : IVec S16 32) : Prop :=
  (∀ a x, ((![v8202] : Fin 1 → IVec S16 32) a x).toNat < S4096.size a)
theorem k0_idx1541_inb : ∀ (v8202 : IVec S16 32) (k0_hw1541 : k0_chk1541 v8202), ∀ a x, ((![v8202] : Fin 1 → IVec S16 32) a x).toNat < S4096.size a := fun v8202 k0_hw1541 => k0_hw1541

def k0_chk1542 (v8207 : IVec S16 32) : Prop :=
  (∀ a x, ((![v8207] : Fin 1 → IVec S16 32) a x).toNat < S4096.size a)
theorem k0_idx1542_inb : ∀ (v8207 : IVec S16 32) (k0_hw1542 : k0_chk1542 v8207), ∀ a x, ((![v8207] : Fin 1 → IVec S16 32) a x).toNat < S4096.size a := fun v8207 k0_hw1542 => k0_hw1542

def k0_chk1543 (v8212 : IVec S16 32) : Prop :=
  (∀ a x, ((![v8212] : Fin 1 → IVec S16 32) a x).toNat < S4096.size a)
theorem k0_idx1543_inb : ∀ (v8212 : IVec S16 32) (k0_hw1543 : k0_chk1543 v8212), ∀ a x, ((![v8212] : Fin 1 → IVec S16 32) a x).toNat < S4096.size a := fun v8212 k0_hw1543 => k0_hw1543

def k0_chk1544 (v8217 : IVec S16 32) : Prop :=
  (∀ a x, ((![v8217] : Fin 1 → IVec S16 32) a x).toNat < S4096.size a)
theorem k0_idx1544_inb : ∀ (v8217 : IVec S16 32) (k0_hw1544 : k0_chk1544 v8217), ∀ a x, ((![v8217] : Fin 1 → IVec S16 32) a x).toNat < S4096.size a := fun v8217 k0_hw1544 => k0_hw1544

def k0_chk1545 (v8222 : IVec S16 32) : Prop :=
  (∀ a x, ((![v8222] : Fin 1 → IVec S16 32) a x).toNat < S4096.size a)
theorem k0_idx1545_inb : ∀ (v8222 : IVec S16 32) (k0_hw1545 : k0_chk1545 v8222), ∀ a x, ((![v8222] : Fin 1 → IVec S16 32) a x).toNat < S4096.size a := fun v8222 k0_hw1545 => k0_hw1545

def k0_chk1546 (v8227 : IVec S16 32) : Prop :=
  (∀ a x, ((![v8227] : Fin 1 → IVec S16 32) a x).toNat < S4096.size a)
theorem k0_idx1546_inb : ∀ (v8227 : IVec S16 32) (k0_hw1546 : k0_chk1546 v8227), ∀ a x, ((![v8227] : Fin 1 → IVec S16 32) a x).toNat < S4096.size a := fun v8227 k0_hw1546 => k0_hw1546

def k0_chk1547 (v8232 : IVec S16 32) : Prop :=
  (∀ a x, ((![v8232] : Fin 1 → IVec S16 32) a x).toNat < S4096.size a)
theorem k0_idx1547_inb : ∀ (v8232 : IVec S16 32) (k0_hw1547 : k0_chk1547 v8232), ∀ a x, ((![v8232] : Fin 1 → IVec S16 32) a x).toNat < S4096.size a := fun v8232 k0_hw1547 => k0_hw1547

def k0_chk1548 (v8237 : IVec S16 32) : Prop :=
  (∀ a x, ((![v8237] : Fin 1 → IVec S16 32) a x).toNat < S4096.size a)
theorem k0_idx1548_inb : ∀ (v8237 : IVec S16 32) (k0_hw1548 : k0_chk1548 v8237), ∀ a x, ((![v8237] : Fin 1 → IVec S16 32) a x).toNat < S4096.size a := fun v8237 k0_hw1548 => k0_hw1548

def k0_chk1549 (v8242 : IVec S16 32) : Prop :=
  (∀ a x, ((![v8242] : Fin 1 → IVec S16 32) a x).toNat < S4096.size a)
theorem k0_idx1549_inb : ∀ (v8242 : IVec S16 32) (k0_hw1549 : k0_chk1549 v8242), ∀ a x, ((![v8242] : Fin 1 → IVec S16 32) a x).toNat < S4096.size a := fun v8242 k0_hw1549 => k0_hw1549

def k0_chk1550 (v8247 : IVec S16 32) : Prop :=
  (∀ a x, ((![v8247] : Fin 1 → IVec S16 32) a x).toNat < S4096.size a)
theorem k0_idx1550_inb : ∀ (v8247 : IVec S16 32) (k0_hw1550 : k0_chk1550 v8247), ∀ a x, ((![v8247] : Fin 1 → IVec S16 32) a x).toNat < S4096.size a := fun v8247 k0_hw1550 => k0_hw1550

def k0_chk1551 (v8252 : IVec S16 32) : Prop :=
  (∀ a x, ((![v8252] : Fin 1 → IVec S16 32) a x).toNat < S4096.size a)
theorem k0_idx1551_inb : ∀ (v8252 : IVec S16 32) (k0_hw1551 : k0_chk1551 v8252), ∀ a x, ((![v8252] : Fin 1 → IVec S16 32) a x).toNat < S4096.size a := fun v8252 k0_hw1551 => k0_hw1551

def k0_chk1552 (v8257 : IVec S16 32) : Prop :=
  (∀ a x, ((![v8257] : Fin 1 → IVec S16 32) a x).toNat < S4096.size a)
theorem k0_idx1552_inb : ∀ (v8257 : IVec S16 32) (k0_hw1552 : k0_chk1552 v8257), ∀ a x, ((![v8257] : Fin 1 → IVec S16 32) a x).toNat < S4096.size a := fun v8257 k0_hw1552 => k0_hw1552

def k0_chk1553 (v8262 : IVec S16 32) : Prop :=
  (∀ a x, ((![v8262] : Fin 1 → IVec S16 32) a x).toNat < S4096.size a)
theorem k0_idx1553_inb : ∀ (v8262 : IVec S16 32) (k0_hw1553 : k0_chk1553 v8262), ∀ a x, ((![v8262] : Fin 1 → IVec S16 32) a x).toNat < S4096.size a := fun v8262 k0_hw1553 => k0_hw1553

def k0_chk1554 (v8267 : IVec S16 32) : Prop :=
  (∀ a x, ((![v8267] : Fin 1 → IVec S16 32) a x).toNat < S4096.size a)
theorem k0_idx1554_inb : ∀ (v8267 : IVec S16 32) (k0_hw1554 : k0_chk1554 v8267), ∀ a x, ((![v8267] : Fin 1 → IVec S16 32) a x).toNat < S4096.size a := fun v8267 k0_hw1554 => k0_hw1554

def k0_chk1555 (v8272 : IVec S16 32) : Prop :=
  (∀ a x, ((![v8272] : Fin 1 → IVec S16 32) a x).toNat < S4096.size a)
theorem k0_idx1555_inb : ∀ (v8272 : IVec S16 32) (k0_hw1555 : k0_chk1555 v8272), ∀ a x, ((![v8272] : Fin 1 → IVec S16 32) a x).toNat < S4096.size a := fun v8272 k0_hw1555 => k0_hw1555

def k0_chk1556 (v8277 : IVec S16 32) : Prop :=
  (∀ a x, ((![v8277] : Fin 1 → IVec S16 32) a x).toNat < S4096.size a)
theorem k0_idx1556_inb : ∀ (v8277 : IVec S16 32) (k0_hw1556 : k0_chk1556 v8277), ∀ a x, ((![v8277] : Fin 1 → IVec S16 32) a x).toNat < S4096.size a := fun v8277 k0_hw1556 => k0_hw1556

def k0_chk1557 (v8282 : IVec S16 32) : Prop :=
  (∀ a x, ((![v8282] : Fin 1 → IVec S16 32) a x).toNat < S4096.size a)
theorem k0_idx1557_inb : ∀ (v8282 : IVec S16 32) (k0_hw1557 : k0_chk1557 v8282), ∀ a x, ((![v8282] : Fin 1 → IVec S16 32) a x).toNat < S4096.size a := fun v8282 k0_hw1557 => k0_hw1557

def k0_chk1558 (v8287 : IVec S16 32) : Prop :=
  (∀ a x, ((![v8287] : Fin 1 → IVec S16 32) a x).toNat < S4096.size a)
theorem k0_idx1558_inb : ∀ (v8287 : IVec S16 32) (k0_hw1558 : k0_chk1558 v8287), ∀ a x, ((![v8287] : Fin 1 → IVec S16 32) a x).toNat < S4096.size a := fun v8287 k0_hw1558 => k0_hw1558

def k0_chk1559 (v8292 : IVec S16 32) : Prop :=
  (∀ a x, ((![v8292] : Fin 1 → IVec S16 32) a x).toNat < S4096.size a)
theorem k0_idx1559_inb : ∀ (v8292 : IVec S16 32) (k0_hw1559 : k0_chk1559 v8292), ∀ a x, ((![v8292] : Fin 1 → IVec S16 32) a x).toNat < S4096.size a := fun v8292 k0_hw1559 => k0_hw1559

def k0_chk1560 (v8297 : IVec S16 32) : Prop :=
  (∀ a x, ((![v8297] : Fin 1 → IVec S16 32) a x).toNat < S4096.size a)
theorem k0_idx1560_inb : ∀ (v8297 : IVec S16 32) (k0_hw1560 : k0_chk1560 v8297), ∀ a x, ((![v8297] : Fin 1 → IVec S16 32) a x).toNat < S4096.size a := fun v8297 k0_hw1560 => k0_hw1560

def k0_chk1561 (v8302 : IVec S16 32) : Prop :=
  (∀ a x, ((![v8302] : Fin 1 → IVec S16 32) a x).toNat < S4096.size a)
theorem k0_idx1561_inb : ∀ (v8302 : IVec S16 32) (k0_hw1561 : k0_chk1561 v8302), ∀ a x, ((![v8302] : Fin 1 → IVec S16 32) a x).toNat < S4096.size a := fun v8302 k0_hw1561 => k0_hw1561

def k0_chk1562 (v8307 : IVec S16 32) : Prop :=
  (∀ a x, ((![v8307] : Fin 1 → IVec S16 32) a x).toNat < S4096.size a)
theorem k0_idx1562_inb : ∀ (v8307 : IVec S16 32) (k0_hw1562 : k0_chk1562 v8307), ∀ a x, ((![v8307] : Fin 1 → IVec S16 32) a x).toNat < S4096.size a := fun v8307 k0_hw1562 => k0_hw1562

def k0_chk1563 (v8312 : IVec S16 32) : Prop :=
  (∀ a x, ((![v8312] : Fin 1 → IVec S16 32) a x).toNat < S4096.size a)
theorem k0_idx1563_inb : ∀ (v8312 : IVec S16 32) (k0_hw1563 : k0_chk1563 v8312), ∀ a x, ((![v8312] : Fin 1 → IVec S16 32) a x).toNat < S4096.size a := fun v8312 k0_hw1563 => k0_hw1563

def k0_chk1564 (v8317 : IVec S16 32) : Prop :=
  (∀ a x, ((![v8317] : Fin 1 → IVec S16 32) a x).toNat < S4096.size a)
theorem k0_idx1564_inb : ∀ (v8317 : IVec S16 32) (k0_hw1564 : k0_chk1564 v8317), ∀ a x, ((![v8317] : Fin 1 → IVec S16 32) a x).toNat < S4096.size a := fun v8317 k0_hw1564 => k0_hw1564

def k0_chk1565 (v8322 : IVec S16 32) : Prop :=
  (∀ a x, ((![v8322] : Fin 1 → IVec S16 32) a x).toNat < S4096.size a)
theorem k0_idx1565_inb : ∀ (v8322 : IVec S16 32) (k0_hw1565 : k0_chk1565 v8322), ∀ a x, ((![v8322] : Fin 1 → IVec S16 32) a x).toNat < S4096.size a := fun v8322 k0_hw1565 => k0_hw1565

def k0_chk1566 (v8324 : IVec S16 32) : Prop :=
  (∀ a x, ((![v8324] : Fin 1 → IVec S16 32) a x).toNat < S4096.size a)
theorem k0_idx1566_inb : ∀ (v8324 : IVec S16 32) (k0_hw1566 : k0_chk1566 v8324), ∀ a x, ((![v8324] : Fin 1 → IVec S16 32) a x).toNat < S4096.size a := fun v8324 k0_hw1566 => k0_hw1566

def k0_chk1567 (v8326 : IVec S16 32) : Prop :=
  (∀ a x, ((![v8326] : Fin 1 → IVec S16 32) a x).toNat < S4096.size a)
theorem k0_idx1567_inb : ∀ (v8326 : IVec S16 32) (k0_hw1567 : k0_chk1567 v8326), ∀ a x, ((![v8326] : Fin 1 → IVec S16 32) a x).toNat < S4096.size a := fun v8326 k0_hw1567 => k0_hw1567

def k0_chk1568 (v8328 : IVec S16 32) : Prop :=
  (∀ a x, ((![v8328] : Fin 1 → IVec S16 32) a x).toNat < S4096.size a)
theorem k0_idx1568_inb : ∀ (v8328 : IVec S16 32) (k0_hw1568 : k0_chk1568 v8328), ∀ a x, ((![v8328] : Fin 1 → IVec S16 32) a x).toNat < S4096.size a := fun v8328 k0_hw1568 => k0_hw1568
def k0_off56 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6326 : BitVec 32 := 512#32
  let v8329 : BitVec 32 := Scalar.muli v5574 c512_i32_6326
  let c272_i32_6327 : BitVec 32 := 272#32
  let v8330 : BitVec 32 := Scalar.addi v8329 c272_i32_6327
  let v8331 : Index := Scalar.indexCast v8330
  ![v8331.toNat]

def k0_chk1569 (v8332 : IVec S16 32) : Prop :=
  (∀ a x, ((![v8332] : Fin 1 → IVec S16 32) a x).toNat < S4096.size a)
theorem k0_idx1569_inb : ∀ (v8332 : IVec S16 32) (k0_hw1569 : k0_chk1569 v8332), ∀ a x, ((![v8332] : Fin 1 → IVec S16 32) a x).toNat < S4096.size a := fun v8332 k0_hw1569 => k0_hw1569

def k0_chk1570 (v8349 : IVec S16 32) : Prop :=
  (∀ a x, ((![v8349] : Fin 1 → IVec S16 32) a x).toNat < S4096.size a)
theorem k0_idx1570_inb : ∀ (v8349 : IVec S16 32) (k0_hw1570 : k0_chk1570 v8349), ∀ a x, ((![v8349] : Fin 1 → IVec S16 32) a x).toNat < S4096.size a := fun v8349 k0_hw1570 => k0_hw1570

def k0_chk1571 (v8354 : IVec S16 32) : Prop :=
  (∀ a x, ((![v8354] : Fin 1 → IVec S16 32) a x).toNat < S4096.size a)
theorem k0_idx1571_inb : ∀ (v8354 : IVec S16 32) (k0_hw1571 : k0_chk1571 v8354), ∀ a x, ((![v8354] : Fin 1 → IVec S16 32) a x).toNat < S4096.size a := fun v8354 k0_hw1571 => k0_hw1571

def k0_chk1572 (v8359 : IVec S16 32) : Prop :=
  (∀ a x, ((![v8359] : Fin 1 → IVec S16 32) a x).toNat < S4096.size a)
theorem k0_idx1572_inb : ∀ (v8359 : IVec S16 32) (k0_hw1572 : k0_chk1572 v8359), ∀ a x, ((![v8359] : Fin 1 → IVec S16 32) a x).toNat < S4096.size a := fun v8359 k0_hw1572 => k0_hw1572

def k0_chk1573 (v8364 : IVec S16 32) : Prop :=
  (∀ a x, ((![v8364] : Fin 1 → IVec S16 32) a x).toNat < S4096.size a)
theorem k0_idx1573_inb : ∀ (v8364 : IVec S16 32) (k0_hw1573 : k0_chk1573 v8364), ∀ a x, ((![v8364] : Fin 1 → IVec S16 32) a x).toNat < S4096.size a := fun v8364 k0_hw1573 => k0_hw1573

def k0_chk1574 (v8369 : IVec S16 32) : Prop :=
  (∀ a x, ((![v8369] : Fin 1 → IVec S16 32) a x).toNat < S4096.size a)
theorem k0_idx1574_inb : ∀ (v8369 : IVec S16 32) (k0_hw1574 : k0_chk1574 v8369), ∀ a x, ((![v8369] : Fin 1 → IVec S16 32) a x).toNat < S4096.size a := fun v8369 k0_hw1574 => k0_hw1574

def k0_chk1575 (v8374 : IVec S16 32) : Prop :=
  (∀ a x, ((![v8374] : Fin 1 → IVec S16 32) a x).toNat < S4096.size a)
theorem k0_idx1575_inb : ∀ (v8374 : IVec S16 32) (k0_hw1575 : k0_chk1575 v8374), ∀ a x, ((![v8374] : Fin 1 → IVec S16 32) a x).toNat < S4096.size a := fun v8374 k0_hw1575 => k0_hw1575

def k0_chk1576 (v8379 : IVec S16 32) : Prop :=
  (∀ a x, ((![v8379] : Fin 1 → IVec S16 32) a x).toNat < S4096.size a)
theorem k0_idx1576_inb : ∀ (v8379 : IVec S16 32) (k0_hw1576 : k0_chk1576 v8379), ∀ a x, ((![v8379] : Fin 1 → IVec S16 32) a x).toNat < S4096.size a := fun v8379 k0_hw1576 => k0_hw1576

def k0_chk1577 (v8384 : IVec S16 32) : Prop :=
  (∀ a x, ((![v8384] : Fin 1 → IVec S16 32) a x).toNat < S4096.size a)
theorem k0_idx1577_inb : ∀ (v8384 : IVec S16 32) (k0_hw1577 : k0_chk1577 v8384), ∀ a x, ((![v8384] : Fin 1 → IVec S16 32) a x).toNat < S4096.size a := fun v8384 k0_hw1577 => k0_hw1577

def k0_chk1578 (v8389 : IVec S16 32) : Prop :=
  (∀ a x, ((![v8389] : Fin 1 → IVec S16 32) a x).toNat < S4096.size a)
theorem k0_idx1578_inb : ∀ (v8389 : IVec S16 32) (k0_hw1578 : k0_chk1578 v8389), ∀ a x, ((![v8389] : Fin 1 → IVec S16 32) a x).toNat < S4096.size a := fun v8389 k0_hw1578 => k0_hw1578

def k0_chk1579 (v8394 : IVec S16 32) : Prop :=
  (∀ a x, ((![v8394] : Fin 1 → IVec S16 32) a x).toNat < S4096.size a)
theorem k0_idx1579_inb : ∀ (v8394 : IVec S16 32) (k0_hw1579 : k0_chk1579 v8394), ∀ a x, ((![v8394] : Fin 1 → IVec S16 32) a x).toNat < S4096.size a := fun v8394 k0_hw1579 => k0_hw1579

def k0_chk1580 (v8399 : IVec S16 32) : Prop :=
  (∀ a x, ((![v8399] : Fin 1 → IVec S16 32) a x).toNat < S4096.size a)
theorem k0_idx1580_inb : ∀ (v8399 : IVec S16 32) (k0_hw1580 : k0_chk1580 v8399), ∀ a x, ((![v8399] : Fin 1 → IVec S16 32) a x).toNat < S4096.size a := fun v8399 k0_hw1580 => k0_hw1580

def k0_chk1581 (v8404 : IVec S16 32) : Prop :=
  (∀ a x, ((![v8404] : Fin 1 → IVec S16 32) a x).toNat < S4096.size a)
theorem k0_idx1581_inb : ∀ (v8404 : IVec S16 32) (k0_hw1581 : k0_chk1581 v8404), ∀ a x, ((![v8404] : Fin 1 → IVec S16 32) a x).toNat < S4096.size a := fun v8404 k0_hw1581 => k0_hw1581

def k0_chk1582 (v8409 : IVec S16 32) : Prop :=
  (∀ a x, ((![v8409] : Fin 1 → IVec S16 32) a x).toNat < S4096.size a)
theorem k0_idx1582_inb : ∀ (v8409 : IVec S16 32) (k0_hw1582 : k0_chk1582 v8409), ∀ a x, ((![v8409] : Fin 1 → IVec S16 32) a x).toNat < S4096.size a := fun v8409 k0_hw1582 => k0_hw1582

def k0_chk1583 (v8414 : IVec S16 32) : Prop :=
  (∀ a x, ((![v8414] : Fin 1 → IVec S16 32) a x).toNat < S4096.size a)
theorem k0_idx1583_inb : ∀ (v8414 : IVec S16 32) (k0_hw1583 : k0_chk1583 v8414), ∀ a x, ((![v8414] : Fin 1 → IVec S16 32) a x).toNat < S4096.size a := fun v8414 k0_hw1583 => k0_hw1583

def k0_chk1584 (v8419 : IVec S16 32) : Prop :=
  (∀ a x, ((![v8419] : Fin 1 → IVec S16 32) a x).toNat < S4096.size a)
theorem k0_idx1584_inb : ∀ (v8419 : IVec S16 32) (k0_hw1584 : k0_chk1584 v8419), ∀ a x, ((![v8419] : Fin 1 → IVec S16 32) a x).toNat < S4096.size a := fun v8419 k0_hw1584 => k0_hw1584

def k0_chk1585 (v8424 : IVec S16 32) : Prop :=
  (∀ a x, ((![v8424] : Fin 1 → IVec S16 32) a x).toNat < S4096.size a)
theorem k0_idx1585_inb : ∀ (v8424 : IVec S16 32) (k0_hw1585 : k0_chk1585 v8424), ∀ a x, ((![v8424] : Fin 1 → IVec S16 32) a x).toNat < S4096.size a := fun v8424 k0_hw1585 => k0_hw1585

def k0_chk1586 (v8429 : IVec S16 32) : Prop :=
  (∀ a x, ((![v8429] : Fin 1 → IVec S16 32) a x).toNat < S4096.size a)
theorem k0_idx1586_inb : ∀ (v8429 : IVec S16 32) (k0_hw1586 : k0_chk1586 v8429), ∀ a x, ((![v8429] : Fin 1 → IVec S16 32) a x).toNat < S4096.size a := fun v8429 k0_hw1586 => k0_hw1586

def k0_chk1587 (v8434 : IVec S16 32) : Prop :=
  (∀ a x, ((![v8434] : Fin 1 → IVec S16 32) a x).toNat < S4096.size a)
theorem k0_idx1587_inb : ∀ (v8434 : IVec S16 32) (k0_hw1587 : k0_chk1587 v8434), ∀ a x, ((![v8434] : Fin 1 → IVec S16 32) a x).toNat < S4096.size a := fun v8434 k0_hw1587 => k0_hw1587

def k0_chk1588 (v8439 : IVec S16 32) : Prop :=
  (∀ a x, ((![v8439] : Fin 1 → IVec S16 32) a x).toNat < S4096.size a)
theorem k0_idx1588_inb : ∀ (v8439 : IVec S16 32) (k0_hw1588 : k0_chk1588 v8439), ∀ a x, ((![v8439] : Fin 1 → IVec S16 32) a x).toNat < S4096.size a := fun v8439 k0_hw1588 => k0_hw1588

def k0_chk1589 (v8444 : IVec S16 32) : Prop :=
  (∀ a x, ((![v8444] : Fin 1 → IVec S16 32) a x).toNat < S4096.size a)
theorem k0_idx1589_inb : ∀ (v8444 : IVec S16 32) (k0_hw1589 : k0_chk1589 v8444), ∀ a x, ((![v8444] : Fin 1 → IVec S16 32) a x).toNat < S4096.size a := fun v8444 k0_hw1589 => k0_hw1589

def k0_chk1590 (v8449 : IVec S16 32) : Prop :=
  (∀ a x, ((![v8449] : Fin 1 → IVec S16 32) a x).toNat < S4096.size a)
theorem k0_idx1590_inb : ∀ (v8449 : IVec S16 32) (k0_hw1590 : k0_chk1590 v8449), ∀ a x, ((![v8449] : Fin 1 → IVec S16 32) a x).toNat < S4096.size a := fun v8449 k0_hw1590 => k0_hw1590

def k0_chk1591 (v8454 : IVec S16 32) : Prop :=
  (∀ a x, ((![v8454] : Fin 1 → IVec S16 32) a x).toNat < S4096.size a)
theorem k0_idx1591_inb : ∀ (v8454 : IVec S16 32) (k0_hw1591 : k0_chk1591 v8454), ∀ a x, ((![v8454] : Fin 1 → IVec S16 32) a x).toNat < S4096.size a := fun v8454 k0_hw1591 => k0_hw1591

def k0_chk1592 (v8459 : IVec S16 32) : Prop :=
  (∀ a x, ((![v8459] : Fin 1 → IVec S16 32) a x).toNat < S4096.size a)
theorem k0_idx1592_inb : ∀ (v8459 : IVec S16 32) (k0_hw1592 : k0_chk1592 v8459), ∀ a x, ((![v8459] : Fin 1 → IVec S16 32) a x).toNat < S4096.size a := fun v8459 k0_hw1592 => k0_hw1592

def k0_chk1593 (v8464 : IVec S16 32) : Prop :=
  (∀ a x, ((![v8464] : Fin 1 → IVec S16 32) a x).toNat < S4096.size a)
theorem k0_idx1593_inb : ∀ (v8464 : IVec S16 32) (k0_hw1593 : k0_chk1593 v8464), ∀ a x, ((![v8464] : Fin 1 → IVec S16 32) a x).toNat < S4096.size a := fun v8464 k0_hw1593 => k0_hw1593

def k0_chk1594 (v8469 : IVec S16 32) : Prop :=
  (∀ a x, ((![v8469] : Fin 1 → IVec S16 32) a x).toNat < S4096.size a)
theorem k0_idx1594_inb : ∀ (v8469 : IVec S16 32) (k0_hw1594 : k0_chk1594 v8469), ∀ a x, ((![v8469] : Fin 1 → IVec S16 32) a x).toNat < S4096.size a := fun v8469 k0_hw1594 => k0_hw1594

def k0_chk1595 (v8474 : IVec S16 32) : Prop :=
  (∀ a x, ((![v8474] : Fin 1 → IVec S16 32) a x).toNat < S4096.size a)
theorem k0_idx1595_inb : ∀ (v8474 : IVec S16 32) (k0_hw1595 : k0_chk1595 v8474), ∀ a x, ((![v8474] : Fin 1 → IVec S16 32) a x).toNat < S4096.size a := fun v8474 k0_hw1595 => k0_hw1595

def k0_chk1596 (v8479 : IVec S16 32) : Prop :=
  (∀ a x, ((![v8479] : Fin 1 → IVec S16 32) a x).toNat < S4096.size a)
theorem k0_idx1596_inb : ∀ (v8479 : IVec S16 32) (k0_hw1596 : k0_chk1596 v8479), ∀ a x, ((![v8479] : Fin 1 → IVec S16 32) a x).toNat < S4096.size a := fun v8479 k0_hw1596 => k0_hw1596

def k0_chk1597 (v8484 : IVec S16 32) : Prop :=
  (∀ a x, ((![v8484] : Fin 1 → IVec S16 32) a x).toNat < S4096.size a)
theorem k0_idx1597_inb : ∀ (v8484 : IVec S16 32) (k0_hw1597 : k0_chk1597 v8484), ∀ a x, ((![v8484] : Fin 1 → IVec S16 32) a x).toNat < S4096.size a := fun v8484 k0_hw1597 => k0_hw1597

def k0_chk1598 (v8486 : IVec S16 32) : Prop :=
  (∀ a x, ((![v8486] : Fin 1 → IVec S16 32) a x).toNat < S4096.size a)
theorem k0_idx1598_inb : ∀ (v8486 : IVec S16 32) (k0_hw1598 : k0_chk1598 v8486), ∀ a x, ((![v8486] : Fin 1 → IVec S16 32) a x).toNat < S4096.size a := fun v8486 k0_hw1598 => k0_hw1598

def k0_chk1599 (v8488 : IVec S16 32) : Prop :=
  (∀ a x, ((![v8488] : Fin 1 → IVec S16 32) a x).toNat < S4096.size a)
theorem k0_idx1599_inb : ∀ (v8488 : IVec S16 32) (k0_hw1599 : k0_chk1599 v8488), ∀ a x, ((![v8488] : Fin 1 → IVec S16 32) a x).toNat < S4096.size a := fun v8488 k0_hw1599 => k0_hw1599

def k0_chk1600 (v8490 : IVec S16 32) : Prop :=
  (∀ a x, ((![v8490] : Fin 1 → IVec S16 32) a x).toNat < S4096.size a)
theorem k0_idx1600_inb : ∀ (v8490 : IVec S16 32) (k0_hw1600 : k0_chk1600 v8490), ∀ a x, ((![v8490] : Fin 1 → IVec S16 32) a x).toNat < S4096.size a := fun v8490 k0_hw1600 => k0_hw1600
def k0_off57 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6455 : BitVec 32 := 512#32
  let v8491 : BitVec 32 := Scalar.muli v5574 c512_i32_6455
  let c288_i32_6456 : BitVec 32 := 288#32
  let v8492 : BitVec 32 := Scalar.addi v8491 c288_i32_6456
  let v8493 : Index := Scalar.indexCast v8492
  ![v8493.toNat]

def k0_chk1601 (v8494 : IVec S16 32) : Prop :=
  (∀ a x, ((![v8494] : Fin 1 → IVec S16 32) a x).toNat < S4096.size a)
theorem k0_idx1601_inb : ∀ (v8494 : IVec S16 32) (k0_hw1601 : k0_chk1601 v8494), ∀ a x, ((![v8494] : Fin 1 → IVec S16 32) a x).toNat < S4096.size a := fun v8494 k0_hw1601 => k0_hw1601

def k0_chk1602 (v8511 : IVec S16 32) : Prop :=
  (∀ a x, ((![v8511] : Fin 1 → IVec S16 32) a x).toNat < S4096.size a)
theorem k0_idx1602_inb : ∀ (v8511 : IVec S16 32) (k0_hw1602 : k0_chk1602 v8511), ∀ a x, ((![v8511] : Fin 1 → IVec S16 32) a x).toNat < S4096.size a := fun v8511 k0_hw1602 => k0_hw1602

def k0_chk1603 (v8516 : IVec S16 32) : Prop :=
  (∀ a x, ((![v8516] : Fin 1 → IVec S16 32) a x).toNat < S4096.size a)
theorem k0_idx1603_inb : ∀ (v8516 : IVec S16 32) (k0_hw1603 : k0_chk1603 v8516), ∀ a x, ((![v8516] : Fin 1 → IVec S16 32) a x).toNat < S4096.size a := fun v8516 k0_hw1603 => k0_hw1603

def k0_chk1604 (v8521 : IVec S16 32) : Prop :=
  (∀ a x, ((![v8521] : Fin 1 → IVec S16 32) a x).toNat < S4096.size a)
theorem k0_idx1604_inb : ∀ (v8521 : IVec S16 32) (k0_hw1604 : k0_chk1604 v8521), ∀ a x, ((![v8521] : Fin 1 → IVec S16 32) a x).toNat < S4096.size a := fun v8521 k0_hw1604 => k0_hw1604

def k0_chk1605 (v8526 : IVec S16 32) : Prop :=
  (∀ a x, ((![v8526] : Fin 1 → IVec S16 32) a x).toNat < S4096.size a)
theorem k0_idx1605_inb : ∀ (v8526 : IVec S16 32) (k0_hw1605 : k0_chk1605 v8526), ∀ a x, ((![v8526] : Fin 1 → IVec S16 32) a x).toNat < S4096.size a := fun v8526 k0_hw1605 => k0_hw1605

def k0_chk1606 (v8531 : IVec S16 32) : Prop :=
  (∀ a x, ((![v8531] : Fin 1 → IVec S16 32) a x).toNat < S4096.size a)
theorem k0_idx1606_inb : ∀ (v8531 : IVec S16 32) (k0_hw1606 : k0_chk1606 v8531), ∀ a x, ((![v8531] : Fin 1 → IVec S16 32) a x).toNat < S4096.size a := fun v8531 k0_hw1606 => k0_hw1606

def k0_chk1607 (v8536 : IVec S16 32) : Prop :=
  (∀ a x, ((![v8536] : Fin 1 → IVec S16 32) a x).toNat < S4096.size a)
theorem k0_idx1607_inb : ∀ (v8536 : IVec S16 32) (k0_hw1607 : k0_chk1607 v8536), ∀ a x, ((![v8536] : Fin 1 → IVec S16 32) a x).toNat < S4096.size a := fun v8536 k0_hw1607 => k0_hw1607

def k0_chk1608 (v8541 : IVec S16 32) : Prop :=
  (∀ a x, ((![v8541] : Fin 1 → IVec S16 32) a x).toNat < S4096.size a)
theorem k0_idx1608_inb : ∀ (v8541 : IVec S16 32) (k0_hw1608 : k0_chk1608 v8541), ∀ a x, ((![v8541] : Fin 1 → IVec S16 32) a x).toNat < S4096.size a := fun v8541 k0_hw1608 => k0_hw1608

def k0_chk1609 (v8546 : IVec S16 32) : Prop :=
  (∀ a x, ((![v8546] : Fin 1 → IVec S16 32) a x).toNat < S4096.size a)
theorem k0_idx1609_inb : ∀ (v8546 : IVec S16 32) (k0_hw1609 : k0_chk1609 v8546), ∀ a x, ((![v8546] : Fin 1 → IVec S16 32) a x).toNat < S4096.size a := fun v8546 k0_hw1609 => k0_hw1609

def k0_chk1610 (v8551 : IVec S16 32) : Prop :=
  (∀ a x, ((![v8551] : Fin 1 → IVec S16 32) a x).toNat < S4096.size a)
theorem k0_idx1610_inb : ∀ (v8551 : IVec S16 32) (k0_hw1610 : k0_chk1610 v8551), ∀ a x, ((![v8551] : Fin 1 → IVec S16 32) a x).toNat < S4096.size a := fun v8551 k0_hw1610 => k0_hw1610

def k0_chk1611 (v8556 : IVec S16 32) : Prop :=
  (∀ a x, ((![v8556] : Fin 1 → IVec S16 32) a x).toNat < S4096.size a)
theorem k0_idx1611_inb : ∀ (v8556 : IVec S16 32) (k0_hw1611 : k0_chk1611 v8556), ∀ a x, ((![v8556] : Fin 1 → IVec S16 32) a x).toNat < S4096.size a := fun v8556 k0_hw1611 => k0_hw1611

def k0_chk1612 (v8561 : IVec S16 32) : Prop :=
  (∀ a x, ((![v8561] : Fin 1 → IVec S16 32) a x).toNat < S4096.size a)
theorem k0_idx1612_inb : ∀ (v8561 : IVec S16 32) (k0_hw1612 : k0_chk1612 v8561), ∀ a x, ((![v8561] : Fin 1 → IVec S16 32) a x).toNat < S4096.size a := fun v8561 k0_hw1612 => k0_hw1612

def k0_chk1613 (v8566 : IVec S16 32) : Prop :=
  (∀ a x, ((![v8566] : Fin 1 → IVec S16 32) a x).toNat < S4096.size a)
theorem k0_idx1613_inb : ∀ (v8566 : IVec S16 32) (k0_hw1613 : k0_chk1613 v8566), ∀ a x, ((![v8566] : Fin 1 → IVec S16 32) a x).toNat < S4096.size a := fun v8566 k0_hw1613 => k0_hw1613

def k0_chk1614 (v8571 : IVec S16 32) : Prop :=
  (∀ a x, ((![v8571] : Fin 1 → IVec S16 32) a x).toNat < S4096.size a)
theorem k0_idx1614_inb : ∀ (v8571 : IVec S16 32) (k0_hw1614 : k0_chk1614 v8571), ∀ a x, ((![v8571] : Fin 1 → IVec S16 32) a x).toNat < S4096.size a := fun v8571 k0_hw1614 => k0_hw1614

def k0_chk1615 (v8576 : IVec S16 32) : Prop :=
  (∀ a x, ((![v8576] : Fin 1 → IVec S16 32) a x).toNat < S4096.size a)
theorem k0_idx1615_inb : ∀ (v8576 : IVec S16 32) (k0_hw1615 : k0_chk1615 v8576), ∀ a x, ((![v8576] : Fin 1 → IVec S16 32) a x).toNat < S4096.size a := fun v8576 k0_hw1615 => k0_hw1615

def k0_chk1616 (v8581 : IVec S16 32) : Prop :=
  (∀ a x, ((![v8581] : Fin 1 → IVec S16 32) a x).toNat < S4096.size a)
theorem k0_idx1616_inb : ∀ (v8581 : IVec S16 32) (k0_hw1616 : k0_chk1616 v8581), ∀ a x, ((![v8581] : Fin 1 → IVec S16 32) a x).toNat < S4096.size a := fun v8581 k0_hw1616 => k0_hw1616

def k0_chk1617 (v8586 : IVec S16 32) : Prop :=
  (∀ a x, ((![v8586] : Fin 1 → IVec S16 32) a x).toNat < S4096.size a)
theorem k0_idx1617_inb : ∀ (v8586 : IVec S16 32) (k0_hw1617 : k0_chk1617 v8586), ∀ a x, ((![v8586] : Fin 1 → IVec S16 32) a x).toNat < S4096.size a := fun v8586 k0_hw1617 => k0_hw1617

def k0_chk1618 (v8591 : IVec S16 32) : Prop :=
  (∀ a x, ((![v8591] : Fin 1 → IVec S16 32) a x).toNat < S4096.size a)
theorem k0_idx1618_inb : ∀ (v8591 : IVec S16 32) (k0_hw1618 : k0_chk1618 v8591), ∀ a x, ((![v8591] : Fin 1 → IVec S16 32) a x).toNat < S4096.size a := fun v8591 k0_hw1618 => k0_hw1618

def k0_chk1619 (v8596 : IVec S16 32) : Prop :=
  (∀ a x, ((![v8596] : Fin 1 → IVec S16 32) a x).toNat < S4096.size a)
theorem k0_idx1619_inb : ∀ (v8596 : IVec S16 32) (k0_hw1619 : k0_chk1619 v8596), ∀ a x, ((![v8596] : Fin 1 → IVec S16 32) a x).toNat < S4096.size a := fun v8596 k0_hw1619 => k0_hw1619

def k0_chk1620 (v8601 : IVec S16 32) : Prop :=
  (∀ a x, ((![v8601] : Fin 1 → IVec S16 32) a x).toNat < S4096.size a)
theorem k0_idx1620_inb : ∀ (v8601 : IVec S16 32) (k0_hw1620 : k0_chk1620 v8601), ∀ a x, ((![v8601] : Fin 1 → IVec S16 32) a x).toNat < S4096.size a := fun v8601 k0_hw1620 => k0_hw1620

def k0_chk1621 (v8606 : IVec S16 32) : Prop :=
  (∀ a x, ((![v8606] : Fin 1 → IVec S16 32) a x).toNat < S4096.size a)
theorem k0_idx1621_inb : ∀ (v8606 : IVec S16 32) (k0_hw1621 : k0_chk1621 v8606), ∀ a x, ((![v8606] : Fin 1 → IVec S16 32) a x).toNat < S4096.size a := fun v8606 k0_hw1621 => k0_hw1621

def k0_chk1622 (v8611 : IVec S16 32) : Prop :=
  (∀ a x, ((![v8611] : Fin 1 → IVec S16 32) a x).toNat < S4096.size a)
theorem k0_idx1622_inb : ∀ (v8611 : IVec S16 32) (k0_hw1622 : k0_chk1622 v8611), ∀ a x, ((![v8611] : Fin 1 → IVec S16 32) a x).toNat < S4096.size a := fun v8611 k0_hw1622 => k0_hw1622

def k0_chk1623 (v8616 : IVec S16 32) : Prop :=
  (∀ a x, ((![v8616] : Fin 1 → IVec S16 32) a x).toNat < S4096.size a)
theorem k0_idx1623_inb : ∀ (v8616 : IVec S16 32) (k0_hw1623 : k0_chk1623 v8616), ∀ a x, ((![v8616] : Fin 1 → IVec S16 32) a x).toNat < S4096.size a := fun v8616 k0_hw1623 => k0_hw1623

def k0_chk1624 (v8621 : IVec S16 32) : Prop :=
  (∀ a x, ((![v8621] : Fin 1 → IVec S16 32) a x).toNat < S4096.size a)
theorem k0_idx1624_inb : ∀ (v8621 : IVec S16 32) (k0_hw1624 : k0_chk1624 v8621), ∀ a x, ((![v8621] : Fin 1 → IVec S16 32) a x).toNat < S4096.size a := fun v8621 k0_hw1624 => k0_hw1624

def k0_chk1625 (v8626 : IVec S16 32) : Prop :=
  (∀ a x, ((![v8626] : Fin 1 → IVec S16 32) a x).toNat < S4096.size a)
theorem k0_idx1625_inb : ∀ (v8626 : IVec S16 32) (k0_hw1625 : k0_chk1625 v8626), ∀ a x, ((![v8626] : Fin 1 → IVec S16 32) a x).toNat < S4096.size a := fun v8626 k0_hw1625 => k0_hw1625

def k0_chk1626 (v8631 : IVec S16 32) : Prop :=
  (∀ a x, ((![v8631] : Fin 1 → IVec S16 32) a x).toNat < S4096.size a)
theorem k0_idx1626_inb : ∀ (v8631 : IVec S16 32) (k0_hw1626 : k0_chk1626 v8631), ∀ a x, ((![v8631] : Fin 1 → IVec S16 32) a x).toNat < S4096.size a := fun v8631 k0_hw1626 => k0_hw1626

def k0_chk1627 (v8636 : IVec S16 32) : Prop :=
  (∀ a x, ((![v8636] : Fin 1 → IVec S16 32) a x).toNat < S4096.size a)
theorem k0_idx1627_inb : ∀ (v8636 : IVec S16 32) (k0_hw1627 : k0_chk1627 v8636), ∀ a x, ((![v8636] : Fin 1 → IVec S16 32) a x).toNat < S4096.size a := fun v8636 k0_hw1627 => k0_hw1627

def k0_chk1628 (v8641 : IVec S16 32) : Prop :=
  (∀ a x, ((![v8641] : Fin 1 → IVec S16 32) a x).toNat < S4096.size a)
theorem k0_idx1628_inb : ∀ (v8641 : IVec S16 32) (k0_hw1628 : k0_chk1628 v8641), ∀ a x, ((![v8641] : Fin 1 → IVec S16 32) a x).toNat < S4096.size a := fun v8641 k0_hw1628 => k0_hw1628

def k0_chk1629 (v8646 : IVec S16 32) : Prop :=
  (∀ a x, ((![v8646] : Fin 1 → IVec S16 32) a x).toNat < S4096.size a)
theorem k0_idx1629_inb : ∀ (v8646 : IVec S16 32) (k0_hw1629 : k0_chk1629 v8646), ∀ a x, ((![v8646] : Fin 1 → IVec S16 32) a x).toNat < S4096.size a := fun v8646 k0_hw1629 => k0_hw1629

def k0_chk1630 (v8648 : IVec S16 32) : Prop :=
  (∀ a x, ((![v8648] : Fin 1 → IVec S16 32) a x).toNat < S4096.size a)
theorem k0_idx1630_inb : ∀ (v8648 : IVec S16 32) (k0_hw1630 : k0_chk1630 v8648), ∀ a x, ((![v8648] : Fin 1 → IVec S16 32) a x).toNat < S4096.size a := fun v8648 k0_hw1630 => k0_hw1630

def k0_chk1631 (v8650 : IVec S16 32) : Prop :=
  (∀ a x, ((![v8650] : Fin 1 → IVec S16 32) a x).toNat < S4096.size a)
theorem k0_idx1631_inb : ∀ (v8650 : IVec S16 32) (k0_hw1631 : k0_chk1631 v8650), ∀ a x, ((![v8650] : Fin 1 → IVec S16 32) a x).toNat < S4096.size a := fun v8650 k0_hw1631 => k0_hw1631

def k0_chk1632 (v8652 : IVec S16 32) : Prop :=
  (∀ a x, ((![v8652] : Fin 1 → IVec S16 32) a x).toNat < S4096.size a)
theorem k0_idx1632_inb : ∀ (v8652 : IVec S16 32) (k0_hw1632 : k0_chk1632 v8652), ∀ a x, ((![v8652] : Fin 1 → IVec S16 32) a x).toNat < S4096.size a := fun v8652 k0_hw1632 => k0_hw1632
def k0_off58 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6584 : BitVec 32 := 512#32
  let v8653 : BitVec 32 := Scalar.muli v5574 c512_i32_6584
  let c304_i32_6585 : BitVec 32 := 304#32
  let v8654 : BitVec 32 := Scalar.addi v8653 c304_i32_6585
  let v8655 : Index := Scalar.indexCast v8654
  ![v8655.toNat]

def k0_chk1633 (v8656 : IVec S16 32) : Prop :=
  (∀ a x, ((![v8656] : Fin 1 → IVec S16 32) a x).toNat < S4096.size a)
theorem k0_idx1633_inb : ∀ (v8656 : IVec S16 32) (k0_hw1633 : k0_chk1633 v8656), ∀ a x, ((![v8656] : Fin 1 → IVec S16 32) a x).toNat < S4096.size a := fun v8656 k0_hw1633 => k0_hw1633

def k0_chk1634 (v8673 : IVec S16 32) : Prop :=
  (∀ a x, ((![v8673] : Fin 1 → IVec S16 32) a x).toNat < S4096.size a)
theorem k0_idx1634_inb : ∀ (v8673 : IVec S16 32) (k0_hw1634 : k0_chk1634 v8673), ∀ a x, ((![v8673] : Fin 1 → IVec S16 32) a x).toNat < S4096.size a := fun v8673 k0_hw1634 => k0_hw1634

def k0_chk1635 (v8678 : IVec S16 32) : Prop :=
  (∀ a x, ((![v8678] : Fin 1 → IVec S16 32) a x).toNat < S4096.size a)
theorem k0_idx1635_inb : ∀ (v8678 : IVec S16 32) (k0_hw1635 : k0_chk1635 v8678), ∀ a x, ((![v8678] : Fin 1 → IVec S16 32) a x).toNat < S4096.size a := fun v8678 k0_hw1635 => k0_hw1635

def k0_chk1636 (v8683 : IVec S16 32) : Prop :=
  (∀ a x, ((![v8683] : Fin 1 → IVec S16 32) a x).toNat < S4096.size a)
theorem k0_idx1636_inb : ∀ (v8683 : IVec S16 32) (k0_hw1636 : k0_chk1636 v8683), ∀ a x, ((![v8683] : Fin 1 → IVec S16 32) a x).toNat < S4096.size a := fun v8683 k0_hw1636 => k0_hw1636

def k0_chk1637 (v8688 : IVec S16 32) : Prop :=
  (∀ a x, ((![v8688] : Fin 1 → IVec S16 32) a x).toNat < S4096.size a)
theorem k0_idx1637_inb : ∀ (v8688 : IVec S16 32) (k0_hw1637 : k0_chk1637 v8688), ∀ a x, ((![v8688] : Fin 1 → IVec S16 32) a x).toNat < S4096.size a := fun v8688 k0_hw1637 => k0_hw1637

def k0_chk1638 (v8693 : IVec S16 32) : Prop :=
  (∀ a x, ((![v8693] : Fin 1 → IVec S16 32) a x).toNat < S4096.size a)
theorem k0_idx1638_inb : ∀ (v8693 : IVec S16 32) (k0_hw1638 : k0_chk1638 v8693), ∀ a x, ((![v8693] : Fin 1 → IVec S16 32) a x).toNat < S4096.size a := fun v8693 k0_hw1638 => k0_hw1638

def k0_chk1639 (v8698 : IVec S16 32) : Prop :=
  (∀ a x, ((![v8698] : Fin 1 → IVec S16 32) a x).toNat < S4096.size a)
theorem k0_idx1639_inb : ∀ (v8698 : IVec S16 32) (k0_hw1639 : k0_chk1639 v8698), ∀ a x, ((![v8698] : Fin 1 → IVec S16 32) a x).toNat < S4096.size a := fun v8698 k0_hw1639 => k0_hw1639

def k0_chk1640 (v8703 : IVec S16 32) : Prop :=
  (∀ a x, ((![v8703] : Fin 1 → IVec S16 32) a x).toNat < S4096.size a)
theorem k0_idx1640_inb : ∀ (v8703 : IVec S16 32) (k0_hw1640 : k0_chk1640 v8703), ∀ a x, ((![v8703] : Fin 1 → IVec S16 32) a x).toNat < S4096.size a := fun v8703 k0_hw1640 => k0_hw1640

def k0_chk1641 (v8708 : IVec S16 32) : Prop :=
  (∀ a x, ((![v8708] : Fin 1 → IVec S16 32) a x).toNat < S4096.size a)
theorem k0_idx1641_inb : ∀ (v8708 : IVec S16 32) (k0_hw1641 : k0_chk1641 v8708), ∀ a x, ((![v8708] : Fin 1 → IVec S16 32) a x).toNat < S4096.size a := fun v8708 k0_hw1641 => k0_hw1641

def k0_chk1642 (v8713 : IVec S16 32) : Prop :=
  (∀ a x, ((![v8713] : Fin 1 → IVec S16 32) a x).toNat < S4096.size a)
theorem k0_idx1642_inb : ∀ (v8713 : IVec S16 32) (k0_hw1642 : k0_chk1642 v8713), ∀ a x, ((![v8713] : Fin 1 → IVec S16 32) a x).toNat < S4096.size a := fun v8713 k0_hw1642 => k0_hw1642

def k0_chk1643 (v8718 : IVec S16 32) : Prop :=
  (∀ a x, ((![v8718] : Fin 1 → IVec S16 32) a x).toNat < S4096.size a)
theorem k0_idx1643_inb : ∀ (v8718 : IVec S16 32) (k0_hw1643 : k0_chk1643 v8718), ∀ a x, ((![v8718] : Fin 1 → IVec S16 32) a x).toNat < S4096.size a := fun v8718 k0_hw1643 => k0_hw1643

def k0_chk1644 (v8723 : IVec S16 32) : Prop :=
  (∀ a x, ((![v8723] : Fin 1 → IVec S16 32) a x).toNat < S4096.size a)
theorem k0_idx1644_inb : ∀ (v8723 : IVec S16 32) (k0_hw1644 : k0_chk1644 v8723), ∀ a x, ((![v8723] : Fin 1 → IVec S16 32) a x).toNat < S4096.size a := fun v8723 k0_hw1644 => k0_hw1644

def k0_chk1645 (v8728 : IVec S16 32) : Prop :=
  (∀ a x, ((![v8728] : Fin 1 → IVec S16 32) a x).toNat < S4096.size a)
theorem k0_idx1645_inb : ∀ (v8728 : IVec S16 32) (k0_hw1645 : k0_chk1645 v8728), ∀ a x, ((![v8728] : Fin 1 → IVec S16 32) a x).toNat < S4096.size a := fun v8728 k0_hw1645 => k0_hw1645

def k0_chk1646 (v8733 : IVec S16 32) : Prop :=
  (∀ a x, ((![v8733] : Fin 1 → IVec S16 32) a x).toNat < S4096.size a)
theorem k0_idx1646_inb : ∀ (v8733 : IVec S16 32) (k0_hw1646 : k0_chk1646 v8733), ∀ a x, ((![v8733] : Fin 1 → IVec S16 32) a x).toNat < S4096.size a := fun v8733 k0_hw1646 => k0_hw1646

def k0_chk1647 (v8738 : IVec S16 32) : Prop :=
  (∀ a x, ((![v8738] : Fin 1 → IVec S16 32) a x).toNat < S4096.size a)
theorem k0_idx1647_inb : ∀ (v8738 : IVec S16 32) (k0_hw1647 : k0_chk1647 v8738), ∀ a x, ((![v8738] : Fin 1 → IVec S16 32) a x).toNat < S4096.size a := fun v8738 k0_hw1647 => k0_hw1647

def k0_chk1648 (v8743 : IVec S16 32) : Prop :=
  (∀ a x, ((![v8743] : Fin 1 → IVec S16 32) a x).toNat < S4096.size a)
theorem k0_idx1648_inb : ∀ (v8743 : IVec S16 32) (k0_hw1648 : k0_chk1648 v8743), ∀ a x, ((![v8743] : Fin 1 → IVec S16 32) a x).toNat < S4096.size a := fun v8743 k0_hw1648 => k0_hw1648

def k0_chk1649 (v8748 : IVec S16 32) : Prop :=
  (∀ a x, ((![v8748] : Fin 1 → IVec S16 32) a x).toNat < S4096.size a)
theorem k0_idx1649_inb : ∀ (v8748 : IVec S16 32) (k0_hw1649 : k0_chk1649 v8748), ∀ a x, ((![v8748] : Fin 1 → IVec S16 32) a x).toNat < S4096.size a := fun v8748 k0_hw1649 => k0_hw1649

def k0_chk1650 (v8753 : IVec S16 32) : Prop :=
  (∀ a x, ((![v8753] : Fin 1 → IVec S16 32) a x).toNat < S4096.size a)
theorem k0_idx1650_inb : ∀ (v8753 : IVec S16 32) (k0_hw1650 : k0_chk1650 v8753), ∀ a x, ((![v8753] : Fin 1 → IVec S16 32) a x).toNat < S4096.size a := fun v8753 k0_hw1650 => k0_hw1650

def k0_chk1651 (v8758 : IVec S16 32) : Prop :=
  (∀ a x, ((![v8758] : Fin 1 → IVec S16 32) a x).toNat < S4096.size a)
theorem k0_idx1651_inb : ∀ (v8758 : IVec S16 32) (k0_hw1651 : k0_chk1651 v8758), ∀ a x, ((![v8758] : Fin 1 → IVec S16 32) a x).toNat < S4096.size a := fun v8758 k0_hw1651 => k0_hw1651

def k0_chk1652 (v8763 : IVec S16 32) : Prop :=
  (∀ a x, ((![v8763] : Fin 1 → IVec S16 32) a x).toNat < S4096.size a)
theorem k0_idx1652_inb : ∀ (v8763 : IVec S16 32) (k0_hw1652 : k0_chk1652 v8763), ∀ a x, ((![v8763] : Fin 1 → IVec S16 32) a x).toNat < S4096.size a := fun v8763 k0_hw1652 => k0_hw1652

def k0_chk1653 (v8768 : IVec S16 32) : Prop :=
  (∀ a x, ((![v8768] : Fin 1 → IVec S16 32) a x).toNat < S4096.size a)
theorem k0_idx1653_inb : ∀ (v8768 : IVec S16 32) (k0_hw1653 : k0_chk1653 v8768), ∀ a x, ((![v8768] : Fin 1 → IVec S16 32) a x).toNat < S4096.size a := fun v8768 k0_hw1653 => k0_hw1653

def k0_chk1654 (v8773 : IVec S16 32) : Prop :=
  (∀ a x, ((![v8773] : Fin 1 → IVec S16 32) a x).toNat < S4096.size a)
theorem k0_idx1654_inb : ∀ (v8773 : IVec S16 32) (k0_hw1654 : k0_chk1654 v8773), ∀ a x, ((![v8773] : Fin 1 → IVec S16 32) a x).toNat < S4096.size a := fun v8773 k0_hw1654 => k0_hw1654

def k0_chk1655 (v8778 : IVec S16 32) : Prop :=
  (∀ a x, ((![v8778] : Fin 1 → IVec S16 32) a x).toNat < S4096.size a)
theorem k0_idx1655_inb : ∀ (v8778 : IVec S16 32) (k0_hw1655 : k0_chk1655 v8778), ∀ a x, ((![v8778] : Fin 1 → IVec S16 32) a x).toNat < S4096.size a := fun v8778 k0_hw1655 => k0_hw1655

def k0_chk1656 (v8783 : IVec S16 32) : Prop :=
  (∀ a x, ((![v8783] : Fin 1 → IVec S16 32) a x).toNat < S4096.size a)
theorem k0_idx1656_inb : ∀ (v8783 : IVec S16 32) (k0_hw1656 : k0_chk1656 v8783), ∀ a x, ((![v8783] : Fin 1 → IVec S16 32) a x).toNat < S4096.size a := fun v8783 k0_hw1656 => k0_hw1656

def k0_chk1657 (v8788 : IVec S16 32) : Prop :=
  (∀ a x, ((![v8788] : Fin 1 → IVec S16 32) a x).toNat < S4096.size a)
theorem k0_idx1657_inb : ∀ (v8788 : IVec S16 32) (k0_hw1657 : k0_chk1657 v8788), ∀ a x, ((![v8788] : Fin 1 → IVec S16 32) a x).toNat < S4096.size a := fun v8788 k0_hw1657 => k0_hw1657

def k0_chk1658 (v8793 : IVec S16 32) : Prop :=
  (∀ a x, ((![v8793] : Fin 1 → IVec S16 32) a x).toNat < S4096.size a)
theorem k0_idx1658_inb : ∀ (v8793 : IVec S16 32) (k0_hw1658 : k0_chk1658 v8793), ∀ a x, ((![v8793] : Fin 1 → IVec S16 32) a x).toNat < S4096.size a := fun v8793 k0_hw1658 => k0_hw1658

def k0_chk1659 (v8798 : IVec S16 32) : Prop :=
  (∀ a x, ((![v8798] : Fin 1 → IVec S16 32) a x).toNat < S4096.size a)
theorem k0_idx1659_inb : ∀ (v8798 : IVec S16 32) (k0_hw1659 : k0_chk1659 v8798), ∀ a x, ((![v8798] : Fin 1 → IVec S16 32) a x).toNat < S4096.size a := fun v8798 k0_hw1659 => k0_hw1659

def k0_chk1660 (v8803 : IVec S16 32) : Prop :=
  (∀ a x, ((![v8803] : Fin 1 → IVec S16 32) a x).toNat < S4096.size a)
theorem k0_idx1660_inb : ∀ (v8803 : IVec S16 32) (k0_hw1660 : k0_chk1660 v8803), ∀ a x, ((![v8803] : Fin 1 → IVec S16 32) a x).toNat < S4096.size a := fun v8803 k0_hw1660 => k0_hw1660

def k0_chk1661 (v8808 : IVec S16 32) : Prop :=
  (∀ a x, ((![v8808] : Fin 1 → IVec S16 32) a x).toNat < S4096.size a)
theorem k0_idx1661_inb : ∀ (v8808 : IVec S16 32) (k0_hw1661 : k0_chk1661 v8808), ∀ a x, ((![v8808] : Fin 1 → IVec S16 32) a x).toNat < S4096.size a := fun v8808 k0_hw1661 => k0_hw1661

def k0_chk1662 (v8810 : IVec S16 32) : Prop :=
  (∀ a x, ((![v8810] : Fin 1 → IVec S16 32) a x).toNat < S4096.size a)
theorem k0_idx1662_inb : ∀ (v8810 : IVec S16 32) (k0_hw1662 : k0_chk1662 v8810), ∀ a x, ((![v8810] : Fin 1 → IVec S16 32) a x).toNat < S4096.size a := fun v8810 k0_hw1662 => k0_hw1662

def k0_chk1663 (v8812 : IVec S16 32) : Prop :=
  (∀ a x, ((![v8812] : Fin 1 → IVec S16 32) a x).toNat < S4096.size a)
theorem k0_idx1663_inb : ∀ (v8812 : IVec S16 32) (k0_hw1663 : k0_chk1663 v8812), ∀ a x, ((![v8812] : Fin 1 → IVec S16 32) a x).toNat < S4096.size a := fun v8812 k0_hw1663 => k0_hw1663

def k0_chk1664 (v8814 : IVec S16 32) : Prop :=
  (∀ a x, ((![v8814] : Fin 1 → IVec S16 32) a x).toNat < S4096.size a)
theorem k0_idx1664_inb : ∀ (v8814 : IVec S16 32) (k0_hw1664 : k0_chk1664 v8814), ∀ a x, ((![v8814] : Fin 1 → IVec S16 32) a x).toNat < S4096.size a := fun v8814 k0_hw1664 => k0_hw1664
def k0_off59 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6713 : BitVec 32 := 512#32
  let v8815 : BitVec 32 := Scalar.muli v5574 c512_i32_6713
  let c320_i32_6714 : BitVec 32 := 320#32
  let v8816 : BitVec 32 := Scalar.addi v8815 c320_i32_6714
  let v8817 : Index := Scalar.indexCast v8816
  ![v8817.toNat]

def k0_chk1665 (v8818 : IVec S16 32) : Prop :=
  (∀ a x, ((![v8818] : Fin 1 → IVec S16 32) a x).toNat < S4096.size a)
theorem k0_idx1665_inb : ∀ (v8818 : IVec S16 32) (k0_hw1665 : k0_chk1665 v8818), ∀ a x, ((![v8818] : Fin 1 → IVec S16 32) a x).toNat < S4096.size a := fun v8818 k0_hw1665 => k0_hw1665

def k0_chk1666 (v8835 : IVec S16 32) : Prop :=
  (∀ a x, ((![v8835] : Fin 1 → IVec S16 32) a x).toNat < S4096.size a)
theorem k0_idx1666_inb : ∀ (v8835 : IVec S16 32) (k0_hw1666 : k0_chk1666 v8835), ∀ a x, ((![v8835] : Fin 1 → IVec S16 32) a x).toNat < S4096.size a := fun v8835 k0_hw1666 => k0_hw1666

def k0_chk1667 (v8840 : IVec S16 32) : Prop :=
  (∀ a x, ((![v8840] : Fin 1 → IVec S16 32) a x).toNat < S4096.size a)
theorem k0_idx1667_inb : ∀ (v8840 : IVec S16 32) (k0_hw1667 : k0_chk1667 v8840), ∀ a x, ((![v8840] : Fin 1 → IVec S16 32) a x).toNat < S4096.size a := fun v8840 k0_hw1667 => k0_hw1667

def k0_chk1668 (v8845 : IVec S16 32) : Prop :=
  (∀ a x, ((![v8845] : Fin 1 → IVec S16 32) a x).toNat < S4096.size a)
theorem k0_idx1668_inb : ∀ (v8845 : IVec S16 32) (k0_hw1668 : k0_chk1668 v8845), ∀ a x, ((![v8845] : Fin 1 → IVec S16 32) a x).toNat < S4096.size a := fun v8845 k0_hw1668 => k0_hw1668

def k0_chk1669 (v8850 : IVec S16 32) : Prop :=
  (∀ a x, ((![v8850] : Fin 1 → IVec S16 32) a x).toNat < S4096.size a)
theorem k0_idx1669_inb : ∀ (v8850 : IVec S16 32) (k0_hw1669 : k0_chk1669 v8850), ∀ a x, ((![v8850] : Fin 1 → IVec S16 32) a x).toNat < S4096.size a := fun v8850 k0_hw1669 => k0_hw1669

def k0_chk1670 (v8855 : IVec S16 32) : Prop :=
  (∀ a x, ((![v8855] : Fin 1 → IVec S16 32) a x).toNat < S4096.size a)
theorem k0_idx1670_inb : ∀ (v8855 : IVec S16 32) (k0_hw1670 : k0_chk1670 v8855), ∀ a x, ((![v8855] : Fin 1 → IVec S16 32) a x).toNat < S4096.size a := fun v8855 k0_hw1670 => k0_hw1670

def k0_chk1671 (v8860 : IVec S16 32) : Prop :=
  (∀ a x, ((![v8860] : Fin 1 → IVec S16 32) a x).toNat < S4096.size a)
theorem k0_idx1671_inb : ∀ (v8860 : IVec S16 32) (k0_hw1671 : k0_chk1671 v8860), ∀ a x, ((![v8860] : Fin 1 → IVec S16 32) a x).toNat < S4096.size a := fun v8860 k0_hw1671 => k0_hw1671

def k0_chk1672 (v8865 : IVec S16 32) : Prop :=
  (∀ a x, ((![v8865] : Fin 1 → IVec S16 32) a x).toNat < S4096.size a)
theorem k0_idx1672_inb : ∀ (v8865 : IVec S16 32) (k0_hw1672 : k0_chk1672 v8865), ∀ a x, ((![v8865] : Fin 1 → IVec S16 32) a x).toNat < S4096.size a := fun v8865 k0_hw1672 => k0_hw1672

def k0_chk1673 (v8870 : IVec S16 32) : Prop :=
  (∀ a x, ((![v8870] : Fin 1 → IVec S16 32) a x).toNat < S4096.size a)
theorem k0_idx1673_inb : ∀ (v8870 : IVec S16 32) (k0_hw1673 : k0_chk1673 v8870), ∀ a x, ((![v8870] : Fin 1 → IVec S16 32) a x).toNat < S4096.size a := fun v8870 k0_hw1673 => k0_hw1673

def k0_chk1674 (v8875 : IVec S16 32) : Prop :=
  (∀ a x, ((![v8875] : Fin 1 → IVec S16 32) a x).toNat < S4096.size a)
theorem k0_idx1674_inb : ∀ (v8875 : IVec S16 32) (k0_hw1674 : k0_chk1674 v8875), ∀ a x, ((![v8875] : Fin 1 → IVec S16 32) a x).toNat < S4096.size a := fun v8875 k0_hw1674 => k0_hw1674

def k0_chk1675 (v8880 : IVec S16 32) : Prop :=
  (∀ a x, ((![v8880] : Fin 1 → IVec S16 32) a x).toNat < S4096.size a)
theorem k0_idx1675_inb : ∀ (v8880 : IVec S16 32) (k0_hw1675 : k0_chk1675 v8880), ∀ a x, ((![v8880] : Fin 1 → IVec S16 32) a x).toNat < S4096.size a := fun v8880 k0_hw1675 => k0_hw1675

def k0_chk1676 (v8885 : IVec S16 32) : Prop :=
  (∀ a x, ((![v8885] : Fin 1 → IVec S16 32) a x).toNat < S4096.size a)
theorem k0_idx1676_inb : ∀ (v8885 : IVec S16 32) (k0_hw1676 : k0_chk1676 v8885), ∀ a x, ((![v8885] : Fin 1 → IVec S16 32) a x).toNat < S4096.size a := fun v8885 k0_hw1676 => k0_hw1676

def k0_chk1677 (v8890 : IVec S16 32) : Prop :=
  (∀ a x, ((![v8890] : Fin 1 → IVec S16 32) a x).toNat < S4096.size a)
theorem k0_idx1677_inb : ∀ (v8890 : IVec S16 32) (k0_hw1677 : k0_chk1677 v8890), ∀ a x, ((![v8890] : Fin 1 → IVec S16 32) a x).toNat < S4096.size a := fun v8890 k0_hw1677 => k0_hw1677

def k0_chk1678 (v8895 : IVec S16 32) : Prop :=
  (∀ a x, ((![v8895] : Fin 1 → IVec S16 32) a x).toNat < S4096.size a)
theorem k0_idx1678_inb : ∀ (v8895 : IVec S16 32) (k0_hw1678 : k0_chk1678 v8895), ∀ a x, ((![v8895] : Fin 1 → IVec S16 32) a x).toNat < S4096.size a := fun v8895 k0_hw1678 => k0_hw1678

def k0_chk1679 (v8900 : IVec S16 32) : Prop :=
  (∀ a x, ((![v8900] : Fin 1 → IVec S16 32) a x).toNat < S4096.size a)
theorem k0_idx1679_inb : ∀ (v8900 : IVec S16 32) (k0_hw1679 : k0_chk1679 v8900), ∀ a x, ((![v8900] : Fin 1 → IVec S16 32) a x).toNat < S4096.size a := fun v8900 k0_hw1679 => k0_hw1679

def k0_chk1680 (v8905 : IVec S16 32) : Prop :=
  (∀ a x, ((![v8905] : Fin 1 → IVec S16 32) a x).toNat < S4096.size a)
theorem k0_idx1680_inb : ∀ (v8905 : IVec S16 32) (k0_hw1680 : k0_chk1680 v8905), ∀ a x, ((![v8905] : Fin 1 → IVec S16 32) a x).toNat < S4096.size a := fun v8905 k0_hw1680 => k0_hw1680

def k0_chk1681 (v8910 : IVec S16 32) : Prop :=
  (∀ a x, ((![v8910] : Fin 1 → IVec S16 32) a x).toNat < S4096.size a)
theorem k0_idx1681_inb : ∀ (v8910 : IVec S16 32) (k0_hw1681 : k0_chk1681 v8910), ∀ a x, ((![v8910] : Fin 1 → IVec S16 32) a x).toNat < S4096.size a := fun v8910 k0_hw1681 => k0_hw1681

def k0_chk1682 (v8915 : IVec S16 32) : Prop :=
  (∀ a x, ((![v8915] : Fin 1 → IVec S16 32) a x).toNat < S4096.size a)
theorem k0_idx1682_inb : ∀ (v8915 : IVec S16 32) (k0_hw1682 : k0_chk1682 v8915), ∀ a x, ((![v8915] : Fin 1 → IVec S16 32) a x).toNat < S4096.size a := fun v8915 k0_hw1682 => k0_hw1682

def k0_chk1683 (v8920 : IVec S16 32) : Prop :=
  (∀ a x, ((![v8920] : Fin 1 → IVec S16 32) a x).toNat < S4096.size a)
theorem k0_idx1683_inb : ∀ (v8920 : IVec S16 32) (k0_hw1683 : k0_chk1683 v8920), ∀ a x, ((![v8920] : Fin 1 → IVec S16 32) a x).toNat < S4096.size a := fun v8920 k0_hw1683 => k0_hw1683

def k0_chk1684 (v8925 : IVec S16 32) : Prop :=
  (∀ a x, ((![v8925] : Fin 1 → IVec S16 32) a x).toNat < S4096.size a)
theorem k0_idx1684_inb : ∀ (v8925 : IVec S16 32) (k0_hw1684 : k0_chk1684 v8925), ∀ a x, ((![v8925] : Fin 1 → IVec S16 32) a x).toNat < S4096.size a := fun v8925 k0_hw1684 => k0_hw1684

def k0_chk1685 (v8930 : IVec S16 32) : Prop :=
  (∀ a x, ((![v8930] : Fin 1 → IVec S16 32) a x).toNat < S4096.size a)
theorem k0_idx1685_inb : ∀ (v8930 : IVec S16 32) (k0_hw1685 : k0_chk1685 v8930), ∀ a x, ((![v8930] : Fin 1 → IVec S16 32) a x).toNat < S4096.size a := fun v8930 k0_hw1685 => k0_hw1685

def k0_chk1686 (v8935 : IVec S16 32) : Prop :=
  (∀ a x, ((![v8935] : Fin 1 → IVec S16 32) a x).toNat < S4096.size a)
theorem k0_idx1686_inb : ∀ (v8935 : IVec S16 32) (k0_hw1686 : k0_chk1686 v8935), ∀ a x, ((![v8935] : Fin 1 → IVec S16 32) a x).toNat < S4096.size a := fun v8935 k0_hw1686 => k0_hw1686

def k0_chk1687 (v8940 : IVec S16 32) : Prop :=
  (∀ a x, ((![v8940] : Fin 1 → IVec S16 32) a x).toNat < S4096.size a)
theorem k0_idx1687_inb : ∀ (v8940 : IVec S16 32) (k0_hw1687 : k0_chk1687 v8940), ∀ a x, ((![v8940] : Fin 1 → IVec S16 32) a x).toNat < S4096.size a := fun v8940 k0_hw1687 => k0_hw1687

def k0_chk1688 (v8945 : IVec S16 32) : Prop :=
  (∀ a x, ((![v8945] : Fin 1 → IVec S16 32) a x).toNat < S4096.size a)
theorem k0_idx1688_inb : ∀ (v8945 : IVec S16 32) (k0_hw1688 : k0_chk1688 v8945), ∀ a x, ((![v8945] : Fin 1 → IVec S16 32) a x).toNat < S4096.size a := fun v8945 k0_hw1688 => k0_hw1688

def k0_chk1689 (v8950 : IVec S16 32) : Prop :=
  (∀ a x, ((![v8950] : Fin 1 → IVec S16 32) a x).toNat < S4096.size a)
theorem k0_idx1689_inb : ∀ (v8950 : IVec S16 32) (k0_hw1689 : k0_chk1689 v8950), ∀ a x, ((![v8950] : Fin 1 → IVec S16 32) a x).toNat < S4096.size a := fun v8950 k0_hw1689 => k0_hw1689

def k0_chk1690 (v8955 : IVec S16 32) : Prop :=
  (∀ a x, ((![v8955] : Fin 1 → IVec S16 32) a x).toNat < S4096.size a)
theorem k0_idx1690_inb : ∀ (v8955 : IVec S16 32) (k0_hw1690 : k0_chk1690 v8955), ∀ a x, ((![v8955] : Fin 1 → IVec S16 32) a x).toNat < S4096.size a := fun v8955 k0_hw1690 => k0_hw1690

def k0_chk1691 (v8960 : IVec S16 32) : Prop :=
  (∀ a x, ((![v8960] : Fin 1 → IVec S16 32) a x).toNat < S4096.size a)
theorem k0_idx1691_inb : ∀ (v8960 : IVec S16 32) (k0_hw1691 : k0_chk1691 v8960), ∀ a x, ((![v8960] : Fin 1 → IVec S16 32) a x).toNat < S4096.size a := fun v8960 k0_hw1691 => k0_hw1691

def k0_chk1692 (v8965 : IVec S16 32) : Prop :=
  (∀ a x, ((![v8965] : Fin 1 → IVec S16 32) a x).toNat < S4096.size a)
theorem k0_idx1692_inb : ∀ (v8965 : IVec S16 32) (k0_hw1692 : k0_chk1692 v8965), ∀ a x, ((![v8965] : Fin 1 → IVec S16 32) a x).toNat < S4096.size a := fun v8965 k0_hw1692 => k0_hw1692

def k0_chk1693 (v8970 : IVec S16 32) : Prop :=
  (∀ a x, ((![v8970] : Fin 1 → IVec S16 32) a x).toNat < S4096.size a)
theorem k0_idx1693_inb : ∀ (v8970 : IVec S16 32) (k0_hw1693 : k0_chk1693 v8970), ∀ a x, ((![v8970] : Fin 1 → IVec S16 32) a x).toNat < S4096.size a := fun v8970 k0_hw1693 => k0_hw1693

def k0_chk1694 (v8972 : IVec S16 32) : Prop :=
  (∀ a x, ((![v8972] : Fin 1 → IVec S16 32) a x).toNat < S4096.size a)
theorem k0_idx1694_inb : ∀ (v8972 : IVec S16 32) (k0_hw1694 : k0_chk1694 v8972), ∀ a x, ((![v8972] : Fin 1 → IVec S16 32) a x).toNat < S4096.size a := fun v8972 k0_hw1694 => k0_hw1694

def k0_chk1695 (v8974 : IVec S16 32) : Prop :=
  (∀ a x, ((![v8974] : Fin 1 → IVec S16 32) a x).toNat < S4096.size a)
theorem k0_idx1695_inb : ∀ (v8974 : IVec S16 32) (k0_hw1695 : k0_chk1695 v8974), ∀ a x, ((![v8974] : Fin 1 → IVec S16 32) a x).toNat < S4096.size a := fun v8974 k0_hw1695 => k0_hw1695

def k0_chk1696 (v8976 : IVec S16 32) : Prop :=
  (∀ a x, ((![v8976] : Fin 1 → IVec S16 32) a x).toNat < S4096.size a)
theorem k0_idx1696_inb : ∀ (v8976 : IVec S16 32) (k0_hw1696 : k0_chk1696 v8976), ∀ a x, ((![v8976] : Fin 1 → IVec S16 32) a x).toNat < S4096.size a := fun v8976 k0_hw1696 => k0_hw1696
def k0_off60 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6842 : BitVec 32 := 512#32
  let v8977 : BitVec 32 := Scalar.muli v5574 c512_i32_6842
  let c336_i32_6843 : BitVec 32 := 336#32
  let v8978 : BitVec 32 := Scalar.addi v8977 c336_i32_6843
  let v8979 : Index := Scalar.indexCast v8978
  ![v8979.toNat]

def k0_chk1697 (v8980 : IVec S16 32) : Prop :=
  (∀ a x, ((![v8980] : Fin 1 → IVec S16 32) a x).toNat < S4096.size a)
theorem k0_idx1697_inb : ∀ (v8980 : IVec S16 32) (k0_hw1697 : k0_chk1697 v8980), ∀ a x, ((![v8980] : Fin 1 → IVec S16 32) a x).toNat < S4096.size a := fun v8980 k0_hw1697 => k0_hw1697

def k0_chk1698 (v8997 : IVec S16 32) : Prop :=
  (∀ a x, ((![v8997] : Fin 1 → IVec S16 32) a x).toNat < S4096.size a)
theorem k0_idx1698_inb : ∀ (v8997 : IVec S16 32) (k0_hw1698 : k0_chk1698 v8997), ∀ a x, ((![v8997] : Fin 1 → IVec S16 32) a x).toNat < S4096.size a := fun v8997 k0_hw1698 => k0_hw1698

def k0_chk1699 (v9002 : IVec S16 32) : Prop :=
  (∀ a x, ((![v9002] : Fin 1 → IVec S16 32) a x).toNat < S4096.size a)
theorem k0_idx1699_inb : ∀ (v9002 : IVec S16 32) (k0_hw1699 : k0_chk1699 v9002), ∀ a x, ((![v9002] : Fin 1 → IVec S16 32) a x).toNat < S4096.size a := fun v9002 k0_hw1699 => k0_hw1699

def k0_chk1700 (v9007 : IVec S16 32) : Prop :=
  (∀ a x, ((![v9007] : Fin 1 → IVec S16 32) a x).toNat < S4096.size a)
theorem k0_idx1700_inb : ∀ (v9007 : IVec S16 32) (k0_hw1700 : k0_chk1700 v9007), ∀ a x, ((![v9007] : Fin 1 → IVec S16 32) a x).toNat < S4096.size a := fun v9007 k0_hw1700 => k0_hw1700

def k0_chk1701 (v9012 : IVec S16 32) : Prop :=
  (∀ a x, ((![v9012] : Fin 1 → IVec S16 32) a x).toNat < S4096.size a)
theorem k0_idx1701_inb : ∀ (v9012 : IVec S16 32) (k0_hw1701 : k0_chk1701 v9012), ∀ a x, ((![v9012] : Fin 1 → IVec S16 32) a x).toNat < S4096.size a := fun v9012 k0_hw1701 => k0_hw1701

def k0_chk1702 (v9017 : IVec S16 32) : Prop :=
  (∀ a x, ((![v9017] : Fin 1 → IVec S16 32) a x).toNat < S4096.size a)
theorem k0_idx1702_inb : ∀ (v9017 : IVec S16 32) (k0_hw1702 : k0_chk1702 v9017), ∀ a x, ((![v9017] : Fin 1 → IVec S16 32) a x).toNat < S4096.size a := fun v9017 k0_hw1702 => k0_hw1702

def k0_chk1703 (v9022 : IVec S16 32) : Prop :=
  (∀ a x, ((![v9022] : Fin 1 → IVec S16 32) a x).toNat < S4096.size a)
theorem k0_idx1703_inb : ∀ (v9022 : IVec S16 32) (k0_hw1703 : k0_chk1703 v9022), ∀ a x, ((![v9022] : Fin 1 → IVec S16 32) a x).toNat < S4096.size a := fun v9022 k0_hw1703 => k0_hw1703

def k0_chk1704 (v9027 : IVec S16 32) : Prop :=
  (∀ a x, ((![v9027] : Fin 1 → IVec S16 32) a x).toNat < S4096.size a)
theorem k0_idx1704_inb : ∀ (v9027 : IVec S16 32) (k0_hw1704 : k0_chk1704 v9027), ∀ a x, ((![v9027] : Fin 1 → IVec S16 32) a x).toNat < S4096.size a := fun v9027 k0_hw1704 => k0_hw1704

def k0_chk1705 (v9032 : IVec S16 32) : Prop :=
  (∀ a x, ((![v9032] : Fin 1 → IVec S16 32) a x).toNat < S4096.size a)
theorem k0_idx1705_inb : ∀ (v9032 : IVec S16 32) (k0_hw1705 : k0_chk1705 v9032), ∀ a x, ((![v9032] : Fin 1 → IVec S16 32) a x).toNat < S4096.size a := fun v9032 k0_hw1705 => k0_hw1705

def k0_chk1706 (v9037 : IVec S16 32) : Prop :=
  (∀ a x, ((![v9037] : Fin 1 → IVec S16 32) a x).toNat < S4096.size a)
theorem k0_idx1706_inb : ∀ (v9037 : IVec S16 32) (k0_hw1706 : k0_chk1706 v9037), ∀ a x, ((![v9037] : Fin 1 → IVec S16 32) a x).toNat < S4096.size a := fun v9037 k0_hw1706 => k0_hw1706

def k0_chk1707 (v9042 : IVec S16 32) : Prop :=
  (∀ a x, ((![v9042] : Fin 1 → IVec S16 32) a x).toNat < S4096.size a)
theorem k0_idx1707_inb : ∀ (v9042 : IVec S16 32) (k0_hw1707 : k0_chk1707 v9042), ∀ a x, ((![v9042] : Fin 1 → IVec S16 32) a x).toNat < S4096.size a := fun v9042 k0_hw1707 => k0_hw1707

def k0_chk1708 (v9047 : IVec S16 32) : Prop :=
  (∀ a x, ((![v9047] : Fin 1 → IVec S16 32) a x).toNat < S4096.size a)
theorem k0_idx1708_inb : ∀ (v9047 : IVec S16 32) (k0_hw1708 : k0_chk1708 v9047), ∀ a x, ((![v9047] : Fin 1 → IVec S16 32) a x).toNat < S4096.size a := fun v9047 k0_hw1708 => k0_hw1708

def k0_chk1709 (v9052 : IVec S16 32) : Prop :=
  (∀ a x, ((![v9052] : Fin 1 → IVec S16 32) a x).toNat < S4096.size a)
theorem k0_idx1709_inb : ∀ (v9052 : IVec S16 32) (k0_hw1709 : k0_chk1709 v9052), ∀ a x, ((![v9052] : Fin 1 → IVec S16 32) a x).toNat < S4096.size a := fun v9052 k0_hw1709 => k0_hw1709

def k0_chk1710 (v9057 : IVec S16 32) : Prop :=
  (∀ a x, ((![v9057] : Fin 1 → IVec S16 32) a x).toNat < S4096.size a)
theorem k0_idx1710_inb : ∀ (v9057 : IVec S16 32) (k0_hw1710 : k0_chk1710 v9057), ∀ a x, ((![v9057] : Fin 1 → IVec S16 32) a x).toNat < S4096.size a := fun v9057 k0_hw1710 => k0_hw1710

def k0_chk1711 (v9062 : IVec S16 32) : Prop :=
  (∀ a x, ((![v9062] : Fin 1 → IVec S16 32) a x).toNat < S4096.size a)
theorem k0_idx1711_inb : ∀ (v9062 : IVec S16 32) (k0_hw1711 : k0_chk1711 v9062), ∀ a x, ((![v9062] : Fin 1 → IVec S16 32) a x).toNat < S4096.size a := fun v9062 k0_hw1711 => k0_hw1711

def k0_chk1712 (v9067 : IVec S16 32) : Prop :=
  (∀ a x, ((![v9067] : Fin 1 → IVec S16 32) a x).toNat < S4096.size a)
theorem k0_idx1712_inb : ∀ (v9067 : IVec S16 32) (k0_hw1712 : k0_chk1712 v9067), ∀ a x, ((![v9067] : Fin 1 → IVec S16 32) a x).toNat < S4096.size a := fun v9067 k0_hw1712 => k0_hw1712

def k0_chk1713 (v9072 : IVec S16 32) : Prop :=
  (∀ a x, ((![v9072] : Fin 1 → IVec S16 32) a x).toNat < S4096.size a)
theorem k0_idx1713_inb : ∀ (v9072 : IVec S16 32) (k0_hw1713 : k0_chk1713 v9072), ∀ a x, ((![v9072] : Fin 1 → IVec S16 32) a x).toNat < S4096.size a := fun v9072 k0_hw1713 => k0_hw1713

def k0_chk1714 (v9077 : IVec S16 32) : Prop :=
  (∀ a x, ((![v9077] : Fin 1 → IVec S16 32) a x).toNat < S4096.size a)
theorem k0_idx1714_inb : ∀ (v9077 : IVec S16 32) (k0_hw1714 : k0_chk1714 v9077), ∀ a x, ((![v9077] : Fin 1 → IVec S16 32) a x).toNat < S4096.size a := fun v9077 k0_hw1714 => k0_hw1714

def k0_chk1715 (v9082 : IVec S16 32) : Prop :=
  (∀ a x, ((![v9082] : Fin 1 → IVec S16 32) a x).toNat < S4096.size a)
theorem k0_idx1715_inb : ∀ (v9082 : IVec S16 32) (k0_hw1715 : k0_chk1715 v9082), ∀ a x, ((![v9082] : Fin 1 → IVec S16 32) a x).toNat < S4096.size a := fun v9082 k0_hw1715 => k0_hw1715

def k0_chk1716 (v9087 : IVec S16 32) : Prop :=
  (∀ a x, ((![v9087] : Fin 1 → IVec S16 32) a x).toNat < S4096.size a)
theorem k0_idx1716_inb : ∀ (v9087 : IVec S16 32) (k0_hw1716 : k0_chk1716 v9087), ∀ a x, ((![v9087] : Fin 1 → IVec S16 32) a x).toNat < S4096.size a := fun v9087 k0_hw1716 => k0_hw1716

def k0_chk1717 (v9092 : IVec S16 32) : Prop :=
  (∀ a x, ((![v9092] : Fin 1 → IVec S16 32) a x).toNat < S4096.size a)
theorem k0_idx1717_inb : ∀ (v9092 : IVec S16 32) (k0_hw1717 : k0_chk1717 v9092), ∀ a x, ((![v9092] : Fin 1 → IVec S16 32) a x).toNat < S4096.size a := fun v9092 k0_hw1717 => k0_hw1717

def k0_chk1718 (v9097 : IVec S16 32) : Prop :=
  (∀ a x, ((![v9097] : Fin 1 → IVec S16 32) a x).toNat < S4096.size a)
theorem k0_idx1718_inb : ∀ (v9097 : IVec S16 32) (k0_hw1718 : k0_chk1718 v9097), ∀ a x, ((![v9097] : Fin 1 → IVec S16 32) a x).toNat < S4096.size a := fun v9097 k0_hw1718 => k0_hw1718

def k0_chk1719 (v9102 : IVec S16 32) : Prop :=
  (∀ a x, ((![v9102] : Fin 1 → IVec S16 32) a x).toNat < S4096.size a)
theorem k0_idx1719_inb : ∀ (v9102 : IVec S16 32) (k0_hw1719 : k0_chk1719 v9102), ∀ a x, ((![v9102] : Fin 1 → IVec S16 32) a x).toNat < S4096.size a := fun v9102 k0_hw1719 => k0_hw1719

def k0_chk1720 (v9107 : IVec S16 32) : Prop :=
  (∀ a x, ((![v9107] : Fin 1 → IVec S16 32) a x).toNat < S4096.size a)
theorem k0_idx1720_inb : ∀ (v9107 : IVec S16 32) (k0_hw1720 : k0_chk1720 v9107), ∀ a x, ((![v9107] : Fin 1 → IVec S16 32) a x).toNat < S4096.size a := fun v9107 k0_hw1720 => k0_hw1720

def k0_chk1721 (v9112 : IVec S16 32) : Prop :=
  (∀ a x, ((![v9112] : Fin 1 → IVec S16 32) a x).toNat < S4096.size a)
theorem k0_idx1721_inb : ∀ (v9112 : IVec S16 32) (k0_hw1721 : k0_chk1721 v9112), ∀ a x, ((![v9112] : Fin 1 → IVec S16 32) a x).toNat < S4096.size a := fun v9112 k0_hw1721 => k0_hw1721

def k0_chk1722 (v9117 : IVec S16 32) : Prop :=
  (∀ a x, ((![v9117] : Fin 1 → IVec S16 32) a x).toNat < S4096.size a)
theorem k0_idx1722_inb : ∀ (v9117 : IVec S16 32) (k0_hw1722 : k0_chk1722 v9117), ∀ a x, ((![v9117] : Fin 1 → IVec S16 32) a x).toNat < S4096.size a := fun v9117 k0_hw1722 => k0_hw1722

def k0_chk1723 (v9122 : IVec S16 32) : Prop :=
  (∀ a x, ((![v9122] : Fin 1 → IVec S16 32) a x).toNat < S4096.size a)
theorem k0_idx1723_inb : ∀ (v9122 : IVec S16 32) (k0_hw1723 : k0_chk1723 v9122), ∀ a x, ((![v9122] : Fin 1 → IVec S16 32) a x).toNat < S4096.size a := fun v9122 k0_hw1723 => k0_hw1723

def k0_chk1724 (v9127 : IVec S16 32) : Prop :=
  (∀ a x, ((![v9127] : Fin 1 → IVec S16 32) a x).toNat < S4096.size a)
theorem k0_idx1724_inb : ∀ (v9127 : IVec S16 32) (k0_hw1724 : k0_chk1724 v9127), ∀ a x, ((![v9127] : Fin 1 → IVec S16 32) a x).toNat < S4096.size a := fun v9127 k0_hw1724 => k0_hw1724

def k0_chk1725 (v9132 : IVec S16 32) : Prop :=
  (∀ a x, ((![v9132] : Fin 1 → IVec S16 32) a x).toNat < S4096.size a)
theorem k0_idx1725_inb : ∀ (v9132 : IVec S16 32) (k0_hw1725 : k0_chk1725 v9132), ∀ a x, ((![v9132] : Fin 1 → IVec S16 32) a x).toNat < S4096.size a := fun v9132 k0_hw1725 => k0_hw1725

def k0_chk1726 (v9134 : IVec S16 32) : Prop :=
  (∀ a x, ((![v9134] : Fin 1 → IVec S16 32) a x).toNat < S4096.size a)
theorem k0_idx1726_inb : ∀ (v9134 : IVec S16 32) (k0_hw1726 : k0_chk1726 v9134), ∀ a x, ((![v9134] : Fin 1 → IVec S16 32) a x).toNat < S4096.size a := fun v9134 k0_hw1726 => k0_hw1726

def k0_chk1727 (v9136 : IVec S16 32) : Prop :=
  (∀ a x, ((![v9136] : Fin 1 → IVec S16 32) a x).toNat < S4096.size a)
theorem k0_idx1727_inb : ∀ (v9136 : IVec S16 32) (k0_hw1727 : k0_chk1727 v9136), ∀ a x, ((![v9136] : Fin 1 → IVec S16 32) a x).toNat < S4096.size a := fun v9136 k0_hw1727 => k0_hw1727

def k0_chk1728 (v9138 : IVec S16 32) : Prop :=
  (∀ a x, ((![v9138] : Fin 1 → IVec S16 32) a x).toNat < S4096.size a)
theorem k0_idx1728_inb : ∀ (v9138 : IVec S16 32) (k0_hw1728 : k0_chk1728 v9138), ∀ a x, ((![v9138] : Fin 1 → IVec S16 32) a x).toNat < S4096.size a := fun v9138 k0_hw1728 => k0_hw1728
def k0_off61 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_6971 : BitVec 32 := 512#32
  let v9139 : BitVec 32 := Scalar.muli v5574 c512_i32_6971
  let c352_i32_6972 : BitVec 32 := 352#32
  let v9140 : BitVec 32 := Scalar.addi v9139 c352_i32_6972
  let v9141 : Index := Scalar.indexCast v9140
  ![v9141.toNat]

def k0_chk1729 (v9142 : IVec S16 32) : Prop :=
  (∀ a x, ((![v9142] : Fin 1 → IVec S16 32) a x).toNat < S4096.size a)
theorem k0_idx1729_inb : ∀ (v9142 : IVec S16 32) (k0_hw1729 : k0_chk1729 v9142), ∀ a x, ((![v9142] : Fin 1 → IVec S16 32) a x).toNat < S4096.size a := fun v9142 k0_hw1729 => k0_hw1729

def k0_chk1730 (v9159 : IVec S16 32) : Prop :=
  (∀ a x, ((![v9159] : Fin 1 → IVec S16 32) a x).toNat < S4096.size a)
theorem k0_idx1730_inb : ∀ (v9159 : IVec S16 32) (k0_hw1730 : k0_chk1730 v9159), ∀ a x, ((![v9159] : Fin 1 → IVec S16 32) a x).toNat < S4096.size a := fun v9159 k0_hw1730 => k0_hw1730

def k0_chk1731 (v9164 : IVec S16 32) : Prop :=
  (∀ a x, ((![v9164] : Fin 1 → IVec S16 32) a x).toNat < S4096.size a)
theorem k0_idx1731_inb : ∀ (v9164 : IVec S16 32) (k0_hw1731 : k0_chk1731 v9164), ∀ a x, ((![v9164] : Fin 1 → IVec S16 32) a x).toNat < S4096.size a := fun v9164 k0_hw1731 => k0_hw1731

def k0_chk1732 (v9169 : IVec S16 32) : Prop :=
  (∀ a x, ((![v9169] : Fin 1 → IVec S16 32) a x).toNat < S4096.size a)
theorem k0_idx1732_inb : ∀ (v9169 : IVec S16 32) (k0_hw1732 : k0_chk1732 v9169), ∀ a x, ((![v9169] : Fin 1 → IVec S16 32) a x).toNat < S4096.size a := fun v9169 k0_hw1732 => k0_hw1732

def k0_chk1733 (v9174 : IVec S16 32) : Prop :=
  (∀ a x, ((![v9174] : Fin 1 → IVec S16 32) a x).toNat < S4096.size a)
theorem k0_idx1733_inb : ∀ (v9174 : IVec S16 32) (k0_hw1733 : k0_chk1733 v9174), ∀ a x, ((![v9174] : Fin 1 → IVec S16 32) a x).toNat < S4096.size a := fun v9174 k0_hw1733 => k0_hw1733

def k0_chk1734 (v9179 : IVec S16 32) : Prop :=
  (∀ a x, ((![v9179] : Fin 1 → IVec S16 32) a x).toNat < S4096.size a)
theorem k0_idx1734_inb : ∀ (v9179 : IVec S16 32) (k0_hw1734 : k0_chk1734 v9179), ∀ a x, ((![v9179] : Fin 1 → IVec S16 32) a x).toNat < S4096.size a := fun v9179 k0_hw1734 => k0_hw1734

def k0_chk1735 (v9184 : IVec S16 32) : Prop :=
  (∀ a x, ((![v9184] : Fin 1 → IVec S16 32) a x).toNat < S4096.size a)
theorem k0_idx1735_inb : ∀ (v9184 : IVec S16 32) (k0_hw1735 : k0_chk1735 v9184), ∀ a x, ((![v9184] : Fin 1 → IVec S16 32) a x).toNat < S4096.size a := fun v9184 k0_hw1735 => k0_hw1735

def k0_chk1736 (v9189 : IVec S16 32) : Prop :=
  (∀ a x, ((![v9189] : Fin 1 → IVec S16 32) a x).toNat < S4096.size a)
theorem k0_idx1736_inb : ∀ (v9189 : IVec S16 32) (k0_hw1736 : k0_chk1736 v9189), ∀ a x, ((![v9189] : Fin 1 → IVec S16 32) a x).toNat < S4096.size a := fun v9189 k0_hw1736 => k0_hw1736

def k0_chk1737 (v9194 : IVec S16 32) : Prop :=
  (∀ a x, ((![v9194] : Fin 1 → IVec S16 32) a x).toNat < S4096.size a)
theorem k0_idx1737_inb : ∀ (v9194 : IVec S16 32) (k0_hw1737 : k0_chk1737 v9194), ∀ a x, ((![v9194] : Fin 1 → IVec S16 32) a x).toNat < S4096.size a := fun v9194 k0_hw1737 => k0_hw1737

def k0_chk1738 (v9199 : IVec S16 32) : Prop :=
  (∀ a x, ((![v9199] : Fin 1 → IVec S16 32) a x).toNat < S4096.size a)
theorem k0_idx1738_inb : ∀ (v9199 : IVec S16 32) (k0_hw1738 : k0_chk1738 v9199), ∀ a x, ((![v9199] : Fin 1 → IVec S16 32) a x).toNat < S4096.size a := fun v9199 k0_hw1738 => k0_hw1738

def k0_chk1739 (v9204 : IVec S16 32) : Prop :=
  (∀ a x, ((![v9204] : Fin 1 → IVec S16 32) a x).toNat < S4096.size a)
theorem k0_idx1739_inb : ∀ (v9204 : IVec S16 32) (k0_hw1739 : k0_chk1739 v9204), ∀ a x, ((![v9204] : Fin 1 → IVec S16 32) a x).toNat < S4096.size a := fun v9204 k0_hw1739 => k0_hw1739

def k0_chk1740 (v9209 : IVec S16 32) : Prop :=
  (∀ a x, ((![v9209] : Fin 1 → IVec S16 32) a x).toNat < S4096.size a)
theorem k0_idx1740_inb : ∀ (v9209 : IVec S16 32) (k0_hw1740 : k0_chk1740 v9209), ∀ a x, ((![v9209] : Fin 1 → IVec S16 32) a x).toNat < S4096.size a := fun v9209 k0_hw1740 => k0_hw1740

def k0_chk1741 (v9214 : IVec S16 32) : Prop :=
  (∀ a x, ((![v9214] : Fin 1 → IVec S16 32) a x).toNat < S4096.size a)
theorem k0_idx1741_inb : ∀ (v9214 : IVec S16 32) (k0_hw1741 : k0_chk1741 v9214), ∀ a x, ((![v9214] : Fin 1 → IVec S16 32) a x).toNat < S4096.size a := fun v9214 k0_hw1741 => k0_hw1741

def k0_chk1742 (v9219 : IVec S16 32) : Prop :=
  (∀ a x, ((![v9219] : Fin 1 → IVec S16 32) a x).toNat < S4096.size a)
theorem k0_idx1742_inb : ∀ (v9219 : IVec S16 32) (k0_hw1742 : k0_chk1742 v9219), ∀ a x, ((![v9219] : Fin 1 → IVec S16 32) a x).toNat < S4096.size a := fun v9219 k0_hw1742 => k0_hw1742

def k0_chk1743 (v9224 : IVec S16 32) : Prop :=
  (∀ a x, ((![v9224] : Fin 1 → IVec S16 32) a x).toNat < S4096.size a)
theorem k0_idx1743_inb : ∀ (v9224 : IVec S16 32) (k0_hw1743 : k0_chk1743 v9224), ∀ a x, ((![v9224] : Fin 1 → IVec S16 32) a x).toNat < S4096.size a := fun v9224 k0_hw1743 => k0_hw1743

def k0_chk1744 (v9229 : IVec S16 32) : Prop :=
  (∀ a x, ((![v9229] : Fin 1 → IVec S16 32) a x).toNat < S4096.size a)
theorem k0_idx1744_inb : ∀ (v9229 : IVec S16 32) (k0_hw1744 : k0_chk1744 v9229), ∀ a x, ((![v9229] : Fin 1 → IVec S16 32) a x).toNat < S4096.size a := fun v9229 k0_hw1744 => k0_hw1744

def k0_chk1745 (v9234 : IVec S16 32) : Prop :=
  (∀ a x, ((![v9234] : Fin 1 → IVec S16 32) a x).toNat < S4096.size a)
theorem k0_idx1745_inb : ∀ (v9234 : IVec S16 32) (k0_hw1745 : k0_chk1745 v9234), ∀ a x, ((![v9234] : Fin 1 → IVec S16 32) a x).toNat < S4096.size a := fun v9234 k0_hw1745 => k0_hw1745

def k0_chk1746 (v9239 : IVec S16 32) : Prop :=
  (∀ a x, ((![v9239] : Fin 1 → IVec S16 32) a x).toNat < S4096.size a)
theorem k0_idx1746_inb : ∀ (v9239 : IVec S16 32) (k0_hw1746 : k0_chk1746 v9239), ∀ a x, ((![v9239] : Fin 1 → IVec S16 32) a x).toNat < S4096.size a := fun v9239 k0_hw1746 => k0_hw1746

def k0_chk1747 (v9244 : IVec S16 32) : Prop :=
  (∀ a x, ((![v9244] : Fin 1 → IVec S16 32) a x).toNat < S4096.size a)
theorem k0_idx1747_inb : ∀ (v9244 : IVec S16 32) (k0_hw1747 : k0_chk1747 v9244), ∀ a x, ((![v9244] : Fin 1 → IVec S16 32) a x).toNat < S4096.size a := fun v9244 k0_hw1747 => k0_hw1747

def k0_chk1748 (v9249 : IVec S16 32) : Prop :=
  (∀ a x, ((![v9249] : Fin 1 → IVec S16 32) a x).toNat < S4096.size a)
theorem k0_idx1748_inb : ∀ (v9249 : IVec S16 32) (k0_hw1748 : k0_chk1748 v9249), ∀ a x, ((![v9249] : Fin 1 → IVec S16 32) a x).toNat < S4096.size a := fun v9249 k0_hw1748 => k0_hw1748

def k0_chk1749 (v9254 : IVec S16 32) : Prop :=
  (∀ a x, ((![v9254] : Fin 1 → IVec S16 32) a x).toNat < S4096.size a)
theorem k0_idx1749_inb : ∀ (v9254 : IVec S16 32) (k0_hw1749 : k0_chk1749 v9254), ∀ a x, ((![v9254] : Fin 1 → IVec S16 32) a x).toNat < S4096.size a := fun v9254 k0_hw1749 => k0_hw1749

def k0_chk1750 (v9259 : IVec S16 32) : Prop :=
  (∀ a x, ((![v9259] : Fin 1 → IVec S16 32) a x).toNat < S4096.size a)
theorem k0_idx1750_inb : ∀ (v9259 : IVec S16 32) (k0_hw1750 : k0_chk1750 v9259), ∀ a x, ((![v9259] : Fin 1 → IVec S16 32) a x).toNat < S4096.size a := fun v9259 k0_hw1750 => k0_hw1750

def k0_chk1751 (v9264 : IVec S16 32) : Prop :=
  (∀ a x, ((![v9264] : Fin 1 → IVec S16 32) a x).toNat < S4096.size a)
theorem k0_idx1751_inb : ∀ (v9264 : IVec S16 32) (k0_hw1751 : k0_chk1751 v9264), ∀ a x, ((![v9264] : Fin 1 → IVec S16 32) a x).toNat < S4096.size a := fun v9264 k0_hw1751 => k0_hw1751

def k0_chk1752 (v9269 : IVec S16 32) : Prop :=
  (∀ a x, ((![v9269] : Fin 1 → IVec S16 32) a x).toNat < S4096.size a)
theorem k0_idx1752_inb : ∀ (v9269 : IVec S16 32) (k0_hw1752 : k0_chk1752 v9269), ∀ a x, ((![v9269] : Fin 1 → IVec S16 32) a x).toNat < S4096.size a := fun v9269 k0_hw1752 => k0_hw1752

def k0_chk1753 (v9274 : IVec S16 32) : Prop :=
  (∀ a x, ((![v9274] : Fin 1 → IVec S16 32) a x).toNat < S4096.size a)
theorem k0_idx1753_inb : ∀ (v9274 : IVec S16 32) (k0_hw1753 : k0_chk1753 v9274), ∀ a x, ((![v9274] : Fin 1 → IVec S16 32) a x).toNat < S4096.size a := fun v9274 k0_hw1753 => k0_hw1753

def k0_chk1754 (v9279 : IVec S16 32) : Prop :=
  (∀ a x, ((![v9279] : Fin 1 → IVec S16 32) a x).toNat < S4096.size a)
theorem k0_idx1754_inb : ∀ (v9279 : IVec S16 32) (k0_hw1754 : k0_chk1754 v9279), ∀ a x, ((![v9279] : Fin 1 → IVec S16 32) a x).toNat < S4096.size a := fun v9279 k0_hw1754 => k0_hw1754

def k0_chk1755 (v9284 : IVec S16 32) : Prop :=
  (∀ a x, ((![v9284] : Fin 1 → IVec S16 32) a x).toNat < S4096.size a)
theorem k0_idx1755_inb : ∀ (v9284 : IVec S16 32) (k0_hw1755 : k0_chk1755 v9284), ∀ a x, ((![v9284] : Fin 1 → IVec S16 32) a x).toNat < S4096.size a := fun v9284 k0_hw1755 => k0_hw1755

def k0_chk1756 (v9289 : IVec S16 32) : Prop :=
  (∀ a x, ((![v9289] : Fin 1 → IVec S16 32) a x).toNat < S4096.size a)
theorem k0_idx1756_inb : ∀ (v9289 : IVec S16 32) (k0_hw1756 : k0_chk1756 v9289), ∀ a x, ((![v9289] : Fin 1 → IVec S16 32) a x).toNat < S4096.size a := fun v9289 k0_hw1756 => k0_hw1756

def k0_chk1757 (v9294 : IVec S16 32) : Prop :=
  (∀ a x, ((![v9294] : Fin 1 → IVec S16 32) a x).toNat < S4096.size a)
theorem k0_idx1757_inb : ∀ (v9294 : IVec S16 32) (k0_hw1757 : k0_chk1757 v9294), ∀ a x, ((![v9294] : Fin 1 → IVec S16 32) a x).toNat < S4096.size a := fun v9294 k0_hw1757 => k0_hw1757

def k0_chk1758 (v9296 : IVec S16 32) : Prop :=
  (∀ a x, ((![v9296] : Fin 1 → IVec S16 32) a x).toNat < S4096.size a)
theorem k0_idx1758_inb : ∀ (v9296 : IVec S16 32) (k0_hw1758 : k0_chk1758 v9296), ∀ a x, ((![v9296] : Fin 1 → IVec S16 32) a x).toNat < S4096.size a := fun v9296 k0_hw1758 => k0_hw1758

def k0_chk1759 (v9298 : IVec S16 32) : Prop :=
  (∀ a x, ((![v9298] : Fin 1 → IVec S16 32) a x).toNat < S4096.size a)
theorem k0_idx1759_inb : ∀ (v9298 : IVec S16 32) (k0_hw1759 : k0_chk1759 v9298), ∀ a x, ((![v9298] : Fin 1 → IVec S16 32) a x).toNat < S4096.size a := fun v9298 k0_hw1759 => k0_hw1759

def k0_chk1760 (v9300 : IVec S16 32) : Prop :=
  (∀ a x, ((![v9300] : Fin 1 → IVec S16 32) a x).toNat < S4096.size a)
theorem k0_idx1760_inb : ∀ (v9300 : IVec S16 32) (k0_hw1760 : k0_chk1760 v9300), ∀ a x, ((![v9300] : Fin 1 → IVec S16 32) a x).toNat < S4096.size a := fun v9300 k0_hw1760 => k0_hw1760
def k0_off62 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7100 : BitVec 32 := 512#32
  let v9301 : BitVec 32 := Scalar.muli v5574 c512_i32_7100
  let c368_i32_7101 : BitVec 32 := 368#32
  let v9302 : BitVec 32 := Scalar.addi v9301 c368_i32_7101
  let v9303 : Index := Scalar.indexCast v9302
  ![v9303.toNat]

def k0_chk1761 (v9304 : IVec S16 32) : Prop :=
  (∀ a x, ((![v9304] : Fin 1 → IVec S16 32) a x).toNat < S4096.size a)
theorem k0_idx1761_inb : ∀ (v9304 : IVec S16 32) (k0_hw1761 : k0_chk1761 v9304), ∀ a x, ((![v9304] : Fin 1 → IVec S16 32) a x).toNat < S4096.size a := fun v9304 k0_hw1761 => k0_hw1761

def k0_chk1762 (v9321 : IVec S16 32) : Prop :=
  (∀ a x, ((![v9321] : Fin 1 → IVec S16 32) a x).toNat < S4096.size a)
theorem k0_idx1762_inb : ∀ (v9321 : IVec S16 32) (k0_hw1762 : k0_chk1762 v9321), ∀ a x, ((![v9321] : Fin 1 → IVec S16 32) a x).toNat < S4096.size a := fun v9321 k0_hw1762 => k0_hw1762

def k0_chk1763 (v9326 : IVec S16 32) : Prop :=
  (∀ a x, ((![v9326] : Fin 1 → IVec S16 32) a x).toNat < S4096.size a)
theorem k0_idx1763_inb : ∀ (v9326 : IVec S16 32) (k0_hw1763 : k0_chk1763 v9326), ∀ a x, ((![v9326] : Fin 1 → IVec S16 32) a x).toNat < S4096.size a := fun v9326 k0_hw1763 => k0_hw1763

def k0_chk1764 (v9331 : IVec S16 32) : Prop :=
  (∀ a x, ((![v9331] : Fin 1 → IVec S16 32) a x).toNat < S4096.size a)
theorem k0_idx1764_inb : ∀ (v9331 : IVec S16 32) (k0_hw1764 : k0_chk1764 v9331), ∀ a x, ((![v9331] : Fin 1 → IVec S16 32) a x).toNat < S4096.size a := fun v9331 k0_hw1764 => k0_hw1764

def k0_chk1765 (v9336 : IVec S16 32) : Prop :=
  (∀ a x, ((![v9336] : Fin 1 → IVec S16 32) a x).toNat < S4096.size a)
theorem k0_idx1765_inb : ∀ (v9336 : IVec S16 32) (k0_hw1765 : k0_chk1765 v9336), ∀ a x, ((![v9336] : Fin 1 → IVec S16 32) a x).toNat < S4096.size a := fun v9336 k0_hw1765 => k0_hw1765

def k0_chk1766 (v9341 : IVec S16 32) : Prop :=
  (∀ a x, ((![v9341] : Fin 1 → IVec S16 32) a x).toNat < S4096.size a)
theorem k0_idx1766_inb : ∀ (v9341 : IVec S16 32) (k0_hw1766 : k0_chk1766 v9341), ∀ a x, ((![v9341] : Fin 1 → IVec S16 32) a x).toNat < S4096.size a := fun v9341 k0_hw1766 => k0_hw1766

def k0_chk1767 (v9346 : IVec S16 32) : Prop :=
  (∀ a x, ((![v9346] : Fin 1 → IVec S16 32) a x).toNat < S4096.size a)
theorem k0_idx1767_inb : ∀ (v9346 : IVec S16 32) (k0_hw1767 : k0_chk1767 v9346), ∀ a x, ((![v9346] : Fin 1 → IVec S16 32) a x).toNat < S4096.size a := fun v9346 k0_hw1767 => k0_hw1767

def k0_chk1768 (v9351 : IVec S16 32) : Prop :=
  (∀ a x, ((![v9351] : Fin 1 → IVec S16 32) a x).toNat < S4096.size a)
theorem k0_idx1768_inb : ∀ (v9351 : IVec S16 32) (k0_hw1768 : k0_chk1768 v9351), ∀ a x, ((![v9351] : Fin 1 → IVec S16 32) a x).toNat < S4096.size a := fun v9351 k0_hw1768 => k0_hw1768

def k0_chk1769 (v9356 : IVec S16 32) : Prop :=
  (∀ a x, ((![v9356] : Fin 1 → IVec S16 32) a x).toNat < S4096.size a)
theorem k0_idx1769_inb : ∀ (v9356 : IVec S16 32) (k0_hw1769 : k0_chk1769 v9356), ∀ a x, ((![v9356] : Fin 1 → IVec S16 32) a x).toNat < S4096.size a := fun v9356 k0_hw1769 => k0_hw1769

def k0_chk1770 (v9361 : IVec S16 32) : Prop :=
  (∀ a x, ((![v9361] : Fin 1 → IVec S16 32) a x).toNat < S4096.size a)
theorem k0_idx1770_inb : ∀ (v9361 : IVec S16 32) (k0_hw1770 : k0_chk1770 v9361), ∀ a x, ((![v9361] : Fin 1 → IVec S16 32) a x).toNat < S4096.size a := fun v9361 k0_hw1770 => k0_hw1770

def k0_chk1771 (v9366 : IVec S16 32) : Prop :=
  (∀ a x, ((![v9366] : Fin 1 → IVec S16 32) a x).toNat < S4096.size a)
theorem k0_idx1771_inb : ∀ (v9366 : IVec S16 32) (k0_hw1771 : k0_chk1771 v9366), ∀ a x, ((![v9366] : Fin 1 → IVec S16 32) a x).toNat < S4096.size a := fun v9366 k0_hw1771 => k0_hw1771

def k0_chk1772 (v9371 : IVec S16 32) : Prop :=
  (∀ a x, ((![v9371] : Fin 1 → IVec S16 32) a x).toNat < S4096.size a)
theorem k0_idx1772_inb : ∀ (v9371 : IVec S16 32) (k0_hw1772 : k0_chk1772 v9371), ∀ a x, ((![v9371] : Fin 1 → IVec S16 32) a x).toNat < S4096.size a := fun v9371 k0_hw1772 => k0_hw1772

def k0_chk1773 (v9376 : IVec S16 32) : Prop :=
  (∀ a x, ((![v9376] : Fin 1 → IVec S16 32) a x).toNat < S4096.size a)
theorem k0_idx1773_inb : ∀ (v9376 : IVec S16 32) (k0_hw1773 : k0_chk1773 v9376), ∀ a x, ((![v9376] : Fin 1 → IVec S16 32) a x).toNat < S4096.size a := fun v9376 k0_hw1773 => k0_hw1773

def k0_chk1774 (v9381 : IVec S16 32) : Prop :=
  (∀ a x, ((![v9381] : Fin 1 → IVec S16 32) a x).toNat < S4096.size a)
theorem k0_idx1774_inb : ∀ (v9381 : IVec S16 32) (k0_hw1774 : k0_chk1774 v9381), ∀ a x, ((![v9381] : Fin 1 → IVec S16 32) a x).toNat < S4096.size a := fun v9381 k0_hw1774 => k0_hw1774

def k0_chk1775 (v9386 : IVec S16 32) : Prop :=
  (∀ a x, ((![v9386] : Fin 1 → IVec S16 32) a x).toNat < S4096.size a)
theorem k0_idx1775_inb : ∀ (v9386 : IVec S16 32) (k0_hw1775 : k0_chk1775 v9386), ∀ a x, ((![v9386] : Fin 1 → IVec S16 32) a x).toNat < S4096.size a := fun v9386 k0_hw1775 => k0_hw1775

def k0_chk1776 (v9391 : IVec S16 32) : Prop :=
  (∀ a x, ((![v9391] : Fin 1 → IVec S16 32) a x).toNat < S4096.size a)
theorem k0_idx1776_inb : ∀ (v9391 : IVec S16 32) (k0_hw1776 : k0_chk1776 v9391), ∀ a x, ((![v9391] : Fin 1 → IVec S16 32) a x).toNat < S4096.size a := fun v9391 k0_hw1776 => k0_hw1776

def k0_chk1777 (v9396 : IVec S16 32) : Prop :=
  (∀ a x, ((![v9396] : Fin 1 → IVec S16 32) a x).toNat < S4096.size a)
theorem k0_idx1777_inb : ∀ (v9396 : IVec S16 32) (k0_hw1777 : k0_chk1777 v9396), ∀ a x, ((![v9396] : Fin 1 → IVec S16 32) a x).toNat < S4096.size a := fun v9396 k0_hw1777 => k0_hw1777

def k0_chk1778 (v9401 : IVec S16 32) : Prop :=
  (∀ a x, ((![v9401] : Fin 1 → IVec S16 32) a x).toNat < S4096.size a)
theorem k0_idx1778_inb : ∀ (v9401 : IVec S16 32) (k0_hw1778 : k0_chk1778 v9401), ∀ a x, ((![v9401] : Fin 1 → IVec S16 32) a x).toNat < S4096.size a := fun v9401 k0_hw1778 => k0_hw1778

def k0_chk1779 (v9406 : IVec S16 32) : Prop :=
  (∀ a x, ((![v9406] : Fin 1 → IVec S16 32) a x).toNat < S4096.size a)
theorem k0_idx1779_inb : ∀ (v9406 : IVec S16 32) (k0_hw1779 : k0_chk1779 v9406), ∀ a x, ((![v9406] : Fin 1 → IVec S16 32) a x).toNat < S4096.size a := fun v9406 k0_hw1779 => k0_hw1779

def k0_chk1780 (v9411 : IVec S16 32) : Prop :=
  (∀ a x, ((![v9411] : Fin 1 → IVec S16 32) a x).toNat < S4096.size a)
theorem k0_idx1780_inb : ∀ (v9411 : IVec S16 32) (k0_hw1780 : k0_chk1780 v9411), ∀ a x, ((![v9411] : Fin 1 → IVec S16 32) a x).toNat < S4096.size a := fun v9411 k0_hw1780 => k0_hw1780

def k0_chk1781 (v9416 : IVec S16 32) : Prop :=
  (∀ a x, ((![v9416] : Fin 1 → IVec S16 32) a x).toNat < S4096.size a)
theorem k0_idx1781_inb : ∀ (v9416 : IVec S16 32) (k0_hw1781 : k0_chk1781 v9416), ∀ a x, ((![v9416] : Fin 1 → IVec S16 32) a x).toNat < S4096.size a := fun v9416 k0_hw1781 => k0_hw1781

def k0_chk1782 (v9421 : IVec S16 32) : Prop :=
  (∀ a x, ((![v9421] : Fin 1 → IVec S16 32) a x).toNat < S4096.size a)
theorem k0_idx1782_inb : ∀ (v9421 : IVec S16 32) (k0_hw1782 : k0_chk1782 v9421), ∀ a x, ((![v9421] : Fin 1 → IVec S16 32) a x).toNat < S4096.size a := fun v9421 k0_hw1782 => k0_hw1782

def k0_chk1783 (v9426 : IVec S16 32) : Prop :=
  (∀ a x, ((![v9426] : Fin 1 → IVec S16 32) a x).toNat < S4096.size a)
theorem k0_idx1783_inb : ∀ (v9426 : IVec S16 32) (k0_hw1783 : k0_chk1783 v9426), ∀ a x, ((![v9426] : Fin 1 → IVec S16 32) a x).toNat < S4096.size a := fun v9426 k0_hw1783 => k0_hw1783

def k0_chk1784 (v9431 : IVec S16 32) : Prop :=
  (∀ a x, ((![v9431] : Fin 1 → IVec S16 32) a x).toNat < S4096.size a)
theorem k0_idx1784_inb : ∀ (v9431 : IVec S16 32) (k0_hw1784 : k0_chk1784 v9431), ∀ a x, ((![v9431] : Fin 1 → IVec S16 32) a x).toNat < S4096.size a := fun v9431 k0_hw1784 => k0_hw1784

def k0_chk1785 (v9436 : IVec S16 32) : Prop :=
  (∀ a x, ((![v9436] : Fin 1 → IVec S16 32) a x).toNat < S4096.size a)
theorem k0_idx1785_inb : ∀ (v9436 : IVec S16 32) (k0_hw1785 : k0_chk1785 v9436), ∀ a x, ((![v9436] : Fin 1 → IVec S16 32) a x).toNat < S4096.size a := fun v9436 k0_hw1785 => k0_hw1785

def k0_chk1786 (v9441 : IVec S16 32) : Prop :=
  (∀ a x, ((![v9441] : Fin 1 → IVec S16 32) a x).toNat < S4096.size a)
theorem k0_idx1786_inb : ∀ (v9441 : IVec S16 32) (k0_hw1786 : k0_chk1786 v9441), ∀ a x, ((![v9441] : Fin 1 → IVec S16 32) a x).toNat < S4096.size a := fun v9441 k0_hw1786 => k0_hw1786

def k0_chk1787 (v9446 : IVec S16 32) : Prop :=
  (∀ a x, ((![v9446] : Fin 1 → IVec S16 32) a x).toNat < S4096.size a)
theorem k0_idx1787_inb : ∀ (v9446 : IVec S16 32) (k0_hw1787 : k0_chk1787 v9446), ∀ a x, ((![v9446] : Fin 1 → IVec S16 32) a x).toNat < S4096.size a := fun v9446 k0_hw1787 => k0_hw1787

def k0_chk1788 (v9451 : IVec S16 32) : Prop :=
  (∀ a x, ((![v9451] : Fin 1 → IVec S16 32) a x).toNat < S4096.size a)
theorem k0_idx1788_inb : ∀ (v9451 : IVec S16 32) (k0_hw1788 : k0_chk1788 v9451), ∀ a x, ((![v9451] : Fin 1 → IVec S16 32) a x).toNat < S4096.size a := fun v9451 k0_hw1788 => k0_hw1788

def k0_chk1789 (v9456 : IVec S16 32) : Prop :=
  (∀ a x, ((![v9456] : Fin 1 → IVec S16 32) a x).toNat < S4096.size a)
theorem k0_idx1789_inb : ∀ (v9456 : IVec S16 32) (k0_hw1789 : k0_chk1789 v9456), ∀ a x, ((![v9456] : Fin 1 → IVec S16 32) a x).toNat < S4096.size a := fun v9456 k0_hw1789 => k0_hw1789

def k0_chk1790 (v9458 : IVec S16 32) : Prop :=
  (∀ a x, ((![v9458] : Fin 1 → IVec S16 32) a x).toNat < S4096.size a)
theorem k0_idx1790_inb : ∀ (v9458 : IVec S16 32) (k0_hw1790 : k0_chk1790 v9458), ∀ a x, ((![v9458] : Fin 1 → IVec S16 32) a x).toNat < S4096.size a := fun v9458 k0_hw1790 => k0_hw1790

def k0_chk1791 (v9460 : IVec S16 32) : Prop :=
  (∀ a x, ((![v9460] : Fin 1 → IVec S16 32) a x).toNat < S4096.size a)
theorem k0_idx1791_inb : ∀ (v9460 : IVec S16 32) (k0_hw1791 : k0_chk1791 v9460), ∀ a x, ((![v9460] : Fin 1 → IVec S16 32) a x).toNat < S4096.size a := fun v9460 k0_hw1791 => k0_hw1791

def k0_chk1792 (v9462 : IVec S16 32) : Prop :=
  (∀ a x, ((![v9462] : Fin 1 → IVec S16 32) a x).toNat < S4096.size a)
theorem k0_idx1792_inb : ∀ (v9462 : IVec S16 32) (k0_hw1792 : k0_chk1792 v9462), ∀ a x, ((![v9462] : Fin 1 → IVec S16 32) a x).toNat < S4096.size a := fun v9462 k0_hw1792 => k0_hw1792
def k0_off63 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7229 : BitVec 32 := 512#32
  let v9463 : BitVec 32 := Scalar.muli v5574 c512_i32_7229
  let c384_i32_7230 : BitVec 32 := 384#32
  let v9464 : BitVec 32 := Scalar.addi v9463 c384_i32_7230
  let v9465 : Index := Scalar.indexCast v9464
  ![v9465.toNat]

def k0_chk1793 (v9466 : IVec S16 32) : Prop :=
  (∀ a x, ((![v9466] : Fin 1 → IVec S16 32) a x).toNat < S4096.size a)
theorem k0_idx1793_inb : ∀ (v9466 : IVec S16 32) (k0_hw1793 : k0_chk1793 v9466), ∀ a x, ((![v9466] : Fin 1 → IVec S16 32) a x).toNat < S4096.size a := fun v9466 k0_hw1793 => k0_hw1793

def k0_chk1794 (v9483 : IVec S16 32) : Prop :=
  (∀ a x, ((![v9483] : Fin 1 → IVec S16 32) a x).toNat < S4096.size a)
theorem k0_idx1794_inb : ∀ (v9483 : IVec S16 32) (k0_hw1794 : k0_chk1794 v9483), ∀ a x, ((![v9483] : Fin 1 → IVec S16 32) a x).toNat < S4096.size a := fun v9483 k0_hw1794 => k0_hw1794

def k0_chk1795 (v9488 : IVec S16 32) : Prop :=
  (∀ a x, ((![v9488] : Fin 1 → IVec S16 32) a x).toNat < S4096.size a)
theorem k0_idx1795_inb : ∀ (v9488 : IVec S16 32) (k0_hw1795 : k0_chk1795 v9488), ∀ a x, ((![v9488] : Fin 1 → IVec S16 32) a x).toNat < S4096.size a := fun v9488 k0_hw1795 => k0_hw1795

variable {F : FTy → Type} [FloatOps F]

def k0_chk1796 (v9493 : IVec S16 32) : Prop :=
  (∀ a x, ((![v9493] : Fin 1 → IVec S16 32) a x).toNat < S4096.size a)
theorem k0_idx1796_inb : ∀ (v9493 : IVec S16 32) (k0_hw1796 : k0_chk1796 v9493), ∀ a x, ((![v9493] : Fin 1 → IVec S16 32) a x).toNat < S4096.size a := fun v9493 k0_hw1796 => k0_hw1796

def k0_chk1797 (v9498 : IVec S16 32) : Prop :=
  (∀ a x, ((![v9498] : Fin 1 → IVec S16 32) a x).toNat < S4096.size a)
theorem k0_idx1797_inb : ∀ (v9498 : IVec S16 32) (k0_hw1797 : k0_chk1797 v9498), ∀ a x, ((![v9498] : Fin 1 → IVec S16 32) a x).toNat < S4096.size a := fun v9498 k0_hw1797 => k0_hw1797

def k0_chk1798 (v9503 : IVec S16 32) : Prop :=
  (∀ a x, ((![v9503] : Fin 1 → IVec S16 32) a x).toNat < S4096.size a)
theorem k0_idx1798_inb : ∀ (v9503 : IVec S16 32) (k0_hw1798 : k0_chk1798 v9503), ∀ a x, ((![v9503] : Fin 1 → IVec S16 32) a x).toNat < S4096.size a := fun v9503 k0_hw1798 => k0_hw1798

def k0_chk1799 (v9508 : IVec S16 32) : Prop :=
  (∀ a x, ((![v9508] : Fin 1 → IVec S16 32) a x).toNat < S4096.size a)
theorem k0_idx1799_inb : ∀ (v9508 : IVec S16 32) (k0_hw1799 : k0_chk1799 v9508), ∀ a x, ((![v9508] : Fin 1 → IVec S16 32) a x).toNat < S4096.size a := fun v9508 k0_hw1799 => k0_hw1799

def k0_chk1800 (v9513 : IVec S16 32) : Prop :=
  (∀ a x, ((![v9513] : Fin 1 → IVec S16 32) a x).toNat < S4096.size a)
theorem k0_idx1800_inb : ∀ (v9513 : IVec S16 32) (k0_hw1800 : k0_chk1800 v9513), ∀ a x, ((![v9513] : Fin 1 → IVec S16 32) a x).toNat < S4096.size a := fun v9513 k0_hw1800 => k0_hw1800

def k0_chk1801 (v9518 : IVec S16 32) : Prop :=
  (∀ a x, ((![v9518] : Fin 1 → IVec S16 32) a x).toNat < S4096.size a)
theorem k0_idx1801_inb : ∀ (v9518 : IVec S16 32) (k0_hw1801 : k0_chk1801 v9518), ∀ a x, ((![v9518] : Fin 1 → IVec S16 32) a x).toNat < S4096.size a := fun v9518 k0_hw1801 => k0_hw1801

def k0_chk1802 (v9523 : IVec S16 32) : Prop :=
  (∀ a x, ((![v9523] : Fin 1 → IVec S16 32) a x).toNat < S4096.size a)
theorem k0_idx1802_inb : ∀ (v9523 : IVec S16 32) (k0_hw1802 : k0_chk1802 v9523), ∀ a x, ((![v9523] : Fin 1 → IVec S16 32) a x).toNat < S4096.size a := fun v9523 k0_hw1802 => k0_hw1802

def k0_chk1803 (v9528 : IVec S16 32) : Prop :=
  (∀ a x, ((![v9528] : Fin 1 → IVec S16 32) a x).toNat < S4096.size a)
theorem k0_idx1803_inb : ∀ (v9528 : IVec S16 32) (k0_hw1803 : k0_chk1803 v9528), ∀ a x, ((![v9528] : Fin 1 → IVec S16 32) a x).toNat < S4096.size a := fun v9528 k0_hw1803 => k0_hw1803

def k0_chk1804 (v9533 : IVec S16 32) : Prop :=
  (∀ a x, ((![v9533] : Fin 1 → IVec S16 32) a x).toNat < S4096.size a)
theorem k0_idx1804_inb : ∀ (v9533 : IVec S16 32) (k0_hw1804 : k0_chk1804 v9533), ∀ a x, ((![v9533] : Fin 1 → IVec S16 32) a x).toNat < S4096.size a := fun v9533 k0_hw1804 => k0_hw1804

def k0_chk1805 (v9538 : IVec S16 32) : Prop :=
  (∀ a x, ((![v9538] : Fin 1 → IVec S16 32) a x).toNat < S4096.size a)
theorem k0_idx1805_inb : ∀ (v9538 : IVec S16 32) (k0_hw1805 : k0_chk1805 v9538), ∀ a x, ((![v9538] : Fin 1 → IVec S16 32) a x).toNat < S4096.size a := fun v9538 k0_hw1805 => k0_hw1805

def k0_chk1806 (v9543 : IVec S16 32) : Prop :=
  (∀ a x, ((![v9543] : Fin 1 → IVec S16 32) a x).toNat < S4096.size a)
theorem k0_idx1806_inb : ∀ (v9543 : IVec S16 32) (k0_hw1806 : k0_chk1806 v9543), ∀ a x, ((![v9543] : Fin 1 → IVec S16 32) a x).toNat < S4096.size a := fun v9543 k0_hw1806 => k0_hw1806

def k0_chk1807 (v9548 : IVec S16 32) : Prop :=
  (∀ a x, ((![v9548] : Fin 1 → IVec S16 32) a x).toNat < S4096.size a)
theorem k0_idx1807_inb : ∀ (v9548 : IVec S16 32) (k0_hw1807 : k0_chk1807 v9548), ∀ a x, ((![v9548] : Fin 1 → IVec S16 32) a x).toNat < S4096.size a := fun v9548 k0_hw1807 => k0_hw1807

def k0_chk1808 (v9553 : IVec S16 32) : Prop :=
  (∀ a x, ((![v9553] : Fin 1 → IVec S16 32) a x).toNat < S4096.size a)
theorem k0_idx1808_inb : ∀ (v9553 : IVec S16 32) (k0_hw1808 : k0_chk1808 v9553), ∀ a x, ((![v9553] : Fin 1 → IVec S16 32) a x).toNat < S4096.size a := fun v9553 k0_hw1808 => k0_hw1808

def k0_chk1809 (v9558 : IVec S16 32) : Prop :=
  (∀ a x, ((![v9558] : Fin 1 → IVec S16 32) a x).toNat < S4096.size a)
theorem k0_idx1809_inb : ∀ (v9558 : IVec S16 32) (k0_hw1809 : k0_chk1809 v9558), ∀ a x, ((![v9558] : Fin 1 → IVec S16 32) a x).toNat < S4096.size a := fun v9558 k0_hw1809 => k0_hw1809

def k0_chk1810 (v9563 : IVec S16 32) : Prop :=
  (∀ a x, ((![v9563] : Fin 1 → IVec S16 32) a x).toNat < S4096.size a)
theorem k0_idx1810_inb : ∀ (v9563 : IVec S16 32) (k0_hw1810 : k0_chk1810 v9563), ∀ a x, ((![v9563] : Fin 1 → IVec S16 32) a x).toNat < S4096.size a := fun v9563 k0_hw1810 => k0_hw1810

def k0_chk1811 (v9568 : IVec S16 32) : Prop :=
  (∀ a x, ((![v9568] : Fin 1 → IVec S16 32) a x).toNat < S4096.size a)
theorem k0_idx1811_inb : ∀ (v9568 : IVec S16 32) (k0_hw1811 : k0_chk1811 v9568), ∀ a x, ((![v9568] : Fin 1 → IVec S16 32) a x).toNat < S4096.size a := fun v9568 k0_hw1811 => k0_hw1811

def k0_chk1812 (v9573 : IVec S16 32) : Prop :=
  (∀ a x, ((![v9573] : Fin 1 → IVec S16 32) a x).toNat < S4096.size a)
theorem k0_idx1812_inb : ∀ (v9573 : IVec S16 32) (k0_hw1812 : k0_chk1812 v9573), ∀ a x, ((![v9573] : Fin 1 → IVec S16 32) a x).toNat < S4096.size a := fun v9573 k0_hw1812 => k0_hw1812

def k0_chk1813 (v9578 : IVec S16 32) : Prop :=
  (∀ a x, ((![v9578] : Fin 1 → IVec S16 32) a x).toNat < S4096.size a)
theorem k0_idx1813_inb : ∀ (v9578 : IVec S16 32) (k0_hw1813 : k0_chk1813 v9578), ∀ a x, ((![v9578] : Fin 1 → IVec S16 32) a x).toNat < S4096.size a := fun v9578 k0_hw1813 => k0_hw1813

def k0_chk1814 (v9583 : IVec S16 32) : Prop :=
  (∀ a x, ((![v9583] : Fin 1 → IVec S16 32) a x).toNat < S4096.size a)
theorem k0_idx1814_inb : ∀ (v9583 : IVec S16 32) (k0_hw1814 : k0_chk1814 v9583), ∀ a x, ((![v9583] : Fin 1 → IVec S16 32) a x).toNat < S4096.size a := fun v9583 k0_hw1814 => k0_hw1814

def k0_chk1815 (v9588 : IVec S16 32) : Prop :=
  (∀ a x, ((![v9588] : Fin 1 → IVec S16 32) a x).toNat < S4096.size a)
theorem k0_idx1815_inb : ∀ (v9588 : IVec S16 32) (k0_hw1815 : k0_chk1815 v9588), ∀ a x, ((![v9588] : Fin 1 → IVec S16 32) a x).toNat < S4096.size a := fun v9588 k0_hw1815 => k0_hw1815

def k0_chk1816 (v9593 : IVec S16 32) : Prop :=
  (∀ a x, ((![v9593] : Fin 1 → IVec S16 32) a x).toNat < S4096.size a)
theorem k0_idx1816_inb : ∀ (v9593 : IVec S16 32) (k0_hw1816 : k0_chk1816 v9593), ∀ a x, ((![v9593] : Fin 1 → IVec S16 32) a x).toNat < S4096.size a := fun v9593 k0_hw1816 => k0_hw1816

def k0_chk1817 (v9598 : IVec S16 32) : Prop :=
  (∀ a x, ((![v9598] : Fin 1 → IVec S16 32) a x).toNat < S4096.size a)
theorem k0_idx1817_inb : ∀ (v9598 : IVec S16 32) (k0_hw1817 : k0_chk1817 v9598), ∀ a x, ((![v9598] : Fin 1 → IVec S16 32) a x).toNat < S4096.size a := fun v9598 k0_hw1817 => k0_hw1817

def k0_chk1818 (v9603 : IVec S16 32) : Prop :=
  (∀ a x, ((![v9603] : Fin 1 → IVec S16 32) a x).toNat < S4096.size a)
theorem k0_idx1818_inb : ∀ (v9603 : IVec S16 32) (k0_hw1818 : k0_chk1818 v9603), ∀ a x, ((![v9603] : Fin 1 → IVec S16 32) a x).toNat < S4096.size a := fun v9603 k0_hw1818 => k0_hw1818

def k0_chk1819 (v9608 : IVec S16 32) : Prop :=
  (∀ a x, ((![v9608] : Fin 1 → IVec S16 32) a x).toNat < S4096.size a)
theorem k0_idx1819_inb : ∀ (v9608 : IVec S16 32) (k0_hw1819 : k0_chk1819 v9608), ∀ a x, ((![v9608] : Fin 1 → IVec S16 32) a x).toNat < S4096.size a := fun v9608 k0_hw1819 => k0_hw1819

def k0_chk1820 (v9613 : IVec S16 32) : Prop :=
  (∀ a x, ((![v9613] : Fin 1 → IVec S16 32) a x).toNat < S4096.size a)
theorem k0_idx1820_inb : ∀ (v9613 : IVec S16 32) (k0_hw1820 : k0_chk1820 v9613), ∀ a x, ((![v9613] : Fin 1 → IVec S16 32) a x).toNat < S4096.size a := fun v9613 k0_hw1820 => k0_hw1820

def k0_chk1821 (v9618 : IVec S16 32) : Prop :=
  (∀ a x, ((![v9618] : Fin 1 → IVec S16 32) a x).toNat < S4096.size a)
theorem k0_idx1821_inb : ∀ (v9618 : IVec S16 32) (k0_hw1821 : k0_chk1821 v9618), ∀ a x, ((![v9618] : Fin 1 → IVec S16 32) a x).toNat < S4096.size a := fun v9618 k0_hw1821 => k0_hw1821

def k0_chk1822 (v9620 : IVec S16 32) : Prop :=
  (∀ a x, ((![v9620] : Fin 1 → IVec S16 32) a x).toNat < S4096.size a)
theorem k0_idx1822_inb : ∀ (v9620 : IVec S16 32) (k0_hw1822 : k0_chk1822 v9620), ∀ a x, ((![v9620] : Fin 1 → IVec S16 32) a x).toNat < S4096.size a := fun v9620 k0_hw1822 => k0_hw1822

def k0_chk1823 (v9622 : IVec S16 32) : Prop :=
  (∀ a x, ((![v9622] : Fin 1 → IVec S16 32) a x).toNat < S4096.size a)
theorem k0_idx1823_inb : ∀ (v9622 : IVec S16 32) (k0_hw1823 : k0_chk1823 v9622), ∀ a x, ((![v9622] : Fin 1 → IVec S16 32) a x).toNat < S4096.size a := fun v9622 k0_hw1823 => k0_hw1823

def k0_chk1824 (v9624 : IVec S16 32) : Prop :=
  (∀ a x, ((![v9624] : Fin 1 → IVec S16 32) a x).toNat < S4096.size a)
theorem k0_idx1824_inb : ∀ (v9624 : IVec S16 32) (k0_hw1824 : k0_chk1824 v9624), ∀ a x, ((![v9624] : Fin 1 → IVec S16 32) a x).toNat < S4096.size a := fun v9624 k0_hw1824 => k0_hw1824
def k0_off64 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7358 : BitVec 32 := 512#32
  let v9625 : BitVec 32 := Scalar.muli v5574 c512_i32_7358
  let c400_i32_7359 : BitVec 32 := 400#32
  let v9626 : BitVec 32 := Scalar.addi v9625 c400_i32_7359
  let v9627 : Index := Scalar.indexCast v9626
  ![v9627.toNat]

def k0_chk1825 (v9628 : IVec S16 32) : Prop :=
  (∀ a x, ((![v9628] : Fin 1 → IVec S16 32) a x).toNat < S4096.size a)
theorem k0_idx1825_inb : ∀ (v9628 : IVec S16 32) (k0_hw1825 : k0_chk1825 v9628), ∀ a x, ((![v9628] : Fin 1 → IVec S16 32) a x).toNat < S4096.size a := fun v9628 k0_hw1825 => k0_hw1825

def k0_chk1826 (v9645 : IVec S16 32) : Prop :=
  (∀ a x, ((![v9645] : Fin 1 → IVec S16 32) a x).toNat < S4096.size a)
theorem k0_idx1826_inb : ∀ (v9645 : IVec S16 32) (k0_hw1826 : k0_chk1826 v9645), ∀ a x, ((![v9645] : Fin 1 → IVec S16 32) a x).toNat < S4096.size a := fun v9645 k0_hw1826 => k0_hw1826

def k0_chk1827 (v9650 : IVec S16 32) : Prop :=
  (∀ a x, ((![v9650] : Fin 1 → IVec S16 32) a x).toNat < S4096.size a)
theorem k0_idx1827_inb : ∀ (v9650 : IVec S16 32) (k0_hw1827 : k0_chk1827 v9650), ∀ a x, ((![v9650] : Fin 1 → IVec S16 32) a x).toNat < S4096.size a := fun v9650 k0_hw1827 => k0_hw1827

def k0_chk1828 (v9655 : IVec S16 32) : Prop :=
  (∀ a x, ((![v9655] : Fin 1 → IVec S16 32) a x).toNat < S4096.size a)
theorem k0_idx1828_inb : ∀ (v9655 : IVec S16 32) (k0_hw1828 : k0_chk1828 v9655), ∀ a x, ((![v9655] : Fin 1 → IVec S16 32) a x).toNat < S4096.size a := fun v9655 k0_hw1828 => k0_hw1828

def k0_chk1829 (v9660 : IVec S16 32) : Prop :=
  (∀ a x, ((![v9660] : Fin 1 → IVec S16 32) a x).toNat < S4096.size a)
theorem k0_idx1829_inb : ∀ (v9660 : IVec S16 32) (k0_hw1829 : k0_chk1829 v9660), ∀ a x, ((![v9660] : Fin 1 → IVec S16 32) a x).toNat < S4096.size a := fun v9660 k0_hw1829 => k0_hw1829

def k0_chk1830 (v9665 : IVec S16 32) : Prop :=
  (∀ a x, ((![v9665] : Fin 1 → IVec S16 32) a x).toNat < S4096.size a)
theorem k0_idx1830_inb : ∀ (v9665 : IVec S16 32) (k0_hw1830 : k0_chk1830 v9665), ∀ a x, ((![v9665] : Fin 1 → IVec S16 32) a x).toNat < S4096.size a := fun v9665 k0_hw1830 => k0_hw1830

def k0_chk1831 (v9670 : IVec S16 32) : Prop :=
  (∀ a x, ((![v9670] : Fin 1 → IVec S16 32) a x).toNat < S4096.size a)
theorem k0_idx1831_inb : ∀ (v9670 : IVec S16 32) (k0_hw1831 : k0_chk1831 v9670), ∀ a x, ((![v9670] : Fin 1 → IVec S16 32) a x).toNat < S4096.size a := fun v9670 k0_hw1831 => k0_hw1831

def k0_chk1832 (v9675 : IVec S16 32) : Prop :=
  (∀ a x, ((![v9675] : Fin 1 → IVec S16 32) a x).toNat < S4096.size a)
theorem k0_idx1832_inb : ∀ (v9675 : IVec S16 32) (k0_hw1832 : k0_chk1832 v9675), ∀ a x, ((![v9675] : Fin 1 → IVec S16 32) a x).toNat < S4096.size a := fun v9675 k0_hw1832 => k0_hw1832

def k0_chk1833 (v9680 : IVec S16 32) : Prop :=
  (∀ a x, ((![v9680] : Fin 1 → IVec S16 32) a x).toNat < S4096.size a)
theorem k0_idx1833_inb : ∀ (v9680 : IVec S16 32) (k0_hw1833 : k0_chk1833 v9680), ∀ a x, ((![v9680] : Fin 1 → IVec S16 32) a x).toNat < S4096.size a := fun v9680 k0_hw1833 => k0_hw1833

def k0_chk1834 (v9685 : IVec S16 32) : Prop :=
  (∀ a x, ((![v9685] : Fin 1 → IVec S16 32) a x).toNat < S4096.size a)
theorem k0_idx1834_inb : ∀ (v9685 : IVec S16 32) (k0_hw1834 : k0_chk1834 v9685), ∀ a x, ((![v9685] : Fin 1 → IVec S16 32) a x).toNat < S4096.size a := fun v9685 k0_hw1834 => k0_hw1834

def k0_chk1835 (v9690 : IVec S16 32) : Prop :=
  (∀ a x, ((![v9690] : Fin 1 → IVec S16 32) a x).toNat < S4096.size a)
theorem k0_idx1835_inb : ∀ (v9690 : IVec S16 32) (k0_hw1835 : k0_chk1835 v9690), ∀ a x, ((![v9690] : Fin 1 → IVec S16 32) a x).toNat < S4096.size a := fun v9690 k0_hw1835 => k0_hw1835

def k0_chk1836 (v9695 : IVec S16 32) : Prop :=
  (∀ a x, ((![v9695] : Fin 1 → IVec S16 32) a x).toNat < S4096.size a)
theorem k0_idx1836_inb : ∀ (v9695 : IVec S16 32) (k0_hw1836 : k0_chk1836 v9695), ∀ a x, ((![v9695] : Fin 1 → IVec S16 32) a x).toNat < S4096.size a := fun v9695 k0_hw1836 => k0_hw1836

def k0_chk1837 (v9700 : IVec S16 32) : Prop :=
  (∀ a x, ((![v9700] : Fin 1 → IVec S16 32) a x).toNat < S4096.size a)
theorem k0_idx1837_inb : ∀ (v9700 : IVec S16 32) (k0_hw1837 : k0_chk1837 v9700), ∀ a x, ((![v9700] : Fin 1 → IVec S16 32) a x).toNat < S4096.size a := fun v9700 k0_hw1837 => k0_hw1837

def k0_chk1838 (v9705 : IVec S16 32) : Prop :=
  (∀ a x, ((![v9705] : Fin 1 → IVec S16 32) a x).toNat < S4096.size a)
theorem k0_idx1838_inb : ∀ (v9705 : IVec S16 32) (k0_hw1838 : k0_chk1838 v9705), ∀ a x, ((![v9705] : Fin 1 → IVec S16 32) a x).toNat < S4096.size a := fun v9705 k0_hw1838 => k0_hw1838

def k0_chk1839 (v9710 : IVec S16 32) : Prop :=
  (∀ a x, ((![v9710] : Fin 1 → IVec S16 32) a x).toNat < S4096.size a)
theorem k0_idx1839_inb : ∀ (v9710 : IVec S16 32) (k0_hw1839 : k0_chk1839 v9710), ∀ a x, ((![v9710] : Fin 1 → IVec S16 32) a x).toNat < S4096.size a := fun v9710 k0_hw1839 => k0_hw1839

def k0_chk1840 (v9715 : IVec S16 32) : Prop :=
  (∀ a x, ((![v9715] : Fin 1 → IVec S16 32) a x).toNat < S4096.size a)
theorem k0_idx1840_inb : ∀ (v9715 : IVec S16 32) (k0_hw1840 : k0_chk1840 v9715), ∀ a x, ((![v9715] : Fin 1 → IVec S16 32) a x).toNat < S4096.size a := fun v9715 k0_hw1840 => k0_hw1840

def k0_chk1841 (v9720 : IVec S16 32) : Prop :=
  (∀ a x, ((![v9720] : Fin 1 → IVec S16 32) a x).toNat < S4096.size a)
theorem k0_idx1841_inb : ∀ (v9720 : IVec S16 32) (k0_hw1841 : k0_chk1841 v9720), ∀ a x, ((![v9720] : Fin 1 → IVec S16 32) a x).toNat < S4096.size a := fun v9720 k0_hw1841 => k0_hw1841

def k0_chk1842 (v9725 : IVec S16 32) : Prop :=
  (∀ a x, ((![v9725] : Fin 1 → IVec S16 32) a x).toNat < S4096.size a)
theorem k0_idx1842_inb : ∀ (v9725 : IVec S16 32) (k0_hw1842 : k0_chk1842 v9725), ∀ a x, ((![v9725] : Fin 1 → IVec S16 32) a x).toNat < S4096.size a := fun v9725 k0_hw1842 => k0_hw1842

def k0_chk1843 (v9730 : IVec S16 32) : Prop :=
  (∀ a x, ((![v9730] : Fin 1 → IVec S16 32) a x).toNat < S4096.size a)
theorem k0_idx1843_inb : ∀ (v9730 : IVec S16 32) (k0_hw1843 : k0_chk1843 v9730), ∀ a x, ((![v9730] : Fin 1 → IVec S16 32) a x).toNat < S4096.size a := fun v9730 k0_hw1843 => k0_hw1843

def k0_chk1844 (v9735 : IVec S16 32) : Prop :=
  (∀ a x, ((![v9735] : Fin 1 → IVec S16 32) a x).toNat < S4096.size a)
theorem k0_idx1844_inb : ∀ (v9735 : IVec S16 32) (k0_hw1844 : k0_chk1844 v9735), ∀ a x, ((![v9735] : Fin 1 → IVec S16 32) a x).toNat < S4096.size a := fun v9735 k0_hw1844 => k0_hw1844

def k0_chk1845 (v9740 : IVec S16 32) : Prop :=
  (∀ a x, ((![v9740] : Fin 1 → IVec S16 32) a x).toNat < S4096.size a)
theorem k0_idx1845_inb : ∀ (v9740 : IVec S16 32) (k0_hw1845 : k0_chk1845 v9740), ∀ a x, ((![v9740] : Fin 1 → IVec S16 32) a x).toNat < S4096.size a := fun v9740 k0_hw1845 => k0_hw1845

def k0_chk1846 (v9745 : IVec S16 32) : Prop :=
  (∀ a x, ((![v9745] : Fin 1 → IVec S16 32) a x).toNat < S4096.size a)
theorem k0_idx1846_inb : ∀ (v9745 : IVec S16 32) (k0_hw1846 : k0_chk1846 v9745), ∀ a x, ((![v9745] : Fin 1 → IVec S16 32) a x).toNat < S4096.size a := fun v9745 k0_hw1846 => k0_hw1846

def k0_chk1847 (v9750 : IVec S16 32) : Prop :=
  (∀ a x, ((![v9750] : Fin 1 → IVec S16 32) a x).toNat < S4096.size a)
theorem k0_idx1847_inb : ∀ (v9750 : IVec S16 32) (k0_hw1847 : k0_chk1847 v9750), ∀ a x, ((![v9750] : Fin 1 → IVec S16 32) a x).toNat < S4096.size a := fun v9750 k0_hw1847 => k0_hw1847

def k0_chk1848 (v9755 : IVec S16 32) : Prop :=
  (∀ a x, ((![v9755] : Fin 1 → IVec S16 32) a x).toNat < S4096.size a)
theorem k0_idx1848_inb : ∀ (v9755 : IVec S16 32) (k0_hw1848 : k0_chk1848 v9755), ∀ a x, ((![v9755] : Fin 1 → IVec S16 32) a x).toNat < S4096.size a := fun v9755 k0_hw1848 => k0_hw1848

def k0_chk1849 (v9760 : IVec S16 32) : Prop :=
  (∀ a x, ((![v9760] : Fin 1 → IVec S16 32) a x).toNat < S4096.size a)
theorem k0_idx1849_inb : ∀ (v9760 : IVec S16 32) (k0_hw1849 : k0_chk1849 v9760), ∀ a x, ((![v9760] : Fin 1 → IVec S16 32) a x).toNat < S4096.size a := fun v9760 k0_hw1849 => k0_hw1849

def k0_chk1850 (v9765 : IVec S16 32) : Prop :=
  (∀ a x, ((![v9765] : Fin 1 → IVec S16 32) a x).toNat < S4096.size a)
theorem k0_idx1850_inb : ∀ (v9765 : IVec S16 32) (k0_hw1850 : k0_chk1850 v9765), ∀ a x, ((![v9765] : Fin 1 → IVec S16 32) a x).toNat < S4096.size a := fun v9765 k0_hw1850 => k0_hw1850

def k0_chk1851 (v9770 : IVec S16 32) : Prop :=
  (∀ a x, ((![v9770] : Fin 1 → IVec S16 32) a x).toNat < S4096.size a)
theorem k0_idx1851_inb : ∀ (v9770 : IVec S16 32) (k0_hw1851 : k0_chk1851 v9770), ∀ a x, ((![v9770] : Fin 1 → IVec S16 32) a x).toNat < S4096.size a := fun v9770 k0_hw1851 => k0_hw1851

def k0_chk1852 (v9775 : IVec S16 32) : Prop :=
  (∀ a x, ((![v9775] : Fin 1 → IVec S16 32) a x).toNat < S4096.size a)
theorem k0_idx1852_inb : ∀ (v9775 : IVec S16 32) (k0_hw1852 : k0_chk1852 v9775), ∀ a x, ((![v9775] : Fin 1 → IVec S16 32) a x).toNat < S4096.size a := fun v9775 k0_hw1852 => k0_hw1852

def k0_chk1853 (v9780 : IVec S16 32) : Prop :=
  (∀ a x, ((![v9780] : Fin 1 → IVec S16 32) a x).toNat < S4096.size a)
theorem k0_idx1853_inb : ∀ (v9780 : IVec S16 32) (k0_hw1853 : k0_chk1853 v9780), ∀ a x, ((![v9780] : Fin 1 → IVec S16 32) a x).toNat < S4096.size a := fun v9780 k0_hw1853 => k0_hw1853

def k0_chk1854 (v9782 : IVec S16 32) : Prop :=
  (∀ a x, ((![v9782] : Fin 1 → IVec S16 32) a x).toNat < S4096.size a)
theorem k0_idx1854_inb : ∀ (v9782 : IVec S16 32) (k0_hw1854 : k0_chk1854 v9782), ∀ a x, ((![v9782] : Fin 1 → IVec S16 32) a x).toNat < S4096.size a := fun v9782 k0_hw1854 => k0_hw1854

def k0_chk1855 (v9784 : IVec S16 32) : Prop :=
  (∀ a x, ((![v9784] : Fin 1 → IVec S16 32) a x).toNat < S4096.size a)
theorem k0_idx1855_inb : ∀ (v9784 : IVec S16 32) (k0_hw1855 : k0_chk1855 v9784), ∀ a x, ((![v9784] : Fin 1 → IVec S16 32) a x).toNat < S4096.size a := fun v9784 k0_hw1855 => k0_hw1855

def k0_chk1856 (v9786 : IVec S16 32) : Prop :=
  (∀ a x, ((![v9786] : Fin 1 → IVec S16 32) a x).toNat < S4096.size a)
theorem k0_idx1856_inb : ∀ (v9786 : IVec S16 32) (k0_hw1856 : k0_chk1856 v9786), ∀ a x, ((![v9786] : Fin 1 → IVec S16 32) a x).toNat < S4096.size a := fun v9786 k0_hw1856 => k0_hw1856
def k0_off65 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7487 : BitVec 32 := 512#32
  let v9787 : BitVec 32 := Scalar.muli v5574 c512_i32_7487
  let c416_i32_7488 : BitVec 32 := 416#32
  let v9788 : BitVec 32 := Scalar.addi v9787 c416_i32_7488
  let v9789 : Index := Scalar.indexCast v9788
  ![v9789.toNat]

def k0_chk1857 (v9790 : IVec S16 32) : Prop :=
  (∀ a x, ((![v9790] : Fin 1 → IVec S16 32) a x).toNat < S4096.size a)
theorem k0_idx1857_inb : ∀ (v9790 : IVec S16 32) (k0_hw1857 : k0_chk1857 v9790), ∀ a x, ((![v9790] : Fin 1 → IVec S16 32) a x).toNat < S4096.size a := fun v9790 k0_hw1857 => k0_hw1857

def k0_chk1858 (v9807 : IVec S16 32) : Prop :=
  (∀ a x, ((![v9807] : Fin 1 → IVec S16 32) a x).toNat < S4096.size a)
theorem k0_idx1858_inb : ∀ (v9807 : IVec S16 32) (k0_hw1858 : k0_chk1858 v9807), ∀ a x, ((![v9807] : Fin 1 → IVec S16 32) a x).toNat < S4096.size a := fun v9807 k0_hw1858 => k0_hw1858

def k0_chk1859 (v9812 : IVec S16 32) : Prop :=
  (∀ a x, ((![v9812] : Fin 1 → IVec S16 32) a x).toNat < S4096.size a)
theorem k0_idx1859_inb : ∀ (v9812 : IVec S16 32) (k0_hw1859 : k0_chk1859 v9812), ∀ a x, ((![v9812] : Fin 1 → IVec S16 32) a x).toNat < S4096.size a := fun v9812 k0_hw1859 => k0_hw1859

def k0_chk1860 (v9817 : IVec S16 32) : Prop :=
  (∀ a x, ((![v9817] : Fin 1 → IVec S16 32) a x).toNat < S4096.size a)
theorem k0_idx1860_inb : ∀ (v9817 : IVec S16 32) (k0_hw1860 : k0_chk1860 v9817), ∀ a x, ((![v9817] : Fin 1 → IVec S16 32) a x).toNat < S4096.size a := fun v9817 k0_hw1860 => k0_hw1860

def k0_chk1861 (v9822 : IVec S16 32) : Prop :=
  (∀ a x, ((![v9822] : Fin 1 → IVec S16 32) a x).toNat < S4096.size a)
theorem k0_idx1861_inb : ∀ (v9822 : IVec S16 32) (k0_hw1861 : k0_chk1861 v9822), ∀ a x, ((![v9822] : Fin 1 → IVec S16 32) a x).toNat < S4096.size a := fun v9822 k0_hw1861 => k0_hw1861

def k0_chk1862 (v9827 : IVec S16 32) : Prop :=
  (∀ a x, ((![v9827] : Fin 1 → IVec S16 32) a x).toNat < S4096.size a)
theorem k0_idx1862_inb : ∀ (v9827 : IVec S16 32) (k0_hw1862 : k0_chk1862 v9827), ∀ a x, ((![v9827] : Fin 1 → IVec S16 32) a x).toNat < S4096.size a := fun v9827 k0_hw1862 => k0_hw1862

def k0_chk1863 (v9832 : IVec S16 32) : Prop :=
  (∀ a x, ((![v9832] : Fin 1 → IVec S16 32) a x).toNat < S4096.size a)
theorem k0_idx1863_inb : ∀ (v9832 : IVec S16 32) (k0_hw1863 : k0_chk1863 v9832), ∀ a x, ((![v9832] : Fin 1 → IVec S16 32) a x).toNat < S4096.size a := fun v9832 k0_hw1863 => k0_hw1863

def k0_chk1864 (v9837 : IVec S16 32) : Prop :=
  (∀ a x, ((![v9837] : Fin 1 → IVec S16 32) a x).toNat < S4096.size a)
theorem k0_idx1864_inb : ∀ (v9837 : IVec S16 32) (k0_hw1864 : k0_chk1864 v9837), ∀ a x, ((![v9837] : Fin 1 → IVec S16 32) a x).toNat < S4096.size a := fun v9837 k0_hw1864 => k0_hw1864

def k0_chk1865 (v9842 : IVec S16 32) : Prop :=
  (∀ a x, ((![v9842] : Fin 1 → IVec S16 32) a x).toNat < S4096.size a)
theorem k0_idx1865_inb : ∀ (v9842 : IVec S16 32) (k0_hw1865 : k0_chk1865 v9842), ∀ a x, ((![v9842] : Fin 1 → IVec S16 32) a x).toNat < S4096.size a := fun v9842 k0_hw1865 => k0_hw1865

def k0_chk1866 (v9847 : IVec S16 32) : Prop :=
  (∀ a x, ((![v9847] : Fin 1 → IVec S16 32) a x).toNat < S4096.size a)
theorem k0_idx1866_inb : ∀ (v9847 : IVec S16 32) (k0_hw1866 : k0_chk1866 v9847), ∀ a x, ((![v9847] : Fin 1 → IVec S16 32) a x).toNat < S4096.size a := fun v9847 k0_hw1866 => k0_hw1866

def k0_chk1867 (v9852 : IVec S16 32) : Prop :=
  (∀ a x, ((![v9852] : Fin 1 → IVec S16 32) a x).toNat < S4096.size a)
theorem k0_idx1867_inb : ∀ (v9852 : IVec S16 32) (k0_hw1867 : k0_chk1867 v9852), ∀ a x, ((![v9852] : Fin 1 → IVec S16 32) a x).toNat < S4096.size a := fun v9852 k0_hw1867 => k0_hw1867

def k0_chk1868 (v9857 : IVec S16 32) : Prop :=
  (∀ a x, ((![v9857] : Fin 1 → IVec S16 32) a x).toNat < S4096.size a)
theorem k0_idx1868_inb : ∀ (v9857 : IVec S16 32) (k0_hw1868 : k0_chk1868 v9857), ∀ a x, ((![v9857] : Fin 1 → IVec S16 32) a x).toNat < S4096.size a := fun v9857 k0_hw1868 => k0_hw1868

def k0_chk1869 (v9862 : IVec S16 32) : Prop :=
  (∀ a x, ((![v9862] : Fin 1 → IVec S16 32) a x).toNat < S4096.size a)
theorem k0_idx1869_inb : ∀ (v9862 : IVec S16 32) (k0_hw1869 : k0_chk1869 v9862), ∀ a x, ((![v9862] : Fin 1 → IVec S16 32) a x).toNat < S4096.size a := fun v9862 k0_hw1869 => k0_hw1869

def k0_chk1870 (v9867 : IVec S16 32) : Prop :=
  (∀ a x, ((![v9867] : Fin 1 → IVec S16 32) a x).toNat < S4096.size a)
theorem k0_idx1870_inb : ∀ (v9867 : IVec S16 32) (k0_hw1870 : k0_chk1870 v9867), ∀ a x, ((![v9867] : Fin 1 → IVec S16 32) a x).toNat < S4096.size a := fun v9867 k0_hw1870 => k0_hw1870

def k0_chk1871 (v9872 : IVec S16 32) : Prop :=
  (∀ a x, ((![v9872] : Fin 1 → IVec S16 32) a x).toNat < S4096.size a)
theorem k0_idx1871_inb : ∀ (v9872 : IVec S16 32) (k0_hw1871 : k0_chk1871 v9872), ∀ a x, ((![v9872] : Fin 1 → IVec S16 32) a x).toNat < S4096.size a := fun v9872 k0_hw1871 => k0_hw1871

def k0_chk1872 (v9877 : IVec S16 32) : Prop :=
  (∀ a x, ((![v9877] : Fin 1 → IVec S16 32) a x).toNat < S4096.size a)
theorem k0_idx1872_inb : ∀ (v9877 : IVec S16 32) (k0_hw1872 : k0_chk1872 v9877), ∀ a x, ((![v9877] : Fin 1 → IVec S16 32) a x).toNat < S4096.size a := fun v9877 k0_hw1872 => k0_hw1872

def k0_chk1873 (v9882 : IVec S16 32) : Prop :=
  (∀ a x, ((![v9882] : Fin 1 → IVec S16 32) a x).toNat < S4096.size a)
theorem k0_idx1873_inb : ∀ (v9882 : IVec S16 32) (k0_hw1873 : k0_chk1873 v9882), ∀ a x, ((![v9882] : Fin 1 → IVec S16 32) a x).toNat < S4096.size a := fun v9882 k0_hw1873 => k0_hw1873

def k0_chk1874 (v9887 : IVec S16 32) : Prop :=
  (∀ a x, ((![v9887] : Fin 1 → IVec S16 32) a x).toNat < S4096.size a)
theorem k0_idx1874_inb : ∀ (v9887 : IVec S16 32) (k0_hw1874 : k0_chk1874 v9887), ∀ a x, ((![v9887] : Fin 1 → IVec S16 32) a x).toNat < S4096.size a := fun v9887 k0_hw1874 => k0_hw1874

def k0_chk1875 (v9892 : IVec S16 32) : Prop :=
  (∀ a x, ((![v9892] : Fin 1 → IVec S16 32) a x).toNat < S4096.size a)
theorem k0_idx1875_inb : ∀ (v9892 : IVec S16 32) (k0_hw1875 : k0_chk1875 v9892), ∀ a x, ((![v9892] : Fin 1 → IVec S16 32) a x).toNat < S4096.size a := fun v9892 k0_hw1875 => k0_hw1875

def k0_chk1876 (v9897 : IVec S16 32) : Prop :=
  (∀ a x, ((![v9897] : Fin 1 → IVec S16 32) a x).toNat < S4096.size a)
theorem k0_idx1876_inb : ∀ (v9897 : IVec S16 32) (k0_hw1876 : k0_chk1876 v9897), ∀ a x, ((![v9897] : Fin 1 → IVec S16 32) a x).toNat < S4096.size a := fun v9897 k0_hw1876 => k0_hw1876

def k0_chk1877 (v9902 : IVec S16 32) : Prop :=
  (∀ a x, ((![v9902] : Fin 1 → IVec S16 32) a x).toNat < S4096.size a)
theorem k0_idx1877_inb : ∀ (v9902 : IVec S16 32) (k0_hw1877 : k0_chk1877 v9902), ∀ a x, ((![v9902] : Fin 1 → IVec S16 32) a x).toNat < S4096.size a := fun v9902 k0_hw1877 => k0_hw1877

def k0_chk1878 (v9907 : IVec S16 32) : Prop :=
  (∀ a x, ((![v9907] : Fin 1 → IVec S16 32) a x).toNat < S4096.size a)
theorem k0_idx1878_inb : ∀ (v9907 : IVec S16 32) (k0_hw1878 : k0_chk1878 v9907), ∀ a x, ((![v9907] : Fin 1 → IVec S16 32) a x).toNat < S4096.size a := fun v9907 k0_hw1878 => k0_hw1878

def k0_chk1879 (v9912 : IVec S16 32) : Prop :=
  (∀ a x, ((![v9912] : Fin 1 → IVec S16 32) a x).toNat < S4096.size a)
theorem k0_idx1879_inb : ∀ (v9912 : IVec S16 32) (k0_hw1879 : k0_chk1879 v9912), ∀ a x, ((![v9912] : Fin 1 → IVec S16 32) a x).toNat < S4096.size a := fun v9912 k0_hw1879 => k0_hw1879

def k0_chk1880 (v9917 : IVec S16 32) : Prop :=
  (∀ a x, ((![v9917] : Fin 1 → IVec S16 32) a x).toNat < S4096.size a)
theorem k0_idx1880_inb : ∀ (v9917 : IVec S16 32) (k0_hw1880 : k0_chk1880 v9917), ∀ a x, ((![v9917] : Fin 1 → IVec S16 32) a x).toNat < S4096.size a := fun v9917 k0_hw1880 => k0_hw1880

def k0_chk1881 (v9922 : IVec S16 32) : Prop :=
  (∀ a x, ((![v9922] : Fin 1 → IVec S16 32) a x).toNat < S4096.size a)
theorem k0_idx1881_inb : ∀ (v9922 : IVec S16 32) (k0_hw1881 : k0_chk1881 v9922), ∀ a x, ((![v9922] : Fin 1 → IVec S16 32) a x).toNat < S4096.size a := fun v9922 k0_hw1881 => k0_hw1881

def k0_chk1882 (v9927 : IVec S16 32) : Prop :=
  (∀ a x, ((![v9927] : Fin 1 → IVec S16 32) a x).toNat < S4096.size a)
theorem k0_idx1882_inb : ∀ (v9927 : IVec S16 32) (k0_hw1882 : k0_chk1882 v9927), ∀ a x, ((![v9927] : Fin 1 → IVec S16 32) a x).toNat < S4096.size a := fun v9927 k0_hw1882 => k0_hw1882

def k0_chk1883 (v9932 : IVec S16 32) : Prop :=
  (∀ a x, ((![v9932] : Fin 1 → IVec S16 32) a x).toNat < S4096.size a)
theorem k0_idx1883_inb : ∀ (v9932 : IVec S16 32) (k0_hw1883 : k0_chk1883 v9932), ∀ a x, ((![v9932] : Fin 1 → IVec S16 32) a x).toNat < S4096.size a := fun v9932 k0_hw1883 => k0_hw1883

def k0_chk1884 (v9937 : IVec S16 32) : Prop :=
  (∀ a x, ((![v9937] : Fin 1 → IVec S16 32) a x).toNat < S4096.size a)
theorem k0_idx1884_inb : ∀ (v9937 : IVec S16 32) (k0_hw1884 : k0_chk1884 v9937), ∀ a x, ((![v9937] : Fin 1 → IVec S16 32) a x).toNat < S4096.size a := fun v9937 k0_hw1884 => k0_hw1884

def k0_chk1885 (v9942 : IVec S16 32) : Prop :=
  (∀ a x, ((![v9942] : Fin 1 → IVec S16 32) a x).toNat < S4096.size a)
theorem k0_idx1885_inb : ∀ (v9942 : IVec S16 32) (k0_hw1885 : k0_chk1885 v9942), ∀ a x, ((![v9942] : Fin 1 → IVec S16 32) a x).toNat < S4096.size a := fun v9942 k0_hw1885 => k0_hw1885

def k0_chk1886 (v9944 : IVec S16 32) : Prop :=
  (∀ a x, ((![v9944] : Fin 1 → IVec S16 32) a x).toNat < S4096.size a)
theorem k0_idx1886_inb : ∀ (v9944 : IVec S16 32) (k0_hw1886 : k0_chk1886 v9944), ∀ a x, ((![v9944] : Fin 1 → IVec S16 32) a x).toNat < S4096.size a := fun v9944 k0_hw1886 => k0_hw1886

def k0_chk1887 (v9946 : IVec S16 32) : Prop :=
  (∀ a x, ((![v9946] : Fin 1 → IVec S16 32) a x).toNat < S4096.size a)
theorem k0_idx1887_inb : ∀ (v9946 : IVec S16 32) (k0_hw1887 : k0_chk1887 v9946), ∀ a x, ((![v9946] : Fin 1 → IVec S16 32) a x).toNat < S4096.size a := fun v9946 k0_hw1887 => k0_hw1887

def k0_chk1888 (v9948 : IVec S16 32) : Prop :=
  (∀ a x, ((![v9948] : Fin 1 → IVec S16 32) a x).toNat < S4096.size a)
theorem k0_idx1888_inb : ∀ (v9948 : IVec S16 32) (k0_hw1888 : k0_chk1888 v9948), ∀ a x, ((![v9948] : Fin 1 → IVec S16 32) a x).toNat < S4096.size a := fun v9948 k0_hw1888 => k0_hw1888
def k0_off66 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7616 : BitVec 32 := 512#32
  let v9949 : BitVec 32 := Scalar.muli v5574 c512_i32_7616
  let c432_i32_7617 : BitVec 32 := 432#32
  let v9950 : BitVec 32 := Scalar.addi v9949 c432_i32_7617
  let v9951 : Index := Scalar.indexCast v9950
  ![v9951.toNat]

def k0_chk1889 (v9952 : IVec S16 32) : Prop :=
  (∀ a x, ((![v9952] : Fin 1 → IVec S16 32) a x).toNat < S4096.size a)
theorem k0_idx1889_inb : ∀ (v9952 : IVec S16 32) (k0_hw1889 : k0_chk1889 v9952), ∀ a x, ((![v9952] : Fin 1 → IVec S16 32) a x).toNat < S4096.size a := fun v9952 k0_hw1889 => k0_hw1889

def k0_chk1890 (v9969 : IVec S16 32) : Prop :=
  (∀ a x, ((![v9969] : Fin 1 → IVec S16 32) a x).toNat < S4096.size a)
theorem k0_idx1890_inb : ∀ (v9969 : IVec S16 32) (k0_hw1890 : k0_chk1890 v9969), ∀ a x, ((![v9969] : Fin 1 → IVec S16 32) a x).toNat < S4096.size a := fun v9969 k0_hw1890 => k0_hw1890

def k0_chk1891 (v9974 : IVec S16 32) : Prop :=
  (∀ a x, ((![v9974] : Fin 1 → IVec S16 32) a x).toNat < S4096.size a)
theorem k0_idx1891_inb : ∀ (v9974 : IVec S16 32) (k0_hw1891 : k0_chk1891 v9974), ∀ a x, ((![v9974] : Fin 1 → IVec S16 32) a x).toNat < S4096.size a := fun v9974 k0_hw1891 => k0_hw1891

def k0_chk1892 (v9979 : IVec S16 32) : Prop :=
  (∀ a x, ((![v9979] : Fin 1 → IVec S16 32) a x).toNat < S4096.size a)
theorem k0_idx1892_inb : ∀ (v9979 : IVec S16 32) (k0_hw1892 : k0_chk1892 v9979), ∀ a x, ((![v9979] : Fin 1 → IVec S16 32) a x).toNat < S4096.size a := fun v9979 k0_hw1892 => k0_hw1892

def k0_chk1893 (v9984 : IVec S16 32) : Prop :=
  (∀ a x, ((![v9984] : Fin 1 → IVec S16 32) a x).toNat < S4096.size a)
theorem k0_idx1893_inb : ∀ (v9984 : IVec S16 32) (k0_hw1893 : k0_chk1893 v9984), ∀ a x, ((![v9984] : Fin 1 → IVec S16 32) a x).toNat < S4096.size a := fun v9984 k0_hw1893 => k0_hw1893

def k0_chk1894 (v9989 : IVec S16 32) : Prop :=
  (∀ a x, ((![v9989] : Fin 1 → IVec S16 32) a x).toNat < S4096.size a)
theorem k0_idx1894_inb : ∀ (v9989 : IVec S16 32) (k0_hw1894 : k0_chk1894 v9989), ∀ a x, ((![v9989] : Fin 1 → IVec S16 32) a x).toNat < S4096.size a := fun v9989 k0_hw1894 => k0_hw1894

def k0_chk1895 (v9994 : IVec S16 32) : Prop :=
  (∀ a x, ((![v9994] : Fin 1 → IVec S16 32) a x).toNat < S4096.size a)
theorem k0_idx1895_inb : ∀ (v9994 : IVec S16 32) (k0_hw1895 : k0_chk1895 v9994), ∀ a x, ((![v9994] : Fin 1 → IVec S16 32) a x).toNat < S4096.size a := fun v9994 k0_hw1895 => k0_hw1895

def k0_chk1896 (v9999 : IVec S16 32) : Prop :=
  (∀ a x, ((![v9999] : Fin 1 → IVec S16 32) a x).toNat < S4096.size a)
theorem k0_idx1896_inb : ∀ (v9999 : IVec S16 32) (k0_hw1896 : k0_chk1896 v9999), ∀ a x, ((![v9999] : Fin 1 → IVec S16 32) a x).toNat < S4096.size a := fun v9999 k0_hw1896 => k0_hw1896

def k0_chk1897 (v10004 : IVec S16 32) : Prop :=
  (∀ a x, ((![v10004] : Fin 1 → IVec S16 32) a x).toNat < S4096.size a)
theorem k0_idx1897_inb : ∀ (v10004 : IVec S16 32) (k0_hw1897 : k0_chk1897 v10004), ∀ a x, ((![v10004] : Fin 1 → IVec S16 32) a x).toNat < S4096.size a := fun v10004 k0_hw1897 => k0_hw1897

def k0_chk1898 (v10009 : IVec S16 32) : Prop :=
  (∀ a x, ((![v10009] : Fin 1 → IVec S16 32) a x).toNat < S4096.size a)
theorem k0_idx1898_inb : ∀ (v10009 : IVec S16 32) (k0_hw1898 : k0_chk1898 v10009), ∀ a x, ((![v10009] : Fin 1 → IVec S16 32) a x).toNat < S4096.size a := fun v10009 k0_hw1898 => k0_hw1898

def k0_chk1899 (v10014 : IVec S16 32) : Prop :=
  (∀ a x, ((![v10014] : Fin 1 → IVec S16 32) a x).toNat < S4096.size a)
theorem k0_idx1899_inb : ∀ (v10014 : IVec S16 32) (k0_hw1899 : k0_chk1899 v10014), ∀ a x, ((![v10014] : Fin 1 → IVec S16 32) a x).toNat < S4096.size a := fun v10014 k0_hw1899 => k0_hw1899

def k0_chk1900 (v10019 : IVec S16 32) : Prop :=
  (∀ a x, ((![v10019] : Fin 1 → IVec S16 32) a x).toNat < S4096.size a)
theorem k0_idx1900_inb : ∀ (v10019 : IVec S16 32) (k0_hw1900 : k0_chk1900 v10019), ∀ a x, ((![v10019] : Fin 1 → IVec S16 32) a x).toNat < S4096.size a := fun v10019 k0_hw1900 => k0_hw1900

def k0_chk1901 (v10024 : IVec S16 32) : Prop :=
  (∀ a x, ((![v10024] : Fin 1 → IVec S16 32) a x).toNat < S4096.size a)
theorem k0_idx1901_inb : ∀ (v10024 : IVec S16 32) (k0_hw1901 : k0_chk1901 v10024), ∀ a x, ((![v10024] : Fin 1 → IVec S16 32) a x).toNat < S4096.size a := fun v10024 k0_hw1901 => k0_hw1901

def k0_chk1902 (v10029 : IVec S16 32) : Prop :=
  (∀ a x, ((![v10029] : Fin 1 → IVec S16 32) a x).toNat < S4096.size a)
theorem k0_idx1902_inb : ∀ (v10029 : IVec S16 32) (k0_hw1902 : k0_chk1902 v10029), ∀ a x, ((![v10029] : Fin 1 → IVec S16 32) a x).toNat < S4096.size a := fun v10029 k0_hw1902 => k0_hw1902

def k0_chk1903 (v10034 : IVec S16 32) : Prop :=
  (∀ a x, ((![v10034] : Fin 1 → IVec S16 32) a x).toNat < S4096.size a)
theorem k0_idx1903_inb : ∀ (v10034 : IVec S16 32) (k0_hw1903 : k0_chk1903 v10034), ∀ a x, ((![v10034] : Fin 1 → IVec S16 32) a x).toNat < S4096.size a := fun v10034 k0_hw1903 => k0_hw1903

def k0_chk1904 (v10039 : IVec S16 32) : Prop :=
  (∀ a x, ((![v10039] : Fin 1 → IVec S16 32) a x).toNat < S4096.size a)
theorem k0_idx1904_inb : ∀ (v10039 : IVec S16 32) (k0_hw1904 : k0_chk1904 v10039), ∀ a x, ((![v10039] : Fin 1 → IVec S16 32) a x).toNat < S4096.size a := fun v10039 k0_hw1904 => k0_hw1904

def k0_chk1905 (v10044 : IVec S16 32) : Prop :=
  (∀ a x, ((![v10044] : Fin 1 → IVec S16 32) a x).toNat < S4096.size a)
theorem k0_idx1905_inb : ∀ (v10044 : IVec S16 32) (k0_hw1905 : k0_chk1905 v10044), ∀ a x, ((![v10044] : Fin 1 → IVec S16 32) a x).toNat < S4096.size a := fun v10044 k0_hw1905 => k0_hw1905

def k0_chk1906 (v10049 : IVec S16 32) : Prop :=
  (∀ a x, ((![v10049] : Fin 1 → IVec S16 32) a x).toNat < S4096.size a)
theorem k0_idx1906_inb : ∀ (v10049 : IVec S16 32) (k0_hw1906 : k0_chk1906 v10049), ∀ a x, ((![v10049] : Fin 1 → IVec S16 32) a x).toNat < S4096.size a := fun v10049 k0_hw1906 => k0_hw1906

def k0_chk1907 (v10054 : IVec S16 32) : Prop :=
  (∀ a x, ((![v10054] : Fin 1 → IVec S16 32) a x).toNat < S4096.size a)
theorem k0_idx1907_inb : ∀ (v10054 : IVec S16 32) (k0_hw1907 : k0_chk1907 v10054), ∀ a x, ((![v10054] : Fin 1 → IVec S16 32) a x).toNat < S4096.size a := fun v10054 k0_hw1907 => k0_hw1907

def k0_chk1908 (v10059 : IVec S16 32) : Prop :=
  (∀ a x, ((![v10059] : Fin 1 → IVec S16 32) a x).toNat < S4096.size a)
theorem k0_idx1908_inb : ∀ (v10059 : IVec S16 32) (k0_hw1908 : k0_chk1908 v10059), ∀ a x, ((![v10059] : Fin 1 → IVec S16 32) a x).toNat < S4096.size a := fun v10059 k0_hw1908 => k0_hw1908

def k0_chk1909 (v10064 : IVec S16 32) : Prop :=
  (∀ a x, ((![v10064] : Fin 1 → IVec S16 32) a x).toNat < S4096.size a)
theorem k0_idx1909_inb : ∀ (v10064 : IVec S16 32) (k0_hw1909 : k0_chk1909 v10064), ∀ a x, ((![v10064] : Fin 1 → IVec S16 32) a x).toNat < S4096.size a := fun v10064 k0_hw1909 => k0_hw1909

def k0_chk1910 (v10069 : IVec S16 32) : Prop :=
  (∀ a x, ((![v10069] : Fin 1 → IVec S16 32) a x).toNat < S4096.size a)
theorem k0_idx1910_inb : ∀ (v10069 : IVec S16 32) (k0_hw1910 : k0_chk1910 v10069), ∀ a x, ((![v10069] : Fin 1 → IVec S16 32) a x).toNat < S4096.size a := fun v10069 k0_hw1910 => k0_hw1910

def k0_chk1911 (v10074 : IVec S16 32) : Prop :=
  (∀ a x, ((![v10074] : Fin 1 → IVec S16 32) a x).toNat < S4096.size a)
theorem k0_idx1911_inb : ∀ (v10074 : IVec S16 32) (k0_hw1911 : k0_chk1911 v10074), ∀ a x, ((![v10074] : Fin 1 → IVec S16 32) a x).toNat < S4096.size a := fun v10074 k0_hw1911 => k0_hw1911

def k0_chk1912 (v10079 : IVec S16 32) : Prop :=
  (∀ a x, ((![v10079] : Fin 1 → IVec S16 32) a x).toNat < S4096.size a)
theorem k0_idx1912_inb : ∀ (v10079 : IVec S16 32) (k0_hw1912 : k0_chk1912 v10079), ∀ a x, ((![v10079] : Fin 1 → IVec S16 32) a x).toNat < S4096.size a := fun v10079 k0_hw1912 => k0_hw1912

def k0_chk1913 (v10084 : IVec S16 32) : Prop :=
  (∀ a x, ((![v10084] : Fin 1 → IVec S16 32) a x).toNat < S4096.size a)
theorem k0_idx1913_inb : ∀ (v10084 : IVec S16 32) (k0_hw1913 : k0_chk1913 v10084), ∀ a x, ((![v10084] : Fin 1 → IVec S16 32) a x).toNat < S4096.size a := fun v10084 k0_hw1913 => k0_hw1913

def k0_chk1914 (v10089 : IVec S16 32) : Prop :=
  (∀ a x, ((![v10089] : Fin 1 → IVec S16 32) a x).toNat < S4096.size a)
theorem k0_idx1914_inb : ∀ (v10089 : IVec S16 32) (k0_hw1914 : k0_chk1914 v10089), ∀ a x, ((![v10089] : Fin 1 → IVec S16 32) a x).toNat < S4096.size a := fun v10089 k0_hw1914 => k0_hw1914

def k0_chk1915 (v10094 : IVec S16 32) : Prop :=
  (∀ a x, ((![v10094] : Fin 1 → IVec S16 32) a x).toNat < S4096.size a)
theorem k0_idx1915_inb : ∀ (v10094 : IVec S16 32) (k0_hw1915 : k0_chk1915 v10094), ∀ a x, ((![v10094] : Fin 1 → IVec S16 32) a x).toNat < S4096.size a := fun v10094 k0_hw1915 => k0_hw1915

def k0_chk1916 (v10099 : IVec S16 32) : Prop :=
  (∀ a x, ((![v10099] : Fin 1 → IVec S16 32) a x).toNat < S4096.size a)
theorem k0_idx1916_inb : ∀ (v10099 : IVec S16 32) (k0_hw1916 : k0_chk1916 v10099), ∀ a x, ((![v10099] : Fin 1 → IVec S16 32) a x).toNat < S4096.size a := fun v10099 k0_hw1916 => k0_hw1916

def k0_chk1917 (v10104 : IVec S16 32) : Prop :=
  (∀ a x, ((![v10104] : Fin 1 → IVec S16 32) a x).toNat < S4096.size a)
theorem k0_idx1917_inb : ∀ (v10104 : IVec S16 32) (k0_hw1917 : k0_chk1917 v10104), ∀ a x, ((![v10104] : Fin 1 → IVec S16 32) a x).toNat < S4096.size a := fun v10104 k0_hw1917 => k0_hw1917

def k0_chk1918 (v10106 : IVec S16 32) : Prop :=
  (∀ a x, ((![v10106] : Fin 1 → IVec S16 32) a x).toNat < S4096.size a)
theorem k0_idx1918_inb : ∀ (v10106 : IVec S16 32) (k0_hw1918 : k0_chk1918 v10106), ∀ a x, ((![v10106] : Fin 1 → IVec S16 32) a x).toNat < S4096.size a := fun v10106 k0_hw1918 => k0_hw1918

def k0_chk1919 (v10108 : IVec S16 32) : Prop :=
  (∀ a x, ((![v10108] : Fin 1 → IVec S16 32) a x).toNat < S4096.size a)
theorem k0_idx1919_inb : ∀ (v10108 : IVec S16 32) (k0_hw1919 : k0_chk1919 v10108), ∀ a x, ((![v10108] : Fin 1 → IVec S16 32) a x).toNat < S4096.size a := fun v10108 k0_hw1919 => k0_hw1919

def k0_chk1920 (v10110 : IVec S16 32) : Prop :=
  (∀ a x, ((![v10110] : Fin 1 → IVec S16 32) a x).toNat < S4096.size a)
theorem k0_idx1920_inb : ∀ (v10110 : IVec S16 32) (k0_hw1920 : k0_chk1920 v10110), ∀ a x, ((![v10110] : Fin 1 → IVec S16 32) a x).toNat < S4096.size a := fun v10110 k0_hw1920 => k0_hw1920
def k0_off67 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7745 : BitVec 32 := 512#32
  let v10111 : BitVec 32 := Scalar.muli v5574 c512_i32_7745
  let c448_i32_7746 : BitVec 32 := 448#32
  let v10112 : BitVec 32 := Scalar.addi v10111 c448_i32_7746
  let v10113 : Index := Scalar.indexCast v10112
  ![v10113.toNat]

def k0_chk1921 (v10114 : IVec S16 32) : Prop :=
  (∀ a x, ((![v10114] : Fin 1 → IVec S16 32) a x).toNat < S4096.size a)
theorem k0_idx1921_inb : ∀ (v10114 : IVec S16 32) (k0_hw1921 : k0_chk1921 v10114), ∀ a x, ((![v10114] : Fin 1 → IVec S16 32) a x).toNat < S4096.size a := fun v10114 k0_hw1921 => k0_hw1921

def k0_chk1922 (v10131 : IVec S16 32) : Prop :=
  (∀ a x, ((![v10131] : Fin 1 → IVec S16 32) a x).toNat < S4096.size a)
theorem k0_idx1922_inb : ∀ (v10131 : IVec S16 32) (k0_hw1922 : k0_chk1922 v10131), ∀ a x, ((![v10131] : Fin 1 → IVec S16 32) a x).toNat < S4096.size a := fun v10131 k0_hw1922 => k0_hw1922

def k0_chk1923 (v10136 : IVec S16 32) : Prop :=
  (∀ a x, ((![v10136] : Fin 1 → IVec S16 32) a x).toNat < S4096.size a)
theorem k0_idx1923_inb : ∀ (v10136 : IVec S16 32) (k0_hw1923 : k0_chk1923 v10136), ∀ a x, ((![v10136] : Fin 1 → IVec S16 32) a x).toNat < S4096.size a := fun v10136 k0_hw1923 => k0_hw1923

def k0_chk1924 (v10141 : IVec S16 32) : Prop :=
  (∀ a x, ((![v10141] : Fin 1 → IVec S16 32) a x).toNat < S4096.size a)
theorem k0_idx1924_inb : ∀ (v10141 : IVec S16 32) (k0_hw1924 : k0_chk1924 v10141), ∀ a x, ((![v10141] : Fin 1 → IVec S16 32) a x).toNat < S4096.size a := fun v10141 k0_hw1924 => k0_hw1924

def k0_chk1925 (v10146 : IVec S16 32) : Prop :=
  (∀ a x, ((![v10146] : Fin 1 → IVec S16 32) a x).toNat < S4096.size a)
theorem k0_idx1925_inb : ∀ (v10146 : IVec S16 32) (k0_hw1925 : k0_chk1925 v10146), ∀ a x, ((![v10146] : Fin 1 → IVec S16 32) a x).toNat < S4096.size a := fun v10146 k0_hw1925 => k0_hw1925

def k0_chk1926 (v10151 : IVec S16 32) : Prop :=
  (∀ a x, ((![v10151] : Fin 1 → IVec S16 32) a x).toNat < S4096.size a)
theorem k0_idx1926_inb : ∀ (v10151 : IVec S16 32) (k0_hw1926 : k0_chk1926 v10151), ∀ a x, ((![v10151] : Fin 1 → IVec S16 32) a x).toNat < S4096.size a := fun v10151 k0_hw1926 => k0_hw1926

def k0_chk1927 (v10156 : IVec S16 32) : Prop :=
  (∀ a x, ((![v10156] : Fin 1 → IVec S16 32) a x).toNat < S4096.size a)
theorem k0_idx1927_inb : ∀ (v10156 : IVec S16 32) (k0_hw1927 : k0_chk1927 v10156), ∀ a x, ((![v10156] : Fin 1 → IVec S16 32) a x).toNat < S4096.size a := fun v10156 k0_hw1927 => k0_hw1927

def k0_chk1928 (v10161 : IVec S16 32) : Prop :=
  (∀ a x, ((![v10161] : Fin 1 → IVec S16 32) a x).toNat < S4096.size a)
theorem k0_idx1928_inb : ∀ (v10161 : IVec S16 32) (k0_hw1928 : k0_chk1928 v10161), ∀ a x, ((![v10161] : Fin 1 → IVec S16 32) a x).toNat < S4096.size a := fun v10161 k0_hw1928 => k0_hw1928

def k0_chk1929 (v10166 : IVec S16 32) : Prop :=
  (∀ a x, ((![v10166] : Fin 1 → IVec S16 32) a x).toNat < S4096.size a)
theorem k0_idx1929_inb : ∀ (v10166 : IVec S16 32) (k0_hw1929 : k0_chk1929 v10166), ∀ a x, ((![v10166] : Fin 1 → IVec S16 32) a x).toNat < S4096.size a := fun v10166 k0_hw1929 => k0_hw1929

def k0_chk1930 (v10171 : IVec S16 32) : Prop :=
  (∀ a x, ((![v10171] : Fin 1 → IVec S16 32) a x).toNat < S4096.size a)
theorem k0_idx1930_inb : ∀ (v10171 : IVec S16 32) (k0_hw1930 : k0_chk1930 v10171), ∀ a x, ((![v10171] : Fin 1 → IVec S16 32) a x).toNat < S4096.size a := fun v10171 k0_hw1930 => k0_hw1930

def k0_chk1931 (v10176 : IVec S16 32) : Prop :=
  (∀ a x, ((![v10176] : Fin 1 → IVec S16 32) a x).toNat < S4096.size a)
theorem k0_idx1931_inb : ∀ (v10176 : IVec S16 32) (k0_hw1931 : k0_chk1931 v10176), ∀ a x, ((![v10176] : Fin 1 → IVec S16 32) a x).toNat < S4096.size a := fun v10176 k0_hw1931 => k0_hw1931

def k0_chk1932 (v10181 : IVec S16 32) : Prop :=
  (∀ a x, ((![v10181] : Fin 1 → IVec S16 32) a x).toNat < S4096.size a)
theorem k0_idx1932_inb : ∀ (v10181 : IVec S16 32) (k0_hw1932 : k0_chk1932 v10181), ∀ a x, ((![v10181] : Fin 1 → IVec S16 32) a x).toNat < S4096.size a := fun v10181 k0_hw1932 => k0_hw1932

def k0_chk1933 (v10186 : IVec S16 32) : Prop :=
  (∀ a x, ((![v10186] : Fin 1 → IVec S16 32) a x).toNat < S4096.size a)
theorem k0_idx1933_inb : ∀ (v10186 : IVec S16 32) (k0_hw1933 : k0_chk1933 v10186), ∀ a x, ((![v10186] : Fin 1 → IVec S16 32) a x).toNat < S4096.size a := fun v10186 k0_hw1933 => k0_hw1933

def k0_chk1934 (v10191 : IVec S16 32) : Prop :=
  (∀ a x, ((![v10191] : Fin 1 → IVec S16 32) a x).toNat < S4096.size a)
theorem k0_idx1934_inb : ∀ (v10191 : IVec S16 32) (k0_hw1934 : k0_chk1934 v10191), ∀ a x, ((![v10191] : Fin 1 → IVec S16 32) a x).toNat < S4096.size a := fun v10191 k0_hw1934 => k0_hw1934

def k0_chk1935 (v10196 : IVec S16 32) : Prop :=
  (∀ a x, ((![v10196] : Fin 1 → IVec S16 32) a x).toNat < S4096.size a)
theorem k0_idx1935_inb : ∀ (v10196 : IVec S16 32) (k0_hw1935 : k0_chk1935 v10196), ∀ a x, ((![v10196] : Fin 1 → IVec S16 32) a x).toNat < S4096.size a := fun v10196 k0_hw1935 => k0_hw1935

def k0_chk1936 (v10201 : IVec S16 32) : Prop :=
  (∀ a x, ((![v10201] : Fin 1 → IVec S16 32) a x).toNat < S4096.size a)
theorem k0_idx1936_inb : ∀ (v10201 : IVec S16 32) (k0_hw1936 : k0_chk1936 v10201), ∀ a x, ((![v10201] : Fin 1 → IVec S16 32) a x).toNat < S4096.size a := fun v10201 k0_hw1936 => k0_hw1936

def k0_chk1937 (v10206 : IVec S16 32) : Prop :=
  (∀ a x, ((![v10206] : Fin 1 → IVec S16 32) a x).toNat < S4096.size a)
theorem k0_idx1937_inb : ∀ (v10206 : IVec S16 32) (k0_hw1937 : k0_chk1937 v10206), ∀ a x, ((![v10206] : Fin 1 → IVec S16 32) a x).toNat < S4096.size a := fun v10206 k0_hw1937 => k0_hw1937

def k0_chk1938 (v10211 : IVec S16 32) : Prop :=
  (∀ a x, ((![v10211] : Fin 1 → IVec S16 32) a x).toNat < S4096.size a)
theorem k0_idx1938_inb : ∀ (v10211 : IVec S16 32) (k0_hw1938 : k0_chk1938 v10211), ∀ a x, ((![v10211] : Fin 1 → IVec S16 32) a x).toNat < S4096.size a := fun v10211 k0_hw1938 => k0_hw1938

def k0_chk1939 (v10216 : IVec S16 32) : Prop :=
  (∀ a x, ((![v10216] : Fin 1 → IVec S16 32) a x).toNat < S4096.size a)
theorem k0_idx1939_inb : ∀ (v10216 : IVec S16 32) (k0_hw1939 : k0_chk1939 v10216), ∀ a x, ((![v10216] : Fin 1 → IVec S16 32) a x).toNat < S4096.size a := fun v10216 k0_hw1939 => k0_hw1939

def k0_chk1940 (v10221 : IVec S16 32) : Prop :=
  (∀ a x, ((![v10221] : Fin 1 → IVec S16 32) a x).toNat < S4096.size a)
theorem k0_idx1940_inb : ∀ (v10221 : IVec S16 32) (k0_hw1940 : k0_chk1940 v10221), ∀ a x, ((![v10221] : Fin 1 → IVec S16 32) a x).toNat < S4096.size a := fun v10221 k0_hw1940 => k0_hw1940

def k0_chk1941 (v10226 : IVec S16 32) : Prop :=
  (∀ a x, ((![v10226] : Fin 1 → IVec S16 32) a x).toNat < S4096.size a)
theorem k0_idx1941_inb : ∀ (v10226 : IVec S16 32) (k0_hw1941 : k0_chk1941 v10226), ∀ a x, ((![v10226] : Fin 1 → IVec S16 32) a x).toNat < S4096.size a := fun v10226 k0_hw1941 => k0_hw1941

def k0_chk1942 (v10231 : IVec S16 32) : Prop :=
  (∀ a x, ((![v10231] : Fin 1 → IVec S16 32) a x).toNat < S4096.size a)
theorem k0_idx1942_inb : ∀ (v10231 : IVec S16 32) (k0_hw1942 : k0_chk1942 v10231), ∀ a x, ((![v10231] : Fin 1 → IVec S16 32) a x).toNat < S4096.size a := fun v10231 k0_hw1942 => k0_hw1942

def k0_chk1943 (v10236 : IVec S16 32) : Prop :=
  (∀ a x, ((![v10236] : Fin 1 → IVec S16 32) a x).toNat < S4096.size a)
theorem k0_idx1943_inb : ∀ (v10236 : IVec S16 32) (k0_hw1943 : k0_chk1943 v10236), ∀ a x, ((![v10236] : Fin 1 → IVec S16 32) a x).toNat < S4096.size a := fun v10236 k0_hw1943 => k0_hw1943

def k0_chk1944 (v10241 : IVec S16 32) : Prop :=
  (∀ a x, ((![v10241] : Fin 1 → IVec S16 32) a x).toNat < S4096.size a)
theorem k0_idx1944_inb : ∀ (v10241 : IVec S16 32) (k0_hw1944 : k0_chk1944 v10241), ∀ a x, ((![v10241] : Fin 1 → IVec S16 32) a x).toNat < S4096.size a := fun v10241 k0_hw1944 => k0_hw1944

def k0_chk1945 (v10246 : IVec S16 32) : Prop :=
  (∀ a x, ((![v10246] : Fin 1 → IVec S16 32) a x).toNat < S4096.size a)
theorem k0_idx1945_inb : ∀ (v10246 : IVec S16 32) (k0_hw1945 : k0_chk1945 v10246), ∀ a x, ((![v10246] : Fin 1 → IVec S16 32) a x).toNat < S4096.size a := fun v10246 k0_hw1945 => k0_hw1945

def k0_chk1946 (v10251 : IVec S16 32) : Prop :=
  (∀ a x, ((![v10251] : Fin 1 → IVec S16 32) a x).toNat < S4096.size a)
theorem k0_idx1946_inb : ∀ (v10251 : IVec S16 32) (k0_hw1946 : k0_chk1946 v10251), ∀ a x, ((![v10251] : Fin 1 → IVec S16 32) a x).toNat < S4096.size a := fun v10251 k0_hw1946 => k0_hw1946

def k0_chk1947 (v10256 : IVec S16 32) : Prop :=
  (∀ a x, ((![v10256] : Fin 1 → IVec S16 32) a x).toNat < S4096.size a)
theorem k0_idx1947_inb : ∀ (v10256 : IVec S16 32) (k0_hw1947 : k0_chk1947 v10256), ∀ a x, ((![v10256] : Fin 1 → IVec S16 32) a x).toNat < S4096.size a := fun v10256 k0_hw1947 => k0_hw1947

def k0_chk1948 (v10261 : IVec S16 32) : Prop :=
  (∀ a x, ((![v10261] : Fin 1 → IVec S16 32) a x).toNat < S4096.size a)
theorem k0_idx1948_inb : ∀ (v10261 : IVec S16 32) (k0_hw1948 : k0_chk1948 v10261), ∀ a x, ((![v10261] : Fin 1 → IVec S16 32) a x).toNat < S4096.size a := fun v10261 k0_hw1948 => k0_hw1948

def k0_chk1949 (v10266 : IVec S16 32) : Prop :=
  (∀ a x, ((![v10266] : Fin 1 → IVec S16 32) a x).toNat < S4096.size a)
theorem k0_idx1949_inb : ∀ (v10266 : IVec S16 32) (k0_hw1949 : k0_chk1949 v10266), ∀ a x, ((![v10266] : Fin 1 → IVec S16 32) a x).toNat < S4096.size a := fun v10266 k0_hw1949 => k0_hw1949

def k0_chk1950 (v10268 : IVec S16 32) : Prop :=
  (∀ a x, ((![v10268] : Fin 1 → IVec S16 32) a x).toNat < S4096.size a)
theorem k0_idx1950_inb : ∀ (v10268 : IVec S16 32) (k0_hw1950 : k0_chk1950 v10268), ∀ a x, ((![v10268] : Fin 1 → IVec S16 32) a x).toNat < S4096.size a := fun v10268 k0_hw1950 => k0_hw1950

def k0_chk1951 (v10270 : IVec S16 32) : Prop :=
  (∀ a x, ((![v10270] : Fin 1 → IVec S16 32) a x).toNat < S4096.size a)
theorem k0_idx1951_inb : ∀ (v10270 : IVec S16 32) (k0_hw1951 : k0_chk1951 v10270), ∀ a x, ((![v10270] : Fin 1 → IVec S16 32) a x).toNat < S4096.size a := fun v10270 k0_hw1951 => k0_hw1951

def k0_chk1952 (v10272 : IVec S16 32) : Prop :=
  (∀ a x, ((![v10272] : Fin 1 → IVec S16 32) a x).toNat < S4096.size a)
theorem k0_idx1952_inb : ∀ (v10272 : IVec S16 32) (k0_hw1952 : k0_chk1952 v10272), ∀ a x, ((![v10272] : Fin 1 → IVec S16 32) a x).toNat < S4096.size a := fun v10272 k0_hw1952 => k0_hw1952
def k0_off68 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_7874 : BitVec 32 := 512#32
  let v10273 : BitVec 32 := Scalar.muli v5574 c512_i32_7874
  let c464_i32_7875 : BitVec 32 := 464#32
  let v10274 : BitVec 32 := Scalar.addi v10273 c464_i32_7875
  let v10275 : Index := Scalar.indexCast v10274
  ![v10275.toNat]

def k0_chk1953 (v10276 : IVec S16 32) : Prop :=
  (∀ a x, ((![v10276] : Fin 1 → IVec S16 32) a x).toNat < S4096.size a)
theorem k0_idx1953_inb : ∀ (v10276 : IVec S16 32) (k0_hw1953 : k0_chk1953 v10276), ∀ a x, ((![v10276] : Fin 1 → IVec S16 32) a x).toNat < S4096.size a := fun v10276 k0_hw1953 => k0_hw1953

def k0_chk1954 (v10293 : IVec S16 32) : Prop :=
  (∀ a x, ((![v10293] : Fin 1 → IVec S16 32) a x).toNat < S4096.size a)
theorem k0_idx1954_inb : ∀ (v10293 : IVec S16 32) (k0_hw1954 : k0_chk1954 v10293), ∀ a x, ((![v10293] : Fin 1 → IVec S16 32) a x).toNat < S4096.size a := fun v10293 k0_hw1954 => k0_hw1954

def k0_chk1955 (v10298 : IVec S16 32) : Prop :=
  (∀ a x, ((![v10298] : Fin 1 → IVec S16 32) a x).toNat < S4096.size a)
theorem k0_idx1955_inb : ∀ (v10298 : IVec S16 32) (k0_hw1955 : k0_chk1955 v10298), ∀ a x, ((![v10298] : Fin 1 → IVec S16 32) a x).toNat < S4096.size a := fun v10298 k0_hw1955 => k0_hw1955

def k0_chk1956 (v10303 : IVec S16 32) : Prop :=
  (∀ a x, ((![v10303] : Fin 1 → IVec S16 32) a x).toNat < S4096.size a)
theorem k0_idx1956_inb : ∀ (v10303 : IVec S16 32) (k0_hw1956 : k0_chk1956 v10303), ∀ a x, ((![v10303] : Fin 1 → IVec S16 32) a x).toNat < S4096.size a := fun v10303 k0_hw1956 => k0_hw1956

def k0_chk1957 (v10308 : IVec S16 32) : Prop :=
  (∀ a x, ((![v10308] : Fin 1 → IVec S16 32) a x).toNat < S4096.size a)
theorem k0_idx1957_inb : ∀ (v10308 : IVec S16 32) (k0_hw1957 : k0_chk1957 v10308), ∀ a x, ((![v10308] : Fin 1 → IVec S16 32) a x).toNat < S4096.size a := fun v10308 k0_hw1957 => k0_hw1957

def k0_chk1958 (v10313 : IVec S16 32) : Prop :=
  (∀ a x, ((![v10313] : Fin 1 → IVec S16 32) a x).toNat < S4096.size a)
theorem k0_idx1958_inb : ∀ (v10313 : IVec S16 32) (k0_hw1958 : k0_chk1958 v10313), ∀ a x, ((![v10313] : Fin 1 → IVec S16 32) a x).toNat < S4096.size a := fun v10313 k0_hw1958 => k0_hw1958

def k0_chk1959 (v10318 : IVec S16 32) : Prop :=
  (∀ a x, ((![v10318] : Fin 1 → IVec S16 32) a x).toNat < S4096.size a)
theorem k0_idx1959_inb : ∀ (v10318 : IVec S16 32) (k0_hw1959 : k0_chk1959 v10318), ∀ a x, ((![v10318] : Fin 1 → IVec S16 32) a x).toNat < S4096.size a := fun v10318 k0_hw1959 => k0_hw1959

def k0_chk1960 (v10323 : IVec S16 32) : Prop :=
  (∀ a x, ((![v10323] : Fin 1 → IVec S16 32) a x).toNat < S4096.size a)
theorem k0_idx1960_inb : ∀ (v10323 : IVec S16 32) (k0_hw1960 : k0_chk1960 v10323), ∀ a x, ((![v10323] : Fin 1 → IVec S16 32) a x).toNat < S4096.size a := fun v10323 k0_hw1960 => k0_hw1960

def k0_chk1961 (v10328 : IVec S16 32) : Prop :=
  (∀ a x, ((![v10328] : Fin 1 → IVec S16 32) a x).toNat < S4096.size a)
theorem k0_idx1961_inb : ∀ (v10328 : IVec S16 32) (k0_hw1961 : k0_chk1961 v10328), ∀ a x, ((![v10328] : Fin 1 → IVec S16 32) a x).toNat < S4096.size a := fun v10328 k0_hw1961 => k0_hw1961

def k0_chk1962 (v10333 : IVec S16 32) : Prop :=
  (∀ a x, ((![v10333] : Fin 1 → IVec S16 32) a x).toNat < S4096.size a)
theorem k0_idx1962_inb : ∀ (v10333 : IVec S16 32) (k0_hw1962 : k0_chk1962 v10333), ∀ a x, ((![v10333] : Fin 1 → IVec S16 32) a x).toNat < S4096.size a := fun v10333 k0_hw1962 => k0_hw1962

def k0_chk1963 (v10338 : IVec S16 32) : Prop :=
  (∀ a x, ((![v10338] : Fin 1 → IVec S16 32) a x).toNat < S4096.size a)
theorem k0_idx1963_inb : ∀ (v10338 : IVec S16 32) (k0_hw1963 : k0_chk1963 v10338), ∀ a x, ((![v10338] : Fin 1 → IVec S16 32) a x).toNat < S4096.size a := fun v10338 k0_hw1963 => k0_hw1963

def k0_chk1964 (v10343 : IVec S16 32) : Prop :=
  (∀ a x, ((![v10343] : Fin 1 → IVec S16 32) a x).toNat < S4096.size a)
theorem k0_idx1964_inb : ∀ (v10343 : IVec S16 32) (k0_hw1964 : k0_chk1964 v10343), ∀ a x, ((![v10343] : Fin 1 → IVec S16 32) a x).toNat < S4096.size a := fun v10343 k0_hw1964 => k0_hw1964

def k0_chk1965 (v10348 : IVec S16 32) : Prop :=
  (∀ a x, ((![v10348] : Fin 1 → IVec S16 32) a x).toNat < S4096.size a)
theorem k0_idx1965_inb : ∀ (v10348 : IVec S16 32) (k0_hw1965 : k0_chk1965 v10348), ∀ a x, ((![v10348] : Fin 1 → IVec S16 32) a x).toNat < S4096.size a := fun v10348 k0_hw1965 => k0_hw1965

def k0_chk1966 (v10353 : IVec S16 32) : Prop :=
  (∀ a x, ((![v10353] : Fin 1 → IVec S16 32) a x).toNat < S4096.size a)
theorem k0_idx1966_inb : ∀ (v10353 : IVec S16 32) (k0_hw1966 : k0_chk1966 v10353), ∀ a x, ((![v10353] : Fin 1 → IVec S16 32) a x).toNat < S4096.size a := fun v10353 k0_hw1966 => k0_hw1966

def k0_chk1967 (v10358 : IVec S16 32) : Prop :=
  (∀ a x, ((![v10358] : Fin 1 → IVec S16 32) a x).toNat < S4096.size a)
theorem k0_idx1967_inb : ∀ (v10358 : IVec S16 32) (k0_hw1967 : k0_chk1967 v10358), ∀ a x, ((![v10358] : Fin 1 → IVec S16 32) a x).toNat < S4096.size a := fun v10358 k0_hw1967 => k0_hw1967

def k0_chk1968 (v10363 : IVec S16 32) : Prop :=
  (∀ a x, ((![v10363] : Fin 1 → IVec S16 32) a x).toNat < S4096.size a)
theorem k0_idx1968_inb : ∀ (v10363 : IVec S16 32) (k0_hw1968 : k0_chk1968 v10363), ∀ a x, ((![v10363] : Fin 1 → IVec S16 32) a x).toNat < S4096.size a := fun v10363 k0_hw1968 => k0_hw1968

def k0_chk1969 (v10368 : IVec S16 32) : Prop :=
  (∀ a x, ((![v10368] : Fin 1 → IVec S16 32) a x).toNat < S4096.size a)
theorem k0_idx1969_inb : ∀ (v10368 : IVec S16 32) (k0_hw1969 : k0_chk1969 v10368), ∀ a x, ((![v10368] : Fin 1 → IVec S16 32) a x).toNat < S4096.size a := fun v10368 k0_hw1969 => k0_hw1969

def k0_chk1970 (v10373 : IVec S16 32) : Prop :=
  (∀ a x, ((![v10373] : Fin 1 → IVec S16 32) a x).toNat < S4096.size a)
theorem k0_idx1970_inb : ∀ (v10373 : IVec S16 32) (k0_hw1970 : k0_chk1970 v10373), ∀ a x, ((![v10373] : Fin 1 → IVec S16 32) a x).toNat < S4096.size a := fun v10373 k0_hw1970 => k0_hw1970

def k0_chk1971 (v10378 : IVec S16 32) : Prop :=
  (∀ a x, ((![v10378] : Fin 1 → IVec S16 32) a x).toNat < S4096.size a)
theorem k0_idx1971_inb : ∀ (v10378 : IVec S16 32) (k0_hw1971 : k0_chk1971 v10378), ∀ a x, ((![v10378] : Fin 1 → IVec S16 32) a x).toNat < S4096.size a := fun v10378 k0_hw1971 => k0_hw1971

def k0_chk1972 (v10383 : IVec S16 32) : Prop :=
  (∀ a x, ((![v10383] : Fin 1 → IVec S16 32) a x).toNat < S4096.size a)
theorem k0_idx1972_inb : ∀ (v10383 : IVec S16 32) (k0_hw1972 : k0_chk1972 v10383), ∀ a x, ((![v10383] : Fin 1 → IVec S16 32) a x).toNat < S4096.size a := fun v10383 k0_hw1972 => k0_hw1972

def k0_chk1973 (v10388 : IVec S16 32) : Prop :=
  (∀ a x, ((![v10388] : Fin 1 → IVec S16 32) a x).toNat < S4096.size a)
theorem k0_idx1973_inb : ∀ (v10388 : IVec S16 32) (k0_hw1973 : k0_chk1973 v10388), ∀ a x, ((![v10388] : Fin 1 → IVec S16 32) a x).toNat < S4096.size a := fun v10388 k0_hw1973 => k0_hw1973

def k0_chk1974 (v10393 : IVec S16 32) : Prop :=
  (∀ a x, ((![v10393] : Fin 1 → IVec S16 32) a x).toNat < S4096.size a)
theorem k0_idx1974_inb : ∀ (v10393 : IVec S16 32) (k0_hw1974 : k0_chk1974 v10393), ∀ a x, ((![v10393] : Fin 1 → IVec S16 32) a x).toNat < S4096.size a := fun v10393 k0_hw1974 => k0_hw1974

def k0_chk1975 (v10398 : IVec S16 32) : Prop :=
  (∀ a x, ((![v10398] : Fin 1 → IVec S16 32) a x).toNat < S4096.size a)
theorem k0_idx1975_inb : ∀ (v10398 : IVec S16 32) (k0_hw1975 : k0_chk1975 v10398), ∀ a x, ((![v10398] : Fin 1 → IVec S16 32) a x).toNat < S4096.size a := fun v10398 k0_hw1975 => k0_hw1975

def k0_chk1976 (v10403 : IVec S16 32) : Prop :=
  (∀ a x, ((![v10403] : Fin 1 → IVec S16 32) a x).toNat < S4096.size a)
theorem k0_idx1976_inb : ∀ (v10403 : IVec S16 32) (k0_hw1976 : k0_chk1976 v10403), ∀ a x, ((![v10403] : Fin 1 → IVec S16 32) a x).toNat < S4096.size a := fun v10403 k0_hw1976 => k0_hw1976

def k0_chk1977 (v10408 : IVec S16 32) : Prop :=
  (∀ a x, ((![v10408] : Fin 1 → IVec S16 32) a x).toNat < S4096.size a)
theorem k0_idx1977_inb : ∀ (v10408 : IVec S16 32) (k0_hw1977 : k0_chk1977 v10408), ∀ a x, ((![v10408] : Fin 1 → IVec S16 32) a x).toNat < S4096.size a := fun v10408 k0_hw1977 => k0_hw1977

def k0_chk1978 (v10413 : IVec S16 32) : Prop :=
  (∀ a x, ((![v10413] : Fin 1 → IVec S16 32) a x).toNat < S4096.size a)
theorem k0_idx1978_inb : ∀ (v10413 : IVec S16 32) (k0_hw1978 : k0_chk1978 v10413), ∀ a x, ((![v10413] : Fin 1 → IVec S16 32) a x).toNat < S4096.size a := fun v10413 k0_hw1978 => k0_hw1978

def k0_chk1979 (v10418 : IVec S16 32) : Prop :=
  (∀ a x, ((![v10418] : Fin 1 → IVec S16 32) a x).toNat < S4096.size a)
theorem k0_idx1979_inb : ∀ (v10418 : IVec S16 32) (k0_hw1979 : k0_chk1979 v10418), ∀ a x, ((![v10418] : Fin 1 → IVec S16 32) a x).toNat < S4096.size a := fun v10418 k0_hw1979 => k0_hw1979

def k0_chk1980 (v10423 : IVec S16 32) : Prop :=
  (∀ a x, ((![v10423] : Fin 1 → IVec S16 32) a x).toNat < S4096.size a)
theorem k0_idx1980_inb : ∀ (v10423 : IVec S16 32) (k0_hw1980 : k0_chk1980 v10423), ∀ a x, ((![v10423] : Fin 1 → IVec S16 32) a x).toNat < S4096.size a := fun v10423 k0_hw1980 => k0_hw1980

def k0_chk1981 (v10428 : IVec S16 32) : Prop :=
  (∀ a x, ((![v10428] : Fin 1 → IVec S16 32) a x).toNat < S4096.size a)
theorem k0_idx1981_inb : ∀ (v10428 : IVec S16 32) (k0_hw1981 : k0_chk1981 v10428), ∀ a x, ((![v10428] : Fin 1 → IVec S16 32) a x).toNat < S4096.size a := fun v10428 k0_hw1981 => k0_hw1981

def k0_chk1982 (v10430 : IVec S16 32) : Prop :=
  (∀ a x, ((![v10430] : Fin 1 → IVec S16 32) a x).toNat < S4096.size a)
theorem k0_idx1982_inb : ∀ (v10430 : IVec S16 32) (k0_hw1982 : k0_chk1982 v10430), ∀ a x, ((![v10430] : Fin 1 → IVec S16 32) a x).toNat < S4096.size a := fun v10430 k0_hw1982 => k0_hw1982

def k0_chk1983 (v10432 : IVec S16 32) : Prop :=
  (∀ a x, ((![v10432] : Fin 1 → IVec S16 32) a x).toNat < S4096.size a)
theorem k0_idx1983_inb : ∀ (v10432 : IVec S16 32) (k0_hw1983 : k0_chk1983 v10432), ∀ a x, ((![v10432] : Fin 1 → IVec S16 32) a x).toNat < S4096.size a := fun v10432 k0_hw1983 => k0_hw1983

def k0_chk1984 (v10434 : IVec S16 32) : Prop :=
  (∀ a x, ((![v10434] : Fin 1 → IVec S16 32) a x).toNat < S4096.size a)
theorem k0_idx1984_inb : ∀ (v10434 : IVec S16 32) (k0_hw1984 : k0_chk1984 v10434), ∀ a x, ((![v10434] : Fin 1 → IVec S16 32) a x).toNat < S4096.size a := fun v10434 k0_hw1984 => k0_hw1984
def k0_off69 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_8003 : BitVec 32 := 512#32
  let v10435 : BitVec 32 := Scalar.muli v5574 c512_i32_8003
  let c480_i32_8004 : BitVec 32 := 480#32
  let v10436 : BitVec 32 := Scalar.addi v10435 c480_i32_8004
  let v10437 : Index := Scalar.indexCast v10436
  ![v10437.toNat]

def k0_chk1985 (v10438 : IVec S16 32) : Prop :=
  (∀ a x, ((![v10438] : Fin 1 → IVec S16 32) a x).toNat < S4096.size a)
theorem k0_idx1985_inb : ∀ (v10438 : IVec S16 32) (k0_hw1985 : k0_chk1985 v10438), ∀ a x, ((![v10438] : Fin 1 → IVec S16 32) a x).toNat < S4096.size a := fun v10438 k0_hw1985 => k0_hw1985

def k0_chk1986 (v10455 : IVec S16 32) : Prop :=
  (∀ a x, ((![v10455] : Fin 1 → IVec S16 32) a x).toNat < S4096.size a)
theorem k0_idx1986_inb : ∀ (v10455 : IVec S16 32) (k0_hw1986 : k0_chk1986 v10455), ∀ a x, ((![v10455] : Fin 1 → IVec S16 32) a x).toNat < S4096.size a := fun v10455 k0_hw1986 => k0_hw1986

def k0_chk1987 (v10460 : IVec S16 32) : Prop :=
  (∀ a x, ((![v10460] : Fin 1 → IVec S16 32) a x).toNat < S4096.size a)
theorem k0_idx1987_inb : ∀ (v10460 : IVec S16 32) (k0_hw1987 : k0_chk1987 v10460), ∀ a x, ((![v10460] : Fin 1 → IVec S16 32) a x).toNat < S4096.size a := fun v10460 k0_hw1987 => k0_hw1987

def k0_chk1988 (v10465 : IVec S16 32) : Prop :=
  (∀ a x, ((![v10465] : Fin 1 → IVec S16 32) a x).toNat < S4096.size a)
theorem k0_idx1988_inb : ∀ (v10465 : IVec S16 32) (k0_hw1988 : k0_chk1988 v10465), ∀ a x, ((![v10465] : Fin 1 → IVec S16 32) a x).toNat < S4096.size a := fun v10465 k0_hw1988 => k0_hw1988

def k0_chk1989 (v10470 : IVec S16 32) : Prop :=
  (∀ a x, ((![v10470] : Fin 1 → IVec S16 32) a x).toNat < S4096.size a)
theorem k0_idx1989_inb : ∀ (v10470 : IVec S16 32) (k0_hw1989 : k0_chk1989 v10470), ∀ a x, ((![v10470] : Fin 1 → IVec S16 32) a x).toNat < S4096.size a := fun v10470 k0_hw1989 => k0_hw1989

def k0_chk1990 (v10475 : IVec S16 32) : Prop :=
  (∀ a x, ((![v10475] : Fin 1 → IVec S16 32) a x).toNat < S4096.size a)
theorem k0_idx1990_inb : ∀ (v10475 : IVec S16 32) (k0_hw1990 : k0_chk1990 v10475), ∀ a x, ((![v10475] : Fin 1 → IVec S16 32) a x).toNat < S4096.size a := fun v10475 k0_hw1990 => k0_hw1990

def k0_chk1991 (v10480 : IVec S16 32) : Prop :=
  (∀ a x, ((![v10480] : Fin 1 → IVec S16 32) a x).toNat < S4096.size a)
theorem k0_idx1991_inb : ∀ (v10480 : IVec S16 32) (k0_hw1991 : k0_chk1991 v10480), ∀ a x, ((![v10480] : Fin 1 → IVec S16 32) a x).toNat < S4096.size a := fun v10480 k0_hw1991 => k0_hw1991

def k0_chk1992 (v10485 : IVec S16 32) : Prop :=
  (∀ a x, ((![v10485] : Fin 1 → IVec S16 32) a x).toNat < S4096.size a)
theorem k0_idx1992_inb : ∀ (v10485 : IVec S16 32) (k0_hw1992 : k0_chk1992 v10485), ∀ a x, ((![v10485] : Fin 1 → IVec S16 32) a x).toNat < S4096.size a := fun v10485 k0_hw1992 => k0_hw1992

def k0_chk1993 (v10490 : IVec S16 32) : Prop :=
  (∀ a x, ((![v10490] : Fin 1 → IVec S16 32) a x).toNat < S4096.size a)
theorem k0_idx1993_inb : ∀ (v10490 : IVec S16 32) (k0_hw1993 : k0_chk1993 v10490), ∀ a x, ((![v10490] : Fin 1 → IVec S16 32) a x).toNat < S4096.size a := fun v10490 k0_hw1993 => k0_hw1993

def k0_chk1994 (v10495 : IVec S16 32) : Prop :=
  (∀ a x, ((![v10495] : Fin 1 → IVec S16 32) a x).toNat < S4096.size a)
theorem k0_idx1994_inb : ∀ (v10495 : IVec S16 32) (k0_hw1994 : k0_chk1994 v10495), ∀ a x, ((![v10495] : Fin 1 → IVec S16 32) a x).toNat < S4096.size a := fun v10495 k0_hw1994 => k0_hw1994

def k0_chk1995 (v10500 : IVec S16 32) : Prop :=
  (∀ a x, ((![v10500] : Fin 1 → IVec S16 32) a x).toNat < S4096.size a)
theorem k0_idx1995_inb : ∀ (v10500 : IVec S16 32) (k0_hw1995 : k0_chk1995 v10500), ∀ a x, ((![v10500] : Fin 1 → IVec S16 32) a x).toNat < S4096.size a := fun v10500 k0_hw1995 => k0_hw1995

def k0_chk1996 (v10505 : IVec S16 32) : Prop :=
  (∀ a x, ((![v10505] : Fin 1 → IVec S16 32) a x).toNat < S4096.size a)
theorem k0_idx1996_inb : ∀ (v10505 : IVec S16 32) (k0_hw1996 : k0_chk1996 v10505), ∀ a x, ((![v10505] : Fin 1 → IVec S16 32) a x).toNat < S4096.size a := fun v10505 k0_hw1996 => k0_hw1996

def k0_chk1997 (v10510 : IVec S16 32) : Prop :=
  (∀ a x, ((![v10510] : Fin 1 → IVec S16 32) a x).toNat < S4096.size a)
theorem k0_idx1997_inb : ∀ (v10510 : IVec S16 32) (k0_hw1997 : k0_chk1997 v10510), ∀ a x, ((![v10510] : Fin 1 → IVec S16 32) a x).toNat < S4096.size a := fun v10510 k0_hw1997 => k0_hw1997

def k0_chk1998 (v10515 : IVec S16 32) : Prop :=
  (∀ a x, ((![v10515] : Fin 1 → IVec S16 32) a x).toNat < S4096.size a)
theorem k0_idx1998_inb : ∀ (v10515 : IVec S16 32) (k0_hw1998 : k0_chk1998 v10515), ∀ a x, ((![v10515] : Fin 1 → IVec S16 32) a x).toNat < S4096.size a := fun v10515 k0_hw1998 => k0_hw1998

def k0_chk1999 (v10520 : IVec S16 32) : Prop :=
  (∀ a x, ((![v10520] : Fin 1 → IVec S16 32) a x).toNat < S4096.size a)
theorem k0_idx1999_inb : ∀ (v10520 : IVec S16 32) (k0_hw1999 : k0_chk1999 v10520), ∀ a x, ((![v10520] : Fin 1 → IVec S16 32) a x).toNat < S4096.size a := fun v10520 k0_hw1999 => k0_hw1999

def k0_chk2000 (v10525 : IVec S16 32) : Prop :=
  (∀ a x, ((![v10525] : Fin 1 → IVec S16 32) a x).toNat < S4096.size a)
theorem k0_idx2000_inb : ∀ (v10525 : IVec S16 32) (k0_hw2000 : k0_chk2000 v10525), ∀ a x, ((![v10525] : Fin 1 → IVec S16 32) a x).toNat < S4096.size a := fun v10525 k0_hw2000 => k0_hw2000

def k0_chk2001 (v10530 : IVec S16 32) : Prop :=
  (∀ a x, ((![v10530] : Fin 1 → IVec S16 32) a x).toNat < S4096.size a)
theorem k0_idx2001_inb : ∀ (v10530 : IVec S16 32) (k0_hw2001 : k0_chk2001 v10530), ∀ a x, ((![v10530] : Fin 1 → IVec S16 32) a x).toNat < S4096.size a := fun v10530 k0_hw2001 => k0_hw2001

def k0_chk2002 (v10535 : IVec S16 32) : Prop :=
  (∀ a x, ((![v10535] : Fin 1 → IVec S16 32) a x).toNat < S4096.size a)
theorem k0_idx2002_inb : ∀ (v10535 : IVec S16 32) (k0_hw2002 : k0_chk2002 v10535), ∀ a x, ((![v10535] : Fin 1 → IVec S16 32) a x).toNat < S4096.size a := fun v10535 k0_hw2002 => k0_hw2002

def k0_chk2003 (v10540 : IVec S16 32) : Prop :=
  (∀ a x, ((![v10540] : Fin 1 → IVec S16 32) a x).toNat < S4096.size a)
theorem k0_idx2003_inb : ∀ (v10540 : IVec S16 32) (k0_hw2003 : k0_chk2003 v10540), ∀ a x, ((![v10540] : Fin 1 → IVec S16 32) a x).toNat < S4096.size a := fun v10540 k0_hw2003 => k0_hw2003

def k0_chk2004 (v10545 : IVec S16 32) : Prop :=
  (∀ a x, ((![v10545] : Fin 1 → IVec S16 32) a x).toNat < S4096.size a)
theorem k0_idx2004_inb : ∀ (v10545 : IVec S16 32) (k0_hw2004 : k0_chk2004 v10545), ∀ a x, ((![v10545] : Fin 1 → IVec S16 32) a x).toNat < S4096.size a := fun v10545 k0_hw2004 => k0_hw2004

def k0_chk2005 (v10550 : IVec S16 32) : Prop :=
  (∀ a x, ((![v10550] : Fin 1 → IVec S16 32) a x).toNat < S4096.size a)
theorem k0_idx2005_inb : ∀ (v10550 : IVec S16 32) (k0_hw2005 : k0_chk2005 v10550), ∀ a x, ((![v10550] : Fin 1 → IVec S16 32) a x).toNat < S4096.size a := fun v10550 k0_hw2005 => k0_hw2005

def k0_chk2006 (v10555 : IVec S16 32) : Prop :=
  (∀ a x, ((![v10555] : Fin 1 → IVec S16 32) a x).toNat < S4096.size a)
theorem k0_idx2006_inb : ∀ (v10555 : IVec S16 32) (k0_hw2006 : k0_chk2006 v10555), ∀ a x, ((![v10555] : Fin 1 → IVec S16 32) a x).toNat < S4096.size a := fun v10555 k0_hw2006 => k0_hw2006

def k0_chk2007 (v10560 : IVec S16 32) : Prop :=
  (∀ a x, ((![v10560] : Fin 1 → IVec S16 32) a x).toNat < S4096.size a)
theorem k0_idx2007_inb : ∀ (v10560 : IVec S16 32) (k0_hw2007 : k0_chk2007 v10560), ∀ a x, ((![v10560] : Fin 1 → IVec S16 32) a x).toNat < S4096.size a := fun v10560 k0_hw2007 => k0_hw2007

def k0_chk2008 (v10565 : IVec S16 32) : Prop :=
  (∀ a x, ((![v10565] : Fin 1 → IVec S16 32) a x).toNat < S4096.size a)
theorem k0_idx2008_inb : ∀ (v10565 : IVec S16 32) (k0_hw2008 : k0_chk2008 v10565), ∀ a x, ((![v10565] : Fin 1 → IVec S16 32) a x).toNat < S4096.size a := fun v10565 k0_hw2008 => k0_hw2008

def k0_chk2009 (v10570 : IVec S16 32) : Prop :=
  (∀ a x, ((![v10570] : Fin 1 → IVec S16 32) a x).toNat < S4096.size a)
theorem k0_idx2009_inb : ∀ (v10570 : IVec S16 32) (k0_hw2009 : k0_chk2009 v10570), ∀ a x, ((![v10570] : Fin 1 → IVec S16 32) a x).toNat < S4096.size a := fun v10570 k0_hw2009 => k0_hw2009

def k0_chk2010 (v10575 : IVec S16 32) : Prop :=
  (∀ a x, ((![v10575] : Fin 1 → IVec S16 32) a x).toNat < S4096.size a)
theorem k0_idx2010_inb : ∀ (v10575 : IVec S16 32) (k0_hw2010 : k0_chk2010 v10575), ∀ a x, ((![v10575] : Fin 1 → IVec S16 32) a x).toNat < S4096.size a := fun v10575 k0_hw2010 => k0_hw2010

def k0_chk2011 (v10580 : IVec S16 32) : Prop :=
  (∀ a x, ((![v10580] : Fin 1 → IVec S16 32) a x).toNat < S4096.size a)
theorem k0_idx2011_inb : ∀ (v10580 : IVec S16 32) (k0_hw2011 : k0_chk2011 v10580), ∀ a x, ((![v10580] : Fin 1 → IVec S16 32) a x).toNat < S4096.size a := fun v10580 k0_hw2011 => k0_hw2011

def k0_chk2012 (v10585 : IVec S16 32) : Prop :=
  (∀ a x, ((![v10585] : Fin 1 → IVec S16 32) a x).toNat < S4096.size a)
theorem k0_idx2012_inb : ∀ (v10585 : IVec S16 32) (k0_hw2012 : k0_chk2012 v10585), ∀ a x, ((![v10585] : Fin 1 → IVec S16 32) a x).toNat < S4096.size a := fun v10585 k0_hw2012 => k0_hw2012

def k0_chk2013 (v10590 : IVec S16 32) : Prop :=
  (∀ a x, ((![v10590] : Fin 1 → IVec S16 32) a x).toNat < S4096.size a)
theorem k0_idx2013_inb : ∀ (v10590 : IVec S16 32) (k0_hw2013 : k0_chk2013 v10590), ∀ a x, ((![v10590] : Fin 1 → IVec S16 32) a x).toNat < S4096.size a := fun v10590 k0_hw2013 => k0_hw2013

def k0_chk2014 (v10592 : IVec S16 32) : Prop :=
  (∀ a x, ((![v10592] : Fin 1 → IVec S16 32) a x).toNat < S4096.size a)
theorem k0_idx2014_inb : ∀ (v10592 : IVec S16 32) (k0_hw2014 : k0_chk2014 v10592), ∀ a x, ((![v10592] : Fin 1 → IVec S16 32) a x).toNat < S4096.size a := fun v10592 k0_hw2014 => k0_hw2014

def k0_chk2015 (v10594 : IVec S16 32) : Prop :=
  (∀ a x, ((![v10594] : Fin 1 → IVec S16 32) a x).toNat < S4096.size a)
theorem k0_idx2015_inb : ∀ (v10594 : IVec S16 32) (k0_hw2015 : k0_chk2015 v10594), ∀ a x, ((![v10594] : Fin 1 → IVec S16 32) a x).toNat < S4096.size a := fun v10594 k0_hw2015 => k0_hw2015

def k0_chk2016 (v10596 : IVec S16 32) : Prop :=
  (∀ a x, ((![v10596] : Fin 1 → IVec S16 32) a x).toNat < S4096.size a)
theorem k0_idx2016_inb : ∀ (v10596 : IVec S16 32) (k0_hw2016 : k0_chk2016 v10596), ∀ a x, ((![v10596] : Fin 1 → IVec S16 32) a x).toNat < S4096.size a := fun v10596 k0_hw2016 => k0_hw2016
def k0_off70 (k0_t1 : Fin k0_t1_loop.trips) : Fin 1 → Nat :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_4132 : BitVec 32 := 1#32
  let v5574 : BitVec 32 := Scalar.addi v337 c1_i32_4132
  let c512_i32_8132 : BitVec 32 := 512#32
  let v10597 : BitVec 32 := Scalar.muli v5574 c512_i32_8132
  let c496_i32_8133 : BitVec 32 := 496#32
  let v10598 : BitVec 32 := Scalar.addi v10597 c496_i32_8133
  let v10599 : Index := Scalar.indexCast v10598
  ![v10599.toNat]

def k0_chk2017 (v10600 : IVec S16 32) : Prop :=
  (∀ a x, ((![v10600] : Fin 1 → IVec S16 32) a x).toNat < S4096.size a)
theorem k0_idx2017_inb : ∀ (v10600 : IVec S16 32) (k0_hw2017 : k0_chk2017 v10600), ∀ a x, ((![v10600] : Fin 1 → IVec S16 32) a x).toNat < S4096.size a := fun v10600 k0_hw2017 => k0_hw2017

def k0_chk2018 (v10617 : IVec S16 32) : Prop :=
  (∀ a x, ((![v10617] : Fin 1 → IVec S16 32) a x).toNat < S4096.size a)
theorem k0_idx2018_inb : ∀ (v10617 : IVec S16 32) (k0_hw2018 : k0_chk2018 v10617), ∀ a x, ((![v10617] : Fin 1 → IVec S16 32) a x).toNat < S4096.size a := fun v10617 k0_hw2018 => k0_hw2018

def k0_chk2019 (v10622 : IVec S16 32) : Prop :=
  (∀ a x, ((![v10622] : Fin 1 → IVec S16 32) a x).toNat < S4096.size a)
theorem k0_idx2019_inb : ∀ (v10622 : IVec S16 32) (k0_hw2019 : k0_chk2019 v10622), ∀ a x, ((![v10622] : Fin 1 → IVec S16 32) a x).toNat < S4096.size a := fun v10622 k0_hw2019 => k0_hw2019

def k0_chk2020 (v10627 : IVec S16 32) : Prop :=
  (∀ a x, ((![v10627] : Fin 1 → IVec S16 32) a x).toNat < S4096.size a)
theorem k0_idx2020_inb : ∀ (v10627 : IVec S16 32) (k0_hw2020 : k0_chk2020 v10627), ∀ a x, ((![v10627] : Fin 1 → IVec S16 32) a x).toNat < S4096.size a := fun v10627 k0_hw2020 => k0_hw2020

def k0_chk2021 (v10632 : IVec S16 32) : Prop :=
  (∀ a x, ((![v10632] : Fin 1 → IVec S16 32) a x).toNat < S4096.size a)
theorem k0_idx2021_inb : ∀ (v10632 : IVec S16 32) (k0_hw2021 : k0_chk2021 v10632), ∀ a x, ((![v10632] : Fin 1 → IVec S16 32) a x).toNat < S4096.size a := fun v10632 k0_hw2021 => k0_hw2021

def k0_chk2022 (v10637 : IVec S16 32) : Prop :=
  (∀ a x, ((![v10637] : Fin 1 → IVec S16 32) a x).toNat < S4096.size a)
theorem k0_idx2022_inb : ∀ (v10637 : IVec S16 32) (k0_hw2022 : k0_chk2022 v10637), ∀ a x, ((![v10637] : Fin 1 → IVec S16 32) a x).toNat < S4096.size a := fun v10637 k0_hw2022 => k0_hw2022

def k0_chk2023 (v10642 : IVec S16 32) : Prop :=
  (∀ a x, ((![v10642] : Fin 1 → IVec S16 32) a x).toNat < S4096.size a)
theorem k0_idx2023_inb : ∀ (v10642 : IVec S16 32) (k0_hw2023 : k0_chk2023 v10642), ∀ a x, ((![v10642] : Fin 1 → IVec S16 32) a x).toNat < S4096.size a := fun v10642 k0_hw2023 => k0_hw2023

def k0_chk2024 (v10647 : IVec S16 32) : Prop :=
  (∀ a x, ((![v10647] : Fin 1 → IVec S16 32) a x).toNat < S4096.size a)
theorem k0_idx2024_inb : ∀ (v10647 : IVec S16 32) (k0_hw2024 : k0_chk2024 v10647), ∀ a x, ((![v10647] : Fin 1 → IVec S16 32) a x).toNat < S4096.size a := fun v10647 k0_hw2024 => k0_hw2024

def k0_chk2025 (v10652 : IVec S16 32) : Prop :=
  (∀ a x, ((![v10652] : Fin 1 → IVec S16 32) a x).toNat < S4096.size a)
theorem k0_idx2025_inb : ∀ (v10652 : IVec S16 32) (k0_hw2025 : k0_chk2025 v10652), ∀ a x, ((![v10652] : Fin 1 → IVec S16 32) a x).toNat < S4096.size a := fun v10652 k0_hw2025 => k0_hw2025

def k0_chk2026 (v10657 : IVec S16 32) : Prop :=
  (∀ a x, ((![v10657] : Fin 1 → IVec S16 32) a x).toNat < S4096.size a)
theorem k0_idx2026_inb : ∀ (v10657 : IVec S16 32) (k0_hw2026 : k0_chk2026 v10657), ∀ a x, ((![v10657] : Fin 1 → IVec S16 32) a x).toNat < S4096.size a := fun v10657 k0_hw2026 => k0_hw2026

def k0_chk2027 (v10662 : IVec S16 32) : Prop :=
  (∀ a x, ((![v10662] : Fin 1 → IVec S16 32) a x).toNat < S4096.size a)
theorem k0_idx2027_inb : ∀ (v10662 : IVec S16 32) (k0_hw2027 : k0_chk2027 v10662), ∀ a x, ((![v10662] : Fin 1 → IVec S16 32) a x).toNat < S4096.size a := fun v10662 k0_hw2027 => k0_hw2027

def k0_chk2028 (v10667 : IVec S16 32) : Prop :=
  (∀ a x, ((![v10667] : Fin 1 → IVec S16 32) a x).toNat < S4096.size a)
theorem k0_idx2028_inb : ∀ (v10667 : IVec S16 32) (k0_hw2028 : k0_chk2028 v10667), ∀ a x, ((![v10667] : Fin 1 → IVec S16 32) a x).toNat < S4096.size a := fun v10667 k0_hw2028 => k0_hw2028

def k0_chk2029 (v10672 : IVec S16 32) : Prop :=
  (∀ a x, ((![v10672] : Fin 1 → IVec S16 32) a x).toNat < S4096.size a)
theorem k0_idx2029_inb : ∀ (v10672 : IVec S16 32) (k0_hw2029 : k0_chk2029 v10672), ∀ a x, ((![v10672] : Fin 1 → IVec S16 32) a x).toNat < S4096.size a := fun v10672 k0_hw2029 => k0_hw2029

def k0_chk2030 (v10677 : IVec S16 32) : Prop :=
  (∀ a x, ((![v10677] : Fin 1 → IVec S16 32) a x).toNat < S4096.size a)
theorem k0_idx2030_inb : ∀ (v10677 : IVec S16 32) (k0_hw2030 : k0_chk2030 v10677), ∀ a x, ((![v10677] : Fin 1 → IVec S16 32) a x).toNat < S4096.size a := fun v10677 k0_hw2030 => k0_hw2030

def k0_chk2031 (v10682 : IVec S16 32) : Prop :=
  (∀ a x, ((![v10682] : Fin 1 → IVec S16 32) a x).toNat < S4096.size a)
theorem k0_idx2031_inb : ∀ (v10682 : IVec S16 32) (k0_hw2031 : k0_chk2031 v10682), ∀ a x, ((![v10682] : Fin 1 → IVec S16 32) a x).toNat < S4096.size a := fun v10682 k0_hw2031 => k0_hw2031

def k0_chk2032 (v10687 : IVec S16 32) : Prop :=
  (∀ a x, ((![v10687] : Fin 1 → IVec S16 32) a x).toNat < S4096.size a)
theorem k0_idx2032_inb : ∀ (v10687 : IVec S16 32) (k0_hw2032 : k0_chk2032 v10687), ∀ a x, ((![v10687] : Fin 1 → IVec S16 32) a x).toNat < S4096.size a := fun v10687 k0_hw2032 => k0_hw2032

def k0_chk2033 (v10692 : IVec S16 32) : Prop :=
  (∀ a x, ((![v10692] : Fin 1 → IVec S16 32) a x).toNat < S4096.size a)
theorem k0_idx2033_inb : ∀ (v10692 : IVec S16 32) (k0_hw2033 : k0_chk2033 v10692), ∀ a x, ((![v10692] : Fin 1 → IVec S16 32) a x).toNat < S4096.size a := fun v10692 k0_hw2033 => k0_hw2033

def k0_chk2034 (v10697 : IVec S16 32) : Prop :=
  (∀ a x, ((![v10697] : Fin 1 → IVec S16 32) a x).toNat < S4096.size a)
theorem k0_idx2034_inb : ∀ (v10697 : IVec S16 32) (k0_hw2034 : k0_chk2034 v10697), ∀ a x, ((![v10697] : Fin 1 → IVec S16 32) a x).toNat < S4096.size a := fun v10697 k0_hw2034 => k0_hw2034

def k0_chk2035 (v10702 : IVec S16 32) : Prop :=
  (∀ a x, ((![v10702] : Fin 1 → IVec S16 32) a x).toNat < S4096.size a)
theorem k0_idx2035_inb : ∀ (v10702 : IVec S16 32) (k0_hw2035 : k0_chk2035 v10702), ∀ a x, ((![v10702] : Fin 1 → IVec S16 32) a x).toNat < S4096.size a := fun v10702 k0_hw2035 => k0_hw2035

def k0_chk2036 (v10707 : IVec S16 32) : Prop :=
  (∀ a x, ((![v10707] : Fin 1 → IVec S16 32) a x).toNat < S4096.size a)
theorem k0_idx2036_inb : ∀ (v10707 : IVec S16 32) (k0_hw2036 : k0_chk2036 v10707), ∀ a x, ((![v10707] : Fin 1 → IVec S16 32) a x).toNat < S4096.size a := fun v10707 k0_hw2036 => k0_hw2036

def k0_chk2037 (v10712 : IVec S16 32) : Prop :=
  (∀ a x, ((![v10712] : Fin 1 → IVec S16 32) a x).toNat < S4096.size a)
theorem k0_idx2037_inb : ∀ (v10712 : IVec S16 32) (k0_hw2037 : k0_chk2037 v10712), ∀ a x, ((![v10712] : Fin 1 → IVec S16 32) a x).toNat < S4096.size a := fun v10712 k0_hw2037 => k0_hw2037

def k0_chk2038 (v10717 : IVec S16 32) : Prop :=
  (∀ a x, ((![v10717] : Fin 1 → IVec S16 32) a x).toNat < S4096.size a)
theorem k0_idx2038_inb : ∀ (v10717 : IVec S16 32) (k0_hw2038 : k0_chk2038 v10717), ∀ a x, ((![v10717] : Fin 1 → IVec S16 32) a x).toNat < S4096.size a := fun v10717 k0_hw2038 => k0_hw2038

def k0_chk2039 (v10722 : IVec S16 32) : Prop :=
  (∀ a x, ((![v10722] : Fin 1 → IVec S16 32) a x).toNat < S4096.size a)
theorem k0_idx2039_inb : ∀ (v10722 : IVec S16 32) (k0_hw2039 : k0_chk2039 v10722), ∀ a x, ((![v10722] : Fin 1 → IVec S16 32) a x).toNat < S4096.size a := fun v10722 k0_hw2039 => k0_hw2039

def k0_chk2040 (v10727 : IVec S16 32) : Prop :=
  (∀ a x, ((![v10727] : Fin 1 → IVec S16 32) a x).toNat < S4096.size a)
theorem k0_idx2040_inb : ∀ (v10727 : IVec S16 32) (k0_hw2040 : k0_chk2040 v10727), ∀ a x, ((![v10727] : Fin 1 → IVec S16 32) a x).toNat < S4096.size a := fun v10727 k0_hw2040 => k0_hw2040

def k0_chk2041 (v10732 : IVec S16 32) : Prop :=
  (∀ a x, ((![v10732] : Fin 1 → IVec S16 32) a x).toNat < S4096.size a)
theorem k0_idx2041_inb : ∀ (v10732 : IVec S16 32) (k0_hw2041 : k0_chk2041 v10732), ∀ a x, ((![v10732] : Fin 1 → IVec S16 32) a x).toNat < S4096.size a := fun v10732 k0_hw2041 => k0_hw2041

def k0_chk2042 (v10737 : IVec S16 32) : Prop :=
  (∀ a x, ((![v10737] : Fin 1 → IVec S16 32) a x).toNat < S4096.size a)
theorem k0_idx2042_inb : ∀ (v10737 : IVec S16 32) (k0_hw2042 : k0_chk2042 v10737), ∀ a x, ((![v10737] : Fin 1 → IVec S16 32) a x).toNat < S4096.size a := fun v10737 k0_hw2042 => k0_hw2042

def k0_chk2043 (v10742 : IVec S16 32) : Prop :=
  (∀ a x, ((![v10742] : Fin 1 → IVec S16 32) a x).toNat < S4096.size a)
theorem k0_idx2043_inb : ∀ (v10742 : IVec S16 32) (k0_hw2043 : k0_chk2043 v10742), ∀ a x, ((![v10742] : Fin 1 → IVec S16 32) a x).toNat < S4096.size a := fun v10742 k0_hw2043 => k0_hw2043

def k0_chk2044 (v10747 : IVec S16 32) : Prop :=
  (∀ a x, ((![v10747] : Fin 1 → IVec S16 32) a x).toNat < S4096.size a)
theorem k0_idx2044_inb : ∀ (v10747 : IVec S16 32) (k0_hw2044 : k0_chk2044 v10747), ∀ a x, ((![v10747] : Fin 1 → IVec S16 32) a x).toNat < S4096.size a := fun v10747 k0_hw2044 => k0_hw2044

def k0_chk2045 (v10752 : IVec S16 32) : Prop :=
  (∀ a x, ((![v10752] : Fin 1 → IVec S16 32) a x).toNat < S4096.size a)
theorem k0_idx2045_inb : ∀ (v10752 : IVec S16 32) (k0_hw2045 : k0_chk2045 v10752), ∀ a x, ((![v10752] : Fin 1 → IVec S16 32) a x).toNat < S4096.size a := fun v10752 k0_hw2045 => k0_hw2045

def k0_chk2046 (v10754 : IVec S16 32) : Prop :=
  (∀ a x, ((![v10754] : Fin 1 → IVec S16 32) a x).toNat < S4096.size a)
theorem k0_idx2046_inb : ∀ (v10754 : IVec S16 32) (k0_hw2046 : k0_chk2046 v10754), ∀ a x, ((![v10754] : Fin 1 → IVec S16 32) a x).toNat < S4096.size a := fun v10754 k0_hw2046 => k0_hw2046

def k0_chk2047 (v10756 : IVec S16 32) : Prop :=
  (∀ a x, ((![v10756] : Fin 1 → IVec S16 32) a x).toNat < S4096.size a)
theorem k0_idx2047_inb : ∀ (v10756 : IVec S16 32) (k0_hw2047 : k0_chk2047 v10756), ∀ a x, ((![v10756] : Fin 1 → IVec S16 32) a x).toNat < S4096.size a := fun v10756 k0_hw2047 => k0_hw2047

def k0_chk2048 (v10758 : IVec S16 32) : Prop :=
  (∀ a x, ((![v10758] : Fin 1 → IVec S16 32) a x).toNat < S4096.size a)
theorem k0_idx2048_inb : ∀ (v10758 : IVec S16 32) (k0_hw2048 : k0_chk2048 v10758), ∀ a x, ((![v10758] : Fin 1 → IVec S16 32) a x).toNat < S4096.size a := fun v10758 k0_hw2048 => k0_hw2048
def k0_cond2 (k0_t1 : Fin k0_t1_loop.trips) : BitVec 1 :=
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_8261 : BitVec 32 := 1#32
  let v10759 : BitVec 32 := Scalar.addi v337 c1_i32_8261
  let c2_i32_8262 : BitVec 32 := 2#32
  let v10760 : BitVec 32 := Scalar.addi v10759 c2_i32_8262
  let c20_i32_8263 : BitVec 32 := 20#32
  let v10761 : BitVec 1 := Scalar.cmpi .slt v10760 c20_i32_8263
  let v10762 : BitVec 32 := Scalar.extui v10761
  let c0_i32_8264 : BitVec 32 := 0#32
  let v10763 : BitVec 1 := Scalar.cmpi .ne v10762 c0_i32_8264
  v10763

def k0_off71 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_8267 : BitVec 32 := 1#32
  let v10766 : BitVec 32 := Scalar.muli v1 c1_i32_8267
  let c0_i32_0 : BitVec 32 := 0#32
  let v10767 : BitVec 32 := Scalar.addi v10766 c0_i32_0
  let c8_i32_8268 : BitVec 32 := 8#32
  let c0_i32_8269 : BitVec 32 := 0#32
  let v10768 : BitVec 1 := Scalar.cmpi .eq c8_i32_8268 c0_i32_8269
  let c1_i32_8270 : BitVec 32 := 1#32
  let v10769 : BitVec 32 := Scalar.select v10768 c1_i32_8270 c8_i32_8268
  let v10770 : BitVec 32 := Scalar.remsi v10767 v10769
  let c0_i32_8272 : BitVec 32 := 0#32
  let v10772 : BitVec 1 := Scalar.cmpi .slt v10770 c0_i32_8272
  let c0_i32_8273 : BitVec 32 := 0#32
  let v10773 : BitVec 1 := Scalar.cmpi .slt v10769 c0_i32_8273
  let v10774 : BitVec 1 := Scalar.xori v10772 v10773
  let c0_i32_8271 : BitVec 32 := 0#32
  let v10771 : BitVec 1 := Scalar.cmpi .ne v10770 c0_i32_8271
  let v10775 : BitVec 1 := Scalar.andi v10774 v10771
  let v10776 : BitVec 32 := Scalar.addi v10770 v10769
  let v10777 : BitVec 32 := Scalar.select v10775 v10776 v10770
  let c32_i32_8274 : BitVec 32 := 32#32
  let v10778 : BitVec 32 := Scalar.muli v10777 c32_i32_8274
  let c0_i32_39 : BitVec 32 := 0#32
  let c1_i32_40 : BitVec 32 := 1#32
  let arg10 : BitVec 32 := Scf.iv c0_i32_39 c1_i32_40 k0_t1
  let c2_i32_49 : BitVec 32 := 2#32
  let v337 : BitVec 32 := Scalar.muli arg10 c2_i32_49
  let c1_i32_8265 : BitVec 32 := 1#32
  let v10764 : BitVec 32 := Scalar.addi v337 c1_i32_8265
  let c2_i32_8266 : BitVec 32 := 2#32
  let v10765 : BitVec 32 := Scalar.addi v10764 c2_i32_8266
  let c512_i32_8275 : BitVec 32 := 512#32
  let v10779 : BitVec 32 := Scalar.muli v10765 c512_i32_8275
  ![v10778.toNat, v10779.toNat]
def k0_off72 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.muli v1 c1_i32
  let c0_i32_0 : BitVec 32 := 0#32
  let v3 : BitVec 32 := Scalar.addi v2 c0_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c8_i32 : BitVec 32 := 8#32
  let c0_i32_3 : BitVec 32 := 0#32
  let v10 : BitVec 1 := Scalar.cmpi .sgt c8_i32 c0_i32_3
  let v11 : BitVec 32 := Scalar.extui v10
  let c0_i32_4 : BitVec 32 := 0#32
  let v12 : BitVec 1 := Scalar.cmpi .slt c8_i32 c0_i32_4
  let v13 : BitVec 32 := Scalar.extui v12
  let v14 : BitVec 32 := Scalar.subi v11 v13
  let v15 : BitVec 1 := Scalar.cmpi .ne v9 v14
  let v16 : BitVec 32 := Scalar.remsi v3 c8_i32
  let c0_i32_5 : BitVec 32 := 0#32
  let v17 : BitVec 1 := Scalar.cmpi .ne v16 c0_i32_5
  let v18 : BitVec 1 := Scalar.andi v15 v17
  let v4 : BitVec 32 := Scalar.divsi v3 c8_i32
  let c1_i32_6 : BitVec 32 := 1#32
  let v19 : BitVec 32 := Scalar.subi v4 c1_i32_6
  let v20 : BitVec 32 := Scalar.select v18 v19 v4
  let c8_i32_42 : BitVec 32 := 8#32
  let c0_i32_43 : BitVec 32 := 0#32
  let v327 : BitVec 1 := Scalar.cmpi .eq c8_i32_42 c0_i32_43
  let c1_i32_44 : BitVec 32 := 1#32
  let v328 : BitVec 32 := Scalar.select v327 c1_i32_44 c8_i32_42
  let v329 : BitVec 32 := Scalar.remsi v3 v328
  let c0_i32_46 : BitVec 32 := 0#32
  let v331 : BitVec 1 := Scalar.cmpi .slt v329 c0_i32_46
  let c0_i32_47 : BitVec 32 := 0#32
  let v332 : BitVec 1 := Scalar.cmpi .slt v328 c0_i32_47
  let v333 : BitVec 1 := Scalar.xori v331 v332
  let c0_i32_45 : BitVec 32 := 0#32
  let v330 : BitVec 1 := Scalar.cmpi .ne v329 c0_i32_45
  let v334 : BitVec 1 := Scalar.andi v333 v330
  let v335 : BitVec 32 := Scalar.addi v329 v328
  let v336 : BitVec 32 := Scalar.select v334 v335 v329
  let c0_i32_49_r0 : BitVec 32 := 0#32
  ![v20.toNat, v336.toNat, 0]
abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x10000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x100x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x128x100x100 : Shape := ⟨4, ![2, 128, 100, 100]⟩
abbrev S100 : Shape := ⟨1, ![100]⟩
abbrev S_ : Shape := ⟨0, ![]⟩
abbrev S1x1x100 : Shape := ⟨3, ![1, 1, 100]⟩
abbrev S100x1x1 : Shape := ⟨3, ![100, 1, 1]⟩
abbrev S100x1x100 : Shape := ⟨3, ![100, 1, 100]⟩
abbrev S1x100x1 : Shape := ⟨3, ![1, 100, 1]⟩
abbrev S100x100x1 : Shape := ⟨3, ![100, 100, 1]⟩
abbrev S100x100x100 : Shape := ⟨3, ![100, 100, 100]⟩
abbrev S100x10000 : Shape := ⟨2, ![100, 10000]⟩
abbrev S2x128x10000 : Shape := ⟨3, ![2, 128, 10000]⟩
abbrev S100x1 : Shape := ⟨2, ![100, 1]⟩
abbrev S2x128x1x10000 : Shape := ⟨4, ![2, 128, 1, 10000]⟩
abbrev S2x128x100x10000 : Shape := ⟨4, ![2, 128, 100, 10000]⟩
abbrev S100x10000x1 : Shape := ⟨3, ![100, 10000, 1]⟩
abbrev S100x10000x2 : Shape := ⟨3, ![100, 10000, 2]⟩

abbrev nBuf : Space → Nat
  | .hbm => 74
  | .vmem => 0
  | .smem => 0
  | _ => 0

abbrev bufTy : (tb : Table) → Fin (tcTables nBuf tb) → BufTy
  | .hbm, ⟨0, _⟩ => ⟨S2x128x100x100, .f32⟩
  | .hbm, ⟨1, _⟩ => ⟨S100, .f32⟩
  | .hbm, ⟨2, _⟩ => ⟨S_, .f32⟩
  | .hbm, ⟨3, _⟩ => ⟨S100, .f32⟩
  | .hbm, ⟨4, _⟩ => ⟨S100, .f32⟩
  | .hbm, ⟨5, _⟩ => ⟨S100, .f32⟩
  | .hbm, ⟨6, _⟩ => ⟨S_, .f32⟩
  | .hbm, ⟨7, _⟩ => ⟨S100, .f32⟩
  | .hbm, ⟨8, _⟩ => ⟨S100, .f32⟩
  | .hbm, ⟨9, _⟩ => ⟨S100, .f32⟩
  | .hbm, ⟨10, _⟩ => ⟨S_, .f32⟩
  | .hbm, ⟨11, _⟩ => ⟨S100, .f32⟩
  | .hbm, ⟨12, _⟩ => ⟨S100, .f32⟩
  | .hbm, ⟨13, _⟩ => ⟨S100, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S100, .f32⟩
  | .hbm, ⟨18, _⟩ => ⟨S_, .f32⟩
  | .hbm, ⟨19, _⟩ => ⟨S100, .f32⟩
  | .hbm, ⟨20, _⟩ => ⟨S100, .f32⟩
  | .hbm, ⟨21, _⟩ => ⟨S1x1x100, .f32⟩
  | .hbm, ⟨22, _⟩ => ⟨S100x1x1, .f32⟩
  | .hbm, ⟨23, _⟩ => ⟨S100x1x100, .f32⟩
  | .hbm, ⟨24, _⟩ => ⟨S100x1x100, .f32⟩
  | .hbm, ⟨25, _⟩ => ⟨S100x1x100, .f32⟩
  | .hbm, ⟨26, _⟩ => ⟨S1x100x1, .f32⟩
  | .hbm, ⟨27, _⟩ => ⟨S100x1x1, .f32⟩
  | .hbm, ⟨28, _⟩ => ⟨S100x100x1, .f32⟩
  | .hbm, ⟨29, _⟩ => ⟨S100x100x1, .f32⟩
  | .hbm, ⟨30, _⟩ => ⟨S100x100x1, .f32⟩
  | .hbm, ⟨31, _⟩ => ⟨S100x100x100, .f32⟩
  | .hbm, ⟨32, _⟩ => ⟨S100x100x100, .f32⟩
  | .hbm, ⟨33, _⟩ => ⟨S100x100x100, .f32⟩
  | .hbm, ⟨34, _⟩ => ⟨S100x100x100, .f32⟩
  | .hbm, ⟨35, _⟩ => ⟨S100x100x100, .i32⟩
  | .hbm, ⟨36, _⟩ => ⟨S_, .i32⟩
  | .hbm, ⟨37, _⟩ => ⟨S100x100x100, .i32⟩
  | .hbm, ⟨38, _⟩ => ⟨S100x100x100, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S100x100x100, .i32⟩
  | .hbm, ⟨43, _⟩ => ⟨S100x100x100, .i32⟩
  | .hbm, ⟨44, _⟩ => ⟨S_, .i32⟩
  | .hbm, ⟨45, _⟩ => ⟨S100x100x100, .i32⟩
  | .hbm, ⟨46, _⟩ => ⟨S100x100x100, .i32⟩
  | .hbm, ⟨47, _⟩ => ⟨S100x10000, .i32⟩
  | .hbm, ⟨48, _⟩ => ⟨S2x128x10000, .f32⟩
  | .hbm, ⟨49, _⟩ => ⟨S100, .i32⟩
  | .hbm, ⟨50, _⟩ => ⟨S100x1, .i32⟩
  | .hbm, ⟨51, _⟩ => ⟨S_, .f32⟩
  | .hbm, ⟨52, _⟩ => ⟨S2x128x100x100, .f32⟩
  | .hbm, ⟨53, _⟩ => ⟨S2x128x1x10000, .f32⟩
  | .hbm, ⟨54, _⟩ => ⟨S2x128x100x10000, .f32⟩
  | .hbm, ⟨55, _⟩ => ⟨S_, .i32⟩
  | .hbm, ⟨56, _⟩ => ⟨S100x1, .i32⟩
  | .hbm, ⟨57, _⟩ => ⟨S100x1, .i1⟩
  | .hbm, ⟨58, _⟩ => ⟨S_, .i32⟩
  | .hbm, ⟨59, _⟩ => ⟨S100x1, .i32⟩
  | .hbm, ⟨60, _⟩ => ⟨S100x1, .i32⟩
  | .hbm, ⟨61, _⟩ => ⟨S100x1, .i32⟩
  | .hbm, ⟨62, _⟩ => ⟨S_, .i32⟩
  | .hbm, ⟨63, _⟩ => ⟨S100x10000, .i32⟩
  | .hbm, ⟨64, _⟩ => ⟨S100x10000, .i1⟩
  | .hbm, ⟨65, _⟩ => ⟨S_, .i32⟩
  | .hbm, ⟨66, _⟩ => ⟨S100x10000, .i32⟩
  | .hbm, ⟨67, _⟩ => ⟨S100x10000, .i32⟩
  | .hbm, ⟨68, _⟩ => ⟨S100x10000, .i32⟩
  | .hbm, ⟨69, _⟩ => ⟨S100x10000, .i32⟩
  | .hbm, ⟨70, _⟩ => ⟨S100x10000x1, .i32⟩
  | .hbm, ⟨71, _⟩ => ⟨S100x10000x1, .i32⟩
  | .hbm, ⟨72, _⟩ => ⟨S100x10000x2, .i32⟩
  | .hbm, ⟨73, _⟩ => ⟨S2x128x100x100, .f32⟩
  | _, _ => ⟨S2x128x100x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.Spec.lean ====
/- The Hough accumulation as plain mathematics, over the extended reals.
   `T a y x` is the bin the pixel at row `y`, column `x` falls into at angle `a`; `hough` adds up, for one image
   plane, the pixels of one bin of one angle, the pixels numbered row by row. -/
module

public import Idealize.ShloMosaic.Lib.ValueIdx
public import Mathlib.Tactic.FinCases

@[expose] public section

noncomputable section

namespace Cert.Spec

open Idealize.ShloMosaic Idealize.ShloMosaic.ValueIdx

/-- The angles' tables of bins: angle, row, column. -/
abbrev STab : Shape := ⟨3, ![100, 100, 100]⟩
/-- The input planes: batch, channel, row, column. -/
abbrev SFeat : Shape := ⟨4, ![2, 128, 100, 100]⟩

/-- Pixel `p`'s row. -/
def prow (p : Fin 10000) : Fin 100 := ⟨p.val / 100, by have := p.isLt; omega⟩
/-- Pixel `p`'s column. -/
def pcol (p : Fin 10000) : Fin 100 := ⟨p.val % 100, by omega⟩

/-- Pixel `p`'s bin at angle `a`. -/
def bin (T : IVec STab 32) (a : Fin 100) (p : Fin 10000) : BitVec 32 := T (ix3 a (prow p) (pcol p))
/-- Pixel `p` of channel `c` of image `n`. -/
def pix (x : SFeat.Idx → EReal) (n : Fin 2) (c : Fin 128) (p : Fin 10000) : EReal := x (ix4 n c (prow p) (pcol p))

/-- The sum of the pixels of plane `(n, c)` that fall into bin `ρ` at angle `a`. -/
def hough (T : IVec STab 32) (x : SFeat.Idx → EReal) (n : Fin 2) (c : Fin 128) (a : Fin 100) (ρ : Fin 100) : EReal :=
  ∑ p : Fin 10000, if (bin T a p).toNat = ρ.val then pix x n c p else 0

/-- A word clipped to `0 … 99` as a signed number is below 100 as a natural number. -/
theorem clip_lt (w : BitVec 32) : (IntOp.minsi 99#32 (IntOp.maxsi 0#32 w)).toNat < 100 := by
  unfold IntOp.minsi IntOp.maxsi
  split <;> split <;> simp_all [BitVec.slt]
  rename_i h1 h2
  rw [BitVec.toInt_eq_toNat_cond] at h1 h2
  split at h1 <;> omega

/-- A word below 100 as a natural number is the same signed. -/
theorem toInt_of_lt (w : BitVec 32) (h : w.toNat < 100) : w.toInt = (w.toNat : Int) := by
  rw [BitVec.toInt_eq_toNat_cond, if_pos (by omega)]

/-! ## The table both programs compute on the host -/

/-- A scalar read as a tensor of any shape. -/
abbrev splat (t : Shape) {α : Type} (h : (⟨0, ![]⟩ : Shape).BroadcastsInDim t ![]) (v : (⟨0, ![]⟩ : Shape).Idx → α) : t.Idx → α :=
  broadcastInDim t ![] h v

section

variable (F : FTy → Type) [FloatOps F]

/-- The positions `0 … 99` as floats. -/
abbrev ramp : FVec F ⟨1, ![100]⟩ .f32 := sitofp .f32 (iotaInDim ⟨1, ![100]⟩ 32 0)
/-- One word as a line of 100 floats. -/
abbrev line (w : BitVec 32) : FVec F ⟨1, ![100]⟩ .f32 := splat ⟨1, ![100]⟩ (by decide) (constant (F := F) ⟨0, ![]⟩ .f32 w)
/-- The angles in radians. -/
abbrev angles : FVec F ⟨1, ![100]⟩ .f32 := mulf (ramp F) (line F 0x3D00ADFD#32)
/-- Cosines over the bin width. -/
abbrev cosTab : FVec F ⟨1, ![100]⟩ .f32 := Host.divf (Host.cos (angles F)) (line F 0x3FB79891#32)
/-- Sines over the bin width. -/
abbrev sinTab : FVec F ⟨1, ![100]⟩ .f32 := Host.divf (Host.sin (angles F)) (line F 0x3FB79891#32)
/-- Pixel offsets from the middle, along either axis. -/
abbrev offs : FVec F ⟨1, ![100]⟩ .f32 := subf (ramp F) (line F 0x42480000#32)

/-- Column offset times cosine, by angle and column. -/
abbrev xCos : FVec F ⟨3, ![100, 1, 100]⟩ .f32 :=
  mulf (broadcastInDim ⟨3, ![100, 1, 100]⟩ ![0, 1, 2] (by decide) (broadcastInDim ⟨3, ![1, 1, 100]⟩ ![2] (by decide) (offs F)))
    (broadcastInDim ⟨3, ![100, 1, 100]⟩ ![0, 1, 2] (by decide) (broadcastInDim ⟨3, ![100, 1, 1]⟩ ![0] (by decide) (cosTab F)))
/-- Row offset times sine, by angle and row. -/
abbrev ySin : FVec F ⟨3, ![100, 100, 1]⟩ .f32 :=
  mulf (broadcastInDim ⟨3, ![100, 100, 1]⟩ ![0, 1, 2] (by decide) (broadcastInDim ⟨3, ![1, 100, 1]⟩ ![1] (by decide) (offs F)))
    (broadcastInDim ⟨3, ![100, 100, 1]⟩ ![0, 1, 2] (by decide) (broadcastInDim ⟨3, ![100, 1, 1]⟩ ![0] (by decide) (sinTab F)))
/-- The rounded distance plus 50, not yet clipped. -/
def rawTab : IVec STab 32 :=
  addi (fptosi 32 (Host.roundeven (addf (broadcastInDim STab ![0, 1, 2] (by decide) (xCos F))
      (broadcastInDim STab ![0, 1, 2] (by decide) (ySin F)) : FVec F STab .f32)))
    (splat STab (by decide) (constantI ⟨0, ![]⟩ 32 50#32))
/-- The table of bins: clipped to `0 … 99`. -/
def tab : IVec STab 32 :=
  minsi (splat STab (by decide) (constantI ⟨0, ![]⟩ 32 99#32)) (maxsi (splat STab (by decide) (constantI ⟨0, ![]⟩ 32 0#32)) (rawTab F))

/-- Every bin of the table is below 100. -/
theorem tab_lt (i : STab.Idx) : (tab F i).toNat < 100 := clip_lt (rawTab F i)

end

end Cert.Spec

end
-- ==== Proof.Ideal.Walk.lean ====
module

public import proofs.«01_k».proof.Proof.Gen.KernelIdeal
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

/-! ## One chunk's arithmetic -/

/-- Row pieces of the feature buffer: the sixteen elements from `off`. -/
def cell (f5 : S2x32x512.Idx → F .f32) (off : Fin 3 → ℕ) : S1x1x16.Idx → F .f32 :=
  fun x => f5 (fun a => ⟨(off a + (x a).val) % S2x32x512.size a, Nat.mod_lt _ (by fin_cases a <;> decide)⟩)

/-- The sixteen bins of lane group `g` of the chunk that starts at `o`. -/
def bins (f6 : S10240.Idx → BitVec 32) (o g : ℕ) : IVec S16 32 :=
  fun x => f6 (fun a => ⟨(o + 16 * g + (x 0).val) % S10240.size a, Nat.mod_lt _ (by fin_cases a; decide)⟩)

/-- What store `n` of a chunk adds: row `n % 32`, lane group `n / 32` of half `b`. -/
def val (f5 : S2x32x512.Idx → F .f32) (b n : ℕ) : Vec F S16 .f32 :=
  shapeCast S16 (cell f5 ![b, n % 32, 16 * (n / 32)]) Gen.shapeCasts_S1x1x16_S16

/-- Where it adds it. -/
def addr (f6 : S10240.Idx → BitVec 32) (o n : ℕ) : IVec S16 32 :=
  addi (bins f6 o (n / 32)) (broadcast S16 (BitVec.ofNat 32 (128 * (n % 32))))

/-- Every word of the bin table is below the row width. -/
def Small (f6 : S10240.Idx → BitVec 32) : Prop := ∀ j, (f6 j).toNat < 128

theorem chk_addi {f6 : S10240.Idx → BitVec 32} (h : Small f6) (o g : ℕ) (c : BitVec 32) (hc : c.toNat ≤ 3968) :
    ∀ a x, ((![addi (bins f6 o g) (broadcast S16 c)] : Fin 1 → IVec S16 32) a x).toNat < S4096.size a := by
  intro a x
  have ha : a = 0 := Subsingleton.elim _ _
  subst ha
  show (bins f6 o g x + c).toNat < 4096
  have := h (fun a => ⟨(o + 16 * g + (x 0).val) % S10240.size a, Nat.mod_lt _ (by fin_cases a; decide)⟩)
  have e : (bins f6 o g x).toNat < 128 := this
  rw [BitVec.toNat_add]
  omega

theorem bins_add_zero (f6 : S10240.Idx → BitVec 32) (o g : ℕ) : bins f6 o g = addi (bins f6 o g) (broadcast S16 0#32) := by
  funext x
  show bins f6 o g x = bins f6 o g x + 0#32
  simp

theorem addr_of_bins (f6 : S10240.Idx → BitVec 32) (o n g : ℕ) (hg : g = n / 32) (hn : n % 32 = 0) : bins f6 o g = addr f6 o n := by
  unfold addr; rw [hn, hg]; exact bins_add_zero _ _ _

theorem addr_of_addi (f6 : S10240.Idx → BitVec 32) (o n g : ℕ) (c : BitVec 32) (hg : g = n / 32) (hc : c = BitVec.ofNat 32 (128 * (n % 32))) :
    addi (bins f6 o g) (broadcast S16 c) = addr f6 o n := by
  subst hg hc; rfl

theorem chk_bins {f6 : S10240.Idx → BitVec 32} (h : Small f6) (o g : ℕ) :
    ∀ a x, ((![bins f6 o g] : Fin 1 → IVec S16 32) a x).toNat < S4096.size a := by
  rw [bins_add_zero]; exact chk_addi h o g _ (by decide)

theorem chk_addr {f6 : S10240.Idx → BitVec 32} (h : Small f6) (o n : ℕ) :
    ∀ a x, ((![addr f6 o n] : Fin 1 → IVec S16 32) a x).toNat < S4096.size a :=
  chk_addi h o _ _ (by rw [BitVec.toNat_ofNat]; omega)

/-- The accumulator after `n` stores of a chunk. -/
def acc (f5 : S2x32x512.Idx → F .f32) {f6 : S10240.Idx → BitVec 32} (h : Small f6) (b o : ℕ) (a₀ : S4096.Idx → F .f32) : ℕ → S4096.Idx → F .f32
  | 0 => a₀
  | n + 1 => storeIdx (e := .f32) (acc f5 h b o a₀ n) ![addr f6 o n] (val f5 b n) (fun _ => 1#1) true (chk_addr h o n)

/-! ## The state and the judgement -/

section Judge

variable (d : Dev nD) (L : grid0.Coords)

abbrev cV (L : grid0.Coords) : Fin τ.nSC := (L 0).castLE hcore0
abbrev jV (L : grid0.Coords) : Fin τ.nSub := (L 1).castLE hsub0

/-- One half of the feature buffer. -/
def half (b : ℕ) : Finset S2x32x512.Idx := Finset.univ.filter fun j => (j 0).val = b

/-- What a chunk's stores read and write, beside a rest they leave alone. -/
structure Env (F : FTy → Type) [FloatOps F] where
  f5 : S2x32x512.Idx → F .f32
  f6 : S10240.Idx → BitVec 32
  h6 : Small f6
  b : ℕ
  o : ℕ
  a₀ : S4096.Idx → F .f32
  R : sProp (MT nD τ sig (HIx 1) (Elt F) ℕ UU ℕ)

/-- The holdings after `n` stores. -/
def St (X : Env F) (n : ℕ) : sProp 𝕄 :=
  iprop(((V d (cV L) (jV L)).loc cc0_scratch0 ↦[half X.b]{fullShare} (X.f5 : Buf (Elt F) ((V d (cV L) (jV L)).loc cc0_scratch0)))
    ∗ ((V d (cV L) (jV L)).loc cc0_scratch1 ↦{fullShare} (X.f6 : Buf (Elt F) ((V d (cV L) (jV L)).loc cc0_scratch1)))
    ∗ ((V d (cV L) (jV L)).loc cc0_scratch2 ↦{fullShare} (acc X.f5 X.h6 X.b X.o X.a₀ n : Buf (Elt F) ((V d (cV L) (jV L)).loc cc0_scratch2)))
    ∗ X.R)

/-- From the holdings `H`, `p` runs to `Q`. -/
structure At (H : sProp (MT nD τ sig (HIx 1) (Elt F) ℕ UU ℕ)) {α : Type} (p : Prog (TpuEff nD τ sig (Elt F) Λ₀ (.scVector (cV L) (jV L))) α)
    (Q : α → sProp (MT nD τ sig (HIx 1) (Elt F) ℕ UU ℕ)) : Prop where
  run : H ⊢ wp frame (wpE (defs₀ (F := F)) 𝒱₀ (V d (cV L) (jV L)) none) Set.univ p Q

/-- Continue with `k`, to `Q`. -/
@[irreducible] def next {α β : Type} (k : α → Prog (TpuEff nD τ sig (Elt F) Λ₀ (.scVector (cV L) (jV L))) β)
    (Q : β → sProp (MT nD τ sig (HIx 1) (Elt F) ℕ UU ℕ)) : α → sProp (MT nD τ sig (HIx 1) (Elt F) ℕ UU ℕ) :=
  fun a => wp frame (wpE (defs₀ (F := F)) 𝒱₀ (V d (cV L) (jV L)) none) Set.univ (k a) Q

variable {d L} {X : Env F} {n : ℕ} {α β : Type} {H H' : sProp (MT nD τ sig (HIx 1) (Elt F) ℕ UU ℕ)}

theorem at_bind {p : Prog (TpuEff nD τ sig (Elt F) Λ₀ (.scVector (cV L) (jV L))) α}
    {k : α → Prog (TpuEff nD τ sig (Elt F) Λ₀ (.scVector (cV L) (jV L))) β} {Q : β → sProp 𝕄} (h : At d L H p (next d L k Q)) :
    At d L H (p >>= k) Q :=
  ⟨by rw [wp_bind]; have := h.run; unfold next at this; exact this⟩

theorem at_pure {a : α} {k : α → Prog (TpuEff nD τ sig (Elt F) Λ₀ (.scVector (cV L) (jV L))) β} {Q : β → sProp 𝕄} (h : At d L H (k a) Q) :
    At d L H (pure a) (next d L k Q) :=
  ⟨by
    have := h.run; unfold next
    exact this.trans (le_wp_ret _ _ _ a (fun a => wp frame (wpE (defs₀ (F := F)) 𝒱₀ (V d (cV L) (jV L)) none) Set.univ (k a) Q))⟩

/-- Running the lift of an operation into a continuation is running the operation before it. -/
theorem next_lift {e : TpuEff nD τ sig (Elt F) Λ₀ (.scVector (cV L) (jV L)) α} {k : α → Prog (TpuEff nD τ sig (Elt F) Λ₀ (.scVector (cV L) (jV L))) β}
    {Q : β → sProp 𝕄} (h : H ⊢ wp frame (wpE (defs₀ (F := F)) 𝒱₀ (V d (cV L) (jV L)) none) Set.univ (.op e k) Q) :
    At d L H (Prog.lift e) (next d L k Q) :=
  ⟨by
    unfold next
    refine h.trans ?_
    rw [← wp_bind]
    exact .rfl⟩

theorem at_assume {P : Prop} {dec : Decidable P} (hP : P) {k : PLift P → Prog (TpuEff nD τ sig (Elt F) Λ₀ (.scVector (cV L) (jV L))) β} {Q : β → sProp 𝕄}
    (h : At d L H (k ⟨hP⟩) Q) : At d L H (Prog.lift (TpuEff.assume P dec)) (next d L k Q) :=
  next_lift (h.run.trans (wp_assume 𝒱₀ (V d (cV L) (jV L)) none Set.univ hP))

theorem at_feat {off : Fin 3 → ℕ} {inb : ∀ a, off a + S1x1x16.size a ≤ S2x32x512.size a}
    {hl : (Memref.whole cc0_scratch0).view.LoadsAt (Rect.unit (s := S2x32x512) off S1x1x16.size inb).toLoadRect}
    (hb : off 0 = X.b) {k : Vec F S1x1x16 .f32 → Prog (TpuEff nD τ sig (Elt F) Λ₀ (.scVector (cV L) (jV L))) β} {Q : β → sProp 𝕄}
    (h : At d L (St d L X n) (k (cell X.f5 ![X.b, off 1, off 2])) Q) :
    At d L (St d L X n) (Prog.lift (.load (Memref.whole cc0_scratch0) (Rect.unit (s := S2x32x512) off S1x1x16.size inb).toLoadRect hl)) (next d L k Q) :=
  next_lift (by
    have h' := h.run
    unfold St at h' ⊢
    iintro ⟨H5, H⟩
    iapply (wp_load_rect (defs := defs₀ (F := F)) 𝒱₀ (V d (cV L) (jV L)) none Set.univ (m := Memref.whole cc0_scratch0)
      (r := Rect.unit (s := S2x32x512) off S1x1x16.size inb) (S := half X.b) (f := X.f5) ?_) $$ H5
    · intro j hj
      have hj' : j ∈ ((View.whole (cc0_scratch0 : Ref sig .scVector)).slice (Rect.unit (s := S2x32x512) off S1x1x16.size inb)).set := hj
      rw [View.set_slice_whole (b := cc0_scratch0), Rect.mem_set_unit] at hj'
      have h0 := hj' 0
      refine Finset.mem_filter.mpr ⟨Finset.mem_univ _, ?_⟩
      have e1 : S1x1x16.size 0 = 1 := rfl
      rw [e1] at h0
      omega
    iintro H5
    rw [show ((Memref.whole cc0_scratch0).access (Rect.unit (s := S2x32x512) off S1x1x16.size inb)).read (Elt F) X.f5 = cell X.f5 ![X.b, off 1, off 2] from ?_]
    · iapply h' $$ [H5 H]
      isplitl [H5]; · iexact H5
      iexact H
    · funext x
      show X.f5 _ = X.f5 _
      congr 1
      funext a
      apply Fin.ext
      have hx : (x a).val < S1x1x16.size a := (x a).isLt
      have hi := inb a
      have e : (![X.b, off 1, off 2] : Fin 3 → ℕ) a = off a := by
        match a with
        | 0 => exact hb.symm
        | 1 => rfl
        | 2 => rfl
      show off a + 1 * (x a).val = ((![X.b, off 1, off 2] : Fin 3 → ℕ) a + (x a).val) % S2x32x512.size a
      rw [e, Nat.mod_eq_of_lt (by omega)]; omega)

theorem at_bins {off : Fin 1 → ℕ} {inb : ∀ a, off a + S16.size a ≤ S10240.size a}
    {hl : (Memref.whole cc0_scratch1).view.LoadsAt (Rect.unit (s := S10240) off S16.size inb).toLoadRect}
    [hc : ClosedOff off] (hb : hc.form 0 = X.o + 16 * (n / 32)) {k : Vec F S16 .i32 → Prog (TpuEff nD τ sig (Elt F) Λ₀ (.scVector (cV L) (jV L))) β} {Q : β → sProp 𝕄}
    (h : At d L (St d L X n) (k (bins X.f6 X.o (n / 32))) Q) :
    At d L (St d L X n) (Prog.lift (.load (Memref.whole cc0_scratch1) (Rect.unit (s := S10240) off S16.size inb).toLoadRect hl)) (next d L k Q) :=
  next_lift (by
    have h' := h.run
    unfold St at h' ⊢
    iintro ⟨H5, H6, H⟩
    iapply (wp_load_rect (defs := defs₀ (F := F)) 𝒱₀ (V d (cV L) (jV L)) none Set.univ (m := Memref.whole cc0_scratch1)
      (r := Rect.unit (s := S10240) off S16.size inb) (S := Finset.univ) (f := X.f6) (Finset.subset_univ _)) $$ H6
    iintro H6
    rw [show ((Memref.whole cc0_scratch1).access (Rect.unit (s := S10240) off S16.size inb)).read (Elt F) X.f6 = bins X.f6 X.o (n / 32) from ?_]
    · iapply h' $$ [H5 H6 H]
      isplitl [H5]; · iexact H5
      isplitl [H6]; · iexact H6
      iexact H
    · funext x
      show X.f6 _ = X.f6 _
      congr 1
      funext a
      apply Fin.ext
      have ha : a = (0 : Fin 1) := Subsingleton.elim (α := Fin 1) a 0
      subst ha
      have hx : (x 0).val < S16.size 0 := (x 0).isLt
      have hi := inb 0
      have e : off 0 = X.o + 16 * (n / 32) := by rw [← hb, ← hc.eq]
      show off 0 + 1 * (x 0).val = (X.o + 16 * (n / 32) + (x 0).val) % S10240.size 0
      rw [← e, Nat.mod_eq_of_lt (by omega)]; omega)

theorem acc_succ (f5 : S2x32x512.Idx → F .f32) {f6 : S10240.Idx → BitVec 32} (h : Small f6) (b o : ℕ) (a₀ : S4096.Idx → F .f32) (n : ℕ) :
    acc f5 h b o a₀ (n + 1) = storeIdx (e := .f32) (acc f5 h b o a₀ n) ![addr f6 o n] (val f5 b n) (fun _ => 1#1) true (chk_addr h o n) := rfl

/-- An indexed store into the whole accumulator. -/
theorem wp_scatter {idx : IVec S16 32} {v : Vec F S16 .f32} {f : S4096.Idx → F .f32}
    {h : ∀ a x, ((![idx] : Fin 1 → IVec S16 32) a x).toNat < S4096.size a}
    {hs : ((Memref.whole cc0_scratch2).access (.whole S4096)).Stores Finset.univ}
    {k : PUnit → Prog (TpuEff nD τ sig (Elt F) Λ₀ (.scVector (cV L) (jV L))) β} {Q : β → sProp 𝕄} :
    ((V d (cV L) (jV L)).loc cc0_scratch2 ↦{fullShare} (f : Buf (Elt F) ((V d (cV L) (jV L)).loc cc0_scratch2)))
      ⊢ iprop((((V d (cV L) (jV L)).loc cc0_scratch2 ↦{fullShare}
            (storeIdx (e := .f32) f ![idx] v (fun _ => 1#1) true h : Buf (Elt F) ((V d (cV L) (jV L)).loc cc0_scratch2)))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (F := F) (Memref.whole cc0_scratch2) ![idx] v (fun _ => 1#1) true h hs >>= k) Q) := by
  have w := SparseCore.wp_vectorStoreIdx (defs := defs₀ (F := F)) 𝒱₀ (V d (cV L) (jV L)) none Set.univ (s := S4096) (e := .f32) (base := Memref.whole cc0_scratch2)
      (idxs := ![idx]) (v := v) (mask := fun _ => 1#1) (add := true) (h := h) (hs := hs) (k := k) (Q := Q) (f := f)
  have es : ((Memref.whole cc0_scratch2).access (.whole S4096)).set = Finset.univ := Memref.set_access_whole (sig := sig) cc0_scratch2
  have er : ((Memref.whole cc0_scratch2).access (.whole S4096)).read (Elt F) f = f := Memref.read_access_whole (Elt F) cc0_scratch2 f
  have ew : ∀ g, ((Memref.whole cc0_scratch2).access (.whole S4096)).write (Elt F) f g Finset.univ = g :=
    fun g => Memref.write_access_whole_univ (Elt F) cc0_scratch2 f g
  rw [es, er, ew] at w
  exact w

theorem at_store {idx : IVec S16 32} {v : Vec F S16 .f32} (hi : idx = addr X.f6 X.o n) (hv : v = val X.f5 X.b n)
    {h : ∀ a x, ((![idx] : Fin 1 → IVec S16 32) a x).toNat < S4096.size a}
    {hs : ((Memref.whole cc0_scratch2).access (.whole S4096)).Stores Finset.univ}
    {m : ℕ} (hm : n + 1 = m) {k : PUnit → Prog (TpuEff nD τ sig (Elt F) Λ₀ (.scVector (cV L) (jV L))) β} {Q : β → sProp 𝕄}
    (hk : At d L (St d L X m) (k ⟨⟩) Q) :
    At d L (St d L X n) (SparseCore.vectorStoreIdx (F := F) (Memref.whole cc0_scratch2) ![idx] v (fun _ => 1#1) true h hs) (next d L k Q) :=
  ⟨by
    subst hm hi hv
    have h' := hk.run
    unfold next
    rw [← wp_bind]
    unfold St at h' ⊢
    rw [acc_succ] at h'
    generalize acc X.f5 X.h6 X.b X.o X.a₀ n = f at h' ⊢
    iintro ⟨H5, H6, H7, H⟩
    iapply wp_scatter $$ H7
    iintro H7
    iapply h' $$ [H5 H6 H7 H]
    isplitl [H5]; · iexact H5
    isplitl [H6]; · iexact H6
    isplitl [H7]; · iexact H7
    iexact H⟩

end Judge

end Cert.KernelIdeal.Walk

end
-- ==== Proof.Ideal.WalkA.lean ====
module

public import proofs.«01_k».proof.Proof.Ideal.Walk

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X : Env F} {α β : Type}

set_option maxRecDepth 100000
set_option maxHeartbeats 4000000
open K0.Facts₀ Shapes1.Facts₀

/-- Stores 291 to 587 of a trip's first half. -/
theorem walk416 (hb : 0 = X.b) (t : Fin k0_t1_loop.trips) (ho : X.o = 1024 * t.val) (w0 : BitVec 32)
    (hc : k0_chk292 (addr X.f6 X.o 291)) {k : _ → Prog (TpuEff nD τ sig (Elt F) Λ₀ (.scVector (cV L) (jV L))) β} {Q : β → sProp 𝕄}
    (hk : ∀ hc', At d L (St d L X 588) (k ⟨bins X.f6 X.o 18, val X.f5 X.b 588, val X.f5 X.b 589, val X.f5 X.b 590, val X.f5 X.b 591, addr X.f6 X.o 588, hc', val X.f5 X.b 592, addr X.f6 X.o 589⟩) Q) :
    At d L (St d L X 291) (k0_part416 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 t w0
      (bins X.f6 X.o 9) (val X.f5 X.b 291) (val X.f5 X.b 292) (val X.f5 X.b 293) (val X.f5 X.b 294) (addr X.f6 X.o 291) hc 0#32) (next d L k Q) := by
  unfold k0_part416
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _)

/-- Stores 588 to 885 of a trip's first half. -/
theorem walk417 (hb : 0 = X.b) (t : Fin k0_t1_loop.trips) (ho : X.o = 1024 * t.val) (w0 : BitVec 32)
    (hc : k0_chk589 (addr X.f6 X.o 588)) {k : _ → Prog (TpuEff nD τ sig (Elt F) Λ₀ (.scVector (cV L) (jV L))) β} {Q : β → sProp 𝕄}
    (hk : ∀ hc', At d L (St d L X 886) (k ⟨bins X.f6 X.o 27, val X.f5 X.b 886, val X.f5 X.b 887, val X.f5 X.b 888, val X.f5 X.b 889, addr X.f6 X.o 886, hc', val X.f5 X.b 890⟩) Q) :
    At d L (St d L X 588) (k0_part417 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 t w0
      (bins X.f6 X.o 18) (val X.f5 X.b 588) (val X.f5 X.b 589) (val X.f5 X.b 590) (val X.f5 X.b 591) (addr X.f6 X.o 588) hc (val X.f5 X.b 592) (addr X.f6 X.o 589)) (next d L k Q) := by
  unfold k0_part417
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _)

end Cert.KernelIdeal.Walk

end
-- ==== Proof.Ideal.Copy.lean ====
module

public import proofs.«01_k».proof.Proof.Ideal.Walk
public import Idealize.ShloMosaic.Lib.ValueLayout

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

set_option maxRecDepth 20000

variable {F : FTy → Type} [FloatOps F]
local notation "𝕄" => MT nD τ sig (HIx 1) (Elt F) ℕ UU ℕ
variable {d : Dev nD} {L : grid0.Coords} {X : Env F} {α β : Type} {H H' R : sProp (MT nD τ sig (HIx 1) (Elt F) ℕ UU ℕ)}

/-! ## Transfers and their waits -/

/-- What the subcore still owes, every wait since the start recorded. -/
def Ow (F : FTy → Type) [FloatOps F] (d : Dev nD) (L : grid0.Coords) (O : CellTallies nD τ sig (HIx 1)) (W : Waits sig (HIx 1)) : sProp (MT nD τ sig (HIx 1) (Elt F) ℕ UU ℕ) :=
  iprop(Transfers.MayWaits (V d (cV L) (jV L)) (default : HIx 1) O ∗ ∃ W', ⌜∀ p ∈ W', p ∈ W ∨ p.2 = none⌝ ∗ owes (V d (cV L) (jV L)) O W')

theorem at_conv {p : Prog (TpuEff nD τ sig (Elt F) Λ₀ (.scVector (cV L) (jV L))) α} {Q : α → sProp 𝕄} (h : H ⊢ H') (hp : At d L H' p Q) : At d L H p Q :=
  ⟨h.trans hp.run⟩

/-- A program run to the holdings `H'`, then the rest from them. -/
theorem at_cut (H' : sProp 𝕄) {p : Prog (TpuEff nD τ sig (Elt F) Λ₀ (.scVector (cV L) (jV L))) PUnit} {k : PUnit → Prog (TpuEff nD τ sig (Elt F) Λ₀ (.scVector (cV L) (jV L))) β} {Q : β → sProp 𝕄}
    (hp : At d L H p (fun _ => H')) (hk : At d L H' (k ⟨⟩) Q) : At d L H p (next d L k Q) :=
  ⟨hp.run.trans (by unfold next; exact wp_mono frame _ _ fun _ => hk.run)⟩

/-- A choice whose branches meet again in `r`. -/
theorem at_dite (M : sProp 𝕄) {c : Prop} [Decidable c] {a : c → Prog (TpuEff nD τ sig (Elt F) Λ₀ (.scVector (cV L) (jV L))) β}
    {b : ¬ c → Prog (TpuEff nD τ sig (Elt F) Λ₀ (.scVector (cV L) (jV L))) β} {r : Prog (TpuEff nD τ sig (Elt F) Λ₀ (.scVector (cV L) (jV L))) β} {Q : β → sProp 𝕄}
    (hf : ∀ h, At d L M r Q → At d L H (b h) Q) (ht : ∀ h, At d L M r Q → At d L H (a h) Q) (hr : At d L M r Q) : At d L H (dite c a b) Q := by
  by_cases h : c
  · rw [dif_pos h]; exact ht h hr
  · rw [dif_neg h]; exact hf h hr

theorem at_done {a : α} (h : H ⊢ H') : At d L H (pure a : Prog (TpuEff nD τ sig (Elt F) Λ₀ (.scVector (cV L) (jV L))) α) (fun _ => H') :=
  ⟨h.trans (le_wp_ret _ _ _ a (fun _ => H'))⟩

theorem at_enqueue {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (p := .scVector (cV L) (jV L)) sp sm (.here dst)}
    {k : PUnit → Prog (TpuEff nD τ sig (Elt F) Λ₀ (.scVector (cV L) (jV L))) β} {Q : β → sProp 𝕄} {q : PosShare TreeShare}
    {fs : Buf (Elt F) (src.view.loc (V d (cV L) (jV L)))} {Sd : Finset (Idx (dst.view.loc (V d (cV L) (jV L))))} {fd : Buf (Elt F) (dst.view.loc (V d (cV L) (jV L)))}
    {D : sProp 𝕄} (N : ℕ) (hN : dst.view.amount sm = N) (hN0 : 0 < N) (hSd : dst.view.set ⊆ Sd)
    (hH : H ⊢ iprop(((src.view.loc (V d (cV L) (jV L)) ↦[src.view.set]{q} fs) ∗ (dst.view.loc (V d (cV L) (jV L)) ↦[Sd]{fullShare} fd) ∗ semVal (V d (cV L) (jV L), sm) 0) ∗ R))
    (hD : iprop((dst.view.loc (V d (cV L) (jV L)) ↦[Sd]{fullShare} (dst.view.write (Elt F) fd (src.view.read (Elt F) fs) Finset.univ))
      ∗ (src.view.loc (V d (cV L) (jV L)) ↦[src.view.set]{q} fs)) ⊢ D)
    (hk : At d L iprop(Transfers.Flight countersEmb (V d (cV L) (jV L)) sm (default : HIx 1) N D ∗ R) (k ⟨⟩) Q) :
    At d L H (Prog.lift (.enqueueDma src (.here dst) sm hsrc hdst hsem)) (next d L k Q) :=
  next_lift (hH.trans (by
    have h' := hk.run
    iintro ⟨H, HR⟩
    iapply (Transfers.wp_dmaLocal countersEmb 𝒱₀ (V d (cV L) (jV L)) none (via := .same) (default : HIx 1) N hN hN0 hSd) $$ H
    iintro Hf
    iapply h' $$ [Hf HR]
    isplitl [Hf]
    · iapply (Transfers.Flight_mono countersEmb (V d (cV L) (jV L)) hD) $$ Hf
    iexact HR))

theorem at_wait {sp sp' : Space} {s s' : Shape} {e e' : EltTy} {src : Memref sig .scVector sp' s' e'} {dst : Memref sig .scVector sp s e} {sem : DmaSem sig}
    {hsrc : src.view.WordExact} {hdst : dst.view.WordExact} {O : CellTallies nD τ sig (HIx 1)} {W : Waits sig (HIx 1)}
    {k : PUnit → Prog (TpuEff nD τ sig (Elt F) Λ₀ (.scVector (cV L) (jV L))) β} {Q : β → sProp 𝕄} {D : sProp 𝕄} {N : ℕ} (hN : dst.view.dmaCredit = N)
    (hH : H ⊢ iprop(Transfers.Flight countersEmb (V d (cV L) (jV L)) (.dma sem) (default : HIx 1) N D ∗ Ow F d L O W ∗ R))
    (hk : At d L iprop(D ∗ semVal (V d (cV L) (jV L), .dma sem) 0 ∗ Ow F d L O W ∗ R) (k ⟨⟩) Q) :
    At d L H (Prog.lift (.waitDma2 sem src dst hsrc hdst)) (next d L k Q) :=
  next_lift (hH.trans (by
    have h' := hk.run
    unfold Ow at h' ⊢
    iintro ⟨Hf, ⟨#Hmw, %W', %hW', HO⟩, HR⟩
    iapply (Transfers.wp_waitLocalO countersEmb 𝒱₀ (V d (cV L) (jV L)) none (default : HIx 1) hN) $$ [Hf HO]
    · isplitl [Hf]; · iexact Hf
      isplitl [HO]; · iexact HO
      iapply (Transfers.MayWaits.elim (SemLoc.dma sem)) $$ Hmw
    iintro ⟨HD, Hs, HO⟩
    iapply h' $$ [HD Hs HO HR]
    isplitl [HD]; · iexact HD
    isplitl [Hs]; · iexact Hs
    isplitl [HO]
    · isplitr; · iexact Hmw
      iexists _; isplitr
      swap; · iexact HO
      ipureintro; intro p hp
      rcases Finset.mem_insert.mp hp with hp | hp
      · exact .inr (hp ▸ rfl)
      · exact hW' p hp
    iexact HR))

/-! ## A chunk of the features -/

/-- Chunk `k` of column block `c`, as a half of the feature buffer holds it. -/
def feat (fx : S256x10240.Idx → F .f32) (c k : ℕ) : S2x32x512.Idx → F .f32 :=
  fun j => fx (fun a => ⟨((![32 * c + (j 1).val, 512 * k + (j 2).val] : Fin 2 → ℕ) a) % S256x10240.size a, Nat.mod_lt _ (by fin_cases a <;> decide)⟩)

/-- The units one chunk's transfer counts. -/
def chunkUnits : ℕ := sig.dmaCredit .scVector (Kind.table .scVector .vmem) (cc0_scratch0 : Ref sig .scVector).idx S32x512 .f32

theorem chunkUnits_pos : 0 < chunkUnits := sig.dmaCredit_pos _ _ _ _ _ (show 0 < S32x512.numel by decide)

/-- The transfer of one chunk into half `b`, on its way. -/
def Fly (d : Dev nD) (L : grid0.Coords) (sm : DmaSem sig) (b : ℕ) (q : PosShare TreeShare) (fx : S256x10240.Idx → F .f32) (g : S2x32x512.Idx → F .f32) : sProp 𝕄 :=
  iprop(∃ S : Finset S256x10240.Idx,
    Transfers.Flight countersEmb (V d (cV L) (jV L)) (.dma sm) (default : HIx 1) chunkUnits
      iprop(((V d (cV L) (jV L)).loc cc0_scratch0 ↦[half b]{fullShare} (g : Buf (Elt F) ((V d (cV L) (jV L)).loc cc0_scratch0)))
        ∗ ((V d (cV L) (jV L)).loc main_v40_scv ↦[S]{q} (fx : Buf (Elt F) ((V d (cV L) (jV L)).loc main_v40_scv))))
    ∗ ((V d (cV L) (jV L)).loc main_v40_scv ↦[Finset.univ \ S]{q} (fx : Buf (Elt F) ((V d (cV L) (jV L)).loc main_v40_scv))))

/-- What a landed chunk gives back beside the half: the share of the features, the semaphore at zero. -/
def Back (d : Dev nD) (L : grid0.Coords) (sm : DmaSem sig) (q : PosShare TreeShare) (fx : S256x10240.Idx → F .f32) : sProp 𝕄 :=
  iprop(((V d (cV L) (jV L)).loc main_v40_scv ↦{q} (fx : Buf (Elt F) ((V d (cV L) (jV L)).loc main_v40_scv))) ∗ semVal (V d (cV L) (jV L), .dma sm) 0)

/-- The half with no transfer on its way. -/
def Idle (d : Dev nD) (L : grid0.Coords) (sm : DmaSem sig) (b : ℕ) (q : PosShare TreeShare) (fx : S256x10240.Idx → F .f32) : sProp 𝕄 :=
  iprop((∃ f : S2x32x512.Idx → F .f32, (V d (cV L) (jV L)).loc cc0_scratch0 ↦[half b]{fullShare} (f : Buf (Elt F) ((V d (cV L) (jV L)).loc cc0_scratch0)))
    ∗ Back d L sm q fx)

theorem set_slot {off : Fin 3 → ℕ} {inb : ∀ a, off a + S1x32x512.size a ≤ S2x32x512.size a} (b : ℕ) (h0 : off 0 = b) (h1 : off 1 = 0) (h2 : off 2 = 0) :
    (((Memref.whole cc0_scratch0).slice (Rect.unit (s := S2x32x512) off S1x32x512.size inb) (fun _ => rfl)).squeeze S32x512 squeezes_S1x32x512_S32x512).view.set = half b := by
  show (((View.whole (cc0_scratch0 : Ref sig .scVector)).slice (Rect.unit (s := S2x32x512) off S1x32x512.size inb)).reshape S32x512 squeezes_S1x32x512_S32x512.numel_eq).set = _
  rw [View.set_reshape, View.set_slice_whole (b := cc0_scratch0)]
  ext j
  rw [Rect.mem_set_unit]
  unfold half
  rw [Finset.mem_filter]
  constructor
  · intro h
    have h := h 0
    have e1 : S1x32x512.size 0 = 1 := rfl
    rw [e1] at h
    exact ⟨Finset.mem_univ _, by omega⟩
  · rintro ⟨-, h⟩ a
    match a with
    | 0 => rw [h0]; have e1 : S1x32x512.size 0 = 1 := rfl; rw [e1]; constructor <;> omega
    | 1 => rw [h1]; exact ⟨Nat.zero_le _, by have := (j 1).isLt; exact (Nat.zero_add _).symm ▸ this⟩
    | 2 => rw [h2]; exact ⟨Nat.zero_le _, by have := (j 2).isLt; exact (Nat.zero_add _).symm ▸ this⟩

theorem at_land {off : Fin 3 → ℕ} {inb : ∀ a, off a + S1x32x512.size a ≤ S2x32x512.size a} {offs : Fin 2 → ℕ} {inbs : ∀ a, offs a + S32x512.size a ≤ S256x10240.size a}
    {sem : DmaSem sig}
    {hsrc : ((Memref.whole main_v40_scv).slice (Rect.unit (s := S256x10240) offs S32x512.size inbs) (fun _ => rfl)).view.WordExact}
    {hdst : (((Memref.whole cc0_scratch0).slice (Rect.unit (s := S2x32x512) off S1x32x512.size inb) (fun _ => rfl)).squeeze S32x512 squeezes_S1x32x512_S32x512).view.WordExact}
    {O : CellTallies nD τ sig (HIx 1)} {W : Waits sig (HIx 1)} {k : PUnit → Prog (TpuEff nD τ sig (Elt F) Λ₀ (.scVector (cV L) (jV L))) β} {Q : β → sProp 𝕄}
    {b : ℕ} {q : PosShare TreeShare} {fx : S256x10240.Idx → F .f32} {g : S2x32x512.Idx → F .f32}
    (hH : H ⊢ iprop(Fly d L sem b q fx g ∗ Ow F d L O W ∗ R))
    (hk : At d L iprop(((V d (cV L) (jV L)).loc cc0_scratch0 ↦[half b]{fullShare} (g : Buf (Elt F) ((V d (cV L) (jV L)).loc cc0_scratch0)))
      ∗ Back d L sem q fx ∗ Ow F d L O W ∗ R) (k ⟨⟩) Q) :
    At d L H (Prog.lift (.waitDma2 sem ((Memref.whole main_v40_scv).slice (Rect.unit (s := S256x10240) offs S32x512.size inbs) (fun _ => rfl))
      (((Memref.whole cc0_scratch0).slice (Rect.unit (s := S2x32x512) off S1x32x512.size inb) (fun _ => rfl)).squeeze S32x512 squeezes_S1x32x512_S32x512) hsrc hdst)) (next d L k Q) := by
  refine at_conv (H' := iprop(∃ S : Finset S256x10240.Idx, (Transfers.Flight countersEmb (V d (cV L) (jV L)) (.dma sem) (default : HIx 1) chunkUnits
      iprop(((V d (cV L) (jV L)).loc cc0_scratch0 ↦[half b]{fullShare} (g : Buf (Elt F) ((V d (cV L) (jV L)).loc cc0_scratch0)))
        ∗ ((V d (cV L) (jV L)).loc main_v40_scv ↦[S]{q} (fx : Buf (Elt F) ((V d (cV L) (jV L)).loc main_v40_scv))))
    ∗ Ow F d L O W ∗ ((V d (cV L) (jV L)).loc main_v40_scv ↦[Finset.univ \ S]{q} (fx : Buf (Elt F) ((V d (cV L) (jV L)).loc main_v40_scv))) ∗ R))) ?_ ?_
  · refine hH.trans ?_
    unfold Fly
    iintro ⟨⟨%S, Hf, Hr⟩, HO, HR⟩
    iexists S
    isplitl [Hf]; · iexact Hf
    isplitl [HO]; · iexact HO
    isplitl [Hr]; · iexact Hr
    iexact HR
  · refine ⟨exists_elim fun S => (at_wait (O := O) (W := W) (D := iprop(((V d (cV L) (jV L)).loc cc0_scratch0 ↦[half b]{fullShare} (g : Buf (Elt F) ((V d (cV L) (jV L)).loc cc0_scratch0)))
        ∗ ((V d (cV L) (jV L)).loc main_v40_scv ↦[S]{q} (fx : Buf (Elt F) ((V d (cV L) (jV L)).loc main_v40_scv))))) (N := chunkUnits) rfl .rfl (at_conv ?_ hk)).run⟩
    unfold Back
    iintro ⟨⟨Hg, Hx⟩, Hs, HO, Hr, HR⟩
    isplitl [Hg]; · iexact Hg
    isplitl [Hx Hr Hs]
    · isplitl [Hx Hr]
      · iapply (pointsTo_split_subset (Finset.subset_univ S)).2 $$ [Hx Hr]
        isplitl [Hx]; · iexact Hx
        iexact Hr
      iexact Hs
    isplitl [HO]; · iexact HO
    iexact HR

theorem chunk_cell {off : Fin 3 → ℕ} {inb : ∀ a, off a + S1x32x512.size a ≤ S2x32x512.size a} {offs : Fin 2 → ℕ} {inbs : ∀ a, offs a + S32x512.size a ≤ S256x10240.size a}
    {c n : ℕ} (h1 : off 1 = 0) (h2 : off 2 = 0) (hs0 : offs 0 = 32 * c) (hs1 : offs 1 = 512 * n) (fx : S256x10240.Idx → F .f32) (f : S2x32x512.Idx → F .f32)
    (j : S2x32x512.Idx)
    (hj : j ∈ (((Memref.whole cc0_scratch0).slice (Rect.unit (s := S2x32x512) off S1x32x512.size inb) (fun _ => rfl)).squeeze S32x512 squeezes_S1x32x512_S32x512).view.set) :
    (((Memref.whole cc0_scratch0).slice (Rect.unit (s := S2x32x512) off S1x32x512.size inb) (fun _ => rfl)).squeeze S32x512 squeezes_S1x32x512_S32x512).view.write (Elt F) f
      (((Memref.whole main_v40_scv).slice (Rect.unit (s := S256x10240) offs S32x512.size inbs) (fun _ => rfl)).view.read (Elt F) fx) Finset.univ j = feat fx c n j := by
  unfold View.set at hj
  obtain ⟨x, -, rfl⟩ := Finset.mem_map.mp hj
  obtain ⟨y, z, rfl⟩ : ∃ (y : Fin 32) (z : Fin 512), x = ix2 y z := ⟨x 0, x 1, by funext a; match a with | 0 => rfl | 1 => rfl⟩
  rw [View.write_emb_of_mem _ _ (Finset.mem_univ _)]
  have e : (((Memref.whole cc0_scratch0).slice (Rect.unit (s := S2x32x512) off S1x32x512.size inb) (fun _ => rfl)).squeeze S32x512 squeezes_S1x32x512_S32x512).view.emb (ix2 y z)
      = (Rect.unit (s := S2x32x512) off S1x32x512.size inb).emb (ix3 (0 : Fin 1) y z) := by
    show (Rect.unit (s := S2x32x512) off S1x32x512.size inb).emb (Shape.reshapeEquiv _ (ix2 y z)) = _
    rw [reshapeEquiv_ix2_1ab]
    rfl
  unfold feat
  show fx _ = fx _
  congr 1
  rw [e]
  funext a
  apply Fin.ext
  have l0 := inbs 0
  have l1 := inbs 1
  match a with
  | 0 =>
    show offs 0 + 1 * y.val = (32 * c + (off 1 + 1 * y.val)) % 256
    have : offs 0 + 32 ≤ 256 := l0
    rw [Nat.mod_eq_of_lt (by omega)]; omega
  | 1 =>
    show offs 1 + 1 * z.val = (512 * n + (off 2 + 1 * z.val)) % 10240
    have : offs 1 + 512 ≤ 10240 := l1
    rw [Nat.mod_eq_of_lt (by omega)]; omega

theorem at_issue {off : Fin 3 → ℕ} {inb : ∀ a, off a + S1x32x512.size a ≤ S2x32x512.size a} {offs : Fin 2 → ℕ} {inbs : ∀ a, offs a + S32x512.size a ≤ S256x10240.size a}
    {sem : DmaSem sig}
    {hsrc : ((Memref.whole main_v40_scv).slice (Rect.unit (s := S256x10240) offs S32x512.size inbs) (fun _ => rfl)).view.WordExact}
    {hdst : (((Memref.whole cc0_scratch0).slice (Rect.unit (s := S2x32x512) off S1x32x512.size inb) (fun _ => rfl)).squeeze S32x512 squeezes_S1x32x512_S32x512).view.WordExact}
    {hsem : DmaTarget.Typed (nD := nD) (p := .scVector (cV L) (jV L)) .hbm (SemLoc.dma sem) (.here (((Memref.whole cc0_scratch0).slice (Rect.unit (s := S2x32x512) off S1x32x512.size inb) (fun _ => rfl)).squeeze S32x512 squeezes_S1x32x512_S32x512))}
    {k : PUnit → Prog (TpuEff nD τ sig (Elt F) Λ₀ (.scVector (cV L) (jV L))) β} {Q : β → sProp 𝕄}
    {b : ℕ} {q : PosShare TreeShare} {fx : S256x10240.Idx → F .f32}
    (hH : H ⊢ iprop(Idle d L sem b q fx ∗ R)) (h0 : off 0 = b) (h1 : off 1 = 0) (h2 : off 2 = 0) (c n : ℕ) (hs0 : offs 0 = 32 * c) (hs1 : offs 1 = 512 * n)
    (hk : At d L iprop(Fly d L sem b q fx (feat fx c n) ∗ R) (k ⟨⟩) Q) :
    At d L H (Prog.lift (.enqueueDma ((Memref.whole main_v40_scv).slice (Rect.unit (s := S256x10240) offs S32x512.size inbs) (fun _ => rfl))
      (.here (((Memref.whole cc0_scratch0).slice (Rect.unit (s := S2x32x512) off S1x32x512.size inb) (fun _ => rfl)).squeeze S32x512 squeezes_S1x32x512_S32x512))
      (.dma sem) hsrc hdst hsem)) (next d L k Q) := by
  refine at_conv (H' := iprop(∃ f : S2x32x512.Idx → F .f32, ((V d (cV L) (jV L)).loc cc0_scratch0 ↦[half b]{fullShare} (f : Buf (Elt F) ((V d (cV L) (jV L)).loc cc0_scratch0)))
    ∗ Back d L sem q fx ∗ R)) ?_ ?_
  · refine hH.trans ?_
    unfold Idle
    iintro ⟨⟨⟨%f, Hf⟩, HB⟩, HR⟩
    iexists f
    isplitl [Hf]; · iexact Hf
    isplitl [HB]; · iexact HB
    iexact HR
  · refine ⟨exists_elim fun f => (at_enqueue (src := (Memref.whole main_v40_scv).slice (Rect.unit (s := S256x10240) offs S32x512.size inbs) (fun _ => rfl)) (dst := ((Memref.whole cc0_scratch0).slice (Rect.unit (s := S2x32x512) off S1x32x512.size inb) (fun _ => rfl)).squeeze S32x512 squeezes_S1x32x512_S32x512)
      (R := iprop(((V d (cV L) (jV L)).loc main_v40_scv ↦[Finset.univ \ ((Memref.whole main_v40_scv).slice (Rect.unit (s := S256x10240) offs S32x512.size inbs) (fun _ => rfl)).view.set]{q}
        (fx : Buf (Elt F) ((V d (cV L) (jV L)).loc main_v40_scv))) ∗ R)) (q := q) (fs := fx) (Sd := half b) (fd := f)
      (D := iprop(((V d (cV L) (jV L)).loc cc0_scratch0 ↦[half b]{fullShare} (feat fx c n : Buf (Elt F) ((V d (cV L) (jV L)).loc cc0_scratch0)))
        ∗ ((V d (cV L) (jV L)).loc main_v40_scv ↦[((Memref.whole main_v40_scv).slice (Rect.unit (s := S256x10240) offs S32x512.size inbs) (fun _ => rfl)).view.set]{q} (fx : Buf (Elt F) ((V d (cV L) (jV L)).loc main_v40_scv)))))
      chunkUnits rfl chunkUnits_pos (set_slot b h0 h1 h2).subset ?_ ?_ (at_conv ?_ hk)).run⟩
    · unfold Back
      iintro ⟨Hf, ⟨Hx, Hs⟩, HR⟩
      ihave Hx := (pointsTo_split_subset (Finset.subset_univ ((Memref.whole main_v40_scv).slice (Rect.unit (s := S256x10240) offs S32x512.size inbs) (fun _ => rfl)).view.set)).1 $$ Hx
      icases Hx with ⟨Hx, Hr⟩
      isplitl [Hf Hx Hs]
      · isplitl [Hx]; · iexact Hx
        isplitl [Hf]; · iexact Hf
        iexact Hs
      isplitl [Hr]; · iexact Hr
      iexact HR
    · refine sep_mono (Entails.of_eq ?_) .rfl
      refine pointsTo_congr fun j hj => ?_
      exact chunk_cell h1 h2 hs0 hs1 fx f j (by have e := set_slot (inb := inb) b h0 h1 h2; rw [e]; exact hj)
    · unfold Fly
      iintro ⟨Hf, Hr, HR⟩
      isplitl [Hf Hr]
      · iexists _
        isplitl [Hf]; · iexact Hf
        iexact Hr
      iexact HR

/-! ## The accumulator cleared -/

/-- The zero word as a float. -/
def nought (F : FTy → Type) [FloatOps F] : F .f32 := Scalar.ofBits .f32 0x00000000#32

/-- The accumulator with its first `n` groups of 16 words cleared, over contents `a`. -/
def cleared (a : S4096.Idx → F .f32) (n : ℕ) : S4096.Idx → F .f32 := fun j => if (j 0).val < 16 * n then nought F else a j

/-- The holdings while the accumulator is cleared. -/
def Zs (d : Dev nD) (L : grid0.Coords) (a : S4096.Idx → F .f32) (R : sProp 𝕄) (n : ℕ) : sProp 𝕄 :=
  iprop(((V d (cV L) (jV L)).loc cc0_scratch2 ↦{fullShare} (cleared a n : Buf (Elt F) ((V d (cV L) (jV L)).loc cc0_scratch2))) ∗ R)

theorem cleared_succ {off : Fin 1 → ℕ} {inb : ∀ a, off a + S16.size a ≤ S4096.size a} (a : S4096.Idx → F .f32) (n : ℕ) (h : off 0 = 16 * n) :
    ((Memref.whole (cc0_scratch2 : Ref sig .scVector)).access (Rect.unit (s := S4096) off S16.size inb)).write (Elt F) (cleared a n) (broadcast S16 (nought F)) Finset.univ = cleared a (n + 1) := by
  funext j
  by_cases hj : j ∈ ((View.whole (cc0_scratch2 : Ref sig .scVector)).slice (Rect.unit (s := S4096) off S16.size inb)).set
  · have hj' := hj
    rw [View.set_slice_whole (b := cc0_scratch2), Rect.mem_set_unit] at hj'
    have e : S16.size 0 = 16 := rfl
    have b := hj' 0
    rw [e] at b
    unfold View.set at hj
    obtain ⟨x, -, rfl⟩ := Finset.mem_map.mp hj
    refine (View.write_emb_of_mem (v := (Memref.whole (cc0_scratch2 : Ref sig .scVector)).access (Rect.unit (s := S4096) off S16.size inb)) _ _ (Finset.mem_univ _)).trans ?_
    unfold cleared
    rw [if_pos (by omega)]
    rfl
  · refine (View.write_of_not_mem (v := (Memref.whole (cc0_scratch2 : Ref sig .scVector)).access (Rect.unit (s := S4096) off S16.size inb)) _ _ _ hj).trans ?_
    rw [View.set_slice_whole (b := cc0_scratch2), Rect.mem_set_unit] at hj
    unfold cleared
    congr 1
    have : ¬ (16 * n ≤ (j 0).val ∧ (j 0).val < 16 * n + 16) := fun hh => hj fun a => by
      have ha : a = 0 := Subsingleton.elim (α := Fin 1) a 0
      subst ha
      rw [h]
      exact hh
    simp only [eq_iff_iff]
    omega

theorem at_zload {off : Fin 1 → ℕ} {inb : ∀ a, off a + S16.size a ≤ S4096.size a} {a : S4096.Idx → F .f32} {n : ℕ}
    {hl : (Memref.whole (cc0_scratch2 : Ref sig .scVector)).view.LoadsAt (Rect.unit (s := S4096) off S16.size inb).toLoadRect}
    {k : Vec F S16 .f32 → Prog (TpuEff nD τ sig (Elt F) Λ₀ (.scVector (cV L) (jV L))) β} {Q : β → sProp 𝕄}
    (hk : ∀ v, At d L (Zs d L a R n) (k v) Q) :
    At d L (Zs d L a R n) (Prog.lift (.load (Memref.whole cc0_scratch2) (Rect.unit (s := S4096) off S16.size inb).toLoadRect hl)) (next d L k Q) :=
  next_lift (by
    have h' := fun v => (hk v).run
    unfold Zs at h' ⊢
    iintro ⟨Ha, HR⟩
    iapply (wp_load_rect 𝒱₀ (V d (cV L) (jV L)) none Set.univ (m := Memref.whole (cc0_scratch2 : Ref sig .scVector)) (r := Rect.unit (s := S4096) off S16.size inb) (Finset.subset_univ _)) $$ Ha
    iintro Ha
    iapply (h' _) $$ [Ha HR]
    isplitl [Ha]; · iexact Ha
    iexact HR)

theorem at_zstore {off : Fin 1 → ℕ} {inb : ∀ a, off a + S16.size a ≤ S4096.size a} {a : S4096.Idx → F .f32} {n : ℕ} (m : ℕ) (h : off 0 = 16 * n) (hm : n + 1 = m)
    {hx : ((Memref.whole (cc0_scratch2 : Ref sig .scVector)).access (Rect.unit (s := S4096) off S16.size inb)).Stores Finset.univ}
    {hm' : (Finset.univ : Finset (Rect.unit (s := S4096) off S16.size inb).shape.Idx) = Finset.univ ∨ ∀ a, (Rect.unit (s := S4096) off S16.size inb).stride a = 1}
    {k : PUnit → Prog (TpuEff nD τ sig (Elt F) Λ₀ (.scVector (cV L) (jV L))) β} {Q : β → sProp 𝕄}
    (hk : At d L (Zs d L a R m) (k ⟨⟩) Q) :
    At d L (Zs d L a R n) (Prog.lift (.store (Memref.whole cc0_scratch2) (Rect.unit (s := S4096) off S16.size inb) (broadcast S16 (nought F)) Finset.univ hx hm')) (next d L k Q) :=
  next_lift (by
    subst hm
    have h' := hk.run
    unfold Zs at h' ⊢
    rw [← cleared_succ (inb := inb) a n h] at h'
    iintro ⟨Ha, HR⟩
    iapply (wp_store 𝒱₀ (V d (cV L) (jV L)) none Set.univ (m := Memref.whole (cc0_scratch2 : Ref sig .scVector)) (r := Rect.unit (s := S4096) off S16.size inb) (Finset.subset_univ _)) $$ Ha
    iintro Ha
    iapply h' $$ [Ha HR]
    isplitl [Ha]; · iexact Ha
    iexact HR)

end Cert.KernelIdeal.Walk
end
-- ==== Proof.Ideal.WalkB.lean ====
module

public import proofs.«01_k».proof.Proof.Ideal.Copy

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X Y : Env F} {α β : Type} {H R R' : sProp (MT nD τ sig (HIx 1) (Elt F) ℕ UU ℕ)}
  {O : CellTallies nD τ sig (HIx 1)} {W : Waits sig (HIx 1)} {q : PosShare TreeShare} {fx : S256x10240.Idx → F .f32}

set_option maxRecDepth 100000
set_option maxHeartbeats 4000000

/-- The semaphores of the two halves' transfers. -/
abbrev sem0 : DmaSem sig := ((cc0_scratch3.slice (Rect.unit (s := S2) ![0] S1.size inb_S2_S1_0)).squeeze S_ squeezes_S1_S_).sem
abbrev sem1 : DmaSem sig := ((cc0_scratch3.slice (Rect.unit (s := S2) ![1] S1.size inb_S2_S1_1)).squeeze S_ squeezes_S1_S_).sem

/-- A trip's start: the wait for the first half's chunk and stores 0 to 290. -/
theorem walk415 (hb : 0 = X.b) (t : Fin k0_t1_loop.trips) (ho : X.o = 1024 * t.val) (w0 w1 : BitVec 32)
    (hH : H ⊢ iprop(Fly d L sem0 0 q fx X.f5 ∗ Ow F d L O W ∗ R))
    (hX : iprop(((V d (cV L) (jV L)).loc cc0_scratch0 ↦[half 0]{fullShare} (X.f5 : Buf (Elt F) ((V d (cV L) (jV L)).loc cc0_scratch0)))
      ∗ Back d L sem0 q fx ∗ Ow F d L O W ∗ R) ⊢ St d L X 0)
    {k : _ → Prog (TpuEff nD τ sig (Elt F) Λ₀ (.scVector (cV L) (jV L))) β} {Q : β → sProp 𝕄}
    (hk : ∀ a b hc', At d L (St d L X 291) (k ⟨a, b, bins X.f6 X.o 9, val X.f5 X.b 291, val X.f5 X.b 292, val X.f5 X.b 293, val X.f5 X.b 294, addr X.f6 X.o 291, hc', 0#32⟩) Q) :
    At d L H (k0_part415 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 w0 w1 0#32 1#32 t) (next d L k Q) := by
  unfold k0_part415
  refine at_bind ?_
  unfold k0_part1
  repeat with_reducible refine at_bind ?_
  refine at_land (off := ![0, 0, 0]) (inb := inb_S2x32x512_S1x32x512_0_0_0) (offs := k0_off4 L t) (inbs := k0_off4_inb L t) hH ?_
  refine at_conv hX ?_
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _ _ _)

end Cert.KernelIdeal.Walk

end
-- ==== Proof.Ideal.WalkB2.lean ====
module

public import proofs.«01_k».proof.Proof.Ideal.WalkB

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X Y : Env F} {α β : Type} {H R R' : sProp (MT nD τ sig (HIx 1) (Elt F) ℕ UU ℕ)}
  {O : CellTallies nD τ sig (HIx 1)} {W : Waits sig (HIx 1)} {q : PosShare TreeShare} {fx : S256x10240.Idx → F .f32}

set_option maxRecDepth 100000
set_option maxHeartbeats 4000000

/-- The end of a trip's first half, its next chunk issued if there is one, the wait for the other half's chunk, and stores 0 to 155 of it. -/
theorem walk418 (hb : 0 = X.b) (hb' : 1 = Y.b) (t : Fin k0_t1_loop.trips) (ho : X.o = 1024 * t.val) (ho' : Y.o = 1024 * t.val + 512) (w0 w3 w1 w2 : BitVec 32) {c : ℕ}
    {q₁ : PosShare TreeShare} (M : sProp 𝕄) (hX : St d L X 1024 ⊢ iprop(Idle d L sem0 0 q fx ∗ R))
    (hs0 : k0_cond1 t = 1#1 → k0_off37 L t 0 = 32 * c) (hs1 : k0_cond1 t = 1#1 → k0_off37 L t 1 = 512 * (2 * t.val + 2))
    (h1 : k0_cond1 t = 1#1 → iprop(Fly d L sem0 0 q fx (feat fx c (2 * t.val + 2)) ∗ R) ⊢ M) (h2 : ¬ k0_cond1 t = 1#1 → iprop(Idle d L sem0 0 q fx ∗ R) ⊢ M)
    (hM : M ⊢ iprop(Fly d L sem1 1 q₁ fx Y.f5 ∗ Ow F d L O W ∗ R'))
    (hY : iprop(((V d (cV L) (jV L)).loc cc0_scratch0 ↦[half 1]{fullShare} (Y.f5 : Buf (Elt F) ((V d (cV L) (jV L)).loc cc0_scratch0)))
      ∗ Back d L sem1 q₁ fx ∗ Ow F d L O W ∗ R') ⊢ St d L Y 0)
    (hc : k0_chk887 (addr X.f6 X.o 886)) {k : _ → Prog (TpuEff nD τ sig (Elt F) Λ₀ (.scVector (cV L) (jV L))) β} {Q : β → sProp 𝕄}
    (hk : ∀ a hc', At d L (St d L Y 156) (k ⟨a, bins Y.f6 Y.o 4, val Y.f5 Y.b 156, val Y.f5 Y.b 157, val Y.f5 Y.b 158, val Y.f5 Y.b 159, addr Y.f6 Y.o 156, hc'⟩) Q) :
    At d L (St d L X 886) (k0_part418 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 w0 w3 t w1 w2
      (bins X.f6 X.o 27) (val X.f5 X.b 886) (val X.f5 X.b 887) (val X.f5 X.b 888) (val X.f5 X.b 889) (addr X.f6 X.o 886) hc (val X.f5 X.b 890)) (next d L k Q) := by
  unfold k0_part418
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_)
  refine at_dite M (fun h hr => at_conv (hX.trans (h2 h)) hr) (fun h hr => by
    refine at_bind ?_
    refine at_issue (off := ![0, 0, 0]) (inb := inb_S2x32x512_S1x32x512_0_0_0) (offs := k0_off37 L t) (inbs := k0_off37_inb L t h) hX rfl rfl rfl c (2 * t.val + 2) (hs0 h) (hs1 h) ?_
    exact at_conv (h1 h) hr) ?_
  refine at_bind ?_
  refine at_land (off := ![1, 0, 0]) (inb := inb_S2x32x512_S1x32x512_1_0_0) (offs := k0_off38 L t) (inbs := k0_off38_inb L t) hM ?_
  refine at_conv hY ?_
  repeat (first
    | with_reducible refine at_bind ?_
    | with_reducible refine at_pure ?_
    | (with_reducible refine at_feat ?_ ?_) <;> [exact hb'; skip]
    | (with_reducible refine at_assume ?_ ?_) <;> [
        (first
          | exact chk_addi Y.h6 _ _ _ (by decide)
          | exact chk_bins Y.h6 _ _); skip]
    | (with_reducible refine at_bins ?_ ?_) <;> [(rw [ho']; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _ _)

end Cert.KernelIdeal.Walk

end
-- ==== Proof.Ideal.WalkC.lean ====
module

public import proofs.«01_k».proof.Proof.Ideal.Walk

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X : Env F} {α β : Type}

set_option maxRecDepth 100000
set_option maxHeartbeats 4000000
open K0.Facts₀ Shapes1.Facts₀

/-- Stores 156 to 452 of a trip's second half. -/
theorem walk419 (hb : 1 = X.b) (t : Fin k0_t1_loop.trips) (ho : X.o = 1024 * t.val + 512) (w0 : BitVec 32)
    (hc : k0_chk1181 (addr X.f6 X.o 156)) {k : _ → Prog (TpuEff nD τ sig (Elt F) Λ₀ (.scVector (cV L) (jV L))) β} {Q : β → sProp 𝕄}
    (hk : ∀ hc', At d L (St d L X 453) (k ⟨bins X.f6 X.o 14, val X.f5 X.b 453, val X.f5 X.b 454, val X.f5 X.b 455, val X.f5 X.b 456, addr X.f6 X.o 453, hc', cell X.f5 ![X.b, 9, 224]⟩) Q) :
    At d L (St d L X 156) (k0_part419 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 t w0
      (bins X.f6 X.o 4) (val X.f5 X.b 156) (val X.f5 X.b 157) (val X.f5 X.b 158) (val X.f5 X.b 159) (addr X.f6 X.o 156) hc) (next d L k Q) := by
  unfold k0_part419
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _)

end Cert.KernelIdeal.Walk

end
-- ==== Proof.Ideal.WalkD.lean ====
module

public import proofs.«01_k».proof.Proof.Ideal.Walk

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X : Env F} {α β : Type}

set_option maxRecDepth 100000
set_option maxHeartbeats 4000000
open K0.Facts₀ Shapes1.Facts₀

/-- Stores 453 to 750 of a trip's second half. -/
theorem walk420 (hb : 1 = X.b) (t : Fin k0_t1_loop.trips) (ho : X.o = 1024 * t.val + 512) (w0 : BitVec 32)
    (hc : k0_chk1478 (addr X.f6 X.o 453)) {k : _ → Prog (TpuEff nD τ sig (Elt F) Λ₀ (.scVector (cV L) (jV L))) β} {Q : β → sProp 𝕄}
    (hk : ∀ hc', At d L (St d L X 751) (k ⟨bins X.f6 X.o 23, val X.f5 X.b 751, val X.f5 X.b 752, val X.f5 X.b 753, val X.f5 X.b 754, addr X.f6 X.o 751, hc', 19#32⟩) Q) :
    At d L (St d L X 453) (k0_part420 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 t w0
      (bins X.f6 X.o 14) (val X.f5 X.b 453) (val X.f5 X.b 454) (val X.f5 X.b 455) (val X.f5 X.b 456) (addr X.f6 X.o 453) hc (cell X.f5 ![X.b, 9, 224])) (next d L k Q) := by
  unfold k0_part420
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _)

/-- Stores 751 to 1018 of a trip's second half. -/
theorem walk421 (hb : 1 = X.b) (t : Fin k0_t1_loop.trips) (ho : X.o = 1024 * t.val + 512) (w0 : BitVec 32)
    (hc : k0_chk1776 (addr X.f6 X.o 751)) {k : _ → Prog (TpuEff nD τ sig (Elt F) Λ₀ (.scVector (cV L) (jV L))) β} {Q : β → sProp 𝕄}
    (hk : ∀ hc', At d L (St d L X 1019) (k ⟨bins X.f6 X.o 31, val X.f5 X.b 1019, val X.f5 X.b 1020, val X.f5 X.b 1021, val X.f5 X.b 1022, addr X.f6 X.o 1019, hc', val X.f5 X.b 1023, broadcast S16 3584#32⟩) Q) :
    At d L (St d L X 751) (k0_part421 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 t w0
      (bins X.f6 X.o 23) (val X.f5 X.b 751) (val X.f5 X.b 752) (val X.f5 X.b 753) (val X.f5 X.b 754) (addr X.f6 X.o 751) hc 19#32) (next d L k Q) := by
  unfold k0_part421
  repeat (first
    | with_reducible refine at_bind ?_
    | with_reducible refine at_pure ?_
    | (with_reducible refine at_feat ?_ ?_) <;> [exact hb; skip]
    | (with_reducible refine at_assume ?_ ?_) <;> [
        (first
          | exact chk_addi X.h6 _ _ _ (by decide)
          | exact chk_bins X.h6 _ _); skip]
    | (with_reducible refine at_bins ?_ ?_) <;> [(rw [ho]; rfl); skip]
    | refine at_store ?_ ?_ (by simp only [Nat.reduceAdd]; rfl) ?_ <;> [
        (first
          | with_reducible rfl
          | (with_reducible refine addr_of_addi _ _ _ _ _ ?_ ?_) <;> rfl
          | (with_reducible refine addr_of_bins _ _ _ _ ?_ ?_) <;> rfl);
        rfl; skip]
    | refine at_bind ?_
    | exact hk _)

end Cert.KernelIdeal.Walk

end
-- ==== Proof.Ideal.Trip.lean ====
module

public import proofs.«01_k».proof.Proof.Ideal.WalkA
public import proofs.«01_k».proof.Proof.Ideal.WalkB2
public import proofs.«01_k».proof.Proof.Ideal.WalkC
public import proofs.«01_k».proof.Proof.Ideal.WalkD

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords} {X Y : Env F} {α β : Type} {H R R' : sProp (MT nD τ sig (HIx 1) (Elt F) ℕ UU ℕ)}
  {O : CellTallies nD τ sig (HIx 1)} {W : Waits sig (HIx 1)} {q₀ q₁ : PosShare TreeShare} {fx : S256x10240.Idx → F .f32}

set_option maxRecDepth 100000
set_option maxHeartbeats 4000000

/-! ## A trip of the loop over the chunks -/

/-- The column block of a tile. -/
def blk (L : grid0.Coords) : ℕ := (2 * (L 1).val + (L 0).val) % 8

/-- The angle of a tile, among the four taken here. -/
def ang (L : grid0.Coords) : ℕ := (2 * (L 1).val + (L 0).val) / 8

theorem off2_eq : ∀ L : grid0.Coords, k0_off2 L 0 = 32 * blk L ∧ k0_off2 L 1 = 512 * 0 := by decide +kernel
theorem off3_eq : ∀ L : grid0.Coords, k0_off3 L 0 = 32 * blk L ∧ k0_off3 L 1 = 512 * 1 := by decide +kernel
theorem off37_eq : ∀ (L : grid0.Coords) (t : Fin k0_t1_loop.trips), k0_cond1 t = 1#1 → k0_off37 L t 0 = 32 * blk L ∧ k0_off37 L t 1 = 512 * (2 * t.val + 2) := by decide +kernel
theorem off71_eq : ∀ (L : grid0.Coords) (t : Fin k0_t1_loop.trips), k0_cond2 t = 1#1 → k0_off71 L t 0 = 32 * blk L ∧ k0_off71 L t 1 = 512 * (2 * t.val + 3) := by decide +kernel
theorem cond1_iff : ∀ t : Fin k0_t1_loop.trips, k0_cond1 t = 1#1 ↔ 2 * t.val + 2 < 20 := by decide +kernel
theorem cond2_iff : ∀ t : Fin k0_t1_loop.trips, k0_cond2 t = 1#1 ↔ 2 * t.val + 3 < 20 := by decide +kernel
theorem trips_lt : ∀ t : Fin k0_t1_loop.trips, t.val < 10 := by decide +kernel

/-- Half `b` before chunk `k` is taken from it: the chunk on its way, or nothing after the last. -/
def Nx (d : Dev nD) (L : grid0.Coords) (sm : DmaSem sig) (b : ℕ) (q : PosShare TreeShare) (fx : S256x10240.Idx → F .f32) (k : ℕ) : sProp 𝕄 :=
  if k < 20 then Fly d L sm b q fx (feat fx (blk L) k) else Idle d L sm b q fx

/-- The accumulator after the even chunk of trip `t`, from contents `a`. -/
def mid (c : ℕ) (fx : S256x10240.Idx → F .f32) {f6 : S10240.Idx → BitVec 32} (h6 : Small f6) (t : ℕ) (a : S4096.Idx → F .f32) : S4096.Idx → F .f32 :=
  acc (feat fx c (2 * t)) h6 0 (1024 * t) a 1024

/-- The accumulator before trip `t`. -/
def sofar (c : ℕ) (fx : S256x10240.Idx → F .f32) {f6 : S10240.Idx → BitVec 32} (h6 : Small f6) (a₀ : S4096.Idx → F .f32) : ℕ → S4096.Idx → F .f32
  | 0 => a₀
  | t + 1 => acc (feat fx c (2 * t + 1)) h6 1 (1024 * t + 512) (mid c fx h6 t (sofar c fx h6 a₀ t)) 1024

/-- The holdings before trip `t`. -/
def Inv (d : Dev nD) (L : grid0.Coords) (O : CellTallies nD τ sig (HIx 1)) (W : Waits sig (HIx 1)) (q₀ q₁ : PosShare TreeShare) (fx : S256x10240.Idx → F .f32)
    {f6 : S10240.Idx → BitVec 32} (h6 : Small f6) (a₀ : S4096.Idx → F .f32) (R : sProp 𝕄) (t : ℕ) : sProp 𝕄 :=
  iprop(Nx d L sem0 0 q₀ fx (2 * t) ∗ Nx d L sem1 1 q₁ fx (2 * t + 1)
    ∗ ((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ t : Buf (Elt F) ((V d (cV L) (jV L)).loc cc0_scratch2)))
    ∗ Ow F d L O W ∗ R)

/-- The first half of trip `t`. -/
def env0 (d : Dev nD) (L : grid0.Coords) (O : CellTallies nD τ sig (HIx 1)) (W : Waits sig (HIx 1)) (q₀ q₁ : PosShare TreeShare) (fx : S256x10240.Idx → F .f32)
    {f6 : S10240.Idx → BitVec 32} (h6 : Small f6) (a₀ : S4096.Idx → F .f32) (R : sProp 𝕄) (t : ℕ) : Env F where
  f5 := feat fx (blk L) (2 * t)
  f6 := f6
  h6 := h6
  b := 0
  o := 1024 * t
  a₀ := sofar (blk L) fx h6 a₀ t
  R := iprop(Back d L sem0 q₀ fx ∗ Ow F d L O W ∗ Nx d L sem1 1 q₁ fx (2 * t + 1) ∗ R)

/-- The second half of trip `t`. -/
def env1 (d : Dev nD) (L : grid0.Coords) (O : CellTallies nD τ sig (HIx 1)) (W : Waits sig (HIx 1)) (q₀ q₁ : PosShare TreeShare) (fx : S256x10240.Idx → F .f32)
    {f6 : S10240.Idx → BitVec 32} (h6 : Small f6) (a₀ : S4096.Idx → F .f32) (R : sProp 𝕄) (t : ℕ) : Env F where
  f5 := feat fx (blk L) (2 * t + 1)
  f6 := f6
  h6 := h6
  b := 1
  o := 1024 * t + 512
  a₀ := mid (blk L) fx h6 t (sofar (blk L) fx h6 a₀ t)
  R := iprop(Back d L sem1 q₁ fx ∗ Ow F d L O W ∗ Nx d L sem0 0 q₀ fx (2 * t + 2) ∗ R)

variable {f6 : S10240.Idx → BitVec 32} (h6 : Small f6) {a₀ : S4096.Idx → F .f32}

/-- What the choices of trip `t` leave alone, after the first half. -/
def rest0 (d : Dev nD) (L : grid0.Coords) (O : CellTallies nD τ sig (HIx 1)) (W : Waits sig (HIx 1)) (q₁ : PosShare TreeShare) (fx : S256x10240.Idx → F .f32)
    {f6 : S10240.Idx → BitVec 32} (h6 : Small f6) (a₀ : S4096.Idx → F .f32) (R : sProp 𝕄) (t : ℕ) : sProp 𝕄 :=
  iprop(((V d (cV L) (jV L)).loc cc0_scratch1 ↦{fullShare} (f6 : Buf (Elt F) ((V d (cV L) (jV L)).loc cc0_scratch1)))
    ∗ ((V d (cV L) (jV L)).loc cc0_scratch2 ↦{fullShare} (mid (blk L) fx h6 t (sofar (blk L) fx h6 a₀ t) : Buf (Elt F) ((V d (cV L) (jV L)).loc cc0_scratch2)))
    ∗ Ow F d L O W ∗ Nx d L sem1 1 q₁ fx (2 * t + 1) ∗ R)

/-- What the choices of trip `t` leave alone, after the second half. -/
def rest1 (d : Dev nD) (L : grid0.Coords) (O : CellTallies nD τ sig (HIx 1)) (W : Waits sig (HIx 1)) (q₀ : PosShare TreeShare) (fx : S256x10240.Idx → F .f32)
    {f6 : S10240.Idx → BitVec 32} (h6 : Small f6) (a₀ : S4096.Idx → F .f32) (R : sProp 𝕄) (t : ℕ) : sProp 𝕄 :=
  iprop(((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ (t + 1) : Buf (Elt F) ((V d (cV L) (jV L)).loc cc0_scratch2)))
    ∗ Ow F d L O W ∗ Nx d L sem0 0 q₀ fx (2 * t + 2) ∗ R)

theorem Nx_fly {sm : DmaSem sig} {b : ℕ} {q : PosShare TreeShare} {k : ℕ} (hk : k < 20) : Nx d L sm b q fx k = Fly d L sm b q fx (feat fx (blk L) k) := if_pos hk
theorem Nx_idle {sm : DmaSem sig} {b : ℕ} {q : PosShare TreeShare} {k : ℕ} (hk : ¬ k < 20) : Nx d L sm b q fx k = Idle d L sm b q fx := if_neg hk

theorem inv_open {t : ℕ} (ht : t < 10) : Inv d L O W q₀ q₁ fx h6 a₀ R t ⊢ iprop(Fly d L sem0 0 q₀ fx (env0 d L O W q₀ q₁ fx h6 a₀ R t).f5 ∗ Ow F d L O W
    ∗ (((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ t : Buf (Elt F) ((V d (cV L) (jV L)).loc cc0_scratch2)))
    ∗ Nx d L sem1 1 q₁ fx (2 * t + 1) ∗ R)) := by
  unfold Inv
  rw [Nx_fly (k := 2 * t) (by omega)]
  iintro ⟨Hf, Hn, H6, H7, HO, HR⟩
  isplitl [Hf]; · iexact Hf
  isplitl [HO]; · iexact HO
  isplitl [H6]; · iexact H6
  isplitl [H7]; · iexact H7
  isplitl [Hn]; · iexact Hn
  iexact HR

theorem env0_start {t : ℕ} : iprop(((V d (cV L) (jV L)).loc cc0_scratch0 ↦[half 0]{fullShare} ((env0 d L O W q₀ q₁ fx h6 a₀ R t).f5 : Buf (Elt F) ((V d (cV L) (jV L)).loc cc0_scratch0)))
      ∗ Back d L sem0 q₀ fx ∗ Ow F d L O W ∗ (((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ t : Buf (Elt F) ((V d (cV L) (jV L)).loc cc0_scratch2)))
    ∗ Nx d L sem1 1 q₁ fx (2 * t + 1) ∗ R)) ⊢ St d L (env0 d L O W q₀ q₁ fx h6 a₀ R t) 0 := by
  unfold St
  show _ ⊢ iprop(((V d (cV L) (jV L)).loc cc0_scratch0 ↦[half 0]{fullShare} ((env0 d L O W q₀ q₁ fx h6 a₀ R t).f5 : Buf (Elt F) ((V d (cV L) (jV L)).loc cc0_scratch0)))
    ∗ ((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ t : Buf (Elt F) ((V d (cV L) (jV L)).loc cc0_scratch2)))
    ∗ Back d L sem0 q₀ fx ∗ Ow F d L O W ∗ Nx d L sem1 1 q₁ fx (2 * t + 1) ∗ R)
  iintro ⟨H5, HB, HO, H6, H7, Hn, HR⟩
  isplitl [H5]; · iexact H5
  isplitl [H6]; · iexact H6
  isplitl [H7]; · iexact H7
  isplitl [HB]; · iexact HB
  isplitl [HO]; · iexact HO
  isplitl [Hn]; · iexact Hn
  iexact HR

theorem env0_end {t : ℕ} : St d L (env0 d L O W q₀ q₁ fx h6 a₀ R t) 1024 ⊢ iprop(Idle d L sem0 0 q₀ fx ∗ rest0 d L O W q₁ fx h6 a₀ R t) := by
  unfold St Idle rest0
  show iprop(((V d (cV L) (jV L)).loc cc0_scratch0 ↦[half 0]{fullShare} (feat fx (blk L) (2 * t) : Buf (Elt F) ((V d (cV L) (jV L)).loc cc0_scratch0)))
    ∗ ((V d (cV L) (jV L)).loc cc0_scratch1 ↦{fullShare} (f6 : Buf (Elt F) ((V d (cV L) (jV L)).loc cc0_scratch1)))
    ∗ ((V d (cV L) (jV L)).loc cc0_scratch2 ↦{fullShare} (mid (blk L) fx h6 t (sofar (blk L) fx h6 a₀ t) : Buf (Elt F) ((V d (cV L) (jV L)).loc cc0_scratch2)))
    ∗ Back d L sem0 q₀ fx ∗ Ow F d L O W ∗ Nx d L sem1 1 q₁ fx (2 * t + 1) ∗ R) ⊢ _
  iintro ⟨H5, H6, H7, HB, HO, Hn, HR⟩
  isplitl [H5 HB]
  · isplitl [H5]; · iexists _; iexact H5
    iexact HB
  isplitl [H6]; · iexact H6
  isplitl [H7]; · iexact H7
  isplitl [HO]; · iexact HO
  isplitl [Hn]; · iexact Hn
  iexact HR

theorem rest0_open {t : ℕ} (ht : t < 10) : iprop(Nx d L sem0 0 q₀ fx (2 * t + 2) ∗ rest0 d L O W q₁ fx h6 a₀ R t)
    ⊢ iprop(Fly d L sem1 1 q₁ fx (env1 d L O W q₀ q₁ fx h6 a₀ R t).f5 ∗ Ow F d L O W
      ∗ (((V d (cV L) (jV L)).loc cc0_scratch1 ↦{fullShare} (f6 : Buf (Elt F) ((V d (cV L) (jV L)).loc cc0_scratch1)))
      ∗ ((V d (cV L) (jV L)).loc cc0_scratch2 ↦{fullShare} (mid (blk L) fx h6 t (sofar (blk L) fx h6 a₀ t) : Buf (Elt F) ((V d (cV L) (jV L)).loc cc0_scratch2)))
      ∗ Nx d L sem0 0 q₀ fx (2 * t + 2) ∗ R)) := by
  unfold rest0
  rw [Nx_fly (sm := sem1) (k := 2 * t + 1) (by omega)]
  iintro ⟨Hn, H6, H7, HO, Hf, HR⟩
  isplitl [Hf]; · iexact Hf
  isplitl [HO]; · iexact HO
  isplitl [H6]; · iexact H6
  isplitl [H7]; · iexact H7
  isplitl [Hn]; · iexact Hn
  iexact HR

theorem env1_start {t : ℕ} : iprop(((V d (cV L) (jV L)).loc cc0_scratch0 ↦[half 1]{fullShare} ((env1 d L O W q₀ q₁ fx h6 a₀ R t).f5 : Buf (Elt F) ((V d (cV L) (jV L)).loc cc0_scratch0)))
      ∗ Back d L sem1 q₁ fx ∗ Ow F d L O W ∗ (((V d (cV L) (jV L)).loc cc0_scratch1 ↦{fullShare} (f6 : Buf (Elt F) ((V d (cV L) (jV L)).loc cc0_scratch1)))
    ∗ ((V d (cV L) (jV L)).loc cc0_scratch2 ↦{fullShare} (mid (blk L) fx h6 t (sofar (blk L) fx h6 a₀ t) : Buf (Elt F) ((V d (cV L) (jV L)).loc cc0_scratch2)))
    ∗ Nx d L sem0 0 q₀ fx (2 * t + 2) ∗ R)) ⊢ St d L (env1 d L O W q₀ q₁ fx h6 a₀ R t) 0 := by
  unfold St
  show _ ⊢ iprop(((V d (cV L) (jV L)).loc cc0_scratch0 ↦[half 1]{fullShare} ((env1 d L O W q₀ q₁ fx h6 a₀ R t).f5 : Buf (Elt F) ((V d (cV L) (jV L)).loc cc0_scratch0)))
    ∗ ((V d (cV L) (jV L)).loc cc0_scratch1 ↦{fullShare} (f6 : Buf (Elt F) ((V d (cV L) (jV L)).loc cc0_scratch1)))
    ∗ ((V d (cV L) (jV L)).loc cc0_scratch2 ↦{fullShare} (mid (blk L) fx h6 t (sofar (blk L) fx h6 a₀ t) : Buf (Elt F) ((V d (cV L) (jV L)).loc cc0_scratch2)))
    ∗ Back d L sem1 q₁ fx ∗ Ow F d L O W ∗ Nx d L sem0 0 q₀ fx (2 * t + 2) ∗ R)
  iintro ⟨H5, HB, HO, H6, H7, Hn, HR⟩
  isplitl [H5]; · iexact H5
  isplitl [H6]; · iexact H6
  isplitl [H7]; · iexact H7
  isplitl [HB]; · iexact HB
  isplitl [HO]; · iexact HO
  isplitl [Hn]; · iexact Hn
  iexact HR

theorem env1_end {t : ℕ} : St d L (env1 d L O W q₀ q₁ fx h6 a₀ R t) 1024 ⊢ iprop(Idle d L sem1 1 q₁ fx ∗ rest1 d L O W q₀ fx h6 a₀ R t) := by
  unfold St Idle rest1
  show iprop(((V d (cV L) (jV L)).loc cc0_scratch0 ↦[half 1]{fullShare} (feat fx (blk L) (2 * t + 1) : Buf (Elt F) ((V d (cV L) (jV L)).loc cc0_scratch0)))
    ∗ ((V d (cV L) (jV L)).loc cc0_scratch1 ↦{fullShare} (f6 : Buf (Elt F) ((V d (cV L) (jV L)).loc cc0_scratch1)))
    ∗ ((V d (cV L) (jV L)).loc cc0_scratch2 ↦{fullShare} (sofar (blk L) fx h6 a₀ (t + 1) : Buf (Elt F) ((V d (cV L) (jV L)).loc cc0_scratch2)))
    ∗ Back d L sem1 q₁ fx ∗ Ow F d L O W ∗ Nx d L sem0 0 q₀ fx (2 * t + 2) ∗ R) ⊢ _
  iintro ⟨H5, H6, H7, HB, HO, Hn, HR⟩
  isplitl [H5 HB]
  · isplitl [H5]; · iexists _; iexact H5
    iexact HB
  isplitl [H6]; · iexact H6
  isplitl [H7]; · iexact H7
  isplitl [HO]; · iexact HO
  isplitl [Hn]; · iexact Hn
  iexact HR

theorem inv_close {t : ℕ} : iprop(Nx d L sem1 1 q₁ fx (2 * t + 3) ∗ rest1 d L O W q₀ fx h6 a₀ R t) ⊢ Inv d L O W q₀ q₁ fx h6 a₀ R (t + 1) := by
  unfold Inv rest1
  rw [show 2 * (t + 1) + 1 = 2 * t + 3 by omega, show 2 * (t + 1) = 2 * t + 2 by omega]
  iintro ⟨Hn1, H6, H7, HO, Hn, HR⟩
  isplitl [Hn]; · iexact Hn
  isplitl [Hn1]; · iexact Hn1
  isplitl [H6]; · iexact H6
  isplitl [H7]; · iexact H7
  isplitl [HO]; · iexact HO
  iexact HR

/-- A counted loop that carries nothing, by the holdings before each trip. -/
theorem at_for {l : Scf.Loop 32} {hok : l.OK} {body : Fin l.trips → PUnit → Prog (TpuEff nD τ sig (Elt F) Λ₀ (.scVector (cV L) (jV L))) PUnit}
    {k : PUnit → Prog (TpuEff nD τ sig (Elt F) Λ₀ (.scVector (cV L) (jV L))) β} {Q : β → sProp 𝕄} (I : ℕ → sProp 𝕄) (hH : H ⊢ I 0)
    (hbody : ∀ t, At d L (I t.val) (body t ⟨⟩) (fun _ => I (t.val + 1))) (hk : At d L (I l.trips) (k ⟨⟩) Q) :
    At d L H (Scf.Loop.for l hok ⟨⟩ body) (next d L k Q) :=
  ⟨hH.trans (by
    have h' := hk.run
    unfold next
    iintro HI
    iapply (Scf.wp_for frame (wpE (defs₀ (F := F)) 𝒱₀ (V d (cV L) (jV L)) none) Set.univ _ _ _ hok _ body (fun t _ => I t) (fun t _ => (hbody t).run))
    isplitl [HI]; · iexact HI
    iintro %a HI
    iapply h' $$ HI)⟩

end Cert.KernelIdeal.Walk

end
-- ==== Proof.Ideal.Trip2.lean ====
module

public import proofs.«01_k».proof.Proof.Ideal.Trip
public import proofs.«01_k».proof.Proof.Ideal.WalkA
public import proofs.«01_k».proof.Proof.Ideal.WalkB2
public import proofs.«01_k».proof.Proof.Ideal.WalkC
public import proofs.«01_k».proof.Proof.Ideal.WalkD

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords}  {α β : Type} {H R R' : sProp (MT nD τ sig (HIx 1) (Elt F) ℕ UU ℕ)}
  {O : CellTallies nD τ sig (HIx 1)} {W : Waits sig (HIx 1)} {q₀ q₁ : PosShare TreeShare} {f6 : S10240.Idx → BitVec 32} (h6 : Small f6) {a₀ : S4096.Idx → F .f32} {fx : S256x10240.Idx → F .f32}

set_option maxRecDepth 100000
set_option maxHeartbeats 4000000

/-- The start of the chunks, the table's arrival, and the loop. -/
theorem walk436 (w0 w1 w2 : BitVec 32) {tb : sProp 𝕄}
    (hH : H ⊢ iprop(Idle d L sem0 0 q₀ fx ∗ Idle d L sem1 1 q₁ fx
      ∗ Transfers.Flight countersEmb (V d (cV L) (jV L)) (.dma cc0_scratch4.sem) (default : HIx 1) (sig.dmaCredit .scVector (Kind.table .scVector .vmem) (cc0_scratch1 : Ref sig .scVector).idx S10240 .i32)
        iprop(((V d (cV L) (jV L)).loc cc0_scratch1 ↦{fullShare} (f6 : Buf (Elt F) ((V d (cV L) (jV L)).loc cc0_scratch1))) ∗ tb)
      ∗ ((V d (cV L) (jV L)).loc cc0_scratch2 ↦{fullShare} (a₀ : Buf (Elt F) ((V d (cV L) (jV L)).loc cc0_scratch2))) ∗ Ow F d L O W ∗ R))
    {k : _ → Prog (TpuEff nD τ sig (Elt F) Λ₀ (.scVector (cV L) (jV L))) β} {Q : β → sProp 𝕄}
    (hk : ∀ a b, At d L (Inv d L O W q₀ q₁ fx h6 a₀ iprop(tb ∗ semVal (V d (cV L) (jV L), .dma cc0_scratch4.sem) 0 ∗ R) 10) (k ⟨a, b⟩) Q) :
    At d L H (k0_part436 (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0 w0 w1 w2) (next d L k Q) := by
  unfold k0_part436
  refine at_bind ?_
  refine at_issue (off := ![0, 0, 0]) (inb := inb_S2x32x512_S1x32x512_0_0_0) (offs := k0_off2 L) (inbs := k0_off2_inb L) hH rfl rfl rfl (blk L) 0 (off2_eq L).1 (off2_eq L).2 ?_
  refine at_bind ?_
  refine at_issue (off := ![1, 0, 0]) (inb := inb_S2x32x512_S1x32x512_1_0_0) (offs := k0_off3 L) (inbs := k0_off3_inb L) (b := 1) (q := q₁) (fx := fx)
    (R := iprop(Fly d L sem0 0 q₀ fx (feat fx (blk L) 0) ∗ Transfers.Flight countersEmb (V d (cV L) (jV L)) (.dma cc0_scratch4.sem) (default : HIx 1) (sig.dmaCredit .scVector (Kind.table .scVector .vmem) (cc0_scratch1 : Ref sig .scVector).idx S10240 .i32)
        iprop(((V d (cV L) (jV L)).loc cc0_scratch1 ↦{fullShare} (f6 : Buf (Elt F) ((V d (cV L) (jV L)).loc cc0_scratch1))) ∗ tb)
      ∗ ((V d (cV L) (jV L)).loc cc0_scratch2 ↦{fullShare} (a₀ : Buf (Elt F) ((V d (cV L) (jV L)).loc cc0_scratch2))) ∗ Ow F d L O W ∗ R)) ?_ rfl rfl rfl (blk L) 1 (off3_eq L).1 (off3_eq L).2 ?_
  · iintro ⟨Hf, Hi, HR⟩
    isplitl [Hi]; · iexact Hi
    isplitl [Hf]; · iexact Hf
    iexact HR
  refine at_bind ?_
  refine at_wait (D := iprop(((V d (cV L) (jV L)).loc cc0_scratch1 ↦{fullShare} (f6 : Buf (Elt F) ((V d (cV L) (jV L)).loc cc0_scratch1))) ∗ tb)) (O := O) (W := W)
    (R := iprop(Fly d L sem1 1 q₁ fx (feat fx (blk L) 1) ∗ Fly d L sem0 0 q₀ fx (feat fx (blk L) 0)
      ∗ ((V d (cV L) (jV L)).loc cc0_scratch2 ↦{fullShare} (a₀ : Buf (Elt F) ((V d (cV L) (jV L)).loc cc0_scratch2))) ∗ R)) rfl ?_ ?_
  · iintro ⟨Hf1, Hf0, Ht, H7, HO, HR⟩
    isplitl [Ht]; · iexact Ht
    isplitl [HO]; · iexact HO
    isplitl [Hf1]; · iexact Hf1
    isplitl [Hf0]; · iexact Hf0
    isplitl [H7]; · iexact H7
    iexact HR
  refine at_bind ?_
  refine at_for (Inv d L O W q₀ q₁ fx h6 a₀ iprop(tb ∗ semVal (V d (cV L) (jV L), .dma cc0_scratch4.sem) 0 ∗ R)) ?_ (fun t => ?_) ?_
  · unfold Inv
    rw [Nx_fly (k := 2 * 0) (by decide), Nx_fly (k := 2 * 0 + 1) (by decide)]
    iintro ⟨⟨H6, Ht⟩, Hs, HO, Hf1, Hf0, H7, HR⟩
    isplitl [Hf0]; · iexact Hf0
    isplitl [Hf1]; · iexact Hf1
    isplitl [H6]; · iexact H6
    isplitl [H7]; · iexact H7
    isplitl [HO]; · iexact HO
    isplitl [Ht]; · iexact Ht
    isplitl [Hs]; · iexact Hs
    iexact HR
  · generalize iprop(tb ∗ semVal (V d (cV L) (jV L), .dma cc0_scratch4.sem) 0 ∗ R) = R
    have ht := trips_lt t
    refine at_bind ?_
    refine walk415 (X := env0 d L O W q₀ q₁ fx h6 a₀ R t.val) rfl t rfl _ _ (inv_open h6 ht) (env0_start h6) fun _ _ hc => ?_
    refine at_bind ?_
    refine walk416 rfl t rfl _ hc fun hc => ?_
    refine at_bind ?_
    refine walk417 rfl t rfl _ hc fun hc => ?_
    refine at_bind ?_
    refine walk418 (Y := env1 d L O W q₀ q₁ fx h6 a₀ R t.val) rfl rfl t rfl rfl _ _ _ _ (c := blk L) (iprop(Nx d L sem0 0 q₀ fx (2 * t.val + 2) ∗ rest0 d L O W q₁ fx h6 a₀ R t.val)) (env0_end h6)
      (fun h => (off37_eq L t h).1) (fun h => (off37_eq L t h).2) (fun h => by rw [Nx_fly ((cond1_iff t).mp h)]) (fun h => by rw [Nx_idle (fun h' => h ((cond1_iff t).mpr h'))])
      (rest0_open h6 ht) (env1_start h6) hc fun _ hc => ?_
    refine at_bind ?_
    refine walk419 rfl t rfl _ hc fun hc => ?_
    refine at_bind ?_
    refine walk420 rfl t rfl _ hc fun hc => ?_
    refine at_bind ?_
    refine walk421 rfl t rfl _ hc fun hc => ?_
    repeat (first
      | with_reducible refine at_bind ?_
      | with_reducible refine at_pure ?_
      | (with_reducible refine at_feat ?_ ?_) <;> [exact rfl; skip]
      | (with_reducible refine at_assume ?_ ?_) <;> [
          (first
            | exact chk_addi (env1 d L O W q₀ q₁ fx h6 a₀ R t.val).h6 _ _ _ (by decide)
            | exact chk_bins (env1 d L O W q₀ q₁ fx h6 a₀ R t.val).h6 _ _); skip]
      | (with_reducible refine at_bins ?_ ?_) <;> [(rw [rfl]; rfl); skip]
      | refine at_store ?_ ?_ (by simp only [Nat.reduceAdd]; rfl) ?_ <;> [
          (first
            | with_reducible rfl
            | (with_reducible refine addr_of_addi _ _ _ _ _ ?_ ?_) <;> rfl
            | (with_reducible refine addr_of_bins _ _ _ _ ?_ ?_) <;> rfl);
          rfl; skip]
      | refine at_bind ?_)
    refine at_dite (iprop(Nx d L sem1 1 q₁ fx (2 * t.val + 3) ∗ rest1 d L O W q₀ fx h6 a₀ R t.val)) (fun h hr => at_conv ((env1_end h6).trans (by rw [Nx_idle (fun h' => h ((cond2_iff t).mpr h'))])) hr) (fun h hr => by
      refine at_bind ?_
      refine at_issue (off := ![1, 0, 0]) (inb := inb_S2x32x512_S1x32x512_1_0_0) (offs := k0_off71 L t) (inbs := k0_off71_inb L t h) (env1_end h6) rfl rfl rfl (blk L) (2 * t.val + 3) (off71_eq L t h).1 (off71_eq L t h).2 ?_
      exact at_conv (by rw [Nx_fly ((cond2_iff t).mp h)]) hr) ?_
    exact at_done (inv_close h6)
  · exact at_pure (hk _ _)

end Cert.KernelIdeal.Walk

end
-- ==== Proof.Ideal.Tile.lean ====
module

public import proofs.«01_k».proof.Proof.Ideal.Trip2

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
variable {d : Dev nD} {L : grid0.Coords}  {α β : Type} {H R R' : sProp (MT nD τ sig (HIx 1) (Elt F) ℕ UU ℕ)}
  {O : CellTallies nD τ sig (HIx 1)} {W : Waits sig (HIx 1)} {q₀ q₁ : PosShare TreeShare} {fx : S256x10240.Idx → F .f32}

set_option maxRecDepth 100000
set_option maxHeartbeats 4000000

open Idealize.ShloMosaic.ValueIdx

/-! ## A tile's run -/

/-- Row `a` of the table. -/
def row (ft : S40960.Idx → BitVec 32) (a : ℕ) : S10240.Idx → BitVec 32 := fun j => ft (fun x => ⟨(10240 * a + (j 0).val) % S40960.size x, Nat.mod_lt _ (by fin_cases x; decide)⟩)

theorem row_small {ft : S40960.Idx → BitVec 32} (h : ∀ j, (ft j).toNat < 128) (a : ℕ) : Small (row ft a) := fun _ => h _

/-- What the tiles leave in the result. -/
def outv (fx : S256x10240.Idx → F .f32) {ft : S40960.Idx → BitVec 32} (h : ∀ j, (ft j).toNat < 128) : S4x8x4096.Idx → F .f32 :=
  fun j => sofar (j 1).val fx (row_small h (j 0).val) (fun _ => nought F) 10 (ix1 (j 2))

/-- A tile's row of the result. -/
def outRow (L : grid0.Coords) : Finset S4x8x4096.Idx := Finset.univ.filter fun j => (j 0).val = ang L ∧ (j 1).val = blk L

theorem off1_eq : ∀ L : grid0.Coords, k0_off1 L 0 = 10240 * ang L := by decide +kernel
theorem off72_eq : ∀ L : grid0.Coords, k0_off72 L 0 = ang L ∧ k0_off72 L 1 = blk L ∧ k0_off72 L 2 = 0 := by decide +kernel

theorem reshapeEquiv_out (h : (⟨1, ![4096]⟩ : Shape).numel = (⟨3, ![1, 1, 4096]⟩ : Shape).numel) (x : Fin 4096) :
    Shape.reshapeEquiv h (ix1 x) = ix3 (0 : Fin 1) (0 : Fin 1) x :=
  Shape.reshapeEquiv_eq_of_rowMajor h (by
    rw [Shape.rowMajor_val_three, Shape.rowMajor_val_one]
    show (0 * 1 + 0) * 4096 + x.val = x.val
    omega)

/-- The tile's row of the result, as its last copy names it. -/
abbrev outM (L : grid0.Coords) : Memref sig .scVector .hbm S4096 .f32 :=
  ((Memref.whole main_v41_scv).slice (Rect.unit (s := S4x8x4096) (k0_off72 L) S1x1x4096.size (k0_off72_inb L)) (fun _ => rfl)).squeeze S4096 squeezes_S1x1x4096_S4096

theorem outM_emb (L : grid0.Coords) (x : Fin 4096) : ((outM L).view.emb (ix1 x) 0).val = ang L ∧ ((outM L).view.emb (ix1 x) 1).val = blk L ∧ ((outM L).view.emb (ix1 x) 2).val = x.val := by
  have e : (outM L).view.emb (ix1 x) = (Rect.unit (s := S4x8x4096) (k0_off72 L) S1x1x4096.size (k0_off72_inb L)).emb (ix3 (0 : Fin 1) (0 : Fin 1) x) := by
    show (Rect.unit (s := S4x8x4096) (k0_off72 L) S1x1x4096.size (k0_off72_inb L)).emb (Shape.reshapeEquiv _ (ix1 x)) = _
    rw [reshapeEquiv_out]
  rw [e]
  obtain ⟨h0, h1, h2⟩ := off72_eq L
  refine ⟨?_, ?_, ?_⟩
  · show k0_off72 L 0 + 1 * 0 = _; omega
  · show k0_off72 L 1 + 1 * 0 = _; omega
  · show k0_off72 L 2 + 1 * x.val = _; omega

theorem outM_set (L : grid0.Coords) : (outM L).view.set = outRow L := by
  show (((View.whole (main_v41_scv : Ref sig .scVector)).slice (Rect.unit (s := S4x8x4096) (k0_off72 L) S1x1x4096.size (k0_off72_inb L))).reshape S4096 squeezes_S1x1x4096_S4096.numel_eq).set = _
  rw [View.set_reshape, View.set_slice_whole (b := main_v41_scv)]
  obtain ⟨h0, h1, h2⟩ := off72_eq L
  ext j
  rw [Rect.mem_set_unit]
  unfold outRow
  rw [Finset.mem_filter]
  constructor
  · intro h
    have g0 := h 0
    have g1 := h 1
    have e0 : S1x1x4096.size 0 = 1 := rfl
    have e1 : S1x1x4096.size 1 = 1 := rfl
    rw [e0] at g0
    rw [e1] at g1
    exact ⟨Finset.mem_univ _, by omega, by omega⟩
  · rintro ⟨-, g0, g1⟩ a
    match a with
    | 0 => have e0 : S1x1x4096.size 0 = 1 := rfl; rw [e0]; constructor <;> omega
    | 1 => have e1 : S1x1x4096.size 1 = 1 := rfl; rw [e1]; constructor <;> omega
    | 2 => rw [h2]; exact ⟨Nat.zero_le _, by have := (j 2).isLt; exact (Nat.zero_add _).symm ▸ this⟩

variable {ft : S40960.Idx → BitVec 32} {q₃ : PosShare TreeShare}

/-- The table row's slice. -/
abbrev rowM (L : grid0.Coords) : Memref sig .scVector .hbm S10240 .i32 :=
  (Memref.whole main_v39_scv).slice (Rect.unit (s := S40960) (k0_off1 L) S10240.size (k0_off1_inb L)) (fun _ => rfl)

theorem row_read (L : grid0.Coords) (f : S10240.Idx → BitVec 32) (j : S10240.Idx) :
    (Memref.whole (cc0_scratch1 : Ref sig .scVector)).view.write (Elt F) f ((rowM L).view.read (Elt F) ft) Finset.univ j = row ft (ang L) j := by
  refine (View.write_emb_of_mem (v := (Memref.whole (cc0_scratch1 : Ref sig .scVector)).view) (x := j) _ _ (Finset.mem_univ _)).trans ?_
  unfold row
  show ft _ = ft _
  congr 1
  funext a
  have ha : a = 0 := Subsingleton.elim (α := Fin 1) a 0
  subst ha
  apply Fin.ext
  show k0_off1 L 0 + 1 * (j 0).val = (10240 * ang L + (j 0).val) % 40960
  have l0 : k0_off1 L 0 + 10240 ≤ 40960 := k0_off1_inb L 0
  have lj : (j 0).val < 10240 := (j 0).isLt
  rw [← off1_eq, Nat.mod_eq_of_lt (by omega)]
  omega

theorem out_write (h : ∀ j, (ft j).toNat < 128) (L : grid0.Coords) (f : S4x8x4096.Idx → F .f32) (j : S4x8x4096.Idx) (hj : j ∈ (outM L).view.set) :
    (outM L).view.write (Elt F) f ((Memref.whole (cc0_scratch2 : Ref sig .scVector)).view.read (Elt F) (sofar (blk L) fx (row_small h (ang L)) (fun _ => nought F) 10)) Finset.univ j = outv fx h j := by
  unfold View.set at hj
  obtain ⟨x, -, rfl⟩ := Finset.mem_map.mp hj
  obtain ⟨y, rfl⟩ : ∃ y : Fin 4096, x = ix1 y := ⟨x 0, by funext a; have ha : a = 0 := Subsingleton.elim (α := Fin 1) a 0; subst ha; rfl⟩
  rw [View.write_emb_of_mem _ _ (Finset.mem_univ _)]
  obtain ⟨h0, h1, h2⟩ := outM_emb L y
  unfold outv
  have e2 : ((outM L).view.emb (ix1 y) 2) = y := Fin.ext h2
  show sofar (blk L) fx (row_small h (ang L)) (fun _ => nought F) 10 (ix1 y) = _
  have key : ∀ a c : ℕ, a = ang L → c = blk L → ∀ z : Fin 4096, z = y → sofar (blk L) fx (row_small h (ang L)) (fun _ => nought F) 10 (ix1 y) = sofar c fx (row_small h a) (fun _ => nought F) 10 (ix1 z) := by
    rintro _ _ rfl rfl _ rfl; rfl
  exact key _ _ h0 h1 _ e2

/-- What a tile holds: at its start and, the result's row written, at its end. -/
def tile (d : Dev nD) (L : grid0.Coords) (O : CellTallies nD τ sig (HIx 1)) (W : Waits sig (HIx 1)) (q₀ q₁ q₃ : PosShare TreeShare) (fx : S256x10240.Idx → F .f32) (ft : S40960.Idx → BitVec 32)
    (g : S4x8x4096.Idx → F .f32) : sProp 𝕄 :=
  iprop(Idle d L sem0 0 q₀ fx ∗ Idle d L sem1 1 q₁ fx
    ∗ (∃ f : S10240.Idx → BitVec 32, (V d (cV L) (jV L)).loc cc0_scratch1 ↦{fullShare} (f : Buf (Elt F) ((V d (cV L) (jV L)).loc cc0_scratch1)))
    ∗ (∃ f : S4096.Idx → F .f32, (V d (cV L) (jV L)).loc cc0_scratch2 ↦{fullShare} (f : Buf (Elt F) ((V d (cV L) (jV L)).loc cc0_scratch2)))
    ∗ ((V d (cV L) (jV L)).loc main_v39_scv ↦{q₃} (ft : Buf (Elt F) ((V d (cV L) (jV L)).loc main_v39_scv)))
    ∗ ((V d (cV L) (jV L)).loc main_v41_scv ↦[outRow L]{fullShare} (g : Buf (Elt F) ((V d (cV L) (jV L)).loc main_v41_scv)))
    ∗ semVal (V d (cV L) (jV L), .dma cc0_scratch4.sem) 0 ∗ semVal (V d (cV L) (jV L), .dma cc0_scoped0.sem) 0 ∗ Ow F d L O W)

/-- The units the table row's transfer counts. -/
abbrev rowUnits : ℕ := sig.dmaCredit .scVector (Kind.table .scVector .vmem) (cc0_scratch1 : Ref sig .scVector).idx S10240 .i32

/-- A tile's run. -/
theorem tile_run (h : ∀ j, (ft j).toNat < 128) (g : S4x8x4096.Idx → F .f32) :
    At d L (tile d L O W q₀ q₁ q₃ fx ft g) (cc0__sc_body (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0) (fun _ => tile d L O W q₀ q₁ q₃ fx ft (outv fx h)) := by
  refine at_conv (H' := iprop(∃ f : S4096.Idx → F .f32, ∃ f6 : S10240.Idx → BitVec 32, Zs d L f iprop(Idle d L sem0 0 q₀ fx ∗ Idle d L sem1 1 q₁ fx
    ∗ ((V d (cV L) (jV L)).loc cc0_scratch1 ↦{fullShare} (f6 : Buf (Elt F) ((V d (cV L) (jV L)).loc cc0_scratch1)))
    ∗ ((V d (cV L) (jV L)).loc main_v39_scv ↦{q₃} (ft : Buf (Elt F) ((V d (cV L) (jV L)).loc main_v39_scv)))
    ∗ ((V d (cV L) (jV L)).loc main_v41_scv ↦[outRow L]{fullShare} (g : Buf (Elt F) ((V d (cV L) (jV L)).loc main_v41_scv)))
    ∗ semVal (V d (cV L) (jV L), .dma cc0_scratch4.sem) 0 ∗ semVal (V d (cV L) (jV L), .dma cc0_scoped0.sem) 0 ∗ Ow F d L O W) 0)) ?_ ?_
  · unfold tile Zs
    iintro ⟨H0, H1, ⟨%f6, H6⟩, ⟨%f, H7⟩, HR⟩
    iexists f
    iexists f6
    isplitl [H7]
    · have e : cleared f 0 = f := by funext j; unfold cleared; exact if_neg (by omega)
      rw [e]; iexact H7
    isplitl [H0]; · iexact H0
    isplitl [H1]; · iexact H1
    isplitl [H6]; · iexact H6
    iexact HR
  refine ⟨exists_elim fun f => exists_elim fun f6 => At.run ?_⟩
  unfold cc0__sc_body
  repeat (first
    | with_reducible refine at_bind ?_
    | with_reducible refine at_pure ?_
    | refine at_zload fun _ => ?_
    | refine at_zstore _ rfl (by simp only [Nat.reduceAdd]; rfl) ?_
    | unfold k0_part422
    | unfold k0_part423
    | unfold k0_part424
    | unfold k0_part425
    | unfold k0_part426
    | unfold k0_part427
    | unfold k0_part428
    | unfold k0_part429
    | unfold k0_part430
    | unfold k0_part431
    | unfold k0_part432
    | unfold k0_part433
    | unfold k0_part434
    | unfold k0_part435)
  refine at_enqueue (src := rowM L) (dst := Memref.whole (cc0_scratch1 : Ref sig .scVector)) (q := q₃) (fs := ft) (Sd := Finset.univ) (fd := f6)
    (D := iprop(((V d (cV L) (jV L)).loc cc0_scratch1 ↦{fullShare} (row ft (ang L) : Buf (Elt F) ((V d (cV L) (jV L)).loc cc0_scratch1)))
      ∗ ((V d (cV L) (jV L)).loc main_v39_scv ↦[(rowM L).view.set]{q₃} (ft : Buf (Elt F) ((V d (cV L) (jV L)).loc main_v39_scv)))))
    (R := iprop(((V d (cV L) (jV L)).loc main_v39_scv ↦[Finset.univ \ (rowM L).view.set]{q₃} (ft : Buf (Elt F) ((V d (cV L) (jV L)).loc main_v39_scv)))
      ∗ Idle d L sem0 0 q₀ fx ∗ Idle d L sem1 1 q₁ fx
      ∗ ((V d (cV L) (jV L)).loc cc0_scratch2 ↦{fullShare} ((fun _ => nought F : S4096.Idx → F .f32) : Buf (Elt F) ((V d (cV L) (jV L)).loc cc0_scratch2)))
      ∗ ((V d (cV L) (jV L)).loc main_v41_scv ↦[outRow L]{fullShare} (g : Buf (Elt F) ((V d (cV L) (jV L)).loc main_v41_scv)))
      ∗ semVal (V d (cV L) (jV L), .dma cc0_scoped0.sem) 0 ∗ Ow F d L O W))
    rowUnits rfl (sig.dmaCredit_pos _ _ _ _ _ (show 0 < S10240.numel by decide)) (Finset.subset_univ _) ?_ ?_ ?_
  · unfold Zs
    have e : cleared f 256 = fun _ => nought F := by
      funext j; unfold cleared; have lj : (j 0).val < 4096 := (j 0).isLt; exact if_pos (by omega)
    rw [e]
    iintro ⟨H7, H0, H1, H6, H3, H4, Hs, Hs', HO⟩
    ihave H3 := (pointsTo_split_subset (Finset.subset_univ (rowM L).view.set)).1 $$ H3
    icases H3 with ⟨H3, H3'⟩
    isplitl [H3 H6 Hs]
    · isplitl [H3]; · iexact H3
      isplitl [H6]; · iexact H6
      iexact Hs
    isplitl [H3']; · iexact H3'
    isplitl [H0]; · iexact H0
    isplitl [H1]; · iexact H1
    isplitl [H7]; · iexact H7
    isplitl [H4]; · iexact H4
    isplitl [Hs']; · iexact Hs'
    iexact HO
  · exact sep_mono (Entails.of_eq (pointsTo_congr fun j _ => row_read L f6 j)) .rfl
  refine at_pure ?_
  refine at_bind ?_
  refine walk436 (row_small h (ang L)) (a₀ := fun _ => nought F) (q₀ := q₀) (q₁ := q₁) (fx := fx) (O := O) (W := W) _ _ _
    (tb := iprop((V d (cV L) (jV L)).loc main_v39_scv ↦[(rowM L).view.set]{q₃} (ft : Buf (Elt F) ((V d (cV L) (jV L)).loc main_v39_scv))))
    (R := iprop(((V d (cV L) (jV L)).loc main_v39_scv ↦[Finset.univ \ (rowM L).view.set]{q₃} (ft : Buf (Elt F) ((V d (cV L) (jV L)).loc main_v39_scv)))
      ∗ ((V d (cV L) (jV L)).loc main_v41_scv ↦[outRow L]{fullShare} (g : Buf (Elt F) ((V d (cV L) (jV L)).loc main_v41_scv)))
      ∗ semVal (V d (cV L) (jV L), .dma cc0_scoped0.sem) 0)) ?_ fun _ _ => ?_
  · iintro ⟨Hf, H3', H0, H1, H7, H4, Hs', HO⟩
    isplitl [H0]; · iexact H0
    isplitl [H1]; · iexact H1
    isplitl [Hf]; · iexact Hf
    isplitl [H7]; · iexact H7
    isplitl [HO]; · iexact HO
    isplitl [H3']; · iexact H3'
    isplitl [H4]; · iexact H4
    iexact Hs'
  refine at_bind ?_
  refine at_enqueue (src := Memref.whole (cc0_scratch2 : Ref sig .scVector)) (dst := outM L) (q := fullShare) (fs := sofar (blk L) fx (row_small h (ang L)) (fun _ => nought F) 10) (Sd := outRow L) (fd := g)
    (D := iprop(((V d (cV L) (jV L)).loc main_v41_scv ↦[outRow L]{fullShare} (outv fx h : Buf (Elt F) ((V d (cV L) (jV L)).loc main_v41_scv)))
      ∗ ((V d (cV L) (jV L)).loc cc0_scratch2 ↦{fullShare} (sofar (blk L) fx (row_small h (ang L)) (fun _ => nought F) 10 : Buf (Elt F) ((V d (cV L) (jV L)).loc cc0_scratch2)))))
    (R := iprop(Ow F d L O W ∗ Idle d L sem0 0 q₀ fx ∗ Idle d L sem1 1 q₁ fx
      ∗ ((V d (cV L) (jV L)).loc cc0_scratch1 ↦{fullShare} (row ft (ang L) : Buf (Elt F) ((V d (cV L) (jV L)).loc cc0_scratch1)))
      ∗ ((V d (cV L) (jV L)).loc main_v39_scv ↦{q₃} (ft : Buf (Elt F) ((V d (cV L) (jV L)).loc main_v39_scv)))
      ∗ semVal (V d (cV L) (jV L), .dma cc0_scratch4.sem) 0))
    (outM L).view.dmaCredit rfl (sig.dmaCredit_pos _ _ _ _ _ (show 0 < S4096.numel by decide)) (outM_set L).subset ?_ ?_ ?_
  · unfold Inv
    rw [Nx_idle (k := 2 * 10) (by decide), Nx_idle (k := 2 * 10 + 1) (by decide)]
    iintro ⟨H0, H1, H6, H7, HO, H3, Hs, H3', H4, Hs'⟩
    isplitl [H7 H4 Hs']
    · isplitl [H7]
      · have e : (Memref.whole (cc0_scratch2 : Ref sig .scVector)).view.set = Finset.univ := View.set_whole _
        rw [e]; iexact H7
      isplitl [H4]; · iexact H4
      iexact Hs'
    isplitl [HO]; · iexact HO
    isplitl [H0]; · iexact H0
    isplitl [H1]; · iexact H1
    isplitl [H6]; · iexact H6
    isplitl [H3 H3']
    · iapply (pointsTo_split_subset (Finset.subset_univ (rowM L).view.set)).2 $$ [H3 H3']
      isplitl [H3]; · iexact H3
      iexact H3'
    iexact Hs
  · have e : (Memref.whole (cc0_scratch2 : Ref sig .scVector)).view.set = Finset.univ := View.set_whole _
    rw [e]
    exact sep_mono (Entails.of_eq (pointsTo_congr fun j hj => out_write h L g j (by rw [outM_set]; exact hj))) .rfl
  refine at_bind ?_
  refine at_wait (D := iprop(((V d (cV L) (jV L)).loc main_v41_scv ↦[outRow L]{fullShare} (outv fx h : Buf (Elt F) ((V d (cV L) (jV L)).loc main_v41_scv)))
      ∗ ((V d (cV L) (jV L)).loc cc0_scratch2 ↦{fullShare} (sofar (blk L) fx (row_small h (ang L)) (fun _ => nought F) 10 : Buf (Elt F) ((V d (cV L) (jV L)).loc cc0_scratch2)))))
    (O := O) (W := W) rfl .rfl ?_
  refine at_done ?_
  unfold tile
  iintro ⟨⟨H4, H7⟩, Hs', HO, H0, H1, H6, H3, Hs⟩
  isplitl [H0]; · iexact H0
  isplitl [H1]; · iexact H1
  isplitl [H6]; · iexists _; iexact H6
  isplitl [H7]; · iexists _; iexact H7
  isplitl [H3]; · iexact H3
  isplitl [H4]; · iexact H4
  isplitl [Hs]; · iexact Hs
  isplitl [Hs']; · iexact Hs'
  iexact HO

end Cert.KernelIdeal.Walk

end
-- ==== Proof.Ideal.Obl.lean ====
module

public import proofs.«01_k».proof.Proof.Ideal.Tile
public import proofs.«01_k».proof.Proof.Gen.KernelIdeal.Launch
public import Idealize.ShloMosaic.Lib.ShareLeaves

@[expose] public section

noncomputable section

namespace Cert.KernelIdeal.Walk

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig (HIx 1) (Elt F) ℕ UU ℕ

/-! ## The program as the launch sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_eq : (K (F := F)).nSub 0 = 16 := rfl
theorem nCore_eq : (K (F := F)).nCore 0 = 2 := rfl

/-- The tile at core `c`, subcore `s`. -/
abbrev at_ (c : Fin 2) (s : Fin 16) : grid0.Coords :=
  fun | 0 => c | 1 => s | ⟨_ + 2, h⟩ => absurd h (Nat.not_lt.2 (Nat.le_add_left _ _))

/-! ## A tile's holdings, from what its thread holds -/

abbrev featLoc (d : Dev nD) : Loc nD τ sig := (SparseCore.T d).loc main_v40
abbrev tabLoc (d : Dev nD) : Loc nD τ sig := (SparseCore.T d).loc main_v39
abbrev outLoc (d : Dev nD) : Loc nD τ sig := (SparseCore.T d).loc main_v41

/-- The core's share of a read operand, -/
abbrev coreShare (c : Fin 2) : PosShare TreeShare := leaf 1 fullShare c
/-- and the tile's: two of the features, -/
abbrev featShare₀ (c : Fin 2) (s : Fin 16) : PosShare TreeShare := leaf 4 (coreShare c).left s
abbrev featShare₁ (c : Fin 2) (s : Fin 16) : PosShare TreeShare := leaf 4 (coreShare c).right s
/-- one of the table. -/
abbrev tabShare (c : Fin 2) (s : Fin 16) : PosShare TreeShare := leaf 4 (coreShare c) s

section Tile

variable {d : Dev nD} (L : grid0.Coords)

abbrev gA (d : Dev nD) (L : grid0.Coords) : GSem nD τ sig := (V d (cV L) (jV L), .dma sem0)
abbrev gB (d : Dev nD) (L : grid0.Coords) : GSem nD τ sig := (V d (cV L) (jV L), .dma sem1)
abbrev gC (d : Dev nD) (L : grid0.Coords) : GSem nD τ sig := (V d (cV L) (jV L), .dma cc0_scratch4.sem)
abbrev gD (d : Dev nD) (L : grid0.Coords) : GSem nD τ sig := (V d (cV L) (jV L), .dma cc0_scoped0.sem)

theorem cell_ne {d : Dev nD} {L : grid0.Coords} {a b : SemLoc sig} (h : a ≠ b) : ((V d (cV L) (jV L), a) : GSem nD τ sig) ≠ (V d (cV L) (jV L), b) :=
  fun e => h (congrArg Prod.snd e)

theorem mem_own {d : Dev nD} {L : grid0.Coords} {a : SemLoc sig} (h : a.isScoped .scVector = true) : ((V d (cV L) (jV L), a) : GSem nD τ sig) ∈ ownCells (V d (cV L) (jV L)) :=
  mem_ownCells.mpr ⟨rfl, h⟩

abbrev semRest (F : FTy → Type) [FloatOps F] (d : Dev nD) (L : grid0.Coords) : sProp (MT nD τ sig (HIx 1) (Elt F) ℕ UU ℕ) :=
  bigSep (((((ownCells (V d (cV L) (jV L))).erase (gA d L)).erase (gB d L)).erase (gC d L)).erase (gD d L)) fun g => semVal g 0

/-- The four semaphores the body uses are among the tile's. -/
theorem ownSems0_tile :
    (ownSems0 (V d (cV L) (jV L)) : sProp 𝕄)
      = iprop(semVal (gA d L) 0 ∗ semVal (gB d L) 0 ∗ semVal (gC d L) 0 ∗ semVal (gD d L) 0 ∗ semRest F d L) := by
  unfold SparseCore.Cfg.ownSems0
  rw [SparseCore.bigSep_erase' (mem_own (a := .dma sem0) (by decide)),
    SparseCore.bigSep_erase' (Finset.mem_erase.mpr ⟨cell_ne (b := .dma sem0) (by decide), mem_own (a := .dma sem1) (by decide)⟩),
    SparseCore.bigSep_erase' (Finset.mem_erase.mpr ⟨cell_ne (b := .dma sem1) (by decide), Finset.mem_erase.mpr ⟨cell_ne (b := .dma sem0) (by decide),
      mem_own (a := .dma cc0_scratch4.sem) (by decide)⟩⟩),
    SparseCore.bigSep_erase' (Finset.mem_erase.mpr ⟨cell_ne (b := .dma cc0_scratch4.sem) (by decide), Finset.mem_erase.mpr ⟨cell_ne (b := .dma sem1) (by decide),
      Finset.mem_erase.mpr ⟨cell_ne (b := .dma sem0) (by decide), mem_own (a := .dma cc0_scoped0.sem) (by decide)⟩⟩⟩)]

abbrev bufRest (F : FTy → Type) [FloatOps F] (d : Dev nD) (L : grid0.Coords) : sProp (MT nD τ sig (HIx 1) (Elt F) ℕ UU ℕ) :=
  bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f)

theorem ref_ne {L : grid0.Coords} {a b : Ref sig .scVector} (h : a ≠ b) : (Proc.scVector (cV L) (jV L)).devRef a ≠ (Proc.scVector (τ := τ) (cV L) (jV L)).devRef b :=
  fun e => h (Proc.devRef_injective _ e)

/-- The three scratch buffers are among the tile's. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ bufRest F d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ref_ne (b := cc0_scratch0) (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne (b := cc0_scratch1) (by decide), Finset.mem_erase.mpr ⟨ref_ne (b := cc0_scratch0) (by decide),
      SparseCore.Cfg.mem_ownRefs_of_owner (p := Proc.scVector (cV L) (jV L)) (b := (Proc.scVector (cV L) (jV L)).devRef cc0_scratch2) rfl⟩⟩)]

theorem halves_disjoint : Disjoint (half 0) (half 1) := by
  rw [Finset.disjoint_left]
  intro j h0 h1
  unfold half at h0 h1
  have := (Finset.mem_filter.mp h0).2
  have := (Finset.mem_filter.mp h1).2
  omega

theorem halves_cover : half 0 ∪ half 1 = Finset.univ := by
  ext j
  have h2 : (j 0).val < 2 := (j 0).isLt
  unfold half
  simp only [Finset.mem_union, Finset.mem_filter, Finset.mem_univ, true_and, iff_true]
  omega

/-- The feature buffer is its two halves. -/
theorem halves_split (f : S2x32x512.Idx → F .f32) :
    ((V d (cV L) (jV L)).loc cc0_scratch0 ↦{fullShare} (f : Buf (Elt F) ((V d (cV L) (jV L)).loc cc0_scratch0)) : sProp 𝕄)
      ⊢ iprop(((V d (cV L) (jV L)).loc cc0_scratch0 ↦[half 0]{fullShare} (f : Buf (Elt F) ((V d (cV L) (jV L)).loc cc0_scratch0)))
        ∗ ((V d (cV L) (jV L)).loc cc0_scratch0 ↦[half 1]{fullShare} (f : Buf (Elt F) ((V d (cV L) (jV L)).loc cc0_scratch0)))) := by
  have h := (pointsTo_union (ℓ := (V d (cV L) (jV L)).loc cc0_scratch0) (q := fullShare) (f := (f : Buf (Elt F) ((V d (cV L) (jV L)).loc cc0_scratch0))) (Val := Elt F) (Ix := HIx 1) (Name := ℕ) (U := UU) (Lvl := ℕ) halves_disjoint).1
  rw [halves_cover] at h
  exact h

/-- The halves joined are the feature buffer at some contents. -/
theorem halves_join :
    iprop((∃ f : S2x32x512.Idx → F .f32, (V d (cV L) (jV L)).loc cc0_scratch0 ↦[half 0]{fullShare} (f : Buf (Elt F) ((V d (cV L) (jV L)).loc cc0_scratch0)))
        ∗ (∃ f : S2x32x512.Idx → F .f32, (V d (cV L) (jV L)).loc cc0_scratch0 ↦[half 1]{fullShare} (f : Buf (Elt F) ((V d (cV L) (jV L)).loc cc0_scratch0))))
      ⊢ (iprop(∃ f, (V d (cV L) (jV L)).loc cc0_scratch0 ↦{fullShare} f) : sProp 𝕄) := by
  iintro ⟨⟨%f, Hf⟩, ⟨%g, Hg⟩⟩
  ihave H := (pointsTo_join (ℓ := (V d (cV L) (jV L)).loc cc0_scratch0) (q := fullShare) (f := (f : Buf (Elt F) ((V d (cV L) (jV L)).loc cc0_scratch0)))
    (g := (g : Buf (Elt F) ((V d (cV L) (jV L)).loc cc0_scratch0))) (Val := Elt F) (Ix := HIx 1) (Name := ℕ) (U := UU) (Lvl := ℕ) halves_disjoint) $$ [Hf Hg]
  · isplitl [Hf] <;> iassumption
  rw [halves_cover]
  iexists _; iexact H

variable {fx : S256x10240.Idx → F .f32} {ft : S40960.Idx → BitVec 32}

/-- A task's operands: two shares of the features, one of the table, its row of the result. -/
abbrev task (d : Dev nD) (L : grid0.Coords) (q₀ q₁ q₃ : PosShare TreeShare) (fx : S256x10240.Idx → F .f32) (ft : S40960.Idx → BitVec 32) (g : S4x8x4096.Idx → F .f32) : sProp 𝕄 :=
  iprop((featLoc d ↦{q₀} (fx : Buf (Elt F) (featLoc d))) ∗ (featLoc d ↦{q₁} (fx : Buf (Elt F) (featLoc d))) ∗ (tabLoc d ↦{q₃} (ft : Buf (Elt F) (tabLoc d)))
    ∗ (outLoc d ↦[outRow L]{fullShare} (g : Buf (Elt F) (outLoc d))))

set_option maxHeartbeats 4000000 in
/-- A task: its operands and its thread's holdings, to the row written and the holdings again. -/
theorem tile_body (q₀ q₁ q₃ : PosShare TreeShare) (h : ∀ j, (ft j).toNat < 128) (g : S4x8x4096.Idx → F .f32)
    (O : CellTallies nD τ sig (HIx 1)) (W : Waits sig (HIx 1)) (hO : ∀ g, O g none = 0) :
    iprop(levAts (K (F := F)).L (K (F := F)).lev ∗ emp ∗ task d L q₀ q₁ q₃ fx ft g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0)
          fun _ => iprop(task d L q₀ q₁ q₃ fx ft (outv fx h)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V facts d (cV L) (jV L), SparseCore.Cfg.scopedSems0_V (Val := Elt F) d (cV L) (jV L), ownSems0_tile, ownBufs_tile]
  iintro ⟨#Hlv, -, ⟨Hx0, Hx1, Ht, Ho⟩, ⟨⟨%f5, H5⟩, H6, H7, Hbufs⟩, ⟨HA, HB, HC, HD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H5' := (halves_split L f5) $$ H5
  icases H5' with ⟨H5a, H5b⟩
  iapply (wp_wand_r frame _ Set.univ)
  isplitl [Hx0 Hx1 Ht Ho H5a H5b H6 H7 HA HB HC HD HO Hmw]
  · iapply (tile_run (O := O) (W := W) (q₀ := q₀) (q₁ := q₁) (q₃ := q₃) (fx := fx) h g).run
    unfold tile Idle Back Ow
    isplitl [H5a Hx0 HA]
    · isplitl [H5a]; · iexists _; iexact H5a
      isplitl [Hx0]; · iexact Hx0
      iexact HA
    isplitl [H5b Hx1 HB]
    · isplitl [H5b]; · iexists _; iexact H5b
      isplitl [Hx1]; · iexact Hx1
      iexact HB
    isplitl [H6]; · iexact H6
    isplitl [H7]; · iexact H7
    isplitl [Ht]; · iexact Ht
    isplitl [Ho]; · iexact Ho
    isplitl [HC]; · iexact HC
    isplitl [HD]; · iexact HD
    isplitl [Hmw]; · iexact Hmw
    iexists W; isplitr
    · ipureintro; exact fun p hp => .inl hp
    · iexact HO
  iintro %u H
  unfold tile Idle Back Ow
  icases H with ⟨⟨H5a, Hx0, HA⟩, ⟨H5b, Hx1, HB⟩, H6, H7, Ht, Ho, HC, HD, -, ⟨%W', %hW', HO⟩⟩
  isplitl [Hx0 Hx1 Ht Ho]
  · isplitl [Hx0]; · iexact Hx0
    isplitl [Hx1]; · iexact Hx1
    isplitl [Ht]; · iexact Ht
    iexact Ho
  isplitl [H5a H5b H6 H7 Hbufs]
  · isplitl [H5a H5b]; · iapply (halves_join L); isplitl [H5a] <;> iassumption
    isplitl [H6]; · iexact H6
    isplitl [H7]; · iexact H7
    iexact Hbufs
  isplitl [HA HB HC HD Hsems]
  · isplitl [HA]; · iexact HA
    isplitl [HB]; · iexact HB
    isplitl [HC]; · iexact HC
    isplitl [HD]; · iexact HD
    iexact Hsems
  iexists W'; isplitr
  · ipureintro; exact fun p hp => (hW' p hp).imp_right Or.inl
  · iexact HO

end Tile

/-! ## What the handshakes carry -/

section Pay

variable (fx : Dev nD → S256x10240.Idx → F .f32) (ft : Dev nD → S40960.Idx → BitVec 32) (g : Dev nD → S4x8x4096.Idx → F .f32) (h : ∀ d j, (ft d j).toNat < 128)

/-- The result's rows of core `c`. -/
def coreRows (c : Fin 2) : Finset S4x8x4096.Idx := Finset.univ.biUnion fun s : Fin 16 => outRow (at_ c s)

/-- A core's operands. -/
abbrev corePts (d : Dev nD) (c : Fin 2) (fx : S256x10240.Idx → F .f32) (ft : S40960.Idx → BitVec 32) (g : S4x8x4096.Idx → F .f32) : sProp 𝕄 :=
  iprop((featLoc d ↦{coreShare c} (fx : Buf (Elt F) (featLoc d))) ∗ (tabLoc d ↦{coreShare c} (ft : Buf (Elt F) (tabLoc d)))
    ∗ (outLoc d ↦[coreRows c]{fullShare} (g : Buf (Elt F) (outLoc d))))

/-- A tile's operands. -/
abbrev tilePts (d : Dev nD) (c : Fin 2) (s : Fin 16) (fx : S256x10240.Idx → F .f32) (ft : S40960.Idx → BitVec 32) (g : S4x8x4096.Idx → F .f32) : sProp 𝕄 :=
  task d (at_ c s) (featShare₀ c s) (featShare₁ c s) (tabShare c s) fx ft g

def P : (K (F := F)).Pay (nD := nD) (Val := Elt F) (Name := ℕ) (U := UU) where
  st := fun q d c => match q with | 0 => corePts d (Fin.cast nCore_eq c) (fx d) (ft d) (g d)
  dn := fun q d c => match q with | 0 => corePts d (Fin.cast nCore_eq c) (fx d) (ft d) (outv (fx d) (h d))
  go := fun q d c i => match q with | 0 => tilePts d (Fin.cast nCore_eq c) (Fin.cast nSub_eq i) (fx d) (ft d) (g d)
  td := fun q d c i => match q with | 0 => tilePts d (Fin.cast nCore_eq c) (Fin.cast nSub_eq i) (fx d) (ft d) (outv (fx d) (h d))
  x := fun _ _ => iprop(emp)

instance P_storable : (P fx ft g h).IsStorable where
  st q d c := match q with
    | 0 => (inferInstance : BI.Storable (upEmb : UEmb _ 𝕄) (corePts d (Fin.cast nCore_eq c) (fx d) (ft d) (g d)))
  dn q d c := match q with
    | 0 => (inferInstance : BI.Storable (upEmb : UEmb _ 𝕄) (corePts d (Fin.cast nCore_eq c) (fx d) (ft d) (outv (fx d) (h d))))
  go q d c i := match q with
    | 0 => (inferInstance : BI.Storable (upEmb : UEmb _ 𝕄) (tilePts d (Fin.cast nCore_eq c) (Fin.cast nSub_eq i) (fx d) (ft d) (g d)))
  td q d c i := match q with
    | 0 => (inferInstance : BI.Storable (upEmb : UEmb _ 𝕄) (tilePts d (Fin.cast nCore_eq c) (Fin.cast nSub_eq i) (fx d) (ft d) (outv (fx d) (h d))))

theorem defs₀_vector (c : Fin τ.nSC) (s : Fin τ.nSub) :
    defs₀ (F := F) (.scVector c s) 0 ()
      = SparseCore.onTile hcore0 hsub0 (fun c s => cc0__sc_body (F := F) (at_ c s) (Memref.whole main_v40_scv) (Memref.isWhole_whole _) (Memref.whole main_v39_scv) (Memref.isWhole_whole _) (Memref.whole main_v41_scv) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scoped0) ⟨⟩ c s := rfl

set_option maxRecDepth 16384 in
/-- Every task runs to its row. -/
theorem tileObl : (K (F := F)).TileObl (D (F := F)) 𝒱 (P fx ft g h) v₀ 0 := by
  intro d c i O W hO _ _
  simp only [show (P fx ft g h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (at_ ⟨_, hci.1⟩ ⟨_, hci.2⟩) _ _ _ (h d) (g d) O W hO

/-! ## The operands split among the tiles and join again -/

theorem wid_inj : ∀ c c' : Fin 2, ∀ s s' : Fin 16, ang (at_ c s) = ang (at_ c' s') → blk (at_ c s) = blk (at_ c' s') → c = c' ∧ s = s' := by decide

theorem wid_cover : ∀ a : Fin 4, ∀ b : Fin 8, ∃ c : Fin 2, ∃ s : Fin 16, ang (at_ c s) = a.val ∧ blk (at_ c s) = b.val := by decide

theorem outRow_disjoint {c c' : Fin 2} {s s' : Fin 16} (hne : ¬(c = c' ∧ s = s')) : Disjoint (outRow (at_ c s)) (outRow (at_ c' s')) := by
  rw [Finset.disjoint_left]
  intro j h0 h1
  have h0 := (Finset.mem_filter.mp h0).2
  have h1 := (Finset.mem_filter.mp h1).2
  exact hne (wid_inj _ _ _ _ (h0.1.symm.trans h1.1) (h0.2.symm.trans h1.2))

theorem coreRows_disjoint : ∀ c ∈ (Finset.univ : Finset (Fin 2)), ∀ c' ∈ (Finset.univ : Finset (Fin 2)), c ≠ c' → Disjoint (coreRows c) (coreRows c') := by
  intro c _ c' _ hne
  unfold coreRows
  rw [Finset.disjoint_biUnion_left]
  intro s _
  rw [Finset.disjoint_biUnion_right]
  exact fun s' _ => outRow_disjoint fun e => hne e.1

theorem coreRows_cover : (Finset.univ : Finset (Fin 2)).biUnion coreRows = Finset.univ := by
  ext j
  simp only [Finset.mem_biUnion, Finset.mem_univ, true_and, iff_true]
  obtain ⟨c, s, h0, h1⟩ := wid_cover (j 0) (j 1)
  refine ⟨c, ?_⟩
  unfold coreRows
  rw [Finset.mem_biUnion]
  exact ⟨s, Finset.mem_univ _, Finset.mem_filter.mpr ⟨Finset.mem_univ _, h0.symm, h1.symm⟩⟩

/-- A core's operands are its tiles'. -/
theorem core_tiles (d : Dev nD) (c : Fin 2) (fx : S256x10240.Idx → F .f32) (ft : S40960.Idx → BitVec 32) (g : S4x8x4096.Idx → F .f32) :
    (corePts d c fx ft g : sProp 𝕄) = bigSep Finset.univ fun s : Fin 16 => tilePts d c s fx ft g := by
  have e0 : (featLoc d ↦{coreShare c} (fx : Buf (Elt F) (featLoc d)) : sProp 𝕄)
      = iprop((featLoc d ↦{(coreShare c).left} (fx : Buf (Elt F) (featLoc d))) ∗ (featLoc d ↦{(coreShare c).right} (fx : Buf (Elt F) (featLoc d)))) :=
    BI.Entails.antisymm (pointsTo_share (PosShare.mem_left_op_right (coreShare c))).1 (pointsTo_share (PosShare.mem_left_op_right (coreShare c))).2
  have e1 : (featLoc d ↦{(coreShare c).left} (fx : Buf (Elt F) (featLoc d)) : sProp 𝕄) = bigSep Finset.univ fun s : Fin 16 => featLoc d ↦{featShare₀ c s} (fx : Buf (Elt F) (featLoc d)) :=
    pointsTo_leaves Finset.univ _ 4 _
  have e2 : (featLoc d ↦{(coreShare c).right} (fx : Buf (Elt F) (featLoc d)) : sProp 𝕄) = bigSep Finset.univ fun s : Fin 16 => featLoc d ↦{featShare₁ c s} (fx : Buf (Elt F) (featLoc d)) :=
    pointsTo_leaves Finset.univ _ 4 _
  have e3 : (tabLoc d ↦{coreShare c} (ft : Buf (Elt F) (tabLoc d)) : sProp 𝕄) = bigSep Finset.univ fun s : Fin 16 => tabLoc d ↦{tabShare c s} (ft : Buf (Elt F) (tabLoc d)) :=
    pointsTo_leaves Finset.univ _ 4 _
  have e4 : (outLoc d ↦[coreRows c]{fullShare} (g : Buf (Elt F) (outLoc d)) : sProp 𝕄) = bigSep Finset.univ fun s : Fin 16 => outLoc d ↦[outRow (at_ c s)]{fullShare} (g : Buf (Elt F) (outLoc d)) :=
    pointsTo_biUnion Finset.univ (ℓ := outLoc d) (fun s : Fin 16 => outRow (at_ c s)) (fun s _ s' _ hne => outRow_disjoint fun e => hne e.2)
  rw [bigSep_sep', bigSep_sep', bigSep_sep', ← e1, ← e2, ← e3, ← e4]
  unfold corePts
  rw [e0]
  exact Idealize.SL.BI.Entails.antisymm Idealize.SL.BI.sep_assoc Idealize.SL.BI.sep_assoc'

/-- The whole operands are the cores'. -/
theorem whole_cores (d : Dev nD) (fx : S256x10240.Idx → F .f32) (ft : S40960.Idx → BitVec 32) (g : S4x8x4096.Idx → F .f32) :
    (iprop((featLoc d ↦{fullShare} (fx : Buf (Elt F) (featLoc d))) ∗ (tabLoc d ↦{fullShare} (ft : Buf (Elt F) (tabLoc d)))
      ∗ (outLoc d ↦{fullShare} (g : Buf (Elt F) (outLoc d)))) : sProp 𝕄) = bigSep Finset.univ fun c : Fin 2 => corePts d c fx ft g := by
  have e1 : (featLoc d ↦{fullShare} (fx : Buf (Elt F) (featLoc d)) : sProp 𝕄) = bigSep Finset.univ fun c : Fin 2 => featLoc d ↦{coreShare c} (fx : Buf (Elt F) (featLoc d)) :=
    pointsTo_leaves Finset.univ _ 1 _
  have e3 : (tabLoc d ↦{fullShare} (ft : Buf (Elt F) (tabLoc d)) : sProp 𝕄) = bigSep Finset.univ fun c : Fin 2 => tabLoc d ↦{coreShare c} (ft : Buf (Elt F) (tabLoc d)) :=
    pointsTo_leaves Finset.univ _ 1 _
  have e4 : (outLoc d ↦{fullShare} (g : Buf (Elt F) (outLoc d)) : sProp 𝕄) = bigSep Finset.univ fun c : Fin 2 => outLoc d ↦[coreRows c]{fullShare} (g : Buf (Elt F) (outLoc d)) := by
    rw [← pointsTo_biUnion Finset.univ (ℓ := outLoc d) coreRows coreRows_disjoint, coreRows_cover]
  rw [bigSep_sep', bigSep_sep', ← e1, ← e3, ← e4]

theorem vecSplit : (K (F := F)).VecSplit' (P fx ft g h) 0 := by
  intro d c
  have hs (g' : S4x8x4096.Idx → F .f32) : (bigSep Finset.univ fun i : Fin ((K (F := F)).nSub 0) => (tilePts d (Fin.cast nCore_eq c) (Fin.cast nSub_eq i) (fx d) (ft d) g' : sProp 𝕄))
      = corePts d (Fin.cast nCore_eq c) (fx d) (ft d) g' := (core_tiles d (Fin.cast nCore_eq c) (fx d) (ft d) g').symm
  show corePts d (Fin.cast nCore_eq c) (fx d) (ft d) (g d) ⊢ |={Set.univ}=> iprop(
      (bigSep Finset.univ fun i : Fin ((K (F := F)).nSub 0) => tilePts d (Fin.cast nCore_eq c) (Fin.cast nSub_eq i) (fx d) (ft d) (g d))
      ∗ ((bigSep Finset.univ fun i : Fin ((K (F := F)).nSub 0) => tilePts d (Fin.cast nCore_eq c) (Fin.cast nSub_eq i) (fx d) (ft d) (outv (fx d) (h d)))
          -∗ corePts d (Fin.cast nCore_eq c) (fx d) (ft d) (outv (fx d) (h d))))
  rw [hs, hs]
  iintro H; imodintro
  isplitl [H]; · iexact H
  iintro H'
  iexact H'

end Pay

end Cert.KernelIdeal.Walk
end
-- ==== Proof.Ideal.Region.lean ====
module

public import proofs.«01_k».proof.Proof.Ideal.Obl
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Walk

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The angles in the middle: the body of the dense call -/

/-- One where the pixel's bin is the row's, zero elsewhere. -/
def oneHot (b : Vec F S1x1x10000 .i32) : FVec F S100x10000 .bf16 :=
  select (cmpf .oeq
      (broadcastTo S100x10000 (shapeCast S1x10000 (sitofp .bf16 (shapeCast S1x10000 b Shapes3.Facts₀.shapeCasts_S1x1x10000_S1x10000 : IVec S1x10000 32) : FVec F S1x10000 .bf16) Shapes3.Facts₀.shapeCasts_S1x10000_S1x10000) Shapes3.Facts₀.broadcasts_S1x10000_S100x10000)
      (sitofp .bf16 (iota .tc S100x10000 32 [0] Shapes3.Facts₀.iota_S100x10000_d0_w32)))
    (broadcast S100x10000 (Scalar.ofBits .bf16 0x3F80#16 : F .bf16)) (broadcast S100x10000 (Scalar.ofBits .bf16 0x0000#16 : F .bf16))

/-- A grid point's block of the result: the one-hot matrix times the pixels. -/
def dense (b : Vec F S1x1x10000 .i32) (x : Vec F S10000x256 .bf16) : FVec F S1x100x256 .f32 :=
  shapeCast S1x100x256 (matmul dot_S100x10000_S10000x256_S100x256_1_0_0_1_n_n none (oneHot b)
    (shapeCast S10000x256 x Shapes3.Facts₀.shapeCasts_S10000x256_S10000x256) (constant S100x256 .f32 0x00000000#32)) Shapes3.Facts₀.shapeCasts_S100x256_S1x100x256

abbrev rB : Rect S1x1x10000 := Rect.unit (s := S1x1x10000) ![0, 0, 0] S1x1x10000.size Shapes3.Facts₀.inb_S1x1x10000_S1x1x10000_0_0_0
abbrev rX : Rect S10000x256 := Rect.unit (s := S10000x256) ![0, 0] S10000x256.size Shapes3.Facts₀.inb_S10000x256_S10000x256_0_0
abbrev rO : Rect S1x100x256 := Rect.unit (s := S1x100x256) ![0, 0, 0] S1x100x256.size Shapes3.Facts₀.inb_S1x100x256_S1x100x256_0_0_0

/-- What the body leaves in the result's block. -/
def block (b : Vec F S1x1x10000 .i32) (x : Vec F S10000x256 .bf16) : Vec F S1x100x256 .f32 :=
  View.canon [⟨rO, dense (View.ld b rB) (View.ld x rX)⟩]

theorem block_cover (p : Vec F S1x100x256 .f32) (y : S1x100x256.Idx) :
    ∃ pc ∈ ([⟨rO, p⟩] : List (View.Piece (Elt F) S1x100x256 .f32)), y ∈ pc.1.set :=
  View.cover_of_tiled [⟨rO, p⟩] S1x100x256.size (by rfl) y

set_option maxHeartbeats 1000000 in
/-- The body, from the two operands' blocks. -/
theorem dense_run (c : Dev nD) (i : grid1.Coords) (arg1 : Memref sig .tc .vmem S1x1x10000 .i32) (harg1 : arg1.IsWhole)
    (arg2 : Memref sig .tc .vmem S10000x256 .bf16) (harg2 : arg2.IsWhole) (arg3 : Memref sig .tc .vmem S1x100x256 .f32) (harg3 : arg3.IsWhole)
    (b : Vec F S1x1x10000 .i32) (x : Vec F S10000x256 .bf16) (Q : PUnit → sProp 𝕄) :
    iprop(owns (c : Thread nD τ) arg1 fullShare b ∗ owns (c : Thread nD τ) arg2 fullShare x ∗ (∃ o, owns (c : Thread nD τ) arg3 fullShare o)
        ∗ (iprop(owns (c : Thread nD τ) arg1 fullShare b ∗ owns (c : Thread nD τ) arg2 fullShare x ∗ owns (c : Thread nD τ) arg3 fullShare (block b x)) -∗ Q ⟨⟩))
      ⊢ wp frame (wpE (defs₀ (F := F)) 𝒱₀ c none) Set.univ (cc1__tc_body i arg1 harg1 arg2 harg2 arg3 harg3) Q := by
  unfold cc1__tc_body
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (block_cover _)

/-! ## The pipeline's data -/

variable (V : (c : Dev nD) → (b : Ref sig .tc) → Buf (Elt F) ((c : Thread nD τ).loc b))

/-- A window's block at a point, as the region finds its array. -/
def wblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pdats (_ : Fin 1) (c : Dev nD) : Dat τ (Elt F) (HIx 1) ℕ UU ℕ cfg1 c where
  A w := V c (Pipeline.arrRef spec1 w)
  after w t := match w with
    | ⟨0, _⟩ => wblk V c 0 t
    | ⟨1, _⟩ => wblk V c 1 t
    | ⟨2, _⟩ => block (wblk V c 0 t) (wblk V c 1 t)
  Φ _ := Pipeline.scopedRest spec1 c
  q _ := fullShare
  owed _ := 0

theorem pA (c : Dev nD) (w : Fin cfg1.W) : (pdats V 0 c).A w = V c (Pipeline.arrRef spec1 w) := by
  dsimp only [pdats]
theorem after_0 (c : Dev nD) (t : Fin cfg1.N) : (pdats V 0 c).after 0 t = wblk V c 0 t := by dsimp only [pdats]
theorem after_1 (c : Dev nD) (t : Fin cfg1.N) : (pdats V 0 c).after 1 t = wblk V c 1 t := by dsimp only [pdats]
theorem after_2 (c : Dev nD) (t : Fin cfg1.N) : (pdats V 0 c).after 2 t = block (wblk V c 0 t) (wblk V c 1 t) := by dsimp only [pdats]

/-- Each operand's staging buffer holds its block at every point. -/
theorem before_0 (c : Dev nD) (t : Fin cfg1.N) (d) : (pdats V 0 c).before 0 t d = wblk V c 0 t :=
  ((pdats V 0 c).before_in_eq_fetched 0 rfl (fun _ => rfl) (fun _ _ _ => rfl) (fun t => by rw [after_0]; unfold Dat.blockOf wblk; rw [pA]; try rfl) t d).trans
    (by unfold Dat.fetched Dat.blockOf wblk; rw [pA]; try rfl)
theorem before_1 (c : Dev nD) (t : Fin cfg1.N) (d) : (pdats V 0 c).before 1 t d = wblk V c 1 t :=
  ((pdats V 0 c).before_in_eq_fetched 1 rfl (fun _ => rfl) (fun _ _ _ => rfl) (fun t => by rw [after_1]; unfold Dat.blockOf wblk; rw [pA]; try rfl) t d).trans
    (by unfold Dat.fetched Dat.blockOf wblk; rw [pA]; try rfl)

theorem body_row (t : Fin cfg1.N) :
    defs₀ (F := F) .tc cfg1.body (cfg1.bodyArgs t (cfg1.slots t)) = bodyAt1 t := by
  rfl

theorem point (c : Dev nD) (t : Fin cfg1.N) :
    iprop((pdats V 0 c).Φ t.castSucc ∗ (pdats V 0 c).owesAt none t.castSucc
      ∗ (∃ d, owns (c : Thread nD τ) (st1_0 t) fullShare ((pdats V 0 c).before 0 t d))
      ∗ (∃ d, owns (c : Thread nD τ) (st1_1 t) fullShare ((pdats V 0 c).before 1 t d))
      ∗ (∃ d, owns (c : Thread nD τ) (st1_2 t) fullShare ((pdats V 0 c).before 2 t d)))
    ⊢ wp frame (wpE (defs₀ (F := F)) 𝒱₀ c none) Set.univ (bodyAt1 t) (fun _ =>
      iprop((pdats V 0 c).Φ t.succ ∗ (pdats V 0 c).owesAt none t.succ
        ∗ owns (c : Thread nD τ) (st1_0 t) fullShare ((pdats V 0 c).after 0 t)
        ∗ owns (c : Thread nD τ) (st1_1 t) fullShare ((pdats V 0 c).after 1 t)
        ∗ owns (c : Thread nD τ) (st1_2 t) fullShare ((pdats V 0 c).after 2 t))) := by
  unfold bodyAt1
  simp only [before_0, before_1]
  rw [show (pdats V 0 c).Φ t.succ = (pdats V 0 c).Φ t.castSucc from rfl,
    show (pdats V 0 c).owesAt none t.succ = (pdats V 0 c).owesAt none t.castSucc from rfl,
    after_0, after_1, after_2]
  iintro ⟨HΦ, Ho, ⟨%d0, H0⟩, ⟨%d1, H1⟩, ⟨%d2, H2⟩⟩
  iapply (dense_run c (grid1.coords t) _ _ _ _ _ _ (wblk V c 0 t) (wblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdats (F := F) V 0 c) (defs₀ (F := F)) 𝒱₀ none Set.univ := fun t => by
  rw [bigSep_W1, bigSep_W1, body_row]
  exact triple_restated (point V c t) rfl .rfl fun _ => .rfl

/-! ## The region over the thread's buffers -/

abbrev adm : (p : Fin 1) → (pcfgs (F := F) p).Adm := fun p => (cfgs p).toPCfg_adm

/-- The result's array after the region. -/
def summed (c : Dev nD) : Buf (Elt F) ((c : Thread nD τ).loc main_v48) := (pdats V 0 c).arrAt 2 cfg1.N

variable (V' : (c : Dev nD) → (b : Ref sig .tc) → Buf (Elt F) ((c : Thread nD τ).loc b))

set_option backward.isDefEq.respectTransparency.types false in
/-- The region, from every unscoped buffer at `V` to every one at `V'`, which has the result's array at what the pipeline
    computes and is `V` elsewhere. -/
def reg (R : Dev nD → sProp 𝕄) (h : ∀ c, V' c main_v48 = summed V c)
    (hne : ∀ c (b : Ref sig .tc), b ≠ main_v48 → V' c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c ∗ ∃ W, owes (c : Thread nD τ) (0 : CellTallies nD τ sig (HIx 1)) W)
  post c := iprop(unscopedBufs c (V' c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (V' c) ((pdats V 0 c).arrAt · cfg1.N)
      (fun w => by
        fin_cases w
        · exact ((pdats V 0 c).arrAt_in 0 rfl _).trans (hne c main_v45 (by decide)).symm
        · exact ((pdats V 0 c).arrAt_in 1 rfl _).trans (hne c main_v47 (by decide)).symm
        · exact (h c).symm)
      (fun b hb => hne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Walk

end
-- ==== Proof.Ideal.Host.lean ====
/- @main as its lines of host operations and its two calls, and what each buffer holds along it. -/
module

public import proofs.«01_k».proof.Proof.Ideal.Region

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F]

/-! ## The lines -/

/-- The distances, before rounding. -/
abbrev bins0 : List (HloOp τ sig (Elt F)) :=
  ( StableHlo.nullary main_v0 (sitofp .f32 (iotaInDim S100 32 0))
  :: StableHlo.nullary main_cst (constant S_ .f32 0x3D00ADFD#32)
  :: StableHlo.unary main_cst main_v1 (broadcastInDim S100 ![] bcast_S_S100 : (⟨S_, .f32⟩ : BufTy).Contents (Elt F) → (⟨S100, .f32⟩ : BufTy).Contents (Elt F))
  :: StableHlo.binary main_v0 main_v1 main_v2 (mulf : (⟨S100, .f32⟩ : BufTy).Contents (Elt F) → (⟨S100, .f32⟩ : BufTy).Contents (Elt F) → (⟨S100, .f32⟩ : BufTy).Contents (Elt F))
  :: StableHlo.unary main_v2 main_v3 (Host.cos : (⟨S100, .f32⟩ : BufTy).Contents (Elt F) → (⟨S100, .f32⟩ : BufTy).Contents (Elt F))
  :: StableHlo.nullary main_cst_0 (constant S_ .f32 0x3FB79891#32)
  :: StableHlo.unary main_cst_0 main_v4 (broadcastInDim S100 ![] bcast_S_S100 : (⟨S_, .f32⟩ : BufTy).Contents (Elt F) → (⟨S100, .f32⟩ : BufTy).Contents (Elt F))
  :: StableHlo.binary main_v3 main_v4 main_v5 (Host.divf : (⟨S100, .f32⟩ : BufTy).Contents (Elt F) → (⟨S100, .f32⟩ : BufTy).Contents (Elt F) → (⟨S100, .f32⟩ : BufTy).Contents (Elt F))
  :: StableHlo.unary main_v2 main_v6 (Host.sin : (⟨S100, .f32⟩ : BufTy).Contents (Elt F) → (⟨S100, .f32⟩ : BufTy).Contents (Elt F))
  :: StableHlo.nullary main_cst_1 (constant S_ .f32 0x3FB79891#32)
  :: StableHlo.unary main_cst_1 main_v7 (broadcastInDim S100 ![] bcast_S_S100 : (⟨S_, .f32⟩ : BufTy).Contents (Elt F) → (⟨S100, .f32⟩ : BufTy).Contents (Elt F))
  :: StableHlo.binary main_v6 main_v7 main_v8 (Host.divf : (⟨S100, .f32⟩ : BufTy).Contents (Elt F) → (⟨S100, .f32⟩ : BufTy).Contents (Elt F) → (⟨S100, .f32⟩ : BufTy).Contents (Elt F))
  :: StableHlo.nullary main_v9 (sitofp .f32 (iotaInDim S100 32 0))
  :: StableHlo.nullary main_cst_2 (constant S_ .f32 0x42480000#32)
  :: StableHlo.unary main_cst_2 main_v10 (broadcastInDim S100 ![] bcast_S_S100 : (⟨S_, .f32⟩ : BufTy).Contents (Elt F) → (⟨S100, .f32⟩ : BufTy).Contents (Elt F))
  :: StableHlo.binary main_v9 main_v10 main_v11 (subf : (⟨S100, .f32⟩ : BufTy).Contents (Elt F) → (⟨S100, .f32⟩ : BufTy).Contents (Elt F) → (⟨S100, .f32⟩ : BufTy).Contents (Elt F))
  :: StableHlo.nullary main_v12 (sitofp .f32 (iotaInDim S100 32 0))
  :: StableHlo.nullary main_cst_3 (constant S_ .f32 0x42480000#32)
  :: StableHlo.unary main_cst_3 main_v13 (broadcastInDim S100 ![] bcast_S_S100 : (⟨S_, .f32⟩ : BufTy).Contents (Elt F) → (⟨S100, .f32⟩ : BufTy).Contents (Elt F))
  :: StableHlo.binary main_v12 main_v13 main_v14 (subf : (⟨S100, .f32⟩ : BufTy).Contents (Elt F) → (⟨S100, .f32⟩ : BufTy).Contents (Elt F) → (⟨S100, .f32⟩ : BufTy).Contents (Elt F))
  :: StableHlo.unary main_v11 main_v15 (broadcastInDim S1x1x100 ![2] bcast_S100_S1x1x100_2 : (⟨S100, .f32⟩ : BufTy).Contents (Elt F) → (⟨S1x1x100, .f32⟩ : BufTy).Contents (Elt F))
  :: StableHlo.unary main_v5 main_v16 (broadcastInDim S100x1x1 ![0] bcast_S100_S100x1x1_0 : (⟨S100, .f32⟩ : BufTy).Contents (Elt F) → (⟨S100x1x1, .f32⟩ : BufTy).Contents (Elt F))
  :: StableHlo.unary main_v15 main_v17 (broadcastInDim S100x1x100 ![0, 1, 2] bcast_S1x1x100_S100x1x100_0_1_2 : (⟨S1x1x100, .f32⟩ : BufTy).Contents (Elt F) → (⟨S100x1x100, .f32⟩ : BufTy).Contents (Elt F))
  :: StableHlo.unary main_v16 main_v18 (broadcastInDim S100x1x100 ![0, 1, 2] bcast_S100x1x1_S100x1x100_0_1_2 : (⟨S100x1x1, .f32⟩ : BufTy).Contents (Elt F) → (⟨S100x1x100, .f32⟩ : BufTy).Contents (Elt F))
  :: StableHlo.binary main_v17 main_v18 main_v19 (mulf : (⟨S100x1x100, .f32⟩ : BufTy).Contents (Elt F) → (⟨S100x1x100, .f32⟩ : BufTy).Contents (Elt F) → (⟨S100x1x100, .f32⟩ : BufTy).Contents (Elt F))
  :: StableHlo.unary main_v14 main_v20 (broadcastInDim S1x100x1 ![1] bcast_S100_S1x100x1_1 : (⟨S100, .f32⟩ : BufTy).Contents (Elt F) → (⟨S1x100x1, .f32⟩ : BufTy).Contents (Elt F))
  :: StableHlo.unary main_v8 main_v21 (broadcastInDim S100x1x1 ![0] bcast_S100_S100x1x1_0 : (⟨S100, .f32⟩ : BufTy).Contents (Elt F) → (⟨S100x1x1, .f32⟩ : BufTy).Contents (Elt F))
  :: StableHlo.unary main_v20 main_v22 (broadcastInDim S100x100x1 ![0, 1, 2] bcast_S1x100x1_S100x100x1_0_1_2 : (⟨S1x100x1, .f32⟩ : BufTy).Contents (Elt F) → (⟨S100x100x1, .f32⟩ : BufTy).Contents (Elt F))
  :: StableHlo.unary main_v21 main_v23 (broadcastInDim S100x100x1 ![0, 1, 2] bcast_S100x1x1_S100x100x1_0_1_2 : (⟨S100x1x1, .f32⟩ : BufTy).Contents (Elt F) → (⟨S100x100x1, .f32⟩ : BufTy).Contents (Elt F))
  :: StableHlo.binary main_v22 main_v23 main_v24 (mulf : (⟨S100x100x1, .f32⟩ : BufTy).Contents (Elt F) → (⟨S100x100x1, .f32⟩ : BufTy).Contents (Elt F) → (⟨S100x100x1, .f32⟩ : BufTy).Contents (Elt F))
  :: StableHlo.unary main_v19 main_v25 (broadcastInDim S100x100x100 ![0, 1, 2] bcast_S100x1x100_S100x100x100_0_1_2 : (⟨S100x1x100, .f32⟩ : BufTy).Contents (Elt F) → (⟨S100x100x100, .f32⟩ : BufTy).Contents (Elt F))
  :: StableHlo.unary main_v24 main_v26 (broadcastInDim S100x100x100 ![0, 1, 2] bcast_S100x100x1_S100x100x100_0_1_2 : (⟨S100x100x1, .f32⟩ : BufTy).Contents (Elt F) → (⟨S100x100x100, .f32⟩ : BufTy).Contents (Elt F))
  :: StableHlo.binary main_v25 main_v26 main_v27 (addf : (⟨S100x100x100, .f32⟩ : BufTy).Contents (Elt F) → (⟨S100x100x100, .f32⟩ : BufTy).Contents (Elt F) → (⟨S100x100x100, .f32⟩ : BufTy).Contents (Elt F))
  :: [] )
theorem bins0_sub : (bins0 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem bins0_fresh : (bins0 : List (HloOp τ sig (Elt F))).Forall fun op => op.fresh = ∅ := by simp only [List.Forall]; repeat' constructor

/-- The rounding. -/
abbrev bins1 : List (HloOp τ sig (Elt F)) :=
  ( StableHlo.TRef.unary (.of main_v27 : StableHlo.TRef sig ⟨S100x100x100, .f32⟩) (.of main_v28 : StableHlo.TRef sig ⟨S100x100x100, .f32⟩) Host.roundeven
  :: [] )
theorem bins1_sub : (bins1 : List (HloOp τ sig (Elt F))).Forall fun op => op.bufs ⊆ StableHlo.tcRefs τ sig :=
  StableHlo.unary_bufs_sub ..
theorem bins1_fresh : (bins1 : List (HloOp τ sig (Elt F))).Forall fun op => op.fresh = ∅ := by simp only [List.Forall]; repeat' constructor

/-- The shift, and the clip's bounds. -/
abbrev bins2 : List (HloOp τ sig (Elt F)) :=
  ( StableHlo.unary main_v28 main_v29 (fptosi 32 : (⟨S100x100x100, .f32⟩ : BufTy).Contents (Elt F) → (⟨S100x100x100, .i32⟩ : BufTy).Contents (Elt F))
  :: StableHlo.nullary main_c (constantI S_ 32 50#32)
  :: StableHlo.unary main_c main_v30 (broadcastInDim S100x100x100 ![] bcast_S_S100x100x100 : (⟨S_, .i32⟩ : BufTy).Contents (Elt F) → (⟨S100x100x100, .i32⟩ : BufTy).Contents (Elt F))
  :: StableHlo.binary main_v29 main_v30 main_v31 (addi : (⟨S100x100x100, .i32⟩ : BufTy).Contents (Elt F) → (⟨S100x100x100, .i32⟩ : BufTy).Contents (Elt F) → (⟨S100x100x100, .i32⟩ : BufTy).Contents (Elt F))
  :: StableHlo.nullary main_c_4 (constantI S_ 32 0#32)
  :: StableHlo.nullary main_c_5 (constantI S_ 32 99#32)
  :: [] )
theorem bins2_sub : (bins2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.nullary_bufs_sub ..⟩
theorem bins2_fresh : (bins2 : List (HloOp τ sig (Elt F))).Forall fun op => op.fresh = ∅ := by simp only [List.Forall]; repeat' constructor

/-- The clip. -/
abbrev bins3 : List (HloOp τ sig (Elt F)) :=
  ( StableHlo.TRef.unary (.of main_c_4 : StableHlo.TRef sig ⟨S_, .i32⟩) (.of main_call1_v0 : StableHlo.TRef sig ⟨S_, .i32⟩) id
  :: StableHlo.TRef.unary (.of main_call1_v0 : StableHlo.TRef sig ⟨S_, .i32⟩) (.of main_call1_v1 : StableHlo.TRef sig ⟨S100x100x100, .i32⟩) (broadcastInDim S100x100x100 ![] bcast_S_S100x100x100)
  :: StableHlo.TRef.binary (.of main_call1_v1 : StableHlo.TRef sig ⟨S100x100x100, .i32⟩) (.of main_v31 : StableHlo.TRef sig ⟨S100x100x100, .i32⟩) (.of main_call1_v2 : StableHlo.TRef sig ⟨S100x100x100, .i32⟩) maxsi
  :: StableHlo.TRef.unary (.of main_c_5 : StableHlo.TRef sig ⟨S_, .i32⟩) (.of main_call1_v3 : StableHlo.TRef sig ⟨S_, .i32⟩) id
  :: StableHlo.TRef.unary (.of main_call1_v3 : StableHlo.TRef sig ⟨S_, .i32⟩) (.of main_call1_v4 : StableHlo.TRef sig ⟨S100x100x100, .i32⟩) (broadcastInDim S100x100x100 ![] bcast_S_S100x100x100)
  :: StableHlo.TRef.binary (.of main_call1_v4 : StableHlo.TRef sig ⟨S100x100x100, .i32⟩) (.of main_call1_v2 : StableHlo.TRef sig ⟨S100x100x100, .i32⟩) (.of main_v32 : StableHlo.TRef sig ⟨S100x100x100, .i32⟩) minsi
  :: [] )
theorem bins3_sub : (bins3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem bins3_fresh : (bins3 : List (HloOp τ sig (Elt F))).Forall fun op => op.fresh = ∅ := by simp only [List.Forall]; repeat' constructor

/-- The table and the planes flattened; the outer angles' lines. -/
abbrev cut0 : List (HloOp τ sig (Elt F)) :=
  ( StableHlo.reshape main_v32 main_v33 (rfl : (.i32 : EltTy) = .i32) shapeCasts_S100x100x100_S100x10000
  :: StableHlo.reshape main_arg0 main_v34 (rfl : (.f32 : EltTy) = .f32) shapeCasts_S2x128x100x100_S256x10000
  :: StableHlo.unary main_v33 main_v35 ((extractStridedSlice S2x10000 ![0, 0] · slices_S100x10000_S2x10000_0_0) : (⟨S100x10000, .i32⟩ : BufTy).Contents (Elt F) → (⟨S2x10000, .i32⟩ : BufTy).Contents (Elt F))
  :: StableHlo.unary main_v33 main_v36 ((extractStridedSlice S2x10000 ![98, 0] · slices_S100x10000_S2x10000_98_0) : (⟨S100x10000, .i32⟩ : BufTy).Contents (Elt F) → (⟨S2x10000, .i32⟩ : BufTy).Contents (Elt F))
  :: StableHlo.binary main_v35 main_v36 main_v37 ((fun a b => concatenate S4x10000 0 [⟨S2x10000, a⟩, ⟨S2x10000, b⟩] concatenates_S2x10000_S2x10000_S4x10000_d0) : (⟨S2x10000, .i32⟩ : BufTy).Contents (Elt F) → (⟨S2x10000, .i32⟩ : BufTy).Contents (Elt F) → (⟨S4x10000, .i32⟩ : BufTy).Contents (Elt F))
  :: StableHlo.nullary main_c_6 (constantI S_ 32 108#32)
  :: [] )
theorem cut0_sub : (cut0 : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub .., StableHlo.binary_bufs_sub .., StableHlo.nullary_bufs_sub ..⟩
theorem cut0_fresh : (cut0 : List (HloOp τ sig (Elt F))).Forall fun op => op.fresh = ∅ := by simp only [List.Forall]; repeat' constructor

/-- Those lines padded. -/
abbrev cut1 : List (HloOp τ sig (Elt F)) :=
  ( StableHlo.TRef.unary (.of main_c_6 : StableHlo.TRef sig ⟨S_, .i32⟩) (.of main_call2_v0 : StableHlo.TRef sig ⟨S_, .i32⟩) id
  :: StableHlo.TRef.binary (.of main_v37 : StableHlo.TRef sig ⟨S4x10000, .i32⟩) (.of main_call2_v0 : StableHlo.TRef sig ⟨S_, .i32⟩) (.of main_v38 : StableHlo.TRef sig ⟨S4x10240, .i32⟩) (fun x v => pad S4x10240 ![0, 0] ![0, 240] ![0, 0] x v pads_S4x10000_S4x10240_000_02400 h_S_)
  :: [] )
theorem cut1_sub : (cut1 : List (HloOp τ sig (Elt F))).Forall fun op => op.bufs ⊆ StableHlo.tcRefs τ sig :=
  ⟨StableHlo.unary_bufs_sub .., StableHlo.binary_bufs_sub ..⟩
theorem cut1_fresh : (cut1 : List (HloOp τ sig (Elt F))).Forall fun op => op.fresh = ∅ := by simp only [List.Forall]; repeat' constructor

/-- And flattened. -/
abbrev cut2 : List (HloOp τ sig (Elt F)) :=
  ( StableHlo.reshape main_v38 main_v39 (rfl : (.i32 : EltTy) = .i32) shapeCasts_S4x10240_S40960
  :: StableHlo.nullary main_c_7 (constantI S_ 32 0#32)
  :: [] )
theorem cut2_sub : (cut2 : List (HloOp τ sig (Elt F))).Forall fun op => op.bufs ⊆ StableHlo.tcRefs τ sig :=
  ⟨StableHlo.reshape_bufs_sub .., StableHlo.nullary_bufs_sub ..⟩
theorem cut2_fresh : (cut2 : List (HloOp τ sig (Elt F))).Forall fun op => op.fresh = ∅ := by simp only [List.Forall]; repeat' constructor

/-- The planes padded. -/
abbrev cut3 : List (HloOp τ sig (Elt F)) :=
  ( StableHlo.TRef.unary (.of main_c_7 : StableHlo.TRef sig ⟨S_, .i32⟩) (.of main_call3_v0 : StableHlo.TRef sig ⟨S_, .f32⟩) (sitofp .f32)
  :: StableHlo.TRef.binary (.of main_v34 : StableHlo.TRef sig ⟨S256x10000, .f32⟩) (.of main_call3_v0 : StableHlo.TRef sig ⟨S_, .f32⟩) (.of main_v40 : StableHlo.TRef sig ⟨S256x10240, .f32⟩) (fun x v => pad S256x10240 ![0, 0] ![0, 240] ![0, 0] x v pads_S256x10000_S256x10240_000_02400 h_S_)
  :: [] )
theorem cut3_sub : (cut3 : List (HloOp τ sig (Elt F))).Forall fun op => op.bufs ⊆ StableHlo.tcRefs τ sig :=
  ⟨StableHlo.unary_bufs_sub .., StableHlo.binary_bufs_sub ..⟩
theorem cut3_fresh : (cut3 : List (HloOp τ sig (Elt F))).Forall fun op => op.fresh = ∅ := by simp only [List.Forall]; repeat' constructor

/-- The outer angles' sums without the padding bins; the inner angles' lines and the planes for the second call. -/
abbrev slabs : List (HloOp τ sig (Elt F)) :=
  ( StableHlo.reshape main_v41 main_v42 (rfl : (.f32 : EltTy) = .f32) shapeCasts_S4x8x4096_S4x256x128
  :: StableHlo.unary main_v42 main_v43 ((extractStridedSlice S4x256x100 ![0, 0, 0] · slices_S4x256x128_S4x256x100_0_0_0) : (⟨S4x256x128, .f32⟩ : BufTy).Contents (Elt F) → (⟨S4x256x100, .f32⟩ : BufTy).Contents (Elt F))
  :: StableHlo.unary main_v33 main_v44 ((extractStridedSlice S96x10000 ![2, 0] · slices_S100x10000_S96x10000_2_0) : (⟨S100x10000, .i32⟩ : BufTy).Contents (Elt F) → (⟨S96x10000, .i32⟩ : BufTy).Contents (Elt F))
  :: StableHlo.reshape main_v44 main_v45 (rfl : (.i32 : EltTy) = .i32) shapeCasts_S96x10000_S96x1x10000
  :: StableHlo.unary main_v34 main_v46 ((transpose S10000x256 [1, 0] · transposes_S256x10000_S10000x256_1_0) : (⟨S256x10000, .f32⟩ : BufTy).Contents (Elt F) → (⟨S10000x256, .f32⟩ : BufTy).Contents (Elt F))
  :: StableHlo.unary main_v46 main_v47 ((truncf .bf16 · bitsLt_bf16_f32) : (⟨S10000x256, .f32⟩ : BufTy).Contents (Elt F) → (⟨S10000x256, .bf16⟩ : BufTy).Contents (Elt F))
  :: [] )
theorem slabs_sub : (slabs : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.unary_bufs_sub ..⟩
theorem slabs_fresh : (slabs : List (HloOp τ sig (Elt F))).Forall fun op => op.fresh = ∅ := by simp only [List.Forall]; repeat' constructor

/-- The two calls' sums put together. -/
abbrev glue : List (HloOp τ sig (Elt F)) :=
  ( StableHlo.unary main_v43 main_v49 ((transpose S256x4x100 [1, 0, 2] · transposes_S4x256x100_S256x4x100_1_0_2) : (⟨S4x256x100, .f32⟩ : BufTy).Contents (Elt F) → (⟨S256x4x100, .f32⟩ : BufTy).Contents (Elt F))
  :: StableHlo.unary main_v48 main_v50 ((transpose S256x96x100 [2, 0, 1] · transposes_S96x100x256_S256x96x100_2_0_1) : (⟨S96x100x256, .f32⟩ : BufTy).Contents (Elt F) → (⟨S256x96x100, .f32⟩ : BufTy).Contents (Elt F))
  :: StableHlo.unary main_v49 main_v51 ((extractStridedSlice S256x2x100 ![0, 0, 0] · slices_S256x4x100_S256x2x100_0_0_0) : (⟨S256x4x100, .f32⟩ : BufTy).Contents (Elt F) → (⟨S256x2x100, .f32⟩ : BufTy).Contents (Elt F))
  :: StableHlo.unary main_v49 main_v52 ((extractStridedSlice S256x2x100 ![0, 2, 0] · slices_S256x4x100_S256x2x100_0_2_0) : (⟨S256x4x100, .f32⟩ : BufTy).Contents (Elt F) → (⟨S256x2x100, .f32⟩ : BufTy).Contents (Elt F))
  :: StableHlo.nary ![main_v51, main_v50, main_v52] main_v53 (fun u => (concatenate S256x100x100 1 [⟨S256x2x100, (u 0 : (⟨S256x2x100, .f32⟩ : BufTy).Contents (Elt F))⟩, ⟨S256x96x100, (u 1 : (⟨S256x96x100, .f32⟩ : BufTy).Contents (Elt F))⟩, ⟨S256x2x100, (u 2 : (⟨S256x2x100, .f32⟩ : BufTy).Contents (Elt F))⟩] concatenates_S256x2x100_S256x96x100_S256x2x100_S256x100x100_d1 : (⟨S256x100x100, .f32⟩ : BufTy).Contents (Elt F)))
  :: StableHlo.reshape main_v53 main_v54 (rfl : (.f32 : EltTy) = .f32) shapeCasts_S256x100x100_S2x128x100x100
  :: [] )
theorem glue_sub : (glue : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.reshape_bufs_sub ..⟩
theorem glue_fresh : (glue : List (HloOp τ sig (Elt F))).Forall fun op => op.fresh = ∅ := by simp only [List.Forall]; repeat' constructor

/-! ## @main's items -/

/-- The lines before the first call. -/
abbrev before : List (List (HloOp τ sig (Elt F))) := [bins0, bins1, bins2, bins3, cut0, cut1, cut2, cut3]

theorem before_sub : (before : List (List (HloOp τ sig (Elt F)))).flatten.Forall fun op => op.bufs ⊆ StableHlo.tcRefs τ sig := by
  rw [List.forall_iff_forall_mem]
  intro op h
  obtain ⟨l, hl, ho⟩ := List.mem_flatten.mp h
  have : ∀ l ∈ (before : List (List (HloOp τ sig (Elt F)))), l.Forall fun op => op.bufs ⊆ StableHlo.tcRefs τ sig :=
    List.forall_iff_forall_mem.mp ⟨bins0_sub, bins1_sub, bins2_sub, bins3_sub, cut0_sub, cut1_sub, cut2_sub, cut3_sub⟩
  exact List.forall_iff_forall_mem.mp (this l hl) op ho

theorem before_fresh : (before : List (List (HloOp τ sig (Elt F)))).flatten.Forall fun op => op.fresh = ∅ := by
  rw [List.forall_iff_forall_mem]
  intro op h
  obtain ⟨l, hl, ho⟩ := List.mem_flatten.mp h
  have : ∀ l ∈ (before : List (List (HloOp τ sig (Elt F)))), l.Forall fun op => op.fresh = ∅ :=
    List.forall_iff_forall_mem.mp ⟨bins0_fresh, bins1_fresh, bins2_fresh, bins3_fresh, cut0_fresh, cut1_fresh, cut2_fresh, cut3_fresh⟩
  exact List.forall_iff_forall_mem.mp (this l hl) op ho

/-- @main is its items in order. -/
theorem main_items (d : Dev nD) : main (F := F) d = Pipeline.chain
    [StableHlo.seq before.flatten, sc.run d 0, StableHlo.seq slabs,
      Prog.lift (.customCall (SparseCore.inner (Pipeline.entry 0)) ()), StableHlo.seq glue] := by
  chain_rfl

end Cert.KernelIdeal.Walk

end
-- ==== Proof.Ideal.Whole.lean ====
/- The launch: @main's lines and its two calls, run one after the other over the buffers the thread holds. -/
module

public import proofs.«01_k».proof.Proof.Ideal.Host

@[expose] public section

noncomputable section

namespace Cert.KernelIdeal.Walk

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev EH : Emb UH 𝕄 := embL
abbrev EP : Emb UP 𝕄 := (Emb.inl : Emb UP (UP × Counters)).trans embR

instance EP_landsIn : (EP (F := F)).LandsIn (upEmb : UEmb _ 𝕄) := by
  unfold EP embR; infer_instance

theorem pinj : Function.Injective (Pipeline.cellOf (nD := nD) (τ := τ) (Pipeline.pin (pcfgs (F := F)) adm)) := launch1.toP.cellOf_inj adm

/-! ## What the buffers hold along @main -/

section Along

variable (m : (ℓ : Loc nD τ sig) → Buf (Elt F) ℓ)

/-- At the start, -/
abbrev W0 (d : Dev nD) : Valuation τ sig (Elt F) := fun b => m (d, b)
/-- before the first call, -/
def WA (d : Dev nD) : Valuation τ sig (Elt F) := StableHlo.after before.flatten (W0 m d)

abbrev planes (d : Dev nD) : S256x10240.Idx → F .f32 := WA m d (Proc.devRef .tc main_v40)
abbrev lines (d : Dev nD) : S40960.Idx → BitVec 32 := WA m d (Proc.devRef .tc main_v39)
abbrev stale (d : Dev nD) : S4x8x4096.Idx → F .f32 := WA m d (Proc.devRef .tc main_v41)

variable (h : ∀ d j, (lines m d j).toNat < 128)

/-- after it, -/
def WB (d : Dev nD) : Valuation τ sig (Elt F) := Function.update (WA m d) (Proc.devRef .tc main_v41) (outv (planes m d) (h d))
/-- before the second, -/
def WC (d : Dev nD) : Valuation τ sig (Elt F) := StableHlo.after slabs (WB m h d)
abbrev VC (d : Dev nD) (b : Ref sig .tc) : Buf (Elt F) ((d : Thread nD τ).loc b) := WC m h d (Proc.devRef .tc b)
/-- after it, -/
def WD (d : Dev nD) : Valuation τ sig (Elt F) := Function.update (WC m h d) (Proc.devRef .tc main_v48) (summed (VC m h) d)
abbrev VD (d : Dev nD) (b : Ref sig .tc) : Buf (Elt F) ((d : Thread nD τ).loc b) := WD m h d (Proc.devRef .tc b)
/-- and at the end. -/
def WE (d : Dev nD) : Valuation τ sig (Elt F) := StableHlo.after glue (WD m h d)

theorem VD_result (d : Dev nD) : VD m h d main_v48 = summed (VC m h) d := by
  unfold VD WD; exact Function.update_self ..
theorem VD_other (d : Dev nD) (b : Ref sig .tc) (hb : b ≠ main_v48) : VD m h d b = VC m h d b := by
  unfold VD WD; exact Function.update_of_ne (StableHlo.devRef_ne_of_ne hb) ..

/-! ## The first call over the buffers held -/

/-- The first call's three buffers. -/
def three : Finset (DevRef τ sig) := {Proc.devRef .tc main_v40, Proc.devRef .tc main_v39, Proc.devRef .tc main_v41}

theorem three_sub : three ⊆ Pipeline.ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (StableHlo.held (d.tc : Thread nD τ) three W : sProp 𝕄)
      = iprop((featLoc d ↦{fullShare} W (Proc.devRef .tc main_v40)) ∗ (tabLoc d ↦{fullShare} W (Proc.devRef .tc main_v39)) ∗ (outLoc d ↦{fullShare} W (Proc.devRef .tc main_v41))) := by
  unfold StableHlo.held three
  rw [SparseCore.bigSep_insert' (by decide), SparseCore.bigSep_insert' (by decide), bigSep_singleton]

theorem three_before (d : Dev nD) :
    (StableHlo.held (d.tc : Thread nD τ) three (WA m d) : sProp 𝕄) = bigSep Finset.univ fun c : Fin 2 => corePts d c (planes m d) (lines m d) (stale m d) := by
  rw [held_three]; exact whole_cores d _ _ _

theorem three_after (d : Dev nD) :
    (StableHlo.held (d.tc : Thread nD τ) three (WB m h d) : sProp 𝕄) = bigSep Finset.univ fun c : Fin 2 => corePts d c (planes m d) (lines m d) (outv (planes m d) (h d)) := by
  rw [held_three, ← whole_cores d]
  unfold WB
  rw [Function.update_self, Function.update_of_ne (StableHlo.devRef_ne_of_ne (by decide)), Function.update_of_ne (StableHlo.devRef_ne_of_ne (by decide))]

theorem rest_same (d : Dev nD) :
    (StableHlo.held (d.tc : Thread nD τ) (Pipeline.ucRefs τ sig \ three) (WB m h d) : sProp 𝕄) = StableHlo.held (d.tc : Thread nD τ) (Pipeline.ucRefs τ sig \ three) (WA m d) :=
  StableHlo.held_congr _ fun b hb => by
    unfold WB
    refine Function.update_of_ne (fun e => (Finset.mem_sdiff.mp hb).2 ?_) ..
    rw [e]; simp [three]

/-- The launch's record of what the first call carries. -/
abbrev PP : (K (F := F)).Pay (nD := nD) (Val := Elt F) (Name := ℕ) (U := UU) := P (planes m) (lines m) (stale m) h

theorem st_eq (d : Dev nD) : (bigSep Finset.univ fun c : Fin ((K (F := F)).nCore 0) => (PP m h).st 0 d c)
    = (StableHlo.held (d.tc : Thread nD τ) three (WA m d) : sProp 𝕄) := (three_before m d).symm
theorem dn_eq (d : Dev nD) : (bigSep Finset.univ fun c : Fin ((K (F := F)).nCore 0) => (PP m h).dn 0 d c)
    = (StableHlo.held (d.tc : Thread nD τ) three (WB m h d) : sProp 𝕄) := (three_after m h d).symm

/-! ## @main -/

/-- The second call's ghost state on a device. -/
abbrev ghost (F : FTy → Type) [FloatOps F] (d : Dev nD) : sProp (MT nD τ sig (HIx 1) (Elt F) ℕ UU ℕ) :=
  iprop(Pipeline.cellsGhost (Pipeline.pin (pcfgs (F := F)) adm) EP 0 d ∗ Pipeline.toksInit (Pipeline.pin (pcfgs (F := F)) adm) EP 0 d)

abbrev FIN (d : Dev nD) : sProp 𝕄 := StableHlo.held (d.tc : Thread nD τ) (Pipeline.ucRefs τ sig) (WE m h d)

theorem Otc_done (d : Dev nD) : (K (F := F)).Otc d 1 = 0 := by
  unfold SparseCore.Cfg.Otc
  exact Finset.sum_eq_zero fun q _ => if_neg (by have := q.isLt; omega)

theorem below (d : Dev nD) (W : Waits sig (HIx 1)) : (K (F := F)).WBelow (T d) W (8 * 1) := by
  intro p _
  match hp : p.2 with
  | none => show (0 : ℕ) ≤ _; omega
  | some q =>
    have := (K (F := F)).lev_some_le (T d, p.1) q
    have := q.isLt
    show (K (F := F)).lev (T d, p.1) (some q) ≤ _
    omega

/-- The second call's segment. -/
abbrev seg : Pipeline.RegionSeg (pcfgs (F := F)) adm (pdats (VC m h)) none defs₀ 𝒱₀ (K (F := F)).L (K (F := F)).lev 0 :=
  reg (VC m h) (VD m h) (fun _ => BI.emp) (VD_result m h) (VD_other m h)

theorem seg_pre (d : Dev nD) : (seg m h).pre d
    = iprop(unscopedBufs d (VC m h d) ∗ BI.emp ∗ ∃ W, owes (d : Thread nD τ) (0 : CellTallies nD τ sig (HIx 1)) W) := rfl
theorem seg_post (d : Dev nD) : (seg m h).post d
    = iprop(unscopedBufs d (VD m h d) ∗ BI.emp ∗ ∃ W, owes (d : Thread nD τ) (0 : CellTallies nD τ sig (HIx 1)) W) := rfl

theorem held_C (d : Dev nD) : (StableHlo.held (d.tc : Thread nD τ) (Pipeline.ucRefs τ sig) (WC m h d) : sProp 𝕄) = unscopedBufs d (VC m h d) :=
  (Pipeline.unscopedBufs_held d (WC m h d)).symm
theorem held_D (d : Dev nD) : (StableHlo.held (d.tc : Thread nD τ) (Pipeline.ucRefs τ sig) (WD m h d) : sProp 𝕄) = unscopedBufs d (VD m h d) :=
  (Pipeline.unscopedBufs_held d (WD m h d)).symm

theorem no_bound (x : ℕ) : ∀ u ∈ (none : Option (Variants.lift 𝒱₀).V), (Variants.lift 𝒱₀).lt (.inr x) u := fun _ hu => nomatch hu

/-- The second call, from the buffers before it to those after it, in the program of the pipelines alone; -/
theorem second₀ [∀ e, Nonempty (Elt F e)] (d : Dev nD) {Φ : PUnit.{1} → sProp 𝕄} :
    iprop(boundary (d.tc : Thread nD τ) ∗ StableHlo.held (d.tc : Thread nD τ) (Pipeline.ucRefs τ sig) (WC m h d) ∗ (∃ W, owes (d.tc : Thread nD τ) (0 : CellTallies nD τ sig (HIx 1)) W)
        ∗ levAts (K (F := F)).L (K (F := F)).lev ∗ ghost F d
        ∗ (iprop(boundary (d.tc : Thread nD τ) ∗ StableHlo.held (d.tc : Thread nD τ) (Pipeline.ucRefs τ sig) (WD m h d) ∗ (∃ W, owes (d.tc : Thread nD τ) (0 : CellTallies nD τ sig (HIx 1)) W)) -∗ Φ PUnit.unit))
      ⊢ wp frame (wpE (Pipeline.defs (pcfgs (F := F)) defs₀) (Variants.lift 𝒱₀) (d.tc : Thread nD τ) none) Set.univ (.op (.customCall (Pipeline.entry 0) ()) fun _ => .ret PUnit.unit) Φ := by
  have e := Pipeline.RegionSeg.wp (P := Fin 1) (pcfgs (F := F)) adm (pdats (VC m h)) none pinj (EP (F := F)) defs₀ 𝒱₀ (K (F := F)).L (K (F := F)).lev
    (seg m h) d none (no_bound _) (fun _ => .ret PUnit.unit) Φ
  rw [seg_pre, seg_post, ← held_C, ← held_D, wp_ret] at e
  iintro ⟨Hb, Hub, HO, Hlv, ⟨Hg, Ht⟩, Hk⟩
  iapply e
  isplitl [Hk]
  · iintro ⟨Hb, Hub, -, HO⟩
    imodintro
    iapply Hk
    isplitl [Hb]; · iexact Hb
    isplitl [Hub]; · iexact Hub
    iexact HO
  isplitl [Hb]; · iexact Hb
  isplitl [Hub HO]
  · isplitl [Hub]; · iexact Hub
    isplitr; · iempintro
    iexact HO
  isplitl [Hlv]; · iexact Hlv
  isplitl [Hg]; · iexact Hg
  iexact Ht

/-- and in the whole program. -/
theorem second [∀ e, Nonempty (Elt F e)] (d : Dev nD) {Φ : PUnit.{1} → sProp 𝕄} :
    iprop(boundary (d.tc : Thread nD τ) ∗ StableHlo.held (d.tc : Thread nD τ) (Pipeline.ucRefs τ sig) (WC m h d) ∗ (∃ W, owes (d.tc : Thread nD τ) (0 : CellTallies nD τ sig (HIx 1)) W)
        ∗ levAts (K (F := F)).L (K (F := F)).lev ∗ ghost F d
        ∗ (iprop(boundary (d.tc : Thread nD τ) ∗ StableHlo.held (d.tc : Thread nD τ) (Pipeline.ucRefs τ sig) (WD m h d) ∗ (∃ W, owes (d.tc : Thread nD τ) (0 : CellTallies nD τ sig (HIx 1)) W)) -∗ Φ PUnit.unit))
      ⊢ wp frame (wpE ((K (F := F)).defs (D (F := F))) 𝒱 (d.tc : Thread nD τ) none) Set.univ
          (SparseCore.liftProg (.op (.customCall (Pipeline.entry 0) ()) fun _ => .ret PUnit.unit)) Φ := by
  have e := (K (F := F)).wp_liftProg (D (F := F)) 𝒱 (d.tc : Thread nD τ) Set.univ none (.op (.customCall (Pipeline.entry 0) ()) fun _ => .ret PUnit.unit) Φ
  exact (second₀ m h d (Φ := Φ)).trans e

theorem lift_second : (Prog.lift (.customCall (SparseCore.inner (Pipeline.entry 0)) ()) : Prog (TpuEff nD τ sig (Elt F) (SparseCore.Sig (ΛP (F := F)) 1) .tc) PUnit.{1})
    = SparseCore.liftProg (.op (.customCall (Pipeline.entry 0) ()) fun _ => .ret PUnit.unit) := rfl

/-- @main on a device's TensorCore. -/
theorem hmain [∀ e, Nonempty (Elt F e)] (ρ : Dev nD → PrngReg) (κ : GSem nD τ sig → ℕ) (d : Dev nD) :
    iprop((K (F := F)).ctx EH (PP m h) κ ∗ (K (F := F)).tcSt EH d 0 ∗ (K (F := F)).tcRes m ρ d ∗ ghost F d)
      ⊢ wp frame (wpE ((K (F := F)).defs (D (F := F))) 𝒱 (SparseCore.T d) none) Set.univ (main d)
          fun _ => iprop((K (F := F)).tcSt EH d 1 ∗ FIN m h d ∗ (K (F := F)).tcEnd d) := by
  have h0 : (unscopedBufs d (fun b => m ((SparseCore.T d).loc b)) : sProp 𝕄) = StableHlo.held (d.tc : Thread nD τ) (Pipeline.ucRefs τ sig) (W0 m d) :=
    Pipeline.unscopedBufs_held d (W0 m d)
  unfold SparseCore.Cfg.tcRes SparseCore.Cfg.tcEnd
  rw [main_items, h0, lift_second]
  simp only [Pipeline.chain_cons, Pipeline.chain_nil]
  iintro ⟨#Hctx, Hst, ⟨Hb, Hh, Hts, -⟩, Hg⟩
  ihave #Hlv := (SparseCore.Cfg.ctx_levAts κ) $$ Hctx
  iapply (StableHlo.wp_seq 𝒱 none Set.univ d (Pipeline.ucRefs τ sig) _ before.flatten
    (fun op ho => Pipeline.sub_ucRefs op (List.forall_iff_forall_mem.mp before_sub op ho))
    (fun op ho => List.forall_iff_forall_mem.mp before_fresh op ho) (W0 m d)) $$ [Hb Hh]
  · isplitl [Hb] <;> iassumption
  iintro ⟨Hb, Hh⟩
  rw [show StableHlo.after before.flatten (W0 m d) = WA m d from rfl]
  ihave Hh' := (Entails.of_eq (StableHlo.held_sub_split (d.tc : Thread nD τ) three_sub (WA m d))) $$ Hh
  icases Hh' with ⟨H3, Hr⟩
  rw [wp_bind]
  iapply ((K (F := F)).wp_run (D (F := F)) 𝒱 (EH := EH) (P := PP m h) κ d 0) $$ [Hst H3 Hr Hb Hts Hg]
  isplitr; · iexact Hctx
  isplitl [Hst]; · iexact Hst
  isplitl [H3]
  · rw [st_eq]; iexact H3
  iintro ⟨Hst, Hdn⟩
  ihave H3 := (Entails.of_eq (dn_eq m h d)) $$ Hdn
  ihave Hh := (show iprop(StableHlo.held (d.tc : Thread nD τ) three (WB m h d) ∗ StableHlo.held (d.tc : Thread nD τ) (Pipeline.ucRefs τ sig \ three) (WA m d))
      ⊢ (StableHlo.held (d.tc : Thread nD τ) (Pipeline.ucRefs τ sig) (WB m h d) : sProp 𝕄) from
    Entails.of_eq (by rw [StableHlo.held_sub_split (d.tc : Thread nD τ) three_sub (WB m h d), rest_same])) $$ [H3 Hr]
  · isplitl [H3] <;> iassumption
  iapply (StableHlo.wp_seq 𝒱 none Set.univ d (Pipeline.ucRefs τ sig) _ slabs
    (fun op ho => Pipeline.sub_ucRefs op (List.forall_iff_forall_mem.mp slabs_sub op ho))
    (fun op ho => List.forall_iff_forall_mem.mp slabs_fresh op ho) (WB m h d)) $$ [Hb Hh]
  · isplitl [Hb] <;> iassumption
  iintro ⟨Hb, Hh⟩
  rw [show StableHlo.after slabs (WB m h d) = WC m h d from rfl]
  unfold SparseCore.Cfg.tcSt
  icases Hst with ⟨⟨%W, -, HO⟩, Hst⟩
  rw [wp_bind]
  iapply (second m h d)
  isplitl [Hb]; · iexact Hb
  isplitl [Hh]; · iexact Hh
  isplitl [HO]
  · iexists W
    rw [show (K (F := F)).Otc d ((0 : Fin 1).val + 1) = 0 from Otc_done d]
    iexact HO
  isplitr; · iexact Hlv
  isplitl [Hg]; · iexact Hg
  iintro ⟨Hb, Hh, ⟨%W', HO⟩⟩
  iapply (StableHlo.wp_seq 𝒱 none Set.univ d (Pipeline.ucRefs τ sig) _ glue
    (fun op ho => Pipeline.sub_ucRefs op (List.forall_iff_forall_mem.mp glue_sub op ho))
    (fun op ho => List.forall_iff_forall_mem.mp glue_fresh op ho) (WD m h d)) $$ [Hb Hh]
  · isplitl [Hb] <;> iassumption
  iintro ⟨Hb, Hh⟩
  rw [show StableHlo.after glue (WD m h d) = WE m h d from rfl, wp_pure]
  imodintro
  isplitl [HO Hst]
  · isplitl [HO]
    · iexists W'; isplitr; · ipureintro; exact below d W'
      rw [Otc_done]; iexact HO
    iexact Hst
  isplitl [Hh]; · iexact Hh
  isplitl [Hb] <;> iassumption

end Along

end Cert.KernelIdeal.Walk

end
-- ==== Proof.Ideal.Run.lean ====
/- What a run of the whole program leaves in the argument and in the result. -/
module

public import proofs.«01_k».proof.Proof.Ideal.Whole

@[expose] public section

noncomputable section

namespace Cert.KernelIdeal.Walk

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (h : ∀ d j, (lines m d j).toNat < 128)

/-! ## The ghost state the launch hands over -/

theorem nothing {I : Type} (s : Finset I) : (bigSep s fun _ => iprop(emp)) = (iprop(emp) : sProp 𝕄) := bigSep_emp_const s

def u₀ : UU :=
  (initOf (K (F := F)).hsCells (K (F := F)).hsToks, (initOf (Pipeline.cells (Pipeline.pin (pcfgs (F := F)) adm) pinj) (Pipeline.launchToks (Pipeline.pin (pcfgs (F := F)) adm) pinj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghost F d)
        ∗ bigSep Finset.univ fun thr : Thread nD τ => bigSep Finset.univ fun q : Fin 1 => (PP m h).x q thr) := by
  unfold u₀
  iintro Hu
  ihave H := (ownU_pair (initOf (K (F := F)).hsCells (K (F := F)).hsToks) _) $$ Hu
  icases H with ⟨HH, HR⟩
  ihave H := (own_pair_emb embR (initOf (Pipeline.cells (Pipeline.pin (pcfgs (F := F)) adm) pinj) (Pipeline.launchToks (Pipeline.pin (pcfgs (F := F)) adm) pinj)) (1 : Counters)) $$ HR
  icases H with ⟨HP, -⟩
  imod (Pipeline.fund_ghost (Pipeline.pin (pcfgs (F := F)) adm) EP pinj) $$ HP with ⟨HC, HT⟩
  imodintro
  isplitl [HH]; · iexact HH
  isplitl [HC HT]
  · rw [bigSep_sep']
    isplitl [HC]
    · rw [show (bigSep Finset.univ fun d : Dev nD => Pipeline.cellsGhost (Pipeline.pin (pcfgs (F := F)) adm) EP 0 d)
          = (bigSep Finset.univ fun d : Dev nD => bigSep Finset.univ fun p : Fin 1 => Pipeline.cellsGhost (Pipeline.pin (pcfgs (F := F)) adm) EP p d : sProp 𝕄)
          from bigSep_congr fun d _ => (bigSep_univ_of_subsingleton (Φ := fun p : Fin 1 => Pipeline.cellsGhost (Pipeline.pin (pcfgs (F := F)) adm) EP p d) (0 : Fin 1)).symm]
      iexact HC
    · rw [show (bigSep Finset.univ fun d : Dev nD => Pipeline.toksInit (Pipeline.pin (pcfgs (F := F)) adm) EP 0 d)
          = (bigSep Finset.univ fun d : Dev nD => bigSep Finset.univ fun p : Fin 1 => Pipeline.toksInit (Pipeline.pin (pcfgs (F := F)) adm) EP p d : sProp 𝕄)
          from bigSep_congr fun d _ => (bigSep_univ_of_subsingleton (Φ := fun p : Fin 1 => Pipeline.toksInit (Pipeline.pin (pcfgs (F := F)) adm) EP p d) (0 : Fin 1)).symm]
      iexact HT
  rw [show (bigSep Finset.univ fun thr : Thread nD τ => bigSep Finset.univ fun q : Fin 1 => (PP m h).x q thr) = (bigSep Finset.univ fun _ => iprop(emp) : sProp 𝕄) from
    bigSep_congr fun _ _ => bigSep_univ_of_subsingleton (0 : Fin 1), nothing]
  iempintro

/-! ## The argument and the result at the end -/

abbrev argLoc (d : Dev nD) : Loc nD τ sig := (d.tc : Thread nD τ).loc main_arg0
abbrev resLoc (d : Dev nD) : Loc nD τ sig := (d.tc : Thread nD τ).loc main_v54

def fq (d : Dev nD) (s' : Phys nD τ sig (Elt F)) : Prop :=
  s'.mem.mem (argLoc d) = WE m h d (Proc.devRef .tc main_arg0) ∧ s'.mem.mem (resLoc d) = WE m h d (Proc.devRef .tc main_v54)

/-- The argument's and the result's buffers. -/
def ends : Finset (DevRef τ sig) := {Proc.devRef .tc main_arg0, Proc.devRef .tc main_v54}

theorem ends_sub : ends ⊆ Pipeline.ucRefs τ sig := by
  intro b hb
  simp only [ends, Finset.mem_insert, Finset.mem_singleton] at hb
  rcases hb with rfl | rfl <;> exact Finset.mem_filter.mpr ⟨StableHlo.devRef_mem_tcRefs _, by decide⟩

theorem held_ends (d : Dev nD) (W : Valuation τ sig (Elt F)) :
    (StableHlo.held (d.tc : Thread nD τ) ends W : sProp 𝕄)
      = iprop((argLoc d ↦{fullShare} W (Proc.devRef .tc main_arg0)) ∗ (resLoc d ↦{fullShare} W (Proc.devRef .tc main_v54))) := by
  unfold StableHlo.held ends
  rw [SparseCore.bigSep_insert' (by decide), bigSep_singleton]

set_option maxRecDepth 16384 in
theorem hfin (d : Dev nD) (s' : Phys nD τ sig (Elt F)) : iprop(FIN m h d ∗ SI s') ⊢ (⌜fq m h d s'⌝ : sProp 𝕄) := by
  unfold FIN
  rw [StableHlo.held_sub_split (d.tc : Thread nD τ) ends_sub, held_ends]
  iintro ⟨⟨⟨Hi, Hx⟩, -⟩, HSI⟩
  ihave H := (persistent_entails_right (SI_pointsTo_agree (st := s') (ℓ := argLoc d) (I := Finset.univ) (q := fullShare) (f := WE m h d (Proc.devRef .tc main_arg0)))) $$ [HSI Hi]
  · isplitl [HSI] <;> iassumption
  icases H with ⟨%h1, HSI, -⟩
  ihave H := (SI_pointsTo_agree (st := s') (ℓ := resLoc d) (I := Finset.univ) (q := fullShare) (f := WE m h d (Proc.devRef .tc main_v54))) $$ [HSI Hx]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (argLoc c) = WE m h c (Proc.devRef .tc main_arg0) ∧ r.2.mem (resLoc c) = WE m h c (Proc.devRef .tc main_v54)) ∧ r.2.sem = fun _ => 0

theorem run_main [∀ e, Nonempty (Elt F e)] :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := PP m h) (A := ∅) facts v₀
    (fun q hq => match q with | 0 => nomatch hq)
    (fun q _ => match q with | 0 => tileObl (planes m) (lines m) (stale m) h)
    (fun q _ => match q with | 0 => SparseCore.Cfg.VecSplit.of_plain (vecSplit (planes m) (lines m) (stale m) h))
    m ρ main (fun d => ghost F d) (FIN m h) (u₀ (F := F)) (sep_elim_left.trans (hu₀ m h)) (hmain m h ρ) (fq m h) (hfin m h) (QC m h) (fun _ h hz => ⟨h, hz⟩)

end Cert.KernelIdeal.Walk

end
-- ==== Proof.Ideal.Read.lean ====
/- What the buffers hold along @main, in terms of the argument. -/
module

public import proofs.«01_k».proof.Proof.Spec
public import proofs.«01_k».proof.Proof.Ideal.Run
public import Idealize.ShloMosaic.Lib.Pipeline.Value
public import Idealize.ShloMosaic.Lib.StableHlo.RunRead
public import Idealize.ShloMosaic.Lib.Claim
public import Idealize.ShloMosaic.Lib.KernelVsHost

@[expose] public section

noncomputable section

namespace Cert.KernelIdeal.Walk

open Cert.KernelIdeal Cert.KernelIdeal.Gen
open Idealize.ShloMosaic Idealize.ShloMosaic.TcCoe Idealize.ShloMosaic.ValueIdx Idealize.SL.Sem

variable {F : FTy → Type} [FloatOps F]

/-- The table of bins, one line of pixels per angle. -/
abbrev table (F : FTy → Type) [FloatOps F] : IVec S100x10000 32 := shapeCast S100x10000 (Spec.tab F) shapeCasts_S100x100x100_S100x10000

/-- The four angles' lines of the first call, lengthened by a bin no result reads. -/
abbrev lined (T : IVec S100x10000 32) : IVec S40960 32 :=
  shapeCast S40960 (pad S4x10240 ![0, 0] ![0, 240] ![0, 0]
    (concatenate S4x10000 0 [⟨S2x10000, extractStridedSlice S2x10000 ![0, 0] T slices_S100x10000_S2x10000_0_0⟩,
      ⟨S2x10000, extractStridedSlice S2x10000 ![98, 0] T slices_S100x10000_S2x10000_98_0⟩] concatenates_S2x10000_S2x10000_S4x10000_d0)
    (constantI S_ 32 108#32) pads_S4x10000_S4x10240_000_02400 h_S_) shapeCasts_S4x10240_S40960

variable (m : (ℓ : Loc nD τ sig) → Buf (Elt F) ℓ)

/-- The argument. -/
abbrev arg (d : Dev nD) : S2x128x100x100.Idx → F .f32 := m ((d.tc : Thread nD τ).loc main_arg0)
/-- The argument, one line of pixels per plane. -/
abbrev flat (x : S2x128x100x100.Idx → F .f32) : S256x10000.Idx → F .f32 := shapeCast S256x10000 x shapeCasts_S2x128x100x100_S256x10000

/-- After the distances, -/
def X0 (d : Dev nD) : Valuation τ sig (Elt F) := StableHlo.after bins0 (W0 m d)
/-- the rounding and the shift, -/
def X1 (d : Dev nD) : Valuation τ sig (Elt F) := StableHlo.after bins2 (StableHlo.after bins1 (X0 m d))
/-- the clip. -/
def X2 (d : Dev nD) : Valuation τ sig (Elt F) := StableHlo.after bins3 (X1 m d)

theorem WA_stages (d : Dev nD) : WA m d = StableHlo.after cut3 (StableHlo.after cut2 (StableHlo.after cut1 (StableHlo.after cut0 (X2 m d)))) := by
  unfold WA X2 X1 X0
  simp only [before, List.flatten_cons, List.flatten_nil, List.append_nil, StableHlo.after_append]

theorem X0_read (d : Dev nD) : (X0 m d (Proc.devRef .tc main_v27) : FVec F S100x100x100 .f32)
    = addf (broadcastInDim S100x100x100 ![0, 1, 2] bcast_S100x1x100_S100x100x100_0_1_2 (Spec.xCos F)) (broadcastInDim S100x100x100 ![0, 1, 2] bcast_S100x100x1_S100x100x100_0_1_2 (Spec.ySin F)) := by
  unfold X0
  entry_read
  rfl

theorem X1_read (d : Dev nD) : (X1 m d (Proc.devRef .tc main_v31) : IVec S100x100x100 32) = Spec.rawTab F := by
  unfold X1
  entry_read
  rw [X0_read]
  rfl

theorem X1_bounds (d : Dev nD) : (X1 m d (Proc.devRef .tc main_c_4) : IVec S_ 32) = constantI S_ 32 0#32 ∧ (X1 m d (Proc.devRef .tc main_c_5) : IVec S_ 32) = constantI S_ 32 99#32 := by
  unfold X1
  constructor <;> (entry_read; rfl)

theorem X2_read (d : Dev nD) : (X2 m d (Proc.devRef .tc main_v32) : IVec S100x100x100 32) = Spec.tab F := by
  unfold X2
  entry_read
  rw [X1_read, (X1_bounds m d).1, (X1_bounds m d).2]
  rfl

set_option maxRecDepth 20000 in
theorem table_read (d : Dev nD) : (WA m d (Proc.devRef .tc main_v33) : IVec S100x10000 32) = table F := by
  rw [WA_stages]
  entry_read
  rw [X2_read]
  rfl

set_option maxRecDepth 20000 in
theorem flat_read (d : Dev nD) : (WA m d (Proc.devRef .tc main_v34) : S256x10000.Idx → F .f32) = flat (arg m d) := by
  unfold WA
  entry_read
  rfl

set_option maxRecDepth 20000 in
theorem lines_read (d : Dev nD) : lines m d = lined (table F) := by
  unfold lines
  rw [WA_stages]
  entry_read
  rw [X2_read]
  rfl

set_option maxRecDepth 20000 in
theorem planes_read (d : Dev nD) : planes m d = pad S256x10240 ![0, 0] ![0, 240] ![0, 0] (flat (arg m d)) (sitofp .f32 (constantI S_ 32 0#32)) pads_S256x10000_S256x10240_000_02400 h_S_ := by
  unfold planes WA
  entry_read
  rfl

/-! ## The first call's operands, element by element -/

/-- The angle of the first call's line `b`. -/
def angleOf (b : Fin 4) : Fin 100 := if h : b.val < 2 then ⟨b.val, by omega⟩ else ⟨b.val + 96, by have := b.isLt; omega⟩

theorem joined_apply (T : IVec S100x10000 32) (b : Fin 4) (p : Fin 10000) :
    concatenate S4x10000 0 [⟨S2x10000, extractStridedSlice S2x10000 ![0, 0] T slices_S100x10000_S2x10000_0_0⟩,
      ⟨S2x10000, extractStridedSlice S2x10000 ![98, 0] T slices_S100x10000_S2x10000_98_0⟩] concatenates_S2x10000_S2x10000_S4x10000_d0 (ix2 b p) = T (ix2 (angleOf b) p) := by
  have hb := b.isLt
  by_cases h : b.val < 2
  · refine (concatenate_pair_apply_left (t := S4x10000) (s₁ := S2x10000) (s₂ := S2x10000) 0 _ _ _ (ix2 b p) rfl (ix2 ⟨b.val, h⟩ p) ?_).trans
      (extractStridedSlice_apply _ _ _ _ _ ?_)
    · intro a
      match a with
      | ⟨0, _⟩ => rfl
      | ⟨1, _⟩ => rfl
    · intro a
      unfold angleOf; rw [dif_pos h]
      match a with
      | ⟨0, _⟩ => show b.val = 0 + b.val; omega
      | ⟨1, _⟩ => show p.val = 0 + p.val; omega
  · refine (concatenate_pair_apply_right (t := S4x10000) (s₁ := S2x10000) (s₂ := S2x10000) 0 _ _ _ (ix2 b p) rfl rfl (ix2 ⟨b.val - 2, by omega⟩ p) ?_ ?_).trans
      (extractStridedSlice_apply _ _ _ _ _ ?_)
    · intro a ha
      match a, ha with
      | ⟨0, _⟩, ha => exact absurd rfl ha
      | ⟨1, _⟩, _ => rfl
    · show b.val - 2 + 2 = b.val; omega
    · intro a
      unfold angleOf; rw [dif_neg h]
      match a with
      | ⟨0, _⟩ => show b.val + 96 = 98 + (b.val - 2); omega
      | ⟨1, _⟩ => show p.val = 0 + p.val; omega

theorem lined_apply (T : IVec S100x10000 32) (b : Fin 4) (p : ℕ) (hp : p < 10240) :
    lined T (ix1 ⟨b.val * 10240 + p, by have := b.isLt; omega⟩) = if h : p < 10000 then T (ix2 (angleOf b) ⟨p, h⟩) else 108#32 := by
  refine (shapeCast_apply _ _ _ (ix2 b ⟨p, hp⟩) ?_).trans ?_
  · rw [Shape.rowMajor_val_two, Shape.rowMajor_val_one]; rfl
  by_cases h : p < 10000
  · rw [dif_pos h, ← joined_apply T b]
    refine pad_apply_of_inside _ _ _ _ _ _ _ _ (ix2 b ⟨p, h⟩) ?_
    intro a
    match a with
    | ⟨0, _⟩ => show b.val = 0 + b.val * (0 + 1); omega
    | ⟨1, _⟩ => show p = 0 + p * (0 + 1); omega
  · rw [dif_neg h]
    refine (pad_apply_of_not_inside _ _ _ _ _ _ _ _ (1 : Fin 2) ?_).trans rfl
    rintro ⟨-, -, h3⟩
    have h3 : (p - 0) / (0 + 1) < 10000 := h3
    omega

/-- Every bin of the first call's lines is below 128. -/
theorem lines_lt (d : Dev nD) (j : S40960.Idx) : (lines m d j).toNat < 128 := by
  rw [lines_read]
  have hj : (j 0).val < 40960 := (j 0).isLt
  rw [show j = ix1 ⟨(⟨(j 0).val / 10240, by omega⟩ : Fin 4).val * 10240 + (j 0).val % 10240, by show (j 0).val / 10240 * 10240 + (j 0).val % 10240 < 40960; omega⟩ from
    (eq_ix1 j).trans (congrArg ix1 (Fin.ext (by show (j 0).val = (j 0).val / 10240 * 10240 + (j 0).val % 10240; omega))),
    lined_apply _ _ _ (Nat.mod_lt _ (by omega))]
  split
  · exact Nat.lt_trans (Spec.tab_lt F _) (by omega)
  · decide

theorem planes_apply (d : Dev nD) (q : Fin 256) (p : ℕ) (hp : p < 10240) :
    planes m d (ix2 q ⟨p, hp⟩) = if h : p < 10000 then flat (arg m d) (ix2 q ⟨p, h⟩) else sitofp (F := F) .f32 (constantI S_ 32 0#32) (Shape.Idx.first h_S_) := by
  rw [planes_read]
  by_cases h : p < 10000
  · rw [dif_pos h]
    refine pad_apply_of_inside _ _ _ _ _ _ _ _ (ix2 q ⟨p, h⟩) ?_
    intro a
    match a with
    | ⟨0, _⟩ => show q.val = 0 + q.val * (0 + 1); omega
    | ⟨1, _⟩ => show p = 0 + p * (0 + 1); omega
  · rw [dif_neg h]
    refine pad_apply_of_not_inside _ _ _ _ _ _ _ _ (1 : Fin 2) ?_
    rintro ⟨-, -, h3⟩
    have h3 : (p - 0) / (0 + 1) < 10000 := h3
    omega

/-! ## The second call's operands and the result -/

/-- What the first call leaves. -/
abbrev sums (d : Dev nD) : S4x8x4096.Idx → F .f32 := outv (planes m d) (lines_lt m d)

theorem WB_other (d : Dev nD) (b : Ref sig .tc) (hb : b ≠ main_v41) : WB m (lines_lt m) d (Proc.devRef .tc b) = WA m d (Proc.devRef .tc b) := by
  unfold WB; exact Function.update_of_ne (StableHlo.devRef_ne_of_ne hb) ..
theorem WB_result (d : Dev nD) : (WB m (lines_lt m) d (Proc.devRef .tc main_v41) : S4x8x4096.Idx → F .f32) = sums m d := by
  unfold WB; exact Function.update_self ..

theorem bins_read (d : Dev nD) : (VC m (lines_lt m) d main_v45 : IVec S96x1x10000 32)
    = shapeCast S96x1x10000 (extractStridedSlice S96x10000 ![2, 0] (table F) slices_S100x10000_S96x10000_2_0) shapeCasts_S96x10000_S96x1x10000 := by
  unfold VC WC
  entry_read
  rw [WB_other m d main_v33 (by decide), table_read]
  rfl

theorem pixels_read (d : Dev nD) : (VC m (lines_lt m) d main_v47 : S10000x256.Idx → F .bf16)
    = truncf .bf16 (transpose S10000x256 [1, 0] (flat (arg m d)) transposes_S256x10000_S10000x256_1_0) bitsLt_bf16_f32 := by
  unfold VC WC
  entry_read
  rw [WB_other m d main_v34 (by decide), flat_read]

/-- The first call's part of the result: angle of its four, plane, bin. -/
abbrev few (o : S4x8x4096.Idx → F .f32) : S4x256x100.Idx → F .f32 :=
  extractStridedSlice S4x256x100 ![0, 0, 0] (shapeCast S4x256x128 o shapeCasts_S4x8x4096_S4x256x128) slices_S4x256x128_S4x256x100_0_0_0

theorem few_read (d : Dev nD) : (VC m (lines_lt m) d main_v43 : S4x256x100.Idx → F .f32) = few (sums m d) := by
  unfold VC WC
  entry_read
  rw [WB_result]
  rfl

/-- Both parts joined. -/
abbrev glued (s : S4x256x100.Idx → F .f32) (w : S96x100x256.Idx → F .f32) : S256x100x100.Idx → F .f32 :=
  concatenate S256x100x100 1 [⟨S256x2x100, extractStridedSlice S256x2x100 ![0, 0, 0] (transpose S256x4x100 [1, 0, 2] s transposes_S4x256x100_S256x4x100_1_0_2) slices_S256x4x100_S256x2x100_0_0_0⟩,
    ⟨S256x96x100, transpose S256x96x100 [2, 0, 1] w transposes_S96x100x256_S256x96x100_2_0_1⟩,
    ⟨S256x2x100, extractStridedSlice S256x2x100 ![0, 2, 0] (transpose S256x4x100 [1, 0, 2] s transposes_S4x256x100_S256x4x100_1_0_2) slices_S256x4x100_S256x2x100_0_2_0⟩]
    concatenates_S256x2x100_S256x96x100_S256x2x100_S256x100x100_d1

/-- The buffers before the two parts are joined. -/
def WP (d : Dev nD) : Valuation τ sig (Elt F) := StableHlo.after (glue.take 4) (WD m (lines_lt m) d)

theorem glue_split (d : Dev nD) : WE m (lines_lt m) d = StableHlo.after (glue.drop 4) (WP m d) := by
  unfold WE WP
  rw [← StableHlo.after_append, List.take_append_drop]

theorem parts_read (d : Dev nD) :
    (WP m d (Proc.devRef .tc main_v51) : S256x2x100.Idx → F .f32) = extractStridedSlice S256x2x100 ![0, 0, 0] (transpose S256x4x100 [1, 0, 2] (few (sums m d)) transposes_S4x256x100_S256x4x100_1_0_2) slices_S256x4x100_S256x2x100_0_0_0
    ∧ (WP m d (Proc.devRef .tc main_v50) : S256x96x100.Idx → F .f32) = transpose S256x96x100 [2, 0, 1] (summed (VC m (lines_lt m)) d) transposes_S96x100x256_S256x96x100_2_0_1
    ∧ (WP m d (Proc.devRef .tc main_v52) : S256x2x100.Idx → F .f32) = extractStridedSlice S256x2x100 ![0, 2, 0] (transpose S256x4x100 [1, 0, 2] (few (sums m d)) transposes_S4x256x100_S256x4x100_1_0_2) slices_S256x4x100_S256x2x100_0_2_0 := by
  have e1 : WD m (lines_lt m) d (Proc.devRef .tc main_v43) = few (sums m d) := (VD_other m _ d main_v43 (by decide)).trans (few_read m d)
  have e2 : WD m (lines_lt m) d (Proc.devRef .tc main_v48) = summed (VC m (lines_lt m)) d := VD_result m _ d
  rw [← e1, ← e2]
  unfold WP
  refine ⟨?_, ?_, ?_⟩
  all_goals
    simp only [glue, List.take_succ_cons, List.take_zero]
    entry_read
    rfl

theorem result_read (d : Dev nD) : (WE m (lines_lt m) d (Proc.devRef .tc main_v54) : S2x128x100x100.Idx → F .f32)
    = shapeCast S2x128x100x100 (glued (few (sums m d)) (summed (VC m (lines_lt m)) d)) shapeCasts_S256x100x100_S2x128x100x100 := by
  rw [glue_split]
  obtain ⟨e1, e2, e3⟩ := parts_read m d
  unfold glued
  rw [← e1, ← e2, ← e3]
  simp only [glue, List.drop_succ_cons, List.drop_zero, StableHlo.after_cons, StableHlo.after_nil]
  refine (StableHlo.reshape_result main_v53 main_v54 _ _ _ _ _).trans ?_
  refine congrArg (fun z : S256x100x100.Idx → F .f32 => shapeCast S2x128x100x100 z shapeCasts_S256x100x100_S2x128x100x100) ?_
  exact StableHlo.nary_result ![main_v51, main_v50, main_v52] main_v53 _ _ _ (WP m d)

set_option maxRecDepth 20000 in
theorem arg_read (d : Dev nD) : (WE m (lines_lt m) d (Proc.devRef .tc main_arg0) : S2x128x100x100.Idx → F .f32) = arg m d := by
  unfold WE
  entry_read
  rw [show WD m (lines_lt m) d (Proc.devRef .tc main_arg0) = WC m (lines_lt m) d (Proc.devRef .tc main_arg0) from VD_other m _ d main_arg0 (by decide)]
  unfold WC
  entry_read
  rw [WB_other m d main_arg0 (by decide)]
  unfold WA
  entry_read
  rfl

/-! ## The run in terms of the argument -/

/-- What a run leaves in the result. -/
def result (d : Dev nD) : S2x128x100x100.Idx → F .f32 :=
  shapeCast S2x128x100x100 (glued (few (sums m d)) (summed (VC m (lines_lt m)) d)) shapeCasts_S256x100x100_S2x128x100x100

theorem run [∀ e, Nonempty (Elt F e)] (ρ : Dev nD → PrngReg) :
    θ_run (Cert.KernelIdeal.defs (F := F)) (Cert.KernelIdeal.threads (F := F)) ⟨m, fun _ => 0, ρ⟩ (fun r =>
      (∀ c : Dev nD, r.2.mem (resLoc c) = result m c ∧ r.2.mem (argLoc c) = m (argLoc c)) ∧ r.2.sem = fun _ => 0) :=
  (θ_run _ _ _).mono (fun _ h => ⟨fun c => ⟨(h.1 c).2.trans (result_read m c), (h.1 c).1.trans (arg_read m c)⟩, h.2⟩) (run_main m ρ (lines_lt m))

end Cert.KernelIdeal.Walk

end
-- ==== Proof.Sums.lean ====
/- The first call's accumulators over the extended reals: word `128 i + ρ` of column block `c`'s accumulator is the sum of
   the pixels of plane `32 c + i` whose bin is `ρ`. -/
module

public import proofs.«01_k».proof.Proof.Ideal.Read
public import Idealize.ShloMosaic.PureOps.Ideal.Laws

@[expose] public section

noncomputable section

namespace Cert.KernelIdeal.Walk

open Cert.KernelIdeal Cert.KernelIdeal.Gen
open Idealize.ShloMosaic Idealize.ShloMosaic.TcCoe Idealize.ShloMosaic.ValueIdx

/-- Additions made in turn, each at the one word it names. -/
theorem fold_apply {n : ℕ} (step : (S4096.Idx → EReal) → Fin n → S4096.Idx → EReal) (pos : Fin n → ℕ) (w : Fin n → EReal) (j : Fin 4096)
    (hs : ∀ g k, step g k (ix1 j) = g (ix1 j) + if pos k = j.val then w k else 0) :
    ∀ (l : List (Fin n)) (a : S4096.Idx → EReal), l.foldl step a (ix1 j) = a (ix1 j) + (l.map fun k => if pos k = j.val then w k else 0).sum
  | [], a => by simp
  | k :: l, a => by rw [List.foldl_cons, fold_apply step pos w j hs l, hs, List.map_cons, List.sum_cons, add_assoc]

theorem lane (k : Fin 16) : (Shape.ofLane (d := ![16]) k : S16.Idx) = ix1 k := (eq_ix1 _).trans (congrArg ix1 rfl)

/-- Sixteen lanes added in turn onto the words they name. -/
theorem store_apply (a : S4096.Idx → EReal) (ix : IVec S16 32) (v : S16.Idx → EReal) (hix) (j : Fin 4096) :
    (storeIdx (F := Ideal) (e := .f32) (s := S4096) (d := ![16]) a ![ix] v (fun _ => 1#1) true hix : S4096.Idx → EReal) (ix1 j)
      = a (ix1 j) + ∑ k : Fin 16, if (ix (ix1 k)).toNat = j.val then v (ix1 k) else 0 := by
  unfold storeIdx
  refine (fold_apply (n := (![16] : Fin 1 → ℕ) 0) _ (fun k => (ix (Shape.ofLane k)).toNat) (fun k => v (Shape.ofLane k)) j (fun g k => ?_) (List.finRange ((![16] : Fin 1 → ℕ) 0)) a).trans ?_
  rotate_left
  · refine congrArg (a (ix1 j) + ·) ?_
    rw [← Fin.sum_univ_def]
    exact Finset.sum_congr (s₁ := (Finset.univ : Finset (Fin 16))) rfl fun k _ => by rw [lane]
  dsimp only
  rw [if_pos (show (1#1 : BitVec 1) = 1 from rfl)]
  by_cases hk : (ix (Shape.ofLane k)).toNat = j.val
  · rw [if_pos hk, if_pos]
    · show g _ + v _ = _
      congr 2
      exact (eq_ix1 _).trans (congrArg ix1 (Fin.ext hk))
    · intro b
      match b with
      | ⟨0, _⟩ => exact hk.symm
  · rw [if_neg hk, if_neg, add_zero]
    intro hb
    exact hk (hb 0).symm

/-- A sum over `m n` terms as `m` sums over `n` terms. -/
theorem sum_blocks (f : ℕ → EReal) (m n : ℕ) : ∑ x ∈ Finset.range (m * n), f x = ∑ g ∈ Finset.range m, ∑ r ∈ Finset.range n, f (n * g + r) := by
  induction m with
  | zero => simp
  | succ m ih => rw [Nat.succ_mul, Finset.sum_range_add, ih, Finset.sum_range_succ, Nat.mul_comm m n]

/-- Bin of pixel `p`. -/
def word (f6 : S10240.Idx → BitVec 32) (p : ℕ) : BitVec 32 := f6 (fun a => ⟨p % S10240.size a, Nat.mod_lt _ (by fin_cases a; decide)⟩)
/-- Pixel `p` of plane `q`. -/
def pixel (fx : S256x10240.Idx → EReal) (q p : ℕ) : EReal :=
  fx (fun a => ⟨((![q, p] : Fin 2 → ℕ) a) % S256x10240.size a, Nat.mod_lt _ (by fin_cases a <;> decide)⟩)
/-- What pixel `p` of plane `q` adds to bin `ρ`. -/
def gain (fx : S256x10240.Idx → EReal) (f6 : S10240.Idx → BitVec 32) (q ρ p : ℕ) : EReal := if (word f6 p).toNat = ρ then pixel fx q p else 0

section Chunk

variable (fx : S256x10240.Idx → EReal) {f6 : S10240.Idx → BitVec 32} (h : Small f6) (c : ℕ)

theorem val_apply (k b s : ℕ) (hs : s < 1024) (x : Fin 16) :
    (val (F := Ideal) (feat (F := Ideal) fx c k) b s (ix1 x) : EReal) = pixel fx (32 * c + s % 32) (512 * k + (16 * (s / 32) + x.val)) := by
  have hx := x.isLt
  unfold val
  refine (shapeCast_apply _ _ _ (ix3 0 0 x) ?_).trans ?_
  · rw [Shape.rowMajor_val_three, Shape.rowMajor_val_one]
    show (0 * 1 + 0) * 16 + x.val = x.val
    omega
  · unfold cell feat pixel
    refine congrArg fx (funext fun a => Fin.ext ?_)
    match a with
    | ⟨0, _⟩ =>
      show (32 * c + (s % 32 + 0) % 32) % 256 = (32 * c + s % 32) % 256
      omega
    | ⟨1, _⟩ =>
      show (512 * k + (16 * (s / 32) + x.val) % 512) % 10240 = (512 * k + (16 * (s / 32) + x.val)) % 10240
      omega

include h in
theorem addr_toNat (o s : ℕ) (x : Fin 16) : (addr f6 o s (ix1 x)).toNat = (word f6 (o + 16 * (s / 32) + x.val)).toNat + 128 * (s % 32) := by
  have hb : (word f6 (o + 16 * (s / 32) + x.val)).toNat < 128 := h _
  show (word f6 (o + 16 * (s / 32) + x.val) + BitVec.ofNat 32 (128 * (s % 32))).toNat = _
  rw [BitVec.toNat_add, BitVec.toNat_ofNat]
  omega

/-- The first `n` stores of chunk `k`. -/
theorem stores_apply (k b i ρ : ℕ) (hi : i < 32) (hρ : ρ < 128) (a : S4096.Idx → EReal) : ∀ n ≤ 1024,
    (acc (F := Ideal) (feat (F := Ideal) fx c k) h b (512 * k) a n : S4096.Idx → EReal) (ix1 ⟨128 * i + ρ, by omega⟩)
      = a (ix1 ⟨128 * i + ρ, by omega⟩)
        + ∑ s ∈ Finset.range n, if s % 32 = i then ∑ x ∈ Finset.range 16, gain fx f6 (32 * c + i) ρ (512 * k + (16 * (s / 32) + x)) else 0
  | 0, _ => by simp [acc]
  | n + 1, hn => by
    rw [Finset.sum_range_succ, ← add_assoc, ← stores_apply k b i ρ hi hρ a n (by omega)]
    refine (store_apply _ _ _ _ _).trans (congrArg (_ + ·) ?_)
    rw [Finset.sum_range]
    by_cases e : n % 32 = i
    · rw [if_pos e]
      refine Finset.sum_congr rfl fun x _ => ?_
      rw [addr_toNat h, val_apply fx c k b n (by omega), e, Nat.add_assoc (512 * k)]
      unfold gain
      refine if_congr ?_ rfl rfl
      show _ + 128 * i = 128 * i + ρ ↔ _
      omega
    · rw [if_neg e]
      refine Finset.sum_eq_zero fun x _ => if_neg ?_
      rw [addr_toNat h]
      have hb : (word f6 (512 * k + 16 * (n / 32) + x.val)).toNat < 128 := h _
      show ¬ _ + 128 * (n % 32) = 128 * i + ρ
      omega

/-- The whole of chunk `k`. -/
theorem chunk_apply (k b i ρ : ℕ) (hi : i < 32) (hρ : ρ < 128) (a : S4096.Idx → EReal) :
    (acc (F := Ideal) (feat (F := Ideal) fx c k) h b (512 * k) a 1024 : S4096.Idx → EReal) (ix1 ⟨128 * i + ρ, by omega⟩)
      = a (ix1 ⟨128 * i + ρ, by omega⟩) + ∑ x ∈ Finset.range 512, gain fx f6 (32 * c + i) ρ (512 * k + x) := by
  rw [stores_apply fx h c k b i ρ hi hρ a 1024 (le_refl _)]
  refine congrArg (_ + ·) ?_
  rw [show (1024 : ℕ) = 32 * 32 from rfl, sum_blocks, show (512 : ℕ) = 32 * 16 from rfl, sum_blocks _ 32 16]
  refine Finset.sum_congr rfl fun g _ => ?_
  rw [Finset.sum_eq_single i]
  · rw [if_pos (by omega), show (32 * g + i) / 32 = g by omega]
  · intro r hr hne
    have := Finset.mem_range.mp hr
    exact if_neg (by omega)
  · intro hn
    exact absurd (Finset.mem_range.mpr hi) hn

/-- All trips up to `t`. -/
theorem sofar_apply (i ρ : ℕ) (hi : i < 32) (hρ : ρ < 128) (a : S4096.Idx → EReal) : ∀ t,
    (sofar (F := Ideal) c fx h a t : S4096.Idx → EReal) (ix1 ⟨128 * i + ρ, by omega⟩)
      = a (ix1 ⟨128 * i + ρ, by omega⟩) + ∑ p ∈ Finset.range (1024 * t), gain fx f6 (32 * c + i) ρ p
  | 0 => by simp [sofar]
  | t + 1 => by
    show (acc (F := Ideal) (feat (F := Ideal) fx c (2 * t + 1)) h 1 (1024 * t + 512) (mid (F := Ideal) c fx h t (sofar (F := Ideal) c fx h a t)) 1024 : S4096.Idx → EReal) _ = _
    rw [show 1024 * t + 512 = 512 * (2 * t + 1) by omega, chunk_apply fx h c (2 * t + 1) 1 i ρ hi hρ]
    unfold mid
    rw [show 1024 * t = 512 * (2 * t) by omega, chunk_apply fx h c (2 * t) 0 i ρ hi hρ, sofar_apply i ρ hi hρ a t,
      show 1024 * (t + 1) = 512 * (2 * t) + 512 + 512 by omega, Finset.sum_range_add, Finset.sum_range_add, ← add_assoc, ← add_assoc,
      show 1024 * t = 512 * (2 * t) by omega, show 512 * (2 * t) + 512 = 512 * (2 * t + 1) by omega]

end Chunk

/-! ## The first call's part of the result -/

/-- Plane `q`'s image. -/
def img (q : Fin 256) : Fin 2 := ⟨q.val / 128, by have := q.isLt; omega⟩
/-- Plane `q`'s channel. -/
def chan (q : Fin 256) : Fin 128 := ⟨q.val % 128, by omega⟩

theorem table_apply (a : Fin 100) (p : Fin 10000) : table Ideal (ix2 a p) = Spec.bin (Spec.tab Ideal) a p := by
  refine shapeCast_apply (Spec.tab Ideal) _ _ _ ?_
  rw [Shape.rowMajor_val_three, Shape.rowMajor_val_two]
  show (a.val * 100 + p.val / 100) * 100 + p.val % 100 = a.val * 10000 + p.val
  omega

theorem flat_apply (x : S2x128x100x100.Idx → EReal) (q : Fin 256) (p : Fin 10000) : (flat (F := Ideal) x : S256x10000.Idx → EReal) (ix2 q p) = Spec.pix x (img q) (chan q) p := by
  refine shapeCast_apply x _ _ _ ?_
  rw [Shape.rowMajor_val_two, Shape.rowMajor_val_four]
  show ((q.val / 128 * 128 + q.val % 128) * 100 + p.val / 100) * 100 + p.val % 100 = q.val * 10000 + p.val
  omega

variable (m : (ℓ : Loc nD τ sig) → Buf (Elt Ideal) ℓ) (d : Dev nD)

theorem word_apply (b : Fin 4) (p : ℕ) (hp : p < 10240) :
    word (row (lines m d) b.val) p = if h : p < 10000 then Spec.bin (Spec.tab Ideal) (angleOf b) ⟨p, h⟩ else 108#32 := by
  have hb := b.isLt
  have e : word (row (lines m d) b.val) p = lined (table Ideal) (ix1 ⟨b.val * 10240 + p, by omega⟩) := by
    rw [lines_read]
    refine congrArg (lined (table Ideal)) (funext fun a => Fin.ext ?_)
    match a with
    | ⟨0, _⟩ =>
      show (10240 * b.val + p % 10240) % 40960 = b.val * 10240 + p
      omega
  rw [e, lined_apply _ b p hp]
  split
  · exact table_apply _ _
  · rfl

theorem pixel_apply (q : Fin 256) (p : Fin 10000) : pixel (planes m d) q.val p.val = Spec.pix (arg m d) (img q) (chan q) p := by
  have hp := p.isLt
  have hq := q.isLt
  have e : pixel (planes m d) q.val p.val = planes m d (ix2 q ⟨p.val, by omega⟩) := by
    refine congrArg (planes m d) (funext fun a => Fin.ext ?_)
    match a with
    | ⟨0, _⟩ => exact Nat.mod_eq_of_lt hq
    | ⟨1, _⟩ => show p.val % 10240 = p.val; omega
  rw [e, planes_apply, dif_pos hp]
  exact flat_apply _ _ _

/-- The first call's part read at (its angle, plane, bin). -/
theorem few_apply (b : Fin 4) (q : Fin 256) (ρ : Fin 100) :
    (few (sums m d) : S4x256x100.Idx → EReal) (ix3 b q ρ) = Spec.hough (Spec.tab Ideal) (arg m d) (img q) (chan q) (angleOf b) ρ := by
  have hq := q.isLt
  have hρ := ρ.isLt
  refine (extractStridedSlice_apply _ _ _ _ (ix3 b q (⟨ρ.val, by omega⟩ : Fin 128)) ?_).trans ?_
  · intro a
    match a with
    | ⟨0, _⟩ => show b.val = 0 + b.val; omega
    | ⟨1, _⟩ => show q.val = 0 + q.val; omega
    | ⟨2, _⟩ => show ρ.val = 0 + ρ.val; omega
  refine (shapeCast_apply _ _ _ (ix3 b (⟨q.val / 32, by omega⟩ : Fin 8) (⟨128 * (q.val % 32) + ρ.val, by omega⟩ : Fin 4096)) ?_).trans ?_
  · rw [Shape.rowMajor_val_three, Shape.rowMajor_val_three]
    show (b.val * 8 + q.val / 32) * 4096 + (128 * (q.val % 32) + ρ.val) = (b.val * 256 + q.val) * 128 + ρ.val
    omega
  refine (sofar_apply (planes m d) (row_small (lines_lt m d) b.val) (q.val / 32) (q.val % 32) ρ.val (by omega) (by omega) (fun _ => nought Ideal) 10).trans ?_
  rw [show (nought Ideal : EReal) = 0 from Ideal.ofBits_zero_f32, zero_add, show 1024 * 10 = 10000 + 240 from rfl, Finset.sum_range_add,
    show 32 * (q.val / 32) + q.val % 32 = q.val by omega]
  rw [Finset.sum_eq_zero (s := Finset.range 240), add_zero, Finset.sum_range]
  · refine Finset.sum_congr rfl fun p _ => ?_
    unfold gain
    rw [word_apply m d b p.val (by have := p.isLt; omega), dif_pos p.isLt, pixel_apply]
  · intro x hx
    have hx := Finset.mem_range.mp hx
    unfold gain
    rw [word_apply m d b (10000 + x) (by omega), dif_neg (by omega)]
    exact if_neg (by show ¬ 108 = ρ.val; omega)

end Cert.KernelIdeal.Walk

end
-- ==== Proof.Dense.lean ====
/- The second call over the extended reals: its one-hot matrix times the pixels is, at each of the middle angles, the sum of
   every plane's pixels of the row's bin. -/
module

public import proofs.«01_k».proof.Proof.Sums
public import Idealize.ShloMosaic.Lib.MatmulPlain

@[expose] public section

noncomputable section

namespace Cert.KernelIdeal.Walk

open Cert.KernelIdeal Cert.KernelIdeal.Gen
open Idealize.ShloMosaic Idealize.ShloMosaic.TcCoe Idealize.ShloMosaic.ValueIdx
open Idealize.ShloMosaic.Pipeline (Dat)

/-- A one-hot factor picks its term: over the extended reals `0` times anything is `0`. -/
theorem pick (w : BitVec 32) (ρ : Fin 100) (x : EReal) :
    Scalar.select (Ideal.cmp .oeq (((w.toInt : ℝ) : EReal)) ((((BitVec.ofNat 32 ρ.val).toInt : ℝ) : EReal))) (1 : EReal) 0 * x = if w.toNat = ρ.val then x else 0 := by
  have hρ := ρ.isLt
  have e : (((w.toInt : ℝ) : EReal) = (((BitVec.ofNat 32 ρ.val).toInt : ℝ) : EReal)) ↔ w.toNat = ρ.val := by
    rw [EReal.coe_eq_coe_iff, Int.cast_inj, BitVec.toInt_inj]
    constructor
    · rintro rfl; rw [BitVec.toNat_ofNat]; omega
    · intro h; apply BitVec.eq_of_toNat_eq; rw [BitVec.toNat_ofNat, h]; omega
  show Scalar.select (BitVec.ofBool (decide _)) (1 : EReal) 0 * x = _
  by_cases h : w.toNat = ρ.val
  · rw [decide_eq_true (e.mpr h), if_pos h]; exact one_mul x
  · rw [decide_eq_false (fun h' => h (e.mp h')), if_neg h]; exact zero_mul x

/-- The words of the floats one and zero. -/
theorem one_word : Ideal.ofBits .bf16 0x3F80#16 = 1 := by simp [Ideal.ofBits, Ideal.ieee, -EReal.coe_mul]; norm_num
theorem zero_word : Ideal.ofBits .bf16 0x0000#16 = 0 := by simp [Ideal.ofBits, Ideal.ieee, -EReal.coe_mul]

/-- The body's result at bin `ρ` and plane `q`. -/
theorem dense_apply (r : Vec Ideal S1x1x10000 .i32) (f : Vec Ideal S10000x256 .bf16) (ρ : Fin 100) (q : Fin 256) :
    (dense r f : S1x100x256.Idx → EReal) (ix3 0 ρ q) = ∑ p : Fin 10000, if (r (ix3 0 0 p) : BitVec 32).toNat = ρ.val then (f (ix2 p q) : EReal) else 0 := by
  unfold dense
  refine (shapeCast_apply _ _ _ (ix2 ρ q) ?_).trans ?_
  · rw [Shape.rowMajor_val_two, Shape.rowMajor_val_three]
    show ρ.val * 256 + q.val = (0 * 100 + ρ.val) * 256 + q.val
    omega
  refine (Ideal.matmul_plain_apply (M := 100) (K := 10000) (N := 256) none _ _ _ ρ q).trans ?_
  rw [show constant (F := Ideal) S100x256 .f32 0x00000000#32 (ix2 ρ q) = (0 : EReal) from Ideal.ofBits_zero_f32, zero_add]
  refine Finset.sum_congr rfl fun p _ => ?_
  rw [shapeCast_self, ← pick]
  refine congrArg (· * (f (ix2 p q) : EReal)) ?_
  unfold oneHot
  have hb : broadcastTo S100x10000 (shapeCast S1x10000 (sitofp (F := Ideal) .bf16 (shapeCast S1x10000 r Shapes3.Facts₀.shapeCasts_S1x1x10000_S1x10000 : IVec S1x10000 32)) Shapes3.Facts₀.shapeCasts_S1x10000_S1x10000)
      Shapes3.Facts₀.broadcasts_S1x10000_S100x10000 (ix2 ρ p) = ((((r (ix3 0 0 p) : BitVec 32).toInt : ℝ) : EReal)) := by
    rw [shapeCast_self]
    refine (broadcastTo_apply _ _ _ (ix2 0 p) ?_).trans ?_
    · intro b
      match b with
      | ⟨0, _⟩ => rfl
      | ⟨1, _⟩ => rfl
    · show ((((shapeCast S1x10000 r _ (ix2 0 p) : BitVec 32).toInt : ℝ) : EReal)) = _
      rw [shapeCast_apply r _ (ix2 0 p) (ix3 0 0 p) ?_]
      rw [Shape.rowMajor_val_two, Shape.rowMajor_val_three]
      show (0 * 1 + 0) * 10000 + p.val = 0 * 10000 + p.val
      omega
  show Scalar.select (Ideal.cmp .oeq (broadcastTo S100x10000 _ _ (ix2 ρ p)) ((((iota .tc S100x10000 32 [0] Shapes3.Facts₀.iota_S100x10000_d0_w32 (ix2 ρ p)).toInt : ℝ) : EReal)))
    (Ideal.ofBits .bf16 0x3F80#16) (Ideal.ofBits .bf16 0x0000#16) = _
  rw [hb, one_word, zero_word]
  have hi : iota .tc S100x10000 32 [0] Shapes3.Facts₀.iota_S100x10000_d0_w32 (ix2 ρ p) = BitVec.ofNat 32 ρ.val := by
    simp [iota]
  rw [hi]

/-! ## The blocks -/

theorem index2 : ∀ t : Fin grid1.N, win1_2.index t 0 = t.val ∧ win1_2.index t 1 = 0 ∧ win1_2.index t 2 = 0 := by decide +kernel
theorem index0 : ∀ t : Fin grid1.N, win1_0.index t 0 = t.val ∧ win1_0.index t 1 = 0 ∧ win1_0.index t 2 = 0 := by decide +kernel
theorem index1 : ∀ t : Fin grid1.N, win1_1.index t 0 = 0 ∧ win1_1.index t 1 = 0 := by decide +kernel

theorem idx_inj : ∀ t t' : Fin cfg1.N, win1_2.index t = win1_2.index t' → t = t' :=
  (by decide +kernel : ∀ t t' : Fin grid1.N, win1_2.index t = win1_2.index t' → t = t')

/-- Two points' blocks of the result share no element. -/
theorem disjoint : ∀ t t' : Fin cfg1.N, (cfg1.win 2).flush t = true → (cfg1.win 2).flush t' = true → t ≠ t' →
    Disjoint ((cfg1.win 2).blk t).view.set ((cfg1.win 2).blk t').view.set :=
  fun _ _ _ _ hne => (cfg1.win 2).disjoint_blk fun h => hne (idx_inj _ _ h)

/-- Grid point `a`: the angle `a + 2`. -/
abbrev pt (a : Fin 96) : Fin cfg1.N := ⟨a.val, by rw [show cfg1.N = 96 from N_1]; exact a.isLt⟩

/-- The result's block at point `a` is its slab `a`. -/
theorem read2 (A : Vec Ideal S96x100x256 .f32) (a : Fin 96) (ρ : Fin 100) (q : Fin 256) :
    ((cfg1.win 2).blk (pt a)).view.read (Elt Ideal) A (ix3 0 ρ q) = A (ix3 a ρ q) := by
  obtain ⟨e0, e1, e2⟩ := index2 (pt a)
  refine congrArg A (funext fun b => Fin.ext ?_)
  match b with
  | ⟨0, _⟩ => show win1_2.index (pt a) 0 * 1 + 1 * 0 = a.val; rw [e0]; show a.val * 1 + 1 * 0 = a.val; omega
  | ⟨1, _⟩ => show win1_2.index (pt a) 1 * 100 + 1 * ρ.val = ρ.val; rw [e1]; omega
  | ⟨2, _⟩ => show win1_2.index (pt a) 2 * 256 + 1 * q.val = q.val; rw [e2]; omega

/-- The bins' block at point `a` is line `a`. -/
theorem read0 (A : Vec Ideal S96x1x10000 .i32) (a : Fin 96) (p : Fin 10000) :
    ((cfg1.win 0).blk (pt a)).view.read (Elt Ideal) A (ix3 0 0 p) = A (ix3 a 0 p) := by
  obtain ⟨e0, e1, e2⟩ := index0 (pt a)
  refine congrArg A (funext fun b => Fin.ext ?_)
  match b with
  | ⟨0, _⟩ => show win1_0.index (pt a) 0 * 1 + 1 * 0 = a.val; rw [e0]; show a.val * 1 + 1 * 0 = a.val; omega
  | ⟨1, _⟩ => show win1_0.index (pt a) 1 * 1 + 1 * 0 = 0; rw [e1]
  | ⟨2, _⟩ => show win1_0.index (pt a) 2 * 10000 + 1 * p.val = p.val; rw [e2]; omega

/-- The pixels' block is the whole array at every point. -/
theorem read1 (A : Vec Ideal S10000x256 .bf16) (a : Fin 96) (p : Fin 10000) (q : Fin 256) :
    ((cfg1.win 1).blk (pt a)).view.read (Elt Ideal) A (ix2 p q) = A (ix2 p q) := by
  obtain ⟨e0, e1⟩ := index1 (pt a)
  refine congrArg A (funext fun b => Fin.ext ?_)
  match b with
  | ⟨0, _⟩ => show win1_1.index (pt a) 0 * 10000 + 1 * p.val = p.val; rw [e0]; omega
  | ⟨1, _⟩ => show win1_1.index (pt a) 1 * 256 + 1 * q.val = q.val; rw [e1]; omega

theorem hz3 : (![0, 0, 0] : Fin 3 → Nat) = fun _ => 0 := funext fun a => by fin_cases a <;> rfl
theorem hz2 : (![0, 0] : Fin 2 → Nat) = fun _ => 0 := funext fun a => by fin_cases a <;> rfl

variable (m : (ℓ : Loc nD τ sig) → Buf (Elt Ideal) ℓ) (d : Dev nD)

/-- The angle of the second call's slab `a`. -/
def middle (a : Fin 96) : Fin 100 := ⟨a.val + 2, by have := a.isLt; omega⟩

/-- The second call's part read at (its angle, bin, plane). -/
theorem summed_apply (a : Fin 96) (ρ : Fin 100) (q : Fin 256) :
    (summed (VC m (lines_lt m)) d : Vec Ideal S96x100x256 .f32) (ix3 a ρ q) = Spec.hough (Spec.tab Ideal) (arg m d) (img q) (chan q) (middle a) ρ := by
  refine (read2 _ a ρ q).symm.trans ?_
  unfold summed
  rw [(pdats (VC m (lines_lt m)) 0 d).read_blk_arrAt_eq_flushed 2 disjoint cfg1.N (pt a) (pt a).isLt (flush1_2 _)]
  show (pdats (VC m (lines_lt m)) 0 d).after 2 (pt a) (ix3 0 ρ q) = _
  rw [after_2]
  unfold block
  rw [View.canon_unit_zero hz3, View.ld_unit_zero (S := S1x1x10000) hz3, View.ld_unit_zero (S := S10000x256) hz2]
  refine (dense_apply (wblk (VC m (lines_lt m)) d 0 (pt a)) (wblk (VC m (lines_lt m)) d 1 (pt a)) ρ q).trans ?_
  refine Finset.sum_congr rfl fun p _ => ?_
  have ht : (wblk (VC m (lines_lt m)) d 0 (pt a) : Vec Ideal S1x1x10000 .i32) (ix3 0 0 p) = Spec.bin (Spec.tab Ideal) (middle a) p := by
    refine (read0 (VC m (lines_lt m) d main_v45) a p).trans ?_
    rw [bins_read]
    refine (shapeCast_apply _ _ _ (ix2 a p) ?_).trans ?_
    · rw [Shape.rowMajor_val_two, Shape.rowMajor_val_three]
      show a.val * 10000 + p.val = (a.val * 1 + 0) * 10000 + p.val
      omega
    refine (extractStridedSlice_apply _ _ _ _ (ix2 (middle a) p) fun b => ?_).trans (table_apply _ _)
    match b with
    | ⟨0, _⟩ => show a.val + 2 = 2 + a.val; omega
    | ⟨1, _⟩ => show p.val = 0 + p.val; omega
  have hf : (wblk (VC m (lines_lt m)) d 1 (pt a) : S10000x256.Idx → EReal) (ix2 p q) = Spec.pix (arg m d) (img q) (chan q) p := by
    refine (read1 (VC m (lines_lt m) d main_v47) a p q).trans ?_
    rw [pixels_read]
    refine (transpose_apply _ _ _ _ (ix2 q p) (fun b => ?_)).trans (flat_apply (arg m d) q p)
    match b with
    | ⟨0, _⟩ => rfl
    | ⟨1, _⟩ => rfl
  rw [ht, hf]

/-! ## The result -/

/-- The result read at (image, channel, angle, bin). -/
theorem result_apply (n : Fin 2) (c : Fin 128) (a ρ : Fin 100) :
    (result m d : S2x128x100x100.Idx → EReal) (ix4 n c a ρ) = Spec.hough (Spec.tab Ideal) (arg m d) n c a ρ := by
  have hn := n.isLt
  have hc := c.isLt
  have ha := a.isLt
  obtain ⟨q, hq, rfl, rfl⟩ : ∃ q : Fin 256, q.val = n.val * 128 + c.val ∧ img q = n ∧ chan q = c :=
    ⟨⟨n.val * 128 + c.val, by omega⟩, rfl, Fin.ext (by show (n.val * 128 + c.val) / 128 = n.val; omega),
      Fin.ext (by show (n.val * 128 + c.val) % 128 = c.val; omega)⟩
  refine (shapeCast_apply _ _ _ (ix3 q a ρ) ?_).trans ?_
  · rw [Shape.rowMajor_val_three, Shape.rowMajor_val_four]
    show (q.val * 100 + a.val) * 100 + ρ.val = (((img q).val * 128 + (chan q).val) * 100 + a.val) * 100 + ρ.val
    rw [hq]
  unfold glued
  by_cases h : a.val < 2
  · refine (concatenate_apply_piece (t := S256x100x100) 1 _ _ (ix3 q a ρ) 0 (by simp) S256x2x100 _ rfl rfl 0 rfl
      (ix3 q ⟨a.val, h⟩ ρ) ?_ ?_).trans ?_
    · intro b hb
      match b, hb with
      | ⟨0, _⟩, _ => rfl
      | ⟨1, _⟩, hb => exact absurd rfl hb
      | ⟨2, _⟩, _ => rfl
    · exact Nat.zero_add _
    refine (extractStridedSlice_apply _ _ _ _ (ix3 q (⟨a.val, by omega⟩ : Fin 4) ρ) fun b => ?_).trans ?_
    · match b with
      | ⟨0, _⟩ => exact (Nat.zero_add _).symm
      | ⟨1, _⟩ => exact (Nat.zero_add _).symm
      | ⟨2, _⟩ => exact (Nat.zero_add _).symm
    refine (transpose_apply _ _ _ _ (ix3 (⟨a.val, by omega⟩ : Fin 4) q ρ) (fun b => ?_)).trans ?_
    · match b with
      | ⟨0, _⟩ => rfl
      | ⟨1, _⟩ => rfl
      | ⟨2, _⟩ => rfl
    rw [few_apply, show angleOf ⟨a.val, by omega⟩ = a from dif_pos h]
  by_cases h' : a.val < 98
  · refine (concatenate_apply_piece (t := S256x100x100) 1 _ _ (ix3 q a ρ) 1 (by simp) S256x96x100 _ rfl rfl 2 rfl
      (ix3 q ⟨a.val - 2, by omega⟩ ρ) ?_ ?_).trans ?_
    · intro b hb
      match b, hb with
      | ⟨0, _⟩, _ => rfl
      | ⟨1, _⟩, hb => exact absurd rfl hb
      | ⟨2, _⟩, _ => rfl
    · show 2 + (a.val - 2) = a.val; omega
    refine (transpose_apply _ _ _ _ (ix3 (⟨a.val - 2, by omega⟩ : Fin 96) ρ q) (fun b => ?_)).trans ?_
    · match b with
      | ⟨0, _⟩ => rfl
      | ⟨1, _⟩ => rfl
      | ⟨2, _⟩ => rfl
    rw [summed_apply, show middle ⟨a.val - 2, by omega⟩ = a from Fin.ext (by show a.val - 2 + 2 = a.val; omega)]
  · refine (concatenate_apply_piece (t := S256x100x100) 1 _ _ (ix3 q a ρ) 2 (by simp) S256x2x100 _ rfl rfl 98 rfl
      (ix3 q ⟨a.val - 98, by omega⟩ ρ) ?_ ?_).trans ?_
    · intro b hb
      match b, hb with
      | ⟨0, _⟩, _ => rfl
      | ⟨1, _⟩, hb => exact absurd rfl hb
      | ⟨2, _⟩, _ => rfl
    · show 98 + (a.val - 98) = a.val; omega
    refine (extractStridedSlice_apply _ _ _ _ (ix3 q (⟨a.val - 96, by omega⟩ : Fin 4) ρ) fun b => ?_).trans ?_
    · match b with
      | ⟨0, _⟩ => exact (Nat.zero_add _).symm
      | ⟨1, _⟩ => show a.val - 96 = 2 + (a.val - 98); omega
      | ⟨2, _⟩ => exact (Nat.zero_add _).symm
    refine (transpose_apply _ _ _ _ (ix3 (⟨a.val - 96, by omega⟩ : Fin 4) q ρ) (fun b => ?_)).trans ?_
    · match b with
      | ⟨0, _⟩ => rfl
      | ⟨1, _⟩ => rfl
      | ⟨2, _⟩ => rfl
    rw [few_apply, show angleOf ⟨a.val - 96, by omega⟩ = a from (dif_neg (by show ¬ a.val - 96 < 2; omega)).trans (Fin.ext (by show a.val - 96 + 96 = a.val; omega))]

end Cert.KernelIdeal.Walk

end
-- ==== Proof.RefValue.lean ====
/- What the reference leaves: entry (ρ-bin, angle) of every plane is the sum of the plane's pixels of that bin
   (`Spec.hough` of the table of bins). The one operation with content is the accumulating scatter: pixel `p` at angle
   `a` lands in bin `T a p` of angle `a`, in its own plane. -/
module

public import proofs.«01_k».proof.Proof.Spec
public import proofs.«01_k».proof.Proof.Gen.ReferenceIdeal.Run
public import Idealize.ShloMosaic.Lib.Pipeline.Value
public import Idealize.ShloMosaic.PureOps.Ideal.Laws

@[expose] public section

noncomputable section

namespace Cert.ReferenceIdeal.Value

open Cert.ReferenceIdeal Cert.ReferenceIdeal.Gen Cert.Spec
open Idealize.ShloMosaic Idealize.ShloMosaic.ValueIdx Idealize.ShloMosaic.TcCoe

/-- The dimension numbers of the reference's scatter. -/
abbrev sd : ScatterDims S2x128x100x100 S100x10000x2 S2x128x100x10000 := scatter_S2x128x100x100_S100x10000x2_S2x128x100x10000_01_23_23_2

/-- Where the update of plane `(n, c)`, angle `a`, pixel `p` reads component `k` of its start index. -/
theorem siIdx_eq (j : S2x128x100x10000.Idx) (k : Fin 2) : sd.siIdx j k = ix3 (j 2) (j 3) k := by
  funext b
  match b with
  | ⟨0, _⟩ => rfl
  | ⟨1, _⟩ => rfl
  | ⟨2, _⟩ => rfl

/-- The update lands at its own plane, at the angle and the bin its start index names. -/
theorem result_iff (idx : IVec S100x10000x2 32) (j : S2x128x100x10000.Idx) (i : S2x128x100x100.Idx) :
    sd.resultIdx? j idx = some i ↔ j 0 = i 0 ∧ j 1 = i 1
      ∧ (idx (ix3 (j 2) (j 3) 0)).toInt = ((i 2).val : Int) ∧ (idx (ix3 (j 2) (j 3) 1)).toInt = ((i 3).val : Int) := by
  have s0 : sd.start j idx 0 = 0 := rfl
  have s1 : sd.start j idx 1 = 0 := rfl
  have s2 : sd.start j idx 2 = (idx (ix3 (j 2) (j 3) 0)).toInt := (show _ = (idx (sd.siIdx j (0 : Fin 2))).toInt from rfl).trans (congrArg (fun q => (idx q).toInt) (siIdx_eq j 0))
  have s3 : sd.start j idx 3 = (idx (ix3 (j 2) (j 3) 1)).toInt := (show _ = (idx (sd.siIdx j (1 : Fin 2))).toInt from rfl).trans (congrArg (fun q => (idx q).toInt) (siIdx_eq j 1))
  have w0 : sd.window j 0 = (j 0).val := rfl
  have w1 : sd.window j 1 = (j 1).val := rfl
  have w2 : sd.window j 2 = 0 := rfl
  have w3 : sd.window j 3 = 0 := rfl
  have l0 : (j 0).val < 2 := (j 0).isLt
  have l1 : (j 1).val < 128 := (j 1).isLt
  have k0 : (i 0).val < 2 := (i 0).isLt
  have k1 : (i 1).val < 128 := (i 1).isLt
  have k2 : (i 2).val < 100 := (i 2).isLt
  have k3 : (i 3).val < 100 := (i 3).isLt
  unfold ScatterDims.resultIdx?
  constructor
  · intro h
    split at h
    · rename_i hall
      have e := Option.some.inj h
      have e0 := congrArg Fin.val (congrFun e 0)
      have e1 := congrArg Fin.val (congrFun e 1)
      have e2 := congrArg Fin.val (congrFun e 2)
      have e3 := congrArg Fin.val (congrFun e 3)
      have a2 := hall 2
      have a3 := hall 3
      simp only [s0, s1, s2, s3, w0, w1, w2, w3] at e0 e1 e2 e3 a2 a3
      refine ⟨Fin.ext (by omega), Fin.ext (by omega), by omega, by omega⟩
    · exact absurd h (by simp)
  · rintro ⟨e0, e1, e2, e3⟩
    have e0' := congrArg Fin.val e0
    have e1' := congrArg Fin.val e1
    have hall : ∀ a, 0 ≤ sd.start j idx a + sd.window j a ∧ sd.start j idx a + sd.window j a < S2x128x100x100.size a := by
      intro a
      match a with
      | ⟨0, _⟩ => show 0 ≤ sd.start j idx 0 + sd.window j 0 ∧ sd.start j idx 0 + sd.window j 0 < ((2 : ℕ) : ℤ); rw [s0, w0]; omega
      | ⟨1, _⟩ => show 0 ≤ sd.start j idx 1 + sd.window j 1 ∧ sd.start j idx 1 + sd.window j 1 < ((128 : ℕ) : ℤ); rw [s1, w1]; omega
      | ⟨2, _⟩ => show 0 ≤ sd.start j idx 2 + sd.window j 2 ∧ sd.start j idx 2 + sd.window j 2 < ((100 : ℕ) : ℤ); rw [s2, w2]; omega
      | ⟨3, _⟩ => show 0 ≤ sd.start j idx 3 + sd.window j 3 ∧ sd.start j idx 3 + sd.window j 3 < ((100 : ℕ) : ℤ); rw [s3, w3]; omega
    rw [dif_pos hall]
    refine congrArg some (funext fun a => Fin.ext ?_)
    match a with
    | ⟨0, _⟩ => show (sd.start j idx 0 + sd.window j 0).toNat = (i 0).val; rw [s0, w0]; omega
    | ⟨1, _⟩ => show (sd.start j idx 1 + sd.window j 1).toNat = (i 1).val; rw [s1, w1]; omega
    | ⟨2, _⟩ => show (sd.start j idx 2 + sd.window j 2).toNat = (i 2).val; rw [s2, w2]; omega
    | ⟨3, _⟩ => show (sd.start j idx 3 + sd.window j 3).toNat = (i 3).val; rw [s3, w3]; omega

section Landing
variable (idx : IVec S100x10000x2 32) (r : Fin 100 → Fin 10000 → BitVec 32) (hr : ∀ a p, (r a p).toNat < 100)
  (h0 : ∀ a p, idx (ix3 a p 0) = BitVec.ofNat 32 a.val) (h1 : ∀ a p, idx (ix3 a p 1) = r a p)

include hr h0 h1 in
/-- When the start index of `(a, p)` is `(a, r a p)` with `r a p` below 100, the update of plane `(n', c')`, angle `a'` and
    pixel `p` lands at element `(n, c, a, ρ)` exactly when plane and angle agree and the pixel's bin is `ρ`. -/
theorem lands (n' n : Fin 2) (c' c : Fin 128) (a' a : Fin 100) (p : Fin 10000) (ρ : Fin 100) :
    sd.resultIdx? (ix4 n' c' a' p) idx = some (ix4 n c a ρ) ↔ n' = n ∧ c' = c ∧ a' = a ∧ (r a p).toNat = ρ.val := by
  rw [result_iff]
  show n' = n ∧ c' = c ∧ (idx (ix3 a' p 0)).toInt = (a.val : Int) ∧ (idx (ix3 a' p 1)).toInt = (ρ.val : Int) ↔ _
  have ha : (BitVec.ofNat 32 a'.val).toInt = (a'.val : Int) := by
    have := a'.isLt
    rw [toInt_of_lt _ (by rw [BitVec.toNat_ofNat]; omega), BitVec.toNat_ofNat]
    omega
  rw [h0, h1, ha, toInt_of_lt _ (hr _ _)]
  constructor
  · rintro ⟨e0, e1, e2, e3⟩
    have e2 : a' = a := Fin.ext (by exact_mod_cast e2)
    subst e2
    exact ⟨e0, e1, rfl, by exact_mod_cast e3⟩
  · rintro ⟨e0, e1, e2, e3⟩
    subst e2
    exact ⟨e0, e1, rfl, by exact_mod_cast e3⟩

include hr h0 h1 in
/-- So element `(n, c, a, ρ)` of the accumulating scatter is the operand's plus the updates of plane `(n, c)` and angle `a`
    whose bin is `ρ`. -/
theorem scatter_apply (x : FVec Ideal S2x128x100x100 .f32) (u : FVec Ideal S2x128x100x10000 .f32)
    (n : Fin 2) (c : Fin 128) (a ρ : Fin 100) :
    Host.scatterAdd sd x idx u (ix4 n c a ρ)
      = x (ix4 n c a ρ) + ∑ p : Fin 10000, if (r a p).toNat = ρ.val then u (ix4 n c a p) else 0 := by
  show Ideal.hostScatterAdd sd x idx u (ix4 n c a ρ) = _
  unfold Ideal.hostScatterAdd
  refine congrArg (x (ix4 n c a ρ) + ·) ?_
  rw [← Finset.sum_filter]
  have key : ∀ j, j ∈ Finset.univ.filter (fun j => sd.resultIdx? j idx = some (ix4 n c a ρ)) →
      j = ix4 n c a (j 3) ∧ (r a (j 3)).toNat = ρ.val := by
    intro j hj
    have hj := (Finset.mem_filter.1 hj).2
    obtain ⟨n', c', a', p, rfl⟩ : ∃ (n' : Fin 2) (c' : Fin 128) (a' : Fin 100) (p : Fin 10000), j = ix4 n' c' a' p :=
      ⟨_, _, _, _, eq_ix4 j⟩
    obtain ⟨rfl, rfl, rfl, e⟩ := (lands idx r hr h0 h1 n' n c' c a' a p ρ).1 hj
    exact ⟨rfl, e⟩
  refine Finset.sum_nbij' (fun j => (j 3 : Fin 10000)) (fun p => ix4 n c a p) ?_ ?_ ?_ ?_ ?_
  · intro j hj
    exact Finset.mem_filter.2 ⟨Finset.mem_univ _, (key j hj).2⟩
  · intro p hp
    exact Finset.mem_filter.2 ⟨Finset.mem_univ _, (lands idx r hr h0 h1 n n c c a a p ρ).2 ⟨rfl, rfl, rfl, (Finset.mem_filter.1 hp).2⟩⟩
  · intro j hj
    exact (key j hj).1.symm
  · intro p _; rfl
  · intro j hj
    exact congrArg u (key j hj).1

end Landing

/-! ## The operands of the scatter -/

/-- Pixel positions row by row: the table flattened. -/
abbrev flatTab : IVec S100x10000 32 := shapeCast S100x10000 (tab Ideal) shapeCasts_S100x100x100_S100x10000

theorem flatTab_apply (a : Fin 100) (p : Fin 10000) : flatTab (ix2 a p) = bin (tab Ideal) a p := by
  refine shapeCast_apply (tab Ideal) _ _ _ ?_
  rw [Shape.rowMajor_val_two, Shape.rowMajor_val_three]
  show (a.val * 100 + p.val / 100) * 100 + p.val % 100 = a.val * 10000 + p.val
  omega

/-- The start indices: the angle and the bin, a negative index counting from the end. -/
abbrev starts : IVec S100x10000x2 32 :=
  concatenate S100x10000x2 2
    [⟨S100x10000x1, broadcastInDim S100x10000x1 ![0, 1] bcast_S100x10000_S100x10000x1_0_1 (broadcastInDim S100x10000 ![0, 1] bcast_S100x1_S100x10000_0_1
        (select (cmpi .slt (broadcastInDim S100x1 ![0] bcast_S100_S100x1_0 (iotaInDim S100 32 0)) (broadcastInDim S100x1 ![] bcast_S_S100x1 (constantI S_ 32 0#32)))
          (addi (broadcastInDim S100x1 ![0] bcast_S100_S100x1_0 (iotaInDim S100 32 0)) (broadcastInDim S100x1 ![] bcast_S_S100x1 (constantI S_ 32 100#32)))
          (broadcastInDim S100x1 ![0] bcast_S100_S100x1_0 (iotaInDim S100 32 0))))⟩,
      ⟨S100x10000x1, broadcastInDim S100x10000x1 ![0, 1] bcast_S100x10000_S100x10000x1_0_1
        (select (cmpi .slt flatTab (broadcastInDim S100x10000 ![] bcast_S_S100x10000 (constantI S_ 32 0#32)))
          (addi flatTab (broadcastInDim S100x10000 ![] bcast_S_S100x10000 (constantI S_ 32 100#32))) flatTab)⟩]
    concatenates_S100x10000x1_S100x10000x1_S100x10000x2_d2

/-- A word below 100 is not negative: the selection of an index from the end does not fire. -/
theorem wrap_id (w : BitVec 32) (h : w.toNat < 100) : Scalar.select (IntOp.cmpi .slt w 0#32) (IntOp.addi w 100#32) w = w := by
  have : IntOp.cmpi .slt w 0#32 = 0#1 := by
    show BitVec.ofBool (w.slt 0#32) = 0#1
    have : w.slt 0#32 = false := by
      rw [BitVec.slt, toInt_of_lt w h]; simp
    rw [this]; rfl
  rw [this, select_zero]

theorem starts0 (a : Fin 100) (p : Fin 10000) : starts (ix3 a p 0) = BitVec.ofNat 32 a.val := by
  refine (concatenate_pair_apply_left (t := S100x10000x2) (s₁ := S100x10000x1) (s₂ := S100x10000x1) 2 _ _ _ (ix3 a p 0) rfl (ix3 a p 0)
    (fun b => match b with | ⟨0, _⟩ => rfl | ⟨1, _⟩ => rfl | ⟨2, _⟩ => rfl)).trans ?_
  show Scalar.select (IntOp.cmpi .slt (BitVec.ofNat 32 a.val) 0#32) (IntOp.addi (BitVec.ofNat 32 a.val) 100#32) (BitVec.ofNat 32 a.val) = _
  exact wrap_id _ (by rw [BitVec.toNat_ofNat]; have := a.isLt; omega)

theorem starts1 (a : Fin 100) (p : Fin 10000) : starts (ix3 a p 1) = bin (tab Ideal) a p := by
  refine (concatenate_pair_apply_right (t := S100x10000x2) (s₁ := S100x10000x1) (s₂ := S100x10000x1) 2 _ _ _ (ix3 a p 1) rfl rfl (ix3 a p 0)
    (fun b hb => match b, hb with | ⟨0, _⟩, _ => rfl | ⟨1, _⟩, _ => rfl | ⟨2, _⟩, hb => absurd rfl hb) rfl).trans ?_
  have e : (fun (q : S100x10000.Idx) => Scalar.select (IntOp.cmpi .slt (flatTab q) 0#32) (IntOp.addi (flatTab q) 100#32) (flatTab q)) (ix2 a p) = bin (tab Ideal) a p := by
    dsimp only
    rw [flatTab_apply]
    exact wrap_id _ (tab_lt Ideal _)
  refine (broadcastInDim_apply _ _ _ (ix3 a p 0) (ix2 a p) ?_).trans e
  intro b
  match b with
  | ⟨0, _⟩ => rfl
  | ⟨1, _⟩ => rfl

/-- The updates: every angle's copy of the planes, flattened. -/
abbrev updates (x : FVec Ideal S2x128x100x100 .f32) : FVec Ideal S2x128x100x10000 .f32 :=
  broadcastInDim S2x128x100x10000 ![0, 1, 2, 3] bcast_S2x128x1x10000_S2x128x100x10000_0_1_2_3
    (broadcastInDim S2x128x1x10000 ![0, 1, 3] bcast_S2x128x10000_S2x128x1x10000_0_1_3
      (shapeCast S2x128x10000 x shapeCasts_S2x128x100x100_S2x128x10000))

theorem updates_apply (x : FVec Ideal S2x128x100x100 .f32) (n : Fin 2) (c : Fin 128) (a : Fin 100) (p : Fin 10000) :
    updates x (ix4 n c a p) = pix x n c p := by
  show shapeCast S2x128x10000 x shapeCasts_S2x128x100x100_S2x128x10000 (ix3 n c p) = _
  refine shapeCast_apply x _ _ _ ?_
  rw [Shape.rowMajor_val_three, Shape.rowMajor_val_four]
  show ((n.val * 128 + c.val) * 100 + p.val / 100) * 100 + p.val % 100 = (n.val * 128 + c.val) * 10000 + p.val
  omega

/-- The scatter's result. -/
abbrev acc (x : FVec Ideal S2x128x100x100 .f32) : FVec Ideal S2x128x100x100 .f32 :=
  Host.scatterAdd sd (broadcastInDim S2x128x100x100 ![] bcast_S_S2x128x100x100 (constant S_ .f32 0x00000000#32)) starts (updates x)

theorem acc_apply (x : FVec Ideal S2x128x100x100 .f32) (n : Fin 2) (c : Fin 128) (a ρ : Fin 100) :
    acc x (ix4 n c a ρ) = hough (tab Ideal) x n c a ρ := by
  unfold acc
  rw [scatter_apply starts (fun a p => bin (tab Ideal) a p) (fun a p => tab_lt Ideal _) starts0 starts1]
  have z : (broadcastInDim S2x128x100x100 ![] bcast_S_S2x128x100x100 (constant (F := Ideal) S_ .f32 0x00000000#32)) (ix4 n c a ρ) = (0 : EReal) :=
    Ideal.ofBits_zero_f32
  rw [z, zero_add]
  exact Finset.sum_congr rfl fun p _ => by rw [updates_apply]

/-- The reference's result is the scatter's. -/
theorem res_eq (m : (ℓ : Loc nD τ sig) → Buf (Elt Ideal) ℓ) (c : Dev nD) : res_out0 m c = acc (m ((c.tc : Thread nD τ).loc main_arg0)) := by
  unfold res_out0 res_main_v54
  rfl

/-- The reference's result read at (image, channel, angle, bin). -/
theorem res_apply (m : (ℓ : Loc nD τ sig) → Buf (Elt Ideal) ℓ) (d : Dev nD) (n : Fin 2) (c : Fin 128) (a ρ : Fin 100) :
    (res_out0 m d : Vec Ideal S2x128x100x100 .f32) (ix4 n c a ρ) = hough (tab Ideal) (m ((d.tc : Thread nD τ).loc main_arg0)) n c a ρ := by
  rw [res_eq]
  exact acc_apply _ n c a ρ

end Cert.ReferenceIdeal.Value

end
-- ==== Proof.lean ====
/- The certificate's claims: the kernel and the reference run and leave their argument alone, every counter ends at zero,
   the kernel read over the extended reals is the kernel itself, and there kernel and reference leave one array. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Read
public import proofs.«01_k».proof.Proof.Dense
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

open Idealize.ShloMosaic.ValueIdx in
/-- Both programs leave one array: at (image, channel, angle, bin), the sum of the plane's pixels of that bin. -/
theorem algebraic : algebraic_KernelIdeal_ReferenceIdeal (hKernelIdeal := Cert.KernelIdeal.Gen.facts)
    (hReferenceIdeal := Cert.ReferenceIdeal.Gen.facts) := by
  intro m g m' g' _ harg
  refine ⟨fun c => Cert.ReferenceIdeal.Value.res_out0 m' c, ?_, Cert.ReferenceIdeal.Value.run m' g'⟩
  refine (θ_run _ _ _).mono (fun r h c => ⟨?_, (h.1 c).2⟩) (Cert.KernelIdeal.Walk.run (F := Ideal) m g)
  refine (h.1 c).1.trans (funext fun i => ?_)
  obtain ⟨n, k, a, ρ, rfl⟩ : ∃ (n : Fin 2) (k : Fin 128) (a : Fin 100) (ρ : Fin 100), i = ix4 n k a ρ := ⟨_, _, _, _, eq_ix4 i⟩
  refine (Cert.KernelIdeal.Walk.result_apply m c n k a ρ).trans ?_
  refine Eq.trans ?_ (Cert.ReferenceIdeal.Value.res_apply m' c n k a ρ).symm
  rw [harg c]

theorem claim : Cert.Claim := ⟨Cert.Kernel.Gen.facts, Cert.KernelIdeal.Gen.facts, Cert.ReferenceIdeal.Gen.facts,
  fun m ρ _ => (θ_run _ _ _).mono (fun _ h => ⟨fun c => (h.1 c).2, h.2⟩) (Cert.Kernel.Walk.run m ρ),
  fun m ρ _ => (θ_run _ _ _).mono (fun _ h => ⟨fun c => (h.1 c).2, h.2⟩) (Cert.KernelIdeal.Walk.run m ρ),
  fun m ρ _ => (θ_run _ _ _).mono (fun r h => ⟨fun c => (h c).2, sem_eq_zero_of_no_sems rfl r.2⟩) (Cert.ReferenceIdeal.Value.run m ρ), trivial, algebraic⟩

end Cert.Proof

end
